-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v174) = v4 c
          ∧ r.2.mem ((c.tc : Thread Cert.ReferenceIdeal.nD Cert.ReferenceIdeal.τ).loc Cert.ReferenceIdeal.main_v178) = v5 c
          ∧ r.2.mem ((c.tc : Thread Cert.ReferenceIdeal.nD Cert.ReferenceIdeal.τ).loc Cert.ReferenceIdeal.main_v161) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v188_0)) (v1 : (c : Dev Cert.Kernel2Ideal.nD) → Buf (Elt Ideal) ((c.tc : Thread Cert.Kernel2Ideal.nD Cert.Kernel2Ideal.τ).loc Cert.Kernel2Ideal.main_v188_1)) (v2 : (c : Dev Cert.Kernel2Ideal.nD) → Buf (Elt Ideal) ((c.tc : Thread Cert.Kernel2Ideal.nD Cert.Kernel2Ideal.τ).loc Cert.Kernel2Ideal.main_v188_2)) (v3 : (c : Dev Cert.Kernel2Ideal.nD) → Buf (Elt Ideal) ((c.tc : Thread Cert.Kernel2Ideal.nD Cert.Kernel2Ideal.τ).loc Cert.Kernel2Ideal.main_v188_3)) (v4 : (c : Dev Cert.Kernel2Ideal.nD) → Buf (Elt Ideal) ((c.tc : Thread Cert.Kernel2Ideal.nD Cert.Kernel2Ideal.τ).loc Cert.Kernel2Ideal.main_v188_4)) (v5 : (c : Dev Cert.Kernel2Ideal.nD) → Buf (Elt Ideal) ((c.tc : Thread Cert.Kernel2Ideal.nD Cert.Kernel2Ideal.τ).loc Cert.Kernel2Ideal.main_v188_5)) (v6 : (c : Dev Cert.Kernel2Ideal.nD) → Buf (Elt Ideal) ((c.tc : Thread Cert.Kernel2Ideal.nD Cert.Kernel2Ideal.τ).loc Cert.Kernel2Ideal.main_v188_6)) (v7 : (c : Dev Cert.Kernel2Ideal.nD) → Buf (Elt Ideal) ((c.tc : Thread Cert.Kernel2Ideal.nD Cert.Kernel2Ideal.τ).loc Cert.Kernel2Ideal.main_v188_7)) (v8 : (c : Dev Cert.Kernel2Ideal.nD) → Buf (Elt Ideal) ((c.tc : Thread Cert.Kernel2Ideal.nD Cert.Kernel2Ideal.τ).loc Cert.Kernel2Ideal.main_v188_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v188_0) = v0 c
          ∧ r.2.mem ((c.tc : Thread Cert.Kernel2Ideal.nD Cert.Kernel2Ideal.τ).loc Cert.Kernel2Ideal.main_v188_1) = v1 c
          ∧ r.2.mem ((c.tc : Thread Cert.Kernel2Ideal.nD Cert.Kernel2Ideal.τ).loc Cert.Kernel2Ideal.main_v188_2) = v2 c
          ∧ r.2.mem ((c.tc : Thread Cert.Kernel2Ideal.nD Cert.Kernel2Ideal.τ).loc Cert.Kernel2Ideal.main_v188_3) = v3 c
          ∧ r.2.mem ((c.tc : Thread Cert.Kernel2Ideal.nD Cert.Kernel2Ideal.τ).loc Cert.Kernel2Ideal.main_v188_4) = v4 c
          ∧ r.2.mem ((c.tc : Thread Cert.Kernel2Ideal.nD Cert.Kernel2Ideal.τ).loc Cert.Kernel2Ideal.main_v188_5) = v5 c
          ∧ r.2.mem ((c.tc : Thread Cert.Kernel2Ideal.nD Cert.Kernel2Ideal.τ).loc Cert.Kernel2Ideal.main_v188_6) = v6 c
          ∧ r.2.mem ((c.tc : Thread Cert.Kernel2Ideal.nD Cert.Kernel2Ideal.τ).loc Cert.Kernel2Ideal.main_v188_7) = v7 c
          ∧ r.2.mem ((c.tc : Thread Cert.Kernel2Ideal.nD Cert.Kernel2Ideal.τ).loc Cert.Kernel2Ideal.main_v188_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v372) = v0 c
          ∧ r.2.mem ((c.tc : Thread Cert.Reference2Ideal.nD Cert.Reference2Ideal.τ).loc Cert.Reference2Ideal.main_v374) = v1 c
          ∧ r.2.mem ((c.tc : Thread Cert.Reference2Ideal.nD Cert.Reference2Ideal.τ).loc Cert.Reference2Ideal.main_v376) = v2 c
          ∧ r.2.mem ((c.tc : Thread Cert.Reference2Ideal.nD Cert.Reference2Ideal.τ).loc Cert.Reference2Ideal.main_v378) = v3 c
          ∧ r.2.mem ((c.tc : Thread Cert.Reference2Ideal.nD Cert.Reference2Ideal.τ).loc Cert.Reference2Ideal.main_v379) = v4 c
          ∧ r.2.mem ((c.tc : Thread Cert.Reference2Ideal.nD Cert.Reference2Ideal.τ).loc Cert.Reference2Ideal.main_v380) = v5 c
          ∧ r.2.mem ((c.tc : Thread Cert.Reference2Ideal.nD Cert.Reference2Ideal.τ).loc Cert.Reference2Ideal.main_v385) = v6 c
          ∧ r.2.mem ((c.tc : Thread Cert.Reference2Ideal.nD Cert.Reference2Ideal.τ).loc Cert.Reference2Ideal.main_v387) = v7 c
          ∧ r.2.mem ((c.tc : Thread Cert.Reference2Ideal.nD Cert.Reference2Ideal.τ).loc Cert.Reference2Ideal.main_v389) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)) (v5 : (c : Dev Cert.Kernel3Ideal.nD) → Buf (Elt Ideal) ((c.tc : Thread Cert.Kernel3Ideal.nD Cert.Kernel3Ideal.τ).loc Cert.Kernel3Ideal.main_v14_5)) (v6 : (c : Dev Cert.Kernel3Ideal.nD) → Buf (Elt Ideal) ((c.tc : Thread Cert.Kernel3Ideal.nD Cert.Kernel3Ideal.τ).loc Cert.Kernel3Ideal.main_v14_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_v14_5) = v5 c
          ∧ r.2.mem ((c.tc : Thread Cert.Kernel3Ideal.nD Cert.Kernel3Ideal.τ).loc Cert.Kernel3Ideal.main_v14_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v170) = v0 c
          ∧ r.2.mem ((c.tc : Thread Cert.Reference3Ideal.nD Cert.Reference3Ideal.τ).loc Cert.Reference3Ideal.main_v171) = v1 c
          ∧ r.2.mem ((c.tc : Thread Cert.Reference3Ideal.nD Cert.Reference3Ideal.τ).loc Cert.Reference3Ideal.main_v172) = v2 c
          ∧ r.2.mem ((c.tc : Thread Cert.Reference3Ideal.nD Cert.Reference3Ideal.τ).loc Cert.Reference3Ideal.main_v173) = v3 c
          ∧ r.2.mem ((c.tc : Thread Cert.Reference3Ideal.nD Cert.Reference3Ideal.τ).loc Cert.Reference3Ideal.main_v174) = v4 c
          ∧ r.2.mem ((c.tc : Thread Cert.Reference3Ideal.nD Cert.Reference3Ideal.τ).loc Cert.Reference3Ideal.main_v176) = v5 c
          ∧ r.2.mem ((c.tc : Thread Cert.Reference3Ideal.nD Cert.Reference3Ideal.τ).loc Cert.Reference3Ideal.main_v178) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)) (v3 : (c : Dev Cert.Kernel6Ideal.nD) → Buf (Elt Ideal) ((c.tc : Thread Cert.Kernel6Ideal.nD Cert.Kernel6Ideal.τ).loc Cert.Kernel6Ideal.main_v20_3)) (v4 : (c : Dev Cert.Kernel6Ideal.nD) → Buf (Elt Ideal) ((c.tc : Thread Cert.Kernel6Ideal.nD Cert.Kernel6Ideal.τ).loc Cert.Kernel6Ideal.main_v20_4)) (v5 : (c : Dev Cert.Kernel6Ideal.nD) → Buf (Elt Ideal) ((c.tc : Thread Cert.Kernel6Ideal.nD Cert.Kernel6Ideal.τ).loc Cert.Kernel6Ideal.main_v20_5)) (v6 : (c : Dev Cert.Kernel6Ideal.nD) → Buf (Elt Ideal) ((c.tc : Thread Cert.Kernel6Ideal.nD Cert.Kernel6Ideal.τ).loc Cert.Kernel6Ideal.main_v20_6)) (v7 : (c : Dev Cert.Kernel6Ideal.nD) → Buf (Elt Ideal) ((c.tc : Thread Cert.Kernel6Ideal.nD Cert.Kernel6Ideal.τ).loc Cert.Kernel6Ideal.main_v20_7)) (v8 : (c : Dev Cert.Kernel6Ideal.nD) → Buf (Elt Ideal) ((c.tc : Thread Cert.Kernel6Ideal.nD Cert.Kernel6Ideal.τ).loc Cert.Kernel6Ideal.main_v20_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_v20_3) = v3 c
          ∧ r.2.mem ((c.tc : Thread Cert.Kernel6Ideal.nD Cert.Kernel6Ideal.τ).loc Cert.Kernel6Ideal.main_v20_4) = v4 c
          ∧ r.2.mem ((c.tc : Thread Cert.Kernel6Ideal.nD Cert.Kernel6Ideal.τ).loc Cert.Kernel6Ideal.main_v20_5) = v5 c
          ∧ r.2.mem ((c.tc : Thread Cert.Kernel6Ideal.nD Cert.Kernel6Ideal.τ).loc Cert.Kernel6Ideal.main_v20_6) = v6 c
          ∧ r.2.mem ((c.tc : Thread Cert.Kernel6Ideal.nD Cert.Kernel6Ideal.τ).loc Cert.Kernel6Ideal.main_v20_7) = v7 c
          ∧ r.2.mem ((c.tc : Thread Cert.Kernel6Ideal.nD Cert.Kernel6Ideal.τ).loc Cert.Kernel6Ideal.main_v20_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v55) = v3 c
          ∧ r.2.mem ((c.tc : Thread Cert.Reference6Ideal.nD Cert.Reference6Ideal.τ).loc Cert.Reference6Ideal.main_v57) = v4 c
          ∧ r.2.mem ((c.tc : Thread Cert.Reference6Ideal.nD Cert.Reference6Ideal.τ).loc Cert.Reference6Ideal.main_v59) = v5 c
          ∧ r.2.mem ((c.tc : Thread Cert.Reference6Ideal.nD Cert.Reference6Ideal.τ).loc Cert.Reference6Ideal.main_v84) = v6 c
          ∧ r.2.mem ((c.tc : Thread Cert.Reference6Ideal.nD Cert.Reference6Ideal.τ).loc Cert.Reference6Ideal.main_v85) = v7 c
          ∧ r.2.mem ((c.tc : Thread Cert.Reference6Ideal.nD Cert.Reference6Ideal.τ).loc Cert.Reference6Ideal.main_v86) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_v19) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1x2048x1024 : Shape := ⟨3, ![1, 2048, 1024]⟩
abbrev S1x6144 : Shape := ⟨2, ![1, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn_part1 {F : FTy → Type} [FloatOps F] (main_arg6 : FVec F S1x2816x1024 .f32) (main_arg7 : FVec F S1024 .f32) (main_v2 : IVec S1x2048x1024 1) (main_v5 : IVec S1x2048x1024 1) (main_v8 : IVec S1x6144 1) (main_v11 : IVec S1x1024 1) (main_v14 : IVec S1x1024x2816 1) (main_v17 : IVec S1x1024x2816 1) : IVec S1x2048x1024 1 × IVec S1x2048x1024 1 × IVec S1x6144 1 × IVec S1x1024 1 × IVec S1x1024x2816 1 × IVec S1x1024x2816 1 × IVec S1x2816x1024 1 × IVec S1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S1x2048x1024 .f32) (main_arg1 : FVec F S1x2048x1024 .f32) (main_arg2 : FVec F S1x6144 .f32) (main_arg3 : FVec F S1x1024 .f32) (main_arg4 : FVec F S1x1024x2816 .f32) (main_arg5 : FVec F S1x1024x2816 .f32) (main_arg6 : FVec F S1x2816x1024 .f32) (main_arg7 : FVec F S1024 .f32) : IVec S1x2048x1024 1 × IVec S1x2048x1024 1 × IVec S1x6144 1 × IVec S1x1024 1 × IVec S1x1024x2816 1 × IVec S1x1024x2816 1 × IVec S1x2816x1024 1 × IVec S1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x2816 .f32 := Host.absf main_arg4
  let main_cst_3 : FVec F S_ .f32 := constant S_ .f32 0x7F800000#32
  let main_v13 : FVec F S1x1024x2816 .f32 := broadcastInDim S1x1024x2816 ![] bcast_S_S1x1024x2816 main_cst_3
  let main_v14 : IVec S1x1024x2816 1 := cmpf .olt main_v12 main_v13
  let main_v15 : FVec F S1x1024x2816 .f32 := Host.absf main_arg5
  let main_cst_4 : FVec F S_ .f32 := constant S_ .f32 0x7F800000#32
  let main_v16 : FVec F S1x1024x2816 .f32 := broadcastInDim S1x1024x2816 ![] bcast_S_S1x1024x2816 main_cst_4
  let main_v17 : IVec S1x1024x2816 1 := cmpf .olt main_v15 main_v16
  fn_part1 (F := F) main_arg6 main_arg7 main_v2 main_v5 main_v8 main_v11 main_v14 main_v17
-- ==== Pre_finite2.lean ====
abbrev S1x2048x1024 : Shape := ⟨3, ![1, 2048, 1024]⟩
abbrev S1x6144 : Shape := ⟨2, ![1, 6144]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x512x512 : Shape := ⟨3, ![1, 512, 512]⟩
abbrev S1x4x128x128 : Shape := ⟨4, ![1, 4, 128, 128]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S1x512x512 : S_.BroadcastsInDim S1x512x512 (![] : Fin 0 → Fin S1x512x512.rank)
  bcast_S_S1x4x128x128 : S_.BroadcastsInDim S1x4x128x128 (![] : Fin 0 → Fin S1x4x128x128.rank)
  bcast_S_S1x1024x1024 : S_.BroadcastsInDim S1x1024x1024 (![] : Fin 0 → Fin S1x1024x1024.rank)

variable [Facts]

def fn_part2 {F : FTy → Type} [FloatOps F] (main_arg12 : FVec F S1x1024x1024 .f32) (main_v2 : IVec S1x2048x1024 1) (main_v5 : IVec S1x2048x1024 1) (main_v8 : IVec S1x6144 1) (main_v11 : IVec S1x1024 1) (main_v14 : IVec S1x1024x1536 1) (main_v17 : IVec S1x31x512 1) (main_v20 : IVec S1x512 1) (main_v23 : IVec S1x512 1) (main_v26 : IVec S1x512 1) (main_v29 : IVec S1x512x512 1) (main_v32 : IVec S1x4x128x128 1) (main_v35 : IVec S1x512 1) : IVec S1x2048x1024 1 × IVec S1x2048x1024 1 × IVec S1x6144 1 × IVec S1x1024 1 × IVec S1x1024x1536 1 × IVec S1x31x512 1 × IVec S1x512 1 × IVec S1x512 1 × IVec S1x512 1 × IVec S1x512x512 1 × IVec S1x4x128x128 1 × IVec S1x512 1 × IVec S1x1024x1024 1 :=
  let main_v36 : FVec F S1x1024x1024 .f32 := Host.absf main_arg12
  let main_cst_11 : FVec F S_ .f32 := constant S_ .f32 0x7F800000#32
  let main_v37 : FVec F S1x1024x1024 .f32 := broadcastInDim S1x1024x1024 ![] bcast_S_S1x1024x1024 main_cst_11
  let main_v38 : IVec S1x1024x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S1x512 .f32) (main_arg7 : FVec F S1x512 .f32) (main_arg8 : FVec F S1x512 .f32) (main_arg9 : FVec F S1x512x512 .f32) (main_arg10 : FVec F S1x4x128x128 .f32) (main_arg11 : FVec F S1x512 .f32) (main_arg12 : FVec F S1x1024x1024 .f32) (main_v2 : IVec S1x2048x1024 1) (main_v5 : IVec S1x2048x1024 1) (main_v8 : IVec S1x6144 1) (main_v11 : IVec S1x1024 1) (main_v14 : IVec S1x1024x1536 1) (main_v17 : IVec S1x31x512 1) : IVec S1x2048x1024 1 × IVec S1x2048x1024 1 × IVec S1x6144 1 × IVec S1x1024 1 × IVec S1x1024x1536 1 × IVec S1x31x512 1 × IVec S1x512 1 × IVec S1x512 1 × IVec S1x512 1 × IVec S1x512x512 1 × IVec S1x4x128x128 1 × IVec S1x512 1 × IVec S1x1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x512x512 .f32 := Host.absf main_arg9
  let main_cst_8 : FVec F S_ .f32 := constant S_ .f32 0x7F800000#32
  let main_v28 : FVec F S1x512x512 .f32 := broadcastInDim S1x512x512 ![] bcast_S_S1x512x512 main_cst_8
  let main_v29 : IVec S1x512x512 1 := cmpf .olt main_v27 main_v28
  let main_v30 : FVec F S1x4x128x128 .f32 := Host.absf main_arg10
  let main_cst_9 : FVec F S_ .f32 := constant S_ .f32 0x7F800000#32
  let main_v31 : FVec F S1x4x128x128 .f32 := broadcastInDim S1x4x128x128 ![] bcast_S_S1x4x128x128 main_cst_9
  let main_v32 : IVec S1x4x128x128 1 := cmpf .olt main_v30 main_v31
  let main_v33 : FVec F S1x512 .f32 := Host.absf main_arg11
  let main_cst_10 : FVec F S_ .f32 := constant S_ .f32 0x7F800000#32
  let main_v34 : FVec F S1x512 .f32 := broadcastInDim S1x512 ![] bcast_S_S1x512 main_cst_10
  let main_v35 : IVec S1x512 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S1x2048x1024 .f32) (main_arg1 : FVec F S1x2048x1024 .f32) (main_arg2 : FVec F S1x6144 .f32) (main_arg3 : FVec F S1x1024 .f32) (main_arg4 : FVec F S1x1024x1536 .f32) (main_arg5 : FVec F S1x31x512 .f32) (main_arg6 : FVec F S1x512 .f32) (main_arg7 : FVec F S1x512 .f32) (main_arg8 : FVec F S1x512 .f32) (main_arg9 : FVec F S1x512x512 .f32) (main_arg10 : FVec F S1x4x128x128 .f32) (main_arg11 : FVec F S1x512 .f32) (main_arg12 : FVec F S1x1024x1024 .f32) : IVec S1x2048x1024 1 × IVec S1x2048x1024 1 × IVec S1x6144 1 × IVec S1x1024 1 × IVec S1x1024x1536 1 × IVec S1x31x512 1 × IVec S1x512 1 × IVec S1x512 1 × IVec S1x512 1 × IVec S1x512x512 1 × IVec S1x4x128x128 1 × IVec S1x512 1 × IVec S1x1024x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1536 .f32 := Host.absf main_arg4
  let main_cst_3 : FVec F S_ .f32 := constant S_ .f32 0x7F800000#32
  let main_v13 : FVec F S1x1024x1536 .f32 := broadcastInDim S1x1024x1536 ![] bcast_S_S1x1024x1536 main_cst_3
  let main_v14 : IVec S1x1024x1536 1 := cmpf .olt main_v12 main_v13
  let main_v15 : FVec F S1x31x512 .f32 := Host.absf main_arg5
  let main_cst_4 : FVec F S_ .f32 := constant S_ .f32 0x7F800000#32
  let main_v16 : FVec F S1x31x512 .f32 := broadcastInDim S1x31x512 ![] bcast_S_S1x31x512 main_cst_4
  let main_v17 : IVec S1x31x512 1 := cmpf .olt main_v15 main_v16
  fn_part1 (F := F) main_arg6 main_arg7 main_arg8 main_arg9 main_arg10 main_arg11 main_arg12 main_v2 main_v5 main_v8 main_v11 main_v14 main_v17
-- ==== Pre_finite3.lean ====
abbrev S1x2048x1024 : Shape := ⟨3, ![1, 2048, 1024]⟩
abbrev S1x6144 : Shape := ⟨2, ![1, 6144]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x512x512 : Shape := ⟨3, ![1, 512, 512]⟩
abbrev S1x4x128x128 : Shape := ⟨4, ![1, 4, 128, 128]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S1x512x512 : S_.BroadcastsInDim S1x512x512 (![] : Fin 0 → Fin S1x512x512.rank)
  bcast_S_S1x4x128x128 : S_.BroadcastsInDim S1x4x128x128 (![] : Fin 0 → Fin S1x4x128x128.rank)
  bcast_S_S1x1024x1024 : S_.BroadcastsInDim S1x1024x1024 (![] : Fin 0 → Fin S1x1024x1024.rank)

variable [Facts]

def fn_part1 {F : FTy → Type} [FloatOps F] (main_arg6 : FVec F S1x512 .f32) (main_arg7 : FVec F S1x512 .f32) (main_arg8 : FVec F S1x512x512 .f32) (main_arg9 : FVec F S1x4x128x128 .f32) (main_arg10 : FVec F S1x512 .f32) (main_arg11 : FVec F S1x1024x1024 .f32) (main_v2 : IVec S1x2048x1024 1) (main_v5 : IVec S1x6144 1) (main_v8 : IVec S1x1024 1) (main_v11 : IVec S1x1024x1536 1) (main_v14 : IVec S1x31x512 1) (main_v17 : IVec S1x512 1) : IVec S1x2048x1024 1 × IVec S1x6144 1 × IVec S1x1024 1 × IVec S1x1024x1536 1 × IVec S1x31x512 1 × IVec S1x512 1 × IVec S1x512 1 × IVec S1x512 1 × IVec S1x512x512 1 × IVec S1x4x128x128 1 × IVec S1x512 1 × IVec S1x1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512x512 .f32 := Host.absf main_arg8
  let main_cst_7 : FVec F S_ .f32 := constant S_ .f32 0x7F800000#32
  let main_v25 : FVec F S1x512x512 .f32 := broadcastInDim S1x512x512 ![] bcast_S_S1x512x512 main_cst_7
  let main_v26 : IVec S1x512x512 1 := cmpf .olt main_v24 main_v25
  let main_v27 : FVec F S1x4x128x128 .f32 := Host.absf main_arg9
  let main_cst_8 : FVec F S_ .f32 := constant S_ .f32 0x7F800000#32
  let main_v28 : FVec F S1x4x128x128 .f32 := broadcastInDim S1x4x128x128 ![] bcast_S_S1x4x128x128 main_cst_8
  let main_v29 : IVec S1x4x128x128 1 := cmpf .olt main_v27 main_v28
  let main_v30 : FVec F S1x512 .f32 := Host.absf main_arg10
  let main_cst_9 : FVec F S_ .f32 := constant S_ .f32 0x7F800000#32
  let main_v31 : FVec F S1x512 .f32 := broadcastInDim S1x512 ![] bcast_S_S1x512 main_cst_9
  let main_v32 : IVec S1x512 1 := cmpf .olt main_v30 main_v31
  let main_v33 : FVec F S1x1024x1024 .f32 := Host.absf main_arg11
  let main_cst_10 : FVec F S_ .f32 := constant S_ .f32 0x7F800000#32
  let main_v34 : FVec F S1x1024x1024 .f32 := broadcastInDim S1x1024x1024 ![] bcast_S_S1x1024x1024 main_cst_10
  let main_v35 : IVec S1x1024x1024 1 := cmpf .olt main_v33 main_v34
  (main_v2, main_v5, main_v8, main_v11, main_v14, main_v17, main_v20, main_v23, main_v26, main_v29, main_v32, main_v35)

def fn {F : FTy → Type} [FloatOps F] (main_arg0 : FVec F S1x2048x1024 .f32) (main_arg1 : FVec F S1x6144 .f32) (main_arg2 : FVec F S1x1024 .f32) (main_arg3 : FVec F S1x1024x1536 .f32) (main_arg4 : FVec F S1x31x512 .f32) (main_arg5 : FVec F S1x512 .f32) (main_arg6 : FVec F S1x512 .f32) (main_arg7 : FVec F S1x512 .f32) (main_arg8 : FVec F S1x512x512 .f32) (main_arg9 : FVec F S1x4x128x128 .f32) (main_arg10 : FVec F S1x512 .f32) (main_arg11 : FVec F S1x1024x1024 .f32) : IVec S1x2048x1024 1 × IVec S1x6144 1 × IVec S1x1024 1 × IVec S1x1024x1536 1 × IVec S1x31x512 1 × IVec S1x512 1 × IVec S1x512 1 × IVec S1x512 1 × IVec S1x512x512 1 × IVec S1x4x128x128 1 × IVec S1x512 1 × IVec S1x1024x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x1536 .f32 := Host.absf main_arg3
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_v12 : FVec F S1x31x512 .f32 := Host.absf main_arg4
  let main_cst_3 : FVec F S_ .f32 := constant S_ .f32 0x7F800000#32
  let main_v13 : FVec F S1x31x512 .f32 := broadcastInDim S1x31x512 ![] bcast_S_S1x31x512 main_cst_3
  let main_v14 : IVec S1x31x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_arg11 main_v2 main_v5 main_v8 main_v11 main_v14 main_v17
-- ==== Kernel.lean ====
abbrev S1x2048x1024 : Shape := ⟨3, ![1, 2048, 1024]⟩
abbrev S1x6144 : Shape := ⟨2, ![1, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S2048x1024 : Shape := ⟨2, ![2048, 1024]⟩
abbrev S6x1024 : Shape := ⟨2, ![6, 1024]⟩
abbrev S4x2048x704 : Shape := ⟨3, ![4, 2048, 704]⟩
abbrev S8x1024 : Shape := ⟨2, ![8, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 30
  | .vmem => 25
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x6144, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S1024x2816, .f32⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S2048x1024, .f32⟩
  | .hbm, ⟨20, _⟩ => ⟨S2048x1024, .f32⟩
  | .hbm, ⟨21, _⟩ => ⟨S6x1024, .f32⟩
  | .hbm, ⟨22, _⟩ => ⟨S1x1024, .f32⟩
  | .hbm, ⟨23, _⟩ => ⟨S2048x1024, .f32⟩
  | .hbm, ⟨24, _⟩ => ⟨S2048x1024, .bf16⟩
  | .hbm, ⟨25, _⟩ => ⟨S2048x1024, .bf16⟩
  | .hbm, ⟨26, _⟩ => ⟨S4x2048x704, .bf16⟩
  | .hbm, ⟨27, _⟩ => ⟨S4x2048x704, .bf16⟩
  | .hbm, ⟨28, _⟩ => ⟨S4x2048x704, .bf16⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S1x1024, .f32⟩
  | .local _ .vmem, ⟨6, _⟩ => ⟨S1x1024, .f32⟩
  | .local _ .vmem, ⟨7, _⟩ => ⟨S4x704x1024, .bf16⟩
  | .local _ .vmem, ⟨8, _⟩ => ⟨S4x704x1024, .bf16⟩
  | .local _ .vmem, ⟨9, _⟩ => ⟨S4x704x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S8x1024, .f32⟩
  | .local _ .vmem, ⟨23, _⟩ => ⟨S4x256x704, .f32⟩
  | .local _ .vmem, ⟨24, _⟩ => ⟨S4x256x704, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x2048x2816 : Shape := ⟨3, ![1, 2048, 2816]⟩
abbrev S1x1x1024 : Shape := ⟨3, ![1, 1, 1024]⟩
abbrev S1x2048 : Shape := ⟨2, ![1, 2048]⟩
abbrev S1x2048x1 : Shape := ⟨3, ![1, 2048, 1]⟩
abbrev S1024x2816 : Shape := ⟨2, ![1024, 2816]⟩
abbrev S2816x1024 : Shape := ⟨2, ![2816, 1024]⟩
abbrev S2048 : Shape := ⟨1, ![2048]⟩
abbrev S6x1024 : Shape := ⟨2, ![6, 1024]⟩
abbrev S2048x1024 : Shape := ⟨2, ![2048, 1024]⟩
abbrev S2x1024 : Shape := ⟨2, ![2, 1024]⟩
abbrev S8x1024 : Shape := ⟨2, ![8, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 242
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x6144, .f32⟩
  | 3 => ⟨S1x1024, .f32⟩
  | 4 => ⟨S1x1024x2816, .f32⟩
  | 5 => ⟨S1x1024x2816, .f32⟩
  | 6 => ⟨S1x2816x1024, .f32⟩
  | 7 => ⟨S1024, .f32⟩
  | 8 => ⟨S_, .f32⟩
  | 9 => ⟨S1x2048x2816, .f32⟩
  | 10 => ⟨S_, .f32⟩
  | 11 => ⟨S1x2048x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1x1024, .f32⟩
  | 19 => ⟨S1x1x1024, .f32⟩
  | 20 => ⟨S1x1x1024, .f32⟩
  | 21 => ⟨S1024, .f32⟩
  | 22 => ⟨S1x2048x1024, .f32⟩
  | 23 => ⟨S_, .f32⟩
  | 24 => ⟨S1x2048, .f32⟩
  | 25 => ⟨S1x2048x1, .f32⟩
  | 26 => ⟨S_, .f32⟩
  | 27 => ⟨S1x2048x1, .f32⟩
  | 28 => ⟨S1x2048x1, .f32⟩
  | 29 => ⟨S_, .f32⟩
  | 30 => ⟨S1x2048x1, .f32⟩
  | 31 => ⟨S1x2048x1, .f32⟩
  | 32 => ⟨S1x2048x1, .f32⟩
  | 33 => ⟨S1x2048x1, .f32⟩
  | 34 => ⟨S_, .f32⟩
  | 35 => ⟨S1x2048x1, .f32⟩
  | 36 => ⟨S1x2048x1, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S_, .f32⟩
  | 43 => ⟨S1x1x1024, .f32⟩
  | 44 => ⟨S1x1x1024, .f32⟩
  | 45 => ⟨S1x2048x1024, .f32⟩
  | 46 => ⟨S1x2048x1024, .f32⟩
  | 47 => ⟨S1x2048x1024, .f32⟩
  | 48 => ⟨S1x2048x1024, .f32⟩
  | 49 => ⟨S1024x2816, .f32⟩
  | 50 => ⟨S1x2048x2816, .f32⟩
  | 51 => ⟨S1x2048x2816, .f32⟩
  | 52 => ⟨S1024x2816, .f32⟩
  | 53 => ⟨S1x2048x2816, .f32⟩
  | 54 => ⟨S1x2048x2816, .f32⟩
  | 55 => ⟨S1x2048x2816, .f32⟩
  | 56 => ⟨S1x2048x2816, .f32⟩
  | 57 => ⟨S_, .f32⟩
  | 58 => ⟨S1x2048x2816, .f32⟩
  | 59 => ⟨S1x2048x2816, .f32⟩
  | 60 => ⟨S_, .f32⟩
  | 61 => ⟨S1x2048x2816, .f32⟩
  | 62 => ⟨S1x2048x2816, .f32⟩
  | 63 => ⟨S_, .f32⟩
  | 64 => ⟨S1x2048x2816, .f32⟩
  | 65 => ⟨S1x2048x2816, .f32⟩
  | 66 => ⟨S1x2048x2816, .f32⟩
  | 67 => ⟨S1x2048x2816, .f32⟩
  | 68 => ⟨S1x2048x2816, .f32⟩
  | 69 => ⟨S2816x1024, .f32⟩
  | 70 => ⟨S1x2048x1024, .f32⟩
  | 71 => ⟨S1x2048x1024, .f32⟩
  | 72 => ⟨S1x2048x1024, .f32⟩
  | 73 => ⟨S1x2048x1024, .f32⟩
  | 74 => ⟨S1x2048x1024, .f32⟩
  | 75 => ⟨S1x2048x1024, .f32⟩
  | 76 => ⟨S_, .f32⟩
  | 77 => ⟨S1x2048, .f32⟩
  | 78 => ⟨S1x2048x1, .f32⟩
  | 79 => ⟨S_, .f32⟩
  | 80 => ⟨S1x2048x1, .f32⟩
  | 81 => ⟨S1x2048x1, .f32⟩
  | 82 => ⟨S_, .f32⟩
  | 83 => ⟨S1x2048x1, .f32⟩
  | 84 => ⟨S1x2048x1, .f32⟩
  | 85 => ⟨S1x2048x1, .f32⟩
  | 86 => ⟨S1x2048x1, .f32⟩
  | 87 => ⟨S_, .f32⟩
  | 88 => ⟨S1x2048x1, .f32⟩
  | 89 => ⟨S1x2048x1, .f32⟩
  | 90 => ⟨S1x2048x1024, .f32⟩
  | 91 => ⟨S1x2048x1024, .f32⟩
  | 92 => ⟨S1x1x1024, .f32⟩
  | 93 => ⟨S1x2048x1024, .f32⟩
  | 94 => ⟨S1x2048x1024, .f32⟩
  | 95 => ⟨S1x2048x1024, .f32⟩
  | 96 => ⟨S1x2048x1024, .f32⟩
  | 97 => ⟨S_, .f32⟩
  | 98 => ⟨S1x2048x1024, .f32⟩
  | 99 => ⟨S1x2048x1024, .f32⟩
  | 100 => ⟨S_, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1x2048, .f32⟩
  | 113 => ⟨S_, .f32⟩
  | 114 => ⟨S1x2048, .f32⟩
  | 115 => ⟨S1x2048, .f32⟩
  | 116 => ⟨S1x2048x1024, .f32⟩
  | 117 => ⟨S1x2048x1024, .f32⟩
  | 118 => ⟨S1x2048x1024, .f32⟩
  | 119 => ⟨S_, .f32⟩
  | 120 => ⟨S1x1024, .f32⟩
  | 121 => ⟨S1x1x1024, .f32⟩
  | 122 => ⟨S1x2048x1024, .f32⟩
  | 123 => ⟨S1x2048x1024, .f32⟩
  | 124 => ⟨S_, .f32⟩
  | 125 => ⟨S1024, .f32⟩
  | 126 => ⟨S1x2048x1024, .f32⟩
  | 127 => ⟨S_, .f32⟩
  | _ => ⟨S1x2048x1024, .f32⟩

abbrev hbmTy0_1 (i : Nat) : BufTy := match i % 128 with
  | 0 => ⟨S1x2048, .f32⟩
  | 1 => ⟨S1x2048x1, .f32⟩
  | 2 => ⟨S1x2048x1024, .f32⟩
  | 3 => ⟨S1x2048x1024, .f32⟩
  | 4 => ⟨S1x2048x1, .f32⟩
  | 5 => ⟨S_, .f32⟩
  | 6 => ⟨S1x2048x1, .f32⟩
  | 7 => ⟨S1x2048x1, .f32⟩
  | 8 => ⟨S_, .f32⟩
  | 9 => ⟨S2048, .f32⟩
  | 10 => ⟨S1x2048, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S1x2048x1024, .f32⟩
  | 18 => ⟨S1x2048x1024, .f32⟩
  | 19 => ⟨S_, .f32⟩
  | 20 => ⟨S1x1024, .f32⟩
  | 21 => ⟨S1x1x1024, .f32⟩
  | 22 => ⟨S1x2048x2816, .f32⟩
  | 23 => ⟨S1x2048x2816, .f32⟩
  | 24 => ⟨S1x2048x2816, .f32⟩
  | 25 => ⟨S1x2048x2816, .f32⟩
  | 26 => ⟨S1x2048x2816, .f32⟩
  | 27 => ⟨S1x2048x2816, .f32⟩
  | 28 => ⟨S1x2048x2816, .f32⟩
  | 29 => ⟨S1x2048x1024, .f32⟩
  | 30 => ⟨S1x2048x1024, .f32⟩
  | 31 => ⟨S1x2048x1024, .f32⟩
  | 32 => ⟨S_, .f32⟩
  | 33 => ⟨S1x1024, .f32⟩
  | 34 => ⟨S1x1x1024, .f32⟩
  | 35 => ⟨S1x2048x1024, .f32⟩
  | 36 => ⟨S_, .f32⟩
  | 37 => ⟨S1x1024, .f32⟩
  | 38 => ⟨S1x1x1024, .f32⟩
  | 39 => ⟨S1x2048x1024, .f32⟩
  | 40 => ⟨S1x2048x1024, .f32⟩
  | 41 => ⟨S1x2048x1024, .f32⟩
  | 42 => ⟨S_, .f32⟩
  | 43 => ⟨S1x1024, .f32⟩
  | 44 => ⟨S1x1x1024, .f32⟩
  | 45 => ⟨S1x2048x1024, .f32⟩
  | 46 => ⟨S1x2048x1024, .f32⟩
  | 47 => ⟨S_, .f32⟩
  | 48 => ⟨S1024, .f32⟩
  | 49 => ⟨S1x2048x1024, .f32⟩
  | 50 => ⟨S_, .f32⟩
  | 51 => ⟨S1x2048, .f32⟩
  | 52 => ⟨S1x2048x1, .f32⟩
  | 53 => ⟨S1x2048x1024, .f32⟩
  | 54 => ⟨S1x2048x1024, .f32⟩
  | 55 => ⟨S1x2048x1024, .f32⟩
  | 56 => ⟨S1x2048x1, .f32⟩
  | 57 => ⟨S_, .f32⟩
  | 58 => ⟨S1x2048x1, .f32⟩
  | 59 => ⟨S1x2048x1, .f32⟩
  | 60 => ⟨S_, .f32⟩
  | 61 => ⟨S2048, .f32⟩
  | 62 => ⟨S1x2048, .f32⟩
  | 63 => ⟨S1x2048x1024, .f32⟩
  | 64 => ⟨S1x2048x1024, .f32⟩
  | 65 => ⟨S1x2048x1024, .f32⟩
  | 66 => ⟨S1x2048x1024, .f32⟩
  | 67 => ⟨S1x2048x1024, .f32⟩
  | 68 => ⟨S1x1024, .f32⟩
  | 69 => ⟨S_, .f32⟩
  | 70 => ⟨S1024, .f32⟩
  | 71 => ⟨S1x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S1x1024, .f32⟩
  | 78 => ⟨S_, .f32⟩
  | 79 => ⟨S1x1024, .f32⟩
  | 80 => ⟨S_, .f32⟩
  | 81 => ⟨S1x1024, .f32⟩
  | 82 => ⟨S_, .f32⟩
  | 83 => ⟨S1x1024, .f32⟩
  | 84 => ⟨S1x6144, .f32⟩
  | 85 => ⟨S6x1024, .f32⟩
  | 86 => ⟨S1x1024, .f32⟩
  | 87 => ⟨S1x1024, .f32⟩
  | 88 => ⟨S1x1024, .f32⟩
  | 89 => ⟨S1x1024, .f32⟩
  | 90 => ⟨S2048x1024, .f32⟩
  | 91 => ⟨S_, .f32⟩
  | 92 => ⟨S1024, .f32⟩
  | 93 => ⟨S1x1024, .f32⟩
  | 94 => ⟨S_, .f32⟩
  | 95 => ⟨S2x1024, .f32⟩
  | 96 => ⟨S8x1024, .f32⟩
  | 97 => ⟨S2048x1024, .f32⟩
  | 98 => ⟨S2048x1024, .f32⟩
  | 99 => ⟨S2048x1024, .bf16⟩
  | 100 => ⟨S2048x1024, .f32⟩
  | 101 => ⟨S2048x1024, .bf16⟩
  | 102 => ⟨S2048x2816, .f32⟩
  | 103 => ⟨S2048x4x704, .f32⟩
  | 104 => ⟨S4x2048x704, .f32⟩
  | 105 => ⟨S4x2048x704, .bf16⟩
  | 106 => ⟨S2048x2816, .f32⟩
  | 107 => ⟨S2048x4x704, .f32⟩
  | 108 => ⟨S4x2048x704, .f32⟩
  | 109 => ⟨S4x2048x704, .bf16⟩
  | 110 => ⟨S2048x2816, .f32⟩
  | 111 => ⟨S2048x4x704, .f32⟩
  | 112 => ⟨S4x2048x704, .f32⟩
  | 113 => ⟨S4x2048x704, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v40_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v40_1 : Ref sig .tc := ⟨.hbm, 66, rfl⟩
abbrev main_v40_0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_cst_15 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_18 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_cst_20 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_24 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_26 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_27 : Ref sig .tc := ⟨.hbm, 175, rfl⟩
abbrev main_v124 : Ref sig .tc := ⟨.hbm, 176, rfl⟩
abbrev main_v125 : Ref sig .tc := ⟨.hbm, 177, rfl⟩
abbrev main_cst_28 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_29 : Ref sig .tc := ⟨.hbm, 185, rfl⟩
abbrev main_v132 : Ref sig .tc := ⟨.hbm, 186, rfl⟩
abbrev main_v133 : Ref sig .tc := ⟨.hbm, 187, rfl⟩
abbrev main_cst_30 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_v143 : Ref sig .tc := ⟨.hbm, 199, rfl⟩
abbrev main_cst_32 : Ref sig .tc := ⟨.hbm, 200, rfl⟩
abbrev main_v144 : Ref sig .tc := ⟨.hbm, 201, rfl⟩
abbrev main_v145 : Ref sig .tc := ⟨.hbm, 202, rfl⟩
abbrev main_cst_33 : Ref sig .tc := ⟨.hbm, 203, rfl⟩
abbrev main_v146 : Ref sig .tc := ⟨.hbm, 204, rfl⟩
abbrev main_v147 : Ref sig .tc := ⟨.hbm, 205, rfl⟩
abbrev main_cst_34 : Ref sig .tc := ⟨.hbm, 206, rfl⟩
abbrev main_v148 : Ref sig .tc := ⟨.hbm, 207, rfl⟩
abbrev main_cst_35 : Ref sig .tc := ⟨.hbm, 208, rfl⟩
abbrev main_v149 : Ref sig .tc := ⟨.hbm, 209, rfl⟩
abbrev main_cst_36 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_37 : Ref sig .tc := ⟨.hbm, 219, rfl⟩
abbrev main_v158 : Ref sig .tc := ⟨.hbm, 220, rfl⟩
abbrev main_v159 : Ref sig .tc := ⟨.hbm, 221, rfl⟩
abbrev main_cst_38 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩

abbrev nD : Nat := 1
abbrev τ : Topo := Topo.v7x

variable {F : FTy → Type} [FloatOps F]
-- ==== Kernel2.lean ====
abbrev S1x2048x1024 : Shape := ⟨3, ![1, 2048, 1024]⟩
abbrev S1x6144 : Shape := ⟨2, ![1, 6144]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x512x512 : Shape := ⟨3, ![1, 512, 512]⟩
abbrev S1x4x128x128 : Shape := ⟨4, ![1, 4, 128, 128]⟩
abbrev S1x1024x1024 : Shape := ⟨3, ![1, 1024, 1024]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1024x1536 : Shape := ⟨2, ![1024, 1536]⟩
abbrev S1x2048x1536 : Shape := ⟨3, ![1, 2048, 1536]⟩
abbrev S1x2048x512 : Shape := ⟨3, ![1, 2048, 512]⟩
abbrev S31x512 : Shape := ⟨2, ![31, 512]⟩
abbrev S31x2048x2048x512 : Shape := ⟨4, ![31, 2048, 2048, 512]⟩
abbrev S2048x512 : Shape := ⟨2, ![2048, 512]⟩
abbrev S1x1x2048x512 : Shape := ⟨4, ![1, 1, 2048, 512]⟩
abbrev S31x2048x512 : Shape := ⟨3, ![31, 2048, 512]⟩
abbrev S31x1x512 : Shape := ⟨3, ![31, 1, 512]⟩
abbrev S1x1x512 : Shape := ⟨3, ![1, 1, 512]⟩
abbrev S512 : Shape := ⟨1, ![512]⟩
abbrev S1x2048x4x128 : Shape := ⟨4, ![1, 2048, 4, 128]⟩
abbrev S2048 : Shape := ⟨1, ![2048]⟩
abbrev S1x2048x1x128 : Shape := ⟨4, ![1, 2048, 1, 128]⟩
abbrev S1x2048x128 : Shape := ⟨3, ![1, 2048, 128]⟩
abbrev S1x2x128 : Shape := ⟨3, ![1, 2, 128]⟩
abbrev S1x2046x128 : Shape := ⟨3, ![1, 2046, 128]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x128 : Shape := ⟨3, ![4, 128, 128]⟩
abbrev S4x128x1x2048 : Shape := ⟨4, ![4, 128, 1, 2048]⟩
abbrev S512x512 : Shape := ⟨2, ![512, 512]⟩
abbrev S1024x1024 : Shape := ⟨2, ![1024, 1024]⟩
abbrev S1024x4x384 : Shape := ⟨3, ![1024, 4, 384]⟩
abbrev S4x1024x384 : Shape := ⟨3, ![4, 1024, 384]⟩
abbrev S32x512 : Shape := ⟨2, ![32, 512]⟩
abbrev S2048x1024 : Shape := ⟨2, ![2048, 1024]⟩
abbrev S2048x1536 : Shape := ⟨2, ![2048, 1536]⟩
abbrev S2048x1 : Shape := ⟨2, ![2048, 1]⟩
abbrev S6x1024 : Shape := ⟨2, ![6, 1024]⟩
abbrev S8x1024 : Shape := ⟨2, ![8, 1024]⟩
abbrev S8x512 : Shape := ⟨2, ![8, 512]⟩
abbrev S256x1024 : Shape := ⟨2, ![256, 1024]⟩
abbrev S256x1536 : Shape := ⟨2, ![256, 1536]⟩
abbrev S256x512 : Shape := ⟨2, ![256, 512]⟩
abbrev S256x1 : Shape := ⟨2, ![256, 1]⟩
abbrev S288x512 : Shape := ⟨2, ![288, 512]⟩
abbrev S272x512 : Shape := ⟨2, ![272, 512]⟩
abbrev S7x280x512 : Shape := ⟨3, ![7, 280, 512]⟩
abbrev S16x512 : Shape := ⟨2, ![16, 512]⟩
abbrev S1x128x128 : Shape := ⟨3, ![1, 128, 128]⟩
abbrev S128x128 : Shape := ⟨2, ![128, 128]⟩
abbrev S256x128 : Shape := ⟨2, ![256, 128]⟩
abbrev S256 : Shape := ⟨1, ![256]⟩
abbrev S280x512 : Shape := ⟨2, ![280, 512]⟩
abbrev S1x280x512 : Shape := ⟨3, ![1, 280, 512]⟩
abbrev S1x256x512 : Shape := ⟨3, ![1, 256, 512]⟩
abbrev S256x384 : Shape := ⟨2, ![256, 384]⟩
abbrev S1x1024x384 : Shape := ⟨3, ![1, 1024, 384]⟩
abbrev S1024x384 : Shape := ⟨2, ![1024, 384]⟩

abbrev nBuf : Space → Nat
  | .hbm => 252
  | .vmem => 40
  | .smem => 0
  | _ => 0

abbrev hbmTy0_0 (i : Nat) : BufTy := match i % 128 with
  | 0 => ⟨S1x2048x1024, .f32⟩
  | 1 => ⟨S1x2048x1024, .f32⟩
  | 2 => ⟨S1x6144, .f32⟩
  | 3 => ⟨S1x1024, .f32⟩
  | 4 => ⟨S1x1024x1536, .f32⟩
  | 5 => ⟨S1x31x512, .f32⟩
  | 6 => ⟨S1x512, .f32⟩
  | 7 => ⟨S1x512, .f32⟩
  | 8 => ⟨S1x512, .f32⟩
  | 9 => ⟨S1x512x512, .f32⟩
  | 10 => ⟨S1x4x128x128, .f32⟩
  | 11 => ⟨S1x512, .f32⟩
  | 12 => ⟨S1x1024x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1x1024, .f32⟩
  | 20 => ⟨S1x1x1024, .f32⟩
  | 21 => ⟨S1x1x1024, .f32⟩
  | 22 => ⟨S1024, .f32⟩
  | 23 => ⟨S1x2048x1024, .f32⟩
  | 24 => ⟨S_, .f32⟩
  | 25 => ⟨S1x2048, .f32⟩
  | 26 => ⟨S1x2048x1, .f32⟩
  | 27 => ⟨S_, .f32⟩
  | 28 => ⟨S1x2048x1, .f32⟩
  | 29 => ⟨S1x2048x1, .f32⟩
  | 30 => ⟨S_, .f32⟩
  | 31 => ⟨S1x2048x1, .f32⟩
  | 32 => ⟨S1x2048x1, .f32⟩
  | 33 => ⟨S1x2048x1, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | 39 => ⟨S_, .f32⟩
  | 40 => ⟨S1x1x1024, .f32⟩
  | 41 => ⟨S1x1x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S1024x1536, .f32⟩
  | 47 => ⟨S1x2048x1536, .f32⟩
  | 48 => ⟨S1x2048x1024, .f32⟩
  | 49 => ⟨S1x2048x512, .f32⟩
  | 50 => ⟨S1x2048x512, .f32⟩
  | 51 => ⟨S1x2048x512, .f32⟩
  | 52 => ⟨S1x2048x512, .f32⟩
  | 53 => ⟨S_, .f32⟩
  | 54 => ⟨S1x2048x512, .f32⟩
  | 55 => ⟨S1x2048x512, .f32⟩
  | 56 => ⟨S_, .f32⟩
  | 57 => ⟨S1x2048x512, .f32⟩
  | 58 => ⟨S1x2048x512, .f32⟩
  | 59 => ⟨S1x2048x512, .f32⟩
  | 60 => ⟨S31x512, .f32⟩
  | 61 => ⟨S31x2048x2048x512, .i32⟩
  | 62 => ⟨S31x2048x2048x512, .i32⟩
  | 63 => ⟨S31x2048x2048x512, .i32⟩
  | 64 => ⟨S_, .i32⟩
  | 65 => ⟨S31x2048x2048x512, .i32⟩
  | 66 => ⟨S31x2048x2048x512, .i32⟩
  | 67 => ⟨S31x2048x2048x512, .i32⟩
  | 68 => ⟨S31x2048x2048x512, .i1⟩
  | 69 => ⟨S2048x512, .f32⟩
  | 70 => ⟨S1x1x2048x512, .f32⟩
  | 71 => ⟨S_, .f32⟩
  | 72 => ⟨S_, .f32⟩
  | 73 => ⟨S31x2048x2048x512, .f32⟩
  | 74 => ⟨S31x2048x2048x512, .f32⟩
  | 75 => ⟨S31x2048x2048x512, .f32⟩
  | 76 => ⟨S_, .f32⟩
  | 77 => ⟨S31x2048x512, .f32⟩
  | 78 => ⟨S31x1x512, .f32⟩
  | 79 => ⟨S31x2048x512, .f32⟩
  | 80 => ⟨S31x2048x512, .f32⟩
  | 81 => ⟨S_, .f32⟩
  | 82 => ⟨S2048x512, .f32⟩
  | 83 => ⟨S1x2048x512, .f32⟩
  | 84 => ⟨S1x1x512, .f32⟩
  | 85 => ⟨S1x2048x512, .f32⟩
  | 86 => ⟨S1x2048x512, .f32⟩
  | 87 => ⟨S_, .f32⟩
  | 88 => ⟨S1x2048, .f32⟩
  | 89 => ⟨S1x2048x1, .f32⟩
  | 90 => ⟨S_, .f32⟩
  | 91 => ⟨S1x2048x1, .f32⟩
  | 92 => ⟨S1x2048x1, .f32⟩
  | 93 => ⟨S1x2048x512, .f32⟩
  | 94 => ⟨S1x2048x512, .f32⟩
  | 95 => ⟨S1x2048x512, .f32⟩
  | 96 => ⟨S_, .f32⟩
  | 97 => ⟨S1x2048, .f32⟩
  | 98 => ⟨S1x2048x1, .f32⟩
  | 99 => ⟨S_, .f32⟩
  | 100 => ⟨S1x2048x1, .f32⟩
  | 101 => ⟨S1x2048x1, .f32⟩
  | 102 => ⟨S_, .f32⟩
  | 103 => ⟨S1x2048x1, .f32⟩
  | 104 => ⟨S1x2048x1, .f32⟩
  | 105 => ⟨S1x2048x1, .f32⟩
  | 106 => ⟨S1x2048x512, .f32⟩
  | 107 => ⟨S1x2048x512, .f32⟩
  | 108 => ⟨S1x2048x512, .f32⟩
  | 109 => ⟨S1x2048x512, .f32⟩
  | 110 => ⟨S512, .f32⟩
  | 111 => ⟨S1x1x512, .f32⟩
  | 112 => ⟨S1x2048x512, .f32⟩
  | 113 => ⟨S1x2048x512, .f32⟩
  | 114 => ⟨S512, .f32⟩
  | 115 => ⟨S1x1x512, .f32⟩
  | 116 => ⟨S1x2048x512, .f32⟩
  | 117 => ⟨S1x2048x512, .f32⟩
  | 118 => ⟨S1x2048x512, .f32⟩
  | 119 => ⟨S1x2048x512, .f32⟩
  | 120 => ⟨S_, .f32⟩
  | 121 => ⟨S1x2048x512, .f32⟩
  | 122 => ⟨S1x2048x512, .f32⟩
  | 123 => ⟨S_, .f32⟩
  | 124 => ⟨S1x2048x512, .f32⟩
  | 125 => ⟨S1x2048x512, .f32⟩
  | 126 => ⟨S1x2048x512, .f32⟩
  | 127 => ⟨S1x2048x512, .f32⟩
  | _ => ⟨S1x2048x1024, .f32⟩

abbrev hbmTy0_1 (i : Nat) : BufTy := match i % 128 with
  | 0 => ⟨S1x2048x4x128, .f32⟩
  | 1 => ⟨S_, .f32⟩
  | 2 => ⟨S_, .f32⟩
  | 3 => ⟨S1x2048x4x128, .f32⟩
  | 4 => ⟨S2048, .i32⟩
  | 5 => ⟨S1x2048x1x128, .f32⟩
  | 6 => ⟨S1x2048x128, .f32⟩
  | 7 => ⟨S_, .f32⟩
  | 8 => ⟨S1x2x128, .f32⟩
  | 9 => ⟨S1x2046x128, .f32⟩
  | 10 => ⟨S1x2048x128, .f32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S2048, .f32⟩
  | 18 => ⟨S1x2048x128, .f32⟩
  | 19 => ⟨S1x2048x1, .f32⟩
  | 20 => ⟨S1x2048x128, .f32⟩
  | 21 => ⟨S1x2048x128, .f32⟩
  | 22 => ⟨S1x2048x1x128, .f32⟩
  | 23 => ⟨S1x2048x128, .f32⟩
  | 24 => ⟨S_, .f32⟩
  | 25 => ⟨S1x4x128, .f32⟩
  | 26 => ⟨S1x2044x128, .f32⟩
  | 27 => ⟨S1x2048x128, .f32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .f32⟩
  | 35 => ⟨S1x2048x128, .f32⟩
  | 36 => ⟨S1x2048x1, .f32⟩
  | 37 => ⟨S1x2048x128, .f32⟩
  | 38 => ⟨S1x2048x128, .f32⟩
  | 39 => ⟨S1x2048x1x128, .f32⟩
  | 40 => ⟨S1x2048x128, .f32⟩
  | 41 => ⟨S_, .f32⟩
  | 42 => ⟨S1x8x128, .f32⟩
  | 43 => ⟨S1x2040x128, .f32⟩
  | 44 => ⟨S1x2048x128, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .f32⟩
  | 52 => ⟨S1x2048x128, .f32⟩
  | 53 => ⟨S1x2048x1, .f32⟩
  | 54 => ⟨S1x2048x128, .f32⟩
  | 55 => ⟨S1x2048x128, .f32⟩
  | 56 => ⟨S1x2048x1x128, .f32⟩
  | 57 => ⟨S1x2048x128, .f32⟩
  | 58 => ⟨S_, .f32⟩
  | 59 => ⟨S1x16x128, .f32⟩
  | 60 => ⟨S1x2032x128, .f32⟩
  | 61 => ⟨S1x2048x128, .f32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S2048, .f32⟩
  | 69 => ⟨S1x2048x128, .f32⟩
  | 70 => ⟨S1x2048x1, .f32⟩
  | 71 => ⟨S1x2048x128, .f32⟩
  | 72 => ⟨S1x2048x128, .f32⟩
  | 73 => ⟨S1x2048x1x128, .f32⟩
  | 74 => ⟨S1x2048x1x128, .f32⟩
  | 75 => ⟨S1x2048x1x128, .f32⟩
  | 76 => ⟨S1x2048x1x128, .f32⟩
  | 77 => ⟨S1x2048x4x128, .f32⟩
  | 78 => ⟨S1x2048x4x128, .f32⟩
  | 79 => ⟨S4x128x128, .f32⟩
  | 80 => ⟨S4x128x1x2048, .f32⟩
  | 81 => ⟨S1x2048x4x128, .f32⟩
  | 82 => ⟨S1x2048x512, .f32⟩
  | 83 => ⟨S512, .f32⟩
  | 84 => ⟨S1x1x512, .f32⟩
  | 85 => ⟨S1x2048x512, .f32⟩
  | 86 => ⟨S1x2048x512, .f32⟩
  | 87 => ⟨S512x512, .f32⟩
  | 88 => ⟨S1x2048x512, .f32⟩
  | 89 => ⟨S1x2048x1024, .f32⟩
  | 90 => ⟨S1024x1024, .f32⟩
  | 91 => ⟨S1x2048x1024, .f32⟩
  | 92 => ⟨S1024x1536, .f32⟩
  | 93 => ⟨S1024x4x384, .f32⟩
  | 94 => ⟨S4x1024x384, .f32⟩
  | 95 => ⟨S4x1024x384, .bf16⟩
  | 96 => ⟨S31x512, .f32⟩
  | 97 => ⟨S_, .i32⟩
  | 98 => ⟨S_, .f32⟩
  | 99 => ⟨S32x512, .f32⟩
  | 100 => ⟨S512x512, .f32⟩
  | 101 => ⟨S512x512, .bf16⟩
  | 102 => ⟨S4x128x128, .f32⟩
  | 103 => ⟨S4x128x128, .bf16⟩
  | 104 => ⟨S1024x1024, .f32⟩
  | 105 => ⟨S1024x1024, .bf16⟩
  | 106 => ⟨S2048x1024, .f32⟩
  | 107 => ⟨S2048x1024, .f32⟩
  | 108 => ⟨S2048x1024, .f32⟩
  | 109 => ⟨S2048x1536, .f32⟩
  | 110 => ⟨S2048x512, .f32⟩
  | 111 => ⟨S2048x1, .f32⟩
  | 112 => ⟨S2048x512, .f32⟩
  | 113 => ⟨S2048x512, .bf16⟩
  | 114 => ⟨S6x1024, .f32⟩
  | 115 => ⟨S2048x1024, .f32⟩
  | 116 => ⟨S2048x1024, .bf16⟩
  | 117 => ⟨S2048x1536, .bf16⟩
  | 118 => ⟨S2048x1024, .bf16⟩
  | 119 => ⟨S512x512, .f32⟩
  | 120 => ⟨S4x128x128, .f32⟩
  | 121 => ⟨S8x1024, .f32⟩
  | 122 => ⟨S8x512, .f32⟩
  | 123 => ⟨S32x512, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1536, .f32⟩
  | .local _ .vmem, ⟨7, _⟩ => ⟨S256x1536, .f32⟩
  | .local _ .vmem, ⟨8, _⟩ => ⟨S256x512, .f32⟩
  | .local _ .vmem, ⟨9, _⟩ => ⟨S256x512, .f32⟩
  | .local _ .vmem, ⟨10, _⟩ => ⟨S256x1, .f32⟩
  | .local _ .vmem, ⟨11, _⟩ => ⟨S256x1, .f32⟩
  | .local _ .vmem, ⟨12, _⟩ => ⟨S256x512, .bf16⟩
  | .local _ .vmem, ⟨13, _⟩ => ⟨S256x512, .bf16⟩
  | .local _ .vmem, ⟨14, _⟩ => ⟨S6x1024, .f32⟩
  | .local _ .vmem, ⟨15, _⟩ => ⟨S1x1024, .f32⟩
  | .local _ .vmem, ⟨16, _⟩ => ⟨S4x1024x384, .bf16⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S4x128x128, .bf16⟩
  | .local _ .vmem, ⟨22, _⟩ => ⟨S1x512, .f32⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1536, .bf16⟩
  | .local _ .vmem, ⟨29, _⟩ => ⟨S256x1536, .bf16⟩
  | .local _ .vmem, ⟨30, _⟩ => ⟨S256x1024, .bf16⟩
  | .local _ .vmem, ⟨31, _⟩ => ⟨S256x1024, .bf16⟩
  | .local _ .vmem, ⟨32, _⟩ => ⟨S512x512, .f32⟩
  | .local _ .vmem, ⟨33, _⟩ => ⟨S4x128x128, .f32⟩
  | .local _ .vmem, ⟨34, _⟩ => ⟨S8x1024, .f32⟩
  | .local _ .vmem, ⟨35, _⟩ => ⟨S8x512, .f32⟩
  | .local _ .vmem, ⟨36, _⟩ => ⟨S32x512, .f32⟩
  | .local _ .vmem, ⟨37, _⟩ => ⟨S288x512, .f32⟩
  | .local _ .vmem, ⟨38, _⟩ => ⟨S272x512, .f32⟩
  | .local _ .vmem, ⟨39, _⟩ => ⟨S7x280x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call1_v0 : Ref sig .tc := ⟨.hbm, 118, rfl⟩
abbrev main_call1_v1 : Ref sig .tc := ⟨.hbm, 119, rfl⟩
abbrev main_call1_cst : Ref sig .tc := ⟨.hbm, 120, rfl⟩
abbrev main_call1_v2 : Ref sig .tc := ⟨.hbm, 121, rfl⟩
abbrev main_call1_v3 : Ref sig .tc := ⟨.hbm, 122, rfl⟩
abbrev main_call1_cst_0 : Ref sig .tc := ⟨.hbm, 123, rfl⟩
abbrev main_call1_v4 : Ref sig .tc := ⟨.hbm, 124, rfl⟩
abbrev main_call1_v5 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call2_call0_cst : Ref sig .tc := ⟨.hbm, 129, rfl⟩
abbrev main_call2_call0_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_13 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_14 : Ref sig .tc := ⟨.hbm, 139, rfl⟩
abbrev main_v97 : Ref sig .tc := ⟨.hbm, 140, rfl⟩
abbrev main_v98 : Ref sig .tc := ⟨.hbm, 141, rfl⟩
abbrev main_c_15 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_16 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_17 : Ref sig .tc := ⟨.hbm, 156, rfl⟩
abbrev main_v111 : Ref sig .tc := ⟨.hbm, 157, rfl⟩
abbrev main_v112 : Ref sig .tc := ⟨.hbm, 158, rfl⟩
abbrev main_c_18 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_19 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_c_20 : Ref sig .tc := ⟨.hbm, 173, rfl⟩
abbrev main_v125 : Ref sig .tc := ⟨.hbm, 174, rfl⟩
abbrev main_v126 : Ref sig .tc := ⟨.hbm, 175, rfl⟩
abbrev main_c_21 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_22 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_23 : Ref sig .tc := ⟨.hbm, 190, rfl⟩
abbrev main_v139 : Ref sig .tc := ⟨.hbm, 191, rfl⟩
abbrev main_v140 : Ref sig .tc := ⟨.hbm, 192, rfl⟩
abbrev main_c_24 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_c_25 : Ref sig .tc := ⟨.hbm, 225, rfl⟩
abbrev main_call3_v0 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188_0 : Ref sig .tc := ⟨.hbm, 243, rfl⟩
abbrev main_v188_1 : Ref sig .tc := ⟨.hbm, 244, rfl⟩
abbrev main_v188_2 : Ref sig .tc := ⟨.hbm, 245, rfl⟩
abbrev main_v188_3 : Ref sig .tc := ⟨.hbm, 246, rfl⟩
abbrev main_v188_4 : Ref sig .tc := ⟨.hbm, 247, rfl⟩
abbrev main_v188_5 : Ref sig .tc := ⟨.hbm, 248, rfl⟩
abbrev main_v188_6 : Ref sig .tc := ⟨.hbm, 249, rfl⟩
abbrev main_v188_7 : Ref sig .tc := ⟨.hbm, 250, rfl⟩
abbrev main_v188_8 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S32x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== Reference2Ideal.lean ====
abbrev S1x2048x1024 : Shape := ⟨3, ![1, 2048, 1024]⟩
abbrev S1x6144 : Shape := ⟨2, ![1, 6144]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x512x512 : Shape := ⟨3, ![1, 512, 512]⟩
abbrev S1x4x128x128 : Shape := ⟨4, ![1, 4, 128, 128]⟩
abbrev S1x1024x1024 : Shape := ⟨3, ![1, 1024, 1024]⟩
abbrev S_ : Shape := ⟨0, ![]⟩
abbrev S1x2048x1536 : Shape := ⟨3, ![1, 2048, 1536]⟩
abbrev S1x1x1024 : Shape := ⟨3, ![1, 1, 1024]⟩
abbrev S1024 : Shape := ⟨1, ![1024]⟩
abbrev S1x2048 : Shape := ⟨2, ![1, 2048]⟩
abbrev S1x2048x1 : Shape := ⟨3, ![1, 2048, 1]⟩
abbrev S1024x1536 : Shape := ⟨2, ![1024, 1536]⟩
abbrev S31x512 : Shape := ⟨2, ![31, 512]⟩
abbrev S512 : Shape := ⟨1, ![512]⟩
abbrev S512x512 : Shape := ⟨2, ![512, 512]⟩
abbrev S1x2048x512 : Shape := ⟨3, ![1, 2048, 512]⟩
abbrev S31x2048x2048x512 : Shape := ⟨4, ![31, 2048, 2048, 512]⟩
abbrev S2048x512 : Shape := ⟨2, ![2048, 512]⟩
abbrev S1x1x2048x512 : Shape := ⟨4, ![1, 1, 2048, 512]⟩
abbrev S31x2048x512 : Shape := ⟨3, ![31, 2048, 512]⟩
abbrev S31x1x512 : Shape := ⟨3, ![31, 1, 512]⟩
abbrev S1x1x512 : Shape := ⟨3, ![1, 1, 512]⟩
abbrev S4x128x128 : Shape := ⟨3, ![4, 128, 128]⟩
abbrev S1x2048x4x128 : Shape := ⟨4, ![1, 2048, 4, 128]⟩
abbrev S2048 : Shape := ⟨1, ![2048]⟩
abbrev S1x2048x1x128 : Shape := ⟨4, ![1, 2048, 1, 128]⟩
abbrev S1x2048x128 : Shape := ⟨3, ![1, 2048, 128]⟩
abbrev S1x2x128 : Shape := ⟨3, ![1, 2, 128]⟩
abbrev S1x2046x128 : Shape := ⟨3, ![1, 2046, 128]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x1x2048 : Shape := ⟨4, ![4, 128, 1, 2048]⟩
abbrev S1024x1024 : Shape := ⟨2, ![1024, 1024]⟩
abbrev S4x1x2048x128 : Shape := ⟨4, ![4, 1, 2048, 128]⟩
abbrev S6x1024 : Shape := ⟨2, ![6, 1024]⟩
abbrev S2048x1024 : Shape := ⟨2, ![2048, 1024]⟩
abbrev S2048x1536 : Shape := ⟨2, ![2048, 1536]⟩
abbrev S4x1024 : Shape := ⟨2, ![4, 1024]⟩
abbrev S8x1024 : Shape := ⟨2, ![8, 1024]⟩
abbrev S4x512 : Shape := ⟨2, ![4, 512]⟩
abbrev S8x512 : Shape := ⟨2, ![8, 512]⟩
abbrev S32x512 : Shape := ⟨2, ![32, 512]⟩

abbrev nBuf : Space → Nat
  | .hbm => 516
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x6144, .f32⟩
  | 3 => ⟨S1x1024, .f32⟩
  | 4 => ⟨S1x1024x1536, .f32⟩
  | 5 => ⟨S1x31x512, .f32⟩
  | 6 => ⟨S1x512, .f32⟩
  | 7 => ⟨S1x512, .f32⟩
  | 8 => ⟨S1x512, .f32⟩
  | 9 => ⟨S1x512x512, .f32⟩
  | 10 => ⟨S1x4x128x128, .f32⟩
  | 11 => ⟨S1x512, .f32⟩
  | 12 => ⟨S1x1024x1024, .f32⟩
  | 13 => ⟨S_, .f32⟩
  | 14 => ⟨S1x2048x1536, .f32⟩
  | 15 => ⟨S_, .f32⟩
  | 16 => ⟨S1x2048x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1x1024, .f32⟩
  | 24 => ⟨S1x1x1024, .f32⟩
  | 25 => ⟨S1x1x1024, .f32⟩
  | 26 => ⟨S1024, .f32⟩
  | 27 => ⟨S1x2048x1024, .f32⟩
  | 28 => ⟨S_, .f32⟩
  | 29 => ⟨S1x2048, .f32⟩
  | 30 => ⟨S1x2048x1, .f32⟩
  | 31 => ⟨S_, .f32⟩
  | 32 => ⟨S1x2048x1, .f32⟩
  | 33 => ⟨S1x2048x1, .f32⟩
  | 34 => ⟨S_, .f32⟩
  | 35 => ⟨S1x2048x1, .f32⟩
  | 36 => ⟨S1x2048x1, .f32⟩
  | 37 => ⟨S1x2048x1, .f32⟩
  | 38 => ⟨S1x2048x1, .f32⟩
  | 39 => ⟨S_, .f32⟩
  | 40 => ⟨S1x2048x1, .f32⟩
  | 41 => ⟨S1x2048x1, .f32⟩
  | 42 => ⟨S1x2048x1024, .f32⟩
  | 43 => ⟨S1x2048x1024, .f32⟩
  | 44 => ⟨S1x1x1024, .f32⟩
  | 45 => ⟨S1x2048x1024, .f32⟩
  | 46 => ⟨S1x2048x1024, .f32⟩
  | 47 => ⟨S_, .f32⟩
  | 48 => ⟨S1x1x1024, .f32⟩
  | 49 => ⟨S1x1x1024, .f32⟩
  | 50 => ⟨S1x2048x1024, .f32⟩
  | 51 => ⟨S1x2048x1024, .f32⟩
  | 52 => ⟨S1x2048x1024, .f32⟩
  | 53 => ⟨S1x2048x1024, .f32⟩
  | 54 => ⟨S1024x1536, .f32⟩
  | 55 => ⟨S1x2048x1536, .f32⟩
  | 56 => ⟨S1x2048x1536, .f32⟩
  | 57 => ⟨S1x2048x1024, .f32⟩
  | 58 => ⟨S31x512, .f32⟩
  | 59 => ⟨S512, .f32⟩
  | 60 => ⟨S512, .f32⟩
  | 61 => ⟨S512, .f32⟩
  | 62 => ⟨S512x512, .f32⟩
  | 63 => ⟨S1x2048x512, .f32⟩
  | 64 => ⟨S1x2048x512, .f32⟩
  | 65 => ⟨S1x2048x512, .f32⟩
  | 66 => ⟨S1x2048x512, .f32⟩
  | 67 => ⟨S_, .f32⟩
  | 68 => ⟨S1x2048x512, .f32⟩
  | 69 => ⟨S1x2048x512, .f32⟩
  | 70 => ⟨S_, .f32⟩
  | 71 => ⟨S1x2048x512, .f32⟩
  | 72 => ⟨S1x2048x512, .f32⟩
  | 73 => ⟨S_, .f32⟩
  | 74 => ⟨S1x2048x512, .f32⟩
  | 75 => ⟨S1x2048x512, .f32⟩
  | 76 => ⟨S1x2048x512, .f32⟩
  | 77 => ⟨S1x2048x512, .f32⟩
  | 78 => ⟨S31x2048x2048x512, .i32⟩
  | 79 => ⟨S31x2048x2048x512, .i32⟩
  | 80 => ⟨S31x2048x2048x512, .i32⟩
  | 81 => ⟨S_, .i32⟩
  | 82 => ⟨S31x2048x2048x512, .i32⟩
  | 83 => ⟨S31x2048x2048x512, .i32⟩
  | 84 => ⟨S31x2048x2048x512, .i32⟩
  | 85 => ⟨S31x2048x2048x512, .i1⟩
  | 86 => ⟨S2048x512, .f32⟩
  | 87 => ⟨S1x1x2048x512, .f32⟩
  | 88 => ⟨S_, .f32⟩
  | 89 => ⟨S_, .f32⟩
  | 90 => ⟨S31x2048x2048x512, .f32⟩
  | 91 => ⟨S31x2048x2048x512, .f32⟩
  | 92 => ⟨S31x2048x2048x512, .f32⟩
  | 93 => ⟨S_, .f32⟩
  | 94 => ⟨S31x2048x2048x512, .f32⟩
  | 95 => ⟨S_, .f32⟩
  | 96 => ⟨S31x2048x512, .f32⟩
  | 97 => ⟨S31x1x512, .f32⟩
  | 98 => ⟨S31x2048x512, .f32⟩
  | 99 => ⟨S31x2048x512, .f32⟩
  | 100 => ⟨S_, .f32⟩
  | 101 => ⟨S2048x512, .f32⟩
  | 102 => ⟨S1x2048x512, .f32⟩
  | 103 => ⟨S1x1x512, .f32⟩
  | 104 => ⟨S1x2048x512, .f32⟩
  | 105 => ⟨S1x2048x512, .f32⟩
  | 106 => ⟨S_, .f32⟩
  | 107 => ⟨S1x2048, .f32⟩
  | 108 => ⟨S1x2048x1, .f32⟩
  | 109 => ⟨S_, .f32⟩
  | 110 => ⟨S1x2048x1, .f32⟩
  | 111 => ⟨S1x2048x1, .f32⟩
  | 112 => ⟨S1x2048x512, .f32⟩
  | 113 => ⟨S1x2048x512, .f32⟩
  | 114 => ⟨S1x2048x512, .f32⟩
  | 115 => ⟨S_, .f32⟩
  | 116 => ⟨S1x2048x512, .f32⟩
  | 117 => ⟨S1x2048x512, .f32⟩
  | 118 => ⟨S_, .f32⟩
  | 119 => ⟨S1x2048, .f32⟩
  | 120 => ⟨S1x2048x1, .f32⟩
  | 121 => ⟨S_, .f32⟩
  | 122 => ⟨S1x2048x1, .f32⟩
  | 123 => ⟨S1x2048x1, .f32⟩
  | 124 => ⟨S1x2048x512, .f32⟩
  | 125 => ⟨S1x2048x512, .f32⟩
  | 126 => ⟨S_, .f32⟩
  | 127 => ⟨S1x2048x1, .f32⟩
  | _ => ⟨S1x2048x1024, .f32⟩

abbrev hbmTy0_1 (i : Nat) : BufTy := match i % 128 with
  | 0 => ⟨S1x2048x1, .f32⟩
  | 1 => ⟨S1x2048x1, .f32⟩
  | 2 => ⟨S1x2048x1, .f32⟩
  | 3 => ⟨S_, .f32⟩
  | 4 => ⟨S1x2048x1, .f32⟩
  | 5 => ⟨S1x2048x1, .f32⟩
  | 6 => ⟨S1x2048x512, .f32⟩
  | 7 => ⟨S1x2048x512, .f32⟩
  | 8 => ⟨S1x1x512, .f32⟩
  | 9 => ⟨S1x2048x512, .f32⟩
  | 10 => ⟨S1x2048x512, .f32⟩
  | 11 => ⟨S1x1x512, .f32⟩
  | 12 => ⟨S1x2048x512, .f32⟩
  | 13 => ⟨S1x2048x512, .f32⟩
  | 14 => ⟨S1x2048x512, .f32⟩
  | 15 => ⟨S1x2048x512, .f32⟩
  | 16 => ⟨S_, .f32⟩
  | 17 => ⟨S1x2048x512, .f32⟩
  | 18 => ⟨S1x2048x512, .f32⟩
  | 19 => ⟨S_, .f32⟩
  | 20 => ⟨S1x2048x512, .f32⟩
  | 21 => ⟨S1x2048x512, .f32⟩
  | 22 => ⟨S_, .f32⟩
  | 23 => ⟨S1x2048x512, .f32⟩
  | 24 => ⟨S1x2048x512, .f32⟩
  | 25 => ⟨S1x2048x512, .f32⟩
  | 26 => ⟨S1x2048x512, .f32⟩
  | 27 => ⟨S1x2048x512, .f32⟩
  | 28 => ⟨S1x2048x512, .f32⟩
  | 29 => ⟨S4x128x128, .f32⟩
  | 30 => ⟨S512, .f32⟩
  | 31 => ⟨S1x2048x4x128, .f32⟩
  | 32 => ⟨S_, .f32⟩
  | 33 => ⟨S_, .f32⟩
  | 34 => ⟨S1x2048x4x128, .f32⟩
  | 35 => ⟨S2048, .i32⟩
  | 36 => ⟨S1x2048x1x128, .f32⟩
  | 37 => ⟨S1x2048x128, .f32⟩
  | 38 => ⟨S_, .f32⟩
  | 39 => ⟨S1x2x128, .f32⟩
  | 40 => ⟨S1x2046x128, .f32⟩
  | 41 => ⟨S1x2048x128, .f32⟩
  | 42 => ⟨S_, .f32⟩
  | 43 => ⟨S1x2x128, .f32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S2048, .f32⟩
  | 51 => ⟨S1x2048x128, .f32⟩
  | 52 => ⟨S1x2048x1, .f32⟩
  | 53 => ⟨S1x2048x128, .f32⟩
  | 54 => ⟨S1x2048x128, .f32⟩
  | 55 => ⟨S1x2048x1x128, .f32⟩
  | 56 => ⟨S1x2048x128, .f32⟩
  | 57 => ⟨S_, .f32⟩
  | 58 => ⟨S1x4x128, .f32⟩
  | 59 => ⟨S1x2044x128, .f32⟩
  | 60 => ⟨S1x2048x128, .f32⟩
  | 61 => ⟨S_, .f32⟩
  | 62 => ⟨S1x4x128, .f32⟩
  | 63 => ⟨S_, .i32⟩
  | 64 => ⟨S2048, .i32⟩
  | 65 => ⟨S2048, .i32⟩
  | 66 => ⟨S_, .i32⟩
  | 67 => ⟨S2048, .i32⟩
  | 68 => ⟨S2048, .i32⟩
  | 69 => ⟨S2048, .f32⟩
  | 70 => ⟨S1x2048x128, .f32⟩
  | 71 => ⟨S1x2048x1, .f32⟩
  | 72 => ⟨S1x2048x128, .f32⟩
  | 73 => ⟨S1x2048x128, .f32⟩
  | 74 => ⟨S1x2048x1x128, .f32⟩
  | 75 => ⟨S1x2048x128, .f32⟩
  | 76 => ⟨S_, .f32⟩
  | 77 => ⟨S1x8x128, .f32⟩
  | 78 => ⟨S1x2040x128, .f32⟩
  | 79 => ⟨S1x2048x128, .f32⟩
  | 80 => ⟨S_, .f32⟩
  | 81 => ⟨S1x8x128, .f32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .f32⟩
  | 89 => ⟨S1x2048x128, .f32⟩
  | 90 => ⟨S1x2048x1, .f32⟩
  | 91 => ⟨S1x2048x128, .f32⟩
  | 92 => ⟨S1x2048x128, .f32⟩
  | 93 => ⟨S1x2048x1x128, .f32⟩
  | 94 => ⟨S1x2048x128, .f32⟩
  | 95 => ⟨S_, .f32⟩
  | 96 => ⟨S1x16x128, .f32⟩
  | 97 => ⟨S1x2032x128, .f32⟩
  | 98 => ⟨S1x2048x128, .f32⟩
  | 99 => ⟨S_, .f32⟩
  | 100 => ⟨S1x16x128, .f32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S2048, .f32⟩
  | 108 => ⟨S1x2048x128, .f32⟩
  | 109 => ⟨S1x2048x1, .f32⟩
  | 110 => ⟨S1x2048x128, .f32⟩
  | 111 => ⟨S1x2048x128, .f32⟩
  | 112 => ⟨S1x2048x1x128, .f32⟩
  | 113 => ⟨S1x2048x1x128, .f32⟩
  | 114 => ⟨S1x2048x1x128, .f32⟩
  | 115 => ⟨S1x2048x1x128, .f32⟩
  | 116 => ⟨S1x2048x4x128, .f32⟩
  | 117 => ⟨S1x2048x4x128, .f32⟩
  | 118 => ⟨S4x128x1x2048, .f32⟩
  | 119 => ⟨S1x2048x4x128, .f32⟩
  | 120 => ⟨S1x2048x512, .f32⟩
  | 121 => ⟨S1x1x512, .f32⟩
  | 122 => ⟨S1x2048x512, .f32⟩
  | 123 => ⟨S1x2048x512, .f32⟩
  | 124 => ⟨S1x2048x1024, .f32⟩
  | 125 => ⟨S1024x1024, .f32⟩
  | 126 => ⟨S1x2048x1024, .f32⟩
  | 127 => ⟨S1x2048x1024, .f32⟩
  | _ => ⟨S1x2048x1024, .f32⟩

abbrev hbmTy0_2 (i : Nat) : BufTy := match i % 128 with
  | 0 => ⟨S1x2048x1024, .f32⟩
  | 1 => ⟨S1x2048x1024, .f32⟩
  | 2 => ⟨S1x2048x1024, .f32⟩
  | 3 => ⟨S1x2048x1024, .f32⟩
  | 4 => ⟨S1x2048x1024, .f32⟩
  | 5 => ⟨S1x2048x1024, .f32⟩
  | 6 => ⟨S1x2048x1024, .f32⟩
  | 7 => ⟨S_, .f32⟩
  | 8 => ⟨S1x1024, .f32⟩
  | 9 => ⟨S1x1x1024, .f32⟩
  | 10 => ⟨S1x2048x1024, .f32⟩
  | 11 => ⟨S1x2048x512, .f32⟩
  | 12 => ⟨S1x2048x512, .f32⟩
  | 13 => ⟨S1x2048x512, .f32⟩
  | 14 => ⟨S_, .f32⟩
  | 15 => ⟨S1x512, .f32⟩
  | 16 => ⟨S1x1x512, .f32⟩
  | 17 => ⟨S1x2048x512, .f32⟩
  | 18 => ⟨S1x2048x512, .f32⟩
  | 19 => ⟨S_, .f32⟩
  | 20 => ⟨S512, .f32⟩
  | 21 => ⟨S1x2048x4x128, .f32⟩
  | 22 => ⟨S4x128x1x2048, .f32⟩
  | 23 => ⟨S4x1x2048x128, .f32⟩
  | 24 => ⟨S1x2048x4x128, .f32⟩
  | 25 => ⟨S4x128x128, .f32⟩
  | 26 => ⟨S4x128x128, .f32⟩
  | 27 => ⟨S1x2048x4x128, .f32⟩
  | 28 => ⟨S1x2048x1x128, .f32⟩
  | 29 => ⟨S1x2048x128, .f32⟩
  | 30 => ⟨S1x2048x1x128, .f32⟩
  | 31 => ⟨S1x2048x128, .f32⟩
  | 32 => ⟨S1x2048x1x128, .f32⟩
  | 33 => ⟨S1x2048x128, .f32⟩
  | 34 => ⟨S1x2048x1x128, .f32⟩
  | 35 => ⟨S1x2048x128, .f32⟩
  | 36 => ⟨S1x2048x128, .f32⟩
  | 37 => ⟨S1x2048x128, .f32⟩
  | 38 => ⟨S1x2048x128, .f32⟩
  | 39 => ⟨S1x16x128, .f32⟩
  | 40 => ⟨S1x2032x128, .f32⟩
  | 41 => ⟨S_, .f32⟩
  | 42 => ⟨S1x2048x128, .f32⟩
  | 43 => ⟨S1x2048x128, .f32⟩
  | 44 => ⟨S1x2048x1x128, .f32⟩
  | 45 => ⟨S_, .f32⟩
  | 46 => ⟨S1x2048x4x128, .f32⟩
  | 47 => ⟨S1x2048x128, .f32⟩
  | 48 => ⟨S1x2048x128, .f32⟩
  | 49 => ⟨S1x2048x128, .f32⟩
  | 50 => ⟨S1x8x128, .f32⟩
  | 51 => ⟨S1x2040x128, .f32⟩
  | 52 => ⟨S_, .f32⟩
  | 53 => ⟨S1x2048x128, .f32⟩
  | 54 => ⟨S1x2048x128, .f32⟩
  | 55 => ⟨S1x2048x1x128, .f32⟩
  | 56 => ⟨S_, .f32⟩
  | 57 => ⟨S1x2048x4x128, .f32⟩
  | 58 => ⟨S1x2048x4x128, .f32⟩
  | 59 => ⟨S1x2048x128, .f32⟩
  | 60 => ⟨S1x2048x128, .f32⟩
  | 61 => ⟨S1x2048x128, .f32⟩
  | 62 => ⟨S1x4x128, .f32⟩
  | 63 => ⟨S1x2044x128, .f32⟩
  | 64 => ⟨S_, .f32⟩
  | 65 => ⟨S1x2048x128, .f32⟩
  | 66 => ⟨S1x2048x128, .f32⟩
  | 67 => ⟨S1x2048x1x128, .f32⟩
  | 68 => ⟨S_, .f32⟩
  | 69 => ⟨S1x2048x4x128, .f32⟩
  | 70 => ⟨S1x2048x4x128, .f32⟩
  | 71 => ⟨S1x2048x128, .f32⟩
  | 72 => ⟨S1x2048x128, .f32⟩
  | 73 => ⟨S1x2048x128, .f32⟩
  | 74 => ⟨S1x2x128, .f32⟩
  | 75 => ⟨S1x2046x128, .f32⟩
  | 76 => ⟨S_, .f32⟩
  | 77 => ⟨S1x2048x128, .f32⟩
  | 78 => ⟨S1x2048x128, .f32⟩
  | 79 => ⟨S1x2048x1x128, .f32⟩
  | 80 => ⟨S_, .f32⟩
  | 81 => ⟨S1x2048x4x128, .f32⟩
  | 82 => ⟨S1x2048x4x128, .f32⟩
  | 83 => ⟨S_, .f32⟩
  | 84 => ⟨S_, .f32⟩
  | 85 => ⟨S1x2048x4x128, .f32⟩
  | 86 => ⟨S1x2048x4x128, .f32⟩
  | 87 => ⟨S1x2048x512, .f32⟩
  | 88 => ⟨S1x512, .f32⟩
  | 89 => ⟨S1x4x128x128, .f32⟩
  | 90 => ⟨S_, .f32⟩
  | 91 => ⟨S1x2048x1536, .f32⟩
  | 92 => ⟨S512x512, .f32⟩
  | 93 => ⟨S512x512, .f32⟩
  | 94 => ⟨S1x2048x512, .f32⟩
  | 95 => ⟨S1x2048x512, .f32⟩
  | 96 => ⟨S1x2048x512, .f32⟩
  | 97 => ⟨S1x2048x512, .f32⟩
  | 98 => ⟨S1x2048x512, .f32⟩
  | 99 => ⟨S_, .f32⟩
  | 100 => ⟨S1x512, .f32⟩
  | 101 => ⟨S1x1x512, .f32⟩
  | 102 => ⟨S_, .f32⟩
  | 103 => ⟨S512, .f32⟩
  | 104 => ⟨S1x2048x512, .f32⟩
  | 105 => ⟨S_, .f32⟩
  | 106 => ⟨S1x512, .f32⟩
  | 107 => ⟨S1x1x512, .f32⟩
  | 108 => ⟨S1x2048x512, .f32⟩
  | 109 => ⟨S1x2048x512, .f32⟩
  | 110 => ⟨S_, .f32⟩
  | 111 => ⟨S512, .f32⟩
  | 112 => ⟨S1x2048x512, .f32⟩
  | 113 => ⟨S_, .f32⟩
  | 114 => ⟨S1x2048, .f32⟩
  | 115 => ⟨S1x2048x1, .f32⟩
  | 116 => ⟨S1x2048x512, .f32⟩
  | 117 => ⟨S1x2048x512, .f32⟩
  | 118 => ⟨S1x2048x1, .f32⟩
  | 119 => ⟨S1x2048x512, .f32⟩
  | 120 => ⟨S_, .f32⟩
  | 121 => ⟨S1x2048, .f32⟩
  | 122 => ⟨S1x2048x1, .f32⟩
  | 123 => ⟨S_, .f32⟩
  | 124 => ⟨S1x2048x1, .f32⟩
  | 125 => ⟨S1x2048x1, .f32⟩
  | 126 => ⟨S_, .f32⟩
  | 127 => ⟨S2048, .f32⟩
  | _ => ⟨S1x2048x1024, .f32⟩

abbrev hbmTy0_3 (i : Nat) : BufTy := match i % 128 with
  | 0 => ⟨S1x2048, .f32⟩
  | 1 => ⟨S1x2048x512, .f32⟩
  | 2 => ⟨S1x2048x512, .f32⟩
  | 3 => ⟨S1x2048x512, .f32⟩
  | 4 => ⟨S_, .f32⟩
  | 5 => ⟨S1x2048, .f32⟩
  | 6 => ⟨S1x2048x1, .f32⟩
  | 7 => ⟨S1x2048x512, .f32⟩
  | 8 => ⟨S1x2048x1, .f32⟩
  | 9 => ⟨S_, .f32⟩
  | 10 => ⟨S1x2048x1, .f32⟩
  | 11 => ⟨S1x2048x1, .f32⟩
  | 12 => ⟨S_, .f32⟩
  | 13 => ⟨S2048, .f32⟩
  | 14 => ⟨S1x2048, .f32⟩
  | 15 => ⟨S1x2048x512, .f32⟩
  | 16 => ⟨S1x2048x512, .f32⟩
  | 17 => ⟨S_, .f32⟩
  | 18 => ⟨S1x512, .f32⟩
  | 19 => ⟨S1x1x512, .f32⟩
  | 20 => ⟨S_, .f32⟩
  | 21 => ⟨S512, .f32⟩
  | 22 => ⟨S_, .f32⟩
  | 23 => ⟨S2048x512, .f32⟩
  | 24 => ⟨S31x2048x512, .f32⟩
  | 25 => ⟨S31x2048x512, .f32⟩
  | 26 => ⟨S_, .f32⟩
  | 27 => ⟨S31x512, .f32⟩
  | 28 => ⟨S31x1x512, .f32⟩
  | 29 => ⟨S31x2048x512, .f32⟩
  | 30 => ⟨S31x2048x512, .f32⟩
  | 31 => ⟨S_, .f32⟩
  | 32 => ⟨S31x512, .f32⟩
  | 33 => ⟨S31x2048x2048x512, .f32⟩
  | 34 => ⟨S_, .f32⟩
  | 35 => ⟨S31x2048x2048x512, .f32⟩
  | 36 => ⟨S31x2048x2048x512, .f32⟩
  | 37 => ⟨S_, .f32⟩
  | 38 => ⟨S2048x512, .f32⟩
  | 39 => ⟨S1x1x2048x512, .f32⟩
  | 40 => ⟨S_, .f32⟩
  | 41 => ⟨S2048x512, .f32⟩
  | 42 => ⟨S1x2048x512, .f32⟩
  | 43 => ⟨S1x2048x512, .f32⟩
  | 44 => ⟨S1x2048x512, .f32⟩
  | 45 => ⟨S1x2048x512, .f32⟩
  | 46 => ⟨S1x2048x1024, .f32⟩
  | 47 => ⟨S1x512x512, .f32⟩
  | 48 => ⟨S1x512, .f32⟩
  | 49 => ⟨S1x512, .f32⟩
  | 50 => ⟨S1x512, .f32⟩
  | 51 => ⟨S1x31x512, .f32⟩
  | 52 => ⟨S_, .f32⟩
  | 53 => ⟨S1x2048x1536, .f32⟩
  | 54 => ⟨S1x2048x1536, .f32⟩
  | 55 => ⟨S1x2048x1024, .f32⟩
  | 56 => ⟨S_, .f32⟩
  | 57 => ⟨S1x1024, .f32⟩
  | 58 => ⟨S1x1x1024, .f32⟩
  | 59 => ⟨S1x2048x1024, .f32⟩
  | 60 => ⟨S_, .f32⟩
  | 61 => ⟨S1x1024, .f32⟩
  | 62 => ⟨S1x1x1024, .f32⟩
  | 63 => ⟨S1x2048x1024, .f32⟩
  | 64 => ⟨S1x2048x1024, .f32⟩
  | 65 => ⟨S1x2048x1024, .f32⟩
  | 66 => ⟨S_, .f32⟩
  | 67 => ⟨S1x1024, .f32⟩
  | 68 => ⟨S1x1x1024, .f32⟩
  | 69 => ⟨S1x2048x1024, .f32⟩
  | 70 => ⟨S1x2048x1024, .f32⟩
  | 71 => ⟨S_, .f32⟩
  | 72 => ⟨S1024, .f32⟩
  | 73 => ⟨S1x2048x1024, .f32⟩
  | 74 => ⟨S_, .f32⟩
  | 75 => ⟨S1x2048, .f32⟩
  | 76 => ⟨S1x2048x1, .f32⟩
  | 77 => ⟨S1x2048x1024, .f32⟩
  | 78 => ⟨S1x2048x1024, .f32⟩
  | 79 => ⟨S1x2048x1024, .f32⟩
  | 80 => ⟨S1x2048x1, .f32⟩
  | 81 => ⟨S_, .f32⟩
  | 82 => ⟨S1x2048x1, .f32⟩
  | 83 => ⟨S1x2048x1, .f32⟩
  | 84 => ⟨S_, .f32⟩
  | 85 => ⟨S2048, .f32⟩
  | 86 => ⟨S1x2048, .f32⟩
  | 87 => ⟨S1x2048x1024, .f32⟩
  | 88 => ⟨S1x2048x1024, .f32⟩
  | 89 => ⟨S1x2048x1024, .f32⟩
  | 90 => ⟨S1x2048x1024, .f32⟩
  | 91 => ⟨S1x2048x1024, .f32⟩
  | 92 => ⟨S1x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S1x1024, .f32⟩
  | 102 => ⟨S_, .f32⟩
  | 103 => ⟨S1x1024, .f32⟩
  | 104 => ⟨S_, .f32⟩
  | 105 => ⟨S1x1024, .f32⟩
  | 106 => ⟨S_, .f32⟩
  | 107 => ⟨S1x1024, .f32⟩
  | 108 => ⟨S1x6144, .f32⟩
  | 109 => ⟨S6x1024, .f32⟩
  | 110 => ⟨S2048x1024, .f32⟩
  | 111 => ⟨S2048x1024, .f32⟩
  | 112 => ⟨S2048x1024, .bf16⟩
  | 113 => ⟨S2048x1536, .f32⟩
  | 114 => ⟨S2048x1536, .bf16⟩
  | 115 => ⟨S2048x1024, .f32⟩
  | 116 => ⟨S2048x1024, .bf16⟩
  | 117 => ⟨S512x512, .f32⟩
  | 118 => ⟨S4x128x128, .f32⟩
  | 119 => ⟨S1x1024, .f32⟩
  | 120 => ⟨S1x1024, .f32⟩
  | 121 => ⟨S1x1024, .f32⟩
  | 122 => ⟨S_, .f32⟩
  | 123 => ⟨S4x1024, .f32⟩
  | 124 => ⟨S8x1024, .f32⟩
  | 125 => ⟨S_, .f32⟩
  | 126 => ⟨S4x512, .f32⟩
  | 127 => ⟨S8x512, .f32⟩
  | _ => ⟨S1x2048x1024, .f32⟩

abbrev hbmTy0_4 (i : Nat) : BufTy := match i % 128 with
  | 0 => ⟨S31x512, .f32⟩
  | 1 => ⟨S_, .i32⟩
  | 2 => ⟨S_, .f32⟩
  | 3 => ⟨S32x512, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v64_0 : Ref sig .tc := ⟨.hbm, 92, rfl⟩
abbrev main_call0_cst : Ref sig .tc := ⟨.hbm, 93, rfl⟩
abbrev main_v64_1 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call1_v0 : Ref sig .tc := ⟨.hbm, 142, rfl⟩
abbrev main_call1_v1 : Ref sig .tc := ⟨.hbm, 143, rfl⟩
abbrev main_call1_cst : Ref sig .tc := ⟨.hbm, 144, rfl⟩
abbrev main_call1_v2 : Ref sig .tc := ⟨.hbm, 145, rfl⟩
abbrev main_call1_v3 : Ref sig .tc := ⟨.hbm, 146, rfl⟩
abbrev main_call1_cst_0 : Ref sig .tc := ⟨.hbm, 147, rfl⟩
abbrev main_call1_v4 : Ref sig .tc := ⟨.hbm, 148, rfl⟩
abbrev main_v103_2 : Ref sig .tc := ⟨.hbm, 149, rfl⟩
abbrev main_call1_cst_1 : Ref sig .tc := ⟨.hbm, 150, rfl⟩
abbrev main_call1_v6 : Ref sig .tc := ⟨.hbm, 151, rfl⟩
abbrev main_call1_v7 : Ref sig .tc := ⟨.hbm, 152, rfl⟩
abbrev main_v103_1 : Ref sig .tc := ⟨.hbm, 153, rfl⟩
abbrev main_v103_0 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_call2_call0_cst : Ref sig .tc := ⟨.hbm, 160, rfl⟩
abbrev main_call2_call0_v0 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_19 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_20 : Ref sig .tc := ⟨.hbm, 170, rfl⟩
abbrev main_v116 : Ref sig .tc := ⟨.hbm, 171, rfl⟩
abbrev main_c_21 : Ref sig .tc := ⟨.hbm, 172, rfl⟩
abbrev main_v117 : Ref sig .tc := ⟨.hbm, 173, rfl⟩
abbrev main_v118 : Ref sig .tc := ⟨.hbm, 174, rfl⟩
abbrev main_c_22 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_23 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_24 : Ref sig .tc := ⟨.hbm, 189, rfl⟩
abbrev main_v131 : Ref sig .tc := ⟨.hbm, 190, rfl⟩
abbrev main_c_25 : Ref sig .tc := ⟨.hbm, 191, rfl⟩
abbrev main_v132 : Ref sig .tc := ⟨.hbm, 192, rfl⟩
abbrev main_v133 : Ref sig .tc := ⟨.hbm, 193, rfl⟩
abbrev main_c_26 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_27 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_28 : Ref sig .tc := ⟨.hbm, 208, rfl⟩
abbrev main_v146 : Ref sig .tc := ⟨.hbm, 209, rfl⟩
abbrev main_c_29 : Ref sig .tc := ⟨.hbm, 210, rfl⟩
abbrev main_v147 : Ref sig .tc := ⟨.hbm, 211, rfl⟩
abbrev main_v148 : Ref sig .tc := ⟨.hbm, 212, rfl⟩
abbrev main_c_30 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_cst_31 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_32 : Ref sig .tc := ⟨.hbm, 227, rfl⟩
abbrev main_v161 : Ref sig .tc := ⟨.hbm, 228, rfl⟩
abbrev main_c_33 : Ref sig .tc := ⟨.hbm, 229, rfl⟩
abbrev main_v162 : Ref sig .tc := ⟨.hbm, 230, rfl⟩
abbrev main_v163 : Ref sig .tc := ⟨.hbm, 231, rfl⟩
abbrev main_c_34 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_cst_35 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_cst_36 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_cst_37 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_cst_38 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_cst_39 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_40 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_cst_41 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_cst_42 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_cst_43 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_cst_44 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_cst_45 : Ref sig .tc := ⟨.hbm, 336, rfl⟩
abbrev main_v257 : Ref sig .tc := ⟨.hbm, 337, rfl⟩
abbrev main_v258 : Ref sig .tc := ⟨.hbm, 338, rfl⟩
abbrev main_call3_call0_cst : Ref sig .tc := ⟨.hbm, 339, rfl⟩
abbrev main_call3_call0_v0 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_cst_46 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_call4_v0 : Ref sig .tc := ⟨.hbm, 351, rfl⟩
abbrev main_call4_v1 : Ref sig .tc := ⟨.hbm, 352, rfl⟩
abbrev main_call4_v2 : Ref sig .tc := ⟨.hbm, 353, rfl⟩
abbrev main_v268 : Ref sig .tc := ⟨.hbm, 354, rfl⟩
abbrev main_cst_47 : Ref sig .tc := ⟨.hbm, 355, rfl⟩
abbrev main_v269 : Ref sig .tc := ⟨.hbm, 356, rfl⟩
abbrev main_v270 : Ref sig .tc := ⟨.hbm, 357, rfl⟩
abbrev main_cst_48 : Ref sig .tc := ⟨.hbm, 358, rfl⟩
abbrev main_v271 : Ref sig .tc := ⟨.hbm, 359, rfl⟩
abbrev main_v272 : Ref sig .tc := ⟨.hbm, 360, rfl⟩
abbrev main_cst_49 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_cst_50 : Ref sig .tc := ⟨.hbm, 366, rfl⟩
abbrev main_v277 : Ref sig .tc := ⟨.hbm, 367, rfl⟩
abbrev main_v278 : Ref sig .tc := ⟨.hbm, 368, rfl⟩
abbrev main_cst_51 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_cst_52 : Ref sig .tc := ⟨.hbm, 376, rfl⟩
abbrev main_v285 : Ref sig .tc := ⟨.hbm, 377, rfl⟩
abbrev main_v286 : Ref sig .tc := ⟨.hbm, 378, rfl⟩
abbrev main_cst_53 : Ref sig .tc := ⟨.hbm, 379, rfl⟩
abbrev main_v287 : Ref sig .tc := ⟨.hbm, 380, rfl⟩
abbrev main_v288 : Ref sig .tc := ⟨.hbm, 381, rfl⟩
abbrev main_cst_54 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_cst_55 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_cst_56 : Ref sig .tc := ⟨.hbm, 393, rfl⟩
abbrev main_v298 : Ref sig .tc := ⟨.hbm, 394, rfl⟩
abbrev main_v299 : Ref sig .tc := ⟨.hbm, 395, rfl⟩
abbrev main_cst_57 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_cst_58 : Ref sig .tc := ⟨.hbm, 401, rfl⟩
abbrev main_v304 : Ref sig .tc := ⟨.hbm, 402, rfl⟩
abbrev main_v305 : Ref sig .tc := ⟨.hbm, 403, rfl⟩
abbrev main_cst_59 : Ref sig .tc := ⟨.hbm, 404, rfl⟩
abbrev main_v306 : Ref sig .tc := ⟨.hbm, 405, rfl⟩
abbrev main_cst_60 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_cst_61 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_cst_62 : Ref sig .tc := ⟨.hbm, 415, rfl⟩
abbrev main_v314 : Ref sig .tc := ⟨.hbm, 416, rfl⟩
abbrev main_v315 : Ref sig .tc := ⟨.hbm, 417, rfl⟩
abbrev main_call5_cst : Ref sig .tc := ⟨.hbm, 418, rfl⟩
abbrev main_call5_v0 : Ref sig .tc := ⟨.hbm, 419, rfl⟩
abbrev main_call5_v1 : Ref sig .tc := ⟨.hbm, 420, rfl⟩
abbrev main_call5_cst_0 : Ref sig .tc := ⟨.hbm, 421, rfl⟩
abbrev main_call5_v2 : Ref sig .tc := ⟨.hbm, 422, rfl⟩
abbrev main_v316 : Ref sig .tc := ⟨.hbm, 423, rfl⟩
abbrev main_cst_63 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_cst_64 : Ref sig .tc := ⟨.hbm, 436, rfl⟩
abbrev main_v328 : Ref sig .tc := ⟨.hbm, 437, rfl⟩
abbrev main_v329 : Ref sig .tc := ⟨.hbm, 438, rfl⟩
abbrev main_v330 : Ref sig .tc := ⟨.hbm, 439, rfl⟩
abbrev main_cst_65 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_cst_66 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_cst_67 : Ref sig .tc := ⟨.hbm, 450, rfl⟩
abbrev main_v339 : Ref sig .tc := ⟨.hbm, 451, rfl⟩
abbrev main_v340 : Ref sig .tc := ⟨.hbm, 452, rfl⟩
abbrev main_v341 : Ref sig .tc := ⟨.hbm, 453, rfl⟩
abbrev main_v342 : Ref sig .tc := ⟨.hbm, 454, rfl⟩
abbrev main_cst_68 : Ref sig .tc := ⟨.hbm, 455, rfl⟩
abbrev main_v343 : Ref sig .tc := ⟨.hbm, 456, rfl⟩
abbrev main_v344 : Ref sig .tc := ⟨.hbm, 457, rfl⟩
abbrev main_cst_69 : Ref sig .tc := ⟨.hbm, 458, rfl⟩
abbrev main_v345 : Ref sig .tc := ⟨.hbm, 459, rfl⟩
abbrev main_v346 : Ref sig .tc := ⟨.hbm, 460, rfl⟩
abbrev main_v347 : Ref sig .tc := ⟨.hbm, 461, rfl⟩
abbrev main_v348 : Ref sig .tc := ⟨.hbm, 462, rfl⟩
abbrev main_v349 : Ref sig .tc := ⟨.hbm, 463, rfl⟩
abbrev main_v350 : Ref sig .tc := ⟨.hbm, 464, rfl⟩
abbrev main_cst_70 : Ref sig .tc := ⟨.hbm, 465, rfl⟩
abbrev main_v351 : Ref sig .tc := ⟨.hbm, 466, rfl⟩
abbrev main_v352 : Ref sig .tc := ⟨.hbm, 467, rfl⟩
abbrev main_cst_71 : Ref sig .tc := ⟨.hbm, 468, rfl⟩
abbrev main_v353 : Ref sig .tc := ⟨.hbm, 469, rfl⟩
abbrev main_v354 : Ref sig .tc := ⟨.hbm, 470, rfl⟩
abbrev main_v355 : Ref sig .tc := ⟨.hbm, 471, rfl⟩
abbrev main_v356 : Ref sig .tc := ⟨.hbm, 472, rfl⟩
abbrev main_v357 : Ref sig .tc := ⟨.hbm, 473, rfl⟩
abbrev main_v358 : Ref sig .tc := ⟨.hbm, 474, rfl⟩
abbrev main_v359 : Ref sig .tc := ⟨.hbm, 475, rfl⟩
abbrev main_v360 : Ref sig .tc := ⟨.hbm, 476, rfl⟩
abbrev main_cst_72 : Ref sig .tc := ⟨.hbm, 477, rfl⟩
abbrev main_v361 : Ref sig .tc := ⟨.hbm, 478, rfl⟩
abbrev main_v362 : Ref sig .tc := ⟨.hbm, 479, rfl⟩
abbrev main_cst_73 : Ref sig .tc := ⟨.hbm, 480, rfl⟩
abbrev main_v363 : Ref sig .tc := ⟨.hbm, 481, rfl⟩
abbrev main_v364 : Ref sig .tc := ⟨.hbm, 482, rfl⟩
abbrev main_cst_74 : Ref sig .tc := ⟨.hbm, 483, rfl⟩
abbrev main_v365 : Ref sig .tc := ⟨.hbm, 484, rfl⟩
abbrev main_v366 : Ref sig .tc := ⟨.hbm, 485, rfl⟩
abbrev main_cst_75 : Ref sig .tc := ⟨.hbm, 486, rfl⟩
abbrev main_v367 : Ref sig .tc := ⟨.hbm, 487, rfl⟩
abbrev main_cst_76 : Ref sig .tc := ⟨.hbm, 488, rfl⟩
abbrev main_v368 : Ref sig .tc := ⟨.hbm, 489, rfl⟩
abbrev main_cst_77 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_v372 : Ref sig .tc := ⟨.hbm, 494, rfl⟩
abbrev main_v373 : Ref sig .tc := ⟨.hbm, 495, rfl⟩
abbrev main_v374 : Ref sig .tc := ⟨.hbm, 496, rfl⟩
abbrev main_v375 : Ref sig .tc := ⟨.hbm, 497, rfl⟩
abbrev main_v376 : Ref sig .tc := ⟨.hbm, 498, rfl⟩
abbrev main_v377 : Ref sig .tc := ⟨.hbm, 499, rfl⟩
abbrev main_v378 : Ref sig .tc := ⟨.hbm, 500, rfl⟩
abbrev main_v379 : Ref sig .tc := ⟨.hbm, 501, rfl⟩
abbrev main_v380 : Ref sig .tc := ⟨.hbm, 502, rfl⟩
abbrev main_v381 : Ref sig .tc := ⟨.hbm, 503, rfl⟩
abbrev main_v382 : Ref sig .tc := ⟨.hbm, 504, rfl⟩
abbrev main_v383 : Ref sig .tc := ⟨.hbm, 505, rfl⟩
abbrev main_cst_78 : Ref sig .tc := ⟨.hbm, 506, rfl⟩
abbrev main_v384 : Ref sig .tc := ⟨.hbm, 507, rfl⟩
abbrev main_v385 : Ref sig .tc := ⟨.hbm, 508, rfl⟩
abbrev main_cst_79 : Ref sig .tc := ⟨.hbm, 509, rfl⟩
abbrev main_v386 : Ref sig .tc := ⟨.hbm, 510, rfl⟩
abbrev main_v387 : Ref sig .tc := ⟨.hbm, 511, rfl⟩
abbrev main_v388 : Ref sig .tc := ⟨.hbm, 512, rfl⟩
abbrev main_c_80 : Ref sig .tc := ⟨.hbm, 513, rfl⟩
abbrev main_call6_v0 : Ref sig .tc := ⟨.hbm, 514, rfl⟩
abbrev main_v389 : Ref sig .tc := ⟨.hbm, 515, rfl⟩

abbrev nD : Nat := 1
abbrev τ : Topo := Topo.v7x

variable {F : FTy → Type} [FloatOps F]
-- ==== Kernel3.lean ====
abbrev S1x2048x1024 : Shape := ⟨3, ![1, 2048, 1024]⟩
abbrev S1x6144 : Shape := ⟨2, ![1, 6144]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x512x512 : Shape := ⟨3, ![1, 512, 512]⟩
abbrev S1x4x128x128 : Shape := ⟨4, ![1, 4, 128, 128]⟩
abbrev S1x1024x1024 : Shape := ⟨3, ![1, 1024, 1024]⟩
abbrev S1024x1536 : Shape := ⟨2, ![1024, 1536]⟩
abbrev S1024x4x384 : Shape := ⟨3, ![1024, 4, 384]⟩
abbrev S4x1024x384 : Shape := ⟨3, ![4, 1024, 384]⟩
abbrev S31x512 : Shape := ⟨2, ![31, 512]⟩
abbrev S_ : Shape := ⟨0, ![]⟩
abbrev S32x512 : Shape := ⟨2, ![32, 512]⟩
abbrev S512x512 : Shape := ⟨2, ![512, 512]⟩
abbrev S4x128x128 : Shape := ⟨3, ![4, 128, 128]⟩
abbrev S1024x1024 : Shape := ⟨2, ![1024, 1024]⟩
abbrev S2048x1024 : Shape := ⟨2, ![2048, 1024]⟩
abbrev S6x1024 : Shape := ⟨2, ![6, 1024]⟩
abbrev S2048x1536 : Shape := ⟨2, ![2048, 1536]⟩
abbrev S2048x512 : Shape := ⟨2, ![2048, 512]⟩
abbrev S2048x1 : Shape := ⟨2, ![2048, 1]⟩
abbrev S256x1024 : Shape := ⟨2, ![256, 1024]⟩
abbrev S256x1536 : Shape := ⟨2, ![256, 1536]⟩
abbrev S256x512 : Shape := ⟨2, ![256, 512]⟩
abbrev S256x1 : Shape := ⟨2, ![256, 1]⟩
abbrev S288x512 : Shape := ⟨2, ![288, 512]⟩
abbrev S272x512 : Shape := ⟨2, ![272, 512]⟩
abbrev S7x280x512 : Shape := ⟨3, ![7, 280, 512]⟩
abbrev S16x512 : Shape := ⟨2, ![16, 512]⟩
abbrev S256 : Shape := ⟨1, ![256]⟩
abbrev S1x1024x384 : Shape := ⟨3, ![1, 1024, 384]⟩
abbrev S1024x384 : Shape := ⟨2, ![1024, 384]⟩
abbrev S256x384 : Shape := ⟨2, ![256, 384]⟩
abbrev S280x512 : Shape := ⟨2, ![280, 512]⟩
abbrev S1x280x512 : Shape := ⟨3, ![1, 280, 512]⟩
abbrev S1x256x512 : Shape := ⟨3, ![1, 256, 512]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 35
  | .vmem => 30
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x1024, .f32⟩
  | .hbm, ⟨3, _⟩ => ⟨S1x1024x1536, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512x512, .f32⟩
  | .hbm, ⟨9, _⟩ => ⟨S1x4x128x128, .f32⟩
  | .hbm, ⟨10, _⟩ => ⟨S1x512, .f32⟩
  | .hbm, ⟨11, _⟩ => ⟨S1x1024x1024, .f32⟩
  | .hbm, ⟨12, _⟩ => ⟨S1024x1536, .f32⟩
  | .hbm, ⟨13, _⟩ => ⟨S1024x4x384, .f32⟩
  | .hbm, ⟨14, _⟩ => ⟨S4x1024x384, .f32⟩
  | .hbm, ⟨15, _⟩ => ⟨S4x1024x384, .bf16⟩
  | .hbm, ⟨16, _⟩ => ⟨S31x512, .f32⟩
  | .hbm, ⟨17, _⟩ => ⟨S_, .i32⟩
  | .hbm, ⟨18, _⟩ => ⟨S_, .f32⟩
  | .hbm, ⟨19, _⟩ => ⟨S32x512, .f32⟩
  | .hbm, ⟨20, _⟩ => ⟨S512x512, .f32⟩
  | .hbm, ⟨21, _⟩ => ⟨S512x512, .bf16⟩
  | .hbm, ⟨22, _⟩ => ⟨S4x128x128, .f32⟩
  | .hbm, ⟨23, _⟩ => ⟨S4x128x128, .bf16⟩
  | .hbm, ⟨24, _⟩ => ⟨S1024x1024, .f32⟩
  | .hbm, ⟨25, _⟩ => ⟨S1024x1024, .bf16⟩
  | .hbm, ⟨26, _⟩ => ⟨S2048x1024, .f32⟩
  | .hbm, ⟨27, _⟩ => ⟨S6x1024, .f32⟩
  | .hbm, ⟨28, _⟩ => ⟨S2048x1024, .f32⟩
  | .hbm, ⟨29, _⟩ => ⟨S2048x1024, .f32⟩
  | .hbm, ⟨30, _⟩ => ⟨S2048x1536, .f32⟩
  | .hbm, ⟨31, _⟩ => ⟨S2048x512, .f32⟩
  | .hbm, ⟨32, _⟩ => ⟨S2048x1, .f32⟩
  | .hbm, ⟨33, _⟩ => ⟨S2048x512, .bf16⟩
  | .hbm, ⟨34, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S6x1024, .f32⟩
  | .local _ .vmem, ⟨3, _⟩ => ⟨S1x1024, .f32⟩
  | .local _ .vmem, ⟨4, _⟩ => ⟨S4x1024x384, .bf16⟩
  | .local _ .vmem, ⟨5, _⟩ => ⟨S32x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S4x128x128, .bf16⟩
  | .local _ .vmem, ⟨11, _⟩ => ⟨S1x512, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1536, .f32⟩
  | .local _ .vmem, ⟨18, _⟩ => ⟨S256x1536, .f32⟩
  | .local _ .vmem, ⟨19, _⟩ => ⟨S256x512, .f32⟩
  | .local _ .vmem, ⟨20, _⟩ => ⟨S256x512, .f32⟩
  | .local _ .vmem, ⟨21, _⟩ => ⟨S256x1, .f32⟩
  | .local _ .vmem, ⟨22, _⟩ => ⟨S256x1, .f32⟩
  | .local _ .vmem, ⟨23, _⟩ => ⟨S256x512, .bf16⟩
  | .local _ .vmem, ⟨24, _⟩ => ⟨S256x512, .bf16⟩
  | .local _ .vmem, ⟨25, _⟩ => ⟨S256x1024, .bf16⟩
  | .local _ .vmem, ⟨26, _⟩ => ⟨S256x1024, .bf16⟩
  | .local _ .vmem, ⟨27, _⟩ => ⟨S288x512, .f32⟩
  | .local _ .vmem, ⟨28, _⟩ => ⟨S272x512, .f32⟩
  | .local _ .vmem, ⟨29, _⟩ => ⟨S7x280x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v14_5 : Ref sig .tc := ⟨.hbm, 33, rfl⟩
abbrev main_v14_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S1x2048x1024 : Shape := ⟨3, ![1, 2048, 1024]⟩
abbrev S1x6144 : Shape := ⟨2, ![1, 6144]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x512x512 : Shape := ⟨3, ![1, 512, 512]⟩
abbrev S1x4x128x128 : Shape := ⟨4, ![1, 4, 128, 128]⟩
abbrev S1x1024x1024 : Shape := ⟨3, ![1, 1024, 1024]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1024x1536 : Shape := ⟨2, ![1024, 1536]⟩
abbrev S1x2048x1536 : Shape := ⟨3, ![1, 2048, 1536]⟩
abbrev S1x2048x512 : Shape := ⟨3, ![1, 2048, 512]⟩
abbrev S31x512 : Shape := ⟨2, ![31, 512]⟩
abbrev S31x2048x2048x512 : Shape := ⟨4, ![31, 2048, 2048, 512]⟩
abbrev S2048x512 : Shape := ⟨2, ![2048, 512]⟩
abbrev S1x1x2048x512 : Shape := ⟨4, ![1, 1, 2048, 512]⟩
abbrev S31x2048x512 : Shape := ⟨3, ![31, 2048, 512]⟩
abbrev S31x1x512 : Shape := ⟨3, ![31, 1, 512]⟩
abbrev S1x1x512 : Shape := ⟨3, ![1, 1, 512]⟩
abbrev S512 : Shape := ⟨1, ![512]⟩
abbrev S512x512 : Shape := ⟨2, ![512, 512]⟩
abbrev S1x2048x4x128 : Shape := ⟨4, ![1, 2048, 4, 128]⟩
abbrev S2048 : Shape := ⟨1, ![2048]⟩
abbrev S1x2048x1x128 : Shape := ⟨4, ![1, 2048, 1, 128]⟩
abbrev S1x2048x128 : Shape := ⟨3, ![1, 2048, 128]⟩
abbrev S1x2x128 : Shape := ⟨3, ![1, 2, 128]⟩
abbrev S1x2046x128 : Shape := ⟨3, ![1, 2046, 128]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x128 : Shape := ⟨3, ![4, 128, 128]⟩
abbrev S4x128x1x2048 : Shape := ⟨4, ![4, 128, 1, 2048]⟩
abbrev S1024x1024 : Shape := ⟨2, ![1024, 1024]⟩
abbrev S2048x1024 : Shape := ⟨2, ![2048, 1024]⟩
abbrev S2048x1536 : Shape := ⟨2, ![2048, 1536]⟩
abbrev S2048x1 : Shape := ⟨2, ![2048, 1]⟩

abbrev nBuf : Space → Nat
  | .hbm => 231
  | .vmem => 0
  | .smem => 0
  | _ => 0

abbrev hbmTy0_0 (i : Nat) : BufTy := match i % 128 with
  | 0 => ⟨S1x2048x1024, .f32⟩
  | 1 => ⟨S1x6144, .f32⟩
  | 2 => ⟨S1x1024, .f32⟩
  | 3 => ⟨S1x1024x1536, .f32⟩
  | 4 => ⟨S1x31x512, .f32⟩
  | 5 => ⟨S1x512, .f32⟩
  | 6 => ⟨S1x512, .f32⟩
  | 7 => ⟨S1x512, .f32⟩
  | 8 => ⟨S1x512x512, .f32⟩
  | 9 => ⟨S1x4x128x128, .f32⟩
  | 10 => ⟨S1x512, .f32⟩
  | 11 => ⟨S1x1024x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1x1024, .f32⟩
  | 19 => ⟨S1x1x1024, .f32⟩
  | 20 => ⟨S1x1x1024, .f32⟩
  | 21 => ⟨S1024, .f32⟩
  | 22 => ⟨S1x2048x1024, .f32⟩
  | 23 => ⟨S_, .f32⟩
  | 24 => ⟨S1x2048, .f32⟩
  | 25 => ⟨S1x2048x1, .f32⟩
  | 26 => ⟨S_, .f32⟩
  | 27 => ⟨S1x2048x1, .f32⟩
  | 28 => ⟨S1x2048x1, .f32⟩
  | 29 => ⟨S_, .f32⟩
  | 30 => ⟨S1x2048x1, .f32⟩
  | 31 => ⟨S1x2048x1, .f32⟩
  | 32 => ⟨S1x2048x1, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S_, .f32⟩
  | 39 => ⟨S1x1x1024, .f32⟩
  | 40 => ⟨S1x1x1024, .f32⟩
  | 41 => ⟨S1x2048x1024, .f32⟩
  | 42 => ⟨S1x2048x1024, .f32⟩
  | 43 => ⟨S1x2048x1024, .f32⟩
  | 44 => ⟨S1x2048x1024, .f32⟩
  | 45 => ⟨S1024x1536, .f32⟩
  | 46 => ⟨S1x2048x1536, .f32⟩
  | 47 => ⟨S1x2048x1024, .f32⟩
  | 48 => ⟨S1x2048x512, .f32⟩
  | 49 => ⟨S1x2048x512, .f32⟩
  | 50 => ⟨S1x2048x512, .f32⟩
  | 51 => ⟨S1x2048x512, .f32⟩
  | 52 => ⟨S_, .f32⟩
  | 53 => ⟨S1x2048x512, .f32⟩
  | 54 => ⟨S1x2048x512, .f32⟩
  | 55 => ⟨S_, .f32⟩
  | 56 => ⟨S1x2048x512, .f32⟩
  | 57 => ⟨S1x2048x512, .f32⟩
  | 58 => ⟨S1x2048x512, .f32⟩
  | 59 => ⟨S31x512, .f32⟩
  | 60 => ⟨S31x2048x2048x512, .i32⟩
  | 61 => ⟨S31x2048x2048x512, .i32⟩
  | 62 => ⟨S31x2048x2048x512, .i32⟩
  | 63 => ⟨S_, .i32⟩
  | 64 => ⟨S31x2048x2048x512, .i32⟩
  | 65 => ⟨S31x2048x2048x512, .i32⟩
  | 66 => ⟨S31x2048x2048x512, .i32⟩
  | 67 => ⟨S31x2048x2048x512, .i1⟩
  | 68 => ⟨S2048x512, .f32⟩
  | 69 => ⟨S1x1x2048x512, .f32⟩
  | 70 => ⟨S_, .f32⟩
  | 71 => ⟨S_, .f32⟩
  | 72 => ⟨S31x2048x2048x512, .f32⟩
  | 73 => ⟨S31x2048x2048x512, .f32⟩
  | 74 => ⟨S31x2048x2048x512, .f32⟩
  | 75 => ⟨S_, .f32⟩
  | 76 => ⟨S31x2048x512, .f32⟩
  | 77 => ⟨S31x1x512, .f32⟩
  | 78 => ⟨S31x2048x512, .f32⟩
  | 79 => ⟨S31x2048x512, .f32⟩
  | 80 => ⟨S_, .f32⟩
  | 81 => ⟨S2048x512, .f32⟩
  | 82 => ⟨S1x2048x512, .f32⟩
  | 83 => ⟨S1x1x512, .f32⟩
  | 84 => ⟨S1x2048x512, .f32⟩
  | 85 => ⟨S1x2048x512, .f32⟩
  | 86 => ⟨S_, .f32⟩
  | 87 => ⟨S1x2048, .f32⟩
  | 88 => ⟨S1x2048x1, .f32⟩
  | 89 => ⟨S_, .f32⟩
  | 90 => ⟨S1x2048x1, .f32⟩
  | 91 => ⟨S1x2048x1, .f32⟩
  | 92 => ⟨S1x2048x512, .f32⟩
  | 93 => ⟨S1x2048x512, .f32⟩
  | 94 => ⟨S1x2048x512, .f32⟩
  | 95 => ⟨S_, .f32⟩
  | 96 => ⟨S1x2048, .f32⟩
  | 97 => ⟨S1x2048x1, .f32⟩
  | 98 => ⟨S_, .f32⟩
  | 99 => ⟨S1x2048x1, .f32⟩
  | 100 => ⟨S1x2048x1, .f32⟩
  | 101 => ⟨S_, .f32⟩
  | 102 => ⟨S1x2048x1, .f32⟩
  | 103 => ⟨S1x2048x1, .f32⟩
  | 104 => ⟨S1x2048x1, .f32⟩
  | 105 => ⟨S1x2048x512, .f32⟩
  | 106 => ⟨S1x2048x512, .f32⟩
  | 107 => ⟨S1x2048x512, .f32⟩
  | 108 => ⟨S1x2048x512, .f32⟩
  | 109 => ⟨S512, .f32⟩
  | 110 => ⟨S1x1x512, .f32⟩
  | 111 => ⟨S1x2048x512, .f32⟩
  | 112 => ⟨S1x2048x512, .f32⟩
  | 113 => ⟨S512, .f32⟩
  | 114 => ⟨S1x1x512, .f32⟩
  | 115 => ⟨S1x2048x512, .f32⟩
  | 116 => ⟨S1x2048x512, .f32⟩
  | 117 => ⟨S1x2048x512, .f32⟩
  | 118 => ⟨S1x2048x512, .f32⟩
  | 119 => ⟨S_, .f32⟩
  | 120 => ⟨S1x2048x512, .f32⟩
  | 121 => ⟨S1x2048x512, .f32⟩
  | 122 => ⟨S_, .f32⟩
  | 123 => ⟨S1x2048x512, .f32⟩
  | 124 => ⟨S1x2048x512, .f32⟩
  | 125 => ⟨S1x2048x512, .f32⟩
  | 126 => ⟨S512x512, .f32⟩
  | 127 => ⟨S1x2048x512, .f32⟩
  | _ => ⟨S1x2048x1024, .f32⟩

abbrev hbmTy0_1 (i : Nat) : BufTy := match i % 128 with
  | 0 => ⟨S1x2048x512, .f32⟩
  | 1 => ⟨S1x2048x4x128, .f32⟩
  | 2 => ⟨S_, .f32⟩
  | 3 => ⟨S_, .f32⟩
  | 4 => ⟨S1x2048x4x128, .f32⟩
  | 5 => ⟨S2048, .i32⟩
  | 6 => ⟨S1x2048x1x128, .f32⟩
  | 7 => ⟨S1x2048x128, .f32⟩
  | 8 => ⟨S_, .f32⟩
  | 9 => ⟨S1x2x128, .f32⟩
  | 10 => ⟨S1x2046x128, .f32⟩
  | 11 => ⟨S1x2048x128, .f32⟩
  | 12 => ⟨S_, .i32⟩
  | 13 => ⟨S2048, .i32⟩
  | 14 => ⟨S2048, .i32⟩
  | 15 => ⟨S_, .i32⟩
  | 16 => ⟨S2048, .i32⟩
  | 17 => ⟨S2048, .i32⟩
  | 18 => ⟨S2048, .f32⟩
  | 19 => ⟨S1x2048x128, .f32⟩
  | 20 => ⟨S1x2048x1, .f32⟩
  | 21 => ⟨S1x2048x128, .f32⟩
  | 22 => ⟨S1x2048x128, .f32⟩
  | 23 => ⟨S1x2048x1x128, .f32⟩
  | 24 => ⟨S1x2048x128, .f32⟩
  | 25 => ⟨S_, .f32⟩
  | 26 => ⟨S1x4x128, .f32⟩
  | 27 => ⟨S1x2044x128, .f32⟩
  | 28 => ⟨S1x2048x128, .f32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S2048, .f32⟩
  | 36 => ⟨S1x2048x128, .f32⟩
  | 37 => ⟨S1x2048x1, .f32⟩
  | 38 => ⟨S1x2048x128, .f32⟩
  | 39 => ⟨S1x2048x128, .f32⟩
  | 40 => ⟨S1x2048x1x128, .f32⟩
  | 41 => ⟨S1x2048x128, .f32⟩
  | 42 => ⟨S_, .f32⟩
  | 43 => ⟨S1x8x128, .f32⟩
  | 44 => ⟨S1x2040x128, .f32⟩
  | 45 => ⟨S1x2048x128, .f32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S2048, .f32⟩
  | 53 => ⟨S1x2048x128, .f32⟩
  | 54 => ⟨S1x2048x1, .f32⟩
  | 55 => ⟨S1x2048x128, .f32⟩
  | 56 => ⟨S1x2048x128, .f32⟩
  | 57 => ⟨S1x2048x1x128, .f32⟩
  | 58 => ⟨S1x2048x128, .f32⟩
  | 59 => ⟨S_, .f32⟩
  | 60 => ⟨S1x16x128, .f32⟩
  | 61 => ⟨S1x2032x128, .f32⟩
  | 62 => ⟨S1x2048x128, .f32⟩
  | 63 => ⟨S_, .i32⟩
  | 64 => ⟨S2048, .i32⟩
  | 65 => ⟨S2048, .i32⟩
  | 66 => ⟨S_, .i32⟩
  | 67 => ⟨S2048, .i32⟩
  | 68 => ⟨S2048, .i32⟩
  | 69 => ⟨S2048, .f32⟩
  | 70 => ⟨S1x2048x128, .f32⟩
  | 71 => ⟨S1x2048x1, .f32⟩
  | 72 => ⟨S1x2048x128, .f32⟩
  | 73 => ⟨S1x2048x128, .f32⟩
  | 74 => ⟨S1x2048x1x128, .f32⟩
  | 75 => ⟨S1x2048x1x128, .f32⟩
  | 76 => ⟨S1x2048x1x128, .f32⟩
  | 77 => ⟨S1x2048x1x128, .f32⟩
  | 78 => ⟨S1x2048x4x128, .f32⟩
  | 79 => ⟨S1x2048x4x128, .f32⟩
  | 80 => ⟨S4x128x128, .f32⟩
  | 81 => ⟨S4x128x1x2048, .f32⟩
  | 82 => ⟨S1x2048x4x128, .f32⟩
  | 83 => ⟨S1x2048x512, .f32⟩
  | 84 => ⟨S512, .f32⟩
  | 85 => ⟨S1x1x512, .f32⟩
  | 86 => ⟨S1x2048x512, .f32⟩
  | 87 => ⟨S1x2048x512, .f32⟩
  | 88 => ⟨S1x2048x1024, .f32⟩
  | 89 => ⟨S1024x1024, .f32⟩
  | 90 => ⟨S1x2048x1024, .f32⟩
  | 91 => ⟨S1x2048x1024, .f32⟩
  | 92 => ⟨S1x2048x1024, .f32⟩
  | 93 => ⟨S1x2048x1024, .f32⟩
  | 94 => ⟨S2048x1024, .f32⟩
  | 95 => ⟨S2048x1024, .f32⟩
  | 96 => ⟨S2048x1536, .f32⟩
  | 97 => ⟨S2048x512, .f32⟩
  | 98 => ⟨S2048x1, .f32⟩
  | 99 => ⟨S2048x512, .f32⟩
  | 100 => ⟨S2048x512, .bf16⟩
  | 101 => ⟨S2048x1024, .f32⟩
  | 102 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call2_call0_cst : Ref sig .tc := ⟨.hbm, 130, rfl⟩
abbrev main_call2_call0_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_13 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_14 : Ref sig .tc := ⟨.hbm, 140, rfl⟩
abbrev main_v99 : Ref sig .tc := ⟨.hbm, 141, rfl⟩
abbrev main_v100 : Ref sig .tc := ⟨.hbm, 142, rfl⟩
abbrev main_c_15 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_16 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_17 : Ref sig .tc := ⟨.hbm, 157, rfl⟩
abbrev main_v113 : Ref sig .tc := ⟨.hbm, 158, rfl⟩
abbrev main_v114 : Ref sig .tc := ⟨.hbm, 159, rfl⟩
abbrev main_c_18 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_19 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_c_20 : Ref sig .tc := ⟨.hbm, 174, rfl⟩
abbrev main_v127 : Ref sig .tc := ⟨.hbm, 175, rfl⟩
abbrev main_v128 : Ref sig .tc := ⟨.hbm, 176, rfl⟩
abbrev main_c_21 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_22 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_23 : Ref sig .tc := ⟨.hbm, 191, rfl⟩
abbrev main_v141 : Ref sig .tc := ⟨.hbm, 192, rfl⟩
abbrev main_v142 : Ref sig .tc := ⟨.hbm, 193, rfl⟩
abbrev main_c_24 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩

abbrev nD : Nat := 1
abbrev τ : Topo := Topo.v7x

variable {F : FTy → Type} [FloatOps F]
-- ==== Kernel4.lean ====
abbrev S1x2048x1024 : Shape := ⟨3, ![1, 2048, 1024]⟩
abbrev S1x2048x2816 : Shape := ⟨3, ![1, 2048, 2816]⟩
abbrev S2048x2816 : Shape := ⟨2, ![2048, 2816]⟩
abbrev S2048x4x704 : Shape := ⟨3, ![2048, 4, 704]⟩
abbrev S4x2048x704 : Shape := ⟨3, ![4, 2048, 704]⟩
abbrev S2048x1024 : Shape := ⟨2, ![2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S2048x2816, .f32⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S2048x1024, .f32⟩
  | .hbm, ⟨7, _⟩ => ⟨S2048x1024, .bf16⟩
  | .hbm, ⟨8, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .f32⟩
  | .local _ .vmem, ⟨4, _⟩ => ⟨S1x704x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1x2048x1024 : Shape := ⟨3, ![1, 2048, 1024]⟩
abbrev S1x2048x2816 : Shape := ⟨3, ![1, 2048, 2816]⟩
abbrev S_ : Shape := ⟨0, ![]⟩
abbrev S1024x2816 : Shape := ⟨2, ![1024, 2816]⟩
abbrev S2048x1024 : Shape := ⟨2, ![2048, 1024]⟩
abbrev S2048x2816 : Shape := ⟨2, ![2048, 2816]⟩
abbrev S2816x1024 : Shape := ⟨2, ![2816, 1024]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S_, .f32⟩
  | .hbm, ⟨3, _⟩ => ⟨S1024x2816, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S1x2048x1024 : Shape := ⟨3, ![1, 2048, 1024]⟩
abbrev S1x2048x1536 : Shape := ⟨3, ![1, 2048, 1536]⟩
abbrev S2048x1024 : Shape := ⟨2, ![2048, 1024]⟩
abbrev S2048x1536 : Shape := ⟨2, ![2048, 1536]⟩
abbrev S4x256x1024 : Shape := ⟨3, ![4, 256, 1024]⟩
abbrev S4x1024x384 : Shape := ⟨3, ![4, 1024, 384]⟩
abbrev S2048x256 : Shape := ⟨2, ![2048, 256]⟩
abbrev S2048x384 : Shape := ⟨2, ![2048, 384]⟩
abbrev S1x256x1024 : Shape := ⟨3, ![1, 256, 1024]⟩
abbrev S1x1024x384 : Shape := ⟨3, ![1, 1024, 384]⟩
abbrev S256x1024 : Shape := ⟨2, ![256, 1024]⟩
abbrev S1024x384 : Shape := ⟨2, ![1024, 384]⟩

abbrev nBuf : Space → Nat
  | .hbm => 14
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1536, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .bf16⟩
  | .hbm, ⟨10, _⟩ => ⟨S2048x1536, .f32⟩
  | .hbm, ⟨11, _⟩ => ⟨S2048x1536, .bf16⟩
  | .hbm, ⟨12, _⟩ => ⟨S4x256x1024, .f32⟩
  | .hbm, ⟨13, _⟩ => ⟨S4x1024x384, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S2048x384, .bf16⟩
  | .local _ .vmem, ⟨5, _⟩ => ⟨S2048x384, .bf16⟩
  | .local _ .vmem, ⟨6, _⟩ => ⟨S1x256x1024, .f32⟩
  | .local _ .vmem, ⟨7, _⟩ => ⟨S1x256x1024, .f32⟩
  | .local _ .vmem, ⟨8, _⟩ => ⟨S1x1024x384, .f32⟩
  | .local _ .vmem, ⟨9, _⟩ => ⟨S1x1024x384, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S1x2048x1024 : Shape := ⟨3, ![1, 2048, 1024]⟩
abbrev S1x2048x1536 : Shape := ⟨3, ![1, 2048, 1536]⟩
abbrev S_ : Shape := ⟨0, ![]⟩
abbrev S1024x1024 : Shape := ⟨2, ![1024, 1024]⟩
abbrev S2048x1024 : Shape := ⟨2, ![2048, 1024]⟩
abbrev S1024x1536 : Shape := ⟨2, ![1024, 1536]⟩
abbrev S2048x1536 : Shape := ⟨2, ![2048, 1536]⟩
abbrev S1536x1024 : Shape := ⟨2, ![1536, 1024]⟩
abbrev S4x256x1024 : Shape := ⟨3, ![4, 256, 1024]⟩
abbrev S1024x4x384 : Shape := ⟨3, ![1024, 4, 384]⟩
abbrev S4x1024x384 : Shape := ⟨3, ![4, 1024, 384]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1536, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1536, .f32⟩
  | .hbm, ⟨13, _⟩ => ⟨S2048x1024, .f32⟩
  | .hbm, ⟨14, _⟩ => ⟨S2048x1536, .f32⟩
  | .hbm, ⟨15, _⟩ => ⟨S2048x1536, .f32⟩
  | .hbm, ⟨16, _⟩ => ⟨S1536x1024, .f32⟩
  | .hbm, ⟨17, _⟩ => ⟨S1024x1536, .f32⟩
  | .hbm, ⟨18, _⟩ => ⟨S4x256x1024, .f32⟩
  | .hbm, ⟨19, _⟩ => ⟨S1024x4x384, .f32⟩
  | .hbm, ⟨20, _⟩ => ⟨S4x1024x384, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩
abbrev S176x1024 : Shape := ⟨2, ![176, 1024]⟩

abbrev nBuf : Space → Nat
  | .hbm => 41
  | .vmem => 42
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S1024x704, .f32⟩
  | .hbm, ⟨13, _⟩ => ⟨S704x1024, .f32⟩
  | .hbm, ⟨14, _⟩ => ⟨S1024x704, .f32⟩
  | .hbm, ⟨15, _⟩ => ⟨S704x1024, .f32⟩
  | .hbm, ⟨16, _⟩ => ⟨S1024x704, .f32⟩
  | .hbm, ⟨17, _⟩ => ⟨S704x1024, .f32⟩
  | .hbm, ⟨18, _⟩ => ⟨S1024x704, .f32⟩
  | .hbm, ⟨19, _⟩ => ⟨S704x1024, .f32⟩
  | .hbm, ⟨20, _⟩ => ⟨S1024x704, .f32⟩
  | .hbm, ⟨21, _⟩ => ⟨S704x1024, .f32⟩
  | .hbm, ⟨22, _⟩ => ⟨S1024x704, .f32⟩
  | .hbm, ⟨23, _⟩ => ⟨S704x1024, .f32⟩
  | .hbm, ⟨24, _⟩ => ⟨S1024x704, .f32⟩
  | .hbm, ⟨25, _⟩ => ⟨S704x1024, .f32⟩
  | .hbm, ⟨26, _⟩ => ⟨S1024x704, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S1x1024x704 : Shape := ⟨3, ![1, 1024, 704]⟩
abbrev S1x704x1024 : Shape := ⟨3, ![1, 704, 1024]⟩
abbrev S_ : Shape := ⟨0, ![]⟩
abbrev S1024x704 : Shape := ⟨2, ![1024, 704]⟩
abbrev S704x1024 : Shape := ⟨2, ![704, 1024]⟩

abbrev nBuf : Space → Nat
  | .hbm => 126
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S1x1024x704, .f32⟩
  | .hbm, ⟨38, _⟩ => ⟨S_, .f32⟩
  | .hbm, ⟨39, _⟩ => ⟨S1x1024x704, .f32⟩
  | .hbm, ⟨40, _⟩ => ⟨S1x1024x704, .f32⟩
  | .hbm, ⟨41, _⟩ => ⟨S1x1024x704, .f32⟩
  | .hbm, ⟨42, _⟩ => ⟨S_, .f32⟩
  | .hbm, ⟨43, _⟩ => ⟨S1x1024x704, .f32⟩
  | .hbm, ⟨44, _⟩ => ⟨S1x1024x704, .f32⟩
  | .hbm, ⟨45, _⟩ => ⟨S1024x704, .f32⟩
  | .hbm, ⟨46, _⟩ => ⟨S704x1024, .f32⟩
  | .hbm, ⟨47, _⟩ => ⟨S1024x704, .f32⟩
  | .hbm, ⟨48, _⟩ => ⟨S704x1024, .f32⟩
  | .hbm, ⟨49, _⟩ => ⟨S1024x704, .f32⟩
  | .hbm, ⟨50, _⟩ => ⟨S704x1024, .f32⟩
  | .hbm, ⟨51, _⟩ => ⟨S_, .f32⟩
  | .hbm, ⟨52, _⟩ => ⟨S1x1024x704, .f32⟩
  | .hbm, ⟨53, _⟩ => ⟨S1x1024x704, .f32⟩
  | .hbm, ⟨54, _⟩ => ⟨S_, .f32⟩
  | .hbm, ⟨55, _⟩ => ⟨S1x1024x704, .f32⟩
  | .hbm, ⟨56, _⟩ => ⟨S1x1024x704, .f32⟩
  | .hbm, ⟨57, _⟩ => ⟨S1x1024x704, .f32⟩
  | .hbm, ⟨58, _⟩ => ⟨S_, .f32⟩
  | .hbm, ⟨59, _⟩ => ⟨S1x1024x704, .f32⟩
  | .hbm, ⟨60, _⟩ => ⟨S1x1024x704, .f32⟩
  | .hbm, ⟨61, _⟩ => ⟨S1x1024x704, .f32⟩
  | .hbm, ⟨62, _⟩ => ⟨S_, .f32⟩
  | .hbm, ⟨63, _⟩ => ⟨S1x1024x704, .f32⟩
  | .hbm, ⟨64, _⟩ => ⟨S1x1024x704, .f32⟩
  | .hbm, ⟨65, _⟩ => ⟨S1x1024x704, .f32⟩
  | .hbm, ⟨66, _⟩ => ⟨S_, .f32⟩
  | .hbm, ⟨67, _⟩ => ⟨S1x1024x704, .f32⟩
  | .hbm, ⟨68, _⟩ => ⟨S1x1024x704, .f32⟩
  | .hbm, ⟨69, _⟩ => ⟨S_, .f32⟩
  | .hbm, ⟨70, _⟩ => ⟨S1x1024x704, .f32⟩
  | .hbm, ⟨71, _⟩ => ⟨S1x1024x704, .f32⟩
  | .hbm, ⟨72, _⟩ => ⟨S1x1024x704, .f32⟩
  | .hbm, ⟨73, _⟩ => ⟨S_, .f32⟩
  | .hbm, ⟨74, _⟩ => ⟨S1x1024x704, .f32⟩
  | .hbm, ⟨75, _⟩ => ⟨S1x1024x704, .f32⟩
  | .hbm, ⟨76, _⟩ => ⟨S1x1024x704, .f32⟩
  | .hbm, ⟨77, _⟩ => ⟨S_, .f32⟩
  | .hbm, ⟨78, _⟩ => ⟨S1x1024x704, .f32⟩
  | .hbm, ⟨79, _⟩ => ⟨S1x1024x704, .f32⟩
  | .hbm, ⟨80, _⟩ => ⟨S1x1024x704, .f32⟩
  | .hbm, ⟨81, _⟩ => ⟨S_, .f32⟩
  | .hbm, ⟨82, _⟩ => ⟨S1x1024x704, .f32⟩
  | .hbm, ⟨83, _⟩ => ⟨S1x1024x704, .f32⟩
  | .hbm, ⟨84, _⟩ => ⟨S1024x704, .f32⟩
  | .hbm, ⟨85, _⟩ => ⟨S704x1024, .f32⟩
  | .hbm, ⟨86, _⟩ => ⟨S1024x704, .f32⟩
  | .hbm, ⟨87, _⟩ => ⟨S704x1024, .f32⟩
  | .hbm, ⟨88, _⟩ => ⟨S1024x704, .f32⟩
  | .hbm, ⟨89, _⟩ => ⟨S704x1024, .f32⟩
  | .hbm, ⟨90, _⟩ => ⟨S_, .f32⟩
  | .hbm, ⟨91, _⟩ => ⟨S1x704x1024, .f32⟩
  | .hbm, ⟨92, _⟩ => ⟨S1x704x1024, .f32⟩
  | .hbm, ⟨93, _⟩ => ⟨S_, .f32⟩
  | .hbm, ⟨94, _⟩ => ⟨S1x704x1024, .f32⟩
  | .hbm, ⟨95, _⟩ => ⟨S1x704x1024, .f32⟩
  | .hbm, ⟨96, _⟩ => ⟨S1x704x1024, .f32⟩
  | .hbm, ⟨97, _⟩ => ⟨S_, .f32⟩
  | .hbm, ⟨98, _⟩ => ⟨S1x704x1024, .f32⟩
  | .hbm, ⟨99, _⟩ => ⟨S1x704x1024, .f32⟩
  | .hbm, ⟨100, _⟩ => ⟨S1x704x1024, .f32⟩
  | .hbm, ⟨101, _⟩ => ⟨S_, .f32⟩
  | .hbm, ⟨102, _⟩ => ⟨S1x704x1024, .f32⟩
  | .hbm, ⟨103, _⟩ => ⟨S1x704x1024, .f32⟩
  | .hbm, ⟨104, _⟩ => ⟨S1x704x1024, .f32⟩
  | .hbm, ⟨105, _⟩ => ⟨S_, .f32⟩
  | .hbm, ⟨106, _⟩ => ⟨S1x704x1024, .f32⟩
  | .hbm, ⟨107, _⟩ => ⟨S1x704x1024, .f32⟩
  | .hbm, ⟨108, _⟩ => ⟨S_, .f32⟩
  | .hbm, ⟨109, _⟩ => ⟨S1x704x1024, .f32⟩
  | .hbm, ⟨110, _⟩ => ⟨S1x704x1024, .f32⟩
  | .hbm, ⟨111, _⟩ => ⟨S1x704x1024, .f32⟩
  | .hbm, ⟨112, _⟩ => ⟨S_, .f32⟩
  | .hbm, ⟨113, _⟩ => ⟨S1x704x1024, .f32⟩
  | .hbm, ⟨114, _⟩ => ⟨S1x704x1024, .f32⟩
  | .hbm, ⟨115, _⟩ => ⟨S1x704x1024, .f32⟩
  | .hbm, ⟨116, _⟩ => ⟨S_, .f32⟩
  | .hbm, ⟨117, _⟩ => ⟨S1x704x1024, .f32⟩
  | .hbm, ⟨118, _⟩ => ⟨S1x704x1024, .f32⟩
  | .hbm, ⟨119, _⟩ => ⟨S1x704x1024, .f32⟩
  | .hbm, ⟨120, _⟩ => ⟨S_, .f32⟩
  | .hbm, ⟨121, _⟩ => ⟨S1x704x1024, .f32⟩
  | .hbm, ⟨122, _⟩ => ⟨S1x704x1024, .f32⟩
  | .hbm, ⟨123, _⟩ => ⟨S704x1024, .f32⟩
  | .hbm, ⟨124, _⟩ => ⟨S704x1024, .f32⟩
  | .hbm, ⟨125, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_15 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_16 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_17 : Ref sig .tc := ⟨.hbm, 90, rfl⟩
abbrev main_v60 : Ref sig .tc := ⟨.hbm, 91, rfl⟩
abbrev main_v61 : Ref sig .tc := ⟨.hbm, 92, rfl⟩
abbrev main_cst_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_19 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_20 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_21 : Ref sig .tc := ⟨.hbm, 105, rfl⟩
abbrev main_v71 : Ref sig .tc := ⟨.hbm, 106, rfl⟩
abbrev main_v72 : Ref sig .tc := ⟨.hbm, 107, rfl⟩
abbrev main_cst_22 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_23 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_24 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_25 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== Kernel7.lean ====
abbrev S8x1024 : Shape := ⟨2, ![8, 1024]⟩
abbrev S8x6144 : Shape := ⟨2, ![8, 6144]⟩
abbrev S1x1024x1536 : Shape := ⟨3, ![1, 1024, 1536]⟩
abbrev S_ : Shape := ⟨0, ![]⟩
abbrev S1024x1536 : Shape := ⟨2, ![1024, 1536]⟩
abbrev S8x512 : Shape := ⟨2, ![8, 512]⟩
abbrev S8x1536 : Shape := ⟨2, ![8, 1536]⟩
abbrev S512x1536 : Shape := ⟨2, ![512, 1536]⟩

abbrev nBuf : Space → Nat
  | .hbm => 21
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x1536, .f32⟩
  | .hbm, ⟨15, _⟩ => ⟨S1024x1536, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S1024x1536, .f32⟩
  | .local _ .vmem, ⟨0, _⟩ => ⟨S8x512, .f32⟩
  | .local _ .vmem, ⟨1, _⟩ => ⟨S8x512, .f32⟩
  | .local _ .vmem, ⟨2, _⟩ => ⟨S8x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x1536, .f32⟩
  | .local _ .vmem, ⟨15, _⟩ => ⟨S512x1536, .f32⟩
  | .local _ .vmem, ⟨16, _⟩ => ⟨S512x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S8x6144 : Shape := ⟨2, ![8, 6144]⟩
abbrev S1x1024x1536 : Shape := ⟨3, ![1, 1024, 1536]⟩
abbrev S1024x1536 : Shape := ⟨2, ![1024, 1536]⟩
abbrev S_ : Shape := ⟨0, ![]⟩
abbrev S8x1536 : Shape := ⟨2, ![8, 1536]⟩
abbrev S1536x1024 : Shape := ⟨2, ![1536, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1024x1536, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1536, .f32⟩
  | .hbm, ⟨16, _⟩ => ⟨S8x1536, .f32⟩
  | .hbm, ⟨17, _⟩ => ⟨S1536x1024, .f32⟩
  | .hbm, ⟨18, _⟩ => ⟨S1024x1536, .f32⟩
  | .hbm, ⟨19, _⟩ => ⟨S1024x1536, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S_, .f32⟩
  | .hbm, ⟨26, _⟩ => ⟨S1024x1536, .f32⟩
  | .hbm, ⟨27, _⟩ => ⟨S1024x1536, .f32⟩
  | .hbm, ⟨28, _⟩ => ⟨S1024x1536, .f32⟩
  | .hbm, ⟨29, _⟩ => ⟨S_, .f32⟩
  | .hbm, ⟨30, _⟩ => ⟨S1024x1536, .f32⟩
  | .hbm, ⟨31, _⟩ => ⟨S1024x1536, .f32⟩
  | .hbm, ⟨32, _⟩ => ⟨S1024x1536, .f32⟩
  | .hbm, ⟨33, _⟩ => ⟨S_, .f32⟩
  | .hbm, ⟨34, _⟩ => ⟨S1024x1536, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1024x1536, .f32⟩
  | .hbm, ⟨39, _⟩ => ⟨S1024x1536, .f32⟩
  | .hbm, ⟨40, _⟩ => ⟨S_, .f32⟩
  | .hbm, ⟨41, _⟩ => ⟨S1024x1536, .f32⟩
  | .hbm, ⟨42, _⟩ => ⟨S1024x1536, .f32⟩
  | .hbm, ⟨43, _⟩ => ⟨S1024x1536, .f32⟩
  | .hbm, ⟨44, _⟩ => ⟨S_, .f32⟩
  | .hbm, ⟨45, _⟩ => ⟨S1024x1536, .f32⟩
  | .hbm, ⟨46, _⟩ => ⟨S1024x1536, .f32⟩
  | .hbm, ⟨47, _⟩ => ⟨S1024x1536, .f32⟩
  | .hbm, ⟨48, _⟩ => ⟨S_, .f32⟩
  | .hbm, ⟨49, _⟩ => ⟨S1024x1536, .f32⟩
  | .hbm, ⟨50, _⟩ => ⟨S1024x1536, .f32⟩
  | .hbm, ⟨51, _⟩ => ⟨S1024x1536, .f32⟩
  | .hbm, ⟨52, _⟩ => ⟨S_, .f32⟩
  | .hbm, ⟨53, _⟩ => ⟨S1024x1536, .f32⟩
  | .hbm, ⟨54, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== Proof.Lit.lean ====
/- The literals of the two programs as real numbers, and the extended-real operations at real arguments. -/
module

public import Idealize.ShloMosaic.Lib.Pointwise
public import Idealize.ShloMosaic.Lib.IdealHost

@[expose] public section

noncomputable section
namespace Cert.Hand
open Idealize.ShloMosaic

/-- The constant both programs add to a mean square before its root. -/
def eps : ℝ := 8796093 * 2 ^ (-43 : ℤ)

theorem eps_pos : 0 < eps := by unfold eps; positivity

theorem lit_eps : Ideal.ofBits .f32 0x358637BD#32 = ((eps : ℝ) : EReal) := by
  simp [Ideal.ofBits, Ideal.ieee, -EReal.coe_mul, eps]

theorem lit_1024 : Ideal.ofBits .f32 0x44800000#32 = ((1024 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

theorem zero_up : (0 : EReal) = ((0 : ℝ) : EReal) := rfl
theorem one_up : (1 : EReal) = ((1 : ℝ) : EReal) := rfl

/-- The root's reciprocal at a positive real. -/
theorem rsqrt_up {a : ℝ} (h : 0 < a) : Ideal.rsqrt (a : EReal) = (((√a)⁻¹ : ℝ) : EReal) := by
  rw [Ideal.rsqrt_coe, if_neg (not_lt.mpr h.le), if_neg h.ne']

/-- A quotient by a real that is not zero. -/
theorem div_up {b : ℝ} (h : b ≠ 0) (a : ℝ) : Ideal.div (a : EReal) (b : EReal) = ((a / b : ℝ) : EReal) := by
  rw [Ideal.div_coe h, ← EReal.coe_mul]; congr 1; field_simp

theorem mul_up (a b : ℝ) : (a : EReal) * (b : EReal) = ((a * b : ℝ) : EReal) := (EReal.coe_mul a b).symm
theorem add_up (a b : ℝ) : (a : EReal) + (b : EReal) = ((a + b : ℝ) : EReal) := (EReal.coe_add a b).symm
theorem sub_up (a b : ℝ) : (a : EReal) - (b : EReal) = ((a - b : ℝ) : EReal) := (EReal.coe_sub a b).symm
theorem neg_up (a : ℝ) : -(a : EReal) = ((-a : ℝ) : EReal) := (EReal.coe_neg a).symm

theorem sum_up {ι : Type} (s : Finset ι) (f : ι → ℝ) : ∑ i ∈ s, (f i : EReal) = ((∑ i ∈ s, f i : ℝ) : EReal) := by
  induction s using Finset.cons_induction with
  | empty => simp
  | cons a s h ih => rw [Finset.sum_cons, Finset.sum_cons, ih, EReal.coe_add]

theorem exp_up (a : ℝ) : Ideal.exp (a : EReal) = ((Real.exp a : ℝ) : EReal) := Ideal.exp_coe a

/-- Division of a real by the literal 1024. -/
theorem mean_up (a : ℝ) : Ideal.div (a : EReal) (Ideal.ofBits .f32 0x44800000#32) = ((a / 1024 : ℝ) : EReal) := by
  rw [lit_1024, div_up (by norm_num)]

/-- The logistic function. -/
def lgs (z : ℝ) : ℝ := 1 / (1 + Real.exp (-z))

theorem one_add_exp_pos (z : ℝ) : 0 < 1 + Real.exp z := by positivity

/-- The logistic function as the programs write it: one over one plus an exponential. -/
theorem lgs_up (z : ℝ) : Ideal.div (1 : EReal) (1 + ((Real.exp (-z) : ℝ) : EReal)) = ((lgs z : ℝ) : EReal) := by
  rw [one_up, add_up, div_up (one_add_exp_pos _).ne']; rfl

/-- One over the root of the mean square of `x` plus `eps`. -/
def rs {n : ℕ} (x : Fin n → ℝ) : ℝ := (√((∑ d, x d * x d) / 1024 + eps))⁻¹

theorem ms_pos {n : ℕ} (x : Fin n → ℝ) : 0 < (∑ d, x d * x d) / 1024 + eps := by
  have h : 0 ≤ ∑ d, x d * x d := Finset.sum_nonneg fun d _ => mul_self_nonneg _
  have := eps_pos
  positivity

theorem rs_up {n : ℕ} (x : Fin n → ℝ) :
    Ideal.rsqrt ((((∑ d, x d * x d) / 1024 : ℝ) : EReal) + Ideal.ofBits .f32 0x358637BD#32) = ((rs x : ℝ) : EReal) := by
  rw [lit_eps, add_up, rsqrt_up (ms_pos x)]; rfl

/-- The square of `rs x` times what the root is taken of is one. -/
theorem rs_sq {n : ℕ} (x : Fin n → ℝ) : rs x / ((∑ d, x d * x d) / 1024 + eps) = rs x * rs x * rs x := by
  have h := ms_pos x
  have hs : √((∑ d, x d * x d) / 1024 + eps) ≠ 0 := (Real.sqrt_pos.mpr h).ne'
  have hq := Real.mul_self_sqrt h.le
  unfold rs
  generalize (∑ d, x d * x d) / 1024 + eps = a at *
  have h1 : (√a)⁻¹ * (√a)⁻¹ * a = 1 := by
    nth_rewrite 3 [← hq]
    field_simp
  rw [div_eq_iff h.ne', mul_assoc, mul_assoc, ← mul_assoc _ _ a, h1, mul_one]

theorem rs_div_up {n : ℕ} (x : Fin n → ℝ) :
    Ideal.div ((rs x : ℝ) : EReal) ((((∑ d, x d * x d) / 1024 : ℝ) : EReal) + Ideal.ofBits .f32 0x358637BD#32)
      = ((rs x * rs x * rs x : ℝ) : EReal) := by
  rw [lit_eps, add_up, div_up (ms_pos x).ne', rs_sq]

end Cert.Hand
end
-- ==== Proof.Ffn.Row.lean ====
/- The gated feed-forward sublayer and the loss on ONE token over the real numbers, forward and backward.
   `x` is the token's row before the sublayer and `y` its row of the loss target. -/
module

public import proofs.«01_k».proof.Proof.Lit

@[expose] public section

noncomputable section
namespace Cert.Hand.Ffn
open Idealize.ShloMosaic Cert.Hand

/-- What all tokens share: shift, scale and gate of the modulation, the two norms' gains, the three weights
    (hidden unit first). -/
structure Par where
  sh : Fin 1024 → ℝ
  sc : Fin 1024 → ℝ
  gt : Fin 1024 → ℝ
  g : Fin 1024 → ℝ
  gf : Fin 1024 → ℝ
  wg : Fin 2816 → Fin 1024 → ℝ
  wu : Fin 2816 → Fin 1024 → ℝ
  wd : Fin 2816 → Fin 1024 → ℝ

/-- Hidden unit `k` of chip `j`. -/
def hid (j : Fin 4) (k : Fin 704) : Fin 2816 := ⟨j.val * 704 + k.val, by omega⟩

/-- The normalised row. -/
def xh (x : Fin 1024 → ℝ) (d : Fin 1024) : ℝ := x d * rs x

/-- The product of a row with the hidden units' weights. -/
def lin (w : Fin 2816 → Fin 1024 → ℝ) (h : Fin 1024 → ℝ) (k : Fin 2816) : ℝ := ∑ d, h d * w k d

/-- The product of one chip's hidden units with their weights. -/
def part (w : Fin 2816 → Fin 1024 → ℝ) (a : Fin 2816 → ℝ) (j : Fin 4) (d : Fin 1024) : ℝ :=
  ∑ k : Fin 704, a (hid j k) * w (hid j k) d

/-- The product of all hidden units with their weights. -/
def back (w : Fin 2816 → Fin 1024 → ℝ) (a : Fin 2816 → ℝ) (d : Fin 1024) : ℝ := ∑ k, a k * w k d

theorem back_eq (w : Fin 2816 → Fin 1024 → ℝ) (a : Fin 2816 → ℝ) (d : Fin 1024) :
    back w a d = part w a 0 d + part w a 1 d + part w a 2 d + part w a 3 d := by
  unfold back part
  rw [Fin.sum_univ_tiles 4 704 rfl, Fin.sum_univ_four]
  rfl

/-- The gradient through `v ↦ xh v`, for the gradient `dn` of the normalised row. -/
def rmsb (v dn : Fin 1024 → ℝ) (d : Fin 1024) : ℝ := rs v * (dn d - xh v d * ((∑ e, dn e * xh v e) / 1024))

/-- The same gradient as the derivative of each factor: the row times the root's derivative, from both
    factors of the square. -/
theorem rmsb_eq (v dn : Fin 1024 → ℝ) (d : Fin 1024) :
    dn d * rs v + v d * ((∑ e, v e * dn e) * (-(1 / 2) * (rs v * rs v * rs v)) / 1024)
      + (∑ e, v e * dn e) * (-(1 / 2) * (rs v * rs v * rs v)) / 1024 * v d = rmsb v dn d := by
  have h : ∑ e, dn e * xh v e = rs v * ∑ e, v e * dn e := by
    rw [Finset.mul_sum]; exact Finset.sum_congr rfl fun e _ => by unfold xh; ring
  unfold rmsb
  rw [h]
  unfold xh
  ring

namespace Par
variable (p : Par) (x y : Fin 1024 → ℝ)

def nrm (d : Fin 1024) : ℝ := xh x d * p.g d
def h (d : Fin 1024) : ℝ := p.nrm x d * (1 + p.sc d) + p.sh d
def gate (k : Fin 2816) : ℝ := lin p.wg (p.h x) k
def up (k : Fin 2816) : ℝ := lin p.wu (p.h x) k
def act (k : Fin 2816) : ℝ := p.gate x k * lgs (p.gate x k) * p.up x k
def f (d : Fin 1024) : ℝ := back p.wd (p.act x) d
def x3 (d : Fin 1024) : ℝ := x d + p.gt d * p.f x d
def diff (d : Fin 1024) : ℝ := xh (p.x3 x) d * p.gf d - y d
def dout (d : Fin 1024) : ℝ := p.diff x y d * (1 / 1024)
def dn3 (d : Fin 1024) : ℝ := p.dout x y d * p.gf d
def dx3 (d : Fin 1024) : ℝ := rmsb (p.x3 x) (p.dn3 x y) d
def df (d : Fin 1024) : ℝ := p.dx3 x y d * p.gt d
def dact (k : Fin 2816) : ℝ := lin p.wd (p.df x y) k
def dup (k : Fin 2816) : ℝ := p.dact x y k * (p.gate x k * lgs (p.gate x k))
def dgate (k : Fin 2816) : ℝ :=
  p.dact x y k * p.up x k * (lgs (p.gate x k) * (1 + p.gate x k * (1 - lgs (p.gate x k))))
def dh (d : Fin 1024) : ℝ := back p.wg (p.dgate x y) d + back p.wu (p.dup x y) d
def dn2 (d : Fin 1024) : ℝ := p.dh x y d * (1 + p.sc d)
def dxh2 (d : Fin 1024) : ℝ := p.dn2 x y d * p.g d
def dx (d : Fin 1024) : ℝ := p.dx3 x y d + rmsb x (p.dxh2 x y) d

/-- The sums over tokens in their order in the result: the gains' and the modulation's gradients and the
    squared error; the last two rows are zero. -/
def vec (i : Fin 8) (d : Fin 1024) : ℝ :=
  match i with
  | 0 => p.dout x y d * xh (p.x3 x) d
  | 1 => p.dx3 x y d * p.f x d
  | 2 => p.dh x y d
  | 3 => p.dh x y d * p.nrm x d
  | 4 => p.dn2 x y d * xh x d
  | 5 => p.diff x y d * p.diff x y d
  | 6 => 0
  | 7 => 0

end Par

/-- The rows of the modulation that the second half of the block uses. -/
structure Rows (mm : Fin 6144 → ℝ) (p : Par) : Prop where
  sh : p.sh = fun d => mm ⟨3072 + d.val, by omega⟩
  sc : p.sc = fun d => mm ⟨4096 + d.val, by omega⟩
  gt : p.gt = fun d => mm ⟨5120 + d.val, by omega⟩

end Cert.Hand.Ffn
end
-- ==== Proof.Mix.Row.lean ====
/- The backward pass of the convolution and pooling mixer over the real numbers: on one token where the token's own
   rows suffice, and over the whole sequence for the convolution's taps and the pooling windows, which look ahead. -/
module

public import proofs.«01_k».proof.Proof.Ffn.Row

@[expose] public section

noncomputable section
namespace Cert.Hand.Mix
open Idealize.ShloMosaic Cert.Hand
open Cert.Hand.Ffn (xh rmsb)

/-- What all tokens share: shift, scale and gate of the modulation, the norm's gain, the input weight, the
    convolution's taps and bias, the layer norm's gain and bias, the pooling's scale, the two branches' weights and
    the output weight. -/
structure Par where
  sh : Fin 1024 → ℝ
  sc : Fin 1024 → ℝ
  gt : Fin 1024 → ℝ
  g : Fin 1024 → ℝ
  win : Fin 1024 → Fin 1536 → ℝ
  dw : Fin 31 → Fin 512 → ℝ
  db : Fin 512 → ℝ
  lg : Fin 512 → ℝ
  lb : Fin 512 → ℝ
  pw : Fin 512 → Fin 512 → ℝ
  wg : Fin 4 → Fin 128 → Fin 128 → ℝ
  ps : Fin 512 → ℝ
  wo : Fin 1024 → Fin 1024 → ℝ

/-- The convolution branch's half of a concatenated row, and the pooling branch's. -/
def lo (c : Fin 512) : Fin 1024 := ⟨c.val, by omega⟩
def hi (c : Fin 512) : Fin 1024 := ⟨512 + c.val, by omega⟩

/-- Channel `e` of pooling group `i`; the group of a channel and its place in the group. -/
def grp (i : Fin 4) (e : Fin 128) : Fin 512 := ⟨i.val * 128 + e.val, by omega⟩
def gof (c : Fin 512) : Fin 4 := ⟨c.val / 128, by omega⟩
def rof (c : Fin 512) : Fin 128 := ⟨c.val % 128, by omega⟩

theorem grp_of (c : Fin 512) : grp (gof c) (rof c) = c := Fin.ext (by simp only [grp, gof, rof]; omega)
theorem gof_grp (i : Fin 4) (e : Fin 128) : gof (grp i e) = i := Fin.ext (by simp only [grp, gof]; omega)
theorem rof_grp (i : Fin 4) (e : Fin 128) : rof (grp i e) = e := Fin.ext (by simp only [grp, rof]; omega)

/-- The window of a pooling group and how many tokens of it there are at token `t`. -/
def wid (i : Fin 4) : ℕ := 2 ^ (i.val + 1)
def cnt (i : Fin 4) (t : ℕ) : ℝ := ((min (t + 1) (wid i) : ℕ) : ℝ)

theorem cnt_pos (i : Fin 4) (t : ℕ) : 0 < cnt i t := by
  unfold cnt wid
  exact_mod_cast lt_min (Nat.succ_pos t) (pow_pos (by norm_num) _)

/-- The parts of the input product: the value and the gate of the gated unit, and the pooling branch's input. -/
def ua (u : Fin 1536 → ℝ) (c : Fin 512) : ℝ := u ⟨c.val, by omega⟩
def ug (u : Fin 1536 → ℝ) (c : Fin 512) : ℝ := u ⟨512 + c.val, by omega⟩
def uv (u : Fin 1536 → ℝ) (c : Fin 512) : ℝ := u ⟨1024 + c.val, by omega⟩
def sgg (u : Fin 1536 → ℝ) (c : Fin 512) : ℝ := lgs (ug u c)
def egg (u : Fin 1536 → ℝ) (c : Fin 512) : ℝ := Real.exp (-(ug u c))
def glu (u : Fin 1536 → ℝ) (c : Fin 512) : ℝ := ua u c * sgg u c

/-- The gradient of the input product from those of the gated unit and of the pooling branch's input. -/
def du (dglu : Fin 512 → ℝ) (u : Fin 1536 → ℝ) (dv : Fin 512 → ℝ) (q : Fin 1536) : ℝ :=
  if h : q.val < 512 then dglu ⟨q.val, h⟩ * sgg u ⟨q.val, h⟩
  else if h : q.val - 512 < 512 then
    dglu ⟨q.val - 512, h⟩ * ua u ⟨q.val - 512, h⟩ * sgg u ⟨q.val - 512, h⟩
      * (1 - sgg u ⟨q.val - 512, h⟩)
  else dv ⟨q.val - 512 - 512, by omega⟩

/-- Column `k` of chip `j` in the input weight. -/
def chip (j : Fin 4) (k : Fin 384) : Fin 1536 := ⟨j.val * 384 + k.val, by omega⟩

namespace Par
variable (p : Par) (ct x : Fin 1024 → ℝ) (z : Fin 512 → ℝ) (r : ℝ) (P : Fin 512 → ℝ)

def nrm (d : Fin 1024) : ℝ := xh x d * p.g d
def h (d : Fin 1024) : ℝ := p.nrm x d * (1 + p.sc d) + p.sh d
def dy (d : Fin 1024) : ℝ := ct d * p.gt d
def dycat (q : Fin 1024) : ℝ := ∑ d, p.dy ct d * p.wo q d
def dyc (c : Fin 512) : ℝ := p.dycat ct (lo c)
def dyp (c : Fin 512) : ℝ := p.dycat ct (hi c)
def dypb (c : Fin 512) : ℝ := p.dyp ct c * p.ps c
def ypg (i : Fin 4) (e : Fin 128) : ℝ := ∑ a, P (grp i a) * p.wg i a e
def ypre (c : Fin 512) : ℝ := p.ypg P (gof c) (rof c)
def dpg (i : Fin 4) (a : Fin 128) : ℝ := ∑ e, p.dypb ct (grp i e) * p.wg i a e
def dq (t : ℕ) (c : Fin 512) : ℝ := p.dpg ct (gof c) (rof c) / cnt (gof c) t
def zl (c : Fin 512) : ℝ := z c * p.lg c
def ln (c : Fin 512) : ℝ := p.zl z c + p.lb c
def sg (c : Fin 512) : ℝ := lgs (p.ln z c)
def sw (c : Fin 512) : ℝ := p.ln z c * p.sg z c
def dln (c : Fin 512) : ℝ := (∑ e, p.dyc ct e * p.pw c e) * (p.sg z c * (1 + p.ln z c * (1 - p.sg z c)))
def dz (c : Fin 512) : ℝ := p.dln ct z c * p.lg c
def dcv (c : Fin 512) : ℝ :=
  r * (p.dz ct z c - (∑ e, p.dz ct z e) / 512 - z c * ((∑ e, p.dz ct z e * z e) / 512))
def dh (v : Fin 1536 → ℝ) (d : Fin 1024) : ℝ := ∑ q, v q * p.win d q
def dhc (v : Fin 1536 → ℝ) (j : Fin 4) (d : Fin 1024) : ℝ := ∑ k : Fin 384, v (chip j k) * p.win d (chip j k)
def dh3 (v : Fin 1536 → ℝ) (d : Fin 1024) : ℝ := p.dhc v 0 d + p.dhc v 1 d + p.dhc v 2 d
def dn (e : Fin 1024 → ℝ) (d : Fin 1024) : ℝ := e d * (1 + p.sc d)
def dxh (e : Fin 1024 → ℝ) (d : Fin 1024) : ℝ := p.dn e d * p.g d
def inr (e : Fin 1024 → ℝ) (d : Fin 1024) : ℝ := p.dxh e d - xh x d * ((∑ k, p.dxh e k * xh x k) / 1024)
def gx (e : Fin 1024 → ℝ) (d : Fin 1024) : ℝ := ct d + rmsb x (p.dxh e) d

theorem dh_eq (v : Fin 1536 → ℝ) (d : Fin 1024) :
    p.dh v d = p.dh3 v d + p.dhc v 3 d := by
  unfold dh dh3 dhc
  rw [Fin.sum_univ_tiles 4 384 rfl, Fin.sum_univ_four]
  rfl

/-- The taps with a row of zeros after them. -/
def tap (k : ℕ) (c : Fin 512) : ℝ := if h : k < 31 then p.dw ⟨k, h⟩ c else 0

/-- The first `n` taps of the transposed convolution at row `s` of `D`. -/
def tapsum (D : ℕ → Fin 512 → ℝ) (n s : ℕ) (c : Fin 512) : ℝ := ∑ k ∈ Finset.range n, p.tap k c * D (30 - k + s) c

/-- The gradient of the pooling branch's input at row `s` of the divided gradients `E`: of one group, of all. -/
def dvg (E : ℕ → Fin 512 → ℝ) (s : ℕ) (i : Fin 4) (e : Fin 128) : ℝ :=
  ∑ d ∈ Finset.range (wid i), E (d + s) (grp i e) - p.dpg ct i e
def dv (E : ℕ → Fin 512 → ℝ) (s : ℕ) (c : Fin 512) : ℝ := p.dvg ct E s (gof c) (rof c)

end Par

/-- What the backward pass reads for every token: the gradient of its result, the sublayer's input, and the values
    the forward pass saved: the mixer's output, the input product, the normalised convolution, the root of its
    variance inverted, the pooled input. -/
structure Toks where
  ct : Fin 2048 → Fin 1024 → ℝ
  x : Fin 2048 → Fin 1024 → ℝ
  y : Fin 2048 → Fin 1024 → ℝ
  u : Fin 2048 → Fin 1536 → ℝ
  z : Fin 2048 → Fin 512 → ℝ
  r : Fin 2048 → ℝ
  p : Fin 2048 → Fin 512 → ℝ

/-- A sequence continued by zeros. -/
def ext (f : Fin 2048 → Fin 512 → ℝ) (s : ℕ) (c : Fin 512) : ℝ := if h : s < 2048 then f ⟨s, h⟩ c else 0

namespace Par
variable (p : Par) (S : Toks)

/-- The gradient of the convolution's result, and the pooling's gradient over the window's count, at every token. -/
def D : ℕ → Fin 512 → ℝ := ext fun t => p.dcv (S.ct t) (S.z t) (S.r t)
def E : ℕ → Fin 512 → ℝ := ext fun t => p.dq (S.ct t) t.val

def dglu (t : ℕ) (c : Fin 512) : ℝ := p.tapsum (p.D S) 31 t c
def duT (t : Fin 2048) : Fin 1536 → ℝ := du (p.dglu S t.val) (S.u t) (p.dv (S.ct t) (p.E S) t.val)
def dhT (t : Fin 2048) : Fin 1024 → ℝ := p.dh (p.duT S t)

/-- What token `t` adds to the modulation's and the norm gain's gradients; the last four rows are zero. -/
def vdr (ct x y e : Fin 1024 → ℝ) (i : Fin 8) (d : Fin 1024) : ℝ :=
  match i with
  | 0 => ct d * y d
  | 1 => e d
  | 2 => e d * p.nrm x d
  | 3 => p.dn e d * xh x d
  | _ => 0
def vd (t : Fin 2048) : Fin 8 → Fin 1024 → ℝ := p.vdr (S.ct t) (S.x t) (S.y t) (p.dhT S t)

/-- What token `t` adds to the gradients of the pooling's scale, the layer norm's gain and bias and the
    convolution's bias; the last four rows are zero. -/
def vcr (ct : Fin 1024 → ℝ) (z : Fin 512 → ℝ) (r : ℝ) (P : Fin 512 → ℝ) (i : Fin 8) (c : Fin 512) : ℝ :=
  match i with
  | 0 => p.dyp ct c * p.ypre P c
  | 1 => p.dln ct z c * z c
  | 2 => p.dln ct z c
  | 3 => p.dcv ct z r c
  | _ => 0
def vc (t : Fin 2048) : Fin 8 → Fin 512 → ℝ := p.vcr (S.ct t) (S.z t) (S.r t) (S.p t)

/-- What token `t` adds to the gradient of tap `k`; the last row is zero. -/
def ddw (t : Fin 2048) (k : ℕ) (c : Fin 512) : ℝ := if k < 31 then glu (S.u t) c * p.D S (30 - k + t.val) c else 0

def gpw (t : Fin 2048) (a e : Fin 512) : ℝ := p.sw (S.z t) a * p.dyc (S.ct t) e
def gwg (t : Fin 2048) (i : Fin 4) (a e : Fin 128) : ℝ := S.p t (grp i a) * p.dypb (S.ct t) (grp i e)

end Par
end Cert.Hand.Mix
end
-- ==== Proof.Up.lean ====
/- Arrays of extended reals that hold real numbers, by their entries. -/
module

public import Idealize.ShloMosaic.Lib.Pointwise
public import Mathlib.Data.EReal.Operations

@[expose] public section
set_option maxRecDepth 16384

noncomputable section
namespace Cert.Hand
open Idealize.ShloMosaic

/-- A vector of reals. -/
def up1 {a : ℕ} (f : Fin a → ℝ) : (⟨1, ![a]⟩ : Shape).Idx → EReal := fun i => ((f (i 0) : ℝ) : EReal)

/-- A matrix of reals as a block of extended reals, at any float type. -/
def up2 {a b : ℕ} (f : Fin a → Fin b → ℝ) : (⟨2, ![a, b]⟩ : Shape).Idx → EReal :=
  fun i => ((f (i 0) (i 1) : ℝ) : EReal)

/-- A stack of matrices of reals as a block of extended reals. -/
def up3 {a b c : ℕ} (f : Fin a → Fin b → Fin c → ℝ) : (⟨3, ![a, b, c]⟩ : Shape).Idx → EReal :=
  fun i => ((f (i 0) (i 1) (i 2) : ℝ) : EReal)

theorem up2_at {a b : ℕ} (f : Fin a → Fin b → ℝ) (i : Fin a) (j : Fin b) :
    up2 f (ix2 i j) = ((f i j : ℝ) : EReal) := rfl

theorem up3_at {a b c : ℕ} (f : Fin a → Fin b → Fin c → ℝ) (i : Fin a) (j : Fin b) (k : Fin c) :
    up3 f (ix3 i j k) = ((f i j k : ℝ) : EReal) := rfl

theorem up1_at {a : ℕ} (f : Fin a → ℝ) (i : Fin a) : up1 f (ix1 i) = ((f i : ℝ) : EReal) := rfl

/-- An array over all tokens, with a leading axis of one. -/
def tok {n : ℕ} (f : Fin 2048 → Fin n → ℝ) : (⟨3, ![1, 2048, n]⟩ : Shape).Idx → EReal := up3 fun (_ : Fin 1) t d => f t d

theorem tok_at {n : ℕ} (f : Fin 2048 → Fin n → ℝ) (z : Fin 1) (t : Fin 2048) (d : Fin n) :
    tok f (ix3 z t d) = ((f t d : ℝ) : EReal) := rfl

/-- One number for each token, with an axis of one on both sides. -/
def col (f : Fin 2048 → ℝ) : (⟨3, ![1, 2048, 1]⟩ : Shape).Idx → EReal := up3 fun (_ : Fin 1) t (_ : Fin 1) => f t

theorem col_at (f : Fin 2048 → ℝ) (z : Fin 1) (t : Fin 2048) (w : Fin 1) : col f (ix3 z t w) = ((f t : ℝ) : EReal) := rfl

/-- One number for each token, with a leading axis of one. -/
def col2 (f : Fin 2048 → ℝ) : (⟨2, ![1, 2048]⟩ : Shape).Idx → EReal := up2 fun (_ : Fin 1) t => f t

theorem col2_at (f : Fin 2048 → ℝ) (z : Fin 1) (t : Fin 2048) : col2 f (ix2 z t) = ((f t : ℝ) : EReal) := rfl

/-- A row shared by all tokens, with two leading axes of one. -/
def prm {n : ℕ} (v : Fin n → ℝ) : (⟨3, ![1, 1, n]⟩ : Shape).Idx → EReal := up3 fun (_ _ : Fin 1) d => v d

theorem prm_at {n : ℕ} (v : Fin n → ℝ) (z w : Fin 1) (d : Fin n) : prm v (ix3 z w d) = ((v d : ℝ) : EReal) := rfl

/-- A row with a leading axis of one. -/
def row1 {n : ℕ} (v : Fin n → ℝ) : (⟨2, ![1, n]⟩ : Shape).Idx → EReal := up2 fun (_ : Fin 1) d => v d

theorem row1_at {n : ℕ} (v : Fin n → ℝ) (z : Fin 1) (d : Fin n) : row1 v (ix2 z d) = ((v d : ℝ) : EReal) := rfl

/-- A matrix with a leading axis of one, given with its second axis first. -/
def wmat {n k : ℕ} (w : Fin k → Fin n → ℝ) : (⟨3, ![1, n, k]⟩ : Shape).Idx → EReal := up3 fun (_ : Fin 1) d h => w h d

theorem wmat_at {n k : ℕ} (w : Fin k → Fin n → ℝ) (z : Fin 1) (d : Fin n) (h : Fin k) :
    wmat w (ix3 z d h) = ((w h d : ℝ) : EReal) := rfl

/-- A sum over two axes of length one, at the front. -/
theorem sum_d01 {n : ℕ} (h : (⟨3, ![1, 1, n]⟩ : Shape).ReducesTo [0, 1] ⟨1, ![n]⟩) (v : (⟨3, ![1, 1, n]⟩ : Shape).Idx → EReal)
    (init : EReal) (d : Fin n) : Ideal.hostReduceAdd h v init (ix1 d) = init + v (ix3 0 0 d) := by
  have key : ∀ i : (⟨3, ![1, 1, n]⟩ : Shape).Idx, h.drop i = ix1 d ↔ i = ix3 0 0 d := by
    intro i
    constructor
    · intro e
      funext a
      match a with
      | ⟨0, _⟩ => exact Subsingleton.elim (α := Fin 1) _ _
      | ⟨1, _⟩ => exact Subsingleton.elim (α := Fin 1) _ _
      | ⟨2, _⟩ => exact Fin.ext (congrArg Fin.val (congrFun e 0))
    · rintro rfl
      funext a
      match a with
      | ⟨0, _⟩ => rfl
  unfold Ideal.hostReduceAdd
  simp only [key]
  rw [Finset.sum_filter, Finset.sum_ite_eq' Finset.univ (ix3 0 0 d) v, if_pos (Finset.mem_univ _)]

/-- A sum over two axes of length one, around the tokens. -/
theorem sum_d02 {n : ℕ} (h : (⟨3, ![1, n, 1]⟩ : Shape).ReducesTo [0, 2] ⟨1, ![n]⟩) (v : (⟨3, ![1, n, 1]⟩ : Shape).Idx → EReal)
    (init : EReal) (d : Fin n) : Ideal.hostReduceAdd h v init (ix1 d) = init + v (ix3 0 d 0) := by
  have key : ∀ i : (⟨3, ![1, n, 1]⟩ : Shape).Idx, h.drop i = ix1 d ↔ i = ix3 0 d 0 := by
    intro i
    constructor
    · intro e
      funext a
      match a with
      | ⟨0, _⟩ => exact Subsingleton.elim (α := Fin 1) _ _
      | ⟨1, _⟩ => exact Fin.ext (congrArg Fin.val (congrFun e 0))
      | ⟨2, _⟩ => exact Subsingleton.elim (α := Fin 1) _ _
    · rintro rfl
      funext a
      match a with
      | ⟨0, _⟩ => rfl
  unfold Ideal.hostReduceAdd
  simp only [key]
  rw [Finset.sum_filter, Finset.sum_ite_eq' Finset.univ (ix3 0 d 0) v, if_pos (Finset.mem_univ _)]

end Cert.Hand
end
-- ==== Proof.Mix.Pay.lean ====
/- Each value the kernel computes at one grid point, read at blocks that hold real numbers: the matching
   function of the token's row, or the matching sum over the tile's tokens. -/
module

public import proofs.«01_k».proof.Proof.Gen.Kernel2Ideal.Value
public import Idealize.ShloMosaic.Lib.Pipeline.ValueKit
public import proofs.«01_k».proof.Proof.Mix.Row
public import proofs.«01_k».proof.Proof.Up

@[expose] public section
set_option maxRecDepth 16384

noncomputable section
namespace Cert.Hand.Mix
open Idealize.ShloMosaic Cert.Hand Cert.Kernel2Ideal Cert.Kernel2Ideal.Gen
open Cert.Hand.Ffn (xh rmsb)

/-- A column with one number per token. -/
def colv {n : ℕ} (f : Fin n → ℝ) : (⟨2, ![n, 1]⟩ : Shape).Idx → EReal := up2 fun r (_ : Fin 1) => f r

theorem colv_at {n : ℕ} (f : Fin n → ℝ) (r : Fin n) (z : Fin 1) : colv f (ix2 r z) = ((f r : ℝ) : EReal) := rfl

/-- One matrix kept with a leading axis of one. -/
def g3 {a b : ℕ} (w : Fin a → Fin b → ℝ) : (⟨3, ![1, a, b]⟩ : Shape).Idx → EReal := up3 fun (_ : Fin 1) i j => w i j

theorem g3_at {a b : ℕ} (w : Fin a → Fin b → ℝ) (z : Fin 1) (i : Fin a) (j : Fin b) :
    g3 w (ix3 z i j) = ((w i j : ℝ) : EReal) := rfl

/-- Rows of a sequence from row `o` on. -/
def win2 {n : ℕ} (D : ℕ → Fin 512 → ℝ) (o : ℕ) : (⟨2, ![n, 512]⟩ : Shape).Idx → EReal := up2 fun (r : Fin n) c => D (o + r.val) c

theorem win2_at {n : ℕ} (D : ℕ → Fin 512 → ℝ) (o : ℕ) (r : Fin n) (c : Fin 512) :
    win2 D o (ix2 r c) = ((D (o + r.val) c : ℝ) : EReal) := rfl

/-- The same with a leading axis of one. -/
def win1 {n : ℕ} (D : ℕ → Fin 512 → ℝ) (o : ℕ) : (⟨3, ![1, n, 512]⟩ : Shape).Idx → EReal :=
  up3 fun (_ : Fin 1) (r : Fin n) c => D (o + r.val) c

theorem win1_at {n : ℕ} (D : ℕ → Fin 512 → ℝ) (o : ℕ) (z : Fin 1) (r : Fin n) (c : Fin 512) :
    win1 D o (ix3 z r c) = ((D (o + r.val) c : ℝ) : EReal) := rfl

/-- One pooling group's channels in rows from row `o` on. -/
def pwin (E : ℕ → Fin 512 → ℝ) (o : ℕ) (i : Fin 4) : (⟨2, ![256, 128]⟩ : Shape).Idx → EReal :=
  up2 fun (r : Fin 256) e => E (o + r.val) (grp i e)

theorem pwin_at (E : ℕ → Fin 512 → ℝ) (o : ℕ) (i : Fin 4) (r : Fin 256) (e : Fin 128) :
    pwin E o i (ix2 r e) = ((E (o + r.val) (grp i e) : ℝ) : EReal) := rfl

/-- The sum of the first `n` rows of a window. -/
def psum (E : ℕ → Fin 512 → ℝ) (n s : ℕ) (i : Fin 4) (e : Fin 128) : ℝ := ∑ d ∈ Finset.range n, E (d + s) (grp i e)

/-- The first `n` taps over a tile. -/
def acc (p : Par) (D : ℕ → Fin 512 → ℝ) (n : ℕ) : (⟨2, ![256, 512]⟩ : Shape).Idx → EReal :=
  up2 fun (r : Fin 256) => p.tapsum D n r.val

theorem acc_at (p : Par) (D : ℕ → Fin 512 → ℝ) (n : ℕ) (r : Fin 256) (c : Fin 512) :
    acc p D n (ix2 r c) = ((p.tapsum D n r.val c : ℝ) : EReal) := rfl

theorem lit_512 : Ideal.ofBits .f32 0x44000000#32 = ((512 : ℝ) : EReal) := by
  simp [Ideal.ofBits, Ideal.ieee, -EReal.coe_mul]; norm_num

theorem mean512_up (a : ℝ) : Ideal.div (a : EReal) (Ideal.ofBits .f32 0x44000000#32) = ((a / 512 : ℝ) : EReal) := by
  rw [lit_512, div_up (by norm_num)]

theorem two_grp (r : Fin 128) : (⟨r.val, by omega⟩ : Fin 512) = grp 0 r := Fin.ext (by simp only [grp]; omega)

theorem wid0 : wid 0 = 2 := rfl
theorem wid1 : wid 1 = 4 := rfl
theorem wid2 : wid 2 = 8 := rfl
theorem wid3 : wid 3 = 16 := rfl

theorem of0 (c : Fin 512) (h : c.val < 128) : gof c = 0 ∧ rof c = ⟨c.val, h⟩ :=
  ⟨Fin.ext (by simp [gof]; omega), Fin.ext (by simp [rof]; omega)⟩

theorem of1 (c : Fin 512) (h0 : ¬c.val < 128) (h : c.val - 128 < 128) : gof c = 1 ∧ rof c = ⟨c.val - 128, h⟩ :=
  ⟨Fin.ext (by simp [gof]; omega), Fin.ext (by simp [rof]; omega)⟩

theorem of2 (c : Fin 512) (h0 : ¬c.val < 128) (h1 : ¬c.val - 128 < 128) (h : c.val - 128 - 128 < 128) :
    gof c = 2 ∧ rof c = ⟨c.val - 128 - 128, h⟩ :=
  ⟨Fin.ext (by simp [gof]; omega), Fin.ext (by simp [rof]; omega)⟩

theorem of3 (c : Fin 512) (h0 : ¬c.val < 128) (h1 : ¬c.val - 128 < 128) (h2 : ¬c.val - 128 - 128 < 128) :
    gof c = 3 ∧ rof c = ⟨c.val - 128 - 128 - 128, by omega⟩ :=
  ⟨Fin.ext (by simp [gof]; omega), Fin.ext (by simp [rof]; omega)⟩

/-- The window's count as the kernel's words hold it. -/
theorem cnt_word (n k : ℕ) (hn : n < 2 ^ 20) (hk : k < 2 ^ 20) :
    (IntOp.minsi (IntOp.addi (BitVec.ofNat 32 n) 1#32) (BitVec.ofNat 32 k)).toInt = ((min (n + 1) k : ℕ) : ℤ) := by
  have e : IntOp.addi (BitVec.ofNat 32 n) 1#32 = BitVec.ofNat 32 (n + 1) := (BitVec.ofNat_add n 1).symm
  have a : (BitVec.ofNat 32 (n + 1)).toInt = ((n + 1 : ℕ) : ℤ) := by
    rw [BitVec.toInt_eq_toNat_of_lt] <;> rw [BitVec.toNat_ofNat] <;> omega
  have b : (BitVec.ofNat 32 k).toInt = (k : ℤ) := by
    rw [BitVec.toInt_eq_toNat_of_lt] <;> rw [BitVec.toNat_ofNat] <;> omega
  rw [e]
  unfold IntOp.minsi
  rw [BitVec.slt_eq_decide, a, b]
  by_cases h : ((n + 1 : ℕ) : ℤ) < k
  · rw [decide_eq_true h, if_pos rfl, a]; omega
  · rw [decide_eq_false h, if_neg (by decide), b]; omega

/-- Token `r` of tile `b`. -/
theorem pay18_at (b : ℕ) (r : Fin 256) (z : Fin 1) : k0_pay18 (BitVec.ofNat 32 b) (ix2 r z) = BitVec.ofNat 32 (b * 256 + r.val) := by
  pointwise [k0_pay18]
  rw [BitVec.ofNat_add, BitVec.ofNat_mul]
  rfl

variable (p : Par) (C X Y : Fin 256 → Fin 1024 → ℝ) (U : Fin 256 → Fin 1536 → ℝ) (Z P G V : Fin 256 → Fin 512 → ℝ)
  (R : Fin 256 → ℝ) (D E : ℕ → Fin 512 → ℝ) (L : Fin 256 → Fin 1024 → ℝ)

theorem pay2_up : k0_pay2 (F := Ideal)  = up2 fun _ _ => 0 := by
  funext i
  idx_vars i
  pointwise [k0_pay2]
  simp only [up1_at, up2_at, row1_at, colv_at, g3_at, win2_at, win1_at, pwin_at, acc_at, zero_up, one_up, sub_up, neg_up, mul_up, add_up, exp_up, sum_up, mean_up, mean512_up]

theorem pay3_up : k0_pay3 (F := Ideal)  = up3 fun _ _ _ => 0 := by
  funext i
  idx_vars i
  pointwise [k0_pay3]
  simp only [up1_at, up2_at, row1_at, colv_at, g3_at, win2_at, win1_at, pwin_at, acc_at, zero_up, one_up, sub_up, neg_up, mul_up, add_up, exp_up, sum_up, mean_up, mean512_up]
  try rfl

theorem pay4_up : k0_pay4 (F := Ideal)  = up2 fun _ _ => 0 := by
  funext i
  idx_vars i
  pointwise [k0_pay4]
  simp only [up1_at, up2_at, row1_at, colv_at, g3_at, win2_at, win1_at, pwin_at, acc_at, zero_up, one_up, sub_up, neg_up, mul_up, add_up, exp_up, sum_up, mean_up, mean512_up]

theorem pay5_up : k0_pay5 (F := Ideal)  = up2 fun _ _ => 0 := by
  funext i
  idx_vars i
  pointwise [k0_pay5]
  simp only [up1_at, up2_at, row1_at, colv_at, g3_at, win2_at, win1_at, pwin_at, acc_at, zero_up, one_up, sub_up, neg_up, mul_up, add_up, exp_up, sum_up, mean_up, mean512_up]

theorem pay6_up : k0_pay6 (F := Ideal)  = up2 fun _ _ => 0 := by
  funext i
  idx_vars i
  pointwise [k0_pay6]
  simp only [up1_at, up2_at, row1_at, colv_at, g3_at, win2_at, win1_at, pwin_at, acc_at, zero_up, one_up, sub_up, neg_up, mul_up, add_up, exp_up, sum_up, mean_up, mean512_up]

theorem pay7_up : k0_pay7 (F := Ideal)  = up2 fun _ _ => 0 := by
  funext i
  idx_vars i
  pointwise [k0_pay7]
  simp only [up1_at, up2_at, row1_at, colv_at, g3_at, win2_at, win1_at, pwin_at, acc_at, zero_up, one_up, sub_up, neg_up, mul_up, add_up, exp_up, sum_up, mean_up, mean512_up]

theorem pay8_up : k0_pay8 (F := Ideal)  = up2 fun _ _ => 0 := by
  funext i
  idx_vars i
  pointwise [k0_pay8]
  simp only [up1_at, up2_at, row1_at, colv_at, g3_at, win2_at, win1_at, pwin_at, acc_at, zero_up, one_up, sub_up, neg_up, mul_up, add_up, exp_up, sum_up, mean_up, mean512_up]

theorem pay9_up (w : Fin 1024 → ℝ) : k0_pay9 (F := Ideal) (row1 w) = row1 w := by
  funext i
  idx_vars i
  pointwise [k0_pay9]
  try rfl

theorem pay10_up (w : Fin 1024 → ℝ) : k0_pay10 (F := Ideal) (row1 w) = row1 w := by
  funext i
  idx_vars i
  pointwise [k0_pay10]
  try rfl

theorem pay11_up : k0_pay11 (F := Ideal) (up2 C) = up2 C := by
  funext i
  idx_vars i
  pointwise [k0_pay11]
  try rfl

theorem pay12_up (w : Fin 1024 → ℝ) : k0_pay12 (F := Ideal) (up2 C) (row1 w) (up2 Y) = row1 fun d => w d + ∑ r, C r d * Y r d := by
  funext i
  idx_vars i
  pointwise [k0_pay12, pay11_up]
  simp only [up1_at, up2_at, row1_at, colv_at, g3_at, win2_at, win1_at, pwin_at, acc_at, zero_up, one_up, sub_up, neg_up, mul_up, add_up, exp_up, sum_up, mean_up, mean512_up]
  try rfl

theorem pay13_up : k0_pay13 (F := Ideal) (row1 p.gt) (up2 C) = up2 fun r => p.dy (C r) := by
  funext i
  idx_vars i
  pointwise [k0_pay13, pay11_up]
  simp only [up1_at, up2_at, row1_at, colv_at, g3_at, win2_at, win1_at, pwin_at, acc_at, zero_up, one_up, sub_up, neg_up, mul_up, add_up, exp_up, sum_up, mean_up, mean512_up]
  try rfl

theorem pay14_up : k0_pay14 (F := Ideal) (row1 p.gt) (up2 C) (up2 p.wo) = up2 fun r => p.dycat (C r) := by
  funext i
  idx_vars i
  pointwise [k0_pay14, pay13_up]
  simp only [up1_at, up2_at, row1_at, colv_at, g3_at, win2_at, win1_at, pwin_at, acc_at, zero_up, one_up, sub_up, neg_up, mul_up, add_up, exp_up, sum_up, mean_up, mean512_up]
  try rfl

theorem pay15_up : k0_pay15 (F := Ideal) (row1 p.gt) (up2 C) (up2 p.wo) = up2 fun r => p.dyc (C r) := by
  funext i
  idx_vars i
  pointwise [k0_pay15, pay14_up]
  simp only [up1_at, up2_at, row1_at, colv_at, g3_at, win2_at, win1_at, pwin_at, acc_at, zero_up, one_up, sub_up, neg_up, mul_up, add_up, exp_up, sum_up, mean_up, mean512_up]
  try rfl

theorem pay16_up : k0_pay16 (F := Ideal) (row1 p.gt) (up2 C) (up2 p.wo) = up2 fun r => p.dyp (C r) := by
  funext i
  idx_vars i
  pointwise [k0_pay16, pay14_up]
  simp only [up1_at, up2_at, row1_at, colv_at, g3_at, win2_at, win1_at, pwin_at, acc_at, zero_up, one_up, sub_up, neg_up, mul_up, add_up, exp_up, sum_up, mean_up, mean512_up]
  try rfl

theorem pay17_up : k0_pay17 (F := Ideal) (up2 P) = up2 P := by
  funext i
  idx_vars i
  pointwise [k0_pay17]
  try rfl

theorem pay19_up : k0_pay19 (F := Ideal) (up2 fun r => p.dyp (C r)) (row1 p.ps) = up2 fun r => p.dypb (C r) := by
  funext i
  idx_vars i
  pointwise [k0_pay19]
  simp only [up1_at, up2_at, row1_at, colv_at, g3_at, win2_at, win1_at, pwin_at, acc_at, zero_up, one_up, sub_up, neg_up, mul_up, add_up, exp_up, sum_up, mean_up, mean512_up]
  try rfl

theorem pay20_up (w : Fin 128 → Fin 128 → ℝ) : k0_pay20 (F := Ideal) (up2 fun r => p.dyp (C r)) (up2 P) (row1 p.ps) (g3 w) = g3 fun a e => w a e + ∑ r, P r (grp 0 a) * p.dypb (C r) (grp 0 e) := by
  funext i
  idx_vars i
  pointwise [k0_pay20, pay17_up, pay19_up]
  simp only [up1_at, up2_at, row1_at, colv_at, g3_at, win2_at, win1_at, pwin_at, acc_at, zero_up, one_up, sub_up, neg_up, mul_up, add_up, exp_up, sum_up, mean_up, mean512_up]
  try simp only [two_grp]
  try rfl

theorem pay21_up : k0_pay21 (F := Ideal) (up2 P) (g3 (p.wg 0)) = up2 fun r => p.ypg (P r) 0 := by
  funext i
  idx_vars i
  pointwise [k0_pay21, pay17_up]
  simp only [up1_at, up2_at, row1_at, colv_at, g3_at, win2_at, win1_at, pwin_at, acc_at, zero_up, one_up, sub_up, neg_up, mul_up, add_up, exp_up, sum_up, mean_up, mean512_up]
  try simp only [two_grp]
  try rfl

theorem pay22_up : k0_pay22 (F := Ideal) (up2 fun r => p.dyp (C r)) (row1 p.ps) (g3 (p.wg 0)) = up2 fun r => p.dpg (C r) 0 := by
  funext i
  idx_vars i
  pointwise [k0_pay22, pay19_up]
  simp only [up1_at, up2_at, row1_at, colv_at, g3_at, win2_at, win1_at, pwin_at, acc_at, zero_up, one_up, sub_up, neg_up, mul_up, add_up, exp_up, sum_up, mean_up, mean512_up]
  try simp only [two_grp]
  try rfl

theorem pay24_up (w : Fin 128 → Fin 128 → ℝ) : k0_pay24 (F := Ideal) (up2 P) (up2 fun r => p.dypb (C r)) (g3 w) = g3 fun a e => w a e + ∑ r, P r (grp 1 a) * p.dypb (C r) (grp 1 e) := by
  funext i
  idx_vars i
  pointwise [k0_pay24]
  simp only [up1_at, up2_at, row1_at, colv_at, g3_at, win2_at, win1_at, pwin_at, acc_at, zero_up, one_up, sub_up, neg_up, mul_up, add_up, exp_up, sum_up, mean_up, mean512_up]
  try rfl

theorem pay25_up : k0_pay25 (F := Ideal) (up2 P) (g3 (p.wg 1)) = up2 fun r => p.ypg (P r) 1 := by
  funext i
  idx_vars i
  pointwise [k0_pay25]
  simp only [up1_at, up2_at, row1_at, colv_at, g3_at, win2_at, win1_at, pwin_at, acc_at, zero_up, one_up, sub_up, neg_up, mul_up, add_up, exp_up, sum_up, mean_up, mean512_up]
  try rfl

theorem pay26_up : k0_pay26 (F := Ideal) (up2 fun r => p.dypb (C r)) (g3 (p.wg 1)) = up2 fun r => p.dpg (C r) 1 := by
  funext i
  idx_vars i
  pointwise [k0_pay26]
  simp only [up1_at, up2_at, row1_at, colv_at, g3_at, win2_at, win1_at, pwin_at, acc_at, zero_up, one_up, sub_up, neg_up, mul_up, add_up, exp_up, sum_up, mean_up, mean512_up]
  try rfl

theorem pay28_up (w : Fin 128 → Fin 128 → ℝ) : k0_pay28 (F := Ideal) (up2 P) (up2 fun r => p.dypb (C r)) (g3 w) = up2 fun a e => w a e + ∑ r, P r (grp 2 a) * p.dypb (C r) (grp 2 e) := by
  funext i
  idx_vars i
  pointwise [k0_pay28]
  simp only [up1_at, up2_at, row1_at, colv_at, g3_at, win2_at, win1_at, pwin_at, acc_at, zero_up, one_up, sub_up, neg_up, mul_up, add_up, exp_up, sum_up, mean_up, mean512_up]
  try rfl

theorem pay29_up (w : Fin 128 → Fin 128 → ℝ) : k0_pay29 (F := Ideal) (up2 w) = g3 w := by
  funext i
  idx_vars i
  pointwise [k0_pay29]
  try rfl

theorem pay30_up : k0_pay30 (F := Ideal) (up2 P) (g3 (p.wg 2)) = up2 fun r => p.ypg (P r) 2 := by
  funext i
  idx_vars i
  pointwise [k0_pay30]
  simp only [up1_at, up2_at, row1_at, colv_at, g3_at, win2_at, win1_at, pwin_at, acc_at, zero_up, one_up, sub_up, neg_up, mul_up, add_up, exp_up, sum_up, mean_up, mean512_up]
  try rfl

theorem pay31_up : k0_pay31 (F := Ideal) (up2 fun r => p.dypb (C r)) (g3 (p.wg 2)) = up2 fun r => p.dpg (C r) 2 := by
  funext i
  idx_vars i
  pointwise [k0_pay31]
  simp only [up1_at, up2_at, row1_at, colv_at, g3_at, win2_at, win1_at, pwin_at, acc_at, zero_up, one_up, sub_up, neg_up, mul_up, add_up, exp_up, sum_up, mean_up, mean512_up]
  try rfl

theorem pay33_up (w : Fin 128 → Fin 128 → ℝ) : k0_pay33 (F := Ideal) (up2 P) (up2 fun r => p.dypb (C r)) (g3 w) = g3 fun a e => w a e + ∑ r, P r (grp 3 a) * p.dypb (C r) (grp 3 e) := by
  funext i
  idx_vars i
  pointwise [k0_pay33]
  simp only [up1_at, up2_at, row1_at, colv_at, g3_at, win2_at, win1_at, pwin_at, acc_at, zero_up, one_up, sub_up, neg_up, mul_up, add_up, exp_up, sum_up, mean_up, mean512_up]
  try rfl

theorem pay34_up : k0_pay34 (F := Ideal) (up2 P) = up2 fun r e => P r (grp 3 e) := by
  funext i
  idx_vars i
  pointwise [k0_pay34]
  simp only [up1_at, up2_at, row1_at, colv_at, g3_at, win2_at, win1_at, pwin_at, acc_at, zero_up, one_up, sub_up, neg_up, mul_up, add_up, exp_up, sum_up, mean_up, mean512_up]
  try rfl

theorem pay35_up (w : Fin 128 → Fin 128 → ℝ) : k0_pay35 (F := Ideal) (g3 w) = up2 w := by
  funext i
  idx_vars i
  pointwise [k0_pay35]
  try rfl

theorem pay36_up : k0_pay36 (F := Ideal) (up2 fun r => p.dypb (C r)) (g3 (p.wg 3)) = up2 fun r => p.dpg (C r) 3 := by
  funext i
  idx_vars i
  pointwise [k0_pay36]
  simp only [up1_at, up2_at, row1_at, colv_at, g3_at, win2_at, win1_at, pwin_at, acc_at, zero_up, one_up, sub_up, neg_up, mul_up, add_up, exp_up, sum_up, mean_up, mean512_up]
  try rfl

theorem pay23_up (b : ℕ) (hb : b < 8) : k0_pay23 (F := Ideal) (BitVec.ofNat 32 b) (up2 fun r => p.dyp (C r)) (row1 p.ps) (g3 (p.wg 0)) = up2 fun r e => p.dq (C r) (b * 256 + r.val) (grp 0 e) := by
  funext i
  idx_vars i
  pointwise [k0_pay23, pay22_up]
  rw [pay18_at]
  refine (congrArg (fun z : ℤ => Ideal.div (up2 (fun r => p.dpg (C r) 0) (ix2 i0 i1)) (((z : ℝ) : EReal)))
    (cnt_word (b * 256 + i0.val) 2 (by omega) (by norm_num))).trans ?_
  refine (div_up (cnt_pos 0 (b * 256 + i0.val)).ne' _).trans ?_
  simp only [up2_at, Par.dq, gof_grp, rof_grp]
  rfl

theorem pay27_up (b : ℕ) (hb : b < 8) : k0_pay27 (F := Ideal) (k0_pay18 (BitVec.ofNat 32 b)) (up2 fun r => p.dypb (C r)) (g3 (p.wg 1)) = up2 fun r e => p.dq (C r) (b * 256 + r.val) (grp 1 e) := by
  funext i
  idx_vars i
  pointwise [k0_pay27, pay26_up]
  rw [pay18_at]
  refine (congrArg (fun z : ℤ => Ideal.div (up2 (fun r => p.dpg (C r) 1) (ix2 i0 i1)) (((z : ℝ) : EReal)))
    (cnt_word (b * 256 + i0.val) 4 (by omega) (by norm_num))).trans ?_
  refine (div_up (cnt_pos 1 (b * 256 + i0.val)).ne' _).trans ?_
  simp only [up2_at, Par.dq, gof_grp, rof_grp]
  rfl

theorem pay32_up (b : ℕ) (hb : b < 8) : k0_pay32 (F := Ideal) (k0_pay18 (BitVec.ofNat 32 b)) (up2 fun r => p.dypb (C r)) (g3 (p.wg 2)) = up2 fun r e => p.dq (C r) (b * 256 + r.val) (grp 2 e) := by
  funext i
  idx_vars i
  pointwise [k0_pay32, pay31_up]
  rw [pay18_at]
  refine (congrArg (fun z : ℤ => Ideal.div (up2 (fun r => p.dpg (C r) 2) (ix2 i0 i1)) (((z : ℝ) : EReal)))
    (cnt_word (b * 256 + i0.val) 8 (by omega) (by norm_num))).trans ?_
  refine (div_up (cnt_pos 2 (b * 256 + i0.val)).ne' _).trans ?_
  simp only [up2_at, Par.dq, gof_grp, rof_grp]
  rfl

theorem pay37_up (b : ℕ) (hb : b < 8) : k0_pay37 (F := Ideal) (k0_pay18 (BitVec.ofNat 32 b)) (up2 fun r => p.dypb (C r)) (g3 (p.wg 3)) = up2 fun r e => p.dq (C r) (b * 256 + r.val) (grp 3 e) := by
  funext i
  idx_vars i
  pointwise [k0_pay37, pay36_up]
  rw [pay18_at]
  refine (congrArg (fun z : ℤ => Ideal.div (up2 (fun r => p.dpg (C r) 3) (ix2 i0 i1)) (((z : ℝ) : EReal)))
    (cnt_word (b * 256 + i0.val) 16 (by omega) (by norm_num))).trans ?_
  refine (div_up (cnt_pos 3 (b * 256 + i0.val)).ne' _).trans ?_
  simp only [up2_at, Par.dq, gof_grp, rof_grp]
  rfl

theorem pay38_up (w : Fin 512 → ℝ) : k0_pay38 (F := Ideal) (up2 fun r => p.dyp (C r)) (up2 fun r => p.ypg (P r) 0) (up2 fun r => p.ypg (P r) 1) (up2 fun r => p.ypg (P r) 2) (up2 fun r e => P r (grp 3 e)) (up2 (p.wg 3)) (constant (F := Ideal) S256x128 FTy.f32 0x00000000#32) (row1 w) = row1 fun c => w c + ∑ r, p.dyp (C r) c * p.ypre (P r) c := by
  funext i
  idx_vars i
  pointwise [k0_pay38]
  by_cases h0 : i1.val < 128
  · simp only [dif_pos h0, up1_at, up2_at, row1_at, colv_at, g3_at, win2_at, win1_at, pwin_at, acc_at, zero_up, one_up, sub_up, neg_up, mul_up, add_up, exp_up, sum_up, mean_up, mean512_up]
    simp only [Par.ypre, (of0 i1 h0).1, (of0 i1 h0).2]
    try simp only [psum, Par.dvg, wid3, Finset.sum_range_succ, Finset.sum_range_zero, zero_add]
    try rfl
  by_cases h1 : i1.val - 128 < 128
  · simp only [dif_neg h0, dif_pos h1, up1_at, up2_at, row1_at, colv_at, g3_at, win2_at, win1_at, pwin_at, acc_at, zero_up, one_up, sub_up, neg_up, mul_up, add_up, exp_up, sum_up, mean_up, mean512_up]
    simp only [Par.ypre, (of1 i1 h0 h1).1, (of1 i1 h0 h1).2]
    try simp only [psum, Par.dvg, wid3, Finset.sum_range_succ, Finset.sum_range_zero, zero_add]
    try rfl
  by_cases h2 : i1.val - 128 - 128 < 128
  · simp only [dif_neg h0, dif_neg h1, dif_pos h2, up1_at, up2_at, row1_at, colv_at, g3_at, win2_at, win1_at, pwin_at, acc_at, zero_up, one_up, sub_up, neg_up, mul_up, add_up, exp_up, sum_up, mean_up, mean512_up]
    simp only [Par.ypre, (of2 i1 h0 h1 h2).1, (of2 i1 h0 h1 h2).2]
    try simp only [psum, Par.dvg, wid3, Finset.sum_range_succ, Finset.sum_range_zero, zero_add]
    try rfl
  simp only [dif_neg h0, dif_neg h1, dif_neg h2, up1_at, up2_at, row1_at, colv_at, g3_at, win2_at, win1_at, pwin_at, acc_at, zero_up, one_up, sub_up, neg_up, mul_up, add_up, exp_up, sum_up, mean_up, mean512_up]
  simp only [Par.ypre, (of3 i1 h0 h1 h2).1, (of3 i1 h0 h1 h2).2]
  try simp only [psum, Par.dvg, wid3, Finset.sum_range_succ, Finset.sum_range_zero, zero_add]
  try rfl

theorem pay39_up : k0_pay39 (F := Ideal) (up2 fun r => p.dpg (C r) 0) (pwin E 0 0) (pwin E 1 0) = up2 fun r => p.dvg (C r) E r.val 0 := by
  funext i
  idx_vars i
  pointwise [k0_pay39]
  simp only [up1_at, up2_at, row1_at, colv_at, g3_at, win2_at, win1_at, pwin_at, acc_at, zero_up, one_up, sub_up, neg_up, mul_up, add_up, exp_up, sum_up, mean_up, mean512_up]
  simp only [psum, Par.dvg, wid0, wid1, wid2, Finset.sum_range_succ, Finset.sum_range_zero, zero_add]
  try rfl

theorem pay40_up : k0_pay40 (F := Ideal) (pwin E 0 1) (pwin E 1 1) (pwin E 2 1) = up2 fun r => psum E 3 r.val 1 := by
  funext i
  idx_vars i
  pointwise [k0_pay40]
  simp only [up1_at, up2_at, row1_at, colv_at, g3_at, win2_at, win1_at, pwin_at, acc_at, zero_up, one_up, sub_up, neg_up, mul_up, add_up, exp_up, sum_up, mean_up, mean512_up]
  simp only [psum, Par.dvg, wid0, wid1, wid2, Finset.sum_range_succ, Finset.sum_range_zero, zero_add]
  try rfl

theorem pay41_up : k0_pay41 (F := Ideal) (up2 fun r => p.dpg (C r) 1) (up2 fun r => psum E 3 r.val 1) (pwin E 3 1) = up2 fun r => p.dvg (C r) E r.val 1 := by
  funext i
  idx_vars i
  pointwise [k0_pay41]
  simp only [up1_at, up2_at, row1_at, colv_at, g3_at, win2_at, win1_at, pwin_at, acc_at, zero_up, one_up, sub_up, neg_up, mul_up, add_up, exp_up, sum_up, mean_up, mean512_up]
  simp only [psum, Par.dvg, wid0, wid1, wid2, Finset.sum_range_succ, Finset.sum_range_zero, zero_add]
  try rfl

theorem pay42_up : k0_pay42 (F := Ideal) (up2 fun r => p.dpg (C r) 2) (pwin E 0 2) (pwin E 1 2) (pwin E 2 2) (pwin E 3 2) (pwin E 4 2) (pwin E 5 2) (pwin E 6 2) (pwin E 7 2) = up2 fun r => p.dvg (C r) E r.val 2 := by
  funext i
  idx_vars i
  pointwise [k0_pay42]
  simp only [up1_at, up2_at, row1_at, colv_at, g3_at, win2_at, win1_at, pwin_at, acc_at, zero_up, one_up, sub_up, neg_up, mul_up, add_up, exp_up, sum_up, mean_up, mean512_up]
  simp only [psum, Par.dvg, wid0, wid1, wid2, Finset.sum_range_succ, Finset.sum_range_zero, zero_add]
  try rfl

theorem pay43_up : k0_pay43 (F := Ideal) (pwin E 0 3) (pwin E 1 3) (pwin E 2 3) (pwin E 3 3) (pwin E 4 3) (pwin E 5 3) = up2 fun r => psum E 6 r.val 3 := by
  funext i
  idx_vars i
  pointwise [k0_pay43]
  simp only [up1_at, up2_at, row1_at, colv_at, g3_at, win2_at, win1_at, pwin_at, acc_at, zero_up, one_up, sub_up, neg_up, mul_up, add_up, exp_up, sum_up, mean_up, mean512_up]
  simp only [psum, Par.dvg, wid0, wid1, wid2, Finset.sum_range_succ, Finset.sum_range_zero, zero_add]
  try rfl

theorem pay44_up : k0_pay44 (F := Ideal) (up2 fun r => p.dpg (C r) 3) (up2 fun r => p.dvg (C r) E r.val 0) (up2 fun r => p.dvg (C r) E r.val 1) (up2 fun r => p.dvg (C r) E r.val 2) (up2 fun r => psum E 6 r.val 3) (pwin E 6 3) (pwin E 7 3) (pwin E 8 3) (pwin E 9 3) (pwin E 10 3) (pwin E 11 3) (pwin E 12 3) (pwin E 13 3) (pwin E 14 3) (pwin E 15 3) = up2 fun r => p.dv (C r) E r.val := by
  funext i
  idx_vars i
  pointwise [k0_pay44]
  by_cases h0 : i1.val < 128
  · simp only [dif_pos h0, up1_at, up2_at, row1_at, colv_at, g3_at, win2_at, win1_at, pwin_at, acc_at, zero_up, one_up, sub_up, neg_up, mul_up, add_up]
    simp only [Par.dv, (of0 i1 h0).1, (of0 i1 h0).2]
    try simp only [psum, Par.dvg, wid3, Finset.sum_range_succ, Finset.sum_range_zero, zero_add]
    try rfl
  by_cases h1 : i1.val - 128 < 128
  · simp only [dif_neg h0, dif_pos h1, up2_at, pwin_at, sub_up, add_up]
    simp only [Par.dv, (of1 i1 h0 h1).1, (of1 i1 h0 h1).2]
    try simp only [psum, Par.dvg, wid3, Finset.sum_range_succ, Finset.sum_range_zero, zero_add]
    try rfl
  by_cases h2 : i1.val - 128 - 128 < 128
  · simp only [dif_neg h0, dif_neg h1, dif_pos h2, up2_at, pwin_at, sub_up, add_up]
    simp only [Par.dv, (of2 i1 h0 h1 h2).1, (of2 i1 h0 h1 h2).2]
    try simp only [psum, Par.dvg, wid3, Finset.sum_range_succ, Finset.sum_range_zero, zero_add]
    try rfl
  simp only [dif_neg h0, dif_neg h1, dif_neg h2, up2_at, pwin_at, sub_up, add_up]
  simp only [Par.dv, (of3 i1 h0 h1 h2).1, (of3 i1 h0 h1 h2).2]
  try simp only [psum, Par.dvg, wid3, Finset.sum_range_succ, Finset.sum_range_zero, zero_add]
  try rfl

theorem pay45_up (o : ℕ) : k0_pay45 (F := Ideal) (win2 E o) = win2 E o := by
  funext i
  idx_vars i
  pointwise [k0_pay45]
  try rfl

theorem pay46_up : k0_pay46 (F := Ideal) (up2 Z) = up2 Z := by
  funext i
  idx_vars i
  pointwise [k0_pay46]
  try rfl

theorem pay47_up : k0_pay47 (F := Ideal) (up2 Z) (row1 p.lg) = up2 fun r => p.zl (Z r) := by
  funext i
  idx_vars i
  pointwise [k0_pay47, pay46_up]
  simp only [up2_at, row1_at, mul_up]
  try rfl

theorem pay48_up : k0_pay48 (F := Ideal) (up2 fun r => p.zl (Z r)) (row1 p.lb) = up2 fun r => p.ln (Z r) := by
  funext i
  idx_vars i
  pointwise [k0_pay48]
  simp only [up2_at, row1_at, add_up]
  try rfl

theorem pay49_up : k0_pay49 (F := Ideal) (up2 fun r => p.zl (Z r)) (row1 p.lb) = up2 fun r => p.sg (Z r) := by
  funext i
  idx_vars i
  pointwise [k0_pay49, pay48_up]
  simp only [up2_at, zero_sub, neg_up, exp_up, lgs_up]
  rfl

theorem pay50_up : k0_pay50 (F := Ideal) (up2 fun r => p.dyc (C r)) = up2 fun r => p.dyc (C r) := by
  funext i
  idx_vars i
  pointwise [k0_pay50]
  try rfl

theorem pay51_up (w : Fin 512 → Fin 512 → ℝ) : k0_pay51 (F := Ideal) (up2 fun r => p.dyc (C r)) (up2 fun r => p.zl (Z r)) (row1 p.lb) (up2 w) = up2 fun a e => w a e + ∑ r, p.sw (Z r) a * p.dyc (C r) e := by
  funext i
  idx_vars i
  pointwise [k0_pay51, pay48_up, pay49_up, pay50_up]
  simp only [up2_at, mul_up, add_up, sum_up]
  try rfl

theorem pay52_up : k0_pay52 (F := Ideal) (up2 fun r => p.dyc (C r)) (up2 fun r => p.zl (Z r)) (row1 p.lb) (up2 p.pw) = up2 fun r => p.dln (C r) (Z r) := by
  funext i
  idx_vars i
  pointwise [k0_pay52, pay48_up, pay49_up, pay50_up]
  simp only [up2_at, one_up, sub_up, mul_up, add_up, sum_up]
  try rfl

theorem pay53_up (w : Fin 512 → ℝ) : k0_pay53 (F := Ideal) (up2 fun r => p.dyc (C r)) (up2 Z) (up2 fun r => p.zl (Z r)) (row1 p.lb) (up2 p.pw) (row1 w) = row1 fun c => w c + ∑ r, p.dln (C r) (Z r) c * Z r c := by
  funext i
  idx_vars i
  pointwise [k0_pay53, pay52_up]
  simp only [up2_at, row1_at, mul_up, add_up, sum_up]
  try rfl

theorem pay54_up (w : Fin 512 → ℝ) : k0_pay54 (F := Ideal) (row1 w) = row1 w := by
  funext i
  idx_vars i
  pointwise [k0_pay54]
  try rfl

theorem pay55_up : k0_pay55 (F := Ideal) (up2 fun r => p.dyc (C r)) (up2 fun r => p.zl (Z r)) (row1 p.lb) (up2 p.pw) = up1 fun c => ∑ r, p.dln (C r) (Z r) c := by
  funext i
  idx_vars i
  pointwise [k0_pay55, pay52_up]
  simp only [up1_at, up2_at, sum_up]
  try rfl

theorem pay56_up (w v : Fin 512 → ℝ) : k0_pay56 (F := Ideal) (row1 w) (up1 v) = row1 fun c => w c + v c := by
  funext i
  idx_vars i
  pointwise [k0_pay56]
  simp only [up1_at, row1_at, add_up]
  try rfl

theorem pay57_up : k0_pay57 (F := Ideal) (up2 Z) (row1 p.lg) (up2 fun r => p.dln (C r) (Z r)) (colv R) = up2 fun r => p.dcv (C r) (Z r) (R r) := by
  funext i
  idx_vars i
  pointwise [k0_pay57]
  simp only [up2_at, row1_at, colv_at, sub_up, mul_up, sum_up, mean512_up]
  try rfl

theorem pay58_up (w : Fin 512 → ℝ) : k0_pay58 (F := Ideal) (up2 Z) (row1 p.lg) (up2 fun r => p.dln (C r) (Z r)) (colv R) (row1 w) = row1 fun c => w c + ∑ r, p.dcv (C r) (Z r) (R r) c := by
  funext i
  idx_vars i
  pointwise [k0_pay58, pay57_up]
  simp only [up2_at, row1_at, add_up, sum_up]
  try rfl

theorem pay59_up : k0_pay59 (F := Ideal) (up2 Z) (row1 p.lg) (up2 fun r => p.dln (C r) (Z r)) (colv R) = up2 fun r => p.dcv (C r) (Z r) (R r) := by
  funext i
  idx_vars i
  pointwise [k0_pay59, pay57_up]
  try rfl

theorem pay60_up : k0_pay60 (F := Ideal) (up2 U) = up2 U := by
  funext i
  idx_vars i
  pointwise [k0_pay60]
  try rfl

theorem pay61_up : k0_pay61 (F := Ideal) (up2 U) = up2 fun r => ua (U r) := by
  funext i
  idx_vars i
  pointwise [k0_pay61, pay60_up]
  simp only [up2_at]
  try rfl

theorem pay62_up : k0_pay62 (F := Ideal) (up2 U) = up2 fun r => egg (U r) := by
  funext i
  idx_vars i
  pointwise [k0_pay62, pay60_up]
  simp only [up2_at, zero_sub, neg_up, exp_up]
  rfl

theorem pay63_up : k0_pay63 (F := Ideal) (up2 fun r => egg (U r)) = up2 fun r => sgg (U r) := by
  funext i
  idx_vars i
  pointwise [k0_pay63]
  simp only [up2_at, egg, lgs_up]
  rfl

theorem pay64_up : k0_pay64 (F := Ideal) (up2 fun r => ua (U r)) (up2 fun r => egg (U r)) = up2 fun r => glu (U r) := by
  funext i
  idx_vars i
  pointwise [k0_pay64, pay63_up]
  simp only [up2_at, mul_up]
  try rfl

theorem pay65_up (o : ℕ) : k0_pay65 (F := Ideal) (win2 D o) = win1 D o := by
  funext i
  idx_vars i
  pointwise [k0_pay65]
  try rfl

theorem pay66_up (o : ℕ) : k0_pay66 (F := Ideal) (win2 D o) = win1 D o := by
  funext i
  idx_vars i
  pointwise [k0_pay66]
  try rfl

theorem pay67_up (o : ℕ) : k0_pay67 (F := Ideal) (win2 D o) = win1 D o := by
  funext i
  idx_vars i
  pointwise [k0_pay67]
  try rfl

theorem pay68_up (o : ℕ) : k0_pay68 (F := Ideal) (win2 D o) = win1 D o := by
  funext i
  idx_vars i
  pointwise [k0_pay68]
  try rfl

theorem pay69_up (o : ℕ) : k0_pay69 (F := Ideal) (win2 D o) = win1 D o := by
  funext i
  idx_vars i
  pointwise [k0_pay69]
  try rfl

theorem pay70_up (o : ℕ) : k0_pay70 (F := Ideal) (win2 D o) = win1 D o := by
  funext i
  idx_vars i
  pointwise [k0_pay70]
  try rfl

theorem pay71_up (o : ℕ) : k0_pay71 (F := Ideal) (win2 D o) = win1 D o := by
  funext i
  idx_vars i
  pointwise [k0_pay71]
  try rfl

theorem pay72_up (o : ℕ) : k0_pay72 (F := Ideal) (win1 D o) = win2 D o := by
  funext i
  idx_vars i
  pointwise [k0_pay72]
  try rfl

theorem pay73_up (o : ℕ) (w : Fin 512 → ℝ) : k0_pay73 (F := Ideal) (up2 G) (win1 D o) (row1 w) = row1 fun c => w c + ∑ r : Fin 256, G r c * D (o + r.val) c := by
  funext i
  idx_vars i
  pointwise [k0_pay73, pay72_up]
  simp only [up2_at, row1_at, win2_at, mul_up, add_up, sum_up]
  try rfl

theorem pay74_up (o : ℕ) : k0_pay74 (F := Ideal) (win1 D o) = win2 D o := by
  funext i
  idx_vars i
  pointwise [k0_pay74]
  try rfl

theorem pay75_up : k0_pay75 (F := Ideal) (win1 D 30) (row1 (p.tap 0)) (win1 D 29) (row1 (p.tap 1)) = acc p D 2 := by
  funext i
  idx_vars i
  pointwise [k0_pay75, pay72_up, pay74_up]
  simp only [row1_at, win2_at, acc_at, mul_up, add_up]
  simp only [Par.tapsum, Finset.sum_range_succ, Finset.sum_range_zero, zero_add]
  try rfl

theorem pay76_up (w : Fin 512 → ℝ) : k0_pay76 (F := Ideal) (row1 w) = row1 w := by
  funext i
  idx_vars i
  pointwise [k0_pay76]
  try rfl

theorem pay77_up (o : ℕ) (w : Fin 512 → ℝ) : k0_pay77 (F := Ideal) (up2 G) (win2 D o) (row1 w) = row1 fun c => w c + ∑ r : Fin 256, G r c * D (o + r.val) c := by
  funext i
  idx_vars i
  pointwise [k0_pay77]
  simp only [up2_at, row1_at, win2_at, mul_up, add_up, sum_up]
  try rfl

theorem pay78_up (o : ℕ) : k0_pay78 (F := Ideal) (win1 D o) = win2 D o := by
  funext i
  idx_vars i
  pointwise [k0_pay78]
  try rfl

theorem pay79_up (o : ℕ) (w : Fin 512 → ℝ) : k0_pay79 (F := Ideal) (up2 G) (win1 D o) (row1 w) = row1 fun c => w c + ∑ r : Fin 256, G r c * D (o + r.val) c := by
  funext i
  idx_vars i
  pointwise [k0_pay79, pay78_up]
  simp only [up2_at, row1_at, win2_at, mul_up, add_up, sum_up]
  try rfl

theorem pay80_up (o : ℕ) : k0_pay80 (F := Ideal) (win1 D o) = win2 D o := by
  funext i
  idx_vars i
  pointwise [k0_pay80]
  try rfl

theorem pay81_up : k0_pay81 (F := Ideal) (acc p D 2) (win1 D 28) (row1 (p.tap 2)) (win1 D 27) (row1 (p.tap 3)) = acc p D 4 := by
  funext i
  idx_vars i
  pointwise [k0_pay81, pay78_up, pay80_up]
  simp only [row1_at, win2_at, acc_at, mul_up, add_up]
  simp only [Par.tapsum, Finset.sum_range_succ, Finset.sum_range_zero]
  try rfl

theorem pay82_up (o : ℕ) (w : Fin 512 → ℝ) : k0_pay82 (F := Ideal) (up2 G) (win1 D o) (row1 w) = row1 fun c => w c + ∑ r : Fin 256, G r c * D (o + r.val) c := by
  funext i
  idx_vars i
  pointwise [k0_pay82, pay80_up]
  simp only [up2_at, row1_at, win2_at, mul_up, add_up, sum_up]
  try rfl

theorem pay83_up (o : ℕ) : k0_pay83 (F := Ideal) (win1 D o) = win2 D o := by
  funext i
  idx_vars i
  pointwise [k0_pay83]
  try rfl

theorem pay84_up (o : ℕ) (w : Fin 512 → ℝ) : k0_pay84 (F := Ideal) (up2 G) (win1 D o) (row1 w) = row1 fun c => w c + ∑ r : Fin 256, G r c * D (o + r.val) c := by
  funext i
  idx_vars i
  pointwise [k0_pay84, pay83_up]
  simp only [up2_at, row1_at, win2_at, mul_up, add_up, sum_up]
  try rfl

theorem pay85_up (o : ℕ) : k0_pay85 (F := Ideal) (win1 D o) = win2 D o := by
  funext i
  idx_vars i
  pointwise [k0_pay85]
  try rfl

theorem pay86_up (o : ℕ) (w : Fin 512 → ℝ) : k0_pay86 (F := Ideal) (up2 G) (win1 D o) (row1 w) = row1 fun c => w c + ∑ r : Fin 256, G r c * D (o + r.val) c := by
  funext i
  idx_vars i
  pointwise [k0_pay86, pay85_up]
  simp only [up2_at, row1_at, win2_at, mul_up, add_up, sum_up]
  try rfl

theorem pay87_up : k0_pay87 (F := Ideal) (acc p D 4) (win1 D 26) (row1 (p.tap 4)) (win1 D 25) (row1 (p.tap 5)) (win2 D 24) (row1 (p.tap 6)) = acc p D 7 := by
  funext i
  idx_vars i
  pointwise [k0_pay87, pay83_up, pay85_up]
  simp only [row1_at, win2_at, acc_at, mul_up, add_up]
  simp only [Par.tapsum, Finset.sum_range_succ, Finset.sum_range_zero]
  try rfl

theorem pay88_up (o : ℕ) (w : Fin 512 → ℝ) : k0_pay88 (F := Ideal) (up2 G) (win2 D o) (row1 w) = row1 fun c => w c + ∑ r : Fin 256, G r c * D (o + r.val) c := by
  funext i
  idx_vars i
  pointwise [k0_pay88]
  simp only [up2_at, row1_at, win2_at, mul_up, add_up, sum_up]
  try rfl

theorem pay89_up (o : ℕ) : k0_pay89 (F := Ideal) (win1 D o) = win2 D o := by
  funext i
  idx_vars i
  pointwise [k0_pay89]
  try rfl

theorem pay90_up (o : ℕ) (w : Fin 512 → ℝ) : k0_pay90 (F := Ideal) (up2 G) (win1 D o) (row1 w) = row1 fun c => w c + ∑ r : Fin 256, G r c * D (o + r.val) c := by
  funext i
  idx_vars i
  pointwise [k0_pay90, pay89_up]
  simp only [up2_at, row1_at, win2_at, mul_up, add_up, sum_up]
  try rfl

theorem pay91_up (o : ℕ) : k0_pay91 (F := Ideal) (win1 D o) = win2 D o := by
  funext i
  idx_vars i
  pointwise [k0_pay91]
  try rfl

theorem pay92_up : k0_pay92 (F := Ideal) (acc p D 7) (win1 D 23) (row1 (p.tap 7)) (win1 D 22) (row1 (p.tap 8)) = acc p D 9 := by
  funext i
  idx_vars i
  pointwise [k0_pay92, pay89_up, pay91_up]
  simp only [row1_at, win2_at, acc_at, mul_up, add_up]
  simp only [Par.tapsum, Finset.sum_range_succ, Finset.sum_range_zero]
  try rfl

theorem pay93_up (o : ℕ) (w : Fin 512 → ℝ) : k0_pay93 (F := Ideal) (up2 G) (win1 D o) (row1 w) = row1 fun c => w c + ∑ r : Fin 256, G r c * D (o + r.val) c := by
  funext i
  idx_vars i
  pointwise [k0_pay93, pay91_up]
  simp only [up2_at, row1_at, win2_at, mul_up, add_up, sum_up]
  try rfl

theorem pay94_up (o : ℕ) : k0_pay94 (F := Ideal) (win1 D o) = win2 D o := by
  funext i
  idx_vars i
  pointwise [k0_pay94]
  try rfl

theorem pay95_up (o : ℕ) (w : Fin 512 → ℝ) : k0_pay95 (F := Ideal) (up2 G) (win1 D o) (row1 w) = row1 fun c => w c + ∑ r : Fin 256, G r c * D (o + r.val) c := by
  funext i
  idx_vars i
  pointwise [k0_pay95, pay94_up]
  simp only [up2_at, row1_at, win2_at, mul_up, add_up, sum_up]
  try rfl

theorem pay96_up (o : ℕ) : k0_pay96 (F := Ideal) (win1 D o) = win2 D o := by
  funext i
  idx_vars i
  pointwise [k0_pay96]
  try rfl

theorem pay97_up : k0_pay97 (F := Ideal) (acc p D 9) (win1 D 21) (row1 (p.tap 9)) (win1 D 20) (row1 (p.tap 10)) = acc p D 11 := by
  funext i
  idx_vars i
  pointwise [k0_pay97, pay94_up, pay96_up]
  simp only [row1_at, win2_at, acc_at, mul_up, add_up]
  simp only [Par.tapsum, Finset.sum_range_succ, Finset.sum_range_zero]
  try rfl

theorem pay98_up (o : ℕ) (w : Fin 512 → ℝ) : k0_pay98 (F := Ideal) (up2 G) (win1 D o) (row1 w) = row1 fun c => w c + ∑ r : Fin 256, G r c * D (o + r.val) c := by
  funext i
  idx_vars i
  pointwise [k0_pay98, pay96_up]
  simp only [up2_at, row1_at, win2_at, mul_up, add_up, sum_up]
  try rfl

theorem pay99_up (o : ℕ) : k0_pay99 (F := Ideal) (win1 D o) = win2 D o := by
  funext i
  idx_vars i
  pointwise [k0_pay99]
  try rfl

theorem pay100_up (o : ℕ) (w : Fin 512 → ℝ) : k0_pay100 (F := Ideal) (up2 G) (win2 D o) (row1 w) = row1 fun c => w c + ∑ r : Fin 256, G r c * D (o + r.val) c := by
  funext i
  idx_vars i
  pointwise [k0_pay100]
  simp only [up2_at, row1_at, win2_at, mul_up, add_up, sum_up]
  try rfl

theorem pay101_up (o : ℕ) : k0_pay101 (F := Ideal) (win1 D o) = win2 D o := by
  funext i
  idx_vars i
  pointwise [k0_pay101]
  try rfl

theorem pay102_up (o : ℕ) (w : Fin 512 → ℝ) : k0_pay102 (F := Ideal) (up2 G) (win1 D o) (row1 w) = row1 fun c => w c + ∑ r : Fin 256, G r c * D (o + r.val) c := by
  funext i
  idx_vars i
  pointwise [k0_pay102, pay101_up]
  simp only [up2_at, row1_at, win2_at, mul_up, add_up, sum_up]
  try rfl

theorem pay103_up (o : ℕ) : k0_pay103 (F := Ideal) (win1 D o) = win2 D o := by
  funext i
  idx_vars i
  pointwise [k0_pay103]
  try rfl

theorem pay104_up : k0_pay104 (F := Ideal) (acc p D 11) (win2 D 19) (row1 (p.tap 11)) (win1 D 18) (row1 (p.tap 12)) (win1 D 17) (row1 (p.tap 13)) = acc p D 14 := by
  funext i
  idx_vars i
  pointwise [k0_pay104, pay101_up, pay103_up]
  simp only [row1_at, win2_at, acc_at, mul_up, add_up]
  simp only [Par.tapsum, Finset.sum_range_succ, Finset.sum_range_zero]
  try rfl

theorem pay105_up (w : Fin 512 → ℝ) : k0_pay105 (F := Ideal) (row1 w) = row1 w := by
  funext i
  idx_vars i
  pointwise [k0_pay105]
  try rfl

theorem pay106_up (o : ℕ) : k0_pay106 (F := Ideal) (up2 G) (win1 D o) = up2 fun r c => G r c * D (o + r.val) c := by
  funext i
  idx_vars i
  pointwise [k0_pay106, pay103_up]
  simp only [up2_at, win2_at, mul_up]
  try rfl

theorem pay107_up (w : Fin 512 → ℝ) : k0_pay107 (F := Ideal) (row1 w) (up2 V) = row1 fun c => w c + ∑ r, V r c := by
  funext i
  idx_vars i
  pointwise [k0_pay107]
  simp only [up2_at, row1_at, add_up, sum_up]
  try rfl

theorem pay108_up (o : ℕ) (w : Fin 512 → ℝ) : k0_pay108 (F := Ideal) (up2 G) (win2 D o) (row1 w) = row1 fun c => w c + ∑ r : Fin 256, G r c * D (o + r.val) c := by
  funext i
  idx_vars i
  pointwise [k0_pay108]
  simp only [up2_at, row1_at, win2_at, mul_up, add_up, sum_up]
  try rfl

theorem pay109_up (o : ℕ) : k0_pay109 (F := Ideal) (win1 D o) = win2 D o := by
  funext i
  idx_vars i
  pointwise [k0_pay109]
  try rfl

theorem pay110_up : k0_pay110 (F := Ideal) (acc p D 14) (win2 D 16) (row1 (p.tap 14)) (win1 D 15) (row1 (p.tap 15)) = acc p D 16 := by
  funext i
  idx_vars i
  pointwise [k0_pay110, pay109_up]
  simp only [row1_at, win2_at, acc_at, mul_up, add_up]
  simp only [Par.tapsum, Finset.sum_range_succ, Finset.sum_range_zero]
  try rfl

theorem pay111_up (o : ℕ) (w : Fin 512 → ℝ) : k0_pay111 (F := Ideal) (up2 G) (win1 D o) (row1 w) = row1 fun c => w c + ∑ r : Fin 256, G r c * D (o + r.val) c := by
  funext i
  idx_vars i
  pointwise [k0_pay111, pay109_up]
  simp only [up2_at, row1_at, win2_at, mul_up, add_up, sum_up]
  try rfl

theorem pay112_up (o : ℕ) : k0_pay112 (F := Ideal) (win1 D o) = win2 D o := by
  funext i
  idx_vars i
  pointwise [k0_pay112]
  try rfl

theorem pay113_up (o : ℕ) (w : Fin 512 → ℝ) : k0_pay113 (F := Ideal) (up2 G) (win2 D o) (row1 w) = row1 fun c => w c + ∑ r : Fin 256, G r c * D (o + r.val) c := by
  funext i
  idx_vars i
  pointwise [k0_pay113]
  simp only [up2_at, row1_at, win2_at, mul_up, add_up, sum_up]
  try rfl

theorem pay114_up (o : ℕ) : k0_pay114 (F := Ideal) (win1 D o) = win2 D o := by
  funext i
  idx_vars i
  pointwise [k0_pay114]
  try rfl

theorem pay115_up (o : ℕ) (w : Fin 512 → ℝ) : k0_pay115 (F := Ideal) (up2 G) (win1 D o) (row1 w) = row1 fun c => w c + ∑ r : Fin 256, G r c * D (o + r.val) c := by
  funext i
  idx_vars i
  pointwise [k0_pay115, pay114_up]
  simp only [up2_at, row1_at, win2_at, mul_up, add_up, sum_up]
  try rfl

theorem pay116_up (o : ℕ) : k0_pay116 (F := Ideal) (win1 D o) = win2 D o := by
  funext i
  idx_vars i
  pointwise [k0_pay116]
  try rfl

theorem pay117_up : k0_pay117 (F := Ideal) (acc p D 16) (win2 D 14) (row1 (p.tap 16)) (win1 D 13) (row1 (p.tap 17)) (win1 D 12) (row1 (p.tap 18)) = acc p D 19 := by
  funext i
  idx_vars i
  pointwise [k0_pay117, pay114_up, pay116_up]
  simp only [row1_at, win2_at, acc_at, mul_up, add_up]
  simp only [Par.tapsum, Finset.sum_range_succ, Finset.sum_range_zero]
  try rfl

theorem pay118_up (o : ℕ) (w : Fin 512 → ℝ) : k0_pay118 (F := Ideal) (up2 G) (win2 D o) (row1 w) = row1 fun c => w c + ∑ r : Fin 256, G r c * D (o + r.val) c := by
  funext i
  idx_vars i
  pointwise [k0_pay118]
  simp only [up2_at, row1_at, win2_at, mul_up, add_up, sum_up]
  try rfl

theorem pay119_up (o : ℕ) : k0_pay119 (F := Ideal) (win1 D o) = win2 D o := by
  funext i
  idx_vars i
  pointwise [k0_pay119]
  try rfl

theorem pay120_up (o : ℕ) (w : Fin 512 → ℝ) : k0_pay120 (F := Ideal) (up2 G) (win1 D o) (row1 w) = row1 fun c => w c + ∑ r : Fin 256, G r c * D (o + r.val) c := by
  funext i
  idx_vars i
  pointwise [k0_pay120, pay119_up]
  simp only [up2_at, row1_at, win2_at, mul_up, add_up, sum_up]
  try rfl

theorem pay121_up (o : ℕ) : k0_pay121 (F := Ideal) (win1 D o) = win2 D o := by
  funext i
  idx_vars i
  pointwise [k0_pay121]
  try rfl

theorem pay122_up : k0_pay122 (F := Ideal) (acc p D 19) (win1 D 11) (row1 (p.tap 19)) (win1 D 10) (row1 (p.tap 20)) = acc p D 21 := by
  funext i
  idx_vars i
  pointwise [k0_pay122, pay119_up, pay121_up]
  simp only [row1_at, win2_at, acc_at, mul_up, add_up]
  simp only [Par.tapsum, Finset.sum_range_succ, Finset.sum_range_zero]
  try rfl

theorem pay123_up (o : ℕ) (w : Fin 512 → ℝ) : k0_pay123 (F := Ideal) (up2 G) (win1 D o) (row1 w) = row1 fun c => w c + ∑ r : Fin 256, G r c * D (o + r.val) c := by
  funext i
  idx_vars i
  pointwise [k0_pay123, pay121_up]
  simp only [up2_at, row1_at, win2_at, mul_up, add_up, sum_up]
  try rfl

theorem pay124_up (o : ℕ) : k0_pay124 (F := Ideal) (win1 D o) = win2 D o := by
  funext i
  idx_vars i
  pointwise [k0_pay124]
  try rfl

theorem pay125_up (o : ℕ) (w : Fin 512 → ℝ) : k0_pay125 (F := Ideal) (up2 G) (win1 D o) (row1 w) = row1 fun c => w c + ∑ r : Fin 256, G r c * D (o + r.val) c := by
  funext i
  idx_vars i
  pointwise [k0_pay125, pay124_up]
  simp only [up2_at, row1_at, win2_at, mul_up, add_up, sum_up]
  try rfl

theorem pay126_up (o : ℕ) (w : Fin 512 → ℝ) : k0_pay126 (F := Ideal) (up2 G) (win2 D o) (row1 w) = row1 fun c => w c + ∑ r : Fin 256, G r c * D (o + r.val) c := by
  funext i
  idx_vars i
  pointwise [k0_pay126]
  simp only [up2_at, row1_at, win2_at, mul_up, add_up, sum_up]
  try rfl

theorem pay127_up (o : ℕ) : k0_pay127 (F := Ideal) (win1 D o) = win2 D o := by
  funext i
  idx_vars i
  pointwise [k0_pay127]
  try rfl

theorem pay128_up : k0_pay128 (F := Ideal) (acc p D 21) (win1 D 9) (row1 (p.tap 21)) (win2 D 8) (row1 (p.tap 22)) (win1 D 7) (row1 (p.tap 23)) = acc p D 24 := by
  funext i
  idx_vars i
  pointwise [k0_pay128, pay124_up, pay127_up]
  simp only [row1_at, win2_at, acc_at, mul_up, add_up]
  simp only [Par.tapsum, Finset.sum_range_succ, Finset.sum_range_zero]
  try rfl

theorem pay129_up (o : ℕ) (w : Fin 512 → ℝ) : k0_pay129 (F := Ideal) (up2 G) (win2 D o) (row1 w) = row1 fun c => w c + ∑ r : Fin 256, G r c * D (o + r.val) c := by
  funext i
  idx_vars i
  pointwise [k0_pay129]
  simp only [up2_at, row1_at, win2_at, mul_up, add_up, sum_up]
  try rfl

theorem pay130_up (o : ℕ) : k0_pay130 (F := Ideal) (win1 D o) = win2 D o := by
  funext i
  idx_vars i
  pointwise [k0_pay130]
  try rfl

theorem pay131_up (o : ℕ) (w : Fin 512 → ℝ) : k0_pay131 (F := Ideal) (up2 G) (win1 D o) (row1 w) = row1 fun c => w c + ∑ r : Fin 256, G r c * D (o + r.val) c := by
  funext i
  idx_vars i
  pointwise [k0_pay131, pay130_up]
  simp only [up2_at, row1_at, win2_at, mul_up, add_up, sum_up]
  try rfl

theorem pay132_up (o : ℕ) : k0_pay132 (F := Ideal) (win1 D o) = win2 D o := by
  funext i
  idx_vars i
  pointwise [k0_pay132]
  try rfl

theorem pay133_up : k0_pay133 (F := Ideal) (acc p D 24) (win1 D 6) (row1 (p.tap 24)) (win1 D 5) (row1 (p.tap 25)) = acc p D 26 := by
  funext i
  idx_vars i
  pointwise [k0_pay133, pay130_up, pay132_up]
  simp only [row1_at, win2_at, acc_at, mul_up, add_up]
  simp only [Par.tapsum, Finset.sum_range_succ, Finset.sum_range_zero]
  try rfl

theorem pay134_up (o : ℕ) (w : Fin 512 → ℝ) : k0_pay134 (F := Ideal) (up2 G) (win1 D o) (row1 w) = row1 fun c => w c + ∑ r : Fin 256, G r c * D (o + r.val) c := by
  funext i
  idx_vars i
  pointwise [k0_pay134, pay132_up]
  simp only [up2_at, row1_at, win2_at, mul_up, add_up, sum_up]
  try rfl

theorem pay135_up (o : ℕ) : k0_pay135 (F := Ideal) (win1 D o) = win2 D o := by
  funext i
  idx_vars i
  pointwise [k0_pay135]
  try rfl

theorem pay136_up (o : ℕ) (w : Fin 512 → ℝ) : k0_pay136 (F := Ideal) (up2 G) (win1 D o) (row1 w) = row1 fun c => w c + ∑ r : Fin 256, G r c * D (o + r.val) c := by
  funext i
  idx_vars i
  pointwise [k0_pay136, pay135_up]
  simp only [up2_at, row1_at, win2_at, mul_up, add_up, sum_up]
  try rfl

theorem pay137_up (o : ℕ) : k0_pay137 (F := Ideal) (win1 D o) = win2 D o := by
  funext i
  idx_vars i
  pointwise [k0_pay137]
  try rfl

theorem pay138_up : k0_pay138 (F := Ideal) (acc p D 26) (win1 D 4) (row1 (p.tap 26)) (win1 D 3) (row1 (p.tap 27)) = acc p D 28 := by
  funext i
  idx_vars i
  pointwise [k0_pay138, pay135_up, pay137_up]
  simp only [row1_at, win2_at, acc_at, mul_up, add_up]
  simp only [Par.tapsum, Finset.sum_range_succ, Finset.sum_range_zero]
  try rfl

theorem pay139_up (o : ℕ) (w : Fin 512 → ℝ) : k0_pay139 (F := Ideal) (up2 G) (win1 D o) (row1 w) = row1 fun c => w c + ∑ r : Fin 256, G r c * D (o + r.val) c := by
  funext i
  idx_vars i
  pointwise [k0_pay139, pay137_up]
  simp only [up2_at, row1_at, win2_at, mul_up, add_up, sum_up]
  try rfl

theorem pay140_up (o : ℕ) : k0_pay140 (F := Ideal) (win1 D o) = win2 D o := by
  funext i
  idx_vars i
  pointwise [k0_pay140]
  try rfl

theorem pay141_up (o : ℕ) (w : Fin 512 → ℝ) : k0_pay141 (F := Ideal) (up2 G) (win2 D o) (row1 w) = row1 fun c => w c + ∑ r : Fin 256, G r c * D (o + r.val) c := by
  funext i
  idx_vars i
  pointwise [k0_pay141]
  simp only [up2_at, row1_at, win2_at, mul_up, add_up, sum_up]
  try rfl

theorem pay142_up (o : ℕ) : k0_pay142 (F := Ideal) (win1 D o) = win2 D o := by
  funext i
  idx_vars i
  pointwise [k0_pay142]
  try rfl

theorem pay143_up (o : ℕ) (w : Fin 512 → ℝ) : k0_pay143 (F := Ideal) (up2 G) (win1 D o) (row1 w) = row1 fun c => w c + ∑ r : Fin 256, G r c * D (o + r.val) c := by
  funext i
  idx_vars i
  pointwise [k0_pay143, pay142_up]
  simp only [up2_at, row1_at, win2_at, mul_up, add_up, sum_up]
  try rfl

theorem pay144_up : k0_pay144 (F := Ideal) (acc p D 28) (win2 D 2) (row1 (p.tap 28)) (win1 D 1) (row1 (p.tap 29)) (win2 D 0) (row1 (p.tap 30)) = acc p D 31 := by
  funext i
  idx_vars i
  pointwise [k0_pay144, pay142_up]
  simp only [row1_at, win2_at, acc_at, mul_up, add_up]
  simp only [Par.tapsum, Finset.sum_range_succ, Finset.sum_range_zero]
  try rfl

theorem pay145_up (w : Fin 512 → ℝ) : k0_pay145 (F := Ideal) (row1 w) = row1 w := by
  funext i
  idx_vars i
  pointwise [k0_pay145]
  try rfl

theorem pay146_up (o : ℕ) : k0_pay146 (F := Ideal) (up2 G) (win2 D o) = up1 fun c => ∑ r : Fin 256, G r c * D (o + r.val) c := by
  funext i
  idx_vars i
  pointwise [k0_pay146]
  simp only [up1_at, up2_at, win2_at, mul_up, sum_up]
  try rfl

theorem pay147_up (w v : Fin 512 → ℝ) : k0_pay147 (F := Ideal) (row1 w) (up1 v) = row1 fun c => w c + v c := by
  funext i
  idx_vars i
  pointwise [k0_pay147]
  simp only [up1_at, row1_at, add_up]
  try rfl

theorem pay148_up (o : ℕ) : k0_pay148 (F := Ideal) (win2 D o) = win2 D o := by
  funext i
  idx_vars i
  pointwise [k0_pay148]
  try rfl

theorem pay149_up : k0_pay149 (F := Ideal) (up2 V) (up2 fun r => ua (U r)) (up2 fun r => sgg (U r)) (up2 G) = up2 fun r => du (G r) (U r) (V r) := by
  funext i
  idx_vars i
  pointwise [k0_pay149]
  simp only [up2_at, du]
  split_ifs <;> simp only [one_up, sub_up, mul_up]

theorem pay150_up : k0_pay150 (F := Ideal) (up2 V) (up2 fun r => ua (U r)) (up2 fun r => sgg (U r)) (up2 G) (g3 fun d k => p.win d (chip 0 k)) (g3 fun d k => p.win d (chip 1 k)) (g3 fun d k => p.win d (chip 2 k)) = up2 fun r => p.dh3 (du (G r) (U r) (V r)) := by
  funext i
  idx_vars i
  pointwise [k0_pay150, pay149_up]
  simp only [up2_at, g3_at, mul_up, add_up, sum_up]
  try rfl

theorem pay151_up : k0_pay151 (F := Ideal) (up2 V) (up2 fun r => ua (U r)) (up2 fun r => sgg (U r)) (up2 G) = up2 fun r k => du (G r) (U r) (V r) (chip 3 k) := by
  funext i
  idx_vars i
  pointwise [k0_pay151, pay149_up]
  simp only [up2_at]
  try rfl

theorem pay152_up : k0_pay152 (F := Ideal) (up2 fun r => p.dh3 (du (G r) (U r) (V r))) (up2 fun r k => du (G r) (U r) (V r) (chip 3 k)) (g3 fun d k => p.win d (chip 3 k)) = up2 fun r => p.dh (du (G r) (U r) (V r)) := by
  funext i
  idx_vars i
  pointwise [k0_pay152]
  simp only [up2_at, g3_at, mul_up, add_up, sum_up]
  rw [Par.dh_eq]
  rfl

theorem pay153_up : k0_pay153 (F := Ideal) (up2 X) = up2 X := by
  funext i
  idx_vars i
  pointwise [k0_pay153]
  try rfl

theorem pay154_up : k0_pay154 (F := Ideal) (up2 X) = colv fun r => rs (X r) := by
  funext i
  idx_vars i
  pointwise [k0_pay154, pay153_up]
  simp only [up2_at, colv_at, mul_up, sum_up, mean_up, rs_up]

theorem pay155_up : k0_pay155 (F := Ideal) (up2 X) = up2 fun r => xh (X r) := by
  funext i
  idx_vars i
  pointwise [k0_pay155, pay153_up, pay154_up]
  simp only [up2_at, colv_at, mul_up]
  try rfl

theorem pay156_up : k0_pay156 (F := Ideal) (up2 X) (row1 p.g) = up2 fun r => p.nrm (X r) := by
  funext i
  idx_vars i
  pointwise [k0_pay156, pay155_up]
  simp only [up2_at, row1_at, mul_up]
  try rfl

theorem pay157_up : k0_pay157 (F := Ideal) (row1 p.sh) (row1 p.sc) (up2 X) (row1 p.g) = up2 fun r => p.h (X r) := by
  funext i
  idx_vars i
  pointwise [k0_pay157, pay156_up]
  simp only [up2_at, row1_at, one_up, mul_up, add_up]
  try rfl

theorem pay158_up (w : Fin 1024 → ℝ) : k0_pay158 (F := Ideal) (up2 fun r => p.dh3 (du (G r) (U r) (V r))) (up2 fun r k => du (G r) (U r) (V r) (chip 3 k)) (g3 fun d k => p.win d (chip 3 k)) (row1 w) = row1 fun d => w d + ∑ r, p.dh (du (G r) (U r) (V r)) d := by
  funext i
  idx_vars i
  pointwise [k0_pay158, pay152_up]
  simp only [up2_at, row1_at, add_up, sum_up]
  try rfl

theorem pay159_up (w : Fin 1024 → ℝ) : k0_pay159 (F := Ideal) (row1 w) = row1 w := by
  funext i
  idx_vars i
  pointwise [k0_pay159]
  try rfl

theorem pay160_up : k0_pay160 (F := Ideal) (up2 fun r => p.dh3 (du (G r) (U r) (V r))) (up2 fun r k => du (G r) (U r) (V r) (chip 3 k)) (g3 fun d k => p.win d (chip 3 k)) (up2 X) (row1 p.g) = row1 fun d => ∑ r, p.dh (du (G r) (U r) (V r)) d * p.nrm (X r) d := by
  funext i
  idx_vars i
  pointwise [k0_pay160, pay152_up, pay156_up]
  simp only [up2_at, row1_at, mul_up, sum_up]
  try rfl

theorem pay161_up (w v : Fin 1024 → ℝ) : k0_pay161 (F := Ideal) (row1 w) (row1 v) = row1 fun c => w c + v c := by
  funext i
  idx_vars i
  pointwise [k0_pay161]
  simp only [row1_at, add_up]
  try rfl

theorem pay162_up : k0_pay162 (F := Ideal) (row1 p.sc) (up2 L) = up2 fun r => p.dn (L r) := by
  funext i
  idx_vars i
  pointwise [k0_pay162]
  simp only [up2_at, row1_at, one_up, mul_up, add_up]
  try rfl

theorem pay163_up (w : Fin 1024 → ℝ) : k0_pay163 (F := Ideal) (row1 p.sc) (up2 L) (up2 fun r => xh (X r)) (row1 w) = row1 fun d => w d + ∑ r, p.dn (L r) d * xh (X r) d := by
  funext i
  idx_vars i
  pointwise [k0_pay163, pay162_up]
  simp only [up2_at, row1_at, mul_up, add_up, sum_up]
  try rfl

theorem pay164_up : k0_pay164 (F := Ideal) (row1 p.sc) (up2 L) (row1 p.g) (up2 fun r => xh (X r)) = up2 fun r => p.inr (X r) (L r) := by
  funext i
  idx_vars i
  pointwise [k0_pay164, pay162_up]
  simp only [up2_at, row1_at, sub_up, mul_up, sum_up, mean_up]
  try rfl

theorem pay1_up : k0_pay1 (F := Ideal) (up2 C) (colv fun r => rs (X r)) (up2 fun r => p.inr (X r) (L r)) = up2 fun r => p.gx (C r) (X r) (L r) := by
  funext i
  idx_vars i
  pointwise [k0_pay1]
  simp only [up2_at, colv_at, mul_up, add_up]
  try rfl

end Cert.Hand.Mix
-- ==== Proof.Mix.Loads.lean ====
/- What the kernel loads at one grid point: rows of arrays, the chips' and the groups' blocks of the weights, and the
   rows of its scratch arrays, which hold the tile's own rows followed by the first rows of the tile after it. -/
module

public import proofs.«01_k».proof.Proof.Mix.Pay
public import Idealize.ShloMosaic.Lib.Claim

@[expose] public section
set_option maxRecDepth 16384

noncomputable section
namespace Cert.Hand.Mix
open Idealize.ShloMosaic Idealize.ShloMosaic.Pipeline Cert.Hand Cert.Kernel2Ideal Cert.Kernel2Ideal.Gen

/-- An array of the extended reals, of two axes and of three. -/
abbrev Arr2 (a b : ℕ) : Type := (⟨2, ![a, b]⟩ : Shape).Idx → EReal
abbrev Arr3 (a b c : ℕ) : Type := (⟨3, ![a, b, c]⟩ : Shape).Idx → EReal

theorem ext2 {a b : ℕ} {f g : Arr2 a b} (h : ∀ i j, f (ix2 i j) = g (ix2 i j)) : f = g := by
  funext y
  have e : y = ix2 (y 0) (y 1) := by
    funext x
    fin_cases x <;> rfl
  rw [e]
  exact h _ _

theorem ext3 {a b d : ℕ} {f g : Arr3 a b d} (h : ∀ i j k, f (ix3 i j k) = g (ix3 i j k)) : f = g := by
  funext y
  have e : y = ix3 (y 0) (y 1) (y 2) := by
    funext x
    fin_cases x <;> rfl
  rw [e]
  exact h _ _ _

/-- A block loaded from an array, read at an index. -/
theorem ld2 {N K n d : ℕ} {e' : EltTy} (a b : ℕ)
    (inb : ∀ x, (![a, b] : Fin 2 → ℕ) x + (![n, d] : Fin 2 → ℕ) x ≤ (⟨2, ![N, K]⟩ : Shape).size x)
    (W : (⟨2, ![N, K]⟩ : Shape).Idx → Elt Ideal e') (i : Fin n) (j : Fin d) :
    View.ld (Val := Elt Ideal) (e' := e') (S := ⟨2, ![N, K]⟩) W (Rect.unit ![a, b] ![n, d] inb) (ix2 i j)
      = W (ix2 ⟨a + i.val, lt_of_lt_of_le (Nat.add_lt_add_left i.isLt a) (inb 0)⟩
            ⟨b + j.val, lt_of_lt_of_le (Nat.add_lt_add_left j.isLt b) (inb 1)⟩) := by
  show W _ = W _
  congr 1
  funext x
  apply Fin.ext
  refine (Rect.idx_unit_val _ _ _ _ _).trans ?_
  fin_cases x <;> rfl

theorem ld3 {M N K l n d : ℕ} {e' : EltTy} (a b c : ℕ)
    (inb : ∀ x, (![a, b, c] : Fin 3 → ℕ) x + (![l, n, d] : Fin 3 → ℕ) x ≤ (⟨3, ![M, N, K]⟩ : Shape).size x)
    (W : (⟨3, ![M, N, K]⟩ : Shape).Idx → Elt Ideal e') (h : Fin l) (i : Fin n) (j : Fin d) :
    View.ld (Val := Elt Ideal) (e' := e') (S := ⟨3, ![M, N, K]⟩) W (Rect.unit ![a, b, c] ![l, n, d] inb) (ix3 h i j)
      = W (ix3 ⟨a + h.val, lt_of_lt_of_le (Nat.add_lt_add_left h.isLt a) (inb 0)⟩
            ⟨b + i.val, lt_of_lt_of_le (Nat.add_lt_add_left i.isLt b) (inb 1)⟩
            ⟨c + j.val, lt_of_lt_of_le (Nat.add_lt_add_left j.isLt c) (inb 2)⟩) := by
  show W _ = W _
  congr 1
  funext x
  apply Fin.ext
  refine (Rect.idx_unit_val _ _ _ _ _).trans ?_
  fin_cases x <;> rfl

/-! ## Stores over what was there -/

/-- A block stored over an array, read at an index. -/
theorem over2 {N K n d : ℕ} (a b : ℕ)
    (inb : ∀ x, (![a, b] : Fin 2 → ℕ) x + (![n, d] : Fin 2 → ℕ) x ≤ (⟨2, ![N, K]⟩ : Shape).size x)
    (W : Arr2 N K) (w : Arr2 n d) (i : Fin N) (j : Fin K) :
    (Rect.unit (s := ⟨2, ![N, K]⟩) ![a, b] ![n, d] inb).overlay W w (ix2 i j)
      = if h : (a ≤ i.val ∧ i.val - a < n) ∧ (b ≤ j.val ∧ j.val - b < d) then w (ix2 ⟨i.val - a, h.1.2⟩ ⟨j.val - b, h.2.2⟩)
        else W (ix2 i j) := by
  by_cases h : (a ≤ i.val ∧ i.val - a < n) ∧ (b ≤ j.val ∧ j.val - b < d)
  · rw [dif_pos h]
    have e : (ix2 i j : (⟨2, ![N, K]⟩ : Shape).Idx)
        = (Rect.unit (s := ⟨2, ![N, K]⟩) ![a, b] ![n, d] inb).emb (ix2 ⟨i.val - a, h.1.2⟩ ⟨j.val - b, h.2.2⟩) := by
      funext x
      apply Fin.ext
      fin_cases x
      · show i.val = _
        refine Eq.trans ?_ (Rect.idx_unit_val _ _ _ _ _).symm
        show i.val = a + (i.val - a)
        omega
      · show j.val = _
        refine Eq.trans ?_ (Rect.idx_unit_val _ _ _ _ _).symm
        show j.val = b + (j.val - b)
        omega
    rw [e]
    exact Rect.overlay_emb _ _ _ _
  · rw [dif_neg h]
    refine Rect.overlay_of_not_mem _ _ _ fun hm => h ?_
    have h0 := Rect.mem_set_unit.mp hm 0
    have h1 := Rect.mem_set_unit.mp hm 1
    have a0 : a ≤ i.val ∧ i.val < a + n := h0
    have a1 : b ≤ j.val ∧ j.val < b + d := h1
    omega

/-- Reading an array after a list of stores: the last store over the rest. -/
theorem read_over {κ : Kind} {sp : Space} {s : Shape} {e : EltTy} (v : View sig κ sp s e) (f : v.ty.Contents (Elt Ideal))
    (q : View.Piece (Elt Ideal) s e) (L : List (View.Piece (Elt Ideal) s e)) :
    v.read (Elt Ideal) (v.writes (Elt Ideal) f (q :: L)) = q.1.overlay (v.read (Elt Ideal) (v.writes (Elt Ideal) f L)) q.2 := by
  funext y
  by_cases hy : y ∈ q.1.set
  · obtain ⟨r, w⟩ := q
    obtain ⟨x, rfl⟩ : ∃ x, r.emb x = y := r.exists_idx_of_mem hy
    rw [View.read_writes_cons_emb]; exact (Rect.overlay_emb _ _ _ x).symm
  · have hy' : y ∉ Finset.univ.map q.1.emb := by rwa [Rect.map_emb_univ]
    rw [View.writes_cons, View.read_slice_write_of_not_mem q.1 _ _ _ hy', Rect.overlay_of_not_mem _ _ _ hy]

theorem canon_over {s : Shape} (q q' : View.Piece (Elt Ideal) s .f32) (L : List (View.Piece (Elt Ideal) s .f32)) :
    View.canon (q :: q' :: L) = q.1.overlay (View.canon (q' :: L)) q.2 := rfl

/-- A store of the whole array leaves what it stored. -/
theorem canon_whole2 {N K : ℕ} (inb : ∀ x, (![0, 0] : Fin 2 → ℕ) x + (![N, K] : Fin 2 → ℕ) x ≤ (⟨2, ![N, K]⟩ : Shape).size x)
    (w : Arr2 N K) :
    View.canon (Val := Elt Ideal) (e := .f32) (s := ⟨2, ![N, K]⟩) [⟨Rect.unit ![0, 0] ![N, K] inb, w⟩] = w := by
  refine ext2 fun y0 y1 => ?_
  refine (over2 0 0 inb _ w y0 y1).trans ?_
  rw [dif_pos ⟨⟨Nat.zero_le _, y0.isLt⟩, Nat.zero_le _, y1.isLt⟩]
  rfl

/-! ## Rows -/

/-- An array of rows with row `k` replaced. -/
def upd {N K : ℕ} (W : Fin N → Fin K → ℝ) (k : ℕ) (w : Fin K → ℝ) : Fin N → Fin K → ℝ :=
  fun i => if i.val = k then w else W i

/-- What a row of it is, where the row's number is known. -/
theorem upd_at {N K : ℕ} (W : Fin N → Fin K → ℝ) (k j : ℕ) (w : Fin K → ℝ) (hj : j < N) :
    upd W k w ⟨j, hj⟩ = if j = k then w else W ⟨j, hj⟩ := rfl

theorem over_row {N K : ℕ} (W : Fin N → Fin K → ℝ) (k : ℕ) (w : Fin K → ℝ)
    (inb : ∀ x, (![k, 0] : Fin 2 → ℕ) x + (![1, K] : Fin 2 → ℕ) x ≤ (⟨2, ![N, K]⟩ : Shape).size x) :
    (Rect.unit (s := ⟨2, ![N, K]⟩) ![k, 0] ![1, K] inb).overlay (up2 W) (row1 w) = up2 (upd W k w) := by
  refine ext2 fun y0 y1 => ?_
  refine (over2 k 0 inb _ _ y0 y1).trans ?_
  rw [up2_at, up2_at]
  unfold upd
  by_cases h : y0.val = k
  · rw [if_pos h, dif_pos ⟨⟨by omega, by omega⟩, Nat.zero_le _, y1.isLt⟩]
    rfl
  · rw [if_neg h, dif_neg fun hh => h (by omega)]

theorem row_lt {N K k : ℕ} (inb : ∀ x, (![k, 0] : Fin 2 → ℕ) x + (![1, K] : Fin 2 → ℕ) x ≤ (⟨2, ![N, K]⟩ : Shape).size x) : k < N :=
  inb 0

theorem ld_row {N K : ℕ} (W : Fin N → Fin K → ℝ) (k : ℕ)
    (inb : ∀ x, (![k, 0] : Fin 2 → ℕ) x + (![1, K] : Fin 2 → ℕ) x ≤ (⟨2, ![N, K]⟩ : Shape).size x) :
    View.ld (Val := Elt Ideal) (e' := .f32) (S := ⟨2, ![N, K]⟩) (up2 W) (Rect.unit ![k, 0] ![1, K] inb)
      = (row1 (W ⟨k, row_lt inb⟩) : Arr2 1 K) := by
  refine ext2 fun x0 x1 => ?_
  refine (ld2 (e' := .f32) k 0 inb (up2 W) x0 x1).trans ?_
  have e0 : (⟨k + x0.val, lt_of_lt_of_le (Nat.add_lt_add_left x0.isLt k) (inb 0)⟩ : Fin N) = ⟨k, inb 0⟩ := Fin.ext (by
    show k + x0.val = k
    omega)
  have e1 : (⟨0 + x1.val, lt_of_lt_of_le (Nat.add_lt_add_left x1.isLt 0) (inb 1)⟩ : Fin K) = x1 := Fin.ext (Nat.zero_add _)
  exact congrArg₂ (fun a b => ((W a b : ℝ) : EReal)) e0 e1

theorem readCov_ld {s : Shape} (v : View sig .tc .vmem s .f32) (L : List (View.Piece (Elt Ideal) s .f32)) (r : Rect s) :
    v.readCov L r.toLoadRect = View.ld (View.canon L) r :=
  View.readCov_eq_canon' v L _

/-! ## Rows of a sequence -/

theorem ld_win2 {N n : ℕ} (D : ℕ → Fin 512 → ℝ) (o : ℕ)
    (inb : ∀ x, (![o, 0] : Fin 2 → ℕ) x + (![n, 512] : Fin 2 → ℕ) x ≤ (⟨2, ![N, 512]⟩ : Shape).size x) :
    View.ld (Val := Elt Ideal) (e' := .f32) (S := ⟨2, ![N, 512]⟩) (win2 D 0) (Rect.unit ![o, 0] ![n, 512] inb)
      = (win2 D o : Arr2 n 512) := by
  refine ext2 fun x0 x1 => ?_
  refine (ld2 (e' := .f32) o 0 inb (win2 D 0) x0 x1).trans ?_
  have e1 : (⟨0 + x1.val, lt_of_lt_of_le (Nat.add_lt_add_left x1.isLt 0) (inb 1)⟩ : Fin 512) = x1 := Fin.ext (Nat.zero_add _)
  rw [e1, win2_at, win2_at, Nat.zero_add]

/-- An array that holds a sequence's rows wherever a load looks. -/
theorem ld_rows {N n : ℕ} (J : Arr2 N 512) (D : ℕ → Fin 512 → ℝ) (o : ℕ)
    (inb : ∀ x, (![o, 0] : Fin 2 → ℕ) x + (![n, 512] : Fin 2 → ℕ) x ≤ (⟨2, ![N, 512]⟩ : Shape).size x)
    (h : ∀ (r : Fin N) c, r.val < o + n → J (ix2 r c) = ((D r.val c : ℝ) : EReal)) :
    View.ld (Val := Elt Ideal) (e' := .f32) (S := ⟨2, ![N, 512]⟩) J (Rect.unit ![o, 0] ![n, 512] inb)
      = (win2 D o : Arr2 n 512) := by
  refine ext2 fun x0 x1 => ?_
  refine (ld2 (e' := .f32) o 0 inb J x0 x1).trans ?_
  have e1 : (⟨0 + x1.val, lt_of_lt_of_le (Nat.add_lt_add_left x1.isLt 0) (inb 1)⟩ : Fin 512) = x1 := Fin.ext (Nat.zero_add _)
  rw [e1]
  exact h _ _ (Nat.add_lt_add_left x0.isLt o)

/-- The tile's rows stored over an array that holds the rows after them. -/
theorem rows_over {N : ℕ} (D : ℕ → Fin 512 → ℝ) (J : Arr2 N 512)
    (inb : ∀ x, (![0, 0] : Fin 2 → ℕ) x + (![256, 512] : Fin 2 → ℕ) x ≤ (⟨2, ![N, 512]⟩ : Shape).size x) (r : Fin N) (c : Fin 512)
    (hJ : 256 ≤ r.val → J (ix2 r c) = ((D r.val c : ℝ) : EReal)) :
    (Rect.unit (s := ⟨2, ![N, 512]⟩) ![0, 0] ![256, 512] inb).overlay J (win2 D 0 : Arr2 256 512) (ix2 r c)
      = ((D r.val c : ℝ) : EReal) := by
  refine (over2 0 0 inb J _ r c).trans ?_
  by_cases h : r.val < 256
  · rw [dif_pos ⟨⟨Nat.zero_le _, h⟩, Nat.zero_le _, c.isLt⟩, win2_at, Nat.zero_add]
    rfl
  · rw [dif_neg fun hh => h hh.1.2]
    exact hJ (by omega)

/-- Rows stored at the top, read back. -/
theorem top_rows {N n : ℕ} (D : ℕ → Fin 512 → ℝ) (hn : n ≤ 256)
    (inb : ∀ x, (![0, 0] : Fin 2 → ℕ) x + (![256, 512] : Fin 2 → ℕ) x ≤ (⟨2, ![N, 512]⟩ : Shape).size x)
    (inb' : ∀ x, (![0, 0] : Fin 2 → ℕ) x + (![n, 512] : Fin 2 → ℕ) x ≤ (⟨2, ![N, 512]⟩ : Shape).size x) :
    View.ld (Val := Elt Ideal) (e' := .f32) (S := ⟨2, ![N, 512]⟩)
      (View.canon [⟨Rect.unit ![0, 0] ![256, 512] inb, (win2 D 0 : Arr2 256 512)⟩]) (Rect.unit ![0, 0] ![n, 512] inb')
      = (win2 D 0 : Arr2 n 512) :=
  ld_rows _ D 0 inb' fun r c h => rows_over D _ inb r c fun h' => absurd h (by omega)

/-- What a scratch array holds after a point: the tile's rows, and the first of them again after the last. -/
def carry {N : ℕ} (D : ℕ → Fin 512 → ℝ) : Arr2 N 512 := up2 fun (r : Fin N) c => D (r.val % 256) c

theorem carry_at {N : ℕ} (D : ℕ → Fin 512 → ℝ) (r : Fin N) (c : Fin 512) :
    (carry D : Arr2 N 512) (ix2 r c) = ((D (r.val % 256) c : ℝ) : EReal) := rfl

/-- The stores of a point leave that. -/
theorem carry_over {N n : ℕ} (D : ℕ → Fin 512 → ℝ) (hN : N = 256 + n) (hn : n ≤ 256) (J : Arr2 N 512)
    (inb' : ∀ x, (![256, 0] : Fin 2 → ℕ) x + (![n, 512] : Fin 2 → ℕ) x ≤ (⟨2, ![N, 512]⟩ : Shape).size x)
    (hJ : ∀ (r : Fin N) c, r.val < 256 → J (ix2 r c) = ((D r.val c : ℝ) : EReal)) :
    (Rect.unit (s := ⟨2, ![N, 512]⟩) ![256, 0] ![n, 512] inb').overlay J (win2 D 0 : Arr2 n 512) = carry D := by
  refine ext2 fun r c => ?_
  refine (over2 256 0 inb' J _ r c).trans ?_
  have hr := r.isLt
  by_cases h : 256 ≤ r.val
  · rw [dif_pos ⟨⟨h, by omega⟩, Nat.zero_le _, c.isLt⟩, win2_at, carry_at, Nat.zero_add]
    have e : r.val % 256 = r.val - 256 := by omega
    rw [e]
    rfl
  · rw [dif_neg fun hh => h hh.1.1, carry_at, Nat.mod_eq_of_lt (by omega)]
    exact hJ r c (by omega)

theorem carry0 (D : ℕ → Fin 512 → ℝ) (L : List (View.Piece (Elt Ideal) S288x512 .f32)) :
    View.canon (Val := Elt Ideal) (e := .f32) (s := S288x512)
      (⟨Rect.unit ![256, 0] ![32, 512] inb_S288x512_S32x512_256_0, (win2 D 0 : Arr2 32 512)⟩
        :: ⟨Rect.unit ![0, 0] ![256, 512] inb_S288x512_S256x512_0_0, (win2 D 0 : Arr2 256 512)⟩ :: L) = carry D :=
  carry_over (N := 288) (n := 32) D rfl (by norm_num) _ inb_S288x512_S32x512_256_0 fun r c h => rows_over D _ inb_S288x512_S256x512_0_0 r c fun h' => absurd h (by omega)

/-- The first scratch array when the tile's rows are stored, at the first point and at a later one. -/
theorem scr0_A (D : ℕ → Fin 512 → ℝ) (z : ∀ r c, 256 ≤ r → r < 288 → D r c = 0) :
    View.canon (Val := Elt Ideal) (e := .f32) (s := S288x512)
      [⟨Rect.unit ![0, 0] ![256, 512] inb_S288x512_S256x512_0_0, (win2 D 0 : Arr2 256 512)⟩,
       ⟨Rect.unit ![256, 0] ![32, 512] inb_S288x512_S32x512_256_0, (up2 fun _ _ => 0 : Arr2 32 512)⟩] = win2 D 0 := by
  refine ext2 fun r c => ?_
  rw [win2_at, Nat.zero_add]
  refine rows_over D _ inb_S288x512_S256x512_0_0 r c fun h => ?_
  refine (over2 256 0 inb_S288x512_S32x512_256_0 _ _ r c).trans ?_
  rw [dif_pos ⟨⟨h, by omega⟩, Nat.zero_le _, c.isLt⟩, z r.val c h r.isLt]
  rfl

theorem scr0_B {κ : Kind} {sp : Space} (v : View sig κ sp S288x512 .f32) (f : v.ty.Contents (Elt Ideal)) (D D' : ℕ → Fin 512 → ℝ)
    (hf : v.read (Elt Ideal) f = (carry D' : Arr2 288 512)) (z : ∀ r c, r < 32 → D (256 + r) c = D' r c) :
    v.read (Elt Ideal) (v.writes (Elt Ideal) f
      [⟨Rect.unit ![0, 0] ![256, 512] inb_S288x512_S256x512_0_0, (win2 D 0 : Arr2 256 512)⟩]) = win2 D 0 := by
  refine ext2 fun r c => ?_
  rw [win2_at, Nat.zero_add, read_over]
  refine rows_over D _ inb_S288x512_S256x512_0_0 r c fun h => ?_
  refine (congrFun hf _).trans ?_
  have e : r.val % 256 = r.val - 256 := by omega
  rw [carry_at, e, ← z (r.val - 256) c (by omega)]
  congr 3
  omega

theorem shift_piece (D : ℕ → Fin 512 → ℝ) (s k : ℕ) (hk : k = s + 1) (y0 : Fin 7) (y1 : Fin 280) (y2 : Fin 512)
    (x : (⟨3, ![1, 280, 512]⟩ : Shape).Idx) (h0 : y0.val = s + (x 0).val) (x0_lt : (x 0).val < 1) (h1 : y1.val = (x 1).val)
    (h2 : y2.val = (x 2).val) :
    (win1 D k : Arr3 1 280 512) x = up3 (fun (s : Fin 7) (r : Fin 280) c => D (s.val + 1 + r.val) c) (ix3 y0 y1 y2) := by
  have e2 : y2 = x 2 := Fin.ext h2
  have e : k + (x 1).val = y0.val + 1 + y1.val := by omega
  subst e2
  exact congrArg (fun j => ((D j (x 2) : ℝ) : EReal)) e

/-- The seven shifted copies. -/
theorem shifts (D : ℕ → Fin 512 → ℝ) :
    View.canon (Val := Elt Ideal) (e := .f32) (s := S7x280x512)
      [⟨Rect.unit ![6, 0, 0] ![1, 280, 512] inb_S7x280x512_S1x280x512_6_0_0, (win1 D 7 : Arr3 1 280 512)⟩,
       ⟨Rect.unit ![5, 0, 0] ![1, 280, 512] inb_S7x280x512_S1x280x512_5_0_0, (win1 D 6 : Arr3 1 280 512)⟩,
       ⟨Rect.unit ![4, 0, 0] ![1, 280, 512] inb_S7x280x512_S1x280x512_4_0_0, (win1 D 5 : Arr3 1 280 512)⟩,
       ⟨Rect.unit ![3, 0, 0] ![1, 280, 512] inb_S7x280x512_S1x280x512_3_0_0, (win1 D 4 : Arr3 1 280 512)⟩,
       ⟨Rect.unit ![2, 0, 0] ![1, 280, 512] inb_S7x280x512_S1x280x512_2_0_0, (win1 D 3 : Arr3 1 280 512)⟩,
       ⟨Rect.unit ![1, 0, 0] ![1, 280, 512] inb_S7x280x512_S1x280x512_1_0_0, (win1 D 2 : Arr3 1 280 512)⟩,
       ⟨Rect.unit ![0, 0, 0] ![1, 280, 512] inb_S7x280x512_S1x280x512_0_0_0, (win1 D 1 : Arr3 1 280 512)⟩]
      = up3 fun (s : Fin 7) (r : Fin 280) c => D (s.val + 1 + r.val) c := by
  funext y
  idx_vars y
  canon_tiles x h
  · exact shift_piece D 6 7 rfl y0 y1 y2 x h0 x0_lt h1 h2
  · exact shift_piece D 5 6 rfl y0 y1 y2 x h0 x0_lt h1 h2
  · exact shift_piece D 4 5 rfl y0 y1 y2 x h0 x0_lt h1 h2
  · exact shift_piece D 3 4 rfl y0 y1 y2 x h0 x0_lt h1 h2
  · exact shift_piece D 2 3 rfl y0 y1 y2 x h0 x0_lt h1 h2
  · exact shift_piece D 1 2 rfl y0 y1 y2 x h0 x0_lt h1 h2
  · exact shift_piece D 0 1 rfl y0 y1 y2 x (h0.trans (Nat.zero_add _).symm) x0_lt h1 h2

theorem ld_shift (D : ℕ → Fin 512 → ℝ) (s o : ℕ)
    (inb : ∀ x, (![s, o, 0] : Fin 3 → ℕ) x + (![1, 256, 512] : Fin 3 → ℕ) x ≤ S7x280x512.size x) :
    View.ld (Val := Elt Ideal) (e' := .f32) (S := S7x280x512) (up3 fun (s : Fin 7) (r : Fin 280) c => D (s.val + 1 + r.val) c)
      (Rect.unit ![s, o, 0] ![1, 256, 512] inb) = (win1 D (s + 1 + o) : Arr3 1 256 512) := by
  refine ext3 fun z r c => ?_
  refine (ld3 s o 0 inb _ z r c).trans ?_
  have e1 : (⟨0 + c.val, lt_of_lt_of_le (Nat.add_lt_add_left c.isLt 0) (inb 2)⟩ : Fin 512) = c := Fin.ext (Nat.zero_add _)
  rw [e1, up3_at, win1_at]
  refine congrArg (fun k => ((D k c : ℝ) : EReal)) ?_
  show s + z.val + 1 + (o + r.val) = s + 1 + o + r.val
  omega

/-! ## One group's channels -/

/-- The four groups' columns of the tile's rows stored over an array that holds the rows after them. -/
theorem groups_over (E : ℕ → Fin 512 → ℝ) (J : Arr2 272 512) (r : Fin 272) (c : Fin 512)
    (hJ : 256 ≤ r.val → J (ix2 r c) = ((E r.val c : ℝ) : EReal)) :
    (Rect.unit (s := S272x512) ![0, 384] ![256, 128] inb_S272x512_S256x128_0_384).overlay
      ((Rect.unit (s := S272x512) ![0, 256] ![256, 128] inb_S272x512_S256x128_0_256).overlay
        ((Rect.unit (s := S272x512) ![0, 128] ![256, 128] inb_S272x512_S256x128_0_128).overlay
          ((Rect.unit (s := S272x512) ![0, 0] ![256, 128] inb_S272x512_S256x128_0_0).overlay J (pwin E 0 0))
          (pwin E 0 1)) (pwin E 0 2)) (pwin E 0 3) (ix2 r c) = ((E r.val c : ℝ) : EReal) := by
  have hc := c.isLt
  refine (over2 0 384 _ _ _ r c).trans ?_
  by_cases h : r.val < 256
  · by_cases h3 : 384 ≤ c.val
    · rw [dif_pos (by omega), pwin_at]
      exact congrArg₂ (fun a b => ((E a b : ℝ) : EReal)) (by simp) (Fin.ext (by simp [grp]; omega))
    rw [dif_neg (by omega)]
    refine (over2 0 256 _ _ _ r c).trans ?_
    by_cases h2 : 256 ≤ c.val
    · rw [dif_pos (by omega), pwin_at]
      exact congrArg₂ (fun a b => ((E a b : ℝ) : EReal)) (by simp) (Fin.ext (by simp [grp]; omega))
    rw [dif_neg (by omega)]
    refine (over2 0 128 _ _ _ r c).trans ?_
    by_cases h1 : 128 ≤ c.val
    · rw [dif_pos (by omega), pwin_at]
      exact congrArg₂ (fun a b => ((E a b : ℝ) : EReal)) (by simp) (Fin.ext (by simp [grp]; omega))
    rw [dif_neg (by omega)]
    refine (over2 0 0 _ _ _ r c).trans ?_
    rw [dif_pos (by omega), pwin_at]
    exact congrArg₂ (fun a b => ((E a b : ℝ) : EReal)) (by simp) (Fin.ext (by simp [grp]))
  · rw [dif_neg (by omega)]
    refine (over2 0 256 _ _ _ r c).trans ?_
    rw [dif_neg (by omega)]
    refine (over2 0 128 _ _ _ r c).trans ?_
    rw [dif_neg (by omega)]
    refine (over2 0 0 _ _ _ r c).trans ?_
    rw [dif_neg (by omega)]
    exact hJ (by omega)

/-- The stores of the four groups, last first. -/
def gstores (E : ℕ → Fin 512 → ℝ) (L : List (View.Piece (Elt Ideal) S272x512 .f32)) : List (View.Piece (Elt Ideal) S272x512 .f32) :=
  ⟨Rect.unit ![0, 384] ![256, 128] inb_S272x512_S256x128_0_384, pwin E 0 3⟩
    :: ⟨Rect.unit ![0, 256] ![256, 128] inb_S272x512_S256x128_0_256, pwin E 0 2⟩
    :: ⟨Rect.unit ![0, 128] ![256, 128] inb_S272x512_S256x128_0_128, pwin E 0 1⟩
    :: ⟨Rect.unit ![0, 0] ![256, 128] inb_S272x512_S256x128_0_0, pwin E 0 0⟩ :: L

theorem scr1_A (E : ℕ → Fin 512 → ℝ) (z : ∀ r c, 256 ≤ r → r < 272 → E r c = 0) :
    View.canon (Val := Elt Ideal) (e := .f32) (s := S272x512)
      (gstores E [⟨Rect.unit ![256, 0] ![16, 512] inb_S272x512_S16x512_256_0, (up2 fun _ _ => 0 : Arr2 16 512)⟩]) = win2 E 0 := by
  refine ext2 fun r c => ?_
  rw [win2_at, Nat.zero_add]
  refine groups_over E _ r c fun h => ?_
  refine (over2 256 0 inb_S272x512_S16x512_256_0 _ _ r c).trans ?_
  rw [dif_pos ⟨⟨h, by omega⟩, Nat.zero_le _, c.isLt⟩, z r.val c h r.isLt]
  rfl

theorem scr1_B {κ : Kind} {sp : Space} (v : View sig κ sp S272x512 .f32) (f : v.ty.Contents (Elt Ideal)) (E E' : ℕ → Fin 512 → ℝ)
    (hf : v.read (Elt Ideal) f = (carry E' : Arr2 272 512)) (z : ∀ r c, r < 16 → E (256 + r) c = E' r c) :
    v.read (Elt Ideal) (v.writes (Elt Ideal) f (gstores E [])) = win2 E 0 := by
  refine ext2 fun r c => ?_
  unfold gstores
  rw [win2_at, Nat.zero_add, read_over, read_over, read_over, read_over]
  refine groups_over E _ r c fun h => ?_
  refine (congrFun hf _).trans ?_
  have e : r.val % 256 = r.val - 256 := by omega
  rw [carry_at, e, ← z (r.val - 256) c (by omega)]
  congr 3
  omega

theorem ld_top1 (E : ℕ → Fin 512 → ℝ) (L : List (View.Piece (Elt Ideal) S272x512 .f32)) :
    View.ld (Val := Elt Ideal) (e' := .f32) (S := S272x512) (View.canon (gstores E L))
      (Rect.unit ![0, 0] ![16, 512] inb_S272x512_S16x512_0_0) = (win2 E 0 : Arr2 16 512) :=
  ld_rows _ E 0 _ fun r c h => groups_over E _ r c fun h' => absurd h (by omega)

theorem carry1 (E : ℕ → Fin 512 → ℝ) (L : List (View.Piece (Elt Ideal) S272x512 .f32)) :
    View.canon (Val := Elt Ideal) (e := .f32) (s := S272x512)
      (⟨Rect.unit ![256, 0] ![16, 512] inb_S272x512_S16x512_256_0, (win2 E 0 : Arr2 16 512)⟩ :: gstores E L) = carry E :=
  carry_over (N := 272) (n := 16) E rfl (by norm_num) _ inb_S272x512_S16x512_256_0 fun r c h => groups_over E _ r c fun h' => absurd h (by omega)

theorem gfold (E : ℕ → Fin 512 → ℝ) (L : List (View.Piece (Elt Ideal) S272x512 .f32)) :
    (⟨Rect.unit ![0, 384] ![256, 128] inb_S272x512_S256x128_0_384, pwin E 0 3⟩
    :: ⟨Rect.unit ![0, 256] ![256, 128] inb_S272x512_S256x128_0_256, pwin E 0 2⟩
    :: ⟨Rect.unit ![0, 128] ![256, 128] inb_S272x512_S256x128_0_128, pwin E 0 1⟩
    :: ⟨Rect.unit ![0, 0] ![256, 128] inb_S272x512_S256x128_0_0, pwin E 0 0⟩ :: L : List (View.Piece (Elt Ideal) S272x512 .f32))
      = gstores E L := rfl

theorem ld_group (E : ℕ → Fin 512 → ℝ) (o k : ℕ) (i : Fin 4) (hk : k = i.val * 128) (J : Arr2 272 512)
    (inb : ∀ x, (![o, k] : Fin 2 → ℕ) x + (![256, 128] : Fin 2 → ℕ) x ≤ S272x512.size x)
    (h : ∀ (r : Fin 272) c, r.val < o + 256 → J (ix2 r c) = ((E r.val c : ℝ) : EReal)) :
    View.ld (Val := Elt Ideal) (e' := .f32) (S := S272x512) J (Rect.unit ![o, k] ![256, 128] inb) = pwin E o i := by
  refine ext2 fun x0 x1 => ?_
  refine (ld2 (e' := .f32) o k inb J x0 x1).trans ?_
  have e1 : (⟨k + x1.val, lt_of_lt_of_le (Nat.add_lt_add_left x1.isLt k) (inb 1)⟩ : Fin 512) = grp i x1 := Fin.ext (by
    show k + x1.val = i.val * 128 + x1.val
    rw [hk])
  rw [e1]
  exact h _ _ (Nat.add_lt_add_left x0.isLt o)

theorem ld_g0 (E : ℕ → Fin 512 → ℝ) (o : ℕ) (inb : ∀ x, (![o, 0] : Fin 2 → ℕ) x + (![256, 128] : Fin 2 → ℕ) x ≤ S272x512.size x) :
    View.ld (Val := Elt Ideal) (e' := .f32) (S := S272x512) (win2 E 0) (Rect.unit ![o, 0] ![256, 128] inb) = pwin E o 0 :=
  ld_group E o _ 0 rfl _ inb fun r c _ => by rw [win2_at, Nat.zero_add]

theorem ld_t0 (E : ℕ → Fin 512 → ℝ) (L : List (View.Piece (Elt Ideal) S272x512 .f32)) :
    View.ld (Val := Elt Ideal) (e' := .f32) (S := S272x512) (View.canon (gstores E L))
      (Rect.unit ![0, 0] ![256, 128] inb_S272x512_S256x128_0_0) = pwin E 0 0 :=
  ld_group E 0 _ 0 rfl _ _ fun r c h => groups_over E _ r c fun h' => absurd h (by omega)

theorem ld_wg0 (w : Fin 4 → Fin 128 → Fin 128 → ℝ) :
    View.ld (Val := Elt Ideal) (e' := .bf16) (S := S4x128x128) (up3 w)
      (Rect.unit ![0, 0, 0] ![1, 128, 128] inb_S4x128x128_S1x128x128_0_0_0) = (g3 (w 0) : Arr3 1 128 128) := by
  funext x
  idx_vars x
  pointwise
  rfl

theorem ld_chip0 (w : Fin 4 → Fin 1024 → Fin 384 → ℝ) :
    View.ld (Val := Elt Ideal) (e' := .bf16) (S := S4x1024x384) (up3 w)
      (Rect.unit ![0, 0, 0] ![1, 1024, 384] inb_S4x1024x384_S1x1024x384_0_0_0) = (g3 (w 0) : Arr3 1 1024 384) := by
  funext x
  idx_vars x
  pointwise
  rfl

theorem ld_g1 (E : ℕ → Fin 512 → ℝ) (o : ℕ) (inb : ∀ x, (![o, 128] : Fin 2 → ℕ) x + (![256, 128] : Fin 2 → ℕ) x ≤ S272x512.size x) :
    View.ld (Val := Elt Ideal) (e' := .f32) (S := S272x512) (win2 E 0) (Rect.unit ![o, 128] ![256, 128] inb) = pwin E o 1 :=
  ld_group E o _ 1 rfl _ inb fun r c _ => by rw [win2_at, Nat.zero_add]

theorem ld_t1 (E : ℕ → Fin 512 → ℝ) (L : List (View.Piece (Elt Ideal) S272x512 .f32)) :
    View.ld (Val := Elt Ideal) (e' := .f32) (S := S272x512) (View.canon (gstores E L))
      (Rect.unit ![0, 128] ![256, 128] inb_S272x512_S256x128_0_128) = pwin E 0 1 :=
  ld_group E 0 _ 1 rfl _ _ fun r c h => groups_over E _ r c fun h' => absurd h (by omega)

theorem ld_wg1 (w : Fin 4 → Fin 128 → Fin 128 → ℝ) :
    View.ld (Val := Elt Ideal) (e' := .bf16) (S := S4x128x128) (up3 w)
      (Rect.unit ![1, 0, 0] ![1, 128, 128] inb_S4x128x128_S1x128x128_1_0_0) = (g3 (w 1) : Arr3 1 128 128) := by
  funext x
  idx_vars x
  pointwise
  rfl

theorem ld_chip1 (w : Fin 4 → Fin 1024 → Fin 384 → ℝ) :
    View.ld (Val := Elt Ideal) (e' := .bf16) (S := S4x1024x384) (up3 w)
      (Rect.unit ![1, 0, 0] ![1, 1024, 384] inb_S4x1024x384_S1x1024x384_1_0_0) = (g3 (w 1) : Arr3 1 1024 384) := by
  funext x
  idx_vars x
  pointwise
  rfl

theorem ld_g2 (E : ℕ → Fin 512 → ℝ) (o : ℕ) (inb : ∀ x, (![o, 256] : Fin 2 → ℕ) x + (![256, 128] : Fin 2 → ℕ) x ≤ S272x512.size x) :
    View.ld (Val := Elt Ideal) (e' := .f32) (S := S272x512) (win2 E 0) (Rect.unit ![o, 256] ![256, 128] inb) = pwin E o 2 :=
  ld_group E o _ 2 rfl _ inb fun r c _ => by rw [win2_at, Nat.zero_add]

theorem ld_t2 (E : ℕ → Fin 512 → ℝ) (L : List (View.Piece (Elt Ideal) S272x512 .f32)) :
    View.ld (Val := Elt Ideal) (e' := .f32) (S := S272x512) (View.canon (gstores E L))
      (Rect.unit ![0, 256] ![256, 128] inb_S272x512_S256x128_0_256) = pwin E 0 2 :=
  ld_group E 0 _ 2 rfl _ _ fun r c h => groups_over E _ r c fun h' => absurd h (by omega)

theorem ld_wg2 (w : Fin 4 → Fin 128 → Fin 128 → ℝ) :
    View.ld (Val := Elt Ideal) (e' := .bf16) (S := S4x128x128) (up3 w)
      (Rect.unit ![2, 0, 0] ![1, 128, 128] inb_S4x128x128_S1x128x128_2_0_0) = (g3 (w 2) : Arr3 1 128 128) := by
  funext x
  idx_vars x
  pointwise
  rfl

theorem ld_chip2 (w : Fin 4 → Fin 1024 → Fin 384 → ℝ) :
    View.ld (Val := Elt Ideal) (e' := .bf16) (S := S4x1024x384) (up3 w)
      (Rect.unit ![2, 0, 0] ![1, 1024, 384] inb_S4x1024x384_S1x1024x384_2_0_0) = (g3 (w 2) : Arr3 1 1024 384) := by
  funext x
  idx_vars x
  pointwise
  rfl

theorem ld_g3 (E : ℕ → Fin 512 → ℝ) (o : ℕ) (inb : ∀ x, (![o, 384] : Fin 2 → ℕ) x + (![256, 128] : Fin 2 → ℕ) x ≤ S272x512.size x) :
    View.ld (Val := Elt Ideal) (e' := .f32) (S := S272x512) (win2 E 0) (Rect.unit ![o, 384] ![256, 128] inb) = pwin E o 3 :=
  ld_group E o _ 3 rfl _ inb fun r c _ => by rw [win2_at, Nat.zero_add]

theorem ld_t3 (E : ℕ → Fin 512 → ℝ) (L : List (View.Piece (Elt Ideal) S272x512 .f32)) :
    View.ld (Val := Elt Ideal) (e' := .f32) (S := S272x512) (View.canon (gstores E L))
      (Rect.unit ![0, 384] ![256, 128] inb_S272x512_S256x128_0_384) = pwin E 0 3 :=
  ld_group E 0 _ 3 rfl _ _ fun r c h => groups_over E _ r c fun h' => absurd h (by omega)

theorem ld_wg3 (w : Fin 4 → Fin 128 → Fin 128 → ℝ) :
    View.ld (Val := Elt Ideal) (e' := .bf16) (S := S4x128x128) (up3 w)
      (Rect.unit ![3, 0, 0] ![1, 128, 128] inb_S4x128x128_S1x128x128_3_0_0) = (g3 (w 3) : Arr3 1 128 128) := by
  funext x
  idx_vars x
  pointwise
  rfl

theorem ld_chip3 (w : Fin 4 → Fin 1024 → Fin 384 → ℝ) :
    View.ld (Val := Elt Ideal) (e' := .bf16) (S := S4x1024x384) (up3 w)
      (Rect.unit ![3, 0, 0] ![1, 1024, 384] inb_S4x1024x384_S1x1024x384_3_0_0) = (g3 (w 3) : Arr3 1 1024 384) := by
  funext x
  idx_vars x
  pointwise
  rfl

theorem scr0_B' (hw : (Memref.whole cc0_scratch0).IsWhole) (D D' : ℕ → Fin 512 → ℝ) (z : ∀ r c, r < 32 → D (256 + r) c = D' r c) :
    View.read (Elt Ideal) (View.whole cc0_scratch0) ((View.whole cc0_scratch0).writes (Elt Ideal) (hw.unread (carry D' : Arr2 288 512))
      [⟨Rect.unit ![0, 0] ![256, 512] inb_S288x512_S256x512_0_0, (win2 D 0 : Arr2 256 512)⟩]) = win2 D 0 :=
  scr0_B _ _ D D' (hw.read_unread _) z

theorem scr1_B' (hw : (Memref.whole cc0_scratch1).IsWhole) (E E' : ℕ → Fin 512 → ℝ) (z : ∀ r c, r < 16 → E (256 + r) c = E' r c) :
    View.read (Elt Ideal) (View.whole cc0_scratch1) ((View.whole cc0_scratch1).writes (Elt Ideal) (hw.unread (carry E' : Arr2 272 512))
      (gstores E [])) = win2 E 0 :=
  scr1_B _ _ E E' (hw.read_unread _) z

theorem canon_a (q q' : View.Piece (Elt Ideal) S8x1024 .f32) (L : List (View.Piece (Elt Ideal) S8x1024 .f32)) :
    View.canon (q :: q' :: L) = q.1.overlay (View.canon (q' :: L)) q.2 := rfl

theorem read_a {κ : Kind} {sp : Space} (v : View sig κ sp S8x1024 .f32) (f : v.ty.Contents (Elt Ideal))
    (q : View.Piece (Elt Ideal) S8x1024 .f32) (L : List (View.Piece (Elt Ideal) S8x1024 .f32)) :
    v.read (Elt Ideal) (v.writes (Elt Ideal) f (q :: L)) = q.1.overlay (v.read (Elt Ideal) (v.writes (Elt Ideal) f L)) q.2 :=
  read_over v f q L

theorem canon_b (q q' : View.Piece (Elt Ideal) S8x512 .f32) (L : List (View.Piece (Elt Ideal) S8x512 .f32)) :
    View.canon (q :: q' :: L) = q.1.overlay (View.canon (q' :: L)) q.2 := rfl

theorem read_b {κ : Kind} {sp : Space} (v : View sig κ sp S8x512 .f32) (f : v.ty.Contents (Elt Ideal))
    (q : View.Piece (Elt Ideal) S8x512 .f32) (L : List (View.Piece (Elt Ideal) S8x512 .f32)) :
    v.read (Elt Ideal) (v.writes (Elt Ideal) f (q :: L)) = q.1.overlay (v.read (Elt Ideal) (v.writes (Elt Ideal) f L)) q.2 :=
  read_over v f q L

theorem canon_c (q q' : View.Piece (Elt Ideal) S32x512 .f32) (L : List (View.Piece (Elt Ideal) S32x512 .f32)) :
    View.canon (q :: q' :: L) = q.1.overlay (View.canon (q' :: L)) q.2 := rfl

theorem read_c {κ : Kind} {sp : Space} (v : View sig κ sp S32x512 .f32) (f : v.ty.Contents (Elt Ideal))
    (q : View.Piece (Elt Ideal) S32x512 .f32) (L : List (View.Piece (Elt Ideal) S32x512 .f32)) :
    v.read (Elt Ideal) (v.writes (Elt Ideal) f (q :: L)) = q.1.overlay (v.read (Elt Ideal) (v.writes (Elt Ideal) f L)) q.2 :=
  read_over v f q L

theorem canon_d (q q' : View.Piece (Elt Ideal) S4x128x128 .f32) (L : List (View.Piece (Elt Ideal) S4x128x128 .f32)) :
    View.canon (q :: q' :: L) = q.1.overlay (View.canon (q' :: L)) q.2 := rfl

theorem read_d {κ : Kind} {sp : Space} (v : View sig κ sp S4x128x128 .f32) (f : v.ty.Contents (Elt Ideal))
    (q : View.Piece (Elt Ideal) S4x128x128 .f32) (L : List (View.Piece (Elt Ideal) S4x128x128 .f32)) :
    v.read (Elt Ideal) (v.writes (Elt Ideal) f (q :: L)) = q.1.overlay (v.read (Elt Ideal) (v.writes (Elt Ideal) f L)) q.2 :=
  read_over v f q L

theorem canon_whole3 (w : Arr3 4 128 128) :
    View.canon (Val := Elt Ideal) (e := .f32) (s := S4x128x128) [⟨Rect.unit ![0, 0, 0] ![4, 128, 128] inb_S4x128x128_S4x128x128_0_0_0, w⟩] = w := by
  funext y
  canon_tiles x h
  refine congrArg w (funext fun a => Fin.ext ?_)
  fin_cases a
  · exact h0.symm
  · exact h1.symm
  · exact h2.symm

/-- Four matrices with one replaced. -/
def upd3 (W : Fin 4 → Fin 128 → Fin 128 → ℝ) (k : ℕ) (w : Fin 128 → Fin 128 → ℝ) : Fin 4 → Fin 128 → Fin 128 → ℝ :=
  fun i => if i.val = k then w else W i

theorem upd3_at (W : Fin 4 → Fin 128 → Fin 128 → ℝ) (k j : ℕ) (w : Fin 128 → Fin 128 → ℝ) (hj : j < 4) :
    upd3 W k w ⟨j, hj⟩ = if j = k then w else W ⟨j, hj⟩ := rfl

theorem blk_lt {k : ℕ} (inb : ∀ x, (![k, 0, 0] : Fin 3 → ℕ) x + (![1, 128, 128] : Fin 3 → ℕ) x ≤ S4x128x128.size x) : k < 4 :=
  inb 0

theorem ld_blk (W : Fin 4 → Fin 128 → Fin 128 → ℝ) (k : ℕ)
    (inb : ∀ x, (![k, 0, 0] : Fin 3 → ℕ) x + (![1, 128, 128] : Fin 3 → ℕ) x ≤ S4x128x128.size x) :
    View.ld (Val := Elt Ideal) (e' := .f32) (S := S4x128x128) (up3 W) (Rect.unit ![k, 0, 0] ![1, 128, 128] inb)
      = (g3 (W ⟨k, blk_lt inb⟩) : Arr3 1 128 128) := by
  refine ext3 fun x0 x1 x2 => ?_
  refine (ld3 (e' := .f32) k 0 0 inb (up3 W) x0 x1 x2).trans ?_
  have e0 : (⟨k + x0.val, lt_of_lt_of_le (Nat.add_lt_add_left x0.isLt k) (inb 0)⟩ : Fin 4) = ⟨k, blk_lt inb⟩ := Fin.ext (by
    show k + x0.val = k
    omega)
  have e1 : (⟨0 + x1.val, lt_of_lt_of_le (Nat.add_lt_add_left x1.isLt 0) (inb 1)⟩ : Fin 128) = x1 := Fin.ext (Nat.zero_add _)
  have e2 : (⟨0 + x2.val, lt_of_lt_of_le (Nat.add_lt_add_left x2.isLt 0) (inb 2)⟩ : Fin 128) = x2 := Fin.ext (Nat.zero_add _)
  rw [e0, e1, e2]
  rfl

theorem over_blk (W : Fin 4 → Fin 128 → Fin 128 → ℝ) (k : ℕ) (w : Fin 128 → Fin 128 → ℝ)
    (inb : ∀ x, (![k, 0, 0] : Fin 3 → ℕ) x + (![1, 128, 128] : Fin 3 → ℕ) x ≤ S4x128x128.size x) :
    (Rect.unit (s := S4x128x128) ![k, 0, 0] ![1, 128, 128] inb).overlay (up3 W) (g3 w) = up3 (upd3 W k w) := by
  refine ext3 fun y0 y1 y2 => ?_
  by_cases h : y0.val = k
  · have e : (ix3 y0 y1 y2 : S4x128x128.Idx) = (Rect.unit (s := S4x128x128) ![k, 0, 0] ![1, 128, 128] inb).emb (ix3 0 y1 y2) := by
      funext a
      apply Fin.ext
      refine Eq.trans ?_ (Rect.idx_unit_val _ _ _ _ _).symm
      fin_cases a
      · exact h
      · exact (Nat.zero_add _).symm
      · exact (Nat.zero_add _).symm
    rw [e, Rect.overlay_emb, ← e, g3_at, up3_at]
    exact congrArg (fun v : Fin 128 → Fin 128 → ℝ => ((v y1 y2 : ℝ) : EReal)) (if_pos h).symm
  · rw [Rect.overlay_of_not_mem, up3_at, up3_at]
    · exact congrArg (fun v : Fin 128 → Fin 128 → ℝ => ((v y1 y2 : ℝ) : EReal)) (if_neg h).symm
    · intro hm
      obtain ⟨x, hx⟩ := (Rect.unit (s := S4x128x128) ![k, 0, 0] ![1, 128, 128] inb).exists_idx_of_mem hm
      apply h
      have hv := congrArg (fun i : S4x128x128.Idx => (i 0).val) hx
      refine hv.symm.trans ((Rect.idx_unit_val _ _ _ _ _).trans ?_)
      have h1 : (x 0).val < 1 := (x 0).isLt
      show k + (x 0).val = k
      omega

theorem canon_four (w0 w1 w2 w3 : Fin 128 → Fin 128 → ℝ) :
    View.canon (Val := Elt Ideal) (e := .f32) (s := S4x128x128)
      [⟨Rect.unit ![3, 0, 0] ![1, 128, 128] inb_S4x128x128_S1x128x128_3_0_0, (g3 w3 : Arr3 1 128 128)⟩,
       ⟨Rect.unit ![2, 0, 0] ![1, 128, 128] inb_S4x128x128_S1x128x128_2_0_0, (g3 w2 : Arr3 1 128 128)⟩,
       ⟨Rect.unit ![1, 0, 0] ![1, 128, 128] inb_S4x128x128_S1x128x128_1_0_0, (g3 w1 : Arr3 1 128 128)⟩,
       ⟨Rect.unit ![0, 0, 0] ![1, 128, 128] inb_S4x128x128_S1x128x128_0_0_0, (g3 w0 : Arr3 1 128 128)⟩]
      = up3 ![w0, w1, w2, w3] := by
  have key : ∀ (k : ℕ) (hk : k < 4) (w : Fin 128 → Fin 128 → ℝ) (_ : w = (![w0, w1, w2, w3] : Fin 4 → _) ⟨k, hk⟩) (y0 : Fin 4) (y1 y2 : Fin 128)
      (x : (⟨3, ![1, 128, 128]⟩ : Shape).Idx) (_ : y0.val = k + (x 0).val) (_ : (x 0).val < 1) (_ : y1.val = (x 1).val) (_ : y2.val = (x 2).val),
      (g3 w : Arr3 1 128 128) x = up3 ![w0, w1, w2, w3] (ix3 y0 y1 y2) := by
    intro k hk w hw y0 y1 y2 x h0 hx h1 h2
    have e0 : y0 = ⟨k, hk⟩ := Fin.ext (by
      show y0.val = k
      omega)
    have e1 : y1 = x 1 := Fin.ext h1
    have e2 : y2 = x 2 := Fin.ext h2
    subst e0 e1 e2 hw
    rfl
  funext y
  idx_vars y
  canon_tiles x h
  · exact key 3 (by decide) w3 rfl y0 y1 y2 x h0 x0_lt h1 h2
  · exact key 2 (by decide) w2 rfl y0 y1 y2 x h0 x0_lt h1 h2
  · exact key 1 (by decide) w1 rfl y0 y1 y2 x h0 x0_lt h1 h2
  · exact key 0 (by decide) w0 rfl y0 y1 y2 x (h0.trans (Nat.zero_add _).symm) x0_lt h1 h2

theorem acc_all (p : Par) (D : ℕ → Fin 512 → ℝ) : acc p D 31 = up2 fun (r : Fin 256) => p.tapsum D 31 r.val := rfl

end Cert.Hand.Mix
end
-- ==== Proof.Mix.Point.lean ====
/- What the kernel writes at one grid point, window by window, when the blocks it reads hold real numbers. -/
module

public import proofs.«01_k».proof.Proof.Mix.Loads
public import Idealize.ShloMosaic.Lib.Claim

@[expose] public section
set_option maxRecDepth 16384
noncomputable section
namespace Cert.Hand.Mix
open Idealize.ShloMosaic Idealize.ShloMosaic.Pipeline Cert.Hand Cert.Kernel2Ideal Cert.Kernel2Ideal.Gen
variable (m : (ℓ : Loc nD τ sig) → Buf (Elt Ideal) ℓ) (c : Dev nD)

/-- The blocks of one grid point hold real numbers. -/
structure Blk (M : Fin 6 → Fin 1024 → ℝ) (p : Par) (C X Y : Fin 256 → Fin 1024 → ℝ) (U : Fin 256 → Fin 1536 → ℝ)
    (Z P : Fin 256 → Fin 512 → ℝ) (R : Fin 256 → ℝ) (t : Fin cfg0.N) : Prop where
  h0 : M 0 = p.sh
  h1 : M 1 = p.sc
  h2 : M 2 = p.gt
  b0 : iblk m c 0 t = up2 C
  b1 : iblk m c 1 t = up2 X
  b2 : iblk m c 2 t = up2 Y
  b3 : iblk m c 3 t = up2 U
  b4 : iblk m c 4 t = up2 Z
  b5 : iblk m c 5 t = colv R
  b6 : iblk m c 6 t = up2 P
  b7 : iblk m c 7 t = up2 M
  b8 : iblk m c 8 t = row1 p.g
  b9 : iblk m c 9 t = up3 fun j d k => p.win d (chip j k)
  b10 : iblk m c 10 t = up2 fun (k : Fin 32) => p.tap k.val
  b11 : iblk m c 11 t = row1 p.lg
  b12 : iblk m c 12 t = row1 p.lb
  b13 : iblk m c 13 t = up2 p.pw
  b14 : iblk m c 14 t = up3 p.wg
  b15 : iblk m c 15 t = row1 p.ps
  b16 : iblk m c 16 t = up2 p.wo

variable {M : Fin 6 → Fin 1024 → ℝ} {p : Par} {C X Y : Fin 256 → Fin 1024 → ℝ} {U : Fin 256 → Fin 1536 → ℝ}
  {Z P : Fin 256 → Fin 512 → ℝ} {R : Fin 256 → ℝ} {t : Fin cfg0.N}

/-- The number of the tile the point works on, as the kernel's word. -/
theorem tile_word (t : Fin cfg0.N) : Scalar.subi 7#32 (BitVec.ofNat 32 (grid0.coords t 0).val) = BitVec.ofNat 32 (7 - t.val) := by
  revert t
  decide +kernel

theorem Blk.hm0 {m : (ℓ : Loc nD τ sig) → Buf (Elt Ideal) ℓ} {c : Dev nD} (B : Blk m c M p C X Y U Z P R t) (h : 0 < 6) : M ⟨0, h⟩ = p.sh := B.h0
theorem Blk.hm1 {m : (ℓ : Loc nD τ sig) → Buf (Elt Ideal) ℓ} {c : Dev nD} (B : Blk m c M p C X Y U Z P R t) (h : 1 < 6) : M ⟨1, h⟩ = p.sc := B.h1
theorem Blk.hm2 {m : (ℓ : Loc nD τ sig) → Buf (Elt Ideal) ℓ} {c : Dev nD} (B : Blk m c M p C X Y U Z P R t) (h : 2 < 6) : M ⟨2, h⟩ = p.gt := B.h2

/-- The sequences whose first rows are the tile's gradients of the convolution and the tile's divided gradients. -/
structure Tile (p : Par) (C : Fin 256 → Fin 1024 → ℝ) (Z : Fin 256 → Fin 512 → ℝ) (R : Fin 256 → ℝ) (D E : ℕ → Fin 512 → ℝ) (t : Fin cfg0.N) : Prop where
  lt : 7 - t.val < 8
  hd : (up2 fun r => p.dcv (C r) (Z r) (R r)) = (win2 D 0 : Arr2 256 512)
  he0 : (up2 fun (r : Fin 256) e => p.dq (C r) ((7 - t.val) * 256 + r.val) (grp 0 e)) = pwin E 0 0
  he1 : (up2 fun (r : Fin 256) e => p.dq (C r) ((7 - t.val) * 256 + r.val) (grp 1 e)) = pwin E 0 1
  he2 : (up2 fun (r : Fin 256) e => p.dq (C r) ((7 - t.val) * 256 + r.val) (grp 2 e)) = pwin E 0 2
  he3 : (up2 fun (r : Fin 256) e => p.dq (C r) ((7 - t.val) * 256 + r.val) (grp 3 e)) = pwin E 0 3

variable {D E D' E' : ℕ → Fin 512 → ℝ}

theorem out17_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).1 = up2 fun r => p.gx (C r) (X r) (p.dh (du (p.tapsum D 31 r.val) (U r) (p.dv (C r) E r.val))) := by
  rw [outsAt0_A m c t h]; frame_out
  simp only [pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out18_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.1 = up2 fun r => p.h (X r) := by
  rw [outsAt0_A m c t h]; frame_out
  simp only [pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out19_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.1 = up2 fun r => (du (p.tapsum D 31 r.val) (U r) (p.dv (C r) E r.val)) := by
  rw [outsAt0_A m c t h]; frame_out
  simp only [pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out20_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.1 = up2 fun r => p.dy (C r) := by
  rw [outsAt0_A m c t h]; frame_out
  simp only [pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem keep0_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.2.2.2.2.2.1 = carry D := by
  rw [outsAt0_A m c t h]; frame_out
  simp only [pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem keep1_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.2.2.2.2.2.2 = carry E := by
  rw [outsAt0_A m c t h]; frame_out
  simp only [pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out17_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E') :
    (outsAt0 m c t.val t.isLt).1 = up2 fun r => p.gx (C r) (X r) (p.dh (du (p.tapsum D 31 r.val) (U r) (p.dv (C r) E r.val))) := by
  rw [outsAt0_B m c t h]; frame_out
  simp only [pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out18_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E') :
    (outsAt0 m c t.val t.isLt).2.1 = up2 fun r => p.h (X r) := by
  rw [outsAt0_B m c t h]; frame_out
  simp only [pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out19_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E') :
    (outsAt0 m c t.val t.isLt).2.2.1 = up2 fun r => (du (p.tapsum D 31 r.val) (U r) (p.dv (C r) E r.val)) := by
  rw [outsAt0_B m c t h]; frame_out
  simp only [pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out20_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E') :
    (outsAt0 m c t.val t.isLt).2.2.2.1 = up2 fun r => p.dy (C r) := by
  rw [outsAt0_B m c t h]; frame_out
  simp only [pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem keep0_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E') :
    (outsAt0 m c t.val t.isLt).2.2.2.2.2.2.2.2.2.1 = carry D := by
  rw [outsAt0_B m c t h]; frame_out
  simp only [pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem keep1_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E') :
    (outsAt0 m c t.val t.isLt).2.2.2.2.2.2.2.2.2.2 = carry E := by
  rw [outsAt0_B m c t h]; frame_out
  simp only [pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay16_up, pay19_up, pay45_up]
end Cert.Hand.Mix
end
-- ==== Proof.Mix.Vec.lean ====
/- The sums over tokens, which every grid point adds to. -/
module

public import proofs.«01_k».proof.Proof.Mix.Point

@[expose] public section
set_option maxRecDepth 16384
noncomputable section
namespace Cert.Hand.Mix
open Idealize.ShloMosaic Idealize.ShloMosaic.Pipeline Cert.Hand Cert.Kernel2Ideal Cert.Kernel2Ideal.Gen
variable (m : (ℓ : Loc nD τ sig) → Buf (Elt Ideal) ℓ) (c : Dev nD)

variable {M : Fin 6 → Fin 1024 → ℝ} {p : Par} {C X Y : Fin 256 → Fin 1024 → ℝ} {U : Fin 256 → Fin 1536 → ℝ}
  {Z P : Fin 256 → Fin 512 → ℝ} {R : Fin 256 → ℝ} {t : Fin cfg0.N}
variable {D E D' E' : ℕ → Fin 512 → ℝ}

theorem out21_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.1 = up2 fun i e => ∑ r, p.sw (Z r) i * p.dyc (C r) e := by
  rw [outsAt0_A m c t h]; frame_out
  simp only [canon_whole2, zero_add, pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out22_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.2.1 = up3 fun i a e => ∑ r, P r (grp i a) * p.dypb (C r) (grp i e) := by
  rw [outsAt0_A m c t h]; frame_out
  simp only [ld_blk, canon_whole3, canon_d, over_blk, upd3_at, pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i a e; fin_cases i <;> simp [upd3]

theorem out23_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.2.2.1 = up2 fun i d => ∑ r, p.vdr (C r) (X r) (Y r) (p.dh (du (p.tapsum D 31 r.val) (U r) (p.dv (C r) E r.val))) i d := by
  rw [outsAt0_A m c t h]; frame_out
  simp only [canon_whole2, canon_a, upd_at, pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i d; fin_cases i <;> simp [upd, Par.vdr]

theorem out24_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.2.2.2.1 = up2 fun i d => ∑ r, p.vcr (C r) (Z r) (R r) (P r) i d := by
  rw [outsAt0_A m c t h]; frame_out
  simp only [canon_whole2, canon_b, upd_at, pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i d; fin_cases i <;> simp [upd, Par.vcr]

theorem out25_A (B : Blk m c M p C X Y U Z P R t) (T : Tile p C Z R D E t) (h : t.val % 8 = 0) (zD : ∀ r c, 256 ≤ r → r < 288 → D r c = 0)
    (zE : ∀ r c, 256 ≤ r → r < 272 → E r c = 0) :
    (outsAt0 m c t.val t.isLt).2.2.2.2.2.2.2.2.1 = up2 fun i d => ∑ r : Fin 256, if i.val < 31 then glu (U r) d * D (30 - i.val + r.val) d else 0 := by
  rw [outsAt0_A m c t h]; frame_out
  simp only [canon_whole2, canon_c, upd_at, pay23_up (hb := T.lt), pay27_up (hb := T.lt), pay32_up (hb := T.lt), pay37_up (hb := T.lt), scr0_A D zD, scr1_A E zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i d; fin_cases i <;> simp [upd]

theorem out21_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E')
    (W : Fin 512 → Fin 512 → ℝ) (hW : (outsAt0 m c (t.val - 1) (Nat.lt_of_le_of_lt (Nat.sub_le _ _) t.isLt)).2.2.2.2.1 = up2 W) :
    (outsAt0 m c t.val t.isLt).2.2.2.2.1 = up2 fun i e => W i e + ∑ r, p.sw (Z r) i * p.dyc (C r) e := by
  rw [outsAt0_B m c t h]; frame_out
  simp only [hW, canon_whole2, zero_add, pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]

theorem out22_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E')
    (W : Fin 4 → Fin 128 → Fin 128 → ℝ) (hW : (outsAt0 m c (t.val - 1) (Nat.lt_of_le_of_lt (Nat.sub_le _ _) t.isLt)).2.2.2.2.2.1 = up3 W) :
    (outsAt0 m c t.val t.isLt).2.2.2.2.2.1 = up3 fun i a e => W i a e + ∑ r, P r (grp i a) * p.dypb (C r) (grp i e) := by
  rw [outsAt0_B m c t h]; frame_out
  simp only [hW, ld_blk, canon_four, pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i a e; fin_cases i <;> simp [upd3]

theorem out23_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E')
    (W : Fin 8 → Fin 1024 → ℝ) (hW : (outsAt0 m c (t.val - 1) (Nat.lt_of_le_of_lt (Nat.sub_le _ _) t.isLt)).2.2.2.2.2.2.1 = up2 W) :
    (outsAt0 m c t.val t.isLt).2.2.2.2.2.2.1 = up2 fun i d => W i d + ∑ r, p.vdr (C r) (X r) (Y r) (p.dh (du (p.tapsum D 31 r.val) (U r) (p.dv (C r) E r.val))) i d := by
  rw [outsAt0_B m c t h]; frame_out
  simp only [hW, read_a, View.writes_nil, Memref.IsWhole.read_unread, upd_at, pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i d; fin_cases i <;> simp [upd, Par.vdr]

theorem out24_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E')
    (W : Fin 8 → Fin 512 → ℝ) (hW : (outsAt0 m c (t.val - 1) (Nat.lt_of_le_of_lt (Nat.sub_le _ _) t.isLt)).2.2.2.2.2.2.2.1 = up2 W) :
    (outsAt0 m c t.val t.isLt).2.2.2.2.2.2.2.1 = up2 fun i d => W i d + ∑ r, p.vcr (C r) (Z r) (R r) (P r) i d := by
  rw [outsAt0_B m c t h]; frame_out
  simp only [hW, read_b, View.writes_nil, Memref.IsWhole.read_unread, upd_at, pay23_up (hb := T.lt), pay27_up (hb := T.lt), pay32_up (hb := T.lt), pay37_up (hb := T.lt), hD, hE, scr0_B' _ D D' zD, scr1_B' _ E E' zE, B.b0, B.b1, B.b2, B.b3, B.b4, B.b5, B.b6, B.b7, B.b8, B.b9, B.b10, B.b11, B.b12, B.b13, B.b14, B.b15, B.b16, B.hm0, B.hm1, B.hm2, tile_word, T.hd, T.he0, T.he1, T.he2, T.he3, gfold, readCov_ld, ld_wg0, ld_wg1, ld_wg2, ld_wg3, ld_chip0, ld_chip1, ld_chip2, ld_chip3, ld_t0, ld_t1, ld_t2, ld_t3, ld_top1, ld_g0, ld_g1, ld_g2, ld_g3, top_rows _ (by norm_num : 32 ≤ 256), top_rows _ (le_refl 256), carry0, carry1, ld_win2, shifts, ld_shift, acc_all, ld_row, over_row, Nat.reduceAdd, pay2_up, pay3_up, pay4_up, pay5_up, pay6_up, pay7_up, pay8_up, pay9_up, pay10_up, pay11_up, pay12_up, pay13_up, pay14_up, pay15_up, pay16_up, pay17_up, pay19_up, pay20_up, pay21_up, pay22_up, pay24_up, pay25_up, pay26_up, pay28_up, pay29_up, pay30_up, pay31_up, pay33_up, pay34_up, pay35_up, pay36_up, pay23_up, pay27_up, pay32_up, pay37_up, pay38_up, pay39_up, pay40_up, pay41_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay104_up, pay105_up, pay106_up, pay107_up, pay108_up, pay109_up, pay110_up, pay111_up, pay112_up, pay113_up, pay114_up, pay115_up, pay116_up, pay117_up, pay118_up, pay119_up, pay120_up, pay121_up, pay122_up, pay123_up, pay124_up, pay125_up, pay126_up, pay127_up, pay128_up, pay129_up, pay130_up, pay131_up, pay132_up, pay133_up, pay134_up, pay135_up, pay136_up, pay137_up, pay138_up, pay139_up, pay140_up, pay141_up, pay142_up, pay143_up, pay144_up, pay145_up, pay146_up, pay147_up, pay148_up, pay149_up, pay150_up, pay151_up, pay152_up, pay153_up, pay154_up, pay155_up, pay156_up, pay157_up, pay158_up, pay159_up, pay160_up, pay161_up, pay162_up, pay163_up, pay164_up, pay1_up]
  congr 1; funext i d; fin_cases i <;> simp [upd, Par.vcr]

theorem out25_B (B : Blk m c M p C X Y U Z P R t) (T : Tile p C Z R D E t) (h : ¬t.val % 8 = 0) (zD : ∀ r c, r < 32 → D (256 + r) c = D' r c) (zE : ∀ r c, r < 16 → E (256 + r) c = E' r c)
    (hD : (outsAt0 m c (t.val - 1) (Nat.lt_of_le_of_lt (Nat.sub_le _ _) t.isLt)).2.2.2.2.2.2.2.2.2.1 = carry D')
    (hE : (outsAt0 m c (t.val - 1) (Nat.lt_of_le_of_lt (Nat.sub_le _ _) t.isLt)).2.2.2.2.2.2.2.2.2.2 = carry E')
    (W : Fin 32 → Fin 512 → ℝ) (hW : (outsAt0 m c (t.val - 1) (Nat.lt_of_le_of_lt (Nat.sub_le _ _) t.isLt)).2.2.2.2.2.2.2.2.1 = up2 W) :
    (outsAt0 m c t.val t.isLt).2.2.2.2.2.2.2.2.1 = up2 fun i d => W i d + ∑ r : Fin 256, if i.val < 31 then glu (U r) d * D (30 - i.val + r.val) d else 0 := by
  rw [outsAt0_B m c t h]; frame_out
  simp only [hW, read_c, View.writes_nil, Memref.IsWhole.read_unread, upd_at, hD, scr0_B' _ D D' zD, B.b0, B.b3, B.b4, B.b5, B.b7, B.b11, B.b12, B.b13, B.b16, B.hm2, T.hd, readCov_ld, top_rows _ (le_refl 256), ld_win2, shifts, ld_shift, ld_row, over_row, Nat.reduceAdd, pay15_up, pay46_up, pay47_up, pay52_up, pay59_up, pay61_up, pay62_up, pay64_up, pay65_up, pay66_up, pay67_up, pay68_up, pay69_up, pay70_up, pay71_up, pay73_up, pay74_up, pay76_up, pay77_up, pay79_up, pay82_up, pay84_up, pay86_up, pay88_up, pay90_up, pay93_up, pay95_up, pay98_up, pay99_up, pay100_up, pay102_up, pay105_up, pay106_up, pay107_up, pay108_up, pay111_up, pay112_up, pay113_up, pay115_up, pay116_up, pay118_up, pay120_up, pay123_up, pay125_up, pay126_up, pay127_up, pay129_up, pay131_up, pay134_up, pay136_up, pay139_up, pay140_up, pay141_up, pay143_up, pay145_up, pay146_up, pay147_up]
  congr 1; funext i d; fin_cases i <;> simp [upd]
end Cert.Hand.Mix
end
-- ==== Proof.Mix.HostF.lean ====
/- The forward pass on the host, in the few steps whose values the backward pass reads, as functions of what each
   step reads: the reference's own stages are these functions of its stages before. -/
module

public import proofs.«01_k».proof.Proof.Gen.Reference2Ideal.Read

@[expose] public section
set_option maxRecDepth 16384

noncomputable section
namespace Cert.Hand.Mix.Host
open Idealize.ShloMosaic Cert.Reference2Ideal Cert.Reference2Ideal.Gen Cert.Reference2Ideal.Read Idealize.ShloMosaic.TcCoe Idealize.ShloMosaic.StableHlo

section
variable {F : FTy → Type} [FloatOps F]

/-- The input product. -/
def hU (x0 : (⟨S1x2048x1024, .f32⟩ : BufTy).Contents (Elt F)) (x2 : (⟨S1x6144, .f32⟩ : BufTy).Contents (Elt F)) (x3 : (⟨S1x1024, .f32⟩ : BufTy).Contents (Elt F)) (x4 : (⟨S1x1024x1536, .f32⟩ : BufTy).Contents (Elt F)) : (⟨S1x2048x1536, .f32⟩ : BufTy).Contents (Elt F) :=
  let v2 : (⟨S1x1024, .f32⟩ : BufTy).Contents (Elt F) := extractStridedSlice S1x1024 ![0, 0] (x2) slices_S1x6144_S1x1024_0_0
  let v3 : (⟨S1x1024, .f32⟩ : BufTy).Contents (Elt F) := extractStridedSlice S1x1024 ![0, 1024] (x2) slices_S1x6144_S1x1024_0_1024
  let v8 : (⟨S1x1x1024, .f32⟩ : BufTy).Contents (Elt F) := broadcastInDim S1x1x1024 ![0, 2] bcast_S1x1024_S1x1x1024_0_2 v2
  let v9 : (⟨S1x1x1024, .f32⟩ : BufTy).Contents (Elt F) := broadcastInDim S1x1x1024 ![0, 2] bcast_S1x1024_S1x1x1024_0_2 v3
  let v11 : (⟨S1024, .f32⟩ : BufTy).Contents (Elt F) := shapeCast _ (x3) shapeCasts_S1x1024_S1024
  let v12 : (⟨S1x2048x1024, .f32⟩ : BufTy).Contents (Elt F) := mulf (x0) (x0)
  let cst_1 : (⟨S_, .f32⟩ : BufTy).Contents (Elt F) := constant S_ .f32 0x00000000#32
  let v13 : (⟨S1x2048, .f32⟩ : BufTy).Contents (Elt F) := Host.reduceAdd v12 cst_1 reducesTo_S1x2048x1024_S1x2048_d2 h_S_
  let v14 : (⟨S1x2048x1, .f32⟩ : BufTy).Contents (Elt F) := broadcastInDim S1x2048x1 ![0, 1] bcast_S1x2048_S1x2048x1_0_1 v13
  let cst_2 : (⟨S_, .f32⟩ : BufTy).Contents (Elt F) := constant S_ .f32 0x44800000#32
  let v15 : (⟨S1x2048x1, .f32⟩ : BufTy).Contents (Elt F) := broadcastInDim S1x2048x1 ![] bcast_S_S1x2048x1 cst_2
  let v16 : (⟨S1x2048x1, .f32⟩ : BufTy).Contents (Elt F) := Host.divf v14 v15
  let cst_3 : (⟨S_, .f32⟩ : BufTy).Contents (Elt F) := constant S_ .f32 0x358637BD#32
  let v17 : (⟨S1x2048x1, .f32⟩ : BufTy).Contents (Elt F) := broadcastInDim S1x2048x1 ![] bcast_S_S1x2048x1 cst_3
  let v18 : (⟨S1x2048x1, .f32⟩ : BufTy).Contents (Elt F) := addf v16 v17
  let v19 : (⟨S1x2048x1, .f32⟩ : BufTy).Contents (Elt F) := Host.rsqrt v18
  let v23 : (⟨S1x2048x1024, .f32⟩ : BufTy).Contents (Elt F) := broadcastInDim S1x2048x1024 ![0, 1, 2] bcast_S1x2048x1_S1x2048x1024_0_1_2 v19
  let v24 : (⟨S1x2048x1024, .f32⟩ : BufTy).Contents (Elt F) := mulf (x0) v23
  let v25 : (⟨S1x1x1024, .f32⟩ : BufTy).Contents (Elt F) := broadcastInDim S1x1x1024 ![2] bcast_S1024_S1x1x1024_2 v11
  let v26 : (⟨S1x2048x1024, .f32⟩ : BufTy).Contents (Elt F) := broadcastInDim S1x2048x1024 ![0, 1, 2] bcast_S1x1x1024_S1x2048x1024_0_1_2 v25
  let v27 : (⟨S1x2048x1024, .f32⟩ : BufTy).Contents (Elt F) := mulf v24 v26
  let cst_5 : (⟨S_, .f32⟩ : BufTy).Contents (Elt F) := constant S_ .f32 0x3F800000#32
  let v28 : (⟨S1x1x1024, .f32⟩ : BufTy).Contents (Elt F) := broadcastInDim S1x1x1024 ![] bcast_S_S1x1x1024 cst_5
  let v29 : (⟨S1x1x1024, .f32⟩ : BufTy).Contents (Elt F) := addf v28 v9
  let v30 : (⟨S1x2048x1024, .f32⟩ : BufTy).Contents (Elt F) := broadcastInDim S1x2048x1024 ![0, 1, 2] bcast_S1x1x1024_S1x2048x1024_0_1_2 v29
  let v31 : (⟨S1x2048x1024, .f32⟩ : BufTy).Contents (Elt F) := mulf v27 v30
  let v32 : (⟨S1x2048x1024, .f32⟩ : BufTy).Contents (Elt F) := broadcastInDim S1x2048x1024 ![0, 1, 2] bcast_S1x1x1024_S1x2048x1024_0_1_2 v8
  let v33 : (⟨S1x2048x1024, .f32⟩ : BufTy).Contents (Elt F) := addf v31 v32
  let v34 : (⟨S1024x1536, .f32⟩ : BufTy).Contents (Elt F) := shapeCast _ (x4) shapeCasts_S1x1024x1536_S1024x1536
  Host.dotGeneral dot_S1x2048x1024_S1024x1536_S1x2048x1536_2_0_01_1_n_n none v33 v34

/-- The convolution of the gated input, with its bias. -/
def hC (v36 : (⟨S1x2048x1536, .f32⟩ : BufTy).Contents (Elt F)) (x5 : (⟨S1x31x512, .f32⟩ : BufTy).Contents (Elt F)) (x6 : (⟨S1x512, .f32⟩ : BufTy).Contents (Elt F)) : (⟨S1x2048x512, .f32⟩ : BufTy).Contents (Elt F) :=
  let v37 : (⟨S1x2048x1024, .f32⟩ : BufTy).Contents (Elt F) := extractStridedSlice S1x2048x1024 ![0, 0, 0] v36 slices_S1x2048x1536_S1x2048x1024_0_0_0
  let v38 : (⟨S31x512, .f32⟩ : BufTy).Contents (Elt F) := shapeCast _ (x5) shapeCasts_S1x31x512_S31x512
  let v39 : (⟨S512, .f32⟩ : BufTy).Contents (Elt F) := shapeCast _ (x6) shapeCasts_S1x512_S512
  let v43 : (⟨S1x2048x512, .f32⟩ : BufTy).Contents (Elt F) := extractStridedSlice S1x2048x512 ![0, 0, 0] v37 slices_S1x2048x1024_S1x2048x512_0_0_0
  let v44 : (⟨S1x2048x512, .f32⟩ : BufTy).Contents (Elt F) := extractStridedSlice S1x2048x512 ![0, 0, 512] v37 slices_S1x2048x1024_S1x2048x512_0_0_512
  let v45 : (⟨S1x2048x512, .f32⟩ : BufTy).Contents (Elt F) := Host.negf v44
  let v46 : (⟨S1x2048x512, .f32⟩ : BufTy).Contents (Elt F) := Host.exp v45
  let cst_6 : (⟨S_, .f32⟩ : BufTy).Contents (Elt F) := constant S_ .f32 0x3F800000#32
  let v47 : (⟨S1x2048x512, .f32⟩ : BufTy).Contents (Elt F) := broadcastInDim S1x2048x512 ![] bcast_S_S1x2048x512 cst_6
  let v48 : (⟨S1x2048x512, .f32⟩ : BufTy).Contents (Elt F) := addf v47 v46
  let cst_7 : (⟨S_, .f32⟩ : BufTy).Contents (Elt F) := constant S_ .f32 0x3F800000#32
  let v49 : (⟨S1x2048x512, .f32⟩ : BufTy).Contents (Elt F) := broadcastInDim S1x2048x512 ![] bcast_S_S1x2048x512 cst_7
  let v50 : (⟨S1x2048x512, .f32⟩ : BufTy).Contents (Elt F) := Host.divf v49 v48
  let v54 : (⟨S1x2048x512, .f32⟩ : BufTy).Contents (Elt F) := mulf v43 v50
  let v55 : (⟨S31x2048x2048x512, .i32⟩ : BufTy).Contents (Elt F) := iotaInDim S31x2048x2048x512 32 0
  let v56 : (⟨S31x2048x2048x512, .i32⟩ : BufTy).Contents (Elt F) := iotaInDim S31x2048x2048x512 32 1
  let v57 : (⟨S31x2048x2048x512, .i32⟩ : BufTy).Contents (Elt F) := iotaInDim S31x2048x2048x512 32 2
  let c : (⟨S_, .i32⟩ : BufTy).Contents (Elt F) := constantI S_ 32 30#32
  let v58 : (⟨S31x2048x2048x512, .i32⟩ : BufTy).Contents (Elt F) := broadcastInDim S31x2048x2048x512 ![] bcast_S_S31x2048x2048x512 c
  let v59 : (⟨S31x2048x2048x512, .i32⟩ : BufTy).Contents (Elt F) := addi v57 v58
  let v60 : (⟨S31x2048x2048x512, .i32⟩ : BufTy).Contents (Elt F) := addi v56 v55
  let v61 : (⟨S31x2048x2048x512, .i1⟩ : BufTy).Contents (Elt F) := cmpi .eq v59 v60
  let v62 : (⟨S2048x512, .f32⟩ : BufTy).Contents (Elt F) := shapeCast _ v54 shapeCasts_S1x2048x512_S2048x512
  let v63 : (⟨S1x1x2048x512, .f32⟩ : BufTy).Contents (Elt F) := broadcastInDim S1x1x2048x512 ![2, 3] bcast_S2048x512_S1x1x2048x512_2_3 v62
  let cst_9 : (⟨S_, .f32⟩ : BufTy).Contents (Elt F) := constant S_ .f32 0x00000000#32
  let call0_v0 : (⟨S_, .f32⟩ : BufTy).Contents (Elt F) := id cst_9
  let call0_v1 : (⟨S31x2048x2048x512, .f32⟩ : BufTy).Contents (Elt F) := broadcastInDim S31x2048x2048x512 ![0, 1, 2, 3] bcast_S1x1x2048x512_S31x2048x2048x512_0_1_2_3 v63
  let call0_v2 : (⟨S31x2048x2048x512, .f32⟩ : BufTy).Contents (Elt F) := broadcastInDim S31x2048x2048x512 ![] bcast_S_S31x2048x2048x512 call0_v0
  let v64_0 : (⟨S31x2048x2048x512, .f32⟩ : BufTy).Contents (Elt F) := select v61 call0_v1 call0_v2
  let cst_10 : (⟨S_, .f32⟩ : BufTy).Contents (Elt F) := constant S_ .f32 0x00000000#32
  let v65 : (⟨S31x2048x512, .f32⟩ : BufTy).Contents (Elt F) := Host.reduceAdd v64_0 cst_10 reducesTo_S31x2048x2048x512_S31x2048x512_d2 h_S_
  let v66 : (⟨S31x1x512, .f32⟩ : BufTy).Contents (Elt F) := broadcastInDim S31x1x512 ![0, 2] bcast_S31x512_S31x1x512_0_2 v38
  let v67 : (⟨S31x2048x512, .f32⟩ : BufTy).Contents (Elt F) := broadcastInDim S31x2048x512 ![0, 1, 2] bcast_S31x1x512_S31x2048x512_0_1_2 v66
  let v68 : (⟨S31x2048x512, .f32⟩ : BufTy).Contents (Elt F) := mulf v65 v67
  let cst_11 : (⟨S_, .f32⟩ : BufTy).Contents (Elt F) := constant S_ .f32 0x00000000#32
  let v69 : (⟨S2048x512, .f32⟩ : BufTy).Contents (Elt F) := Host.reduceAdd v68 cst_11 reducesTo_S31x2048x512_S2048x512_d0 h_S_
  let v70 : (⟨S1x2048x512, .f32⟩ : BufTy).Contents (Elt F) := broadcastInDim S1x2048x512 ![1, 2] bcast_S2048x512_S1x2048x512_1_2 v69
  let v71 : (⟨S1x1x512, .f32⟩ : BufTy).Contents (Elt F) := broadcastInDim S1x1x512 ![2] bcast_S512_S1x1x512_2 v39
  let v72 : (⟨S1x2048x512, .f32⟩ : BufTy).Contents (Elt F) := broadcastInDim S1x2048x512 ![0, 1, 2] bcast_S1x1x512_S1x2048x512_0_1_2 v71
  addf v70 v72

/-- One over the root of the variance. -/
def hR (v73 : (⟨S1x2048x512, .f32⟩ : BufTy).Contents (Elt F)) : (⟨S1x2048x1, .f32⟩ : BufTy).Contents (Elt F) :=
  let cst_12 : (⟨S_, .f32⟩ : BufTy).Contents (Elt F) := constant S_ .f32 0x00000000#32
  let v74 : (⟨S1x2048, .f32⟩ : BufTy).Contents (Elt F) := Host.reduceAdd v73 cst_12 reducesTo_S1x2048x512_S1x2048_d2 h_S_
  let v75 : (⟨S1x2048x1, .f32⟩ : BufTy).Contents (Elt F) := broadcastInDim S1x2048x1 ![0, 1] bcast_S1x2048_S1x2048x1_0_1 v74
  let cst_13 : (⟨S_, .f32⟩ : BufTy).Contents (Elt F) := constant S_ .f32 0x44000000#32
  let v76 : (⟨S1x2048x1, .f32⟩ : BufTy).Contents (Elt F) := broadcastInDim S1x2048x1 ![] bcast_S_S1x2048x1 cst_13
  let v77 : (⟨S1x2048x1, .f32⟩ : BufTy).Contents (Elt F) := Host.divf v75 v76
  let v78 : (⟨S1x2048x512, .f32⟩ : BufTy).Contents (Elt F) := broadcastInDim S1x2048x512 ![0, 1, 2] bcast_S1x2048x1_S1x2048x512_0_1_2 v77
  let v79 : (⟨S1x2048x512, .f32⟩ : BufTy).Contents (Elt F) := subf v73 v78
  let v80 : (⟨S1x2048x512, .f32⟩ : BufTy).Contents (Elt F) := mulf v79 v79
  let cst_15 : (⟨S_, .f32⟩ : BufTy).Contents (Elt F) := constant S_ .f32 0x00000000#32
  let v83 : (⟨S1x2048, .f32⟩ : BufTy).Contents (Elt F) := Host.reduceAdd v80 cst_15 reducesTo_S1x2048x512_S1x2048_d2 h_S_
  let v84 : (⟨S1x2048x1, .f32⟩ : BufTy).Contents (Elt F) := broadcastInDim S1x2048x1 ![0, 1] bcast_S1x2048_S1x2048x1_0_1 v83
  let cst_16 : (⟨S_, .f32⟩ : BufTy).Contents (Elt F) := constant S_ .f32 0x44000000#32
  let v85 : (⟨S1x2048x1, .f32⟩ : BufTy).Contents (Elt F) := broadcastInDim S1x2048x1 ![] bcast_S_S1x2048x1 cst_16
  let v86 : (⟨S1x2048x1, .f32⟩ : BufTy).Contents (Elt F) := Host.divf v84 v85
  let cst_17 : (⟨S_, .f32⟩ : BufTy).Contents (Elt F) := constant S_ .f32 0x358637BD#32
  let v89 : (⟨S1x2048x1, .f32⟩ : BufTy).Contents (Elt F) := broadcastInDim S1x2048x1 ![] bcast_S_S1x2048x1 cst_17
  let v90 : (⟨S1x2048x1, .f32⟩ : BufTy).Contents (Elt F) := addf v86 v89
  Host.rsqrt v90

/-- The normalised convolution. -/
def hZ (v73 : (⟨S1x2048x512, .f32⟩ : BufTy).Contents (Elt F)) (v91 : (⟨S1x2048x1, .f32⟩ : BufTy).Contents (Elt F)) : (⟨S1x2048x512, .f32⟩ : BufTy).Contents (Elt F) :=
  let cst_12 : (⟨S_, .f32⟩ : BufTy).Contents (Elt F) := constant S_ .f32 0x00000000#32
  let v74 : (⟨S1x2048, .f32⟩ : BufTy).Contents (Elt F) := Host.reduceAdd v73 cst_12 reducesTo_S1x2048x512_S1x2048_d2 h_S_
  let v75 : (⟨S1x2048x1, .f32⟩ : BufTy).Contents (Elt F) := broadcastInDim S1x2048x1 ![0, 1] bcast_S1x2048_S1x2048x1_0_1 v74
  let cst_13 : (⟨S_, .f32⟩ : BufTy).Contents (Elt F) := constant S_ .f32 0x44000000#32
  let v76 : (⟨S1x2048x1, .f32⟩ : BufTy).Contents (Elt F) := broadcastInDim S1x2048x1 ![] bcast_S_S1x2048x1 cst_13
  let v77 : (⟨S1x2048x1, .f32⟩ : BufTy).Contents (Elt F) := Host.divf v75 v76
  let v87 : (⟨S1x2048x512, .f32⟩ : BufTy).Contents (Elt F) := broadcastInDim S1x2048x512 ![0, 1, 2] bcast_S1x2048x1_S1x2048x512_0_1_2 v77
  let v88 : (⟨S1x2048x512, .f32⟩ : BufTy).Contents (Elt F) := subf v73 v87
  let v95 : (⟨S1x2048x512, .f32⟩ : BufTy).Contents (Elt F) := broadcastInDim S1x2048x512 ![0, 1, 2] bcast_S1x2048x1_S1x2048x512_0_1_2 v91
  mulf v88 v95

/-- The pooling branch's input, by groups. -/
def hV (v36 : (⟨S1x2048x1536, .f32⟩ : BufTy).Contents (Elt F)) : (⟨S1x2048x4x128, .f32⟩ : BufTy).Contents (Elt F) :=
  let v105 : (⟨S1x2048x512, .f32⟩ : BufTy).Contents (Elt F) := extractStridedSlice S1x2048x512 ![0, 0, 1024] v36 slices_S1x2048x1536_S1x2048x512_0_0_1024
  shapeCast _ v105 shapeCasts_S1x2048x512_S1x2048x4x128

/-- Its running sums. -/
def hS (v108 : (⟨S1x2048x4x128, .f32⟩ : BufTy).Contents (Elt F)) : (⟨S1x2048x4x128, .f32⟩ : BufTy).Contents (Elt F) :=
  let call2_call0_cst : (⟨S_, .f32⟩ : BufTy).Contents (Elt F) := constant S_ .f32 0x00000000#32
  let call2_call0_v0 : (⟨S_, .f32⟩ : BufTy).Contents (Elt F) := broadcastInDim S_ ![] bcast_S_S_ call2_call0_cst
  Host.reduceWindowAdd ![1, 2048, 1, 1] ![1, 1, 1, 1] ![0, 2047, 0, 0] ![0, 0, 0, 0] v108 call2_call0_v0 reduceWindows_S1x2048x4x128_S1x2048x4x128_w1s1p0_0_w2048s1p2047_0_w1s1p0_0_w1s1p0_0 h_S_

/-- The trailing mean of a group: two tokens. -/
def hM0 (v109 : (⟨S1x2048x4x128, .f32⟩ : BufTy).Contents (Elt F)) : (⟨S1x2048x128, .f32⟩ : BufTy).Contents (Elt F) :=
  let v110 : (⟨S2048, .i32⟩ : BufTy).Contents (Elt F) := iotaInDim S2048 32 0
  let v111 : (⟨S1x2048x1x128, .f32⟩ : BufTy).Contents (Elt F) := extractStridedSlice S1x2048x1x128 ![0, 0, 0, 0] v109 slices_S1x2048x4x128_S1x2048x1x128_0_0_0_0
  let v112 : (⟨S1x2048x128, .f32⟩ : BufTy).Contents (Elt F) := shapeCast _ v111 shapeCasts_S1x2048x1x128_S1x2048x128
  let cst_19 : (⟨S_, .f32⟩ : BufTy).Contents (Elt F) := constant S_ .f32 0x00000000#32
  let v113 : (⟨S1x2x128, .f32⟩ : BufTy).Contents (Elt F) := broadcastInDim S1x2x128 ![] bcast_S_S1x2x128 cst_19
  let v114 : (⟨S1x2046x128, .f32⟩ : BufTy).Contents (Elt F) := extractStridedSlice S1x2046x128 ![0, 0, 0] v112 slices_S1x2048x128_S1x2046x128_0_0_0
  let v115 : (⟨S1x2048x128, .f32⟩ : BufTy).Contents (Elt F) := concatenate S1x2048x128 1 [⟨S1x2x128, v113⟩, ⟨S1x2046x128, v114⟩] concatenates_S1x2x128_S1x2046x128_S1x2048x128_d1
  let c_21 : (⟨S_, .i32⟩ : BufTy).Contents (Elt F) := constantI S_ 32 1#32
  let v117 : (⟨S2048, .i32⟩ : BufTy).Contents (Elt F) := broadcastInDim S2048 ![] bcast_S_S2048 c_21
  let v118 : (⟨S2048, .i32⟩ : BufTy).Contents (Elt F) := addi v110 v117
  let c_22 : (⟨S_, .i32⟩ : BufTy).Contents (Elt F) := constantI S_ 32 2#32
  let v119 : (⟨S2048, .i32⟩ : BufTy).Contents (Elt F) := broadcastInDim S2048 ![] bcast_S_S2048 c_22
  let v120 : (⟨S2048, .i32⟩ : BufTy).Contents (Elt F) := minsi v118 v119
  let v121 : (⟨S2048, .f32⟩ : BufTy).Contents (Elt F) := sitofp .f32 v120
  let v122 : (⟨S1x2048x128, .f32⟩ : BufTy).Contents (Elt F) := subf v112 v115
  let v123 : (⟨S1x2048x1, .f32⟩ : BufTy).Contents (Elt F) := broadcastInDim S1x2048x1 ![1] bcast_S2048_S1x2048x1_1 v121
  let v124 : (⟨S1x2048x128, .f32⟩ : BufTy).Contents (Elt F) := broadcastInDim S1x2048x128 ![0, 1, 2] bcast_S1x2048x1_S1x2048x128_0_1_2 v123
  Host.divf v122 v124

/-- Four tokens. -/
def hM1 (v109 : (⟨S1x2048x4x128, .f32⟩ : BufTy).Contents (Elt F)) : (⟨S1x2048x128, .f32⟩ : BufTy).Contents (Elt F) :=
  let v110 : (⟨S2048, .i32⟩ : BufTy).Contents (Elt F) := iotaInDim S2048 32 0
  let v126 : (⟨S1x2048x1x128, .f32⟩ : BufTy).Contents (Elt F) := extractStridedSlice S1x2048x1x128 ![0, 0, 1, 0] v109 slices_S1x2048x4x128_S1x2048x1x128_0_0_1_0
  let v127 : (⟨S1x2048x128, .f32⟩ : BufTy).Contents (Elt F) := shapeCast _ v126 shapeCasts_S1x2048x1x128_S1x2048x128
  let cst_23 : (⟨S_, .f32⟩ : BufTy).Contents (Elt F) := constant S_ .f32 0x00000000#32
  let v128 : (⟨S1x4x128, .f32⟩ : BufTy).Contents (Elt F) := broadcastInDim S1x4x128 ![] bcast_S_S1x4x128 cst_23
  let v129 : (⟨S1x2044x128, .f32⟩ : BufTy).Contents (Elt F) := extractStridedSlice S1x2044x128 ![0, 0, 0] v127 slices_S1x2048x128_S1x2044x128_0_0_0
  let v130 : (⟨S1x2048x128, .f32⟩ : BufTy).Contents (Elt F) := concatenate S1x2048x128 1 [⟨S1x4x128, v128⟩, ⟨S1x2044x128, v129⟩] concatenates_S1x4x128_S1x2044x128_S1x2048x128_d1
  let c_25 : (⟨S_, .i32⟩ : BufTy).Contents (Elt F) := constantI S_ 32 1#32
  let v132 : (⟨S2048, .i32⟩ : BufTy).Contents (Elt F) := broadcastInDim S2048 ![] bcast_S_S2048 c_25
  let v133 : (⟨S2048, .i32⟩ : BufTy).Contents (Elt F) := addi v110 v132
  let c_26 : (⟨S_, .i32⟩ : BufTy).Contents (Elt F) := constantI S_ 32 4#32
  let v134 : (⟨S2048, .i32⟩ : BufTy).Contents (Elt F) := broadcastInDim S2048 ![] bcast_S_S2048 c_26
  let v135 : (⟨S2048, .i32⟩ : BufTy).Contents (Elt F) := minsi v133 v134
  let v136 : (⟨S2048, .f32⟩ : BufTy).Contents (Elt F) := sitofp .f32 v135
  let v137 : (⟨S1x2048x128, .f32⟩ : BufTy).Contents (Elt F) := subf v127 v130
  let v138 : (⟨S1x2048x1, .f32⟩ : BufTy).Contents (Elt F) := broadcastInDim S1x2048x1 ![1] bcast_S2048_S1x2048x1_1 v136
  let v139 : (⟨S1x2048x128, .f32⟩ : BufTy).Contents (Elt F) := broadcastInDim S1x2048x128 ![0, 1, 2] bcast_S1x2048x1_S1x2048x128_0_1_2 v138
  Host.divf v137 v139

/-- Eight tokens. -/
def hM2 (v109 : (⟨S1x2048x4x128, .f32⟩ : BufTy).Contents (Elt F)) : (⟨S1x2048x128, .f32⟩ : BufTy).Contents (Elt F) :=
  let v110 : (⟨S2048, .i32⟩ : BufTy).Contents (Elt F) := iotaInDim S2048 32 0
  let v141 : (⟨S1x2048x1x128, .f32⟩ : BufTy).Contents (Elt F) := extractStridedSlice S1x2048x1x128 ![0, 0, 2, 0] v109 slices_S1x2048x4x128_S1x2048x1x128_0_0_2_0
  let v142 : (⟨S1x2048x128, .f32⟩ : BufTy).Contents (Elt F) := shapeCast _ v141 shapeCasts_S1x2048x1x128_S1x2048x128
  let cst_27 : (⟨S_, .f32⟩ : BufTy).Contents (Elt F) := constant S_ .f32 0x00000000#32
  let v143 : (⟨S1x8x128, .f32⟩ : BufTy).Contents (Elt F) := broadcastInDim S1x8x128 ![] bcast_S_S1x8x128 cst_27
  let v144 : (⟨S1x2040x128, .f32⟩ : BufTy).Contents (Elt F) := extractStridedSlice S1x2040x128 ![0, 0, 0] v142 slices_S1x2048x128_S1x2040x128_0_0_0
  let v145 : (⟨S1x2048x128, .f32⟩ : BufTy).Contents (Elt F) := concatenate S1x2048x128 1 [⟨S1x8x128, v143⟩, ⟨S1x2040x128, v144⟩] concatenates_S1x8x128_S1x2040x128_S1x2048x128_d1
  let c_29 : (⟨S_, .i32⟩ : BufTy).Contents (Elt F) := constantI S_ 32 1#32
  let v147 : (⟨S2048, .i32⟩ : BufTy).Contents (Elt F) := broadcastInDim S2048 ![] bcast_S_S2048 c_29
  let v148 : (⟨S2048, .i32⟩ : BufTy).Contents (Elt F) := addi v110 v147
  let c_30 : (⟨S_, .i32⟩ : BufTy).Contents (Elt F) := constantI S_ 32 8#32
  let v149 : (⟨S2048, .i32⟩ : BufTy).Contents (Elt F) := broadcastInDim S2048 ![] bcast_S_S2048 c_30
  let v150 : (⟨S2048, .i32⟩ : BufTy).Contents (Elt F) := minsi v148 v149
  let v151 : (⟨S2048, .f32⟩ : BufTy).Contents (Elt F) := sitofp .f32 v150
  let v152 : (⟨S1x2048x128, .f32⟩ : BufTy).Contents (Elt F) := subf v142 v145
  let v153 : (⟨S1x2048x1, .f32⟩ : BufTy).Contents (Elt F) := broadcastInDim S1x2048x1 ![1] bcast_S2048_S1x2048x1_1 v151
  let v154 : (⟨S1x2048x128, .f32⟩ : BufTy).Contents (Elt F) := broadcastInDim S1x2048x128 ![0, 1, 2] bcast_S1x2048x1_S1x2048x128_0_1_2 v153
  Host.divf v152 v154

/-- Sixteen tokens. -/
def hM3 (v109 : (⟨S1x2048x4x128, .f32⟩ : BufTy).Contents (Elt F)) : (⟨S1x2048x128, .f32⟩ : BufTy).Contents (Elt F) :=
  let v110 : (⟨S2048, .i32⟩ : BufTy).Contents (Elt F) := iotaInDim S2048 32 0
  let v156 : (⟨S1x2048x1x128, .f32⟩ : BufTy).Contents (Elt F) := extractStridedSlice S1x2048x1x128 ![0, 0, 3, 0] v109 slices_S1x2048x4x128_S1x2048x1x128_0_0_3_0
  let v157 : (⟨S1x2048x128, .f32⟩ : BufTy).Contents (Elt F) := shapeCast _ v156 shapeCasts_S1x2048x1x128_S1x2048x128
  let cst_31 : (⟨S_, .f32⟩ : BufTy).Contents (Elt F) := constant S_ .f32 0x00000000#32
  let v158 : (⟨S1x16x128, .f32⟩ : BufTy).Contents (Elt F) := broadcastInDim S1x16x128 ![] bcast_S_S1x16x128 cst_31
  let v159 : (⟨S1x2032x128, .f32⟩ : BufTy).Contents (Elt F) := extractStridedSlice S1x2032x128 ![0, 0, 0] v157 slices_S1x2048x128_S1x2032x128_0_0_0
  let v160 : (⟨S1x2048x128, .f32⟩ : BufTy).Contents (Elt F) := concatenate S1x2048x128 1 [⟨S1x16x128, v158⟩, ⟨S1x2032x128, v159⟩] concatenates_S1x16x128_S1x2032x128_S1x2048x128_d1
  let c_33 : (⟨S_, .i32⟩ : BufTy).Contents (Elt F) := constantI S_ 32 1#32
  let v162 : (⟨S2048, .i32⟩ : BufTy).Contents (Elt F) := broadcastInDim S2048 ![] bcast_S_S2048 c_33
  let v163 : (⟨S2048, .i32⟩ : BufTy).Contents (Elt F) := addi v110 v162
  let c_34 : (⟨S_, .i32⟩ : BufTy).Contents (Elt F) := constantI S_ 32 16#32
  let v164 : (⟨S2048, .i32⟩ : BufTy).Contents (Elt F) := broadcastInDim S2048 ![] bcast_S_S2048 c_34
  let v165 : (⟨S2048, .i32⟩ : BufTy).Contents (Elt F) := minsi v163 v164
  let v166 : (⟨S2048, .f32⟩ : BufTy).Contents (Elt F) := sitofp .f32 v165
  let v167 : (⟨S1x2048x128, .f32⟩ : BufTy).Contents (Elt F) := subf v157 v160
  let v168 : (⟨S1x2048x1, .f32⟩ : BufTy).Contents (Elt F) := broadcastInDim S1x2048x1 ![1] bcast_S2048_S1x2048x1_1 v166
  let v169 : (⟨S1x2048x128, .f32⟩ : BufTy).Contents (Elt F) := broadcastInDim S1x2048x128 ![0, 1, 2] bcast_S1x2048x1_S1x2048x128_0_1_2 v168
  Host.divf v167 v169

/-- The pooled input: the trailing means less the input. -/
def hP (v108 : (⟨S1x2048x4x128, .f32⟩ : BufTy).Contents (Elt F)) (v125 : (⟨S1x2048x128, .f32⟩ : BufTy).Contents (Elt F)) (v140 : (⟨S1x2048x128, .f32⟩ : BufTy).Contents (Elt F)) (v155 : (⟨S1x2048x128, .f32⟩ : BufTy).Contents (Elt F)) (v170 : (⟨S1x2048x128, .f32⟩ : BufTy).Contents (Elt F)) : (⟨S1x2048x4x128, .f32⟩ : BufTy).Contents (Elt F) :=
  let v171 : (⟨S1x2048x1x128, .f32⟩ : BufTy).Contents (Elt F) := broadcastInDim S1x2048x1x128 ![0, 1, 3] bcast_S1x2048x128_S1x2048x1x128_0_1_3 v125
  let v172 : (⟨S1x2048x1x128, .f32⟩ : BufTy).Contents (Elt F) := broadcastInDim S1x2048x1x128 ![0, 1, 3] bcast_S1x2048x128_S1x2048x1x128_0_1_3 v140
  let v173 : (⟨S1x2048x1x128, .f32⟩ : BufTy).Contents (Elt F) := broadcastInDim S1x2048x1x128 ![0, 1, 3] bcast_S1x2048x128_S1x2048x1x128_0_1_3 v155
  let v174 : (⟨S1x2048x1x128, .f32⟩ : BufTy).Contents (Elt F) := broadcastInDim S1x2048x1x128 ![0, 1, 3] bcast_S1x2048x128_S1x2048x1x128_0_1_3 v170
  let v175 : (⟨S1x2048x4x128, .f32⟩ : BufTy).Contents (Elt F) := (concatenate S1x2048x4x128 2 [⟨S1x2048x1x128, (v171 : (⟨S1x2048x1x128, .f32⟩ : BufTy).Contents (Elt F))⟩, ⟨S1x2048x1x128, (v172 : (⟨S1x2048x1x128, .f32⟩ : BufTy).Contents (Elt F))⟩, ⟨S1x2048x1x128, (v173 : (⟨S1x2048x1x128, .f32⟩ : BufTy).Contents (Elt F))⟩, ⟨S1x2048x1x128, (v174 : (⟨S1x2048x1x128, .f32⟩ : BufTy).Contents (Elt F))⟩] concatenates_S1x2048x1x128_S1x2048x1x128_S1x2048x1x128_S1x2048x1x128_S1x2048x4x128_d2 : (⟨S1x2048x4x128, .f32⟩ : BufTy).Contents (Elt F))
  subf v175 v108

/-- The convolution branch's activation. -/
def hW (v96 : (⟨S1x2048x512, .f32⟩ : BufTy).Contents (Elt F)) (x7 : (⟨S1x512, .f32⟩ : BufTy).Contents (Elt F)) (x8 : (⟨S1x512, .f32⟩ : BufTy).Contents (Elt F)) : (⟨S1x2048x512, .f32⟩ : BufTy).Contents (Elt F) :=
  let v40 : (⟨S512, .f32⟩ : BufTy).Contents (Elt F) := shapeCast _ (x7) shapeCasts_S1x512_S512
  let v41 : (⟨S512, .f32⟩ : BufTy).Contents (Elt F) := shapeCast _ (x8) shapeCasts_S1x512_S512
  let v97 : (⟨S1x1x512, .f32⟩ : BufTy).Contents (Elt F) := broadcastInDim S1x1x512 ![2] bcast_S512_S1x1x512_2 v40
  let v98 : (⟨S1x2048x512, .f32⟩ : BufTy).Contents (Elt F) := broadcastInDim S1x2048x512 ![0, 1, 2] bcast_S1x1x512_S1x2048x512_0_1_2 v97
  let v99 : (⟨S1x2048x512, .f32⟩ : BufTy).Contents (Elt F) := mulf v96 v98
  let v100 : (⟨S1x1x512, .f32⟩ : BufTy).Contents (Elt F) := broadcastInDim S1x1x512 ![2] bcast_S512_S1x1x512_2 v41
  let v101 : (⟨S1x2048x512, .f32⟩ : BufTy).Contents (Elt F) := broadcastInDim S1x2048x512 ![0, 1, 2] bcast_S1x1x512_S1x2048x512_0_1_2 v100
  let v102 : (⟨S1x2048x512, .f32⟩ : BufTy).Contents (Elt F) := addf v99 v101
  let call1_v0 : (⟨S1x2048x512, .f32⟩ : BufTy).Contents (Elt F) := Host.negf v102
  let call1_v1 : (⟨S1x2048x512, .f32⟩ : BufTy).Contents (Elt F) := Host.exp call1_v0
  let call1_cst : (⟨S_, .f32⟩ : BufTy).Contents (Elt F) := constant S_ .f32 0x3F800000#32
  let call1_v2 : (⟨S1x2048x512, .f32⟩ : BufTy).Contents (Elt F) := broadcastInDim S1x2048x512 ![] bcast_S_S1x2048x512 call1_cst
  let call1_v3 : (⟨S1x2048x512, .f32⟩ : BufTy).Contents (Elt F) := addf call1_v2 call1_v1
  let call1_cst_0 : (⟨S_, .f32⟩ : BufTy).Contents (Elt F) := constant S_ .f32 0x3F800000#32
  let call1_v4 : (⟨S1x2048x512, .f32⟩ : BufTy).Contents (Elt F) := broadcastInDim S1x2048x512 ![] bcast_S_S1x2048x512 call1_cst_0
  let v103_2 : (⟨S1x2048x512, .f32⟩ : BufTy).Contents (Elt F) := Host.divf call1_v4 call1_v3
  mulf v102 v103_2

/-- The output product of both branches. -/
def hY (v103_0 : (⟨S1x2048x512, .f32⟩ : BufTy).Contents (Elt F)) (v176 : (⟨S1x2048x4x128, .f32⟩ : BufTy).Contents (Elt F)) (x9 : (⟨S1x512x512, .f32⟩ : BufTy).Contents (Elt F)) (x10 : (⟨S1x4x128x128, .f32⟩ : BufTy).Contents (Elt F)) (x11 : (⟨S1x512, .f32⟩ : BufTy).Contents (Elt F)) (x12 : (⟨S1x1024x1024, .f32⟩ : BufTy).Contents (Elt F)) : (⟨S1x2048x1024, .f32⟩ : BufTy).Contents (Elt F) :=
  let v42 : (⟨S512x512, .f32⟩ : BufTy).Contents (Elt F) := shapeCast _ (x9) shapeCasts_S1x512x512_S512x512
  let v104 : (⟨S1x2048x512, .f32⟩ : BufTy).Contents (Elt F) := Host.dotGeneral dot_S1x2048x512_S512x512_S1x2048x512_2_0_01_1_n_n none v103_0 v42
  let v106 : (⟨S4x128x128, .f32⟩ : BufTy).Contents (Elt F) := shapeCast _ (x10) shapeCasts_S1x4x128x128_S4x128x128
  let v107 : (⟨S512, .f32⟩ : BufTy).Contents (Elt F) := shapeCast _ (x11) shapeCasts_S1x512_S512
  let v177 : (⟨S4x128x1x2048, .f32⟩ : BufTy).Contents (Elt F) := Host.dotGeneral dot_S4x128x128_S1x2048x4x128_S4x128x1x2048_1_3_2_01_0_2 none v106 v176
  let v178 : (⟨S1x2048x4x128, .f32⟩ : BufTy).Contents (Elt F) := transpose S1x2048x4x128 [2, 3, 0, 1] v177 transposes_S4x128x1x2048_S1x2048x4x128_2_3_0_1
  let v179 : (⟨S1x2048x512, .f32⟩ : BufTy).Contents (Elt F) := shapeCast _ v178 shapeCasts_S1x2048x4x128_S1x2048x512
  let v180 : (⟨S1x1x512, .f32⟩ : BufTy).Contents (Elt F) := broadcastInDim S1x1x512 ![2] bcast_S512_S1x1x512_2 v107
  let v181 : (⟨S1x2048x512, .f32⟩ : BufTy).Contents (Elt F) := broadcastInDim S1x2048x512 ![0, 1, 2] bcast_S1x1x512_S1x2048x512_0_1_2 v180
  let v182 : (⟨S1x2048x512, .f32⟩ : BufTy).Contents (Elt F) := mulf v179 v181
  let v183 : (⟨S1x2048x1024, .f32⟩ : BufTy).Contents (Elt F) := concatenate S1x2048x1024 2 [⟨S1x2048x512, v104⟩, ⟨S1x2048x512, v182⟩] concatenates_S1x2048x512_S1x2048x512_S1x2048x1024_d2
  let v184 : (⟨S1024x1024, .f32⟩ : BufTy).Contents (Elt F) := shapeCast _ (x12) shapeCasts_S1x1024x1024_S1024x1024
  Host.dotGeneral dot_S1x2048x1024_S1024x1024_S1x2048x1024_2_0_01_1_n_n none v183 v184

end

theorem hU_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v35 (F := Ideal) x0 x2 x3 x4 = hU (F := Ideal) x0 x2 x3 x4 := rfl

theorem hC_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) (x5 : (⟨S1x31x512, .f32⟩ : BufTy).Contents (Elt Ideal)) (x6 : (⟨S1x512, .f32⟩ : BufTy).Contents (Elt Ideal)) :
    val_main_v73 (F := Ideal) x0 x2 x3 x4 x5 x6 = hC (F := Ideal) (val_main_v36 (F := Ideal) x0 x2 x3 x4) x5 x6 := rfl

theorem hR_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) (x5 : (⟨S1x31x512, .f32⟩ : BufTy).Contents (Elt Ideal)) (x6 : (⟨S1x512, .f32⟩ : BufTy).Contents (Elt Ideal)) :
    val_main_v91 (F := Ideal) x0 x2 x3 x4 x5 x6 = hR (F := Ideal) (val_main_v73 (F := Ideal) x0 x2 x3 x4 x5 x6) := rfl

theorem hZ_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) (x5 : (⟨S1x31x512, .f32⟩ : BufTy).Contents (Elt Ideal)) (x6 : (⟨S1x512, .f32⟩ : BufTy).Contents (Elt Ideal)) :
    val_main_v96 (F := Ideal) x0 x2 x3 x4 x5 x6 = hZ (F := Ideal) (val_main_v73 (F := Ideal) x0 x2 x3 x4 x5 x6) (val_main_v91 (F := Ideal) x0 x2 x3 x4 x5 x6) := rfl

theorem hV_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v108 (F := Ideal) x0 x2 x3 x4 = hV (F := Ideal) (val_main_v36 (F := Ideal) x0 x2 x3 x4) := rfl

theorem hS_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v109 (F := Ideal) x0 x2 x3 x4 = hS (F := Ideal) (val_main_v108 (F := Ideal) x0 x2 x3 x4) := rfl

theorem hM0_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v125 (F := Ideal) x0 x2 x3 x4 = hM0 (F := Ideal) (val_main_v109 (F := Ideal) x0 x2 x3 x4) := rfl

theorem hM1_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v140 (F := Ideal) x0 x2 x3 x4 = hM1 (F := Ideal) (val_main_v109 (F := Ideal) x0 x2 x3 x4) := rfl

theorem hM2_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v155 (F := Ideal) x0 x2 x3 x4 = hM2 (F := Ideal) (val_main_v109 (F := Ideal) x0 x2 x3 x4) := rfl

theorem hM3_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v170 (F := Ideal) x0 x2 x3 x4 = hM3 (F := Ideal) (val_main_v109 (F := Ideal) x0 x2 x3 x4) := rfl

theorem hP_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) :
    val_main_v176 (F := Ideal) x0 x2 x3 x4 = hP (F := Ideal) (val_main_v108 (F := Ideal) x0 x2 x3 x4) (val_main_v125 (F := Ideal) x0 x2 x3 x4) (val_main_v140 (F := Ideal) x0 x2 x3 x4) (val_main_v155 (F := Ideal) x0 x2 x3 x4) (val_main_v170 (F := Ideal) x0 x2 x3 x4) := rfl

theorem hW_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) (x5 : (⟨S1x31x512, .f32⟩ : BufTy).Contents (Elt Ideal)) (x6 : (⟨S1x512, .f32⟩ : BufTy).Contents (Elt Ideal)) (x7 : (⟨S1x512, .f32⟩ : BufTy).Contents (Elt Ideal)) (x8 : (⟨S1x512, .f32⟩ : BufTy).Contents (Elt Ideal)) :
    val_main_v103_0 (F := Ideal) x0 x2 x3 x4 x5 x6 x7 x8 = hW (F := Ideal) (val_main_v96 (F := Ideal) x0 x2 x3 x4 x5 x6) x7 x8 := rfl

theorem hY_ref (x0 : (⟨S1x2048x1024, .f32⟩ : BufTy).Contents (Elt Ideal)) (x2 : (⟨S1x6144, .f32⟩ : BufTy).Contents (Elt Ideal)) (x3 : (⟨S1x1024, .f32⟩ : BufTy).Contents (Elt Ideal)) (x4 : (⟨S1x1024x1536, .f32⟩ : BufTy).Contents (Elt Ideal)) (x5 : (⟨S1x31x512, .f32⟩ : BufTy).Contents (Elt Ideal)) (x6 : (⟨S1x512, .f32⟩ : BufTy).Contents (Elt Ideal)) (x7 : (⟨S1x512, .f32⟩ : BufTy).Contents (Elt Ideal)) (x8 : (⟨S1x512, .f32⟩ : BufTy).Contents (Elt Ideal)) (x9 : (⟨S1x512x512, .f32⟩ : BufTy).Contents (Elt Ideal)) (x10 : (⟨S1x4x128x128, .f32⟩ : BufTy).Contents (Elt Ideal)) (x11 : (⟨S1x512, .f32⟩ : BufTy).Contents (Elt Ideal)) (x12 : (⟨S1x1024x1024, .f32⟩ : BufTy).Contents (Elt Ideal)) :
    val_main_v185 (F := Ideal) x0 x2 x3 x4 x5 x6 x7 x8 x9 x10 x11 x12 = hY (F := Ideal) (val_main_v103_0 (F := Ideal) x0 x2 x3 x4 x5 x6 x7 x8) (val_main_v176 (F := Ideal) x0 x2 x3 x4) x9 x10 x11 x12 := rfl

end Cert.Hand.Mix.Host
end
-- ==== Proof.Mix.Host.lean ====
/- The kernel's windows that hold what the forward pass saved: the same functions of the arguments as the reference's
   own stages. -/
module

public import proofs.«01_k».proof.Proof.Mix.HostF
public import proofs.«01_k».proof.Proof.Gen.Kernel2Ideal.Value
public import Idealize.ShloMosaic.Lib.StableHlo.RunRead
public import Idealize.ShloMosaic.Lib.Pointwise

@[expose] public section
set_option maxRecDepth 16384

noncomputable section
namespace Cert.Hand.Mix
open Idealize.ShloMosaic Idealize.ShloMosaic.Pipeline Cert.Kernel2Ideal Cert.Kernel2Ideal.Gen

set_option maxHeartbeats 1000000

variable (m : (ℓ : Loc nD τ sig) → Buf (Elt Ideal) ℓ) (c : Dev nD)

/-- The host operations after the running sums, from the contents before them. -/
theorem mid : ∃ W : Idealize.ShloMosaic.Valuation τ sig (Elt Ideal), (∀ b, V m c b = StableHlo.after (List.flatten [hostOps0_6, hostOps0_7, hostOps0_8]) W (Proc.devRef .tc b))
    ∧ W (Proc.devRef .tc main_arg9) = m (c, Proc.tc.devRef main_arg9) ∧ W (Proc.devRef .tc main_arg10) = m (c, Proc.tc.devRef main_arg10)
    ∧ W (Proc.devRef .tc main_arg11) = m (c, Proc.tc.devRef main_arg11) ∧ W (Proc.devRef .tc main_arg12) = m (c, Proc.tc.devRef main_arg12) := by
  refine ⟨StableHlo.after (List.flatten [hostOps0, hostOps0_1, hostOps0_2, hostOps0_3, hostOps0_4, hostOps0_5]) (fun b => m (c, b)), fun b => ?_, ?_, ?_, ?_, ?_⟩
  · unfold V
    rw [show List.flatten [hostOps0, hostOps0_1, hostOps0_2, hostOps0_3, hostOps0_4, hostOps0_5, hostOps0_6, hostOps0_7, hostOps0_8]
      = List.flatten [hostOps0, hostOps0_1, hostOps0_2, hostOps0_3, hostOps0_4, hostOps0_5] ++ List.flatten [hostOps0_6, hostOps0_7, hostOps0_8] from rfl, StableHlo.after_append]
  all_goals after_reads_simp

theorem kU : V m c main_v30 = Host.hU (F := Ideal) (m (c, Proc.tc.devRef main_arg0)) (m (c, Proc.tc.devRef main_arg2)) (m (c, Proc.tc.devRef main_arg3)) (m (c, Proc.tc.devRef main_arg4)) := by
  unfold V
  after_reads_simp
  rfl

/-- A row of biases as the kernel lays it over the tokens, and as the reference does. -/
theorem bias_row (x : (⟨Cert.Reference2Ideal.S1x512, .f32⟩ : BufTy).Contents (Elt Ideal)) :
    broadcastInDim Cert.Reference2Ideal.S1x1x512 ![1, 2] bcast_S1x512_S1x1x512_1_2 x
      = broadcastInDim Cert.Reference2Ideal.S1x1x512 ![2] Cert.Reference2Ideal.Gen.bcast_S512_S1x1x512_2
        (shapeCast Cert.Reference2Ideal.S512 x Cert.Reference2Ideal.Gen.shapeCasts_S1x512_S512) := by
  funext i
  idx_vars i
  pointwise []

theorem kC : V m c main_v60 = Host.hC (F := Ideal) (V m c main_v30) (m (c, Proc.tc.devRef main_arg5)) (m (c, Proc.tc.devRef main_arg6)) := by
  unfold V
  after_reads_simp
  rw [bias_row]
  rfl

theorem kR : V m c main_v74 = Host.hR (F := Ideal) (V m c main_v60) := by
  unfold V
  after_reads_simp
  rfl

theorem kZ : V m c main_v78 = Host.hZ (F := Ideal) (V m c main_v60) (V m c main_v74) := by
  unfold V
  after_reads_simp
  rfl

theorem kV : V m c main_v89 = Host.hV (F := Ideal) (V m c main_v30) := by
  unfold V
  after_reads_simp
  rfl

theorem kS : V m c main_v90 = Host.hS (F := Ideal) (V m c main_v89) := by
  unfold V
  after_reads_simp
  rfl

theorem kM0 : V m c main_v105 = Host.hM0 (F := Ideal) (V m c main_v90) := by
  obtain ⟨W, h, h9, h10, h11, h12⟩ := mid m c
  simp only [h]
  after_reads_simp
  rfl

theorem kM1 : V m c main_v119 = Host.hM1 (F := Ideal) (V m c main_v90) := by
  obtain ⟨W, h, h9, h10, h11, h12⟩ := mid m c
  simp only [h]
  after_reads_simp
  rfl

theorem kM2 : V m c main_v133 = Host.hM2 (F := Ideal) (V m c main_v90) := by
  obtain ⟨W, h, h9, h10, h11, h12⟩ := mid m c
  simp only [h]
  after_reads_simp
  rfl

theorem kM3 : V m c main_v147 = Host.hM3 (F := Ideal) (V m c main_v90) := by
  obtain ⟨W, h, h9, h10, h11, h12⟩ := mid m c
  simp only [h]
  after_reads_simp
  rfl

theorem kP : V m c main_v153 = Host.hP (F := Ideal) (V m c main_v89) (V m c main_v105) (V m c main_v119) (V m c main_v133) (V m c main_v147) := by
  obtain ⟨W, h, h9, h10, h11, h12⟩ := mid m c
  simp only [h]
  after_reads_simp
  rfl

theorem kW : V m c main_v87 = Host.hW (F := Ideal) (V m c main_v78) (m (c, Proc.tc.devRef main_arg7)) (m (c, Proc.tc.devRef main_arg8)) := by
  unfold V
  after_reads_simp
  rfl

/-- The host operations after the pooled input, from the contents before them. -/
theorem mid2 : ∃ W : Idealize.ShloMosaic.Valuation τ sig (Elt Ideal), (∀ b, V m c b = StableHlo.after (List.drop 194 (List.flatten [hostOps0, hostOps0_1, hostOps0_2, hostOps0_3, hostOps0_4, hostOps0_5, hostOps0_6, hostOps0_7, hostOps0_8])) W (Proc.devRef .tc b))
    ∧ W (Proc.devRef .tc main_arg9) = m (c, Proc.tc.devRef main_arg9) ∧ W (Proc.devRef .tc main_arg10) = m (c, Proc.tc.devRef main_arg10)
    ∧ W (Proc.devRef .tc main_arg11) = m (c, Proc.tc.devRef main_arg11) ∧ W (Proc.devRef .tc main_arg12) = m (c, Proc.tc.devRef main_arg12) := by
  refine ⟨StableHlo.after (List.take 194 (List.flatten [hostOps0, hostOps0_1, hostOps0_2, hostOps0_3, hostOps0_4, hostOps0_5, hostOps0_6, hostOps0_7, hostOps0_8])) (fun b => m (c, b)), fun b => ?_, ?_, ?_, ?_, ?_⟩
  · rw [← StableHlo.after_append, List.take_append_drop]
  all_goals
    simp only [List.flatten_cons, List.flatten_nil, List.cons_append, List.nil_append, List.append_nil, List.take_succ_cons, List.take_zero]
    after_reads_simp

theorem kY : V m c main_v166 = Host.hY (F := Ideal) (V m c main_v87) (V m c main_v153) (m (c, Proc.tc.devRef main_arg9)) (m (c, Proc.tc.devRef main_arg10)) (m (c, Proc.tc.devRef main_arg11)) (m (c, Proc.tc.devRef main_arg12)) := by
  obtain ⟨W, h, h9, h10, h11, h12⟩ := mid2 m c
  simp only [h, ← h9, ← h10, ← h11, ← h12]
  simp only [List.flatten_cons, List.flatten_nil, List.cons_append, List.nil_append, List.append_nil, List.drop_succ_cons, List.drop_zero]
  after_reads_simp
  rfl

end Cert.Hand.Mix
end
-- ==== Proof.Ffn.Ref.lean ====
/- The reference's values one after the other, read at arguments that hold real numbers: the matching function
   of the token's row. -/
module

public import proofs.«01_k».proof.Proof.Gen.ReferenceIdeal.Read
public import proofs.«01_k».proof.Proof.Ffn.Row
public import proofs.«01_k».proof.Proof.Up

@[expose] public section
set_option maxRecDepth 16384

noncomputable section
namespace Cert.Hand.Ffn
open Idealize.ShloMosaic Cert.ReferenceIdeal Cert.ReferenceIdeal.Gen Cert.ReferenceIdeal.Read

theorem rsqrt_ms {n : ℕ} (v : Fin n → ℝ) : Ideal.rsqrt (((∑ d, v d * v d) / 1024 + eps : ℝ) : EReal) = ((rs v : ℝ) : EReal) :=
  rsqrt_up (ms_pos v)

theorem div_ms {n : ℕ} (v : Fin n → ℝ) :
    Ideal.div ((rs v : ℝ) : EReal) (((∑ d, v d * v d) / 1024 + eps : ℝ) : EReal) = ((rs v * rs v * rs v : ℝ) : EReal) := by
  rw [div_up (ms_pos v).ne', rs_sq]

theorem lgs_up1 (z : ℝ) : Ideal.div ((1 : ℝ) : EReal) ((1 + Real.exp (-z) : ℝ) : EReal) = ((lgs z : ℝ) : EReal) :=
  div_up (one_add_exp_pos _).ne' _

theorem ms_up (a : ℝ) : ((a / 1024 : ℝ) : EReal) + Ideal.ofBits .f32 0x358637BD#32 = ((a / 1024 + eps : ℝ) : EReal) := by
  rw [lit_eps, add_up]

variable (p : Par) (x y : Fin 2048 → Fin 1024 → ℝ) (mm : Fin 6144 → ℝ)

theorem r8 (H : Rows mm p) : val_main_v8 (F := Ideal) (row1 mm) = prm p.sh := by
  funext i
  idx_vars i
  pointwise [val_main_v8, val_main_v5]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rw [H.sh]

theorem r9 (H : Rows mm p) : val_main_v9 (F := Ideal) (row1 mm) = prm p.sc := by
  funext i
  idx_vars i
  pointwise [val_main_v9, val_main_v6]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rw [H.sc]

theorem r10 (H : Rows mm p) : val_main_v10 (F := Ideal) (row1 mm) = prm p.gt := by
  funext i
  idx_vars i
  pointwise [val_main_v10, val_main_v7]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rw [H.gt]

theorem r25 : val_main_v25 (F := Ideal) (row1 p.g) = prm p.g := by
  funext i
  idx_vars i
  pointwise [val_main_v25, val_main_v11]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r61 : val_main_v61 (F := Ideal) (up1 p.gf) = prm p.gf := by
  funext i
  idx_vars i
  pointwise [val_main_v61]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r18 : val_main_v18 (F := Ideal) (tok x) = col fun t => (∑ d, x t d * x t d) / 1024 + eps := by
  funext i
  idx_vars i
  pointwise [val_main_v18, val_main_v17, val_main_cst_3, val_main_v16, val_main_v15, val_main_cst_2, val_main_v14, val_main_v13, val_main_cst_1, val_main_v12]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r19 : val_main_v19 (F := Ideal) (tok x) = col fun t => rs (x t) := by
  unfold val_main_v19
  rw [r18]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r22 : val_main_v22 (F := Ideal) (tok x) = col fun t => -(1 / 2) * (rs (x t) * rs (x t) * rs (x t)) := by
  unfold val_main_v22 val_main_v21 val_main_cst_4 val_main_v20
  rw [r18, r19]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r24 : val_main_v24 (F := Ideal) (tok x) = tok fun t => xh (x t) := by
  unfold val_main_v24 val_main_v23
  rw [r19]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r27 : val_main_v27 (F := Ideal) (tok x) (row1 p.g) = tok fun t => p.nrm (x t) := by
  unfold val_main_v27 val_main_v26
  rw [r24, r25]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r29 (H : Rows mm p) : val_main_v29 (F := Ideal) (row1 mm) = prm fun d => 1 + p.sc d := by
  unfold val_main_v29 val_main_v28 val_main_cst_5
  rw [r9 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r33 (H : Rows mm p) : val_main_v33 (F := Ideal) (tok x) (row1 mm) (row1 p.g) = tok fun t => p.h (x t) := by
  unfold val_main_v33 val_main_v32 val_main_v31 val_main_v30
  rw [r27, r29 (H := H), r8 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r36 (H : Rows mm p) : val_main_v36 (F := Ideal) (tok x) (row1 mm) (row1 p.g) (wmat p.wg) = tok fun t => p.gate (x t) := by
  unfold val_main_v36 val_main_v0 val_main_cst val_main_v35 val_main_v34
  rw [r33 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r39 (H : Rows mm p) : val_main_v39 (F := Ideal) (tok x) (row1 mm) (row1 p.g) (wmat p.wu) = tok fun t => p.up (x t) := by
  unfold val_main_v39 val_main_v0 val_main_cst val_main_v38 val_main_v37
  rw [r33 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r40_2 (H : Rows mm p) : val_main_v40_2 (F := Ideal) (tok x) (row1 mm) (row1 p.g) (wmat p.wg) = tok fun t k => lgs (p.gate (x t) k) := by
  unfold val_main_v40_2 val_main_call0_v4 val_main_call0_cst_0 val_main_call0_v3 val_main_call0_v2 val_main_call0_cst val_main_call0_v1 val_main_call0_v0
  rw [r36 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r40_1 (H : Rows mm p) : val_main_v40_1 (F := Ideal) (tok x) (row1 mm) (row1 p.g) (wmat p.wg) = tok fun t k => lgs (p.gate (x t) k) * (1 - lgs (p.gate (x t) k)) := by
  unfold val_main_v40_1 val_main_call0_v7 val_main_call0_v6 val_main_call0_cst_1
  rw [r40_2 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r40_0 (H : Rows mm p) : val_main_v40_0 (F := Ideal) (tok x) (row1 mm) (row1 p.g) (wmat p.wg) = tok fun t k => p.gate (x t) k * lgs (p.gate (x t) k) := by
  unfold val_main_v40_0
  rw [r36 (H := H), r40_2 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r41 (H : Rows mm p) : val_main_v41 (F := Ideal) (tok x) (row1 mm) (row1 p.g) (wmat p.wg) (wmat p.wu) = tok fun t => p.act (x t) := by
  unfold val_main_v41
  rw [r40_0 (H := H), r39 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r44 (H : Rows mm p) : val_main_v44 (F := Ideal) (tok x) (row1 mm) (row1 p.g) (wmat p.wg) (wmat p.wu) (wmat fun d h => p.wd h d) = tok fun t => p.f (x t) := by
  unfold val_main_v44 val_main_v1 val_main_cst_0 val_main_v43 val_main_v42
  rw [r41 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r47 (H : Rows mm p) : val_main_v47 (F := Ideal) (tok x) (row1 mm) (row1 p.g) (wmat p.wg) (wmat p.wu) (wmat fun d h => p.wd h d) = tok fun t => p.x3 (x t) := by
  unfold val_main_v47 val_main_v46 val_main_v45
  rw [r10 (H := H), r44 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]
  rfl

theorem r54 (H : Rows mm p) : val_main_v54 (F := Ideal) (tok x) (row1 mm) (row1 p.g) (wmat p.wg) (wmat p.wu) (wmat fun d h => p.wd h d) = col fun t => (∑ d, p.x3 (x t) d * p.x3 (x t) d) / 1024 + eps := by
  unfold val_main_v54 val_main_v53 val_main_cst_8 val_main_v52 val_main_v51 val_main_cst_7 val_main_v50 val_main_v49 val_main_cst_6 val_main_v48
  rw [r47 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r55 (H : Rows mm p) : val_main_v55 (F := Ideal) (tok x) (row1 mm) (row1 p.g) (wmat p.wg) (wmat p.wu) (wmat fun d h => p.wd h d) = col fun t => rs (p.x3 (x t)) := by
  unfold val_main_v55
  rw [r54 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, add_up, exp_up, sum_up, mean_up, lgs_up1, ms_up, rs_up, rsqrt_ms, div_ms]

theorem r58 (H : Rows mm p) : val_main_v58 (F := Ideal) (tok x) (row1 mm) (row1 p.g) (wmat p.wg) (wmat p.wu) (wmat fun d h => p.wd h d) = col fun t => -(1 / 2) * (rs (p.x3 (x t)) * rs (p.x3 (x t)) * rs (p.x3 (x t))) := by
  unfold val_main_v58 val_main_v57 val_main_cst_9 val_main_v56
  rw [r54 (H := H), r55 (H := H)]
  funext i
  idx_vars i
  pointwise [sum_d01, sum_d02]
  simp only [tok_at, col_at, col2_at, prm_at, row1_at, wmat_at, up1_at, up2_at, zero_up, one_up, lit_two, lit_half, lit_neg_half, sub_up, neg_up, mul_up, div_ms]

theorem r60 (H : Rows mm p) : val_main_v60 (F := Ideal) (tok x) (row1 mm) (row1 p.g) (wmat p.wg) (wmat p.wu) (wmat fun d h => p.wd h d) = tok fun t => xh (p.x3 (x t)) := by
  unfold val_main_v60 val_main_v59
  rw [r47 (H := H), r55 (H := H)]
  funext i
  idx_vars i
  pointwise [sum_d01, sum_d02]
  simp only [tok_at, col_at, mul_up]
  rfl

theorem r64 (H : Rows mm p) : val_main_v64 (F := Ideal) (tok x) (tok y) (row1 mm) (row1 p.g) (wmat p.wg) (wmat p.wu) (wmat fun d h => p.wd h d) (up1 p.gf) = tok fun t => p.diff (x t) (y t) := by
  unfold val_main_v64 val_main_v63 val_main_v62
  rw [r60 (H := H), r61]
  funext i
  idx_vars i
  pointwise [sum_d01, sum_d02]
  simp only [tok_at, prm_at, sub_up, mul_up]
  rfl

theorem r78 (H : Rows mm p) : val_main_v78 (F := Ideal) (tok x) (tok y) (row1 mm) (row1 p.g) (wmat p.wg) (wmat p.wu) (wmat fun d h => p.wd h d) (up1 p.gf) = tok fun t => p.dout (x t) (y t) := by
  unfold val_main_v78 val_main_v77 val_main_v76 val_main_v75 val_main_cst_17 val_main_v74 val_main_v73 val_main_cst_16 val_main_cst_15 val_main_v67 val_main_v66 val_main_cst_10
  rw [r64 (H := H)]
  funext i
  idx_vars i
  pointwise [sum_d01, sum_d02]
  simp only [tok_at, lit_two, lit_half, mul_up, mean_up]
  unfold Par.dout; congr 1; ring

theorem r84 (H : Rows mm p) : val_main_v84 (F := Ideal) (tok x) (tok y) (row1 mm) (row1 p.g) (wmat p.wg) (wmat p.wu) (wmat fun d h => p.wd h d) (up1 p.gf) = up1 fun d => ∑ t, p.vec (x t) (y t) 0 d := by
  unfold val_main_v84 val_main_cst_19 val_main_v81 val_main_v80 val_main_cst_18 val_main_v79
  rw [r60 (H := H), r78 (H := H)]
  funext i
  idx_vars i
  pointwise [sum_d01, sum_d02]
  simp only [tok_at, up1_at, mul_up, sum_up]
  exact congrArg (fun z : ℝ => (z : EReal)) (Finset.sum_congr rfl fun t _ => mul_comm _ _)

theorem r83 (H : Rows mm p) : val_main_v83 (F := Ideal) (tok x) (tok y) (row1 mm) (row1 p.g) (wmat p.wg) (wmat p.wu) (wmat fun d h => p.wd h d) (up1 p.gf) = tok fun t => p.dn3 (x t) (y t) := by
  unfold val_main_v83 val_main_v82
  rw [r61, r78 (H := H)]
  funext i
  idx_vars i
  pointwise [sum_d01, sum_d02]
  simp only [tok_at, prm_at, mul_up]
  rfl

theorem r87 (H : Rows mm p) : val_main_v87 (F := Ideal) (tok x) (tok y) (row1 mm) (row1 p.g) (wmat p.wg) (wmat p.wu) (wmat fun d h => p.wd h d) (up1 p.gf) = col fun t => ∑ d, p.x3 (x t) d * p.dn3 (x t) (y t) d := by
  unfold val_main_v87 val_main_v86 val_main_cst_20 val_main_v85
  rw [r47 (H := H), r83 (H := H)]
  funext i
  idx_vars i
  pointwise [sum_d01, sum_d02]
  simp only [tok_at, col_at, mul_up, sum_up]

theorem r92 (H : Rows mm p) : val_main_v92 (F := Ideal) (tok x) (tok y) (row1 mm) (row1 p.g) (wmat p.wg) (wmat p.wu) (wmat fun d h => p.wd h d) (up1 p.gf) = col fun t => (∑ d, p.x3 (x t) d * p.dn3 (x t) (y t) d) * (-(1 / 2) * (rs (p.x3 (x t)) * rs (p.x3 (x t)) * rs (p.x3 (x t)))) / 1024 := by
  unfold val_main_v92 val_main_v91 val_main_cst_21 val_main_v90
  rw [r87 (H := H), r58 (H := H)]
  funext i
  idx_vars i
  pointwise [sum_d01, sum_d02]
  simp only [col_at, mul_up, mean_up]

theorem r95 (H : Rows mm p) : val_main_v95 (F := Ideal) (tok x) (tok y) (row1 mm) (row1 p.g) (wmat p.wg) (wmat p.wu) (wmat fun d h => p.wd h d) (up1 p.gf) = tok fun t _ => (∑ d, p.x3 (x t) d * p.dn3 (x t) (y t) d) * (-(1 / 2) * (rs (p.x3 (x t)) * rs (p.x3 (x t)) * rs (p.x3 (x t)))) / 1024 := by
  unfold val_main_v95 val_main_v94 val_main_v93 val_main_cst_22
  rw [r92 (H := H)]
  funext i
  idx_vars i
  pointwise [sum_d01, sum_d02]
  simp only [tok_at, col_at]

theorem r99 (H : Rows mm p) : val_main_v99 (F := Ideal) (tok x) (tok y) (row1 mm) (row1 p.g) (wmat p.wg) (wmat p.wu) (wmat fun d h => p.wd h d) (up1 p.gf) = tok fun t => p.dx3 (x t) (y t) := by
  unfold val_main_v99 val_main_v98 val_main_v97 val_main_v96 val_main_v89 val_main_v88
  rw [r83 (H := H), r55 (H := H), r47 (H := H), r95 (H := H)]
  funext i
  idx_vars i
  pointwise [sum_d01, sum_d02]
  simp only [tok_at, col_at, mul_up, add_up]
  exact congrArg (fun z : ℝ => (z : EReal)) (rmsb_eq _ _ _)

theorem r101 (H : Rows mm p) : val_main_v101 (F := Ideal) (tok x) (tok y) (row1 mm) (row1 p.g) (wmat p.wg) (wmat p.wu) (wmat fun d h => p.wd h d) (up1 p.gf) = tok fun t => p.df (x t) (y t) := by
  unfold val_main_v101 val_main_v100
  rw [r10 (H := H), r99 (H := H)]
  funext i
  idx_vars i
  pointwise [sum_d01, sum_d02]
  simp only [tok_at, prm_at, mul_up]
  unfold Par.df; congr 1; ring

theorem r104 (H : Rows mm p) : val_main_v104 (F := Ideal) (tok x) (tok y) (row1 mm) (row1 p.g) (wmat p.wg) (wmat p.wu) (wmat fun d h => p.wd h d) (up1 p.gf) = prm fun d => ∑ t, p.vec (x t) (y t) 1 d := by
  unfold val_main_v104 val_main_v103 val_main_cst_23 val_main_v102
  rw [r99 (H := H), r44 (H := H)]
  funext i
  idx_vars i
  pointwise [sum_d01, sum_d02]
  simp only [tok_at, prm_at, mul_up, sum_up]
  rfl

theorem r105 (H : Rows mm p) : val_main_v105 (F := Ideal) (tok x) (tok y) (row1 mm) (row1 p.g) (wmat p.wg) (wmat p.wu) (wmat fun d h => p.wd h d) (up1 p.gf) = tok fun t => p.dact (x t) (y t) := by
  unfold val_main_v105 val_main_v42
  rw [r101 (H := H)]
  funext i
  idx_vars i
  pointwise [sum_d01, sum_d02]
  simp only [tok_at, wmat_at, mul_up, sum_up]
  rfl

theorem r106 (H : Rows mm p) : val_main_v106 (F := Ideal) (tok x) (tok y) (row1 mm) (row1 p.g) (wmat p.wg) (wmat p.wu) (wmat fun d h => p.wd h d) (up1 p.gf) = tok fun t => p.dup (x t) (y t) := by
  unfold val_main_v106
  rw [r40_0 (H := H), r105 (H := H)]
  funext i
  idx_vars i
  pointwise [sum_d01, sum_d02]
  simp only [tok_at, mul_up]
  unfold Par.dup; congr 1; ring

theorem r107 (H : Rows mm p) : val_main_v107 (F := Ideal) (tok x) (tok y) (row1 mm) (row1 p.g) (wmat p.wg) (wmat p.wu) (wmat fun d h => p.wd h d) (up1 p.gf) = tok fun t k => p.dact (x t) (y t) k * p.up (x t) k := by
  unfold val_main_v107
  rw [r105 (H := H), r39 (H := H)]
  funext i
  idx_vars i
  pointwise [sum_d01, sum_d02]
  simp only [tok_at, mul_up]

theorem r108 (H : Rows mm p) : val_main_v108 (F := Ideal) (tok x) (tok y) (row1 mm) (row1 p.g) (wmat p.wg) (wmat p.wu) (wmat fun d h => p.wd h d) (up1 p.gf) = tok fun t => p.dgate (x t) (y t) := by
  unfold val_main_v108 val_main_call1_v2 val_main_call1_v1 val_main_call1_v0
  rw [r107 (H := H), r36 (H := H), r40_2 (H := H), r40_1 (H := H)]
  funext i
  idx_vars i
  pointwise [sum_d01, sum_d02]
  simp only [tok_at, mul_up, add_up]
  unfold Par.dgate; congr 1; ring

theorem r111 (H : Rows mm p) : val_main_v111 (F := Ideal) (tok x) (tok y) (row1 mm) (row1 p.g) (wmat p.wg) (wmat p.wu) (wmat fun d h => p.wd h d) (up1 p.gf) = tok fun t => p.dh (x t) (y t) := by
  unfold val_main_v111 val_main_v110 val_main_v109 val_main_v34 val_main_v37
  rw [r106 (H := H), r108 (H := H)]
  funext i
  idx_vars i
  pointwise [sum_d01, sum_d02]
  simp only [tok_at, wmat_at, mul_up, add_up, sum_up]
  unfold Par.dh; congr 1; exact add_comm _ _

theorem r113 (H : Rows mm p) : val_main_v113 (F := Ideal) (tok x) (tok y) (row1 mm) (row1 p.g) (wmat p.wg) (wmat p.wu) (wmat fun d h => p.wd h d) (up1 p.gf) = prm fun d => ∑ t, p.vec (x t) (y t) 2 d := by
  unfold val_main_v113 val_main_v112 val_main_cst_24
  rw [r111 (H := H)]
  funext i
  idx_vars i
  pointwise [sum_d01, sum_d02]
  simp only [tok_at, prm_at, sum_up]
  rfl

theorem r116 (H : Rows mm p) : val_main_v116 (F := Ideal) (tok x) (tok y) (row1 mm) (row1 p.g) (wmat p.wg) (wmat p.wu) (wmat fun d h => p.wd h d) (up1 p.gf) = prm fun d => ∑ t, p.vec (x t) (y t) 3 d := by
  unfold val_main_v116 val_main_v115 val_main_cst_25 val_main_v114
  rw [r27, r111 (H := H)]
  funext i
  idx_vars i
  pointwise [sum_d01, sum_d02]
  simp only [tok_at, prm_at, mul_up, sum_up]
  exact congrArg (fun z : ℝ => (z : EReal)) (Finset.sum_congr rfl fun t _ => mul_comm _ _)

theorem r118 (H : Rows mm p) : val_main_v118 (F := Ideal) (tok x) (tok y) (row1 mm) (row1 p.g) (wmat p.wg) (wmat p.wu) (wmat fun d h => p.wd h d) (up1 p.gf) = tok fun t => p.dn2 (x t) (y t) := by
  unfold val_main_v118 val_main_v117
  rw [r111 (H := H), r29 (H := H)]
  funext i
  idx_vars i
  pointwise [sum_d01, sum_d02]
  simp only [tok_at, prm_at, mul_up]
  rfl

theorem r124 (H : Rows mm p) : val_main_v124 (F := Ideal) (tok x) (tok y) (row1 mm) (row1 p.g) (wmat p.wg) (wmat p.wu) (wmat fun d h => p.wd h d) (up1 p.gf) = up1 fun d => ∑ t, p.vec (x t) (y t) 4 d := by
  unfold val_main_v124 val_main_cst_27 val_main_v121 val_main_v120 val_main_cst_26 val_main_v119
  rw [r24, r118 (H := H)]
  funext i
  idx_vars i
  pointwise [sum_d01, sum_d02]
  simp only [tok_at, up1_at, mul_up, sum_up]
  exact congrArg (fun z : ℝ => (z : EReal)) (Finset.sum_congr rfl fun t _ => mul_comm _ _)

theorem r123 (H : Rows mm p) : val_main_v123 (F := Ideal) (tok x) (tok y) (row1 mm) (row1 p.g) (wmat p.wg) (wmat p.wu) (wmat fun d h => p.wd h d) (up1 p.gf) = tok fun t => p.dxh2 (x t) (y t) := by
  unfold val_main_v123 val_main_v122
  rw [r118 (H := H), r25]
  funext i
  idx_vars i
  pointwise [sum_d01, sum_d02]
  simp only [tok_at, prm_at, mul_up]
  rfl

theorem r127 (H : Rows mm p) : val_main_v127 (F := Ideal) (tok x) (tok y) (row1 mm) (row1 p.g) (wmat p.wg) (wmat p.wu) (wmat fun d h => p.wd h d) (up1 p.gf) = col fun t => ∑ d, x t d * p.dxh2 (x t) (y t) d := by
  unfold val_main_v127 val_main_v126 val_main_cst_28 val_main_v125
  rw [r123 (H := H)]
  funext i
  idx_vars i
  pointwise [sum_d01, sum_d02]
  simp only [tok_at, col_at, mul_up, sum_up]

theorem r133 (H : Rows mm p) : val_main_v133 (F := Ideal) (tok x) (tok y) (row1 mm) (row1 p.g) (wmat p.wg) (wmat p.wu) (wmat fun d h => p.wd h d) (up1 p.gf) = col fun t => (∑ d, x t d * p.dxh2 (x t) (y t) d) * (-(1 / 2) * (rs (x t) * rs (x t) * rs (x t))) / 1024 := by
  unfold val_main_v133 val_main_v132 val_main_cst_29 val_main_v131
  rw [r127 (H := H), r22]
  funext i
  idx_vars i
  pointwise [sum_d01, sum_d02]
  simp only [col_at, mul_up, mean_up]

theorem r136 (H : Rows mm p) : val_main_v136 (F := Ideal) (tok x) (tok y) (row1 mm) (row1 p.g) (wmat p.wg) (wmat p.wu) (wmat fun d h => p.wd h d) (up1 p.gf) = tok fun t _ => (∑ d, x t d * p.dxh2 (x t) (y t) d) * (-(1 / 2) * (rs (x t) * rs (x t) * rs (x t))) / 1024 := by
  unfold val_main_v136 val_main_v135 val_main_v134 val_main_cst_30
  rw [r133 (H := H)]
  funext i
  idx_vars i
  pointwise [sum_d01, sum_d02]
  simp only [tok_at, col_at]

theorem r140 (H : Rows mm p) : val_main_v140 (F := Ideal) (tok x) (tok y) (row1 mm) (row1 p.g) (wmat p.wg) (wmat p.wu) (wmat fun d h => p.wd h d) (up1 p.gf) = tok fun t => p.dx (x t) (y t) := by
  unfold val_main_v140 val_main_v139 val_main_v138 val_main_v137 val_main_v130 val_main_v129 val_main_v128
  rw [r99 (H := H), r123 (H := H), r19, r136 (H := H)]
  funext i
  idx_vars i
  pointwise [sum_d01, sum_d02]
  simp only [tok_at, col_at, mul_up, add_up]
  unfold Par.dx; rw [← rmsb_eq]; congr 1; ring

theorem r143 (H : Rows mm p) : val_main_v143 (F := Ideal) (tok x) (tok y) (row1 mm) (row1 p.g) (wmat p.wg) (wmat p.wu) (wmat fun d h => p.wd h d) (up1 p.gf) = row1 fun d => ∑ t, p.vec (x t) (y t) 1 d := by
  unfold val_main_v143 val_main_v142 val_main_cst_31
  rw [r104 (H := H)]
  funext i
  idx_vars i
  pointwise [sum_d01, sum_d02]
  simp only [prm_at, row1_at]

theorem r145 (H : Rows mm p) : val_main_v145 (F := Ideal) (tok x) (tok y) (row1 mm) (row1 p.g) (wmat p.wg) (wmat p.wu) (wmat fun d h => p.wd h d) (up1 p.gf) = row1 fun d => ∑ t, p.vec (x t) (y t) 3 d := by
  unfold val_main_v145 val_main_v144 val_main_cst_32
  rw [r116 (H := H)]
  funext i
  idx_vars i
  pointwise [sum_d01, sum_d02]
  simp only [prm_at, row1_at]

theorem r147 (H : Rows mm p) : val_main_v147 (F := Ideal) (tok x) (tok y) (row1 mm) (row1 p.g) (wmat p.wg) (wmat p.wu) (wmat fun d h => p.wd h d) (up1 p.gf) = row1 fun d => ∑ t, p.vec (x t) (y t) 2 d := by
  unfold val_main_v147 val_main_v146 val_main_cst_33
  rw [r113 (H := H)]
  funext i
  idx_vars i
  pointwise [sum_d01, sum_d02]
  simp only [prm_at, row1_at]

theorem r141 (H : Rows mm p) : val_main_v141 (F := Ideal) (tok x) (tok y) (row1 mm) (row1 p.g) (wmat p.wg) (wmat p.wu) (wmat fun d h => p.wd h d) (up1 p.gf) = row1 fun d => ∑ t, p.vec (x t) (y t) 4 d := by
  unfold val_main_v141
  rw [r124 (H := H)]
  funext i
  idx_vars i
  pointwise [sum_d01, sum_d02]
  simp only [row1_at, up1_at]

theorem r153 (H : Rows mm p) : val_main_v153 (F := Ideal) (tok x) (tok y) (row1 mm) (row1 p.g) (wmat p.wg) (wmat p.wu) (wmat fun d h => p.wd h d) (up1 p.gf) = row1 fun d => ∑ t, p.vec (x t) (y t) 0 d := by
  unfold val_main_v153
  rw [r84 (H := H)]
  funext i
  idx_vars i
  pointwise [sum_d01, sum_d02]
  simp only [row1_at, up1_at]

theorem r159 (H : Rows mm p) : val_main_v159 (F := Ideal) (tok x) (tok y) (row1 mm) (row1 p.g) (wmat p.wg) (wmat p.wu) (wmat fun d h => p.wd h d) (up1 p.gf) = row1 fun d => ∑ t, p.vec (x t) (y t) 5 d := by
  unfold val_main_v159 val_main_v158 val_main_cst_37 val_main_v157 val_main_v65
  rw [r64 (H := H)]
  funext i
  idx_vars i
  pointwise [sum_d01, sum_d02]
  simp only [tok_at, row1_at, mul_up, sum_up]
  rfl

theorem r154 (H : Rows mm p) : val_main_v154 (F := Ideal) (tok x) (tok y) (row1 mm) (row1 p.g) (wmat p.wg) (wmat p.wu) (wmat fun d h => p.wd h d) (up1 p.gf) = row1 fun d => ∑ t, p.vec (x t) (y t) 1 d := by
  unfold val_main_v154 val_main_v152 val_main_v151 val_main_v150 val_main_cst_36 val_main_v149 val_main_cst_35 val_main_v148 val_main_cst_34
  rw [r143 (H := H), r145 (H := H), r147 (H := H)]
  funext i
  idx_vars i
  pointwise [sum_d01, sum_d02]
  simp only [row1_at, zero_up]
  rw [dif_neg (by omega), dif_neg (by omega), dif_neg (by omega), dif_neg (by omega), dif_neg (by omega)]; refine congrArg (fun d => ((∑ t, p.vec (x t) (y t) 1 d : ℝ) : EReal)) (Fin.ext ?_); dsimp only; omega

theorem r155 (H : Rows mm p) : val_main_v155 (F := Ideal) (tok x) (tok y) (row1 mm) (row1 p.g) (wmat p.wg) (wmat p.wu) (wmat fun d h => p.wd h d) (up1 p.gf) = row1 fun d => ∑ t, p.vec (x t) (y t) 2 d := by
  unfold val_main_v155 val_main_v152 val_main_v151 val_main_v150 val_main_cst_36 val_main_v149 val_main_cst_35 val_main_v148 val_main_cst_34
  rw [r143 (H := H), r145 (H := H), r147 (H := H)]
  funext i
  idx_vars i
  pointwise [sum_d01, sum_d02]
  simp only [row1_at, zero_up]
  rw [dif_neg (by omega), dif_neg (by omega), dif_neg (by omega), dif_pos (by omega)]; refine congrArg (fun d => ((∑ t, p.vec (x t) (y t) 2 d : ℝ) : EReal)) (Fin.ext ?_); dsimp only; omega

theorem r156 (H : Rows mm p) : val_main_v156 (F := Ideal) (tok x) (tok y) (row1 mm) (row1 p.g) (wmat p.wg) (wmat p.wu) (wmat fun d h => p.wd h d) (up1 p.gf) = row1 fun d => ∑ t, p.vec (x t) (y t) 3 d := by
  unfold val_main_v156 val_main_v152 val_main_v151 val_main_v150 val_main_cst_36 val_main_v149 val_main_cst_35 val_main_v148 val_main_cst_34
  rw [r143 (H := H), r145 (H := H), r147 (H := H)]
  funext i
  idx_vars i
  pointwise [sum_d01, sum_d02]
  simp only [row1_at, zero_up]
  rw [dif_neg (by omega), dif_neg (by omega), dif_neg (by omega), dif_neg (by omega), dif_pos (by omega)]; refine congrArg (fun d => ((∑ t, p.vec (x t) (y t) 3 d : ℝ) : EReal)) (Fin.ext ?_); dsimp only; omega

theorem r161 (H : Rows mm p) : val_main_v161 (F := Ideal) (tok x) (tok y) (row1 mm) (row1 p.g) (wmat p.wg) (wmat p.wu) (wmat fun d h => p.wd h d) (up1 p.gf) = up2 fun i d => ∑ t, p.vec (x t) (y t) i d := by
  unfold val_main_v161 val_main_v160 val_main_cst_38
  rw [r141 (H := H), r153 (H := H), r159 (H := H), r154 (H := H), r155 (H := H), r156 (H := H)]
  funext i
  idx_vars i
  pointwise [sum_d01, sum_d02]
  simp only [row1_at, up2_at, zero_up]
  fin_cases i0 <;> simp [Par.vec]

theorem r162 (H : Rows mm p) : val_main_v162 (F := Ideal) (tok x) (tok y) (row1 mm) (row1 p.g) (wmat p.wg) (wmat p.wu) (wmat fun d h => p.wd h d) (up1 p.gf) = up2 fun t => p.dx (x t) (y t) := by
  unfold val_main_v162
  rw [r140 (H := H)]
  funext i
  idx_vars i
  pointwise [sum_d01, sum_d02]
  simp only [tok_at, up2_at]

theorem r164 (H : Rows mm p) : val_main_v164 (F := Ideal) (tok x) (row1 mm) (row1 p.g) = up2 fun t => p.h (x t) := by
  unfold val_main_v164 val_main_v163
  rw [r33 (H := H)]
  funext i
  idx_vars i
  pointwise [sum_d01, sum_d02]
  simp only [tok_at, up2_at]

theorem r166 (H : Rows mm p) : val_main_v166 (F := Ideal) (tok x) (tok y) (row1 mm) (row1 p.g) (wmat p.wg) (wmat p.wu) (wmat fun d h => p.wd h d) (up1 p.gf) = up2 fun t => p.df (x t) (y t) := by
  unfold val_main_v166 val_main_v165
  rw [r101 (H := H)]
  funext i
  idx_vars i
  pointwise [sum_d01, sum_d02]
  simp only [tok_at, up2_at]

theorem r170 (H : Rows mm p) : val_main_v170 (F := Ideal) (tok x) (row1 mm) (row1 p.g) (wmat p.wg) (wmat p.wu) = up3 fun j t k => p.act (x t) (hid j k) := by
  unfold val_main_v170 val_main_v169 val_main_v168 val_main_v167
  rw [r41 (H := H)]
  funext i
  idx_vars i
  pointwise [sum_d01, sum_d02]
  simp only [tok_at]
  rfl

theorem r174 (H : Rows mm p) : val_main_v174 (F := Ideal) (tok x) (tok y) (row1 mm) (row1 p.g) (wmat p.wg) (wmat p.wu) (wmat fun d h => p.wd h d) (up1 p.gf) = up3 fun j t k => p.dgate (x t) (y t) (hid j k) := by
  unfold val_main_v174 val_main_v173 val_main_v172 val_main_v171
  rw [r108 (H := H)]
  funext i
  idx_vars i
  pointwise [sum_d01, sum_d02]
  simp only [tok_at]
  rfl

theorem r178 (H : Rows mm p) : val_main_v178 (F := Ideal) (tok x) (tok y) (row1 mm) (row1 p.g) (wmat p.wg) (wmat p.wu) (wmat fun d h => p.wd h d) (up1 p.gf) = up3 fun j t k => p.dup (x t) (y t) (hid j k) := by
  unfold val_main_v178 val_main_v177 val_main_v176 val_main_v175
  rw [r106 (H := H)]
  funext i
  idx_vars i
  pointwise [sum_d01, sum_d02]
  simp only [tok_at]
  rfl

end Cert.Hand.Ffn
end
-- ==== Proof.Mix.Fwd.lean ====
/- The mixer's forward pass over the real numbers, and the sums by which its derivative, taken step by step, is the
   backward pass. -/
module

public import proofs.«01_k».proof.Proof.Mix.Row

@[expose] public section

noncomputable section
namespace Cert.Hand.Mix
open Idealize.ShloMosaic Cert.Hand
open Cert.Hand.Ffn (xh rmsb)

/-- One over the root of the mean square over 512 channels. -/
def rs5 (q : Fin 512 → ℝ) : ℝ := (√((∑ c, q c * q c) / 512 + eps))⁻¹

theorem vs_pos (q : Fin 512 → ℝ) : 0 < (∑ c, q c * q c) / 512 + eps := by
  have h : 0 ≤ ∑ d, q d * q d := Finset.sum_nonneg fun d _ => mul_self_nonneg _
  have := eps_pos
  positivity

theorem rs5_sq (q : Fin 512 → ℝ) : rs5 q / ((∑ c, q c * q c) / 512 + eps) = rs5 q * rs5 q * rs5 q := by
  have h := vs_pos q
  have hs : √((∑ d, q d * q d) / 512 + eps) ≠ 0 := (Real.sqrt_pos.mpr h).ne'
  have hq := Real.mul_self_sqrt h.le
  unfold rs5
  generalize (∑ d, q d * q d) / 512 + eps = a at *
  have h1 : (√a)⁻¹ * (√a)⁻¹ * a = 1 := by
    nth_rewrite 3 [← hq]
    field_simp
  rw [div_eq_iff h.ne', mul_assoc, mul_assoc, ← mul_assoc _ _ a, h1, mul_one]

def mu (f : Fin 512 → ℝ) : ℝ := (∑ c, f c) / 512
def ctr (f : Fin 512 → ℝ) (c : Fin 512) : ℝ := f c - mu f

theorem ctr_sum (f : Fin 512 → ℝ) : ∑ c, ctr f c = 0 := by
  unfold ctr mu
  rw [Finset.sum_sub_distrib, Finset.sum_const, Finset.card_univ, Fintype.card_fin, nsmul_eq_mul]
  push_cast
  ring

/-- The gated unit at the token `k - 30` places from `t`, written as a sum over all tokens. -/
def taps (u : Fin 2048 → Fin 1536 → ℝ) (k : Fin 31) (t : Fin 2048) (c : Fin 512) : ℝ :=
  ∑ s : Fin 2048, if s.val + 30 = t.val + k.val then glu (u s) c else 0

/-- The running sum of a group's channel up to token `t`, and the one `w` tokens before. -/
def run (u : Fin 2048 → Fin 1536 → ℝ) (t : Fin 2048) (i : Fin 4) (e : Fin 128) : ℝ :=
  ∑ s : Fin 2048, if s.val ≤ t.val then uv (u s) (grp i e) else 0
def runb (w : ℕ) (u : Fin 2048 → Fin 1536 → ℝ) (t : Fin 2048) (i : Fin 4) (e : Fin 128) : ℝ :=
  if t.val < w then 0 else run u ⟨t.val - w, by omega⟩ i e
def tmean (u : Fin 2048 → Fin 1536 → ℝ) (i : Fin 4) (t : Fin 2048) (e : Fin 128) : ℝ :=
  (run u t i e - runb (wid i) u t i e) / cnt i t.val
def pool (u : Fin 2048 → Fin 1536 → ℝ) (t : Fin 2048) (i : Fin 4) (e : Fin 128) : ℝ := tmean u i t e - uv (u t) (grp i e)

namespace Par
variable (p : Par) (x ct : Fin 2048 → Fin 1024 → ℝ)

def fU (t : Fin 2048) (q : Fin 1536) : ℝ := ∑ d, p.h (x t) d * p.win d q
def fC (t : Fin 2048) (c : Fin 512) : ℝ := (∑ k, taps (p.fU x) k t c * p.dw k c) + p.db c
def fQ (t : Fin 2048) : Fin 512 → ℝ := ctr (p.fC x t)
def fR (t : Fin 2048) : ℝ := rs5 (p.fQ x t)
def fZ (t : Fin 2048) (c : Fin 512) : ℝ := p.fQ x t c * p.fR x t
def fP (t : Fin 2048) (c : Fin 512) : ℝ := pool (p.fU x) t (gof c) (rof c)
def yc (t : Fin 2048) (c : Fin 512) : ℝ := ∑ a, p.sw (p.fZ x t) a * p.pw a c
def yp (t : Fin 2048) (c : Fin 512) : ℝ := p.ypre (p.fP x t) c * p.ps c
def ycat (t : Fin 2048) (q : Fin 1024) : ℝ :=
  if h : q.val < 512 then p.yc x t ⟨q.val, h⟩ else p.yp x t ⟨q.val - 512, by omega⟩
def fY (t : Fin 2048) (d : Fin 1024) : ℝ := ∑ q, p.ycat x t q * p.wo q d

/-- What the backward pass reads, from the sublayer's input and the gradient of its result. -/
def fwd : Toks where
  ct := ct
  x := x
  y := p.fY x
  u := p.fU x
  z := p.fZ x
  r := p.fR x
  p := p.fP x

end Par

/-- The gradient through the layer norm's centring and scaling, each step's share apart, is the closed form. -/
theorem ln_back (dz q : Fin 512 → ℝ) (r : ℝ) (hq : ∑ c, q c = 0) (c : Fin 512) :
    dz c * r + (∑ e, q e * dz e) * (-(1 / 2) * (r * r * r)) / 512 * (2 * q c)
      + ((∑ e, -(dz e * r)) + ∑ e, -((∑ e, q e * dz e) * (-(1 / 2) * (r * r * r)) / 512 * (2 * q e))) / 512
      = r * (dz c - (∑ e, dz e) / 512 - q c * r * ((∑ e, dz e * (q e * r)) / 512)) := by
  have h1 : ∑ e, -(dz e * r) = -((∑ e, dz e) * r) := by rw [Finset.sum_neg_distrib, Finset.sum_mul]
  have h2 : ∀ K : ℝ, ∑ e, -(K * (2 * q e)) = 0 := fun K => by
    rw [Finset.sum_neg_distrib, ← Finset.mul_sum, ← Finset.mul_sum, hq]; ring
  have h3 : ∑ e, dz e * (q e * r) = (∑ e, q e * dz e) * r := by
    rw [Finset.sum_mul]; exact Finset.sum_congr rfl fun e _ => by ring
  rw [h1, h2, h3]
  ring

/-- A sum of which one term at most is not zero. -/
theorem sum_pick (f : Fin 2048 → Fin 512 → ℝ) (n : ℕ) (c : Fin 512) :
    (∑ t : Fin 2048, if n = t.val then f t c else 0) = ext f n c := by
  unfold ext
  by_cases h : n < 2048
  · rw [dif_pos h, Finset.sum_eq_single (⟨n, h⟩ : Fin 2048)]
    · rw [if_pos rfl]
    · intro b _ hb
      exact if_neg fun e => hb (Fin.ext e.symm)
    · intro hn
      exact absurd (Finset.mem_univ _) hn
  · rw [dif_neg h]
    exact Finset.sum_eq_zero fun t _ => if_neg fun e => h (by omega)

theorem ext_past (f : Fin 2048 → Fin 512 → ℝ) (n : ℕ) (h : 2048 ≤ n) (c : Fin 512) : ext f n c = 0 := by
  unfold ext
  exact dif_neg (by omega)

theorem ext_at (f : Fin 2048 → Fin 512 → ℝ) (t : Fin 2048) (c : Fin 512) : ext f t.val c = f t c := by
  unfold ext
  exact dif_pos t.isLt

/-- The gradient of the gated unit, over all taps and tokens. -/
theorem dglu_sum (dw : Fin 31 → Fin 512 → ℝ) (p : Par) (hp : p.dw = dw) (f : Fin 2048 → Fin 512 → ℝ) (s : Fin 2048) (c : Fin 512) :
    (∑ k : Fin 31, ∑ t : Fin 2048, if s.val + 30 = t.val + k.val then f t c * dw k c else 0) = p.tapsum (ext f) 31 s.val c := by
  subst hp
  unfold Par.tapsum
  rw [← Fin.sum_univ_eq_sum_range (fun k => p.tap k c * ext f (30 - k + s.val) c) 31]
  refine Finset.sum_congr rfl fun k _ => ?_
  have hk := k.isLt
  rw [← sum_pick, Finset.mul_sum]
  refine Finset.sum_congr rfl fun t _ => ?_
  unfold Par.tap
  rw [dif_pos hk]
  by_cases h : s.val + 30 = t.val + k.val
  · rw [if_pos h, if_pos (by omega)]; ring
  · rw [if_neg h, if_neg (by omega), mul_zero]

/-- The gradient of a tap, over all tokens. -/
theorem ddw_sum (u : Fin 2048 → Fin 1536 → ℝ) (f : Fin 2048 → Fin 512 → ℝ) (k : Fin 31) (c : Fin 512) :
    (∑ t, taps u k t c * f t c) = ∑ s : Fin 2048, glu (u s) c * ext f (30 - k.val + s.val) c := by
  have hk := k.isLt
  unfold taps
  simp only [Finset.sum_mul]
  rw [Finset.sum_comm]
  refine Finset.sum_congr rfl fun s _ => ?_
  rw [← sum_pick, Finset.mul_sum]
  refine Finset.sum_congr rfl fun t _ => ?_
  by_cases h : s.val + 30 = t.val + k.val
  · rw [if_pos h, if_pos (by omega)]
  · rw [if_neg h, if_neg (by omega), zero_mul, mul_zero]

/-- Running back over differences `w` tokens apart leaves `w` terms. -/
theorem tele (F : ℕ → ℝ) (h0 : ∀ n, 2048 ≤ n → F n = 0) (w : ℕ) (t : Fin 2048) :
    (∑ s : Fin 2048, if t.val ≤ s.val then F s.val + -F (s.val + w) else 0) = ∑ d ∈ Finset.range w, F (d + t.val) := by
  have ht := t.isLt
  rw [Fin.sum_univ_eq_sum_range (fun s => if t.val ≤ s then F s + -F (s + w) else 0) 2048, ← Finset.sum_filter]
  have e : (Finset.range 2048).filter (fun s => t.val ≤ s) = Finset.Ico t.val 2048 := by
    ext s
    simp only [Finset.mem_filter, Finset.mem_range, Finset.mem_Ico]
    omega
  rw [e]
  induction w with
  | zero => simp
  | succ w ih =>
    rw [Finset.sum_range_succ, ← ih]
    have h1 : ∑ s ∈ Finset.Ico t.val 2048, (F (s + w) - F (s + (w + 1))) = F (w + t.val) := by
      rw [Finset.sum_Ico_eq_sum_range]
      have h2 := Finset.sum_range_sub' (fun i => F (t.val + i + w)) (2048 - t.val)
      rw [show (fun i => F (t.val + i + w) - F (t.val + (i + 1) + w)) = fun i => F (t.val + i + w) - F (t.val + i + (w + 1)) from
        funext fun i => by rw [show t.val + (i + 1) + w = t.val + i + (w + 1) by omega]] at h2
      rw [h2, h0 (t.val + (2048 - t.val) + w) (by omega), sub_zero, add_zero, add_comm]
    rw [← h1, ← Finset.sum_add_distrib]
    refine Finset.sum_congr rfl fun s _ => by ring

end Cert.Hand.Mix
end
-- ==== Proof.Mix.Win.lean ====
/- Running sums over the tokens, as sums over a window: from the first token on, and from the last one back. -/
module

public import proofs.«01_k».proof.Proof.Up
public import proofs.«01_k».proof.Proof.Lit

@[expose] public section
set_option maxRecDepth 16384

noncomputable section
namespace Cert.Hand.Mix
open Idealize.ShloMosaic Cert.Hand

/-- An array over four axes. -/
def up4 {a b c d : ℕ} (f : Fin a → Fin b → Fin c → Fin d → ℝ) : (⟨4, ![a, b, c, d]⟩ : Shape).Idx → EReal :=
  fun i => ((f (i 0) (i 1) (i 2) (i 3) : ℝ) : EReal)

theorem up4_at {a b c d : ℕ} (f : Fin a → Fin b → Fin c → Fin d → ℝ) (i : Fin a) (j : Fin b) (k : Fin c) (l : Fin d) :
    up4 f (ix4 i j k l) = ((f i j k l : ℝ) : EReal) := rfl

/-- Groups of channels for every token. -/
def gtok {n k : ℕ} (f : Fin 2048 → Fin n → Fin k → ℝ) : (⟨4, ![1, 2048, n, k]⟩ : Shape).Idx → EReal :=
  up4 fun (_ : Fin 1) t i e => f t i e

theorem gtok_at {n k : ℕ} (f : Fin 2048 → Fin n → Fin k → ℝ) (z : Fin 1) (t : Fin 2048) (i : Fin n) (e : Fin k) :
    gtok f (ix4 z t i e) = ((f t i e : ℝ) : EReal) := rfl

theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

section
variable {n b c : ℕ}

/-- A window over the second axis alone. -/
abbrev wsh (n : ℕ) : Shape := ⟨4, ![1, n, 1, 1]⟩

theorem sum_wsh (T : (wsh n).Idx → EReal) : ∑ i, T i = ∑ w : Fin n, T (ix4 0 w 0 0) := by
  refine (Fintype.sum_bijective (fun w : Fin n => (ix4 0 w 0 0 : (wsh n).Idx)) ⟨?_, ?_⟩ _ _ fun w => rfl).symm
  · intro a b h
    exact congrFun h 1
  · intro i
    refine ⟨i 1, ?_⟩
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

theorem sum_window (T : (wsh n).Idx → EReal) :
    (List.finRange (wsh n).numel).foldl (fun r k => r + T ((wsh n).rowMajor.symm k)) 0 = ∑ w : Fin n, T (ix4 0 w 0 0) := by
  rw [foldl_sum, zero_add, ← Fin.sum_univ_def, Equiv.sum_comp, sum_wsh]

theorem win_at (l k : ℕ) (x : (⟨4, ![1, n, b, c]⟩ : Shape).Idx → EReal)
    (h : (⟨4, ![1, n, b, c]⟩ : Shape).ReduceWindows ![1, n, 1, 1] ![1, 1, 1, 1] ![0, l, 0, 0] ![0, k, 0, 0] ⟨4, ![1, n, b, c]⟩)
    (z : Fin 1) (t : Fin n) (i : Fin b) (e : Fin c) :
    Ideal.hostReduceWindowAdd ![1, n, 1, 1] ![1, 1, 1, 1] ![0, l, 0, 0] ![0, k, 0, 0] h x 0 (ix4 z t i e)
      = ∑ w : Fin n, if hin : l ≤ t.val + w.val ∧ t.val + w.val - l < n then x (ix4 0 ⟨t.val + w.val - l, hin.2⟩ i e) else 0 := by
  unfold Ideal.hostReduceWindowAdd Host.reduceWindow
  have e0 := sum_window (n := n) fun q => if hin : ∀ a : Fin 4, (![0, l, 0, 0] : Fin 4 → ℕ) a ≤ ((ix4 z t i e : (⟨4, ![1, n, b, c]⟩ : Shape).Idx) a).val * (![1, 1, 1, 1] : Fin 4 → ℕ) a + (q a).val
      ∧ ((ix4 z t i e : (⟨4, ![1, n, b, c]⟩ : Shape).Idx) a).val * (![1, 1, 1, 1] : Fin 4 → ℕ) a + (q a).val - (![0, l, 0, 0] : Fin 4 → ℕ) a < (![1, n, b, c] : Fin 4 → ℕ) a
      then x (fun a => ⟨_, (hin a).2⟩) else 0
  refine Eq.trans ?_ (e0.trans ?_)
  · dsimp only
    congr 1
    funext r k
    congr 1
    split
    · rename_i hin
      split
      · rfl
      · rename_i hn
        exact absurd hin hn
    · rename_i hin
      split
      · rename_i hp
        exact absurd hp hin
      · rfl
  refine Finset.sum_congr rfl fun w _ => ?_
  by_cases hin : l ≤ t.val + w.val ∧ t.val + w.val - l < n
  · rw [dif_pos hin, dif_pos]
    · congr 1
      funext a
      refine Fin.ext ?_
      match a with
      | ⟨0, _⟩ => show z.val * 1 + 0 - 0 = 0; omega
      | ⟨1, _⟩ => show t.val * 1 + w.val - l = t.val + w.val - l; omega
      | ⟨2, _⟩ => show i.val * 1 + 0 - 0 = i.val; omega
      | ⟨3, _⟩ => show e.val * 1 + 0 - 0 = e.val; omega
    · intro a
      match a with
      | ⟨0, _⟩ => show 0 ≤ z.val * 1 + 0 ∧ z.val * 1 + 0 - 0 < 1; omega
      | ⟨1, _⟩ => show l ≤ t.val * 1 + w.val ∧ t.val * 1 + w.val - l < n; omega
      | ⟨2, _⟩ => show 0 ≤ i.val * 1 + 0 ∧ i.val * 1 + 0 - 0 < b; omega
      | ⟨3, _⟩ => show 0 ≤ e.val * 1 + 0 ∧ e.val * 1 + 0 - 0 < c; omega
  · rw [dif_neg hin, dif_neg]
    intro hall
    have h1 := hall 1
    change l ≤ t.val * 1 + w.val ∧ t.val * 1 + w.val - l < n at h1
    exact hin (by omega)

end

theorem run_lo (F : ℕ → ℝ) (n M t : ℕ) (hn : n = M + 1) (ht : t < n) :
    ∑ w : Fin n, (if M ≤ t + w.val then F (t + w.val - M) else 0) = ∑ s : Fin n, if s.val ≤ t then F s.val else 0 := by
  rw [Fin.sum_univ_eq_sum_range (fun w => if M ≤ t + w then F (t + w - M) else 0),
    Fin.sum_univ_eq_sum_range (fun s => if s ≤ t then F s else 0), ← Finset.sum_filter, ← Finset.sum_filter]
  refine Finset.sum_nbij' (fun w => t + w - M) (fun s => s + M - t) ?_ ?_ ?_ ?_ fun _ _ => rfl
  all_goals
    intro a ha
    simp only [Finset.mem_filter, Finset.mem_range] at ha ⊢
    omega

theorem run_hi (F : ℕ → ℝ) (n t : ℕ) :
    ∑ w : Fin n, (if t + w.val < n then F (t + w.val) else 0) = ∑ s : Fin n, if t ≤ s.val then F s.val else 0 := by
  rw [Fin.sum_univ_eq_sum_range (fun w => if t + w < n then F (t + w) else 0),
    Fin.sum_univ_eq_sum_range (fun s => if t ≤ s then F s else 0), ← Finset.sum_filter, ← Finset.sum_filter]
  refine Finset.sum_nbij' (fun w => t + w) (fun s => s - t) ?_ ?_ ?_ ?_ fun _ _ => rfl
  all_goals
    intro a ha
    simp only [Finset.mem_filter, Finset.mem_range] at ha ⊢
    omega

theorem idx4 {a b c d : ℕ} (j : (⟨4, ![a, b, c, d]⟩ : Shape).Idx) : ∃ z t i e, j = ix4 z t i e := ⟨j 0, j 1, j 2, j 3, by
    funext a
    match a with
    | ⟨0, _⟩ => rfl
    | ⟨1, _⟩ => rfl
    | ⟨2, _⟩ => rfl
    | ⟨3, _⟩ => rfl⟩

/-- Running sums from the first token on. -/
theorem win_lo (f : Fin 2048 → Fin 4 → Fin 128 → ℝ)
    (h : (⟨4, ![1, 2048, 4, 128]⟩ : Shape).ReduceWindows ![1, 2048, 1, 1] ![1, 1, 1, 1] ![0, 2047, 0, 0] ![0, 0, 0, 0] ⟨4, ![1, 2048, 4, 128]⟩) :
    Ideal.hostReduceWindowAdd ![1, 2048, 1, 1] ![1, 1, 1, 1] ![0, 2047, 0, 0] ![0, 0, 0, 0] h (gtok f) 0
      = gtok fun t i e => ∑ s : Fin 2048, if s.val ≤ t.val then f s i e else 0 := by
  funext j
  obtain ⟨z, t, i, e, rfl⟩ := idx4 j
  rw [win_at, gtok_at]
  refine Eq.trans (Finset.sum_congr rfl (g := fun w : Fin 2048 => (((if 2047 ≤ t.val + w.val then
    (if hs : t.val + w.val - 2047 < 2048 then f ⟨t.val + w.val - 2047, hs⟩ i e else 0) else 0 : ℝ)) : EReal)) fun w _ => ?_) ?_
  · by_cases h1 : 2047 ≤ t.val + w.val
    · have h2 : t.val + w.val - 2047 < 2048 := by omega
      rw [dif_pos ⟨h1, h2⟩, if_pos h1, dif_pos h2, gtok_at]
    · rw [dif_neg (fun q => h1 q.1), if_neg h1]; rfl
  · rw [sum_up, run_lo (fun s => if hs : s < 2048 then f ⟨s, hs⟩ i e else 0) 2048 2047 t.val rfl t.isLt]
    congr 1

/-- Running sums from the last token back. -/
theorem win_hi (f : Fin 2048 → Fin 4 → Fin 128 → ℝ)
    (h : (⟨4, ![1, 2048, 4, 128]⟩ : Shape).ReduceWindows ![1, 2048, 1, 1] ![1, 1, 1, 1] ![0, 0, 0, 0] ![0, 2047, 0, 0] ⟨4, ![1, 2048, 4, 128]⟩) :
    Ideal.hostReduceWindowAdd ![1, 2048, 1, 1] ![1, 1, 1, 1] ![0, 0, 0, 0] ![0, 2047, 0, 0] h (gtok f) 0
      = gtok fun t i e => ∑ s : Fin 2048, if t.val ≤ s.val then f s i e else 0 := by
  funext j
  obtain ⟨z, t, i, e, rfl⟩ := idx4 j
  rw [win_at, gtok_at]
  refine Eq.trans (Finset.sum_congr rfl (g := fun w : Fin 2048 => (((if t.val + w.val < 2048 then
    (if hs : t.val + w.val < 2048 then f ⟨t.val + w.val, hs⟩ i e else 0) else 0 : ℝ)) : EReal)) fun w _ => ?_) ?_
  · by_cases h2 : t.val + w.val < 2048
    · rw [dif_pos ⟨Nat.zero_le _, h2⟩, if_pos h2, dif_pos h2]; rfl
    · rw [dif_neg (fun q => h2 q.2), if_neg h2]; rfl
  · rw [sum_up, run_hi (fun s => if hs : s < 2048 then f ⟨s, hs⟩ i e else 0) 2048 t.val]
    congr 1

end Cert.Hand.Mix
end
-- ==== Proof.Mix.RefH.lean ====
/- What reading the reference's stages needs besides the operations' own rules: arguments with a leading axis of one,
   means over 512 channels, a sum over two axes, and comparisons of positions as machine words. -/
module

public import proofs.«01_k».proof.Proof.Gen.Reference2Ideal.Read
public import proofs.«01_k».proof.Proof.Ffn.Ref
public import proofs.«01_k».proof.Proof.Mix.Fwd
public import proofs.«01_k».proof.Proof.Mix.Win

@[expose] public section
set_option maxRecDepth 16384

noncomputable section
namespace Cert.Hand.Mix
open Idealize.ShloMosaic Cert.Hand

/-- Where the mixer's shift, scale and gate lie in the modulation. -/
structure Rows (mm : Fin 6144 → ℝ) (p : Par) : Prop where
  sh : p.sh = fun d => mm ⟨d.val, by omega⟩
  sc : p.sc = fun d => mm ⟨1024 + d.val, by omega⟩
  gt : p.gt = fun d => mm ⟨2048 + d.val, by omega⟩

/-- A matrix, and a stack of matrices, with a leading axis of one. -/
def lead {n k : ℕ} (w : Fin n → Fin k → ℝ) : (⟨3, ![1, n, k]⟩ : Shape).Idx → EReal := up3 fun (_ : Fin 1) i j => w i j
def lead4 {a n k : ℕ} (w : Fin a → Fin n → Fin k → ℝ) : (⟨4, ![1, a, n, k]⟩ : Shape).Idx → EReal := up4 fun (_ : Fin 1) s i j => w s i j

theorem lead_at {n k : ℕ} (w : Fin n → Fin k → ℝ) (z : Fin 1) (i : Fin n) (j : Fin k) : lead w (ix3 z i j) = ((w i j : ℝ) : EReal) := rfl
theorem lead4_at {a n k : ℕ} (w : Fin a → Fin n → Fin k → ℝ) (z : Fin 1) (s : Fin a) (i : Fin n) (j : Fin k) :
    lead4 w (ix4 z s i j) = ((w s i j : ℝ) : EReal) := rfl

theorem lit_512 : Ideal.ofBits .f32 0x44000000#32 = ((512 : ℝ) : EReal) := by
  simp [Ideal.ofBits, Ideal.ieee, -EReal.coe_mul]; norm_num

theorem mean5_up (a : ℝ) : Ideal.div (a : EReal) (Ideal.ofBits .f32 0x44000000#32) = ((a / 512 : ℝ) : EReal) := by
  rw [lit_512, div_up (by norm_num)]

theorem ms5_up (a : ℝ) : ((a / 512 : ℝ) : EReal) + Ideal.ofBits .f32 0x358637BD#32 = ((a / 512 + eps : ℝ) : EReal) := by
  rw [lit_eps, add_up]

theorem rsqrt_vs (v : Fin 512 → ℝ) : Ideal.rsqrt (((∑ d, v d * v d) / 512 + eps : ℝ) : EReal) = ((rs5 v : ℝ) : EReal) :=
  rsqrt_up (vs_pos v)

theorem div_vs (v : Fin 512 → ℝ) :
    Ideal.div ((rs5 v : ℝ) : EReal) (((∑ d, v d * v d) / 512 + eps : ℝ) : EReal) = ((rs5 v * rs5 v * rs5 v : ℝ) : EReal) := by
  rw [div_up (vs_pos v).ne', rs5_sq]

theorem div_cnt (i : Fin 4) (t : ℕ) (a : ℝ) : Ideal.div (a : EReal) ((cnt i t : ℝ) : EReal) = ((a / cnt i t : ℝ) : EReal) :=
  div_up (cnt_pos i t).ne' a

/-- The modulation's gradient by its six parts, of which the mixer fills three. -/
def six (p : Par) (x ct : Fin 2048 → Fin 1024 → ℝ) (i : Fin 6) (d : Fin 1024) : ℝ :=
  match i with
  | 0 => ∑ t, p.dhT (p.fwd x ct) t d
  | 1 => ∑ t, p.dhT (p.fwd x ct) t d * p.nrm (x t) d
  | 2 => ∑ t, ct t d * p.fY x t d
  | _ => 0

/-- A sum over the first two of four axes. -/
theorem sum_q01 {a b n k : ℕ} (h : (⟨4, ![a, b, n, k]⟩ : Shape).ReducesTo [0, 1] ⟨2, ![n, k]⟩) (v : (⟨4, ![a, b, n, k]⟩ : Shape).Idx → EReal)
    (init : EReal) (s : Fin n) (c : Fin k) : Ideal.hostReduceAdd h v init (ix2 s c) = init + ∑ i, ∑ j, v (ix4 i j s c) := by
  have key : ∀ i : (⟨4, ![a, b, n, k]⟩ : Shape).Idx, h.drop i = ix2 s c ↔ i = ix4 (i 0) (i 1) s c := by
    intro i
    constructor
    · intro e
      funext x
      match x with
      | ⟨0, _⟩ => rfl
      | ⟨1, _⟩ => rfl
      | ⟨2, _⟩ => exact Fin.ext (congrArg Fin.val (congrFun e 0))
      | ⟨3, _⟩ => exact Fin.ext (congrArg Fin.val (congrFun e 1))
    · intro e
      rw [e]
      funext x
      match x with
      | ⟨0, _⟩ => rfl
      | ⟨1, _⟩ => rfl
  unfold Ideal.hostReduceAdd
  rw [← Fintype.sum_prod_type' (f := fun i j => v (ix4 i j s c))]
  congr 1
  refine Finset.sum_nbij' (fun i => ((i 0, i 1) : Fin a × Fin b)) (fun q => (ix4 q.1 q.2 s c : (⟨4, ![a, b, n, k]⟩ : Shape).Idx))
    (fun _ _ => Finset.mem_univ _) (fun q _ => Finset.mem_filter.mpr ⟨Finset.mem_univ _, (key _).mpr rfl⟩) (fun i hi => ?_) (fun _ _ => rfl) fun i hi => ?_
  · exact ((key i).mp (Finset.mem_filter.mp hi).2).symm
  · exact congrArg v ((key i).mp (Finset.mem_filter.mp hi).2)

/-- Two positions and their offsets as machine words. -/
theorem word_eq (s t k : ℕ) (hs : s < 2048) (ht : t < 2048) (hk : k < 31) :
    BitVec.ofNat 32 s + 30#32 = BitVec.ofNat 32 t + BitVec.ofNat 32 k ↔ s + 30 = t + k := by
  constructor
  · intro h
    have := congrArg BitVec.toNat h
    simp only [BitVec.toNat_add, BitVec.toNat_ofNat] at this
    omega
  · intro h
    apply BitVec.eq_of_toNat_eq
    simp only [BitVec.toNat_add, BitVec.toNat_ofNat]
    omega

/-- A term of the convolution: what stands where the positions match, and zero elsewhere. -/
theorem tap_sel (s t : Fin 2048) (k : Fin 31) (a b : ℝ) :
    Scalar.select (IntOp.cmpi CmpIPredicate.eq (IntOp.addi (BitVec.ofNat 32 s.val) 30#32) (IntOp.addi (BitVec.ofNat 32 t.val) (BitVec.ofNat 32 k.val)))
      (a : EReal) (b : EReal) = ((if s.val + 30 = t.val + k.val then a else b : ℝ) : EReal) := by
  have h := word_eq s.val t.val k.val s.isLt t.isLt k.isLt
  unfold Scalar.select IntOp.cmpi IntOp.addi
  by_cases e : s.val + 30 = t.val + k.val
  · rw [h.mpr e, if_pos e, if_pos (by simp)]
  · rw [if_neg e, if_neg]
    show ¬BitVec.ofBool (_ == _) = 1#1
    rw [beq_eq_false_iff_ne.mpr fun q => e (h.mp q)]
    exact by decide

/-- How many tokens a window of `n` holds, counted in machine words. -/
theorem cnt_words (n : ℕ) (hn : n < 1024) (i : Fin 4) (hw : wid i = n) (t : Fin 2048) :
    FloatOps.sitofp (F := Ideal) FTy.f32 (IntOp.minsi (IntOp.addi (BitVec.ofNat 32 t.val) 1#32) (BitVec.ofNat 32 n)) = ((cnt i t.val : ℝ) : EReal) := by
  have ht := t.isLt
  have e : (IntOp.minsi (IntOp.addi (BitVec.ofNat 32 t.val) 1#32) (BitVec.ofNat 32 n)).toInt = ((min (t.val + 1) n : ℕ) : ℤ) := by
    have h1 : (IntOp.addi (BitVec.ofNat 32 t.val) 1#32).toInt = ((t.val + 1 : ℕ) : ℤ) := by
      unfold IntOp.addi
      rw [BitVec.toInt_eq_toNat_of_lt (by simp only [BitVec.toNat_add, BitVec.toNat_ofNat]; omega)]
      simp only [BitVec.toNat_add, BitVec.toNat_ofNat]
      omega
    have h2 : (BitVec.ofNat 32 n).toInt = (n : ℤ) := by
      rw [BitVec.toInt_eq_toNat_of_lt (by simp only [BitVec.toNat_ofNat]; omega)]
      simp only [BitVec.toNat_ofNat]
      omega
    unfold IntOp.minsi
    split
    · rename_i h
      rw [BitVec.slt_iff_toInt_lt, h1, h2] at h
      rw [h1]
      omega
    · rename_i h
      rw [BitVec.slt_iff_toInt_lt, h1, h2] at h
      rw [h2]
      omega
  show (((IntOp.minsi (IntOp.addi (BitVec.ofNat 32 t.val) 1#32) (BitVec.ofNat 32 n)).toInt : ℝ) : EReal) = _
  rw [e]
  unfold cnt
  rw [hw]
  norm_cast

theorem runb_up (w : ℕ) (u : Fin 2048 → Fin 1536 → ℝ) (t : Fin 2048) (i : Fin 4) (e : Fin 128) (pf : ¬t.val < w → t.val - w < 2048) :
    (if h : t.val < w then ((0 : ℝ) : EReal) else ((run u ⟨t.val - w, pf h⟩ i e : ℝ) : EReal)) = ((runb w u t i e : ℝ) : EReal) := by
  unfold runb
  split <;> rfl

theorem ycat_sum (p : Par) (x : Fin 2048 → Fin 1024 → ℝ) (t : Fin 2048) (d : Fin 1024) :
    (∑ i : Fin 512, p.yc x t i * p.wo ⟨i.val, by omega⟩ d) + ∑ i : Fin 512, p.yp x t i * p.wo ⟨512 + i.val, by omega⟩ d = p.fY x t d := by
  refine ((Fin.sum_univ_add (a := 512) (b := 512) fun q : Fin (512 + 512) => p.ycat x t q * p.wo q d).trans ?_).symm
  refine congrArg₂ (· + ·) (Finset.sum_congr rfl fun q _ => ?_) (Finset.sum_congr rfl fun q _ => ?_)
  · unfold Par.ycat
    rw [dif_pos (show (Fin.castAdd 512 q).val < 512 from q.isLt)]
    rfl
  · unfold Par.ycat
    rw [dif_neg (show ¬(Fin.natAdd 512 q).val < 512 by simp)]
    refine congrArg₂ (· * ·) (congrArg (p.yp x t) (Fin.ext ?_)) rfl
    simp

/-- The pooling's gradient over the window's count, at every token. -/
def EC (p : Par) (ct : Fin 2048 → Fin 1024 → ℝ) : ℕ → Fin 512 → ℝ := ext fun t => p.dq (ct t) t.val

theorem ec_at (p : Par) (ct : Fin 2048 → Fin 1024 → ℝ) (t : Fin 2048) (i : Fin 4) (e : Fin 128) :
    p.dpg (ct t) i e / cnt i t.val = EC p ct t.val (grp i e) := by
  unfold EC
  rw [ext_at]
  unfold Par.dq
  rw [gof_grp, rof_grp]

theorem ec_up (p : Par) (ct : Fin 2048 → Fin 1024 → ℝ) (w n : ℕ) (hn : n + w = 2048) (t : Fin 2048) (i : Fin 4) (e : Fin 128)
    (pf : t.val < n → w + t.val < 2048) :
    (if h : t.val < n then ((-(p.dpg (ct ⟨w + t.val, pf h⟩) i e / cnt i (w + t.val)) : ℝ) : EReal) else ((0 : ℝ) : EReal))
      = ((-(EC p ct (t.val + w) (grp i e)) : ℝ) : EReal) := by
  by_cases h : t.val < n
  · rw [dif_pos h, ec_at p ct ⟨w + t.val, pf h⟩ i e]
    exact congrArg (fun n => ((-(EC p ct n (grp i e)) : ℝ) : EReal)) (Nat.add_comm w t.val)
  · rw [dif_neg h]
    unfold EC
    rw [ext_past _ _ (by omega), neg_zero]

theorem win_lo_of (f : Fin 2048 → Fin 4 → Fin 128 → ℝ) (z : EReal) (hz : z = 0)
    (h : (⟨4, ![1, 2048, 4, 128]⟩ : Shape).ReduceWindows ![1, 2048, 1, 1] ![1, 1, 1, 1] ![0, 2047, 0, 0] ![0, 0, 0, 0] ⟨4, ![1, 2048, 4, 128]⟩) :
    Ideal.hostReduceWindowAdd ![1, 2048, 1, 1] ![1, 1, 1, 1] ![0, 2047, 0, 0] ![0, 0, 0, 0] h (gtok f) z
      = gtok fun t i e => ∑ s : Fin 2048, if s.val ≤ t.val then f s i e else 0 := by
  rw [hz]
  exact win_lo f h

theorem win_hi_of (f : Fin 2048 → Fin 4 → Fin 128 → ℝ) (z : EReal) (hz : z = 0)
    (h : (⟨4, ![1, 2048, 4, 128]⟩ : Shape).ReduceWindows ![1, 2048, 1, 1] ![1, 1, 1, 1] ![0, 0, 0, 0] ![0, 2047, 0, 0] ⟨4, ![1, 2048, 4, 128]⟩) :
    Ideal.hostReduceWindowAdd ![1, 2048, 1, 1] ![1, 1, 1, 1] ![0, 0, 0, 0] ![0, 2047, 0, 0] h (gtok f) z
      = gtok fun t i e => ∑ s : Fin 2048, if t.val ≤ s.val then f s i e else 0 := by
  rw [hz]
  exact win_hi f h

end Cert.Hand.Mix
end
-- ==== Proof.Mix.RefA.lean ====
/- The reference's values one after the other, read at arguments that hold real numbers: the matching function
   of the tokens. -/
module

public import proofs.«01_k».proof.Proof.Mix.RefH

@[expose] public section
set_option maxRecDepth 16384

noncomputable section
namespace Cert.Hand.Mix
open Idealize.ShloMosaic Cert.Hand Cert.Reference2Ideal Cert.Reference2Ideal.Gen Cert.Reference2Ideal.Read
open Cert.Hand.Ffn (xh rmsb rmsb_eq rsqrt_ms div_ms lgs_up1 ms_up)

variable (p : Par) (x ct : Fin 2048 → Fin 1024 → ℝ) (mm : Fin 6144 → ℝ)

theorem r8 (H : Rows mm p) : val_main_v8 (F := Ideal) (row1 mm) = prm p.sh := by
  funext i
  idx_vars i
  pointwise [val_main_v8, val_main_v2]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rw [H.sh]

theorem r9 (H : Rows mm p) : val_main_v9 (F := Ideal) (row1 mm) = prm p.sc := by
  funext i
  idx_vars i
  pointwise [val_main_v9, val_main_v3]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rw [H.sc]

theorem r10 (H : Rows mm p) : val_main_v10 (F := Ideal) (row1 mm) = prm p.gt := by
  funext i
  idx_vars i
  pointwise [val_main_v10, val_main_v4]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rw [H.gt]

theorem r25 : val_main_v25 (F := Ideal) (row1 p.g) = prm p.g := by
  funext i
  idx_vars i
  pointwise [val_main_v25, val_main_v11]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r18 : val_main_v18 (F := Ideal) (tok x) = col fun t => (∑ d, x t d * x t d) / 1024 + eps := by
  funext i
  idx_vars i
  pointwise [val_main_v18, val_main_v17, val_main_cst_3, val_main_v16, val_main_v15, val_main_cst_2, val_main_v14, val_main_v13, val_main_cst_1, val_main_v12]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r19 : val_main_v19 (F := Ideal) (tok x) = col fun t => rs (x t) := by
  unfold val_main_v19
  rw [r18]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r22 : val_main_v22 (F := Ideal) (tok x) = col fun t => -(1 / 2) * (rs (x t) * rs (x t) * rs (x t)) := by
  unfold val_main_v22 val_main_v21 val_main_cst_4 val_main_v20
  rw [r18, r19]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r24 : val_main_v24 (F := Ideal) (tok x) = tok fun t => xh (x t) := by
  unfold val_main_v24 val_main_v23
  rw [r19]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r27 : val_main_v27 (F := Ideal) (tok x) (row1 p.g) = tok fun t => p.nrm (x t) := by
  unfold val_main_v27 val_main_v26
  rw [r24, r25]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r29 (H : Rows mm p) : val_main_v29 (F := Ideal) (row1 mm) = prm fun d => 1 + p.sc d := by
  unfold val_main_v29 val_main_v28 val_main_cst_5
  rw [r9 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r33 (H : Rows mm p) : val_main_v33 (F := Ideal) (tok x) (row1 mm) (row1 p.g) = tok fun t => p.h (x t) := by
  unfold val_main_v33 val_main_v32 val_main_v31 val_main_v30
  rw [r27, r29 (H := H), r8 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r35 (H : Rows mm p) : val_main_v35 (F := Ideal) (tok x) (row1 mm) (row1 p.g) (lead p.win) = tok (p.fU x) := by
  unfold val_main_v35 val_main_v34
  rw [r33 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r36 (H : Rows mm p) : val_main_v36 (F := Ideal) (tok x) (row1 mm) (row1 p.g) (lead p.win) = tok (p.fU x) := by
  unfold val_main_v36 val_main_v0 val_main_cst
  rw [r35 (H := H)]
  funext i
  idx_vars i
  pointwise [sum_d01, sum_d02]

theorem r43 (H : Rows mm p) : val_main_v43 (F := Ideal) (tok x) (row1 mm) (row1 p.g) (lead p.win) = tok fun t => ua (p.fU x t) := by
  unfold val_main_v43 val_main_v37
  rw [r36 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r44 (H : Rows mm p) : val_main_v44 (F := Ideal) (tok x) (row1 mm) (row1 p.g) (lead p.win) = tok fun t => ug (p.fU x t) := by
  unfold val_main_v44 val_main_v37
  rw [r36 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r50 (H : Rows mm p) : val_main_v50 (F := Ideal) (tok x) (row1 mm) (row1 p.g) (lead p.win) = tok fun t => sgg (p.fU x t) := by
  unfold val_main_v50 val_main_v49 val_main_cst_7 val_main_v48 val_main_v47 val_main_cst_6 val_main_v46 val_main_v45
  rw [r44 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r53 (H : Rows mm p) : val_main_v53 (F := Ideal) (tok x) (row1 mm) (row1 p.g) (lead p.win) = tok fun t c => sgg (p.fU x t) c * (1 - sgg (p.fU x t) c) := by
  unfold val_main_v53 val_main_v52 val_main_v51 val_main_cst_8
  rw [r50 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r54 (H : Rows mm p) : val_main_v54 (F := Ideal) (tok x) (row1 mm) (row1 p.g) (lead p.win) = tok fun t => glu (p.fU x t) := by
  unfold val_main_v54
  rw [r43 (H := H), r50 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r65 (H : Rows mm p) : val_main_v65 (F := Ideal) (tok x) (row1 mm) (row1 p.g) (lead p.win) = up3 (taps (p.fU x)) := by
  unfold val_main_v65 val_main_cst_10 val_main_v64_0 val_main_call0_v2 val_main_call0_v1 val_main_call0_v0 val_main_cst_9 val_main_v63 val_main_v62 val_main_v61 val_main_v60 val_main_v59 val_main_v58 val_main_c val_main_v57 val_main_v56 val_main_v55
  rw [r54 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs, tap_sel, show ∀ j, id (constant (F := Ideal) S_ FTy.f32 0#32) j = ((0 : ℝ) : EReal) from fun j => (show Ideal.ofBits FTy.f32 0#32 = _ from Ideal.ofBits_zero FTy.f32)]
  rfl

theorem r69 (H : Rows mm p) : val_main_v69 (F := Ideal) (tok x) (row1 mm) (row1 p.g) (lead p.win) (lead p.dw) = up2 fun t c => ∑ k, taps (p.fU x) k t c * p.dw k c := by
  unfold val_main_v69 val_main_cst_11 val_main_v68 val_main_v67 val_main_v66 val_main_v38
  rw [r65 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r73 (H : Rows mm p) : val_main_v73 (F := Ideal) (tok x) (row1 mm) (row1 p.g) (lead p.win) (lead p.dw) (row1 p.db) = tok (p.fC x) := by
  unfold val_main_v73 val_main_v72 val_main_v71 val_main_v70 val_main_v39
  rw [r69 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r77 (H : Rows mm p) : val_main_v77 (F := Ideal) (tok x) (row1 mm) (row1 p.g) (lead p.win) (lead p.dw) (row1 p.db) = col fun t => mu (p.fC x t) := by
  unfold val_main_v77 val_main_v76 val_main_cst_13 val_main_v75 val_main_v74 val_main_cst_12
  rw [r73 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r79 (H : Rows mm p) : val_main_v79 (F := Ideal) (tok x) (row1 mm) (row1 p.g) (lead p.win) (lead p.dw) (row1 p.db) = tok (p.fQ x) := by
  unfold val_main_v79 val_main_v78
  rw [r73 (H := H), r77 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up]
  rfl

theorem r88 (H : Rows mm p) : val_main_v88 (F := Ideal) (tok x) (row1 mm) (row1 p.g) (lead p.win) (lead p.dw) (row1 p.db) = tok (p.fQ x) := by
  unfold val_main_v88 val_main_v87
  rw [r73 (H := H), r77 (H := H)]
  funext i
  idx_vars i
  pointwise [sum_d01, sum_d02]
  simp only [tok_at, col_at, sub_up]
  rfl

theorem r82 (H : Rows mm p) : val_main_v82 (F := Ideal) (tok x) (row1 mm) (row1 p.g) (lead p.win) (lead p.dw) (row1 p.db) = tok fun t c => 2 * p.fQ x t c := by
  unfold val_main_v82 val_main_v81 val_main_cst_14
  rw [r79 (H := H)]
  funext i
  idx_vars i
  pointwise [sum_d01, sum_d02]
  simp only [tok_at, lit_two, mul_up]

theorem r90 (H : Rows mm p) : val_main_v90 (F := Ideal) (tok x) (row1 mm) (row1 p.g) (lead p.win) (lead p.dw) (row1 p.db) = col fun t => (∑ c, p.fQ x t c * p.fQ x t c) / 512 + eps := by
  unfold val_main_v90 val_main_v89 val_main_cst_17 val_main_v86 val_main_v85 val_main_cst_16 val_main_v84 val_main_v83 val_main_cst_15 val_main_v80
  rw [r79 (H := H)]
  funext i
  idx_vars i
  pointwise [sum_d01, sum_d02]
  simp only [tok_at, col_at, mul_up, sum_up, mean5_up, ms5_up]

theorem r91 (H : Rows mm p) : val_main_v91 (F := Ideal) (tok x) (row1 mm) (row1 p.g) (lead p.win) (lead p.dw) (row1 p.db) = col (p.fR x) := by
  unfold val_main_v91
  rw [r90 (H := H)]
  funext i
  idx_vars i
  pointwise [sum_d01, sum_d02]
  simp only [col_at, rsqrt_vs]
  rfl

theorem r94 (H : Rows mm p) : val_main_v94 (F := Ideal) (tok x) (row1 mm) (row1 p.g) (lead p.win) (lead p.dw) (row1 p.db) = col fun t => -(1 / 2) * (p.fR x t * p.fR x t * p.fR x t) := by
  unfold val_main_v94 val_main_v93 val_main_cst_18 val_main_v92
  rw [r90 (H := H), r91 (H := H)]
  funext i
  idx_vars i
  pointwise [sum_d01, sum_d02]
  simp only [col_at, lit_neg_half, mul_up, div_vs, show ∀ t, p.fR x t = rs5 (p.fQ x t) from fun _ => rfl]

theorem r96 (H : Rows mm p) : val_main_v96 (F := Ideal) (tok x) (row1 mm) (row1 p.g) (lead p.win) (lead p.dw) (row1 p.db) = tok (p.fZ x) := by
  unfold val_main_v96 val_main_v95
  rw [r88 (H := H), r91 (H := H)]
  funext i
  idx_vars i
  pointwise [sum_d01, sum_d02]
  simp only [tok_at, col_at, mul_up]
  rfl

theorem r102 (H : Rows mm p) : val_main_v102 (F := Ideal) (tok x) (row1 mm) (row1 p.g) (lead p.win) (lead p.dw) (row1 p.db) (row1 p.lg) (row1 p.lb) = tok fun t => p.ln (p.fZ x t) := by
  unfold val_main_v102 val_main_v101 val_main_v100 val_main_v99 val_main_v98 val_main_v97 val_main_v41 val_main_v40
  rw [r96 (H := H)]
  funext i
  idx_vars i
  pointwise [sum_d01, sum_d02]
  simp only [tok_at, row1_at, mul_up, add_up]
  rfl

theorem r103_2 (H : Rows mm p) : val_main_v103_2 (F := Ideal) (tok x) (row1 mm) (row1 p.g) (lead p.win) (lead p.dw) (row1 p.db) (row1 p.lg) (row1 p.lb) = tok fun t => p.sg (p.fZ x t) := by
  unfold val_main_v103_2 val_main_call1_v4 val_main_call1_cst_0 val_main_call1_v3 val_main_call1_v2 val_main_call1_cst val_main_call1_v1 val_main_call1_v0
  rw [r102 (H := H)]
  funext i
  idx_vars i
  pointwise [sum_d01, sum_d02]
  simp only [tok_at, one_up, neg_up, add_up, exp_up, lgs_up1]
  rfl

theorem r103_1 (H : Rows mm p) : val_main_v103_1 (F := Ideal) (tok x) (row1 mm) (row1 p.g) (lead p.win) (lead p.dw) (row1 p.db) (row1 p.lg) (row1 p.lb) = tok fun t c => p.sg (p.fZ x t) c * (1 - p.sg (p.fZ x t) c) := by
  unfold val_main_v103_1 val_main_call1_v7 val_main_call1_v6 val_main_call1_cst_1
  rw [r103_2 (H := H)]
  funext i
  idx_vars i
  pointwise [sum_d01, sum_d02]
  simp only [tok_at, one_up, sub_up, mul_up]

theorem r103_0 (H : Rows mm p) : val_main_v103_0 (F := Ideal) (tok x) (row1 mm) (row1 p.g) (lead p.win) (lead p.dw) (row1 p.db) (row1 p.lg) (row1 p.lb) = tok fun t => p.sw (p.fZ x t) := by
  unfold val_main_v103_0
  rw [r102 (H := H), r103_2 (H := H)]
  funext i
  idx_vars i
  pointwise [sum_d01, sum_d02]
  simp only [tok_at, mul_up]
  rfl

theorem r104 (H : Rows mm p) : val_main_v104 (F := Ideal) (tok x) (row1 mm) (row1 p.g) (lead p.win) (lead p.dw) (row1 p.db) (row1 p.lg) (row1 p.lb) (lead p.pw) = tok (p.yc x) := by
  unfold val_main_v104 val_main_v42
  rw [r103_0 (H := H)]
  funext i
  idx_vars i
  pointwise [sum_d01, sum_d02]
  simp only [tok_at, lead_at, mul_up, sum_up]
  rfl

theorem r108 (H : Rows mm p) : val_main_v108 (F := Ideal) (tok x) (row1 mm) (row1 p.g) (lead p.win) = gtok fun t i e => uv (p.fU x t) (grp i e) := by
  unfold val_main_v108 val_main_v105
  rw [r36 (H := H)]
  funext i
  idx_vars i
  pointwise [sum_d01, sum_d02]
  simp only [tok_at, gtok_at]
  exact congrArg (fun z : ℝ => (z : EReal)) (congrArg (p.fU x i1) (Fin.ext rfl))

theorem r109 (H : Rows mm p) : val_main_v109 (F := Ideal) (tok x) (row1 mm) (row1 p.g) (lead p.win) = gtok (run (p.fU x)) := by
  unfold val_main_v109 Host.reduceWindowAdd
  rw [r108 (H := H)]
  refine (win_lo_of _ _ ?_ _).trans rfl
  pointwise [val_main_call2_call0_v0, val_main_call2_call0_cst]

theorem r123 : val_main_v123 (F := Ideal)  = col fun t => cnt 0 t.val := by
  funext i
  idx_vars i
  pointwise [val_main_v123, val_main_v121, val_main_v120, val_main_v119, val_main_c_22, val_main_v118, val_main_v117, val_main_c_21, val_main_v110]
  simp only [col_at]
  exact cnt_words 2 (by omega) 0 rfl i1

theorem r138 : val_main_v138 (F := Ideal)  = col fun t => cnt 1 t.val := by
  funext i
  idx_vars i
  pointwise [val_main_v138, val_main_v136, val_main_v135, val_main_v134, val_main_c_26, val_main_v133, val_main_v132, val_main_c_25, val_main_v110]
  simp only [col_at]
  exact cnt_words 4 (by omega) 1 rfl i1

theorem r153 : val_main_v153 (F := Ideal)  = col fun t => cnt 2 t.val := by
  funext i
  idx_vars i
  pointwise [val_main_v153, val_main_v151, val_main_v150, val_main_v149, val_main_c_30, val_main_v148, val_main_v147, val_main_c_29, val_main_v110]
  simp only [col_at]
  exact cnt_words 8 (by omega) 2 rfl i1

theorem r168 : val_main_v168 (F := Ideal)  = col fun t => cnt 3 t.val := by
  funext i
  idx_vars i
  pointwise [val_main_v168, val_main_v166, val_main_v165, val_main_v164, val_main_c_34, val_main_v163, val_main_v162, val_main_c_33, val_main_v110]
  simp only [col_at]
  exact cnt_words 16 (by omega) 3 rfl i1

theorem r125 (H : Rows mm p) : val_main_v125 (F := Ideal) (tok x) (row1 mm) (row1 p.g) (lead p.win) = tok fun t e => tmean (p.fU x) 0 t e := by
  unfold val_main_v125 val_main_v124 val_main_v122 val_main_v115 val_main_v114 val_main_v113 val_main_cst_19 val_main_v112 val_main_v111
  rw [r109 (H := H), r123]
  funext i
  idx_vars i
  pointwise [sum_d01, sum_d02]
  simp only [tok_at, col_at, gtok_at, zero_up]
  rw [runb_up 2, sub_up, div_cnt]
  rfl

theorem r140 (H : Rows mm p) : val_main_v140 (F := Ideal) (tok x) (row1 mm) (row1 p.g) (lead p.win) = tok fun t e => tmean (p.fU x) 1 t e := by
  unfold val_main_v140 val_main_v139 val_main_v137 val_main_v130 val_main_v129 val_main_v128 val_main_cst_23 val_main_v127 val_main_v126
  rw [r109 (H := H), r138]
  funext i
  idx_vars i
  pointwise [sum_d01, sum_d02]
  simp only [tok_at, col_at, gtok_at, zero_up]
  rw [runb_up 4, sub_up, div_cnt]
  rfl

theorem r155 (H : Rows mm p) : val_main_v155 (F := Ideal) (tok x) (row1 mm) (row1 p.g) (lead p.win) = tok fun t e => tmean (p.fU x) 2 t e := by
  unfold val_main_v155 val_main_v154 val_main_v152 val_main_v145 val_main_v144 val_main_v143 val_main_cst_27 val_main_v142 val_main_v141
  rw [r109 (H := H), r153]
  funext i
  idx_vars i
  pointwise [sum_d01, sum_d02]
  simp only [tok_at, col_at, gtok_at, zero_up]
  rw [runb_up 8, sub_up, div_cnt]
  rfl

theorem r170 (H : Rows mm p) : val_main_v170 (F := Ideal) (tok x) (row1 mm) (row1 p.g) (lead p.win) = tok fun t e => tmean (p.fU x) 3 t e := by
  unfold val_main_v170 val_main_v169 val_main_v167 val_main_v160 val_main_v159 val_main_v158 val_main_cst_31 val_main_v157 val_main_v156
  rw [r109 (H := H), r168]
  funext i
  idx_vars i
  pointwise [sum_d01, sum_d02]
  simp only [tok_at, col_at, gtok_at, zero_up]
  rw [runb_up 16, sub_up, div_cnt]
  rfl

theorem r176 (H : Rows mm p) : val_main_v176 (F := Ideal) (tok x) (row1 mm) (row1 p.g) (lead p.win) = gtok (pool (p.fU x)) := by
  unfold val_main_v176 val_main_v175 val_main_v174 val_main_v173 val_main_v172 val_main_v171
  rw [r108 (H := H), r125 (H := H), r140 (H := H), r155 (H := H), r170 (H := H)]
  funext i
  idx_vars i
  pointwise [sum_d01, sum_d02]
  simp only [tok_at, gtok_at]
  fin_cases i2 <;> exact sub_up _ _

theorem r179 (H : Rows mm p) : val_main_v179 (F := Ideal) (tok x) (row1 mm) (row1 p.g) (lead p.win) (lead4 p.wg) = tok fun t => p.ypre (p.fP x t) := by
  unfold val_main_v179 val_main_v178 val_main_v177 val_main_v106
  rw [r176 (H := H)]
  funext i
  idx_vars i
  pointwise [sum_d01, sum_d02]
  simp only [tok_at, lead4_at, gtok_at, mul_up, sum_up]
  unfold Par.ypre Par.ypg
  refine congrArg (fun z : ℝ => (z : EReal)) (Finset.sum_congr rfl fun q _ => ?_)
  unfold Par.fP
  rw [gof_grp, rof_grp, mul_comm]
  rfl

theorem r182 (H : Rows mm p) : val_main_v182 (F := Ideal) (tok x) (row1 mm) (row1 p.g) (lead p.win) (lead4 p.wg) (row1 p.ps) = tok (p.yp x) := by
  unfold val_main_v182 val_main_v181 val_main_v180 val_main_v107
  rw [r179 (H := H)]
  funext i
  idx_vars i
  pointwise [sum_d01, sum_d02]
  simp only [tok_at, row1_at, mul_up]
  rfl

theorem r185 (H : Rows mm p) : val_main_v185 (F := Ideal) (tok x) (row1 mm) (row1 p.g) (lead p.win) (lead p.dw) (row1 p.db) (row1 p.lg) (row1 p.lb) (lead p.pw) (lead4 p.wg) (row1 p.ps) (lead p.wo) = tok (p.fY x) := by
  unfold val_main_v185 val_main_v184 val_main_v183
  rw [r104 (H := H), r182 (H := H)]
  funext i
  idx_vars i
  pointwise [sum_d01, sum_d02]
  simp only [tok_at, lead_at, mul_up, add_up, sum_up]
  exact congrArg (fun z : ℝ => (z : EReal)) (ycat_sum p x _ _)

theorem r186 (H : Rows mm p) : val_main_v186 (F := Ideal) (tok x) (row1 mm) (row1 p.g) (lead p.win) (lead p.dw) (row1 p.db) (row1 p.lg) (row1 p.lb) (lead p.pw) (lead4 p.wg) (row1 p.ps) (lead p.wo) = tok (p.fY x) := by
  unfold val_main_v186 val_main_v1 val_main_cst_0
  rw [r185 (H := H)]
  funext i
  idx_vars i
  pointwise [sum_d01, sum_d02]

end Cert.Hand.Mix
end
-- ==== Proof.Mix.Args.lean ====
/- The arguments as arrays of real numbers, what the forward pass saved as functions of them, and the blocks of a grid
   point read from both. -/
module

public import proofs.«01_k».proof.Proof.Mix.Vec
public import proofs.«01_k».proof.Proof.Mix.Host
public import proofs.«01_k».proof.Proof.Mix.RefA

@[expose] public section
set_option maxRecDepth 16384
set_option maxHeartbeats 1000000

noncomputable section
namespace Cert.Hand.Mix
open Idealize.ShloMosaic Idealize.ShloMosaic.Pipeline Cert.Hand Cert.Kernel2Ideal Cert.Kernel2Ideal.Gen

variable (m : (ℓ : Loc nD τ sig) → Buf (Elt Ideal) ℓ) (c : Dev nD)

/-- The modulation as six rows. -/
def modOf (mm : Fin 6144 → ℝ) : Fin 6 → Fin 1024 → ℝ := fun i d => mm ⟨i.val * 1024 + d.val, by omega⟩

/-- The arguments hold real numbers. -/
structure Args (x ct : Fin 2048 → Fin 1024 → ℝ) (mm : Fin 6144 → ℝ) (p : Par) : Prop where
  a0 : m (c, Proc.tc.devRef main_arg0) = (tok x : S1x2048x1024.Idx → EReal)
  a1 : m (c, Proc.tc.devRef main_arg1) = (tok ct : S1x2048x1024.Idx → EReal)
  a2 : m (c, Proc.tc.devRef main_arg2) = (row1 mm : S1x6144.Idx → EReal)
  a3 : m (c, Proc.tc.devRef main_arg3) = (row1 p.g : S1x1024.Idx → EReal)
  a4 : m (c, Proc.tc.devRef main_arg4) = (lead p.win : S1x1024x1536.Idx → EReal)
  a5 : m (c, Proc.tc.devRef main_arg5) = (lead p.dw : S1x31x512.Idx → EReal)
  a6 : m (c, Proc.tc.devRef main_arg6) = (row1 p.db : S1x512.Idx → EReal)
  a7 : m (c, Proc.tc.devRef main_arg7) = (row1 p.lg : S1x512.Idx → EReal)
  a8 : m (c, Proc.tc.devRef main_arg8) = (row1 p.lb : S1x512.Idx → EReal)
  a9 : m (c, Proc.tc.devRef main_arg9) = (lead p.pw : S1x512x512.Idx → EReal)
  a10 : m (c, Proc.tc.devRef main_arg10) = (lead4 p.wg : S1x4x128x128.Idx → EReal)
  a11 : m (c, Proc.tc.devRef main_arg11) = (row1 p.ps : S1x512.Idx → EReal)
  a12 : m (c, Proc.tc.devRef main_arg12) = (lead p.wo : S1x1024x1024.Idx → EReal)
  rows : Rows mm p

variable {x ct : Fin 2048 → Fin 1024 → ℝ} {mm : Fin 6144 → ℝ} {p : Par}

theorem tile_lt (t : Fin cfg0.N) (r : Fin 256) : (7 - t.val) * 256 + r.val < 2048 := by omega

/-- Token `r` of the tile a grid point works on. -/
def at8 (t : Fin cfg0.N) (r : Fin 256) : Fin 2048 := ⟨(7 - t.val) * 256 + r.val, tile_lt t r⟩

theorem idx_a : ∀ t : Fin cfg0.N, win0_0.index t = ![7 - t.val, 0]
    ∧ win0_1.index t = ![7 - t.val, 0]
    ∧ win0_2.index t = ![7 - t.val, 0]
    ∧ win0_3.index t = ![7 - t.val, 0]
    ∧ win0_4.index t = ![7 - t.val, 0]
    ∧ win0_5.index t = ![7 - t.val, 0]
    ∧ win0_6.index t = ![7 - t.val, 0]
    ∧ win0_7.index t = ![0, 0]
    ∧ win0_8.index t = ![0, 0] :=
  (by decide +kernel : ∀ t : Fin grid0.N, _)

theorem idx_b : ∀ t : Fin cfg0.N, win0_9.index t = ![0, 0, 0]
    ∧ win0_10.index t = ![0, 0]
    ∧ win0_11.index t = ![0, 0]
    ∧ win0_12.index t = ![0, 0]
    ∧ win0_13.index t = ![0, 0]
    ∧ win0_14.index t = ![0, 0, 0]
    ∧ win0_15.index t = ![0, 0]
    ∧ win0_16.index t = ![0, 0] :=
  (by decide +kernel : ∀ t : Fin grid0.N, _)

theorem idx_c : ∀ t : Fin cfg0.N, win0_17.index t = ![7 - t.val, 0]
    ∧ win0_18.index t = ![7 - t.val, 0]
    ∧ win0_19.index t = ![7 - t.val, 0]
    ∧ win0_20.index t = ![7 - t.val, 0]
    ∧ win0_21.index t = ![0, 0]
    ∧ win0_22.index t = ![0, 0, 0]
    ∧ win0_23.index t = ![0, 0]
    ∧ win0_24.index t = ![0, 0]
    ∧ win0_25.index t = ![0, 0] :=
  (by decide +kernel : ∀ t : Fin grid0.N, _)

theorem idx (t : Fin cfg0.N) : (win0_0.index t = ![7 - t.val, 0] ∧ win0_1.index t = ![7 - t.val, 0] ∧ win0_2.index t = ![7 - t.val, 0] ∧ win0_3.index t = ![7 - t.val, 0] ∧ win0_4.index t = ![7 - t.val, 0] ∧ win0_5.index t = ![7 - t.val, 0] ∧ win0_6.index t = ![7 - t.val, 0] ∧ win0_7.index t = ![0, 0] ∧ win0_8.index t = ![0, 0])
    ∧ (win0_9.index t = ![0, 0, 0] ∧ win0_10.index t = ![0, 0] ∧ win0_11.index t = ![0, 0] ∧ win0_12.index t = ![0, 0] ∧ win0_13.index t = ![0, 0] ∧ win0_14.index t = ![0, 0, 0] ∧ win0_15.index t = ![0, 0] ∧ win0_16.index t = ![0, 0])
    ∧ (win0_17.index t = ![7 - t.val, 0] ∧ win0_18.index t = ![7 - t.val, 0] ∧ win0_19.index t = ![7 - t.val, 0] ∧ win0_20.index t = ![7 - t.val, 0] ∧ win0_21.index t = ![0, 0] ∧ win0_22.index t = ![0, 0, 0] ∧ win0_23.index t = ![0, 0] ∧ win0_24.index t = ![0, 0] ∧ win0_25.index t = ![0, 0]) :=
  ⟨idx_a t, idx_b t, idx_c t⟩

theorem sU (A : Args m c x ct mm p) : V m c main_v30 = (tok (p.fU x) : S1x2048x1536.Idx → EReal) := by
  rw [kU, A.a0, A.a2, A.a3, A.a4]
  exact (Host.hU_ref _ _ _ _).symm.trans (r35 _ _ _ A.rows)

theorem sC (A : Args m c x ct mm p) : V m c main_v60 = (tok (p.fC x) : S1x2048x512.Idx → EReal) := by
  rw [kC, sU m c A, A.a5, A.a6]
  rw [← r36 _ _ _ A.rows]
  exact (Host.hC_ref _ _ _ _ _ _).symm.trans (r73 _ _ _ A.rows)

theorem sR (A : Args m c x ct mm p) : V m c main_v74 = (col (p.fR x) : S1x2048x1.Idx → EReal) := by
  rw [kR, sC m c A]
  rw [← r73 _ _ _ A.rows]
  exact (Host.hR_ref _ _ _ _ _ _).symm.trans (r91 _ _ _ A.rows)

theorem sZ (A : Args m c x ct mm p) : V m c main_v78 = (tok (p.fZ x) : S1x2048x512.Idx → EReal) := by
  rw [kZ, sC m c A, sR m c A]
  rw [← r73 _ _ _ A.rows, ← r91 _ _ _ A.rows]
  exact (Host.hZ_ref _ _ _ _ _ _).symm.trans (r96 _ _ _ A.rows)

theorem sV (A : Args m c x ct mm p) : V m c main_v89 = (gtok fun t i e => uv (p.fU x t) (grp i e) : S1x2048x4x128.Idx → EReal) := by
  rw [kV, sU m c A]
  rw [← r36 _ _ _ A.rows]
  exact (Host.hV_ref _ _ _ _).symm.trans (r108 _ _ _ A.rows)

theorem sS (A : Args m c x ct mm p) : V m c main_v90 = (gtok (run (p.fU x)) : S1x2048x4x128.Idx → EReal) := by
  rw [kS, sV m c A]
  rw [← r108 _ _ _ A.rows]
  exact (Host.hS_ref _ _ _ _).symm.trans (r109 _ _ _ A.rows)

theorem sM0 (A : Args m c x ct mm p) : V m c main_v105 = (tok fun t e => tmean (p.fU x) 0 t e : S1x2048x128.Idx → EReal) := by
  rw [kM0, sS m c A]
  rw [← r109 _ _ _ A.rows]
  exact (Host.hM0_ref _ _ _ _).symm.trans (r125 _ _ _ A.rows)

theorem sM1 (A : Args m c x ct mm p) : V m c main_v119 = (tok fun t e => tmean (p.fU x) 1 t e : S1x2048x128.Idx → EReal) := by
  rw [kM1, sS m c A]
  rw [← r109 _ _ _ A.rows]
  exact (Host.hM1_ref _ _ _ _).symm.trans (r140 _ _ _ A.rows)

theorem sM2 (A : Args m c x ct mm p) : V m c main_v133 = (tok fun t e => tmean (p.fU x) 2 t e : S1x2048x128.Idx → EReal) := by
  rw [kM2, sS m c A]
  rw [← r109 _ _ _ A.rows]
  exact (Host.hM2_ref _ _ _ _).symm.trans (r155 _ _ _ A.rows)

theorem sM3 (A : Args m c x ct mm p) : V m c main_v147 = (tok fun t e => tmean (p.fU x) 3 t e : S1x2048x128.Idx → EReal) := by
  rw [kM3, sS m c A]
  rw [← r109 _ _ _ A.rows]
  exact (Host.hM3_ref _ _ _ _).symm.trans (r170 _ _ _ A.rows)

theorem sP (A : Args m c x ct mm p) : V m c main_v153 = (gtok (pool (p.fU x)) : S1x2048x4x128.Idx → EReal) := by
  rw [kP, sV m c A, sM0 m c A, sM1 m c A, sM2 m c A, sM3 m c A]
  rw [← r108 _ _ _ A.rows, ← r125 _ _ _ A.rows, ← r140 _ _ _ A.rows, ← r155 _ _ _ A.rows, ← r170 _ _ _ A.rows]
  exact (Host.hP_ref _ _ _ _).symm.trans (r176 _ _ _ A.rows)

theorem sW (A : Args m c x ct mm p) : V m c main_v87 = (tok fun t => p.sw (p.fZ x t) : S1x2048x512.Idx → EReal) := by
  rw [kW, sZ m c A, A.a7, A.a8]
  rw [← r96 _ _ _ A.rows]
  exact (Host.hW_ref _ _ _ _ _ _ _ _).symm.trans (r103_0 _ _ _ A.rows)

theorem sY (A : Args m c x ct mm p) : V m c main_v166 = (tok (p.fY x) : S1x2048x1024.Idx → EReal) := by
  rw [kY, sW m c A, sP m c A, A.a9, A.a10, A.a11, A.a12]
  rw [← r103_0 _ _ _ A.rows, ← r176 _ _ _ A.rows]
  exact (Host.hY_ref _ _ _ _ _ _ _ _ _ _ _ _).symm.trans (r185 _ _ _ A.rows)

end Cert.Hand.Mix
end
-- ==== Proof.Mix.Blocks.lean ====
/- The windows as arrays of real numbers, and the blocks of a grid point read from them. -/
module

public import proofs.«01_k».proof.Proof.Mix.Args

@[expose] public section
set_option maxRecDepth 16384
set_option maxHeartbeats 1000000

noncomputable section
namespace Cert.Hand.Mix
open Idealize.ShloMosaic Idealize.ShloMosaic.Pipeline Cert.Hand Cert.Kernel2Ideal Cert.Kernel2Ideal.Gen

variable (m : (ℓ : Loc nD τ sig) → Buf (Elt Ideal) ℓ) (c : Dev nD)

variable {x ct : Fin 2048 → Fin 1024 → ℝ} {mm : Fin 6144 → ℝ} {p : Par}

theorem v179 (A : Args m c x ct mm p) : V m c main_v179 = (up2 ct : S2048x1024.Idx → EReal) := by
  funext i
  idx_vars i
  unfold V
  after_reads_simp
  rw [A.a1]
  pointwise
  rfl

theorem v180 (A : Args m c x ct mm p) : V m c main_v180 = (up2 x : S2048x1024.Idx → EReal) := by
  funext i
  idx_vars i
  unfold V
  after_reads_simp
  rw [A.a0]
  pointwise
  rfl

theorem v187 (A : Args m c x ct mm p) : V m c main_v187 = (up2 (modOf mm) : S6x1024.Idx → EReal) := by
  funext i
  idx_vars i
  unfold V
  after_reads_simp
  rw [A.a2]
  pointwise
  rfl

theorem v170 (A : Args m c x ct mm p) : V m c main_v170 = (up3 fun j d k => p.win d (chip j k) : S4x1024x384.Idx → EReal) := by
  funext i
  idx_vars i
  unfold V
  after_reads_simp
  rw [A.a4]
  pointwise
  rfl

/-- The taps with the row of zeros that fills them up. -/
theorem flat_pad (p : Par) : pad S32x512 ![0, 0] ![1, 0] ![0, 0] (shapeCast S31x512 (lead p.dw : S1x31x512.Idx → EReal) shapeCasts_S1x31x512_S31x512)
    (sitofp (F := Ideal) FTy.f32 (constantI S_ 32 0#32)) pads_S31x512_S32x512_010_000 h_S_ = up2 fun (k : Fin 32) => p.tap k.val := by
  funext i
  idx_vars i
  pointwise
  unfold Par.tap
  by_cases h : i0.val < 31
  · rw [dif_pos h, up2_at, dif_pos h]
    rfl
  · rw [dif_neg h, up2_at, dif_neg h]
    show (((0#32).toInt : ℝ) : EReal) = _
    rw [BitVec.toInt_zero, Int.cast_zero]

theorem v172 (A : Args m c x ct mm p) : V m c main_v172 = (up2 fun (k : Fin 32) => p.tap k.val : S32x512.Idx → EReal) := by
  unfold V
  after_reads_simp
  rw [A.a5]
  exact flat_pad p

theorem v174 (A : Args m c x ct mm p) : V m c main_v174 = (up2 p.pw : S512x512.Idx → EReal) := by
  funext i
  idx_vars i
  unfold V
  after_reads_simp
  rw [A.a9]
  pointwise
  rfl

theorem v176 (A : Args m c x ct mm p) : V m c main_v176 = (up3 p.wg : S4x128x128.Idx → EReal) := by
  funext i
  idx_vars i
  unfold V
  after_reads_simp
  rw [A.a10]
  pointwise
  rfl

theorem v178 (A : Args m c x ct mm p) : V m c main_v178 = (up2 p.wo : S1024x1024.Idx → EReal) := by
  funext i
  idx_vars i
  unfold V
  after_reads_simp
  rw [A.a12]
  pointwise
  rfl

/-- The token axis alone in front. -/
theorem flat_x (f : Fin 2048 → Fin 1024 → ℝ) : shapeCast S2048x1024 (tok f : S1x2048x1024.Idx → EReal) shapeCasts_S1x2048x1024_S2048x1024 = up2 f := by
  funext i
  idx_vars i
  pointwise
  rfl

theorem flat_u (f : Fin 2048 → Fin 1536 → ℝ) : shapeCast S2048x1536 (tok f : S1x2048x1536.Idx → EReal) shapeCasts_S1x2048x1536_S2048x1536 = up2 f := by
  funext i
  idx_vars i
  pointwise
  rfl

theorem flat_z (f : Fin 2048 → Fin 512 → ℝ) : shapeCast S2048x512 (tok f : S1x2048x512.Idx → EReal) shapeCasts_S1x2048x512_S2048x512 = up2 f := by
  funext i
  idx_vars i
  pointwise
  rfl

theorem flat_r (f : Fin 2048 → ℝ) : shapeCast S2048x1 (col f : S1x2048x1.Idx → EReal) shapeCasts_S1x2048x1_S2048x1 = colv f := by
  funext i
  idx_vars i
  pointwise
  rfl

theorem flat_g (f : Fin 2048 → Fin 4 → Fin 128 → ℝ) : truncf (F := Ideal) (φ := .f32) .bf16 (shapeCast S2048x512 (gtok f : S1x2048x4x128.Idx → EReal) shapeCasts_S1x2048x4x128_S2048x512) bitsLt_bf16_f32
    = up2 fun t c => f t (gof c) (rof c) := by
  funext i
  idx_vars i
  pointwise
  rfl

theorem e181 : V m c main_v181 = (shapeCast S2048x1024 (V m c main_v166 : S1x2048x1024.Idx → EReal) shapeCasts_S1x2048x1024_S2048x1024 : S2048x1024.Idx → EReal) := by
  obtain ⟨W, h, h9, h10, h11, h12⟩ := mid2 m c
  simp only [h]
  simp only [List.flatten_cons, List.flatten_nil, List.cons_append, List.nil_append, List.append_nil, List.drop_succ_cons, List.drop_zero]
  after_reads_simp
  rfl

theorem v181 (A : Args m c x ct mm p) : V m c main_v181 = (up2 (p.fY x) : S2048x1024.Idx → EReal) := by
  rw [e181, sY m c A]
  exact flat_x _

theorem e182 : V m c main_v182 = (shapeCast S2048x1536 (V m c main_v30 : S1x2048x1536.Idx → EReal) shapeCasts_S1x2048x1536_S2048x1536 : S2048x1536.Idx → EReal) := by
  obtain ⟨W, h, h9, h10, h11, h12⟩ := mid2 m c
  simp only [h]
  simp only [List.flatten_cons, List.flatten_nil, List.cons_append, List.nil_append, List.append_nil, List.drop_succ_cons, List.drop_zero]
  after_reads_simp
  rfl

theorem v182 (A : Args m c x ct mm p) : V m c main_v182 = (up2 (p.fU x) : S2048x1536.Idx → EReal) := by
  rw [e182, sU m c A]
  exact flat_u _

theorem e183 : V m c main_v183 = (shapeCast S2048x512 (V m c main_v78 : S1x2048x512.Idx → EReal) shapeCasts_S1x2048x512_S2048x512 : S2048x512.Idx → EReal) := by
  obtain ⟨W, h, h9, h10, h11, h12⟩ := mid2 m c
  simp only [h]
  simp only [List.flatten_cons, List.flatten_nil, List.cons_append, List.nil_append, List.append_nil, List.drop_succ_cons, List.drop_zero]
  after_reads_simp
  rfl

theorem v183 (A : Args m c x ct mm p) : V m c main_v183 = (up2 (p.fZ x) : S2048x512.Idx → EReal) := by
  rw [e183, sZ m c A]
  exact flat_z _

theorem e184 : V m c main_v184 = (shapeCast S2048x1 (V m c main_v74 : S1x2048x1.Idx → EReal) shapeCasts_S1x2048x1_S2048x1 : S2048x1.Idx → EReal) := by
  obtain ⟨W, h, h9, h10, h11, h12⟩ := mid2 m c
  simp only [h]
  simp only [List.flatten_cons, List.flatten_nil, List.cons_append, List.nil_append, List.append_nil, List.drop_succ_cons, List.drop_zero]
  after_reads_simp
  rfl

theorem v184 (A : Args m c x ct mm p) : V m c main_v184 = (colv (p.fR x) : S2048x1.Idx → EReal) := by
  rw [e184, sR m c A]
  exact flat_r _

theorem e186 : V m c main_v186 = (truncf (F := Ideal) (φ := .f32) .bf16 (shapeCast S2048x512 (V m c main_v153 : S1x2048x4x128.Idx → EReal) shapeCasts_S1x2048x4x128_S2048x512) bitsLt_bf16_f32 : S2048x512.Idx → EReal) := by
  obtain ⟨W, h, h9, h10, h11, h12⟩ := mid2 m c
  simp only [h]
  simp only [List.flatten_cons, List.flatten_nil, List.cons_append, List.nil_append, List.append_nil, List.drop_succ_cons, List.drop_zero]
  after_reads_simp
  rfl

theorem v186 (A : Args m c x ct mm p) : V m c main_v186 = (up2 (p.fP x) : S2048x512.Idx → EReal) := by
  rw [e186, sP m c A]
  exact flat_g _

theorem w8 (A : Args m c x ct mm p) : V m c main_arg3 = (row1 p.g : S1x1024.Idx → EReal) := A.a3

theorem w11 (A : Args m c x ct mm p) : V m c main_arg7 = (row1 p.lg : S1x512.Idx → EReal) := A.a7

theorem w12 (A : Args m c x ct mm p) : V m c main_arg8 = (row1 p.lb : S1x512.Idx → EReal) := A.a8

theorem w15 (A : Args m c x ct mm p) : V m c main_arg11 = (row1 p.ps : S1x512.Idx → EReal) := A.a11

theorem blk0 (A : Args m c x ct mm p) (t : Fin cfg0.N) : iblk m c 0 t = up2 fun r => ct (at8 t r) := by
  funext i
  idx_vars i
  refine (congrFun (v179 m c A) _).trans ?_
  refine Eq.trans (b := up2 (ct) (ix2 (at8 t i0) i1)) ?_ rfl
  blk_ext [idx t]
  rfl

theorem blk1 (A : Args m c x ct mm p) (t : Fin cfg0.N) : iblk m c 1 t = up2 fun r => x (at8 t r) := by
  funext i
  idx_vars i
  refine (congrFun (v180 m c A) _).trans ?_
  refine Eq.trans (b := up2 (x) (ix2 (at8 t i0) i1)) ?_ rfl
  blk_ext [idx t]
  rfl

theorem blk2 (A : Args m c x ct mm p) (t : Fin cfg0.N) : iblk m c 2 t = up2 fun r => (p.fY x) (at8 t r) := by
  funext i
  idx_vars i
  refine (congrFun (v181 m c A) _).trans ?_
  refine Eq.trans (b := up2 (p.fY x) (ix2 (at8 t i0) i1)) ?_ rfl
  blk_ext [idx t]
  rfl

theorem blk3 (A : Args m c x ct mm p) (t : Fin cfg0.N) : iblk m c 3 t = up2 fun r => (p.fU x) (at8 t r) := by
  funext i
  idx_vars i
  refine (congrFun (v182 m c A) _).trans ?_
  refine Eq.trans (b := up2 (p.fU x) (ix2 (at8 t i0) i1)) ?_ rfl
  blk_ext [idx t]
  rfl

theorem blk4 (A : Args m c x ct mm p) (t : Fin cfg0.N) : iblk m c 4 t = up2 fun r => (p.fZ x) (at8 t r) := by
  funext i
  idx_vars i
  refine (congrFun (v183 m c A) _).trans ?_
  refine Eq.trans (b := up2 (p.fZ x) (ix2 (at8 t i0) i1)) ?_ rfl
  blk_ext [idx t]
  rfl

theorem blk5 (A : Args m c x ct mm p) (t : Fin cfg0.N) : iblk m c 5 t = colv fun r => (p.fR x) (at8 t r) := by
  funext i
  idx_vars i
  refine (congrFun (v184 m c A) _).trans ?_
  refine Eq.trans (b := colv (p.fR x) (ix2 (at8 t i0) i1)) ?_ rfl
  blk_ext [idx t]
  rfl

theorem blk6 (A : Args m c x ct mm p) (t : Fin cfg0.N) : iblk m c 6 t = up2 fun r => (p.fP x) (at8 t r) := by
  funext i
  idx_vars i
  refine (congrFun (v186 m c A) _).trans ?_
  refine Eq.trans (b := up2 (p.fP x) (ix2 (at8 t i0) i1)) ?_ rfl
  blk_ext [idx t]
  rfl

theorem blk7 (A : Args m c x ct mm p) (t : Fin cfg0.N) : iblk m c 7 t = up2 (modOf mm) := by
  funext i
  idx_vars i
  refine (congrFun (v187 m c A) _).trans ?_
  blk_ext [idx t]

theorem blk8 (A : Args m c x ct mm p) (t : Fin cfg0.N) : iblk m c 8 t = row1 p.g := by
  funext i
  idx_vars i
  refine (congrFun (w8 m c A) _).trans ?_
  blk_ext [idx t]

theorem blk9 (A : Args m c x ct mm p) (t : Fin cfg0.N) : iblk m c 9 t = up3 fun j d k => p.win d (chip j k) := by
  funext i
  idx_vars i
  refine (congrFun (v170 m c A) _).trans ?_
  blk_ext [idx t]

theorem blk10 (A : Args m c x ct mm p) (t : Fin cfg0.N) : iblk m c 10 t = up2 fun (k : Fin 32) => p.tap k.val := by
  funext i
  idx_vars i
  refine (congrFun (v172 m c A) _).trans ?_
  blk_ext [idx t]

theorem blk11 (A : Args m c x ct mm p) (t : Fin cfg0.N) : iblk m c 11 t = row1 p.lg := by
  funext i
  idx_vars i
  refine (congrFun (w11 m c A) _).trans ?_
  blk_ext [idx t]

theorem blk12 (A : Args m c x ct mm p) (t : Fin cfg0.N) : iblk m c 12 t = row1 p.lb := by
  funext i
  idx_vars i
  refine (congrFun (w12 m c A) _).trans ?_
  blk_ext [idx t]

theorem blk13 (A : Args m c x ct mm p) (t : Fin cfg0.N) : iblk m c 13 t = up2 p.pw := by
  funext i
  idx_vars i
  refine (congrFun (v174 m c A) _).trans ?_
  blk_ext [idx t]

theorem blk14 (A : Args m c x ct mm p) (t : Fin cfg0.N) : iblk m c 14 t = up3 p.wg := by
  funext i
  idx_vars i
  refine (congrFun (v176 m c A) _).trans ?_
  blk_ext [idx t]

theorem blk15 (A : Args m c x ct mm p) (t : Fin cfg0.N) : iblk m c 15 t = row1 p.ps := by
  funext i
  idx_vars i
  refine (congrFun (w15 m c A) _).trans ?_
  blk_ext [idx t]

theorem blk16 (A : Args m c x ct mm p) (t : Fin cfg0.N) : iblk m c 16 t = up2 p.wo := by
  funext i
  idx_vars i
  refine (congrFun (v178 m c A) _).trans ?_
  blk_ext [idx t]

/-- At every grid point the blocks hold the tokens of that point and the parameters. -/
theorem blks (A : Args m c x ct mm p) (t : Fin cfg0.N) : Blk m c (modOf mm) p (fun r => ct (at8 t r)) (fun r => x (at8 t r)) (fun r => p.fY x (at8 t r))
    (fun r => p.fU x (at8 t r)) (fun r => p.fZ x (at8 t r)) (fun r => p.fP x (at8 t r)) (fun r => p.fR x (at8 t r)) t where
  h0 := by
    rw [A.rows.sh]
    funext d
    exact congrArg mm (Fin.ext (by simp))
  h1 := A.rows.sc.symm
  h2 := A.rows.gt.symm
  b0 := blk0 m c A t
  b1 := blk1 m c A t
  b2 := blk2 m c A t
  b3 := blk3 m c A t
  b4 := blk4 m c A t
  b5 := blk5 m c A t
  b6 := blk6 m c A t
  b7 := blk7 m c A t
  b8 := blk8 m c A t
  b9 := blk9 m c A t
  b10 := blk10 m c A t
  b11 := blk11 m c A t
  b12 := blk12 m c A t
  b13 := blk13 m c A t
  b14 := blk14 m c A t
  b15 := blk15 m c A t
  b16 := blk16 m c A t

end Cert.Hand.Mix
end
-- ==== Proof.Mix.Arrays.lean ====
/- What the output arrays hold after the last grid point. -/
module

public import proofs.«01_k».proof.Proof.Mix.Blocks

@[expose] public section
set_option maxRecDepth 16384
set_option maxHeartbeats 1000000

noncomputable section
namespace Cert.Hand.Mix
open Idealize.ShloMosaic Idealize.ShloMosaic.Pipeline Cert.Hand Cert.Kernel2Ideal Cert.Kernel2Ideal.Gen

/-- A sequence read from tile `b` on. -/
def sh (F : ℕ → Fin 512 → ℝ) (b : ℕ) (n : ℕ) (c : Fin 512) : ℝ := F (b * 256 + n) c

/-- The gradients of the convolution and the divided gradients, from the tile of point `n` on. -/
def Dn (p : Par) (x ct : Fin 2048 → Fin 1024 → ℝ) (n : ℕ) : ℕ → Fin 512 → ℝ := sh (p.D (p.fwd x ct)) (7 - n)
def En (p : Par) (x ct : Fin 2048 → Fin 1024 → ℝ) (n : ℕ) : ℕ → Fin 512 → ℝ := sh (p.E (p.fwd x ct)) (7 - n)

variable (p : Par) (x ct : Fin 2048 → Fin 1024 → ℝ)

theorem Dn_at (t : Fin cfg0.N) (r : Fin 256) (c : Fin 512) :
    p.dcv (ct (at8 t r)) (p.fZ x (at8 t r)) (p.fR x (at8 t r)) c = Dn p x ct t.val (0 + r.val) c := by
  rw [zero_add]
  exact (ext_at (fun t => p.dcv (ct t) (p.fZ x t) (p.fR x t)) (at8 t r) c).symm

theorem En_at (t : Fin cfg0.N) (r : Fin 256) (c : Fin 512) :
    p.dq (ct (at8 t r)) ((7 - t.val) * 256 + r.val) c = En p x ct t.val (0 + r.val) c := by
  rw [zero_add]
  exact (ext_at (fun t => p.dq (ct t) t.val) (at8 t r) c).symm

theorem tile_of (t : Fin cfg0.N) : Tile p (fun r => ct (at8 t r)) (fun r => p.fZ x (at8 t r)) (fun r => p.fR x (at8 t r))
    (Dn p x ct t.val) (En p x ct t.val) t where
  lt := by omega
  hd := congrArg up2 (funext fun r => funext fun c => Dn_at p x ct t r c)
  he0 := congrArg up2 (funext fun r => funext fun e => En_at p x ct t r (grp 0 e))
  he1 := congrArg up2 (funext fun r => funext fun e => En_at p x ct t r (grp 1 e))
  he2 := congrArg up2 (funext fun r => funext fun e => En_at p x ct t r (grp 2 e))
  he3 := congrArg up2 (funext fun r => funext fun e => En_at p x ct t r (grp 3 e))

theorem sh_end (f : Fin 2048 → Fin 512 → ℝ) (n r : ℕ) (hn : n = 0) (hr : 256 ≤ r) (c : Fin 512) : sh (ext f) (7 - n) r c = 0 := by
  subst hn
  exact ext_past f _ (by omega) c

theorem sh_next (F : ℕ → Fin 512 → ℝ) (n r : ℕ) (h0 : n ≠ 0) (h8 : n < 8) (c : Fin 512) : sh F (7 - n) (256 + r) c = sh F (7 - (n - 1)) r c := by
  unfold sh
  exact congrArg (fun k => F k c) (by omega)

theorem zero_of (t : Fin cfg0.N) (h : t.val % 8 = 0) : t.val = 0 := by
  have := lt_of_lt_of_eq t.isLt N_0
  omega

theorem zD_A (t : Fin cfg0.N) (h : t.val % 8 = 0) : ∀ r c, 256 ≤ r → r < 288 → Dn p x ct t.val r c = 0 :=
  fun r c hr _ => sh_end _ _ r (zero_of t h) hr c

theorem zE_A (t : Fin cfg0.N) (h : t.val % 8 = 0) : ∀ r c, 256 ≤ r → r < 272 → En p x ct t.val r c = 0 :=
  fun r c hr _ => sh_end _ _ r (zero_of t h) hr c

theorem zD_B (t : Fin cfg0.N) (h : ¬t.val % 8 = 0) : ∀ r c, r < 32 → Dn p x ct t.val (256 + r) c = Dn p x ct (t.val - 1) r c :=
  fun r c _ => sh_next _ _ r (fun e => h (by rw [e])) (lt_of_lt_of_eq t.isLt N_0) c

theorem zE_B (t : Fin cfg0.N) (h : ¬t.val % 8 = 0) : ∀ r c, r < 16 → En p x ct t.val (256 + r) c = En p x ct (t.val - 1) r c :=
  fun r c _ => sh_next _ _ r (fun e => h (by rw [e])) (lt_of_lt_of_eq t.isLt N_0) c

/-- The gradient of the input product at one token, from the tile's own rows. -/
theorem du_at (t : Fin cfg0.N) (r : Fin 256) :
    du (p.tapsum (Dn p x ct t.val) 31 r.val) (p.fU x (at8 t r)) (p.dv (ct (at8 t r)) (En p x ct t.val) r.val) = p.duT (p.fwd x ct) (at8 t r) := by
  have e1 : p.tapsum (Dn p x ct t.val) 31 r.val = p.dglu (p.fwd x ct) (at8 t r).val := by
    funext c
    unfold Par.dglu Par.tapsum
    refine Finset.sum_congr rfl fun k _ => congrArg (_ * ·) (congrArg (fun n => p.D (p.fwd x ct) n c) ?_)
    show (7 - t.val) * 256 + (30 - k + r.val) = 30 - k + ((7 - t.val) * 256 + r.val)
    omega
  have e2 : p.dv (ct (at8 t r)) (En p x ct t.val) r.val = p.dv ((p.fwd x ct).ct (at8 t r)) (p.E (p.fwd x ct)) (at8 t r).val := by
    funext c
    unfold Par.dv Par.dvg
    refine congrArg (· - _) (Finset.sum_congr rfl fun d _ => congrArg (fun n => p.E (p.fwd x ct) n _) ?_)
    show (7 - t.val) * 256 + (d + r.val) = d + ((7 - t.val) * 256 + r.val)
    omega
  rw [e1, e2]
  rfl

/-- What the tile of grid point `n` adds to a sum over tokens, and the sum of all tiles. -/
def part (f : Fin 2048 → ℝ) (n : ℕ) : ℝ := if h : n < 8 then ∑ r : Fin 256, f ⟨(7 - n) * 256 + r.val, by omega⟩ else 0

theorem part_eq (f : Fin 2048 → ℝ) (t : Fin cfg0.N) : ∑ r, f (at8 t r) = part f t.val := by
  rw [part, dif_pos (lt_of_lt_of_eq t.isLt N_0)]
  rfl

theorem part_all (f : Fin 2048 → ℝ) : ∑ n ∈ Finset.range 8, part f n = ∑ t, f t := by
  rw [← Finset.sum_range_reflect, Fin.sum_univ_tiles 8 256 rfl, Finset.sum_range]
  refine Finset.sum_congr rfl fun s _ => ?_
  have hs := s.isLt
  rw [part, dif_pos (by omega)]
  refine Finset.sum_congr rfl fun r _ => congrArg f (Fin.ext ?_)
  show (7 - (8 - 1 - s.val)) * 256 + r.val = s.val * 256 + r.val
  omega

variable (m : (ℓ : Loc nD τ sig) → Buf (Elt Ideal) ℓ) (c : Dev nD)
variable {p x ct} {mm : Fin 6144 → ℝ}

theorem keep (A : Args m c x ct mm p) : ∀ (n : ℕ) (h : n < cfg0.N),
    (outsAt0 m c n h).2.2.2.2.2.2.2.2.2.1 = carry (Dn p x ct n) ∧ (outsAt0 m c n h).2.2.2.2.2.2.2.2.2.2 = carry (En p x ct n) := by
  intro n
  induction n with
  | zero =>
    intro h
    have h0 : (⟨0, h⟩ : Fin cfg0.N).val % 8 = 0 := Nat.zero_mod _
    exact ⟨keep0_A m c (t := ⟨0, h⟩) (blks m c A _) (tile_of p x ct _) h0 (zD_A p x ct _ h0) (zE_A p x ct _ h0),
      keep1_A m c (t := ⟨0, h⟩) (blks m c A _) (tile_of p x ct _) h0 (zD_A p x ct _ h0) (zE_A p x ct _ h0)⟩
  | succ n ih =>
    intro h
    have h8 : n + 1 < 8 := lt_of_lt_of_eq h N_0
    have h0 : ¬(⟨n + 1, h⟩ : Fin cfg0.N).val % 8 = 0 := by show ¬(n + 1) % 8 = 0; omega
    obtain ⟨k0, k1⟩ := ih (by omega)
    exact ⟨keep0_B m c (t := ⟨n + 1, h⟩) (D' := Dn p x ct n) (E' := En p x ct n) (blks m c A ⟨n + 1, h⟩) (tile_of p x ct ⟨n + 1, h⟩) h0
        (zD_B p x ct ⟨n + 1, h⟩ h0) (zE_B p x ct ⟨n + 1, h⟩ h0) k0 k1,
      keep1_B m c (t := ⟨n + 1, h⟩) (D' := Dn p x ct n) (E' := En p x ct n) (blks m c A ⟨n + 1, h⟩) (tile_of p x ct ⟨n + 1, h⟩) h0
        (zD_B p x ct ⟨n + 1, h⟩ h0) (zE_B p x ct ⟨n + 1, h⟩ h0) k0 k1⟩

theorem kept (A : Args m c x ct mm p) (t : Fin cfg0.N) :
    (outsAt0 m c (t.val - 1) (Nat.lt_of_le_of_lt (Nat.sub_le _ _) t.isLt)).2.2.2.2.2.2.2.2.2.1 = carry (Dn p x ct (t.val - 1))
    ∧ (outsAt0 m c (t.val - 1) (Nat.lt_of_le_of_lt (Nat.sub_le _ _) t.isLt)).2.2.2.2.2.2.2.2.2.2 = carry (En p x ct (t.val - 1)) :=
  keep m c A _ _

theorem out17 (A : Args m c x ct mm p) (t : Fin cfg0.N) : (outsAt0 m c t.val t.isLt).1 = up2 fun r => (fun t => p.gx (ct t) (x t) (p.dhT (p.fwd x ct) t)) (at8 t r) := by
  by_cases h : t.val % 8 = 0
  · rw [out17_A m c (t := t) (blks m c A _) (tile_of p x ct _) h (zD_A p x ct _ h) (zE_A p x ct _ h)]
    simp only [du_at]
    rfl
  · rw [out17_B m c (t := t) (blks m c A _) (tile_of p x ct _) h (zD_B p x ct _ h) (zE_B p x ct _ h) (kept m c A t).1 (kept m c A t).2]
    simp only [du_at]
    rfl

theorem arr17 (A : Args m c x ct mm p) :
    (dats m 0 c).arrAt 17 grid0.N = (up2 (fun t => p.gx (ct t) (x t) (p.dhT (p.fwd x ct) t)) : S2048x1024.Idx → EReal) := by
  refine (dats m 0 c).arrAt_eq_of_covers 17 _ (by decide +kernel) fun t _ j => ?_
  blk_simp
  rw [after0_17, out17 m c A t]
  idx_vars j
  refine Eq.trans (b := up2 (fun t => p.gx (ct t) (x t) (p.dhT (p.fwd x ct) t)) (ix2 (at8 t j0) j1)) rfl ?_
  blk_ext [idx t]
  rfl

theorem out18 (A : Args m c x ct mm p) (t : Fin cfg0.N) : (outsAt0 m c t.val t.isLt).2.1 = up2 fun r => (fun t => p.h (x t)) (at8 t r) := by
  by_cases h : t.val % 8 = 0
  · rw [out18_A m c (t := t) (blks m c A _) (tile_of p x ct _) h (zD_A p x ct _ h) (zE_A p x ct _ h)]
  · rw [out18_B m c (t := t) (blks m c A _) (tile_of p x ct _) h (zD_B p x ct _ h) (zE_B p x ct _ h) (kept m c A t).1 (kept m c A t).2]

theorem arr18 (A : Args m c x ct mm p) :
    (dats m 0 c).arrAt 18 grid0.N = (up2 (fun t => p.h (x t)) : S2048x1024.Idx → EReal) := by
  refine (dats m 0 c).arrAt_eq_of_covers 18 _ (by decide +kernel) fun t _ j => ?_
  blk_simp
  rw [after0_18, out18 m c A t]
  idx_vars j
  refine Eq.trans (b := up2 (fun t => p.h (x t)) (ix2 (at8 t j0) j1)) rfl ?_
  blk_ext [idx t]
  rfl

theorem out19 (A : Args m c x ct mm p) (t : Fin cfg0.N) : (outsAt0 m c t.val t.isLt).2.2.1 = up2 fun r => (fun t => p.duT (p.fwd x ct) t) (at8 t r) := by
  by_cases h : t.val % 8 = 0
  · rw [out19_A m c (t := t) (blks m c A _) (tile_of p x ct _) h (zD_A p x ct _ h) (zE_A p x ct _ h)]
    simp only [du_at]
  · rw [out19_B m c (t := t) (blks m c A _) (tile_of p x ct _) h (zD_B p x ct _ h) (zE_B p x ct _ h) (kept m c A t).1 (kept m c A t).2]
    simp only [du_at]

theorem arr19 (A : Args m c x ct mm p) :
    (dats m 0 c).arrAt 19 grid0.N = (up2 (fun t => p.duT (p.fwd x ct) t) : S2048x1536.Idx → EReal) := by
  refine (dats m 0 c).arrAt_eq_of_covers 19 _ (by decide +kernel) fun t _ j => ?_
  blk_simp
  rw [after0_19, out19 m c A t]
  idx_vars j
  refine Eq.trans (b := up2 (fun t => p.duT (p.fwd x ct) t) (ix2 (at8 t j0) j1)) rfl ?_
  blk_ext [idx t]
  rfl

theorem out20 (A : Args m c x ct mm p) (t : Fin cfg0.N) : (outsAt0 m c t.val t.isLt).2.2.2.1 = up2 fun r => (fun t => p.dy (ct t)) (at8 t r) := by
  by_cases h : t.val % 8 = 0
  · rw [out20_A m c (t := t) (blks m c A _) (tile_of p x ct _) h (zD_A p x ct _ h) (zE_A p x ct _ h)]
  · rw [out20_B m c (t := t) (blks m c A _) (tile_of p x ct _) h (zD_B p x ct _ h) (zE_B p x ct _ h) (kept m c A t).1 (kept m c A t).2]

theorem arr20 (A : Args m c x ct mm p) :
    (dats m 0 c).arrAt 20 grid0.N = (up2 (fun t => p.dy (ct t)) : S2048x1024.Idx → EReal) := by
  refine (dats m 0 c).arrAt_eq_of_covers 20 _ (by decide +kernel) fun t _ j => ?_
  blk_simp
  rw [after0_20, out20 m c A t]
  idx_vars j
  refine Eq.trans (b := up2 (fun t => p.dy (ct t)) (ix2 (at8 t j0) j1)) rfl ?_
  blk_ext [idx t]
  rfl

theorem add21 (t : Fin cfg0.N) (i : Fin 512) (e : Fin 512) : (∑ r : Fin 256, (p.sw (p.fZ x (at8 t r)) i * p.dyc (ct (at8 t r)) e)) = part (fun t => p.gpw (p.fwd x ct) t i e) t.val :=
  (Finset.sum_congr rfl fun r _ => rfl).trans (part_eq (fun t => p.gpw (p.fwd x ct) t i e) t)

theorem out21 (A : Args m c x ct mm p) : ∀ (n : ℕ) (h : n < cfg0.N),
    (outsAt0 m c n h).2.2.2.2.1 = up2 fun (i : Fin 512) (e : Fin 512) => ∑ s ∈ Finset.range (n + 1), part (fun t => p.gpw (p.fwd x ct) t i e) s := by
  intro n
  induction n with
  | zero =>
    intro h0
    have h : (⟨0, h0⟩ : Fin cfg0.N).val % 8 = 0 := Nat.zero_mod _
    refine (out21_A m c (t := ⟨0, h0⟩) (blks m c A _) (tile_of p x ct _) h (zD_A p x ct _ h) (zE_A p x ct _ h)).trans (congrArg up2 ?_)
    funext i e
    rw [zero_add, Finset.sum_range_one]
    exact add21 (p := p) (x := x) (ct := ct) ⟨0, h0⟩ i e
  | succ n ih =>
    intro h0
    have h8 : n + 1 < 8 := lt_of_lt_of_eq h0 N_0
    have h : ¬(⟨n + 1, h0⟩ : Fin cfg0.N).val % 8 = 0 := by show ¬(n + 1) % 8 = 0; omega
    refine (out21_B m c (t := ⟨n + 1, h0⟩) (blks m c A _) (tile_of p x ct _) h (zD_B p x ct _ h) (zE_B p x ct _ h) (kept m c A ⟨n + 1, h0⟩).1 (kept m c A ⟨n + 1, h0⟩).2 _ (ih (by omega))).trans (congrArg up2 ?_)
    funext i e
    rw [Finset.sum_range_succ _ (n + 1)]
    exact congrArg (_ + ·) (add21 (p := p) (x := x) (ct := ct) ⟨n + 1, h0⟩ i e)

theorem arr21 (A : Args m c x ct mm p) :
    (dats m 0 c).arrAt 21 grid0.N = (up2 (fun (i : Fin 512) (e : Fin 512) => ∑ t, p.gpw (p.fwd x ct) t i e) : S512x512.Idx → EReal) := by
  refine (dats m 0 c).arrAt_eq_of_after_last 21 t0_7 (by decide +kernel) _ fun j => ?_
  blk_simp
  rw [after0_21, out21 m c A]
  idx_vars j
  exact congrArg (fun z : ℝ => (z : EReal)) (part_all _)

theorem add22 (t : Fin cfg0.N) (i : Fin 4) (a e : Fin 128) : (∑ r : Fin 256, (p.fP x (at8 t r) (grp i a) * p.dypb (ct (at8 t r)) (grp i e))) = part (fun t => p.gwg (p.fwd x ct) t i a e) t.val :=
  (Finset.sum_congr rfl fun r _ => rfl).trans (part_eq (fun t => p.gwg (p.fwd x ct) t i a e) t)

theorem out22 (A : Args m c x ct mm p) : ∀ (n : ℕ) (h : n < cfg0.N),
    (outsAt0 m c n h).2.2.2.2.2.1 = up3 fun (i : Fin 4) (a e : Fin 128) => ∑ s ∈ Finset.range (n + 1), part (fun t => p.gwg (p.fwd x ct) t i a e) s := by
  intro n
  induction n with
  | zero =>
    intro h0
    have h : (⟨0, h0⟩ : Fin cfg0.N).val % 8 = 0 := Nat.zero_mod _
    refine (out22_A m c (t := ⟨0, h0⟩) (blks m c A _) (tile_of p x ct _) h (zD_A p x ct _ h) (zE_A p x ct _ h)).trans (congrArg up3 ?_)
    funext i a e
    rw [zero_add, Finset.sum_range_one]
    exact add22 (p := p) (x := x) (ct := ct) ⟨0, h0⟩ i a e
  | succ n ih =>
    intro h0
    have h8 : n + 1 < 8 := lt_of_lt_of_eq h0 N_0
    have h : ¬(⟨n + 1, h0⟩ : Fin cfg0.N).val % 8 = 0 := by show ¬(n + 1) % 8 = 0; omega
    refine (out22_B m c (t := ⟨n + 1, h0⟩) (blks m c A _) (tile_of p x ct _) h (zD_B p x ct _ h) (zE_B p x ct _ h) (kept m c A ⟨n + 1, h0⟩).1 (kept m c A ⟨n + 1, h0⟩).2 _ (ih (by omega))).trans (congrArg up3 ?_)
    funext i a e
    rw [Finset.sum_range_succ _ (n + 1)]
    exact congrArg (_ + ·) (add22 (p := p) (x := x) (ct := ct) ⟨n + 1, h0⟩ i a e)

theorem arr22 (A : Args m c x ct mm p) :
    (dats m 0 c).arrAt 22 grid0.N = (up3 (fun (i : Fin 4) (a e : Fin 128) => ∑ t, p.gwg (p.fwd x ct) t i a e) : S4x128x128.Idx → EReal) := by
  refine (dats m 0 c).arrAt_eq_of_after_last 22 t0_7 (by decide +kernel) _ fun j => ?_
  blk_simp
  rw [after0_22, out22 m c A]
  idx_vars j
  exact congrArg (fun z : ℝ => (z : EReal)) (part_all _)

theorem add23 (t : Fin cfg0.N) (i : Fin 8) (d : Fin 1024) : (∑ r : Fin 256, (p.vdr (ct (at8 t r)) (x (at8 t r)) (p.fY x (at8 t r)) (p.dh (du (p.tapsum (Dn p x ct t.val) 31 r.val) (p.fU x (at8 t r)) (p.dv (ct (at8 t r)) (En p x ct t.val) r.val))) i d)) = part (fun t => p.vd (p.fwd x ct) t i d) t.val :=
  (Finset.sum_congr rfl fun r _ => by
    rw [du_at]
    rfl).trans (part_eq (fun t => p.vd (p.fwd x ct) t i d) t)

theorem out23 (A : Args m c x ct mm p) : ∀ (n : ℕ) (h : n < cfg0.N),
    (outsAt0 m c n h).2.2.2.2.2.2.1 = up2 fun (i : Fin 8) (d : Fin 1024) => ∑ s ∈ Finset.range (n + 1), part (fun t => p.vd (p.fwd x ct) t i d) s := by
  intro n
  induction n with
  | zero =>
    intro h0
    have h : (⟨0, h0⟩ : Fin cfg0.N).val % 8 = 0 := Nat.zero_mod _
    refine (out23_A m c (t := ⟨0, h0⟩) (blks m c A _) (tile_of p x ct _) h (zD_A p x ct _ h) (zE_A p x ct _ h)).trans (congrArg up2 ?_)
    funext i d
    rw [zero_add, Finset.sum_range_one]
    exact add23 (p := p) (x := x) (ct := ct) ⟨0, h0⟩ i d
  | succ n ih =>
    intro h0
    have h8 : n + 1 < 8 := lt_of_lt_of_eq h0 N_0
    have h : ¬(⟨n + 1, h0⟩ : Fin cfg0.N).val % 8 = 0 := by show ¬(n + 1) % 8 = 0; omega
    refine (out23_B m c (t := ⟨n + 1, h0⟩) (blks m c A _) (tile_of p x ct _) h (zD_B p x ct _ h) (zE_B p x ct _ h) (kept m c A ⟨n + 1, h0⟩).1 (kept m c A ⟨n + 1, h0⟩).2 _ (ih (by omega))).trans (congrArg up2 ?_)
    funext i d
    rw [Finset.sum_range_succ _ (n + 1)]
    exact congrArg (_ + ·) (add23 (p := p) (x := x) (ct := ct) ⟨n + 1, h0⟩ i d)

theorem arr23 (A : Args m c x ct mm p) :
    (dats m 0 c).arrAt 23 grid0.N = (up2 (fun (i : Fin 8) (d : Fin 1024) => ∑ t, p.vd (p.fwd x ct) t i d) : S8x1024.Idx → EReal) := by
  refine (dats m 0 c).arrAt_eq_of_after_last 23 t0_7 (by decide +kernel) _ fun j => ?_
  blk_simp
  rw [after0_23, out23 m c A]
  idx_vars j
  exact congrArg (fun z : ℝ => (z : EReal)) (part_all _)

theorem add24 (t : Fin cfg0.N) (i : Fin 8) (d : Fin 512) : (∑ r : Fin 256, (p.vcr (ct (at8 t r)) (p.fZ x (at8 t r)) (p.fR x (at8 t r)) (p.fP x (at8 t r)) i d)) = part (fun t => p.vc (p.fwd x ct) t i d) t.val :=
  (Finset.sum_congr rfl fun r _ => rfl).trans (part_eq (fun t => p.vc (p.fwd x ct) t i d) t)

theorem out24 (A : Args m c x ct mm p) : ∀ (n : ℕ) (h : n < cfg0.N),
    (outsAt0 m c n h).2.2.2.2.2.2.2.1 = up2 fun (i : Fin 8) (d : Fin 512) => ∑ s ∈ Finset.range (n + 1), part (fun t => p.vc (p.fwd x ct) t i d) s := by
  intro n
  induction n with
  | zero =>
    intro h0
    have h : (⟨0, h0⟩ : Fin cfg0.N).val % 8 = 0 := Nat.zero_mod _
    refine (out24_A m c (t := ⟨0, h0⟩) (blks m c A _) (tile_of p x ct _) h (zD_A p x ct _ h) (zE_A p x ct _ h)).trans (congrArg up2 ?_)
    funext i d
    rw [zero_add, Finset.sum_range_one]
    exact add24 (p := p) (x := x) (ct := ct) ⟨0, h0⟩ i d
  | succ n ih =>
    intro h0
    have h8 : n + 1 < 8 := lt_of_lt_of_eq h0 N_0
    have h : ¬(⟨n + 1, h0⟩ : Fin cfg0.N).val % 8 = 0 := by show ¬(n + 1) % 8 = 0; omega
    refine (out24_B m c (t := ⟨n + 1, h0⟩) (blks m c A _) (tile_of p x ct _) h (zD_B p x ct _ h) (zE_B p x ct _ h) (kept m c A ⟨n + 1, h0⟩).1 (kept m c A ⟨n + 1, h0⟩).2 _ (ih (by omega))).trans (congrArg up2 ?_)
    funext i d
    rw [Finset.sum_range_succ _ (n + 1)]
    exact congrArg (_ + ·) (add24 (p := p) (x := x) (ct := ct) ⟨n + 1, h0⟩ i d)

theorem arr24 (A : Args m c x ct mm p) :
    (dats m 0 c).arrAt 24 grid0.N = (up2 (fun (i : Fin 8) (d : Fin 512) => ∑ t, p.vc (p.fwd x ct) t i d) : S8x512.Idx → EReal) := by
  refine (dats m 0 c).arrAt_eq_of_after_last 24 t0_7 (by decide +kernel) _ fun j => ?_
  blk_simp
  rw [after0_24, out24 m c A]
  idx_vars j
  exact congrArg (fun z : ℝ => (z : EReal)) (part_all _)

theorem add25 (t : Fin cfg0.N) (i : Fin 32) (d : Fin 512) : (∑ r : Fin 256, (if i.val < 31 then glu (p.fU x (at8 t r)) d * Dn p x ct t.val (30 - i.val + r.val) d else 0)) = part (fun t => p.ddw (p.fwd x ct) t i.val d) t.val :=
  (Finset.sum_congr rfl fun r _ => by
    unfold Par.ddw
    refine ite_congr rfl (fun _ => congrArg (_ * ·) (congrArg (fun n => p.D (p.fwd x ct) n d) ?_)) fun _ => rfl
    show (7 - t.val) * 256 + (30 - i.val + r.val) = 30 - i.val + ((7 - t.val) * 256 + r.val)
    omega).trans (part_eq (fun t => p.ddw (p.fwd x ct) t i.val d) t)

theorem out25 (A : Args m c x ct mm p) : ∀ (n : ℕ) (h : n < cfg0.N),
    (outsAt0 m c n h).2.2.2.2.2.2.2.2.1 = up2 fun (i : Fin 32) (d : Fin 512) => ∑ s ∈ Finset.range (n + 1), part (fun t => p.ddw (p.fwd x ct) t i.val d) s := by
  intro n
  induction n with
  | zero =>
    intro h0
    have h : (⟨0, h0⟩ : Fin cfg0.N).val % 8 = 0 := Nat.zero_mod _
    refine (out25_A m c (t := ⟨0, h0⟩) (blks m c A _) (tile_of p x ct _) h (zD_A p x ct _ h) (zE_A p x ct _ h)).trans (congrArg up2 ?_)
    funext i d
    rw [zero_add, Finset.sum_range_one]
    exact add25 (p := p) (x := x) (ct := ct) ⟨0, h0⟩ i d
  | succ n ih =>
    intro h0
    have h8 : n + 1 < 8 := lt_of_lt_of_eq h0 N_0
    have h : ¬(⟨n + 1, h0⟩ : Fin cfg0.N).val % 8 = 0 := by show ¬(n + 1) % 8 = 0; omega
    refine (out25_B m c (t := ⟨n + 1, h0⟩) (blks m c A _) (tile_of p x ct _) h (zD_B p x ct _ h) (zE_B p x ct _ h) (kept m c A ⟨n + 1, h0⟩).1 (kept m c A ⟨n + 1, h0⟩).2 _ (ih (by omega))).trans (congrArg up2 ?_)
    funext i d
    rw [Finset.sum_range_succ _ (n + 1)]
    exact congrArg (_ + ·) (add25 (p := p) (x := x) (ct := ct) ⟨n + 1, h0⟩ i d)

theorem arr25 (A : Args m c x ct mm p) :
    (dats m 0 c).arrAt 25 grid0.N = (up2 (fun (i : Fin 32) (d : Fin 512) => ∑ t, p.ddw (p.fwd x ct) t i.val d) : S32x512.Idx → EReal) := by
  refine (dats m 0 c).arrAt_eq_of_after_last 25 t0_7 (by decide +kernel) _ fun j => ?_
  blk_simp
  rw [after0_25, out25 m c A]
  idx_vars j
  exact congrArg (fun z : ℝ => (z : EReal)) (part_all _)

end Cert.Hand.Mix
end
-- ==== Proof.Mix.RefB.lean ====
/- The reference's values one after the other, read at arguments that hold real numbers: the matching function
   of the tokens. -/
module

public import proofs.«01_k».proof.Proof.Mix.RefA

@[expose] public section
set_option maxRecDepth 16384

noncomputable section
namespace Cert.Hand.Mix
open Idealize.ShloMosaic Cert.Hand Cert.Reference2Ideal Cert.Reference2Ideal.Gen Cert.Reference2Ideal.Read
open Cert.Hand.Ffn (xh rmsb rmsb_eq rsqrt_ms div_ms lgs_up1 ms_up)

variable (p : Par) (x ct : Fin 2048 → Fin 1024 → ℝ) (mm : Fin 6144 → ℝ)

theorem r192 (H : Rows mm p) : val_main_v192 (F := Ideal) (tok ct) (row1 mm) = tok fun t => p.dy (ct t) := by
  unfold val_main_v192 val_main_v191 val_main_v190
  rw [r10 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  unfold Par.dy; congr 1; exact mul_comm _ _

theorem r195 (H : Rows mm p) : val_main_v195 (F := Ideal) (tok x) (tok ct) (row1 mm) (row1 p.g) (lead p.win) (lead p.dw) (row1 p.db) (row1 p.lg) (row1 p.lb) (lead p.pw) (lead4 p.wg) (row1 p.ps) (lead p.wo) = prm fun d => ∑ t, ct t d * p.fY x t d := by
  unfold val_main_v195 val_main_v194 val_main_cst_35 val_main_v193 val_main_v190
  rw [r186 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r196 (H : Rows mm p) : val_main_v196 (F := Ideal) (tok ct) (row1 mm) (lead p.wo) = tok fun t => p.dycat (ct t) := by
  unfold val_main_v196 val_main_v184
  rw [r192 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r197 (H : Rows mm p) : val_main_v197 (F := Ideal) (tok ct) (row1 mm) (lead p.wo) = tok fun t => p.dyc (ct t) := by
  unfold val_main_v197
  rw [r196 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r198 (H : Rows mm p) : val_main_v198 (F := Ideal) (tok ct) (row1 mm) (lead p.wo) = tok fun t => p.dyp (ct t) := by
  unfold val_main_v198
  rw [r196 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r204 (H : Rows mm p) : val_main_v204 (F := Ideal) (tok x) (tok ct) (row1 mm) (row1 p.g) (lead p.win) (lead4 p.wg) (lead p.wo) = up1 fun c => ∑ t, p.dyp (ct t) c * p.ypre (p.fP x t) c := by
  unfold val_main_v204 val_main_cst_37 val_main_v201 val_main_v200 val_main_cst_36 val_main_v199
  rw [r179 (H := H), r198 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  exact congrArg (fun z : ℝ => (z : EReal)) (Finset.sum_congr rfl fun t _ => mul_comm _ _)

theorem r203 (H : Rows mm p) : val_main_v203 (F := Ideal) (tok ct) (row1 mm) (row1 p.ps) (lead p.wo) = tok fun t => p.dypb (ct t) := by
  unfold val_main_v203 val_main_v202 val_main_v180 val_main_v107
  rw [r198 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r206 (H : Rows mm p) : val_main_v206 (F := Ideal) (tok ct) (row1 mm) (row1 p.ps) (lead p.wo) = up4 fun i e (_ : Fin 1) t => p.dypb (ct t) (grp i e) := by
  unfold val_main_v206 val_main_v205
  rw [r203 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r208 (H : Rows mm p) : val_main_v208 (F := Ideal) (tok ct) (row1 mm) (lead4 p.wg) (row1 p.ps) (lead p.wo) = gtok fun t i a => p.dpg (ct t) i a := by
  unfold val_main_v208 val_main_v207 val_main_v106
  rw [r206 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r210 (H : Rows mm p) : val_main_v210 (F := Ideal) (tok x) (tok ct) (row1 mm) (row1 p.g) (lead p.win) (row1 p.ps) (lead p.wo) = up3 fun i a e => ∑ t, p.fP x t (grp i a) * p.dypb (ct t) (grp i e) := by
  unfold val_main_v210 val_main_v209
  rw [r206 (H := H), r176 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  refine congrArg (fun z : ℝ => (z : EReal)) (Finset.sum_congr rfl fun q _ => ?_)
  unfold Par.fP
  rw [gof_grp, rof_grp]
  exact mul_comm _ _

theorem r213 (H : Rows mm p) : val_main_v213 (F := Ideal) (tok ct) (row1 mm) (lead4 p.wg) (row1 p.ps) (lead p.wo) = tok fun t a => p.dpg (ct t) 0 a := by
  unfold val_main_v213 val_main_v212
  rw [r208 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r215 (H : Rows mm p) : val_main_v215 (F := Ideal) (tok ct) (row1 mm) (lead4 p.wg) (row1 p.ps) (lead p.wo) = tok fun t a => p.dpg (ct t) 1 a := by
  unfold val_main_v215 val_main_v214
  rw [r208 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r217 (H : Rows mm p) : val_main_v217 (F := Ideal) (tok ct) (row1 mm) (lead4 p.wg) (row1 p.ps) (lead p.wo) = tok fun t a => p.dpg (ct t) 2 a := by
  unfold val_main_v217 val_main_v216
  rw [r208 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r219 (H : Rows mm p) : val_main_v219 (F := Ideal) (tok ct) (row1 mm) (lead4 p.wg) (row1 p.ps) (lead p.wo) = tok fun t a => p.dpg (ct t) 3 a := by
  unfold val_main_v219 val_main_v218
  rw [r208 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r255 (H : Rows mm p) : val_main_v255 (F := Ideal) (tok ct) (row1 mm) (lead4 p.wg) (row1 p.ps) (lead p.wo) = tok fun t e => EC p ct t.val (grp 0 e) + -EC p ct (t.val + 2) (grp 0 e) := by
  unfold val_main_v255 val_main_v254 val_main_cst_44 val_main_v253 val_main_v251 val_main_v250 val_main_v249
  rw [r123, r213 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs, div_cnt]
  rw [ec_up p ct 2 2046 (by omega), ec_at, add_up]

theorem r245 (H : Rows mm p) : val_main_v245 (F := Ideal) (tok ct) (row1 mm) (lead4 p.wg) (row1 p.ps) (lead p.wo) = tok fun t e => EC p ct t.val (grp 1 e) + -EC p ct (t.val + 4) (grp 1 e) := by
  unfold val_main_v245 val_main_v244 val_main_cst_42 val_main_v243 val_main_v241 val_main_v240 val_main_v239
  rw [r138, r215 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs, div_cnt]
  rw [ec_up p ct 4 2044 (by omega), ec_at, add_up]

theorem r235 (H : Rows mm p) : val_main_v235 (F := Ideal) (tok ct) (row1 mm) (lead4 p.wg) (row1 p.ps) (lead p.wo) = tok fun t e => EC p ct t.val (grp 2 e) + -EC p ct (t.val + 8) (grp 2 e) := by
  unfold val_main_v235 val_main_v234 val_main_cst_40 val_main_v233 val_main_v231 val_main_v230 val_main_v229
  rw [r153, r217 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs, div_cnt]
  rw [ec_up p ct 8 2040 (by omega), ec_at, add_up]

theorem r226 (H : Rows mm p) : val_main_v226 (F := Ideal) (tok ct) (row1 mm) (lead4 p.wg) (row1 p.ps) (lead p.wo) = tok fun t e => EC p ct t.val (grp 3 e) + -EC p ct (t.val + 16) (grp 3 e) := by
  unfold val_main_v226 val_main_v225 val_main_cst_38 val_main_v224 val_main_v222 val_main_v221 val_main_v220
  rw [r168, r219 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs, div_cnt]
  rw [ec_up p ct 16 2032 (by omega), ec_at, add_up]

theorem r258 (H : Rows mm p) : val_main_v258 (F := Ideal) (tok ct) (row1 mm) (lead4 p.wg) (row1 p.ps) (lead p.wo) = gtok fun t i e => EC p ct t.val (grp i e) + -EC p ct (t.val + wid i) (grp i e) := by
  unfold val_main_v258 val_main_v257 val_main_cst_45 val_main_v256 val_main_v248 val_main_v247 val_main_cst_43 val_main_v246 val_main_v238 val_main_v237 val_main_cst_41 val_main_v236 val_main_v228 val_main_cst_39 val_main_v227
  rw [r255 (H := H), r245 (H := H), r235 (H := H), r226 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rcases i2 with ⟨k, hk⟩
  dsimp only
  interval_cases k
  all_goals
    norm_num [wid]
    try rfl

theorem r259 (H : Rows mm p) : val_main_v259 (F := Ideal) (tok ct) (row1 mm) (lead4 p.wg) (row1 p.ps) (lead p.wo) = gtok fun t i e => ∑ d ∈ Finset.range (wid i), EC p ct (d + t.val) (grp i e) := by
  unfold val_main_v259 Host.reduceWindowAdd
  rw [r258 (H := H)]
  refine (win_hi_of _ _ ?_ _).trans (congrArg gtok ?_)
  · pointwise [val_main_call3_call0_v0, val_main_call3_call0_cst]
  · funext t i e
    exact tele (fun n => EC p ct n (grp i e)) (fun n h => ext_past _ n h _) (wid i) t

theorem r261 (H : Rows mm p) : val_main_v261 (F := Ideal) (tok ct) (row1 mm) (lead4 p.wg) (row1 p.ps) (lead p.wo) = tok fun t => p.dv (ct t) (EC p ct) t.val := by
  unfold val_main_v261 val_main_v260 val_main_v211
  rw [r208 (H := H), r259 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  exact congrArg (fun z : ℝ => (z : EReal)) (neg_add_eq_sub _ _)

theorem r266 (H : Rows mm p) : val_main_v266 (F := Ideal) (tok x) (tok ct) (row1 mm) (row1 p.g) (lead p.win) (lead p.dw) (row1 p.db) (row1 p.lg) (row1 p.lb) (lead p.wo) = up2 fun a e => ∑ t, p.sw (p.fZ x t) a * p.dyc (ct t) e := by
  unfold val_main_v266 val_main_v265
  rw [r197 (H := H), r103_0 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  exact congrArg (fun z : ℝ => (z : EReal)) (Finset.sum_congr rfl fun t _ => mul_comm _ _)

theorem r267 (H : Rows mm p) : val_main_v267 (F := Ideal) (tok ct) (row1 mm) (lead p.pw) (lead p.wo) = tok fun t c => ∑ e, p.dyc (ct t) e * p.pw c e := by
  unfold val_main_v267 val_main_v42
  rw [r197 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r268 (H : Rows mm p) : val_main_v268 (F := Ideal) (tok x) (tok ct) (row1 mm) (row1 p.g) (lead p.win) (lead p.dw) (row1 p.db) (row1 p.lg) (row1 p.lb) (lead p.pw) (lead p.wo) = tok fun t => p.dln (ct t) (p.fZ x t) := by
  unfold val_main_v268 val_main_call4_v2 val_main_call4_v1 val_main_call4_v0
  rw [r102 (H := H), r103_2 (H := H), r103_1 (H := H), r267 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  unfold Par.dln; congr 1; ring

theorem r271 (H : Rows mm p) : val_main_v271 (F := Ideal) (tok x) (tok ct) (row1 mm) (row1 p.g) (lead p.win) (lead p.dw) (row1 p.db) (row1 p.lg) (row1 p.lb) (lead p.pw) (lead p.wo) = up1 fun c => ∑ t, p.dln (ct t) (p.fZ x t) c := by
  unfold val_main_v271 val_main_cst_48 val_main_v270 val_main_v269 val_main_cst_47
  rw [r268 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r277 (H : Rows mm p) : val_main_v277 (F := Ideal) (tok x) (tok ct) (row1 mm) (row1 p.g) (lead p.win) (lead p.dw) (row1 p.db) (row1 p.lg) (row1 p.lb) (lead p.pw) (lead p.wo) = up1 fun c => ∑ t, p.dln (ct t) (p.fZ x t) c * p.fZ x t c := by
  unfold val_main_v277 val_main_cst_50 val_main_v274 val_main_v273 val_main_cst_49 val_main_v272
  rw [r268 (H := H), r96 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  exact congrArg (fun z : ℝ => (z : EReal)) (Finset.sum_congr rfl fun t _ => mul_comm _ _)

theorem r276 (H : Rows mm p) : val_main_v276 (F := Ideal) (tok x) (tok ct) (row1 mm) (row1 p.g) (lead p.win) (lead p.dw) (row1 p.db) (row1 p.lg) (row1 p.lb) (lead p.pw) (lead p.wo) = tok fun t => p.dz (ct t) (p.fZ x t) := by
  unfold val_main_v276 val_main_v275 val_main_v97 val_main_v40
  rw [r268 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  rfl

theorem r280 (H : Rows mm p) : val_main_v280 (F := Ideal) (tok x) (tok ct) (row1 mm) (row1 p.g) (lead p.win) (lead p.dw) (row1 p.db) (row1 p.lg) (row1 p.lb) (lead p.pw) (lead p.wo) = col fun t => (∑ e, p.fQ x t e * p.dz (ct t) (p.fZ x t) e) := by
  unfold val_main_v280 val_main_v279 val_main_cst_51 val_main_v278
  rw [r88 (H := H), r276 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r282 (H : Rows mm p) : val_main_v282 (F := Ideal) (tok x) (tok ct) (row1 mm) (row1 p.g) (lead p.win) (lead p.dw) (row1 p.db) (row1 p.lg) (row1 p.lb) (lead p.pw) (lead p.wo) = tok fun t c => p.dz (ct t) (p.fZ x t) c * p.fR x t := by
  unfold val_main_v282 val_main_v281
  rw [r276 (H := H), r91 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r291 (H : Rows mm p) : val_main_v291 (F := Ideal) (tok x) (tok ct) (row1 mm) (row1 p.g) (lead p.win) (lead p.dw) (row1 p.db) (row1 p.lg) (row1 p.lb) (lead p.pw) (lead p.wo) = tok fun t _ => (∑ e, p.fQ x t e * p.dz (ct t) (p.fZ x t) e) * (-(1 / 2) * (p.fR x t * p.fR x t * p.fR x t)) / 512 := by
  unfold val_main_v291 val_main_v290 val_main_v289 val_main_cst_54 val_main_v288 val_main_v287 val_main_cst_53 val_main_v283
  rw [r280 (H := H), r94 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r303 (H : Rows mm p) : val_main_v303 (F := Ideal) (tok x) (tok ct) (row1 mm) (row1 p.g) (lead p.win) (lead p.dw) (row1 p.db) (row1 p.lg) (row1 p.lb) (lead p.pw) (lead p.wo) = tok fun t => p.dcv (ct t) (p.fZ x t) (p.fR x t) := by
  unfold val_main_v303 val_main_v302 val_main_v301 val_main_v300 val_main_cst_57 val_main_v299 val_main_v298 val_main_cst_56 val_main_v297 val_main_v296 val_main_v295 val_main_v294 val_main_cst_55 val_main_v293 val_main_v292 val_main_v286 val_main_v285 val_main_cst_52 val_main_v284
  rw [r282 (H := H), r291 (H := H), r82 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]
  exact congrArg (fun z : ℝ => (z : EReal)) (ln_back _ _ _ (ctr_sum _) _)

theorem r306 (H : Rows mm p) : val_main_v306 (F := Ideal) (tok x) (tok ct) (row1 mm) (row1 p.g) (lead p.win) (lead p.dw) (row1 p.db) (row1 p.lg) (row1 p.lb) (lead p.pw) (lead p.wo) = up1 fun c => ∑ t, p.dcv (ct t) (p.fZ x t) (p.fR x t) c := by
  unfold val_main_v306 val_main_cst_59 val_main_v305 val_main_v304 val_main_cst_58
  rw [r303 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r307 (H : Rows mm p) : val_main_v307 (F := Ideal) (tok x) (tok ct) (row1 mm) (row1 p.g) (lead p.win) (lead p.dw) (row1 p.db) (row1 p.lg) (row1 p.lb) (lead p.pw) (lead p.wo) = up2 fun t => p.dcv (ct t) (p.fZ x t) (p.fR x t) := by
  unfold val_main_v307 val_main_cst_60
  rw [r303 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up, rs_up, rsqrt_ms, rsqrt_vs, div_ms, div_vs]

theorem r314 (H : Rows mm p) : val_main_v314 (F := Ideal) (tok x) (tok ct) (row1 mm) (row1 p.g) (lead p.win) (lead p.dw) (row1 p.db) (row1 p.lg) (row1 p.lb) (lead p.pw) (lead p.wo) = up2 fun k c => ∑ t, taps (p.fU x) k t c * p.dcv (ct t) (p.fZ x t) (p.fR x t) c := by
  unfold val_main_v314 val_main_cst_62 val_main_v311 val_main_v310 val_main_cst_61 val_main_v309 val_main_v308
  rw [r65 (H := H), r307 (H := H)]
  funext i
  idx_vars i
  pointwise [sum_d01, sum_d02]
  simp only [tok_at, col_at, col2_at, prm_at, row1_at, lead_at, lead4_at, gtok_at, up1_at, up2_at, up3_at, up4_at, Fin.sum_univ_one, zero_up, one_up, lit_two, lit_half, lit_neg_half, sub_up, neg_up, mul_up, add_up, exp_up, sum_up, mean_up, mean5_up, lgs_up1, ms_up, ms5_up]

theorem r313 (H : Rows mm p) : val_main_v313 (F := Ideal) (tok x) (tok ct) (row1 mm) (row1 p.g) (lead p.win) (lead p.dw) (row1 p.db) (row1 p.lg) (row1 p.lb) (lead p.pw) (lead p.wo) = up3 fun k t c => p.dcv (ct t) (p.fZ x t) (p.fR x t) c * p.dw k c := by
  unfold val_main_v313 val_main_v312 val_main_v308 val_main_v66 val_main_v38
  rw [r307 (H := H)]
  funext i
  idx_vars i
  pointwise [sum_d01, sum_d02]
  simp only [lead_at, up2_at, up3_at, mul_up]

theorem r_call5_v2 (H : Rows mm p) : val_main_call5_v2 (F := Ideal) (tok x) (tok ct) (row1 mm) (row1 p.g) (lead p.win) (lead p.dw) (row1 p.db) (row1 p.lg) (row1 p.lb) (lead p.pw) (lead p.wo) = up2 fun s c => p.dglu (p.fwd x ct) s.val c := by
  unfold val_main_call5_v2 val_main_call5_cst_0 val_main_call5_v1 val_main_call5_v0 val_main_call5_cst val_main_v315 val_main_v61 val_main_v60 val_main_v59 val_main_v58 val_main_c val_main_v57 val_main_v56 val_main_v55
  rw [r313 (H := H)]
  funext i
  idx_vars i
  pointwise [sum_d01, sum_d02, sum_q01]
  simp only [up2_at, up3_at, zero_up, sum_up, tap_sel]
  exact congrArg (fun z : ℝ => (z : EReal)) (dglu_sum p.dw p rfl _ _ _)

theorem r318 (H : Rows mm p) : val_main_v318 (F := Ideal) (tok x) (tok ct) (row1 mm) (row1 p.g) (lead p.win) (lead p.dw) (row1 p.db) (row1 p.lg) (row1 p.lb) (lead p.pw) (lead p.wo) = tok fun t => p.dglu (p.fwd x ct) t.val := by
  unfold val_main_v318 val_main_v317 val_main_cst_63 val_main_v316
  rw [r_call5_v2 (H := H)]
  funext i
  idx_vars i
  pointwise [sum_d01, sum_d02, sum_q01]
  simp only [tok_at, up2_at, Fin.sum_univ_one, sum_up]

theorem r320 (H : Rows mm p) : val_main_v320 (F := Ideal) (tok x) (tok ct) (row1 mm) (row1 p.g) (lead p.win) (lead p.dw) (row1 p.db) (row1 p.lg) (row1 p.lb) (lead p.pw) (lead p.wo) = tok fun t c => p.dglu (p.fwd x ct) t.val c * sgg (p.fU x t) c := by
  unfold val_main_v320
  rw [r318 (H := H), r50 (H := H)]
  funext i
  idx_vars i
  pointwise [sum_d01, sum_d02]
  simp only [tok_at, mul_up]

theorem r321 (H : Rows mm p) : val_main_v321 (F := Ideal) (tok x) (tok ct) (row1 mm) (row1 p.g) (lead p.win) (lead p.dw) (row1 p.db) (row1 p.lg) (row1 p.lb) (lead p.pw) (lead p.wo) = tok fun t c => p.dglu (p.fwd x ct) t.val c * ua (p.fU x t) c * sgg (p.fU x t) c * (1 - sgg (p.fU x t) c) := by
  unfold val_main_v321 val_main_v319
  rw [r318 (H := H), r43 (H := H), r53 (H := H)]
  funext i
  idx_vars i
  pointwise [sum_d01, sum_d02]
  simp only [tok_at, mul_up]
  congr 1; ring

theorem r329 (H : Rows mm p) : val_main_v329 (F := Ideal) (tok x) (tok ct) (row1 mm) (row1 p.g) (lead p.win) (lead p.dw) (row1 p.db) (row1 p.lg) (row1 p.lb) (lead p.pw) (lead4 p.wg) (row1 p.ps) (lead p.wo) = tok fun t => p.duT (p.fwd x ct) t := by
  unfold val_main_v329 val_main_v328 val_main_cst_64 val_main_v322 val_main_v264 val_main_cst_46
  rw [r320 (H := H), r321 (H := H), r261 (H := H)]
  funext i
  idx_vars i
  pointwise [sum_d01, sum_d02]
  simp only [tok_at, zero_up]
  unfold Par.duT du
  by_cases h1 : i2.val < 512
  · rw [dif_pos h1]
    refine (congrArg₂ (· + ·) (dif_neg (by omega)) ((dif_pos (by omega)).trans (dif_pos h1))).trans ((add_up _ _).trans ?_)
    exact congrArg (fun z : ℝ => (z : EReal)) (zero_add _)
  · rw [dif_neg h1]
    by_cases h2 : i2.val < 1024
    · rw [dif_pos (show i2.val - 512 < 512 by omega)]
      refine (congrArg₂ (· + ·) (dif_neg (by omega)) ((dif_pos (by omega)).trans (dif_neg h1))).trans ((add_up _ _).trans ?_)
      exact congrArg (fun z : ℝ => (z : EReal)) (zero_add _)
    · rw [dif_neg (show ¬i2.val - 512 < 512 by omega)]
      refine (congrArg₂ (· + ·) (dif_pos (by omega)) (dif_neg (by omega))).trans ((add_up _ _).trans ?_)
      refine congrArg (fun z : ℝ => (z : EReal)) ((add_zero _).trans (congrArg (p.dv (ct i1) (EC p ct) i1.val) (Fin.ext ?_)))
      show i2.val - 1024 = i2.val - 512 - 512
      omega

theorem r330 (H : Rows mm p) : val_main_v330 (F := Ideal) (tok x) (tok ct) (row1 mm) (row1 p.g) (lead p.win) (lead p.dw) (row1 p.db) (row1 p.lg) (row1 p.lb) (lead p.pw) (lead4 p.wg) (row1 p.ps) (lead p.wo) = tok fun t => p.dhT (p.fwd x ct) t := by
  unfold val_main_v330 val_main_v34
  rw [r329 (H := H)]
  funext i
  idx_vars i
  pointwise [sum_d01, sum_d02]
  simp only [tok_at, lead_at, mul_up, sum_up]
  rfl

theorem r332 (H : Rows mm p) : val_main_v332 (F := Ideal) (tok x) (tok ct) (row1 mm) (row1 p.g) (lead p.win) (lead p.dw) (row1 p.db) (row1 p.lg) (row1 p.lb) (lead p.pw) (lead4 p.wg) (row1 p.ps) (lead p.wo) = prm fun d => ∑ t, p.dhT (p.fwd x ct) t d := by
  unfold val_main_v332 val_main_v331 val_main_cst_65
  rw [r330 (H := H)]
  funext i
  idx_vars i
  pointwise [sum_d01, sum_d02]
  simp only [tok_at, prm_at, sum_up]

theorem r335 (H : Rows mm p) : val_main_v335 (F := Ideal) (tok x) (tok ct) (row1 mm) (row1 p.g) (lead p.win) (lead p.dw) (row1 p.db) (row1 p.lg) (row1 p.lb) (lead p.pw) (lead4 p.wg) (row1 p.ps) (lead p.wo) = prm fun d => ∑ t, p.dhT (p.fwd x ct) t d * p.nrm (x t) d := by
  unfold val_main_v335 val_main_v334 val_main_cst_66 val_main_v333
  rw [r27, r330 (H := H)]
  funext i
  idx_vars i
  pointwise [sum_d01, sum_d02]
  simp only [tok_at, prm_at, mul_up, sum_up]
  exact congrArg (fun z : ℝ => (z : EReal)) (Finset.sum_congr rfl fun t _ => mul_comm _ _)

theorem r337 (H : Rows mm p) : val_main_v337 (F := Ideal) (tok x) (tok ct) (row1 mm) (row1 p.g) (lead p.win) (lead p.dw) (row1 p.db) (row1 p.lg) (row1 p.lb) (lead p.pw) (lead4 p.wg) (row1 p.ps) (lead p.wo) = tok fun t => p.dn (p.dhT (p.fwd x ct) t) := by
  unfold val_main_v337 val_main_v336
  rw [r330 (H := H), r29 (H := H)]
  funext i
  idx_vars i
  pointwise [sum_d01, sum_d02]
  simp only [tok_at, prm_at, mul_up]
  rfl

theorem r343 (H : Rows mm p) : val_main_v343 (F := Ideal) (tok x) (tok ct) (row1 mm) (row1 p.g) (lead p.win) (lead p.dw) (row1 p.db) (row1 p.lg) (row1 p.lb) (lead p.pw) (lead4 p.wg) (row1 p.ps) (lead p.wo) = up1 fun d => ∑ t, p.dn (p.dhT (p.fwd x ct) t) d * xh (x t) d := by
  unfold val_main_v343 val_main_cst_68 val_main_v340 val_main_v339 val_main_cst_67 val_main_v338
  rw [r24, r337 (H := H)]
  funext i
  idx_vars i
  pointwise [sum_d01, sum_d02]
  simp only [tok_at, up1_at, mul_up, sum_up]
  exact congrArg (fun z : ℝ => (z : EReal)) (Finset.sum_congr rfl fun t _ => mul_comm _ _)

theorem r342 (H : Rows mm p) : val_main_v342 (F := Ideal) (tok x) (tok ct) (row1 mm) (row1 p.g) (lead p.win) (lead p.dw) (row1 p.db) (row1 p.lg) (row1 p.lb) (lead p.pw) (lead4 p.wg) (row1 p.ps) (lead p.wo) = tok fun t => p.dxh (p.dhT (p.fwd x ct) t) := by
  unfold val_main_v342 val_main_v341
  rw [r337 (H := H), r25]
  funext i
  idx_vars i
  pointwise [sum_d01, sum_d02]
  simp only [tok_at, prm_at, mul_up]
  rfl

theorem r355 (H : Rows mm p) : val_main_v355 (F := Ideal) (tok x) (tok ct) (row1 mm) (row1 p.g) (lead p.win) (lead p.dw) (row1 p.db) (row1 p.lg) (row1 p.lb) (lead p.pw) (lead4 p.wg) (row1 p.ps) (lead p.wo) = tok fun t _ => (∑ e, x t e * p.dxh (p.dhT (p.fwd x ct) t) e) * (-(1 / 2) * (rs (x t) * rs (x t) * rs (x t))) / 1024 := by
  unfold val_main_v355 val_main_v354 val_main_v353 val_main_cst_71 val_main_v352 val_main_v351 val_main_cst_70 val_main_v350 val_main_v346 val_main_v345 val_main_cst_69 val_main_v344
  rw [r342 (H := H), r22]
  funext i
  idx_vars i
  pointwise [sum_d01, sum_d02]
  simp only [tok_at, col_at, mul_up, sum_up, mean_up]

theorem r359 (H : Rows mm p) : val_main_v359 (F := Ideal) (tok x) (tok ct) (row1 mm) (row1 p.g) (lead p.win) (lead p.dw) (row1 p.db) (row1 p.lg) (row1 p.lb) (lead p.pw) (lead4 p.wg) (row1 p.ps) (lead p.wo) = tok fun t => p.gx (ct t) (x t) (p.dhT (p.fwd x ct) t) := by
  unfold val_main_v359 val_main_v358 val_main_v357 val_main_v356 val_main_v349 val_main_v348 val_main_v347
  rw [r342 (H := H), r19, r355 (H := H)]
  funext i
  idx_vars i
  pointwise [sum_d01, sum_d02]
  simp only [tok_at, col_at, mul_up, add_up]
  unfold Par.gx; rw [← rmsb_eq]; congr 1; ring

theorem r371 (H : Rows mm p) : val_main_v371 (F := Ideal) (tok x) (tok ct) (row1 mm) (row1 p.g) (lead p.win) (lead p.dw) (row1 p.db) (row1 p.lg) (row1 p.lb) (lead p.pw) (lead4 p.wg) (row1 p.ps) (lead p.wo) = up2 (six p x ct) := by
  unfold val_main_v371 val_main_v370 val_main_v369 val_main_cst_77 val_main_v368 val_main_cst_76 val_main_v367 val_main_cst_75 val_main_v366 val_main_v365 val_main_cst_74 val_main_v364 val_main_v363 val_main_cst_73 val_main_v362 val_main_v361 val_main_cst_72
  rw [r332 (H := H), r335 (H := H), r195 (H := H)]
  funext i
  idx_vars i
  pointwise [sum_d01, sum_d02]
  simp only [prm_at, up2_at, zero_up]
  rcases i0 with ⟨k, hk⟩
  dsimp only
  have hi := i1.isLt
  interval_cases k
  · rw [dif_pos (by omega)]
    exact congrArg (fun d => ((∑ t, p.dhT (p.fwd x ct) t d : ℝ) : EReal)) (Fin.ext (by simp))
  · rw [dif_neg (by omega), dif_pos (by omega)]
    exact congrArg (fun d => ((∑ t, p.dhT (p.fwd x ct) t d * p.nrm (x t) d : ℝ) : EReal)) (Fin.ext (by simp))
  · rw [dif_neg (by omega), dif_neg (by omega), dif_pos (by omega)]
    exact congrArg (fun d => ((∑ t, ct t d * p.fY x t d : ℝ) : EReal)) (Fin.ext (by show 2 * 1024 + i1.val - 1024 - 1024 = i1.val; omega))
  · rw [dif_neg (by omega), dif_neg (by omega), dif_neg (by omega), dif_pos (by omega)]
    rfl
  · rw [dif_neg (by omega), dif_neg (by omega), dif_neg (by omega), dif_neg (by omega), dif_pos (by omega)]
    rfl
  · rw [dif_neg (by omega), dif_neg (by omega), dif_neg (by omega), dif_neg (by omega), dif_neg (by omega)]
    rfl

theorem r385 (H : Rows mm p) : val_main_v385 (F := Ideal) (tok x) (tok ct) (row1 mm) (row1 p.g) (lead p.win) (lead p.dw) (row1 p.db) (row1 p.lg) (row1 p.lb) (lead p.pw) (lead4 p.wg) (row1 p.ps) (lead p.wo) = up2 fun i d => ∑ t, p.vd (p.fwd x ct) t i d := by
  unfold val_main_v385 val_main_v384 val_main_cst_78 val_main_v383 val_main_v382 val_main_v381 val_main_v360
  rw [r371 (H := H), r343 (H := H)]
  funext i
  idx_vars i
  pointwise [sum_d01, sum_d02]
  simp only [up1_at, up2_at, zero_up]
  rcases i0 with ⟨k, hk⟩
  interval_cases k
  all_goals first | rfl | exact congrArg (fun z : ℝ => (z : EReal)) Finset.sum_const_zero.symm

theorem r387 (H : Rows mm p) : val_main_v387 (F := Ideal) (tok x) (tok ct) (row1 mm) (row1 p.g) (lead p.win) (lead p.dw) (row1 p.db) (row1 p.lg) (row1 p.lb) (lead p.pw) (lead4 p.wg) (lead p.wo) = up2 fun i c => ∑ t, p.vc (p.fwd x ct) t i c := by
  unfold val_main_v387 val_main_v386 val_main_cst_79 val_main_v326 val_main_v325 val_main_v324 val_main_v262
  rw [r204 (H := H), r277 (H := H), r271 (H := H), r306 (H := H)]
  funext i
  idx_vars i
  pointwise [sum_d01, sum_d02]
  simp only [up1_at, up2_at, zero_up]
  rcases i0 with ⟨k, hk⟩
  interval_cases k
  all_goals first | rfl | exact congrArg (fun z : ℝ => (z : EReal)) Finset.sum_const_zero.symm

theorem r389 (H : Rows mm p) : val_main_v389 (F := Ideal) (tok x) (tok ct) (row1 mm) (row1 p.g) (lead p.win) (lead p.dw) (row1 p.db) (row1 p.lg) (row1 p.lb) (lead p.pw) (lead p.wo) = up2 fun k c => ∑ t, p.ddw (p.fwd x ct) t k.val c := by
  unfold val_main_v389 val_main_call6_v0 val_main_c_80 val_main_v388 val_main_v327
  rw [r314 (H := H)]
  funext i
  idx_vars i
  pointwise [sum_d01, sum_d02]
  simp only [up2_at]
  by_cases h : i0.val < 31
  · rw [dif_pos h]
    exact congrArg (fun z : ℝ => (z : EReal)) ((ddw_sum _ _ ⟨i0.val, h⟩ _).trans (Finset.sum_congr rfl fun t _ => (if_pos h).symm))
  · rw [dif_neg h]
    rw [Finset.sum_congr rfl fun t _ => show p.ddw (p.fwd x ct) t i0.val i1 = 0 from if_neg h, Finset.sum_const_zero]
    show (((0#32).toInt : ℝ) : EReal) = _
    rw [BitVec.toInt_zero, Int.cast_zero]

theorem r372 (H : Rows mm p) : val_main_v372 (F := Ideal) (tok x) (tok ct) (row1 mm) (row1 p.g) (lead p.win) (lead p.dw) (row1 p.db) (row1 p.lg) (row1 p.lb) (lead p.pw) (lead4 p.wg) (row1 p.ps) (lead p.wo) = up2 fun t => p.gx (ct t) (x t) (p.dhT (p.fwd x ct) t) := by
  unfold val_main_v372
  rw [r359 (H := H)]
  funext i
  idx_vars i
  pointwise [sum_d01, sum_d02]
  simp only [tok_at, up2_at]

theorem r374 (H : Rows mm p) : val_main_v374 (F := Ideal) (tok x) (row1 mm) (row1 p.g) = up2 fun t => p.h (x t) := by
  unfold val_main_v374 val_main_v373
  rw [r33 (H := H)]
  funext i
  idx_vars i
  pointwise [sum_d01, sum_d02]
  simp only [tok_at, up2_at]

theorem r376 (H : Rows mm p) : val_main_v376 (F := Ideal) (tok x) (tok ct) (row1 mm) (row1 p.g) (lead p.win) (lead p.dw) (row1 p.db) (row1 p.lg) (row1 p.lb) (lead p.pw) (lead4 p.wg) (row1 p.ps) (lead p.wo) = up2 fun t => p.duT (p.fwd x ct) t := by
  unfold val_main_v376 val_main_v375
  rw [r329 (H := H)]
  funext i
  idx_vars i
  pointwise [sum_d01, sum_d02]
  simp only [tok_at, up2_at]

theorem r378 (H : Rows mm p) : val_main_v378 (F := Ideal) (tok ct) (row1 mm) = up2 fun t => p.dy (ct t) := by
  unfold val_main_v378 val_main_v377
  rw [r192 (H := H)]
  funext i
  idx_vars i
  pointwise [sum_d01, sum_d02]
  simp only [tok_at, up2_at]

theorem r379 (H : Rows mm p) : val_main_v379 (F := Ideal) (tok x) (tok ct) (row1 mm) (row1 p.g) (lead p.win) (lead p.dw) (row1 p.db) (row1 p.lg) (row1 p.lb) (lead p.wo) = up2 fun a e => ∑ t, p.gpw (p.fwd x ct) t a e := by
  unfold val_main_v379 val_main_v323
  rw [r266 (H := H)]
  funext i
  idx_vars i
  pointwise [sum_d01, sum_d02]
  simp only [up2_at]
  rfl

theorem r380 (H : Rows mm p) : val_main_v380 (F := Ideal) (tok x) (tok ct) (row1 mm) (row1 p.g) (lead p.win) (row1 p.ps) (lead p.wo) = up3 fun i a e => ∑ t, p.gwg (p.fwd x ct) t i a e := by
  unfold val_main_v380 val_main_v263
  rw [r210 (H := H)]
  funext i
  idx_vars i
  pointwise [sum_d01, sum_d02]
  simp only [up3_at]
  rfl

end Cert.Hand.Mix
end
-- ==== Proof.Finite.lean ====
/- An array whose entries are all below infinity in absolute value holds real numbers. -/
module

public import Idealize.ShloMosaic.Lib.Pointwise
public import proofs.«01_k».proof.Proof.Up

@[expose] public section

noncomputable section
namespace Cert.Hand
open Idealize.ShloMosaic

theorem lit_inf : Ideal.ofBits .f32 0x7F800000#32 = ⊤ := by
  simp [Ideal.ofBits, Ideal.ieee]

theorem real_of_mask {s : Shape} (X : FVec Ideal s .f32)
    (h : (⟨0, ![]⟩ : Shape).BroadcastsInDim s (![] : Fin 0 → Fin s.rank))
    (hm : cmpf (F := Ideal) .olt (Host.absf X) (broadcastInDim s ![] h (constant ⟨0, ![]⟩ .f32 0x7F800000#32)) = fun _ => 1#1)
    (i : s.Idx) : X i = (((X i : EReal).toReal : ℝ) : EReal) := by
  have e := congrFun hm i
  pointwise at e
  rw [lit_inf] at e
  have lt : max (X i : EReal) (-(X i : EReal)) < ⊤ := by
    by_contra hn
    have : decide (FloatOps.absf (F := Ideal) (X i) < (⊤ : EReal)) = false := decide_eq_false hn
    rw [this] at e
    exact absurd e (by decide)
  refine (EReal.coe_toReal ?_ ?_).symm
  · exact fun ht => absurd (lt_of_le_of_lt (le_max_left _ _) lt) (by rw [ht]; exact lt_irrefl _)
  · exact fun hb => absurd (lt_of_le_of_lt (le_max_right _ _) lt) (by rw [hb]; exact lt_irrefl _)

end Cert.Hand
end
-- ==== Proof.Mix.Final.lean ====
/- From finite arguments to the claim's values: every result of the kernel equals the reference's. -/
module

public import proofs.«01_k».proof.Proof.Mix.Arrays
public import proofs.«01_k».proof.Proof.Mix.RefB
public import proofs.«01_k».proof.Proof.Finite
public import proofs.«01_k».proof.Defs

@[expose] public section
set_option maxRecDepth 16384
set_option maxHeartbeats 1000000

noncomputable section
namespace Cert.Hand.Mix
open Idealize.ShloMosaic Idealize.ShloMosaic.Pipeline Cert.Hand Cert.Kernel2Ideal Cert.Kernel2Ideal.Gen Cert.Reference2Ideal.Read

/-- The side conditions of the precondition's operations. -/
theorem preFacts : Cert.Pre_finite2.Facts where
  bcast_S_S1x2048x1024 := by decide
  bcast_S_S1x6144 := by decide
  bcast_S_S1x1024 := by decide
  bcast_S_S1x1024x1536 := by decide
  bcast_S_S1x31x512 := by decide
  bcast_S_S1x512 := by decide
  bcast_S_S1x512x512 := by decide
  bcast_S_S1x4x128x128 := by decide
  bcast_S_S1x1024x1024 := by decide

variable (m : (ℓ : Loc nD τ sig) → Buf (Elt Ideal) ℓ) (c : Dev nD)

/-- The parameters that arrays of extended reals stand for. -/
def parArgs (mm : Fin 6144 → ℝ) (a3 : S1x1024.Idx → EReal) (a4 : S1x1024x1536.Idx → EReal) (a5 : S1x31x512.Idx → EReal)
    (a6 a7 a8 : S1x512.Idx → EReal) (a9 : S1x512x512.Idx → EReal) (a10 : S1x4x128x128.Idx → EReal) (a11 : S1x512.Idx → EReal)
    (a12 : S1x1024x1024.Idx → EReal) : Par where
  sh d := mm ⟨d.val, by omega⟩
  sc d := mm ⟨1024 + d.val, by omega⟩
  gt d := mm ⟨2048 + d.val, by omega⟩
  g d := (a3 (ix2 0 d)).toReal
  win d e := (a4 (ix3 0 d e)).toReal
  dw k e := (a5 (ix3 0 k e)).toReal
  db e := (a6 (ix2 0 e)).toReal
  lg e := (a7 (ix2 0 e)).toReal
  lb e := (a8 (ix2 0 e)).toReal
  pw a e := (a9 (ix3 0 a e)).toReal
  wg i a e := (a10 (ix4 0 i a e)).toReal
  ps e := (a11 (ix2 0 e)).toReal
  wo a e := (a12 (ix3 0 a e)).toReal

theorem args_of_pre (h : Cert.Pre_Kernel2Ideal_finite2 (hPre_finite2 := preFacts) m) : ∃ x ct mm p, Args m c x ct mm p := by
  obtain ⟨h0, h1, h2, h3, h4, h5, h6, h7, h8, h9, h10, h11, h12⟩ := h c
  refine ⟨fun t d => (m (c, Proc.tc.devRef main_arg0) (ix3 0 t d) : EReal).toReal,
    fun t d => (m (c, Proc.tc.devRef main_arg1) (ix3 0 t d) : EReal).toReal,
    fun q => (m (c, Proc.tc.devRef main_arg2) (ix2 0 q) : EReal).toReal,
    parArgs (fun q => (m (c, Proc.tc.devRef main_arg2) (ix2 0 q) : EReal).toReal)
      (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)),
    ⟨?_, ?_, ?_, ?_, ?_, ?_, ?_, ?_, ?_, ?_, ?_, ?_, ?_, ⟨rfl, rfl, rfl⟩⟩⟩
  · funext i
    refine (real_of_mask _ _ h0 i).trans ?_
    idx_vars i
    obtain rfl : i0 = 0 := Subsingleton.elim _ _
    rfl
  · funext i
    refine (real_of_mask _ _ h1 i).trans ?_
    idx_vars i
    obtain rfl : i0 = 0 := Subsingleton.elim _ _
    rfl
  · funext i
    refine (real_of_mask _ _ h2 i).trans ?_
    idx_vars i
    obtain rfl : i0 = 0 := Subsingleton.elim _ _
    rfl
  · funext i
    refine (real_of_mask _ _ h3 i).trans ?_
    idx_vars i
    obtain rfl : i0 = 0 := Subsingleton.elim _ _
    rfl
  · funext i
    refine (real_of_mask _ _ h4 i).trans ?_
    idx_vars i
    obtain rfl : i0 = 0 := Subsingleton.elim _ _
    rfl
  · funext i
    refine (real_of_mask _ _ h5 i).trans ?_
    idx_vars i
    obtain rfl : i0 = 0 := Subsingleton.elim _ _
    rfl
  · funext i
    refine (real_of_mask _ _ h6 i).trans ?_
    idx_vars i
    obtain rfl : i0 = 0 := Subsingleton.elim _ _
    rfl
  · funext i
    refine (real_of_mask _ _ h7 i).trans ?_
    idx_vars i
    obtain rfl : i0 = 0 := Subsingleton.elim _ _
    rfl
  · funext i
    refine (real_of_mask _ _ h8 i).trans ?_
    idx_vars i
    obtain rfl : i0 = 0 := Subsingleton.elim _ _
    rfl
  · funext i
    refine (real_of_mask _ _ h9 i).trans ?_
    idx_vars i
    obtain rfl : i0 = 0 := Subsingleton.elim _ _
    rfl
  · funext i
    refine (real_of_mask _ _ h10 i).trans ?_
    idx_vars i
    obtain rfl : i0 = 0 := Subsingleton.elim _ _
    rfl
  · funext i
    refine (real_of_mask _ _ h11 i).trans ?_
    idx_vars i
    obtain rfl : i0 = 0 := Subsingleton.elim _ _
    rfl
  · funext i
    refine (real_of_mask _ _ h12 i).trans ?_
    idx_vars i
    obtain rfl : i0 = 0 := Subsingleton.elim _ _
    rfl

/-- Arrays that are the arguments of the launch. -/
abbrev Same (a0 : S1x2048x1024.Idx → EReal) (a1 : S1x2048x1024.Idx → EReal) (a2 : S1x6144.Idx → EReal) (a3 : S1x1024.Idx → EReal) (a4 : S1x1024x1536.Idx → EReal) (a5 : S1x31x512.Idx → EReal) (a6 : S1x512.Idx → EReal) (a7 : S1x512.Idx → EReal) (a8 : S1x512.Idx → EReal) (a9 : S1x512x512.Idx → EReal) (a10 : S1x4x128x128.Idx → EReal) (a11 : S1x512.Idx → EReal) (a12 : S1x1024x1024.Idx → EReal) : Prop :=
  a0 = m (c, Proc.tc.devRef main_arg0) ∧ a1 = m (c, Proc.tc.devRef main_arg1) ∧ a2 = m (c, Proc.tc.devRef main_arg2) ∧ a3 = m (c, Proc.tc.devRef main_arg3) ∧ a4 = m (c, Proc.tc.devRef main_arg4) ∧ a5 = m (c, Proc.tc.devRef main_arg5) ∧ a6 = m (c, Proc.tc.devRef main_arg6) ∧ a7 = m (c, Proc.tc.devRef main_arg7) ∧ a8 = m (c, Proc.tc.devRef main_arg8) ∧ a9 = m (c, Proc.tc.devRef main_arg9) ∧ a10 = m (c, Proc.tc.devRef main_arg10) ∧ a11 = m (c, Proc.tc.devRef main_arg11) ∧ a12 = m (c, Proc.tc.devRef main_arg12)

variable {m c} {x ct : Fin 2048 → Fin 1024 → ℝ} {mm : Fin 6144 → ℝ} {p : Par} (A : Args m c x ct mm p)
  {a0 : S1x2048x1024.Idx → EReal} {a1 : S1x2048x1024.Idx → EReal} {a2 : S1x6144.Idx → EReal} {a3 : S1x1024.Idx → EReal} {a4 : S1x1024x1536.Idx → EReal} {a5 : S1x31x512.Idx → EReal} {a6 : S1x512.Idx → EReal} {a7 : S1x512.Idx → EReal} {a8 : S1x512.Idx → EReal} {a9 : S1x512x512.Idx → EReal} {a10 : S1x4x128x128.Idx → EReal} {a11 : S1x512.Idx → EReal} {a12 : S1x1024x1024.Idx → EReal}
include A

theorem fin0 (e : Same m c a0 a1 a2 a3 a4 a5 a6 a7 a8 a9 a10 a11 a12) : val_main_v372 (F := Ideal) a0 a1 a2 a3 a4 a5 a6 a7 a8 a9 a10 a11 a12 = (dats m 0 c).arrAt 17 grid0.N := by
  obtain ⟨rfl, rfl, rfl, rfl, rfl, rfl, rfl, rfl, rfl, rfl, rfl, rfl, rfl⟩ := e
  rw [A.a0, A.a1, A.a2, A.a3, A.a4, A.a5, A.a6, A.a7, A.a8, A.a9, A.a10, A.a11, A.a12]
  rw [arr17 m c A]; exact r372 _ _ _ _ A.rows

theorem fin1 (e : Same m c a0 a1 a2 a3 a4 a5 a6 a7 a8 a9 a10 a11 a12) : val_main_v374 (F := Ideal) a0 a2 a3 = (dats m 0 c).arrAt 18 grid0.N := by
  obtain ⟨rfl, rfl, rfl, rfl, rfl, rfl, rfl, rfl, rfl, rfl, rfl, rfl, rfl⟩ := e
  rw [A.a0, A.a2, A.a3]
  rw [arr18 m c A]; exact r374 _ _ _ A.rows

theorem fin2 (e : Same m c a0 a1 a2 a3 a4 a5 a6 a7 a8 a9 a10 a11 a12) : val_main_v376 (F := Ideal) a0 a1 a2 a3 a4 a5 a6 a7 a8 a9 a10 a11 a12 = (dats m 0 c).arrAt 19 grid0.N := by
  obtain ⟨rfl, rfl, rfl, rfl, rfl, rfl, rfl, rfl, rfl, rfl, rfl, rfl, rfl⟩ := e
  rw [A.a0, A.a1, A.a2, A.a3, A.a4, A.a5, A.a6, A.a7, A.a8, A.a9, A.a10, A.a11, A.a12]
  rw [arr19 m c A]; exact r376 _ _ _ _ A.rows

theorem fin3 (e : Same m c a0 a1 a2 a3 a4 a5 a6 a7 a8 a9 a10 a11 a12) : val_main_v378 (F := Ideal) a1 a2 = (dats m 0 c).arrAt 20 grid0.N := by
  obtain ⟨rfl, rfl, rfl, rfl, rfl, rfl, rfl, rfl, rfl, rfl, rfl, rfl, rfl⟩ := e
  rw [A.a1, A.a2]
  rw [arr20 m c A]; exact r378 _ _ _ A.rows

theorem fin4 (e : Same m c a0 a1 a2 a3 a4 a5 a6 a7 a8 a9 a10 a11 a12) : val_main_v379 (F := Ideal) a0 a1 a2 a3 a4 a5 a6 a7 a8 a12 = (dats m 0 c).arrAt 21 grid0.N := by
  obtain ⟨rfl, rfl, rfl, rfl, rfl, rfl, rfl, rfl, rfl, rfl, rfl, rfl, rfl⟩ := e
  rw [A.a0, A.a1, A.a2, A.a3, A.a4, A.a5, A.a6, A.a7, A.a8, A.a12]
  rw [arr21 m c A]; exact r379 _ _ _ _ A.rows

theorem fin5 (e : Same m c a0 a1 a2 a3 a4 a5 a6 a7 a8 a9 a10 a11 a12) : val_main_v380 (F := Ideal) a0 a1 a2 a3 a4 a11 a12 = (dats m 0 c).arrAt 22 grid0.N := by
  obtain ⟨rfl, rfl, rfl, rfl, rfl, rfl, rfl, rfl, rfl, rfl, rfl, rfl, rfl⟩ := e
  rw [A.a0, A.a1, A.a2, A.a3, A.a4, A.a11, A.a12]
  rw [arr22 m c A]; exact r380 _ _ _ _ A.rows

theorem fin6 (e : Same m c a0 a1 a2 a3 a4 a5 a6 a7 a8 a9 a10 a11 a12) : val_main_v385 (F := Ideal) a0 a1 a2 a3 a4 a5 a6 a7 a8 a9 a10 a11 a12 = (dats m 0 c).arrAt 23 grid0.N := by
  obtain ⟨rfl, rfl, rfl, rfl, rfl, rfl, rfl, rfl, rfl, rfl, rfl, rfl, rfl⟩ := e
  rw [A.a0, A.a1, A.a2, A.a3, A.a4, A.a5, A.a6, A.a7, A.a8, A.a9, A.a10, A.a11, A.a12]
  rw [arr23 m c A]; exact r385 _ _ _ _ A.rows

theorem fin7 (e : Same m c a0 a1 a2 a3 a4 a5 a6 a7 a8 a9 a10 a11 a12) : val_main_v387 (F := Ideal) a0 a1 a2 a3 a4 a5 a6 a7 a8 a9 a10 a12 = (dats m 0 c).arrAt 24 grid0.N := by
  obtain ⟨rfl, rfl, rfl, rfl, rfl, rfl, rfl, rfl, rfl, rfl, rfl, rfl, rfl⟩ := e
  rw [A.a0, A.a1, A.a2, A.a3, A.a4, A.a5, A.a6, A.a7, A.a8, A.a9, A.a10, A.a12]
  rw [arr24 m c A]; exact r387 _ _ _ _ A.rows

theorem fin8 (e : Same m c a0 a1 a2 a3 a4 a5 a6 a7 a8 a9 a10 a11 a12) : val_main_v389 (F := Ideal) a0 a1 a2 a3 a4 a5 a6 a7 a8 a9 a12 = (dats m 0 c).arrAt 25 grid0.N := by
  obtain ⟨rfl, rfl, rfl, rfl, rfl, rfl, rfl, rfl, rfl, rfl, rfl, rfl, rfl⟩ := e
  rw [A.a0, A.a1, A.a2, A.a3, A.a4, A.a5, A.a6, A.a7, A.a8, A.a9, A.a12]
  rw [arr25 m c A]; exact r389 _ _ _ _ A.rows

end Cert.Hand.Mix
end
-- ==== Proof.Mix.KRun.lean ====
/- The kernel's run: its results at the arrays its write-backs leave, its arguments unchanged. -/
module

public import proofs.«01_k».proof.Proof.Gen.Kernel2Ideal.Value
public import proofs.«01_k».proof.Proof.Gen.Kernel2Ideal.Frame
public import Idealize.ShloMosaic.PureOps.Ideal

@[expose] public section
set_option maxRecDepth 16384
set_option maxHeartbeats 2000000

noncomputable section
namespace Cert.Hand.Mix.KRun
open Idealize.ShloMosaic Idealize.SL.Sem Cert.Kernel2Ideal Cert.Kernel2Ideal.Gen

variable (m : (ℓ : Loc nD τ sig) → Buf (Elt Ideal) ℓ) (ρ : Dev nD → PrngReg)

theorem values : θ_run (defs (F := Ideal)) (onTc (τ := τ) (main (F := Ideal))) ⟨m, fun _ => 0, ρ⟩ fun r => ∀ c : Dev nD,
      r.2.mem (c.tc.loc main_v188_0) = (dats m 0 c).arrAt 17 grid0.N
      ∧ r.2.mem (c.tc.loc main_v188_1) = (dats m 0 c).arrAt 18 grid0.N
      ∧ r.2.mem (c.tc.loc main_v188_2) = (dats m 0 c).arrAt 19 grid0.N
      ∧ r.2.mem (c.tc.loc main_v188_3) = (dats m 0 c).arrAt 20 grid0.N
      ∧ r.2.mem (c.tc.loc main_v188_4) = (dats m 0 c).arrAt 21 grid0.N
      ∧ r.2.mem (c.tc.loc main_v188_5) = (dats m 0 c).arrAt 22 grid0.N
      ∧ r.2.mem (c.tc.loc main_v188_6) = (dats m 0 c).arrAt 23 grid0.N
      ∧ r.2.mem (c.tc.loc main_v188_7) = (dats m 0 c).arrAt 24 grid0.N
      ∧ r.2.mem (c.tc.loc main_v188_8) = (dats m 0 c).arrAt 25 grid0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12) :=
  (θ_run defs _ _).mono (fun r h c => ⟨(h.1 c).1 17, (h.1 c).1 18, (h.1 c).1 19, (h.1 c).1 20, (h.1 c).1 21, (h.1 c).1 22, (h.1 c).1 23, (h.1 c).1 24, (h.1 c).1 25, h.2 c⟩) (θ_run_and (run_main m ρ) (unchanged m ρ))

end Cert.Hand.Mix.KRun
end
-- ==== Proof.Mix.RefRun.lean ====
/- The reference's run: its results at the stages' values. -/
module

public import proofs.«01_k».proof.Proof.Gen.Reference2Ideal.Run
public import proofs.«01_k».proof.Proof.Gen.Reference2Ideal.Read

@[expose] public section
set_option maxRecDepth 16384
set_option maxHeartbeats 2000000

noncomputable section
namespace Cert.Hand.Mix.RefRun
open Idealize.ShloMosaic Idealize.SL.Sem Cert.Reference2Ideal Cert.Reference2Ideal.Gen Cert.Reference2Ideal.Read Idealize.ShloMosaic.StableHlo

variable (m : (ℓ : Loc nD τ sig) → Buf (Elt Ideal) ℓ) (ρ : Dev nD → PrngReg)

theorem values : θ_run (defs (F := Ideal)) (onTc (τ := τ) (main (F := Ideal))) ⟨m, fun _ => 0, ρ⟩ fun r => ∀ c : Dev nD,
      r.2.mem (c.tc.loc main_v372) = val_main_v372 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12))
      ∧ r.2.mem (c.tc.loc main_v374) = val_main_v374 (m (c, Proc.tc.devRef main_arg0)) (m (c, Proc.tc.devRef main_arg2)) (m (c, Proc.tc.devRef main_arg3))
      ∧ r.2.mem (c.tc.loc main_v376) = val_main_v376 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12))
      ∧ r.2.mem (c.tc.loc main_v378) = val_main_v378 (m (c, Proc.tc.devRef main_arg1)) (m (c, Proc.tc.devRef main_arg2))
      ∧ r.2.mem (c.tc.loc main_v379) = val_main_v379 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg12))
      ∧ r.2.mem (c.tc.loc main_v380) = val_main_v380 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg11)) (m (c, Proc.tc.devRef main_arg12))
      ∧ r.2.mem (c.tc.loc main_v385) = val_main_v385 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12))
      ∧ r.2.mem (c.tc.loc main_v387) = val_main_v387 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg12))
      ∧ r.2.mem (c.tc.loc main_v389) = val_main_v389 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg12))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12) :=
  (θ_run defs _ _).mono (fun r h c => ⟨(h c).1.trans (val_main_v372_eq _), (h c).2.1.trans (val_main_v374_eq _), (h c).2.2.1.trans (val_main_v376_eq _), (h c).2.2.2.1.trans (val_main_v378_eq _), (h c).2.2.2.2.1.trans (val_main_v379_eq _), (h c).2.2.2.2.2.1.trans (val_main_v380_eq _), (h c).2.2.2.2.2.2.1.trans (val_main_v385_eq _), (h c).2.2.2.2.2.2.2.1.trans (val_main_v387_eq _), (h c).2.2.2.2.2.2.2.2.1.trans (val_main_v389_eq _), (h c).2.2.2.2.2.2.2.2.2⟩) (Cert.Reference2Ideal.Value.run m ρ)

end Cert.Hand.Mix.RefRun
end
-- ==== Proof.Fwd.Pay.lean ====
/- Each value the forward kernel computes at one grid point, read at blocks that hold real numbers: the matching
   function of the token's row. -/
module

public import proofs.«01_k».proof.Proof.Gen.Kernel3Ideal.Value
public import proofs.«01_k».proof.Proof.Mix.Pay
public import proofs.«01_k».proof.Proof.Mix.Fwd

@[expose] public section
set_option maxRecDepth 16384

noncomputable section
namespace Cert.Hand.Mix.Par
open Cert.Hand
variable (p : Par)

/-- The input product of one row. -/
def ur (x : Fin 1024 → ℝ) (q : Fin 1536) : ℝ := ∑ d, p.h x d * p.win d q

/-- The bias and the first `n` taps of the convolution at row `s` of a sequence that starts 32 rows early. -/
def cvs (D : ℕ → Fin 512 → ℝ) (n s : ℕ) (c : Fin 512) : ℝ := p.db c + ∑ k ∈ Finset.range n, p.tap k c * D (2 + k + s) c
def zr (D : ℕ → Fin 512 → ℝ) (s : ℕ) (c : Fin 512) : ℝ := ctr (p.cvs D 31 s) c * rs5 (ctr (p.cvs D 31 s))
def ycr (z : Fin 512 → ℝ) (c : Fin 512) : ℝ := ∑ a, p.sw z a * p.pw a c
def yor (q : Fin 1024 → ℝ) (d : Fin 1024) : ℝ := ∑ a, q a * p.wo a d

theorem cvs_30 (D : ℕ → Fin 512 → ℝ) (s : ℕ) (c : Fin 512) : p.cvs D 30 s c + p.tap 30 c * D (32 + s) c = p.cvs D 31 s c := by
  unfold cvs
  rw [Finset.sum_range_succ _ 30, add_assoc]

end Cert.Hand.Mix.Par

namespace Cert.Hand.Fwd
open Idealize.ShloMosaic Cert.Hand Cert.Hand.Mix Cert.Kernel3Ideal Cert.Kernel3Ideal.Gen
open Cert.Hand.Ffn (xh rmsb)
open Cert.Hand.Mix.Par (cvs_30)

def cacc (p : Par) (D : ℕ → Fin 512 → ℝ) (n : ℕ) : (⟨2, ![256, 512]⟩ : Shape).Idx → EReal :=
  up2 fun (r : Fin 256) => p.cvs D n r.val

theorem cacc_at (p : Par) (D : ℕ → Fin 512 → ℝ) (n : ℕ) (r : Fin 256) (c : Fin 512) :
    cacc p D n (ix2 r c) = ((p.cvs D n r.val c : ℝ) : EReal) := rfl

/-- The pooling inputs of a tile, in a sequence that starts 16 rows early. -/
def vin (E : ℕ → Fin 512 → ℝ) (r : Fin 256) : Fin 512 → ℝ := E (16 + r.val)

/-- The sum of a group's last `n` rows at row `s` of a sequence that starts 16 rows early. -/
def qsum (E : ℕ → Fin 512 → ℝ) (n s : ℕ) (i : Fin 4) (e : Fin 128) : ℝ := ∑ d ∈ Finset.range n, E (16 - d + s) (grp i e)

/-- The pooled input of a group, of all groups, and its product with the group's weight. -/
def pq (E : ℕ → Fin 512 → ℝ) (v : Fin 512 → ℝ) (t s : ℕ) (i : Fin 4) (e : Fin 128) : ℝ :=
  qsum E (wid i) s i e / cnt i t - v (grp i e)
def pr (E : ℕ → Fin 512 → ℝ) (v : Fin 512 → ℝ) (t s : ℕ) (c : Fin 512) : ℝ := pq E v t s (gof c) (rof c)
def _root_.Cert.Hand.Mix.Par.yq (p : Par) (E : ℕ → Fin 512 → ℝ) (v : Fin 512 → ℝ) (t s : ℕ) (i : Fin 4) (e : Fin 128) : ℝ :=
  ∑ a, pq E v t s i a * p.wg i a e
def _root_.Cert.Hand.Mix.Par.yrow (p : Par) (E : ℕ → Fin 512 → ℝ) (v z : Fin 512 → ℝ) (t s : ℕ) (q : Fin 1024) : ℝ :=
  if h : q.val < 512 then p.ycr z ⟨q.val, h⟩
  else p.yq E v t s (gof ⟨q.val - 512, by omega⟩) (rof ⟨q.val - 512, by omega⟩) * p.ps ⟨q.val - 512, by omega⟩

section
variable (E : ℕ → Fin 512 → ℝ) (s : ℕ) (i : Fin 4) (e : Fin 128)

theorem q2 : E (16 + s) (grp i e) + E (15 + s) (grp i e) = qsum E 2 s i e := by
  simp only [qsum, Finset.sum_range_succ, Finset.sum_range_zero, zero_add]
theorem q8 : E (16 + s) (grp i e) + E (15 + s) (grp i e) + E (14 + s) (grp i e) + E (13 + s) (grp i e) + E (12 + s) (grp i e)
    + E (11 + s) (grp i e) + E (10 + s) (grp i e) + E (9 + s) (grp i e) = qsum E 8 s i e := by
  simp only [qsum, Finset.sum_range_succ, Finset.sum_range_zero, zero_add]
theorem q16 : qsum E 13 s i e + E (3 + s) (grp i e) + E (2 + s) (grp i e) + E (1 + s) (grp i e) = qsum E 16 s i e := by
  simp only [qsum, Finset.sum_range_succ, Finset.sum_range_zero, zero_add]
end

theorem rs5_up (q : Fin 512 → ℝ) :
    Ideal.rsqrt ((((∑ c, q c * q c) / 512 : ℝ) : EReal) + Ideal.ofBits .f32 0x358637BD#32) = ((rs5 q : ℝ) : EReal) := by
  rw [lit_eps, add_up, rsqrt_up (vs_pos q)]; rfl

theorem of_chip0 (q : Fin 1536) (h : q.val < 384) : chip 0 ⟨q.val, h⟩ = q := Fin.ext (by simp only [chip]; omega)
theorem of_chip1 (q : Fin 1536) (h0 : ¬q.val < 384) (h : q.val - 384 < 384) : chip 1 ⟨q.val - 384, h⟩ = q :=
  Fin.ext (by simp only [chip]; omega)
theorem of_chip2 (q : Fin 1536) (h0 : ¬q.val < 384) (h1 : ¬q.val - 384 < 384) (h : q.val - 384 - 384 < 384) :
    chip 2 ⟨q.val - 384 - 384, h⟩ = q := Fin.ext (by simp only [chip]; omega)
theorem of_chip3 (q : Fin 1536) (h0 : ¬q.val < 384) (h1 : ¬q.val - 384 < 384) (h2 : ¬q.val - 384 - 384 < 384) :
    chip 3 ⟨q.val - 384 - 384 - 384, by omega⟩ = q := Fin.ext (by simp only [chip]; omega)

variable (p : Par) (X : Fin 256 → Fin 1024 → ℝ) (D E : ℕ → Fin 512 → ℝ) (V Z : Fin 256 → Fin 512 → ℝ) (Q : Fin 256 → Fin 1024 → ℝ)

theorem pay3_up : k0_pay3 (F := Ideal)  = up2 fun _ _ => 0 := by
  funext i
  idx_vars i
  pointwise [k0_pay3]
  simp only [up2_at, zero_up]
  try rfl

theorem pay4_up : k0_pay4 (F := Ideal)  = up2 fun _ _ => 0 := by
  funext i
  idx_vars i
  pointwise [k0_pay4]
  simp only [up2_at, zero_up]
  try rfl

theorem pay5_up : k0_pay5 (F := Ideal) (up2 X) = up2 X := by
  funext i
  idx_vars i
  pointwise [k0_pay5]
  try rfl

theorem pay6_up (w : Fin 1024 → ℝ) : k0_pay6 (F := Ideal) (row1 w) = row1 w := by
  funext i
  idx_vars i
  pointwise [k0_pay6]
  try rfl

theorem pay7_up : k0_pay7 (F := Ideal) (up2 X) (row1 p.sh) (row1 p.sc) (row1 p.g) = up2 fun r => p.h (X r) := by
  funext i
  idx_vars i
  pointwise [k0_pay7, pay5_up]
  simp only [up2_at, row1_at, one_up, mul_up, add_up, sum_up, mean_up, rs_up]
  try rfl

theorem pay8_up : k0_pay8 (F := Ideal) (up2 X) (row1 p.sh) (row1 p.sc) (row1 p.g) (g3 fun d k => p.win d (chip 0 k)) = up2 fun r k => p.ur (X r) (chip 0 k) := by
  funext i
  idx_vars i
  pointwise [k0_pay8, pay7_up]
  simp only [up2_at, g3_at, mul_up]
  try rfl

theorem pay9_up : k0_pay9 (F := Ideal) (up2 fun r => p.h (X r)) (up2 fun r k => p.ur (X r) (chip 0 k)) (g3 fun d k => p.win d (chip 1 k)) (g3 fun d k => p.win d (chip 2 k)) (g3 fun d k => p.win d (chip 3 k)) = up2 fun r => p.ur (X r) := by
  funext i
  idx_vars i
  pointwise [k0_pay9]
  by_cases h0 : i1.val < 384
  · simp only [dif_pos h0, up2_at, g3_at, mul_up, sum_up, of_chip0 i1 h0]
    try rfl
  by_cases h1 : i1.val - 384 < 384
  · simp only [dif_neg h0, dif_pos h1, up2_at, g3_at, mul_up, sum_up, of_chip1 i1 h0 h1]
    try rfl
  by_cases h2 : i1.val - 384 - 384 < 384
  · simp only [dif_neg h0, dif_neg h1, dif_pos h2, up2_at, g3_at, mul_up, sum_up, of_chip2 i1 h0 h1 h2]
    try rfl
  simp only [dif_neg h0, dif_neg h1, dif_neg h2, up2_at, g3_at, mul_up, sum_up, of_chip3 i1 h0 h1 h2]
  try rfl

theorem pay10_up : k0_pay10 (F := Ideal) (up2 fun r => p.h (X r)) (up2 fun r k => p.ur (X r) (chip 0 k)) (g3 fun d k => p.win d (chip 1 k)) (g3 fun d k => p.win d (chip 2 k)) (g3 fun d k => p.win d (chip 3 k)) = up2 fun r => uv (p.ur (X r)) := by
  funext i
  idx_vars i
  pointwise [k0_pay10, pay9_up]
  simp only [up2_at]
  try rfl

theorem pay11_up : k0_pay11 (F := Ideal) (up2 fun r => p.h (X r)) (up2 fun r k => p.ur (X r) (chip 0 k)) (g3 fun d k => p.win d (chip 1 k)) (g3 fun d k => p.win d (chip 2 k)) (g3 fun d k => p.win d (chip 3 k)) = up2 fun r => glu (p.ur (X r)) := by
  funext i
  idx_vars i
  pointwise [k0_pay11, pay9_up]
  simp only [up2_at, zero_sub, neg_up, exp_up, lgs_up, mul_up]
  rfl

theorem pay12_up (o : ℕ) : k0_pay12 (F := Ideal) (win2 D o) = win1 D o := by
  funext i
  idx_vars i
  pointwise [k0_pay12]
  try rfl

theorem pay13_up (o : ℕ) : k0_pay13 (F := Ideal) (win2 D o) = win1 D o := by
  funext i
  idx_vars i
  pointwise [k0_pay13]
  try rfl

theorem pay14_up (o : ℕ) : k0_pay14 (F := Ideal) (win2 D o) = win1 D o := by
  funext i
  idx_vars i
  pointwise [k0_pay14]
  try rfl

theorem pay15_up (o : ℕ) : k0_pay15 (F := Ideal) (win2 D o) = win1 D o := by
  funext i
  idx_vars i
  pointwise [k0_pay15]
  try rfl

theorem pay16_up (o : ℕ) : k0_pay16 (F := Ideal) (win2 D o) = win1 D o := by
  funext i
  idx_vars i
  pointwise [k0_pay16]
  try rfl

theorem pay17_up (o : ℕ) : k0_pay17 (F := Ideal) (win2 D o) = win1 D o := by
  funext i
  idx_vars i
  pointwise [k0_pay17]
  try rfl

theorem pay18_up (o : ℕ) : k0_pay18 (F := Ideal) (win2 D o) = win1 D o := by
  funext i
  idx_vars i
  pointwise [k0_pay18]
  try rfl

theorem pay19_up : k0_pay19 (F := Ideal) (row1 p.db) = cacc p D 0 := by
  funext i
  idx_vars i
  pointwise [k0_pay19]
  simp only [row1_at, cacc_at]
  simp only [Par.cvs, Finset.sum_range_zero, add_zero]
  try rfl

theorem pay20_up : k0_pay20 (F := Ideal) (cacc p D 0) (row1 (p.tap 0)) (win1 D 2) (row1 (p.tap 1)) (win1 D 3) (row1 (p.tap 2)) (win1 D 4) (row1 (p.tap 3)) (win1 D 5) (row1 (p.tap 4)) (win1 D 6) = cacc p D 5 := by
  funext i
  idx_vars i
  pointwise [k0_pay20]
  simp only [row1_at, win1_at, cacc_at, mul_up, add_up]
  simp only [Par.cvs, Finset.sum_range_succ, Finset.sum_range_zero]
  simp only [← add_assoc, Nat.reduceAdd]
  try rfl

theorem pay21_up : k0_pay21 (F := Ideal) (cacc p D 5) (row1 (p.tap 5)) (win1 D 7) (row1 (p.tap 6)) (win2 D 8) (row1 (p.tap 7)) (win1 D 9) (row1 (p.tap 8)) (win1 D 10) (row1 (p.tap 9)) (win1 D 11) = cacc p D 10 := by
  funext i
  idx_vars i
  pointwise [k0_pay21]
  simp only [row1_at, win2_at, win1_at, cacc_at, mul_up, add_up]
  simp only [Par.cvs, Finset.sum_range_succ, Finset.sum_range_zero]
  simp only [← add_assoc, Nat.reduceAdd]
  try rfl

theorem pay22_up (w : Fin 512 → ℝ) : k0_pay22 (F := Ideal) (row1 w) = row1 w := by
  funext i
  idx_vars i
  pointwise [k0_pay22]
  try rfl

theorem pay24_up (w : Fin 512 → ℝ) : k0_pay24 (F := Ideal) (row1 w) = row1 w := by
  funext i
  idx_vars i
  pointwise [k0_pay24]
  try rfl

theorem pay26_up (w : Fin 512 → ℝ) : k0_pay26 (F := Ideal) (row1 w) = row1 w := by
  funext i
  idx_vars i
  pointwise [k0_pay26]
  try rfl

theorem pay28_up (w : Fin 512 → ℝ) : k0_pay28 (F := Ideal) (row1 w) = row1 w := by
  funext i
  idx_vars i
  pointwise [k0_pay28]
  try rfl

theorem pay23_up : k0_pay23 (F := Ideal) (cacc p D 10) (row1 (p.tap 10)) (win1 D 12) (row1 (p.tap 11)) (win1 D 13) (row1 (p.tap 12)) (win1 D 14) (row1 (p.tap 13)) (win1 D 15) (row1 (p.tap 14)) (win2 D 16) = cacc p D 15 := by
  funext i
  idx_vars i
  pointwise [k0_pay23]
  simp only [row1_at, win2_at, win1_at, cacc_at, mul_up, add_up]
  simp only [Par.cvs, Finset.sum_range_succ, Finset.sum_range_zero]
  simp only [← add_assoc, Nat.reduceAdd]
  try rfl

theorem pay25_up : k0_pay25 (F := Ideal) (cacc p D 15) (row1 (p.tap 15)) (win1 D 17) (row1 (p.tap 16)) (win1 D 18) (row1 (p.tap 17)) (win1 D 19) (row1 (p.tap 18)) (win1 D 20) (row1 (p.tap 19)) (win1 D 21) = cacc p D 20 := by
  funext i
  idx_vars i
  pointwise [k0_pay25]
  simp only [row1_at, win1_at, cacc_at, mul_up, add_up]
  simp only [Par.cvs, Finset.sum_range_succ, Finset.sum_range_zero]
  simp only [← add_assoc, Nat.reduceAdd]
  try rfl

theorem pay27_up : k0_pay27 (F := Ideal) (cacc p D 20) (row1 (p.tap 20)) (win1 D 22) (row1 (p.tap 21)) (win1 D 23) (row1 (p.tap 22)) (win2 D 24) (row1 (p.tap 23)) (win1 D 25) (row1 (p.tap 24)) (win1 D 26) = cacc p D 25 := by
  funext i
  idx_vars i
  pointwise [k0_pay27]
  simp only [row1_at, win2_at, win1_at, cacc_at, mul_up, add_up]
  simp only [Par.cvs, Finset.sum_range_succ, Finset.sum_range_zero]
  simp only [← add_assoc, Nat.reduceAdd]
  try rfl

theorem pay29_up (o : ℕ) : k0_pay29 (F := Ideal) (win1 D o) = win2 D o := by
  funext i
  idx_vars i
  pointwise [k0_pay29]
  try rfl

theorem pay30_up : k0_pay30 (F := Ideal) (cacc p D 25) (row1 (p.tap 25)) (win2 D 27) (row1 (p.tap 26)) (win1 D 28) (row1 (p.tap 27)) (win1 D 29) (row1 (p.tap 28)) (win1 D 30) (row1 (p.tap 29)) (win1 D 31) = cacc p D 30 := by
  funext i
  idx_vars i
  pointwise [k0_pay30]
  simp only [row1_at, win2_at, win1_at, cacc_at, mul_up, add_up]
  simp only [Par.cvs, Finset.sum_range_succ, Finset.sum_range_zero]
  simp only [← add_assoc, Nat.reduceAdd]
  try rfl

theorem pay31_up : k0_pay31 (F := Ideal) (row1 (p.tap 30)) (win2 D 32) = up2 fun r c => p.tap 30 c * D (32 + r.val) c := by
  funext i
  idx_vars i
  pointwise [k0_pay31]
  simp only [up2_at, row1_at, win2_at, mul_up]
  try rfl

theorem pay32_up (o : ℕ) : k0_pay32 (F := Ideal) (win2 D o) = win2 D o := by
  funext i
  idx_vars i
  pointwise [k0_pay32]
  try rfl

theorem pay33_up : k0_pay33 (F := Ideal) (cacc p D 30) (up2 fun r c => p.tap 30 c * D (32 + r.val) c) = up2 fun r => ctr (p.cvs D 31 r.val) := by
  funext i
  idx_vars i
  pointwise [k0_pay33]
  simp only [up2_at, cacc_at, add_up, sum_up, mean512_up, sub_up]
  simp only [ctr, mu, cvs_30]

theorem pay34_up : k0_pay34 (F := Ideal) (cacc p D 30) (up2 fun r c => p.tap 30 c * D (32 + r.val) c) = colv fun r => rs5 (ctr (p.cvs D 31 r.val)) := by
  funext i
  idx_vars i
  pointwise [k0_pay34, pay33_up]
  simp only [up2_at, colv_at, mul_up, sum_up, mean512_up, rs5_up]

theorem pay35_up : k0_pay35 (F := Ideal) (cacc p D 30) (up2 fun r c => p.tap 30 c * D (32 + r.val) c) = up2 fun r => p.zr D r.val := by
  funext i
  idx_vars i
  pointwise [k0_pay35, pay33_up, pay34_up]
  simp only [up2_at, colv_at, mul_up]
  try rfl

theorem pay36_up : k0_pay36 (F := Ideal) (cacc p D 30) (up2 fun r c => p.tap 30 c * D (32 + r.val) c) (row1 p.lg) (row1 p.lb) = up2 fun r => p.sw (p.zr D r.val) := by
  funext i
  idx_vars i
  pointwise [k0_pay36, pay35_up]
  simp only [up2_at, row1_at, mul_up, add_up, zero_sub, neg_up, exp_up, lgs_up]
  rfl

theorem pay37_up : k0_pay37 (F := Ideal) (up2 fun r => p.sw (Z r)) (up2 p.pw) = up2 fun r => p.ycr (Z r) := by
  funext i
  idx_vars i
  pointwise [k0_pay37]
  simp only [up2_at, mul_up]
  try rfl

theorem pay38_up : k0_pay38 (F := Ideal) (up2 (vin E)) = win2 E 16 := by
  funext i
  idx_vars i
  pointwise [k0_pay38]
  try rfl

/-- Token `r` of tile `b`. -/
theorem pay39_at (b : ℕ) (r : Fin 256) (z : Fin 1) : k0_pay39 (BitVec.ofNat 32 b) (ix2 r z) = BitVec.ofNat 32 (b * 256 + r.val) := by
  pointwise [k0_pay39]
  rw [BitVec.ofNat_add, BitVec.ofNat_mul]
  rfl

theorem pay40_up (b : ℕ) (hb : b < 8) : k0_pay40 (F := Ideal) (BitVec.ofNat 32 b) (up2 V) (pwin E 16 0) (pwin E 15 0) = up2 fun r => pq E (V r) (b * 256 + r.val) r.val 0 := by
  funext i
  idx_vars i
  pointwise [k0_pay40]
  rw [pay39_at]
  simp only [pwin_at, add_up, q2]
  refine (congrArg (fun z : ℤ => Ideal.div ((qsum E 2 i0.val 0 i1 : ℝ) : EReal) (((z : ℝ) : EReal)) - _)
    (cnt_word (b * 256 + i0.val) 2 (by omega) (by norm_num))).trans ?_
  refine (congrArg (· - _) (div_up (cnt_pos 0 (b * 256 + i0.val)).ne' _)).trans ?_
  rw [up2_at, two_grp]
  exact sub_up _ _

theorem pay41_up (b : ℕ) (hb : b < 8) : k0_pay41 (F := Ideal) (BitVec.ofNat 32 b) (up2 V) (pwin E 16 0) (pwin E 15 0) (g3 (p.wg 0)) = up2 fun r => p.yq E (V r) (b * 256 + r.val) r.val 0 := by
  funext i
  idx_vars i
  pointwise [k0_pay41, pay40_up E V b hb]
  simp only [up2_at, g3_at, mul_up, sum_up]
  try rfl

theorem pay42_up : k0_pay42 (F := Ideal) (pwin E 16 1) (pwin E 15 1) (pwin E 14 1) (pwin E 13 1) = up2 fun r => qsum E 4 r.val 1 := by
  funext i
  idx_vars i
  pointwise [k0_pay42]
  simp only [up2_at, pwin_at, add_up]
  simp only [qsum, Finset.sum_range_succ, Finset.sum_range_zero, zero_add]
  try rfl

theorem pay43_up (b : ℕ) (hb : b < 8) : k0_pay43 (F := Ideal) (up2 V) (k0_pay39 (BitVec.ofNat 32 b)) (up2 fun r => qsum E 4 r.val 1) 1#32 = up2 fun r => pq E (V r) (b * 256 + r.val) r.val 1 := by
  funext i
  idx_vars i
  pointwise [k0_pay43]
  rw [pay39_at]
  simp only [up2_at]
  refine (congrArg (fun z : ℤ => Ideal.div ((qsum E 4 i0.val 1 i1 : ℝ) : EReal) (((z : ℝ) : EReal)) - _)
    (cnt_word (b * 256 + i0.val) 4 (by omega) (by norm_num))).trans ?_
  refine (congrArg (· - _) (div_up (cnt_pos 1 (b * 256 + i0.val)).ne' _)).trans ?_
  exact sub_up _ _

theorem pay44_up (b : ℕ) (hb : b < 8) : k0_pay44 (F := Ideal) (up2 V) (k0_pay39 (BitVec.ofNat 32 b)) (up2 fun r => qsum E 4 r.val 1) 1#32 (g3 (p.wg 1)) = up2 fun r => p.yq E (V r) (b * 256 + r.val) r.val 1 := by
  funext i
  idx_vars i
  pointwise [k0_pay44, pay43_up E V b hb]
  simp only [up2_at, g3_at, mul_up, sum_up]
  try rfl

theorem pay45_up (b : ℕ) (hb : b < 8) : k0_pay45 (F := Ideal) (up2 V) (k0_pay39 (BitVec.ofNat 32 b)) (pwin E 16 2) (pwin E 15 2) (pwin E 14 2) (pwin E 13 2) (pwin E 12 2) (pwin E 11 2) (pwin E 10 2) (pwin E 9 2) = up2 fun r => pq E (V r) (b * 256 + r.val) r.val 2 := by
  funext i
  idx_vars i
  pointwise [k0_pay45]
  rw [pay39_at]
  simp only [pwin_at, add_up, q8]
  refine (congrArg (fun z : ℤ => Ideal.div ((qsum E 8 i0.val 2 i1 : ℝ) : EReal) (((z : ℝ) : EReal)) - _)
    (cnt_word (b * 256 + i0.val) 8 (by omega) (by norm_num))).trans ?_
  refine (congrArg (· - _) (div_up (cnt_pos 2 (b * 256 + i0.val)).ne' _)).trans ?_
  exact sub_up _ _

theorem pay46_up (b : ℕ) : k0_pay46 (F := Ideal) (up2 fun r => pq E (V r) (b * 256 + r.val) r.val 2) = up2 fun r => pq E (V r) (b * 256 + r.val) r.val 2 := by
  funext i
  idx_vars i
  pointwise [k0_pay46]
  try rfl

theorem pay47_up (b : ℕ) : k0_pay47 (F := Ideal) (up2 fun r => pq E (V r) (b * 256 + r.val) r.val 2) (g3 (p.wg 2)) = up2 fun r => p.yq E (V r) (b * 256 + r.val) r.val 2 := by
  funext i
  idx_vars i
  pointwise [k0_pay47, pay46_up]
  simp only [up2_at, g3_at, mul_up, sum_up]
  try rfl

theorem pay48_up : k0_pay48 (F := Ideal) (pwin E 16 3) (pwin E 15 3) (pwin E 14 3) (pwin E 13 3) (pwin E 12 3) (pwin E 11 3) (pwin E 10 3) (pwin E 9 3) (pwin E 8 3) (pwin E 7 3) (pwin E 6 3) (pwin E 5 3) (pwin E 4 3) = up2 fun r => qsum E 13 r.val 3 := by
  funext i
  idx_vars i
  pointwise [k0_pay48]
  simp only [up2_at, pwin_at, add_up]
  simp only [qsum, Finset.sum_range_succ, Finset.sum_range_zero, zero_add]
  try rfl

theorem pay49_up (b : ℕ) (hb : b < 8) : k0_pay49 (F := Ideal) (up2 V) (k0_pay39 (BitVec.ofNat 32 b)) (up2 fun r => qsum E 13 r.val 3) (pwin E 3 3) (pwin E 2 3) (pwin E 1 3) = up2 fun r => pq E (V r) (b * 256 + r.val) r.val 3 := by
  funext i
  idx_vars i
  pointwise [k0_pay49]
  rw [pay39_at]
  simp only [up2_at, pwin_at, add_up, q16]
  refine (congrArg (fun z : ℤ => Ideal.div ((qsum E 16 i0.val 3 i1 : ℝ) : EReal) (((z : ℝ) : EReal)) - _)
    (cnt_word (b * 256 + i0.val) 16 (by omega) (by norm_num))).trans ?_
  refine (congrArg (· - _) (div_up (cnt_pos 3 (b * 256 + i0.val)).ne' _)).trans ?_
  exact sub_up _ _

theorem pay50_up (o : ℕ) : k0_pay50 (F := Ideal) (win2 D o) = win2 D o := by
  funext i
  idx_vars i
  pointwise [k0_pay50]
  try rfl

theorem pay51_up (b : ℕ) (hb : b < 8) : k0_pay51 (F := Ideal) (up2 V) (k0_pay39 (BitVec.ofNat 32 b)) (up2 fun r => pq E (V r) (b * 256 + r.val) r.val 0) (up2 fun r => pq E (V r) (b * 256 + r.val) r.val 1) (up2 fun r => pq E (V r) (b * 256 + r.val) r.val 2) (up2 fun r => qsum E 13 r.val 3) (pwin E 3 3) (pwin E 2 3) (pwin E 1 3) = up2 fun r => pr E (V r) (b * 256 + r.val) r.val := by
  funext i
  idx_vars i
  pointwise [k0_pay51, pay49_up E V b hb]
  by_cases h0 : i1.val < 128
  · simp only [dif_pos h0, up2_at, pr, (of0 i1 h0).1, (of0 i1 h0).2]
  by_cases h1 : i1.val - 128 < 128
  · simp only [dif_neg h0, dif_pos h1, up2_at, pr, (of1 i1 h0 h1).1, (of1 i1 h0 h1).2]
  by_cases h2 : i1.val - 128 - 128 < 128
  · simp only [dif_neg h0, dif_neg h1, dif_pos h2, up2_at, pr, (of2 i1 h0 h1 h2).1, (of2 i1 h0 h1 h2).2]
  simp only [dif_neg h0, dif_neg h1, dif_neg h2, up2_at, pr, (of3 i1 h0 h1 h2).1, (of3 i1 h0 h1 h2).2]

theorem pay52_up (b : ℕ) (hb : b < 8) : k0_pay52 (F := Ideal) (up2 V) (up2 fun r => p.ycr (Z r)) (k0_pay39 (BitVec.ofNat 32 b)) (up2 fun r => p.yq E (V r) (b * 256 + r.val) r.val 0) (up2 fun r => p.yq E (V r) (b * 256 + r.val) r.val 1) (up2 fun r => p.yq E (V r) (b * 256 + r.val) r.val 2) (up2 fun r => qsum E 13 r.val 3) (pwin E 3 3) (pwin E 2 3) (pwin E 1 3) (g3 (p.wg 3)) (row1 p.ps) = up2 fun r => p.yrow E (V r) (Z r) (b * 256 + r.val) r.val := by
  funext i
  idx_vars i
  pointwise [k0_pay52, pay49_up E V b hb]
  by_cases h : i1.val < 512
  · simp only [dif_pos h, up2_at, Par.yrow]
  have hlt : i1.val - 512 < 512 := by omega
  simp only [dif_neg h, up2_at, row1_at, g3_at, mul_up, sum_up, Par.yrow]
  by_cases h0 : i1.val - 512 < 128
  · simp only [dif_pos h0, (of0 ⟨i1.val - 512, hlt⟩ h0).1, (of0 ⟨i1.val - 512, hlt⟩ h0).2, mul_up]
  by_cases h1 : i1.val - 512 - 128 < 128
  · simp only [dif_neg h0, dif_pos h1, (of1 ⟨i1.val - 512, hlt⟩ h0 h1).1, (of1 ⟨i1.val - 512, hlt⟩ h0 h1).2, mul_up]
  by_cases h2 : i1.val - 512 - 128 - 128 < 128
  · simp only [dif_neg h0, dif_neg h1, dif_pos h2, (of2 ⟨i1.val - 512, hlt⟩ h0 h1 h2).1, (of2 ⟨i1.val - 512, hlt⟩ h0 h1 h2).2, mul_up]
  simp only [dif_neg h0, dif_neg h1, dif_neg h2, (of3 ⟨i1.val - 512, hlt⟩ h0 h1 h2).1, (of3 ⟨i1.val - 512, hlt⟩ h0 h1 h2).2, mul_up]
  try rfl

theorem pay53_up : k0_pay53 (F := Ideal) (up2 p.wo) = up2 p.wo := by
  funext i
  idx_vars i
  pointwise [k0_pay53]
  try rfl

theorem pay1_up : k0_pay1 (F := Ideal) (up2 Q) (up2 p.wo) = up2 fun r => p.yor (Q r) := by
  funext i
  idx_vars i
  pointwise [k0_pay1]
  simp only [up2_at, mul_up]
  try rfl

theorem pay2_up : k0_pay2 (F := Ideal) (up2 X) (row1 p.gt) (up2 Q) (up2 p.wo) = up2 fun r d => X r d + p.gt d * p.yor (Q r) d := by
  funext i
  idx_vars i
  pointwise [k0_pay2, pay1_up]
  simp only [up2_at, row1_at, mul_up, add_up]
  try rfl

end Cert.Hand.Fwd
end
-- ==== Proof.Fwd.Loads.lean ====
/- What the forward kernel's scratch arrays hold when it reads them, and what they keep from point to point. -/
module

public import proofs.«01_k».proof.Proof.Fwd.Pay
public import proofs.«01_k».proof.Proof.Mix.Loads

@[expose] public section
set_option maxRecDepth 16384

noncomputable section
namespace Cert.Hand.Fwd
open Idealize.ShloMosaic Idealize.ShloMosaic.Pipeline Cert.Hand Cert.Hand.Mix Cert.Kernel3Ideal Cert.Kernel3Ideal.Gen

/-- Reading an array after a list of stores: the last store over the rest. -/
theorem read_over {κ : Kind} {sp : Space} {s : Shape} {e : EltTy} (v : View sig κ sp s e) (f : v.ty.Contents (Elt Ideal))
    (q : View.Piece (Elt Ideal) s e) (L : List (View.Piece (Elt Ideal) s e)) :
    v.read (Elt Ideal) (v.writes (Elt Ideal) f (q :: L)) = q.1.overlay (v.read (Elt Ideal) (v.writes (Elt Ideal) f L)) q.2 := by
  funext y
  by_cases hy : y ∈ q.1.set
  · obtain ⟨r, w⟩ := q
    obtain ⟨x, rfl⟩ : ∃ x, r.emb x = y := r.exists_idx_of_mem hy
    rw [View.read_writes_cons_emb]; exact (Rect.overlay_emb _ _ _ x).symm
  · have hy' : y ∉ Finset.univ.map q.1.emb := by rwa [Rect.map_emb_univ]
    rw [View.writes_cons, View.read_slice_write_of_not_mem q.1 _ _ _ hy', Rect.overlay_of_not_mem _ _ _ hy]

theorem readCov_ld {s : Shape} (v : View sig .tc .vmem s .f32) (L : List (View.Piece (Elt Ideal) s .f32)) (r : Rect s) :
    v.readCov L r.toLoadRect = View.ld (View.canon L) r :=
  View.readCov_eq_canon' v L _

/-- The tile's rows stored from row `n` on over an array that holds the rows before them. -/
theorem tail_over {N n : ℕ} (D : ℕ → Fin 512 → ℝ) (hN : N = n + 256) (J : Arr2 N 512)
    (inb : ∀ x, (![n, 0] : Fin 2 → ℕ) x + (![256, 512] : Fin 2 → ℕ) x ≤ (⟨2, ![N, 512]⟩ : Shape).size x) (r : Fin N) (c : Fin 512)
    (hJ : r.val < n → J (ix2 r c) = ((D r.val c : ℝ) : EReal)) :
    (Rect.unit (s := ⟨2, ![N, 512]⟩) ![n, 0] ![256, 512] inb).overlay J (win2 D n : Arr2 256 512) (ix2 r c)
      = ((D r.val c : ℝ) : EReal) := by
  refine (over2 n 0 inb J _ r c).trans ?_
  have hr := r.isLt
  by_cases h : n ≤ r.val
  · rw [dif_pos ⟨⟨h, by omega⟩, Nat.zero_le _, c.isLt⟩, win2_at]
    exact congrArg (fun k => ((D k c : ℝ) : EReal)) (by show n + (r.val - n) = r.val; omega)
  · rw [dif_neg fun hh => h hh.1.1]
    exact hJ (by omega)

/-- What a scratch array holds after a point: the tile's last `n` rows before the rows of the tile. -/
def held {N : ℕ} (n : ℕ) (D : ℕ → Fin 512 → ℝ) : Arr2 N 512 := up2 fun (r : Fin N) c => if r.val < n then D (256 + r.val) c else D r.val c

theorem held_at {N : ℕ} (n : ℕ) (D : ℕ → Fin 512 → ℝ) (r : Fin N) (c : Fin 512) :
    (held n D : Arr2 N 512) (ix2 r c) = (((if r.val < n then D (256 + r.val) c else D r.val c) : ℝ) : EReal) := rfl

theorem held_over {N n : ℕ} (D : ℕ → Fin 512 → ℝ) (J : Arr2 N 512)
    (inb : ∀ x, (![0, 0] : Fin 2 → ℕ) x + (![n, 512] : Fin 2 → ℕ) x ≤ (⟨2, ![N, 512]⟩ : Shape).size x)
    (hJ : ∀ (r : Fin N) c, n ≤ r.val → J (ix2 r c) = ((D r.val c : ℝ) : EReal)) :
    (Rect.unit (s := ⟨2, ![N, 512]⟩) ![0, 0] ![n, 512] inb).overlay J (win2 D 256 : Arr2 n 512) = held n D := by
  refine ext2 fun r c => ?_
  refine (over2 0 0 inb J _ r c).trans ?_
  rw [held_at]
  by_cases h : r.val < n
  · rw [dif_pos ⟨⟨Nat.zero_le _, h⟩, Nat.zero_le _, c.isLt⟩, win2_at, if_pos h]
    rfl
  · rw [dif_neg fun hh => h hh.1.2, if_neg h]
    exact hJ r c (by omega)

theorem scr0_A (D : ℕ → Fin 512 → ℝ) (z : ∀ r c, r < 32 → D r c = 0) :
    View.canon (Val := Elt Ideal) (e := .f32) (s := S288x512)
      [⟨Rect.unit ![32, 0] ![256, 512] inb_S288x512_S256x512_32_0, (win2 D 32 : Arr2 256 512)⟩, ⟨Rect.unit ![0, 0] ![32, 512] inb_S288x512_S32x512_0_0, (up2 fun _ _ => 0 : Arr2 32 512)⟩] = win2 D 0 := by
  refine ext2 fun r c => ?_
  rw [win2_at, Nat.zero_add]
  refine tail_over D rfl _ inb_S288x512_S256x512_32_0 r c fun h => ?_
  refine (over2 0 0 inb_S288x512_S32x512_0_0 _ _ r c).trans ?_
  rw [dif_pos ⟨⟨Nat.zero_le _, h⟩, Nat.zero_le _, c.isLt⟩, z r.val c h]
  rfl

theorem scr0_B (hw : (Memref.whole cc0_scratch0).IsWhole) (D D' : ℕ → Fin 512 → ℝ) (z : ∀ r c, r < 32 → D r c = D' (256 + r) c) :
    View.read (Elt Ideal) (View.whole cc0_scratch0) ((View.whole cc0_scratch0).writes (Elt Ideal) (hw.unread (held 32 D' : Arr2 288 512))
      [⟨Rect.unit ![32, 0] ![256, 512] inb_S288x512_S256x512_32_0, (win2 D 32 : Arr2 256 512)⟩]) = win2 D 0 := by
  refine ext2 fun r c => ?_
  rw [win2_at, Nat.zero_add, read_over]
  refine tail_over D rfl _ inb_S288x512_S256x512_32_0 r c fun h => ?_
  refine (congrFun (hw.read_unread _) _).trans ?_
  rw [held_at, if_pos h, z r.val c h]

theorem held0_A (D : ℕ → Fin 512 → ℝ) (L : List (View.Piece (Elt Ideal) S288x512 .f32)) :
    View.canon (Val := Elt Ideal) (e := .f32) (s := S288x512) (⟨Rect.unit ![0, 0] ![32, 512] inb_S288x512_S32x512_0_0, (win2 D 256 : Arr2 32 512)⟩ :: ⟨Rect.unit ![32, 0] ![256, 512] inb_S288x512_S256x512_32_0, (win2 D 32 : Arr2 256 512)⟩ :: L) = held 32 D :=
  held_over D _ inb_S288x512_S32x512_0_0 fun r c h => tail_over D rfl _ inb_S288x512_S256x512_32_0 r c fun h' => absurd h (by omega)

theorem held0_B {κ : Kind} {sp : Space} (v : View sig κ sp S288x512 .f32) (f : v.ty.Contents (Elt Ideal)) (D : ℕ → Fin 512 → ℝ)
    (L : List (View.Piece (Elt Ideal) S288x512 .f32)) : v.read (Elt Ideal) (v.writes (Elt Ideal) f (⟨Rect.unit ![0, 0] ![32, 512] inb_S288x512_S32x512_0_0, (win2 D 256 : Arr2 32 512)⟩ :: ⟨Rect.unit ![32, 0] ![256, 512] inb_S288x512_S256x512_32_0, (win2 D 32 : Arr2 256 512)⟩ :: L)) = held 32 D := by
  rw [read_over, read_over]
  exact held_over D _ inb_S288x512_S32x512_0_0 fun r c h => tail_over D rfl _ inb_S288x512_S256x512_32_0 r c fun h' => absurd h (by omega)

theorem scr1_A (D : ℕ → Fin 512 → ℝ) (z : ∀ r c, r < 16 → D r c = 0) :
    View.canon (Val := Elt Ideal) (e := .f32) (s := S272x512)
      [⟨Rect.unit ![16, 0] ![256, 512] inb_S272x512_S256x512_16_0, (win2 D 16 : Arr2 256 512)⟩, ⟨Rect.unit ![0, 0] ![16, 512] inb_S272x512_S16x512_0_0, (up2 fun _ _ => 0 : Arr2 16 512)⟩] = win2 D 0 := by
  refine ext2 fun r c => ?_
  rw [win2_at, Nat.zero_add]
  refine tail_over D rfl _ inb_S272x512_S256x512_16_0 r c fun h => ?_
  refine (over2 0 0 inb_S272x512_S16x512_0_0 _ _ r c).trans ?_
  rw [dif_pos ⟨⟨Nat.zero_le _, h⟩, Nat.zero_le _, c.isLt⟩, z r.val c h]
  rfl

theorem scr1_B (hw : (Memref.whole cc0_scratch1).IsWhole) (D D' : ℕ → Fin 512 → ℝ) (z : ∀ r c, r < 16 → D r c = D' (256 + r) c) :
    View.read (Elt Ideal) (View.whole cc0_scratch1) ((View.whole cc0_scratch1).writes (Elt Ideal) (hw.unread (held 16 D' : Arr2 272 512))
      [⟨Rect.unit ![16, 0] ![256, 512] inb_S272x512_S256x512_16_0, (win2 D 16 : Arr2 256 512)⟩]) = win2 D 0 := by
  refine ext2 fun r c => ?_
  rw [win2_at, Nat.zero_add, read_over]
  refine tail_over D rfl _ inb_S272x512_S256x512_16_0 r c fun h => ?_
  refine (congrFun (hw.read_unread _) _).trans ?_
  rw [held_at, if_pos h, z r.val c h]

theorem held1_A (D : ℕ → Fin 512 → ℝ) (L : List (View.Piece (Elt Ideal) S272x512 .f32)) :
    View.canon (Val := Elt Ideal) (e := .f32) (s := S272x512) (⟨Rect.unit ![0, 0] ![16, 512] inb_S272x512_S16x512_0_0, (win2 D 256 : Arr2 16 512)⟩ :: ⟨Rect.unit ![16, 0] ![256, 512] inb_S272x512_S256x512_16_0, (win2 D 16 : Arr2 256 512)⟩ :: L) = held 16 D :=
  held_over D _ inb_S272x512_S16x512_0_0 fun r c h => tail_over D rfl _ inb_S272x512_S256x512_16_0 r c fun h' => absurd h (by omega)

theorem held1_B {κ : Kind} {sp : Space} (v : View sig κ sp S272x512 .f32) (f : v.ty.Contents (Elt Ideal)) (D : ℕ → Fin 512 → ℝ)
    (L : List (View.Piece (Elt Ideal) S272x512 .f32)) : v.read (Elt Ideal) (v.writes (Elt Ideal) f (⟨Rect.unit ![0, 0] ![16, 512] inb_S272x512_S16x512_0_0, (win2 D 256 : Arr2 16 512)⟩ :: ⟨Rect.unit ![16, 0] ![256, 512] inb_S272x512_S256x512_16_0, (win2 D 16 : Arr2 256 512)⟩ :: L)) = held 16 D := by
  rw [read_over, read_over]
  exact held_over D _ inb_S272x512_S16x512_0_0 fun r c h => tail_over D rfl _ inb_S272x512_S256x512_16_0 r c fun h' => absurd h (by omega)

/-- Rows from the tile's first on, read from the store of the tile's rows alone. -/
theorem ld_from {N n k : ℕ} (D : ℕ → Fin 512 → ℝ) (o : ℕ) (hN : N = n + 256) (ho : n ≤ o)
    (inb' : ∀ x, (![n, 0] : Fin 2 → ℕ) x + (![256, 512] : Fin 2 → ℕ) x ≤ (⟨2, ![N, 512]⟩ : Shape).size x)
    (inb : ∀ x, (![o, 0] : Fin 2 → ℕ) x + (![k, 512] : Fin 2 → ℕ) x ≤ (⟨2, ![N, 512]⟩ : Shape).size x) :
    View.ld (Val := Elt Ideal) (e' := .f32) (S := ⟨2, ![N, 512]⟩)
      (View.canon [⟨Rect.unit ![n, 0] ![256, 512] inb', (win2 D n : Arr2 256 512)⟩]) (Rect.unit ![o, 0] ![k, 512] inb) = (win2 D o : Arr2 k 512) := by
  refine ext2 fun x0 x1 => ?_
  refine (ld2 (e' := .f32) o 0 inb _ x0 x1).trans ?_
  have e1 : (⟨0 + x1.val, lt_of_lt_of_le (Nat.add_lt_add_left x1.isLt 0) (inb 1)⟩ : Fin 512) = x1 := Fin.ext (Nat.zero_add _)
  rw [e1]
  exact tail_over D hN _ inb' _ _ fun h' => absurd (show o + x0.val < n from h') (by omega)

theorem ld_from0 (D : ℕ → Fin 512 → ℝ) :
    View.ld (Val := Elt Ideal) (e' := .f32) (S := S288x512) (View.canon [⟨Rect.unit ![32, 0] ![256, 512] inb_S288x512_S256x512_32_0, (win2 D 32 : Arr2 256 512)⟩])
      (Rect.unit ![32, 0] ![256, 512] inb_S288x512_S256x512_32_0) = (win2 D 32 : Arr2 256 512) := ld_from D 32 rfl (le_refl _) _ _
theorem ld_last0 (D : ℕ → Fin 512 → ℝ) :
    View.ld (Val := Elt Ideal) (e' := .f32) (S := S288x512) (View.canon [⟨Rect.unit ![32, 0] ![256, 512] inb_S288x512_S256x512_32_0, (win2 D 32 : Arr2 256 512)⟩])
      (Rect.unit ![256, 0] ![32, 512] inb_S288x512_S32x512_256_0) = (win2 D 256 : Arr2 32 512) := ld_from D 256 rfl (by norm_num) _ _
theorem ld_last1 (D : ℕ → Fin 512 → ℝ) :
    View.ld (Val := Elt Ideal) (e' := .f32) (S := S272x512) (View.canon [⟨Rect.unit ![16, 0] ![256, 512] inb_S272x512_S256x512_16_0, (win2 D 16 : Arr2 256 512)⟩])
      (Rect.unit ![256, 0] ![16, 512] inb_S272x512_S16x512_256_0) = (win2 D 256 : Arr2 16 512) := ld_from D 256 rfl (by norm_num) _ _

theorem ld_gfrom (E : ℕ → Fin 512 → ℝ) (k : ℕ) (i : Fin 4) (hk : k = i.val * 128)
    (inb : ∀ x, (![16, k] : Fin 2 → ℕ) x + (![256, 128] : Fin 2 → ℕ) x ≤ S272x512.size x) :
    View.ld (Val := Elt Ideal) (e' := .f32) (S := S272x512) (View.canon [⟨Rect.unit ![16, 0] ![256, 512] inb_S272x512_S256x512_16_0, (win2 E 16 : Arr2 256 512)⟩])
      (Rect.unit ![16, k] ![256, 128] inb) = pwin E 16 i := by
  refine ext2 fun x0 x1 => ?_
  refine (ld2 (e' := .f32) 16 k inb _ x0 x1).trans ?_
  have e1 : (⟨k + x1.val, lt_of_lt_of_le (Nat.add_lt_add_left x1.isLt k) (inb 1)⟩ : Fin 512) = grp i x1 := Fin.ext (by
    show k + x1.val = i.val * 128 + x1.val
    rw [hk])
  rw [e1]
  exact tail_over E rfl _ inb_S272x512_S256x512_16_0 _ _ fun h' => absurd (show 16 + x0.val < 16 from h') (by omega)

theorem ld_gf0 (E : ℕ → Fin 512 → ℝ) :
    View.ld (Val := Elt Ideal) (e' := .f32) (S := S272x512) (View.canon [⟨Rect.unit ![16, 0] ![256, 512] inb_S272x512_S256x512_16_0, (win2 E 16 : Arr2 256 512)⟩])
      (Rect.unit ![16, 0] ![256, 128] inb_S272x512_S256x128_16_0) = pwin E 16 0 := ld_gfrom E _ 0 rfl _

theorem ld_gf1 (E : ℕ → Fin 512 → ℝ) :
    View.ld (Val := Elt Ideal) (e' := .f32) (S := S272x512) (View.canon [⟨Rect.unit ![16, 0] ![256, 512] inb_S272x512_S256x512_16_0, (win2 E 16 : Arr2 256 512)⟩])
      (Rect.unit ![16, 128] ![256, 128] inb_S272x512_S256x128_16_128) = pwin E 16 1 := ld_gfrom E _ 1 rfl _

theorem ld_gf2 (E : ℕ → Fin 512 → ℝ) :
    View.ld (Val := Elt Ideal) (e' := .f32) (S := S272x512) (View.canon [⟨Rect.unit ![16, 0] ![256, 512] inb_S272x512_S256x512_16_0, (win2 E 16 : Arr2 256 512)⟩])
      (Rect.unit ![16, 256] ![256, 128] inb_S272x512_S256x128_16_256) = pwin E 16 2 := ld_gfrom E _ 2 rfl _

theorem ld_gf3 (E : ℕ → Fin 512 → ℝ) :
    View.ld (Val := Elt Ideal) (e' := .f32) (S := S272x512) (View.canon [⟨Rect.unit ![16, 0] ![256, 512] inb_S272x512_S256x512_16_0, (win2 E 16 : Arr2 256 512)⟩])
      (Rect.unit ![16, 384] ![256, 128] inb_S272x512_S256x128_16_384) = pwin E 16 3 := ld_gfrom E _ 3 rfl _

end Cert.Hand.Fwd
end
-- ==== Proof.Fwd.Point.lean ====
/- What the forward kernel writes at one grid point, window by window, when the blocks it reads hold real numbers. -/
module

public import proofs.«01_k».proof.Proof.Fwd.Loads
public import Idealize.ShloMosaic.Lib.Claim

@[expose] public section
set_option maxRecDepth 16384
set_option maxHeartbeats 1000000

noncomputable section
namespace Cert.Hand.Fwd
open Idealize.ShloMosaic Idealize.ShloMosaic.Pipeline Cert.Hand Cert.Hand.Mix Cert.Kernel3Ideal Cert.Kernel3Ideal.Gen
variable (m : (ℓ : Loc nD τ sig) → Buf (Elt Ideal) ℓ) (c : Dev nD)

/-- The blocks of one grid point hold real numbers. -/
structure Blk (M : Fin 6 → Fin 1024 → ℝ) (p : Par) (X : Fin 256 → Fin 1024 → ℝ) (t : Fin cfg0.N) : Prop where
  h0 : M 0 = p.sh
  h1 : M 1 = p.sc
  h2 : M 2 = p.gt
  b0 : iblk m c 0 t = up2 X
  b1 : iblk m c 1 t = up2 M
  b2 : iblk m c 2 t = row1 p.g
  b3 : iblk m c 3 t = up3 fun j d k => p.win d (chip j k)
  b4 : iblk m c 4 t = up2 fun (k : Fin 32) => p.tap k.val
  b5 : iblk m c 5 t = row1 p.db
  b6 : iblk m c 6 t = row1 p.lg
  b7 : iblk m c 7 t = row1 p.lb
  b8 : iblk m c 8 t = up2 p.pw
  b9 : iblk m c 9 t = up3 p.wg
  b10 : iblk m c 10 t = row1 p.ps
  b11 : iblk m c 11 t = up2 p.wo

variable {M : Fin 6 → Fin 1024 → ℝ} {p : Par} {X : Fin 256 → Fin 1024 → ℝ} {t : Fin cfg0.N}

theorem Blk.hm0 {m : (ℓ : Loc nD τ sig) → Buf (Elt Ideal) ℓ} {c : Dev nD} (B : Blk m c M p X t) (h : 0 < 6) : M ⟨0, h⟩ = p.sh := B.h0
theorem Blk.hm1 {m : (ℓ : Loc nD τ sig) → Buf (Elt Ideal) ℓ} {c : Dev nD} (B : Blk m c M p X t) (h : 1 < 6) : M ⟨1, h⟩ = p.sc := B.h1
theorem Blk.hm2 {m : (ℓ : Loc nD τ sig) → Buf (Elt Ideal) ℓ} {c : Dev nD} (B : Blk m c M p X t) (h : 2 < 6) : M ⟨2, h⟩ = p.gt := B.h2

/-- The number of the tile the point works on, as the kernel's word. -/
theorem tile_word (t : Fin cfg0.N) : BitVec.ofNat 32 (grid0.coords t 0).val = BitVec.ofNat 32 t.val := by
  revert t
  decide +kernel

/-- The sequences that hold the tile's gated units from row 32 on and the tile's pooling inputs from row 16 on. -/
structure Tile (p : Par) (X : Fin 256 → Fin 1024 → ℝ) (D E : ℕ → Fin 512 → ℝ) (t : Fin cfg0.N) : Prop where
  lt : t.val < 8
  wd : BitVec.ofNat 32 (grid0.coords t 0).val = BitVec.ofNat 32 t.val
  hd : (up2 fun r => glu (p.ur (X r))) = (win2 D 32 : Arr2 256 512)
  he : (up2 fun r => uv (p.ur (X r))) = up2 (vin E)

variable {D E D' E' : ℕ → Fin 512 → ℝ}

theorem out12_A (B : Blk m c M p X t) (T : Tile p X D E t) (h : t.val % 8 = 0) (zD : ∀ r c, r < 32 → D r c = 0)
    (zE : ∀ r c, r < 16 → E r c = 0) :
    (outsAt0 m c t.val t.isLt).1 = up2 fun r d => X r d + p.gt d * p.yor (p.yrow E (vin E r) (p.zr D r.val) (t.val * 256 + r.val) r.val) d := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out12_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).1 = up2 fun r d => X r d + p.gt d * p.yor (p.yrow E (vin E r) (p.zr D r.val) (t.val * 256 + r.val) r.val) d := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out13_A (B : Blk m c M p X t) (T : Tile p X D E t) (h : t.val % 8 = 0) (zD : ∀ r c, r < 32 → D r c = 0)
    (zE : ∀ r c, r < 16 → E r c = 0) :
    (outsAt0 m c t.val t.isLt).2.1 = up2 fun r => p.yor (p.yrow E (vin E r) (p.zr D r.val) (t.val * 256 + r.val) r.val) := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out13_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.1 = up2 fun r => p.yor (p.yrow E (vin E r) (p.zr D r.val) (t.val * 256 + r.val) r.val) := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out14_A (B : Blk m c M p X t) (T : Tile p X D E t) (h : t.val % 8 = 0) (zD : ∀ r c, r < 32 → D r c = 0)
    (zE : ∀ r c, r < 16 → E r c = 0) :
    (outsAt0 m c t.val t.isLt).2.2.1 = up2 fun r => p.ur (X r) := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out14_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.1 = up2 fun r => p.ur (X r) := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out15_A (B : Blk m c M p X t) (T : Tile p X D E t) (h : t.val % 8 = 0) (zD : ∀ r c, r < 32 → D r c = 0)
    (zE : ∀ r c, r < 16 → E r c = 0) :
    (outsAt0 m c t.val t.isLt).2.2.2.1 = up2 fun r => p.zr D r.val := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out15_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.2.1 = up2 fun r => p.zr D r.val := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out16_A (B : Blk m c M p X t) (T : Tile p X D E t) (h : t.val % 8 = 0) (zD : ∀ r c, r < 32 → D r c = 0)
    (zE : ∀ r c, r < 16 → E r c = 0) :
    (outsAt0 m c t.val t.isLt).2.2.2.2.1 = colv fun r => rs5 (ctr (p.cvs D 31 r.val)) := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out16_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.2.2.1 = colv fun r => rs5 (ctr (p.cvs D 31 r.val)) := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out17_A (B : Blk m c M p X t) (T : Tile p X D E t) (h : t.val % 8 = 0) (zD : ∀ r c, r < 32 → D r c = 0)
    (zE : ∀ r c, r < 16 → E r c = 0) :
    (outsAt0 m c t.val t.isLt).2.2.2.2.2.1 = up2 fun r => pr E (vin E r) (t.val * 256 + r.val) r.val := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out17_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.2.2.2.1 = up2 fun r => pr E (vin E r) (t.val * 256 + r.val) r.val := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out18_A (B : Blk m c M p X t) (T : Tile p X D E t) (h : t.val % 8 = 0) (zD : ∀ r c, r < 32 → D r c = 0)
    (zE : ∀ r c, r < 16 → E r c = 0) :
    (outsAt0 m c t.val t.isLt).2.2.2.2.2.2.1 = up2 fun r => p.yrow E (vin E r) (p.zr D r.val) (t.val * 256 + r.val) r.val := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem out18_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.2.2.2.2.1 = up2 fun r => p.yrow E (vin E r) (p.zr D r.val) (t.val * 256 + r.val) r.val := by
  rw [outsAt0_B m c t h]; frame_out
  simp only [hD, hE, scr0_B _ D D' zD, scr1_B _ E E' zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_wg3, ld_chip0, ld_chip1, ld_chip2, ld_chip3, ld_g0, ld_g1, ld_g2, ld_g3, ld_win2, shifts, ld_shift, ld_row, Nat.reduceAdd, Fin.val_mk, pay40_up (hb := T.lt), pay41_up (hb := T.lt), pay43_up (hb := T.lt), pay44_up (hb := T.lt), pay45_up (hb := T.lt), pay49_up (hb := T.lt), pay51_up (hb := T.lt), pay52_up (hb := T.lt), pay3_up, pay4_up, pay5_up, pay6_up, pay7_up, pay8_up, pay9_up, pay10_up, pay11_up, pay12_up, pay13_up, pay14_up, pay15_up, pay16_up, pay17_up, pay18_up, pay19_up p D, pay20_up, pay21_up, pay22_up, pay23_up, pay24_up, pay25_up, pay26_up, pay27_up, pay28_up, pay29_up, pay30_up, pay31_up, pay32_up, pay33_up, pay34_up, pay35_up, pay36_up, pay37_up, pay38_up, pay42_up, pay46_up, pay47_up, pay48_up, pay50_up, pay53_up, pay1_up, pay2_up, held0_A, held1_A, held0_B, held1_B]
  try rfl

theorem keep0_A (B : Blk m c M p X t) (T : Tile p X D E t) (h : t.val % 8 = 0) (zD : ∀ r c, r < 32 → D r c = 0)
    (zE : ∀ r c, r < 16 → E r c = 0) :
    (outsAt0 m c t.val t.isLt).2.2.2.2.2.2.2.1 = held 32 D := by
  rw [outsAt0_A m c t h]; frame_out
  simp only [scr0_A D zD, scr1_A E zE, B.b0, B.b1, B.b2, B.b3, B.b4, B.b5, B.b6, B.b7, B.b8, B.b9, B.b10, B.b11, B.hm0, B.hm1, B.hm2, T.wd, T.hd, T.he, readCov_ld, ld_from0, ld_last0, ld_last1, ld_gf0, ld_gf1, ld_gf2, ld_gf3, ld_wg0, ld_wg1, ld_wg2, ld_chip0, ld_chip1, ld_chip2, ld_chip3, ld_win2, ld_row, pay3_up, pay7_up, pay8_up, pay11_up, pay32_up, held0_A]
  try rfl

theorem keep0_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.2.2.2.2.2.1 = held 32 D := by
  rw [outsAt0_B m c t h]; frame_out
  simp only [B.b0, B.b1, B.b2, B.b3, B.hm0, B.hm1, T.hd, readCov_ld, ld_last0, ld_chip0, ld_chip1, ld_chip2, ld_chip3, ld_row, pay7_up, pay8_up, pay11_up, pay32_up, held0_A]
  try rfl

theorem keep1_A (B : Blk m c M p X t) (T : Tile p X D E t) (h : t.val % 8 = 0) (zD : ∀ r c, r < 32 → D r c = 0)
    (zE : ∀ r c, r < 16 → E r c = 0) :
    (outsAt0 m c t.val t.isLt).2.2.2.2.2.2.2.2 = held 16 E := by
  rw [outsAt0_A m c t h]; frame_out
  simp only [scr1_A E zE, B.b0, B.b1, B.b2, B.b3, B.hm0, B.hm1, T.he, readCov_ld, ld_chip0, ld_chip1, ld_chip2, ld_chip3, ld_win2, ld_row, pay4_up, pay7_up, pay8_up, pay10_up, pay38_up, pay50_up, held1_A]
  try rfl

theorem keep1_B (B : Blk m c M p X t) (T : Tile p X D E t) (h : ¬t.val % 8 = 0) (zD : ∀ r c, r < 32 → D r c = D' (256 + r) c)
    (zE : ∀ r c, r < 16 → E r c = E' (256 + r) c)
    (hD : (outsAt0 m c (t.val - 1) (Nat.lt_of_le_of_lt (Nat.sub_le _ _) t.isLt)).2.2.2.2.2.2.2.1 = held 32 D')
    (hE : (outsAt0 m c (t.val - 1) (Nat.lt_of_le_of_lt (Nat.sub_le _ _) t.isLt)).2.2.2.2.2.2.2.2 = held 16 E') :
    (outsAt0 m c t.val t.isLt).2.2.2.2.2.2.2.2 = held 16 E := by
  rw [outsAt0_B m c t h]; frame_out
  simp only [B.b0, B.b1, B.b2, B.b3, B.hm0, B.hm1, T.he, readCov_ld, ld_last1, ld_chip0, ld_chip1, ld_chip2, ld_chip3, ld_row, pay7_up, pay8_up, pay10_up, pay38_up, pay50_up, held1_A]
  try rfl

end Cert.Hand.Fwd
end
-- ==== Proof.Fwd.Blocks.lean ====
/- The forward kernel's arguments and windows as arrays of real numbers, and the blocks of a grid point read from
   them. -/
module

public import proofs.«01_k».proof.Proof.Fwd.Point
public import proofs.«01_k».proof.Proof.Mix.Blocks

@[expose] public section
set_option maxRecDepth 16384
set_option maxHeartbeats 1000000

noncomputable section
namespace Cert.Hand.Fwd
open Idealize.ShloMosaic Idealize.ShloMosaic.Pipeline Cert.Hand Cert.Kernel3Ideal Cert.Kernel3Ideal.Gen
open Cert.Hand.Mix (Par Rows modOf chip lead lead4)

variable (m : (ℓ : Loc nD τ sig) → Buf (Elt Ideal) ℓ) (c : Dev nD)

/-- The arguments hold real numbers. -/
structure Args (x : Fin 2048 → Fin 1024 → ℝ) (mm : Fin 6144 → ℝ) (p : Par) : Prop where
  a0 : m (c, Proc.tc.devRef main_arg0) = (tok x : S1x2048x1024.Idx → EReal)
  a1 : m (c, Proc.tc.devRef main_arg1) = (row1 mm : S1x6144.Idx → EReal)
  a2 : m (c, Proc.tc.devRef main_arg2) = (row1 p.g : S1x1024.Idx → EReal)
  a3 : m (c, Proc.tc.devRef main_arg3) = (lead p.win : S1x1024x1536.Idx → EReal)
  a4 : m (c, Proc.tc.devRef main_arg4) = (lead p.dw : S1x31x512.Idx → EReal)
  a5 : m (c, Proc.tc.devRef main_arg5) = (row1 p.db : S1x512.Idx → EReal)
  a6 : m (c, Proc.tc.devRef main_arg6) = (row1 p.lg : S1x512.Idx → EReal)
  a7 : m (c, Proc.tc.devRef main_arg7) = (row1 p.lb : S1x512.Idx → EReal)
  a8 : m (c, Proc.tc.devRef main_arg8) = (lead p.pw : S1x512x512.Idx → EReal)
  a9 : m (c, Proc.tc.devRef main_arg9) = (lead4 p.wg : S1x4x128x128.Idx → EReal)
  a10 : m (c, Proc.tc.devRef main_arg10) = (row1 p.ps : S1x512.Idx → EReal)
  a11 : m (c, Proc.tc.devRef main_arg11) = (lead p.wo : S1x1024x1024.Idx → EReal)
  rows : Rows mm p

variable {x : Fin 2048 → Fin 1024 → ℝ} {mm : Fin 6144 → ℝ} {p : Par}

/-- Token `r` of the tile a grid point works on. -/
def at8 (t : Fin cfg0.N) (r : Fin 256) : Fin 2048 := ⟨t.val * 256 + r.val, by have := lt_of_lt_of_eq t.isLt N_0; omega⟩

theorem idx_a : ∀ t : Fin cfg0.N, win0_0.index t = ![t.val, 0] ∧ win0_1.index t = ![0, 0] ∧ win0_2.index t = ![0, 0] ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0, 0] ∧ win0_10.index t = ![0, 0] ∧ win0_11.index t = ![0, 0] :=
  (by decide +kernel : ∀ t : Fin grid0.N, _)

theorem idx_b : ∀ t : Fin cfg0.N, win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

theorem v12 (A : Args m c x mm p) : V m c main_v12 = (up2 x : S2048x1024.Idx → EReal) := by
  funext i
  idx_vars i
  unfold V
  after_reads_simp
  rw [A.a0]
  pointwise
  rfl

theorem v13 (A : Args m c x mm p) : V m c main_v13 = (up2 (modOf mm) : S6x1024.Idx → EReal) := by
  funext i
  idx_vars i
  unfold V
  after_reads_simp
  rw [A.a1]
  pointwise
  rfl

theorem v3 (A : Args m c x mm p) : V m c main_v3 = (up3 fun j d k => p.win d (chip j k) : S4x1024x384.Idx → EReal) := by
  funext i
  idx_vars i
  unfold V
  after_reads_simp
  rw [A.a3]
  pointwise
  rfl

theorem v7 (A : Args m c x mm p) : V m c main_v7 = (up2 p.pw : S512x512.Idx → EReal) := by
  funext i
  idx_vars i
  unfold V
  after_reads_simp
  rw [A.a8]
  pointwise
  rfl

theorem v9 (A : Args m c x mm p) : V m c main_v9 = (up3 p.wg : S4x128x128.Idx → EReal) := by
  funext i
  idx_vars i
  unfold V
  after_reads_simp
  rw [A.a9]
  pointwise
  rfl

theorem v11 (A : Args m c x mm p) : V m c main_v11 = (up2 p.wo : S1024x1024.Idx → EReal) := by
  funext i
  idx_vars i
  unfold V
  after_reads_simp
  rw [A.a11]
  pointwise
  rfl

theorem v5 (A : Args m c x mm p) : V m c main_v5 = (up2 fun (k : Fin 32) => p.tap k.val : S32x512.Idx → EReal) := by
  unfold V
  after_reads_simp
  rw [A.a4]
  exact Cert.Hand.Mix.flat_pad p

/-- At every grid point the blocks hold the tokens of that point and the parameters. -/
theorem blks (A : Args m c x mm p) (t : Fin cfg0.N) : Blk m c (modOf mm) p (fun r => x (at8 t r)) t where
  h0 := by
    rw [A.rows.sh]
    funext d
    exact congrArg mm (Fin.ext (by simp))
  h1 := A.rows.sc.symm
  h2 := A.rows.gt.symm
  b0 := by
    funext i
    idx_vars i
    refine (congrFun (v12 m c A) _).trans ?_
    refine Eq.trans (b := up2 x (ix2 (at8 t i0) i1)) ?_ rfl
    blk_ext [idx_a t]
    rfl
  b1 := by
    funext i
    idx_vars i
    refine (congrFun (v13 m c A) _).trans ?_
    blk_ext [idx_a t]
  b2 := by
    funext i
    idx_vars i
    refine (congrFun (A.a2) _).trans ?_
    blk_ext [idx_a t]
  b3 := by
    funext i
    idx_vars i
    refine (congrFun (v3 m c A) _).trans ?_
    blk_ext [idx_a t]
  b4 := by
    funext i
    idx_vars i
    refine (congrFun (v5 m c A) _).trans ?_
    blk_ext [idx_a t]
  b5 := by
    funext i
    idx_vars i
    refine (congrFun (A.a5) _).trans ?_
    blk_ext [idx_a t]
  b6 := by
    funext i
    idx_vars i
    refine (congrFun (A.a6) _).trans ?_
    blk_ext [idx_a t]
  b7 := by
    funext i
    idx_vars i
    refine (congrFun (A.a7) _).trans ?_
    blk_ext [idx_a t]
  b8 := by
    funext i
    idx_vars i
    refine (congrFun (v7 m c A) _).trans ?_
    blk_ext [idx_a t]
  b9 := by
    funext i
    idx_vars i
    refine (congrFun (v9 m c A) _).trans ?_
    blk_ext [idx_a t]
  b10 := by
    funext i
    idx_vars i
    refine (congrFun (A.a10) _).trans ?_
    blk_ext [idx_a t]
  b11 := by
    funext i
    idx_vars i
    refine (congrFun (v11 m c A) _).trans ?_
    blk_ext [idx_a t]

end Cert.Hand.Fwd
end
-- ==== Proof.Fwd.Arrays.lean ====
/- What the forward kernel's output arrays hold after the last grid point. -/
module

public import proofs.«01_k».proof.Proof.Fwd.Blocks

@[expose] public section
set_option maxRecDepth 16384
set_option maxHeartbeats 1000000

noncomputable section
namespace Cert.Hand.Fwd
open Idealize.ShloMosaic Idealize.ShloMosaic.Pipeline Cert.Hand Cert.Hand.Mix Cert.Kernel3Ideal Cert.Kernel3Ideal.Gen
open Cert.Hand.Fwd (Args at8 blks)

/-- A sequence that starts `o` places late, with zeros before it. -/
def late (f : Fin 2048 → Fin 512 → ℝ) (o s : ℕ) (c : Fin 512) : ℝ := if s < o then 0 else ext f (s - o) c

theorem late_at (f : Fin 2048 → Fin 512 → ℝ) (o s : ℕ) (t : Fin 2048) (h : s = o + t.val) (c : Fin 512) : late f o s c = f t c := by
  subst h
  rw [late, if_neg (by omega), Nat.add_sub_cancel_left, ext_at]

theorem late_pick (f : Fin 2048 → Fin 512 → ℝ) (o n : ℕ) (c : Fin 512) :
    (∑ s : Fin 2048, if s.val + o = n then f s c else 0) = late f o n c := by
  unfold late
  by_cases h : n < o
  · rw [if_pos h]
    exact Finset.sum_eq_zero fun s _ => if_neg (by omega)
  · rw [if_neg h, ← sum_pick]
    refine Finset.sum_congr rfl fun s _ => ?_
    by_cases e : s.val + o = n
    · rw [if_pos e, if_pos (by omega)]
    · rw [if_neg e, if_neg (by omega)]

/-- The sum of the first `n` terms. -/
def upto (f : Fin 2048 → Fin 512 → ℝ) (c : Fin 512) (n : ℕ) : ℝ := ∑ s : Fin 2048, if s.val < n then f s c else 0

theorem upto_zero (f : Fin 2048 → Fin 512 → ℝ) (c : Fin 512) : upto f c 0 = 0 :=
  Finset.sum_eq_zero fun s _ => if_neg (by omega)

theorem upto_succ (f : Fin 2048 → Fin 512 → ℝ) (c : Fin 512) (n : ℕ) : upto f c (n + 1) = upto f c n + ext f n c := by
  rw [← sum_pick, upto, upto, ← Finset.sum_add_distrib]
  refine Finset.sum_congr rfl fun s _ => ?_
  by_cases h : s.val < n
  · rw [if_pos h, if_pos (by omega), if_neg (by omega), add_zero]
  · by_cases e : n = s.val
    · rw [if_neg h, if_pos (by omega), if_pos e, zero_add]
    · rw [if_neg h, if_neg (by omega), if_neg e, zero_add]

theorem run_upto (u : Fin 2048 → Fin 1536 → ℝ) (t : Fin 2048) (i : Fin 4) (e : Fin 128) :
    run u t i e = upto (fun t => uv (u t)) (grp i e) (t.val + 1) := by
  unfold run upto
  refine Finset.sum_congr rfl fun s _ => ?_
  by_cases h : s.val ≤ t.val
  · rw [if_pos h, if_pos (by omega)]
  · rw [if_neg h, if_neg (by omega)]

theorem runb_upto (u : Fin 2048 → Fin 1536 → ℝ) (w : ℕ) (t : Fin 2048) (i : Fin 4) (e : Fin 128) :
    runb w u t i e = upto (fun t => uv (u t)) (grp i e) (t.val + 1 - w) := by
  unfold runb
  by_cases h : t.val < w
  · rw [if_pos h, show t.val + 1 - w = 0 by omega, upto_zero]
  · rw [if_neg h, run_upto]
    exact congrArg _ (by show t.val - w + 1 = t.val + 1 - w; omega)

/-- The difference of running sums `w` tokens apart is the sum of the last `w` terms. -/
theorem last_terms (f : Fin 2048 → Fin 512 → ℝ) (c : Fin 512) (t : ℕ) (w : ℕ) (hw : w ≤ 16) :
    upto f c (t + 1) - upto f c (t + 1 - w) = ∑ d ∈ Finset.range w, late f 16 (16 - d + t) c := by
  induction w with
  | zero => rw [Nat.sub_zero, sub_self, Finset.sum_range_zero]
  | succ w ih =>
    rw [Finset.sum_range_succ, ← ih (by omega), late]
    by_cases h : t < w
    · rw [if_pos (by omega), show t + 1 - (w + 1) = 0 by omega, show t + 1 - w = 0 by omega, add_zero]
    · rw [if_neg (by omega), show t + 1 - w = t - w + 1 by omega, show t + 1 - (w + 1) = t - w by omega,
        show 16 - w + t - 16 = t - w by omega, upto_succ f c (t - w)]
      ring

/-- The gated units and the pooling inputs, from 32 and 16 rows before tile `n` on. -/
def Dn (p : Par) (x : Fin 2048 → Fin 1024 → ℝ) (n r : ℕ) : Fin 512 → ℝ := late (fun t => glu (p.fU x t)) 32 (n * 256 + r)
def En (p : Par) (x : Fin 2048 → Fin 1024 → ℝ) (n r : ℕ) : Fin 512 → ℝ := late (fun t => uv (p.fU x t)) 16 (n * 256 + r)

variable (p : Par) (x : Fin 2048 → Fin 1024 → ℝ)

theorem vin_at (t : Fin cfg0.N) (r : Fin 256) : vin (En p x t.val) r = uv (p.fU x (at8 t r)) :=
  funext fun c => late_at _ 16 _ (at8 t r) (by show t.val * 256 + (16 + r.val) = 16 + (t.val * 256 + r.val); omega) c

theorem glu_at (t : Fin cfg0.N) (r : Fin 256) : Dn p x t.val (32 + r.val) = glu (p.fU x (at8 t r)) :=
  funext fun c => late_at _ 32 _ (at8 t r) (by show t.val * 256 + (32 + r.val) = 32 + (t.val * 256 + r.val); omega) c

theorem tile_of (t : Fin cfg0.N) : Tile p (fun r => x (at8 t r)) (Dn p x t.val) (En p x t.val) t where
  lt := lt_of_lt_of_eq t.isLt N_0
  wd := tile_word t
  hd := congrArg up2 (funext fun r => (glu_at p x t r).symm)
  he := congrArg up2 (funext fun r => (vin_at p x t r).symm)

theorem zero_of (t : Fin cfg0.N) (h : t.val % 8 = 0) : t.val = 0 := by
  have := lt_of_lt_of_eq t.isLt N_0
  omega

theorem zD_A (t : Fin cfg0.N) (h : t.val % 8 = 0) : ∀ r c, r < 32 → Dn p x t.val r c = 0 := fun r c hr => by
  rw [zero_of t h]
  exact if_pos (by omega)

theorem zD_B (t : Fin cfg0.N) (h : ¬t.val % 8 = 0) : ∀ r c, r < 32 → Dn p x t.val r c = Dn p x (t.val - 1) (256 + r) c :=
  fun r c _ => congrArg (fun n => late _ 32 n c) (by have : t.val ≠ 0 := fun e => h (by rw [e]); omega)

theorem zE_A (t : Fin cfg0.N) (h : t.val % 8 = 0) : ∀ r c, r < 16 → En p x t.val r c = 0 := fun r c hr => by
  rw [zero_of t h]
  exact if_pos (by omega)

theorem zE_B (t : Fin cfg0.N) (h : ¬t.val % 8 = 0) : ∀ r c, r < 16 → En p x t.val r c = En p x (t.val - 1) (256 + r) c :=
  fun r c _ => congrArg (fun n => late _ 16 n c) (by have : t.val ≠ 0 := fun e => h (by rw [e]); omega)

/-- The convolution at one token, from the rows before it. -/
theorem cvs_at (t : Fin cfg0.N) (r : Fin 256) : p.cvs (Dn p x t.val) 31 r.val = p.fC x (at8 t r) := by
  funext c
  unfold Par.cvs Par.fC
  rw [add_comm, ← Fin.sum_univ_eq_sum_range (fun k => p.tap k c * Dn p x t.val (2 + k + r.val) c) 31]
  refine congrArg (· + _) (Finset.sum_congr rfl fun k _ => ?_)
  rw [mul_comm, Par.tap, dif_pos k.isLt]
  refine congrArg (· * _) ?_
  rw [Dn, ← late_pick, taps]
  refine Finset.sum_congr rfl fun s _ => ?_
  have e : (at8 t r).val = t.val * 256 + r.val := rfl
  by_cases h : s.val + 30 = (at8 t r).val + k.val
  · rw [if_pos h, if_pos (by omega)]
  · rw [if_neg h, if_neg (by omega)]

theorem z_at (t : Fin cfg0.N) (r : Fin 256) : p.zr (Dn p x t.val) r.val = p.fZ x (at8 t r) := by
  unfold Par.zr
  rw [cvs_at]
  rfl

/-- The pooled input of a group at one token, from the rows before it. -/
theorem pq_at (t : Fin cfg0.N) (r : Fin 256) (i : Fin 4) (e : Fin 128) :
    pq (En p x t.val) (vin (En p x t.val) r) (t.val * 256 + r.val) r.val i e = Mix.pool (p.fU x) (at8 t r) i e := by
  have hw : wid i ≤ 16 := by revert i; decide
  unfold pq Mix.pool tmean
  rw [vin_at, run_upto, runb_upto, last_terms _ _ _ _ hw]
  refine congrArg (fun z => z / _ - _) (Finset.sum_congr rfl fun d hd => ?_)
  have := Finset.mem_range.mp hd
  exact congrArg (fun n => late _ 16 n _) (by show t.val * 256 + (16 - d + r.val) = 16 - d + (t.val * 256 + r.val); omega)

theorem pr_at (t : Fin cfg0.N) (r : Fin 256) :
    pr (En p x t.val) (vin (En p x t.val) r) (t.val * 256 + r.val) r.val = p.fP x (at8 t r) :=
  funext fun c => pq_at p x t r (gof c) (rof c)

theorem row_at (t : Fin cfg0.N) (r : Fin 256) :
    p.yrow (En p x t.val) (vin (En p x t.val) r) (p.zr (Dn p x t.val) r.val) (t.val * 256 + r.val) r.val = p.ycat x (at8 t r) := by
  funext q
  unfold Par.yrow Par.ycat
  by_cases h : q.val < 512
  · rw [dif_pos h, dif_pos h, z_at]
    rfl
  · rw [dif_neg h, dif_neg h]
    unfold Par.yq Par.yp Par.ypre Par.ypg Par.fP
    refine congrArg (· * _) (Finset.sum_congr rfl fun a _ => ?_)
    rw [pq_at, gof_grp, rof_grp]

variable (m : (ℓ : Loc nD τ sig) → Buf (Elt Ideal) ℓ) (c : Dev nD)
variable {p x} {mm : Fin 6144 → ℝ}

theorem keep (A : Args m c x mm p) : ∀ (n : ℕ) (h : n < cfg0.N),
    (outsAt0 m c n h).2.2.2.2.2.2.2.1 = held 32 (Dn p x n) ∧ (outsAt0 m c n h).2.2.2.2.2.2.2.2 = held 16 (En p x n) := by
  intro n
  induction n with
  | zero =>
    intro h
    have h0 : (⟨0, h⟩ : Fin cfg0.N).val % 8 = 0 := Nat.zero_mod _
    exact ⟨keep0_A m c (t := ⟨0, h⟩) (D := Dn p x 0) (E := En p x 0) (blks m c A ⟨0, h⟩) (tile_of p x ⟨0, h⟩) h0 (zD_A p x ⟨0, h⟩ h0) (zE_A p x ⟨0, h⟩ h0),
      keep1_A m c (t := ⟨0, h⟩) (D := Dn p x 0) (E := En p x 0) (blks m c A ⟨0, h⟩) (tile_of p x ⟨0, h⟩) h0 (zD_A p x ⟨0, h⟩ h0) (zE_A p x ⟨0, h⟩ h0)⟩
  | succ n ih =>
    intro h
    have h0 : ¬(⟨n + 1, h⟩ : Fin cfg0.N).val % 8 = 0 := by
      have h8 : n + 1 < 8 := lt_of_lt_of_eq h N_0
      show ¬(n + 1) % 8 = 0
      omega
    obtain ⟨k0, k1⟩ := ih (by omega)
    exact ⟨keep0_B m c (t := ⟨n + 1, h⟩) (D := Dn p x (n + 1)) (E := En p x (n + 1)) (D' := Dn p x n) (E' := En p x n) (blks m c A ⟨n + 1, h⟩) (tile_of p x ⟨n + 1, h⟩) h0
        (zD_B p x ⟨n + 1, h⟩ h0) (zE_B p x ⟨n + 1, h⟩ h0) k0 k1,
      keep1_B m c (t := ⟨n + 1, h⟩) (D := Dn p x (n + 1)) (E := En p x (n + 1)) (D' := Dn p x n) (E' := En p x n) (blks m c A ⟨n + 1, h⟩) (tile_of p x ⟨n + 1, h⟩) h0
        (zD_B p x ⟨n + 1, h⟩ h0) (zE_B p x ⟨n + 1, h⟩ h0) k0 k1⟩

theorem kept (A : Args m c x mm p) (t : Fin cfg0.N) :
    (outsAt0 m c (t.val - 1) (Nat.lt_of_le_of_lt (Nat.sub_le _ _) t.isLt)).2.2.2.2.2.2.2.1 = held 32 (Dn p x (t.val - 1))
    ∧ (outsAt0 m c (t.val - 1) (Nat.lt_of_le_of_lt (Nat.sub_le _ _) t.isLt)).2.2.2.2.2.2.2.2 = held 16 (En p x (t.val - 1)) :=
  keep m c A _ _

theorem out12 (A : Args m c x mm p) (t : Fin cfg0.N) : (outsAt0 m c t.val t.isLt).1 = up2 fun r => (fun t d => x t d + p.gt d * p.fY x t d) (at8 t r) := by
  by_cases h : t.val % 8 = 0
  · rw [out12_A m c (t := t) (blks m c A _) (tile_of p x _) h (zD_A p x _ h) (zE_A p x _ h)]
    simp only [row_at]
    rfl
  · rw [out12_B m c (t := t) (blks m c A _) (tile_of p x _) h (zD_B p x _ h) (zE_B p x _ h) (kept m c A t).1 (kept m c A t).2]
    simp only [row_at]
    rfl

theorem arr12 (A : Args m c x mm p) : (dats m 0 c).arrAt 12 grid0.N = (up2 (fun t d => x t d + p.gt d * p.fY x t d) : S2048x1024.Idx → EReal) := by
  refine (dats m 0 c).arrAt_eq_of_covers 12 _ (by decide +kernel) fun t _ j => ?_
  blk_simp
  rw [after0_12, out12 m c A t]
  idx_vars j
  refine Eq.trans (b := up2 (fun t d => x t d + p.gt d * p.fY x t d) (ix2 (at8 t j0) j1)) rfl ?_
  blk_ext [idx_b t]
  rfl

theorem out13 (A : Args m c x mm p) (t : Fin cfg0.N) : (outsAt0 m c t.val t.isLt).2.1 = up2 fun r => (p.fY x) (at8 t r) := by
  by_cases h : t.val % 8 = 0
  · rw [out13_A m c (t := t) (blks m c A _) (tile_of p x _) h (zD_A p x _ h) (zE_A p x _ h)]
    simp only [row_at]
    rfl
  · rw [out13_B m c (t := t) (blks m c A _) (tile_of p x _) h (zD_B p x _ h) (zE_B p x _ h) (kept m c A t).1 (kept m c A t).2]
    simp only [row_at]
    rfl

theorem arr13 (A : Args m c x mm p) : (dats m 0 c).arrAt 13 grid0.N = (up2 (p.fY x) : S2048x1024.Idx → EReal) := by
  refine (dats m 0 c).arrAt_eq_of_covers 13 _ (by decide +kernel) fun t _ j => ?_
  blk_simp
  rw [after0_13, out13 m c A t]
  idx_vars j
  refine Eq.trans (b := up2 (p.fY x) (ix2 (at8 t j0) j1)) rfl ?_
  blk_ext [idx_b t]
  rfl

theorem out14 (A : Args m c x mm p) (t : Fin cfg0.N) : (outsAt0 m c t.val t.isLt).2.2.1 = up2 fun r => (p.fU x) (at8 t r) := by
  by_cases h : t.val % 8 = 0
  · rw [out14_A m c (t := t) (blks m c A _) (tile_of p x _) h (zD_A p x _ h) (zE_A p x _ h)]
    rfl
  · rw [out14_B m c (t := t) (blks m c A _) (tile_of p x _) h (zD_B p x _ h) (zE_B p x _ h) (kept m c A t).1 (kept m c A t).2]
    rfl

theorem arr14 (A : Args m c x mm p) : (dats m 0 c).arrAt 14 grid0.N = (up2 (p.fU x) : S2048x1536.Idx → EReal) := by
  refine (dats m 0 c).arrAt_eq_of_covers 14 _ (by decide +kernel) fun t _ j => ?_
  blk_simp
  rw [after0_14, out14 m c A t]
  idx_vars j
  refine Eq.trans (b := up2 (p.fU x) (ix2 (at8 t j0) j1)) rfl ?_
  blk_ext [idx_b t]
  rfl

theorem out15 (A : Args m c x mm p) (t : Fin cfg0.N) : (outsAt0 m c t.val t.isLt).2.2.2.1 = up2 fun r => (p.fZ x) (at8 t r) := by
  by_cases h : t.val % 8 = 0
  · rw [out15_A m c (t := t) (blks m c A _) (tile_of p x _) h (zD_A p x _ h) (zE_A p x _ h)]
    simp only [z_at]
  · rw [out15_B m c (t := t) (blks m c A _) (tile_of p x _) h (zD_B p x _ h) (zE_B p x _ h) (kept m c A t).1 (kept m c A t).2]
    simp only [z_at]

theorem arr15 (A : Args m c x mm p) : (dats m 0 c).arrAt 15 grid0.N = (up2 (p.fZ x) : S2048x512.Idx → EReal) := by
  refine (dats m 0 c).arrAt_eq_of_covers 15 _ (by decide +kernel) fun t _ j => ?_
  blk_simp
  rw [after0_15, out15 m c A t]
  idx_vars j
  refine Eq.trans (b := up2 (p.fZ x) (ix2 (at8 t j0) j1)) rfl ?_
  blk_ext [idx_b t]
  rfl

theorem out16 (A : Args m c x mm p) (t : Fin cfg0.N) : (outsAt0 m c t.val t.isLt).2.2.2.2.1 = colv fun r => (p.fR x) (at8 t r) := by
  by_cases h : t.val % 8 = 0
  · rw [out16_A m c (t := t) (blks m c A _) (tile_of p x _) h (zD_A p x _ h) (zE_A p x _ h)]
    simp only [cvs_at]
    rfl
  · rw [out16_B m c (t := t) (blks m c A _) (tile_of p x _) h (zD_B p x _ h) (zE_B p x _ h) (kept m c A t).1 (kept m c A t).2]
    simp only [cvs_at]
    rfl

theorem arr16 (A : Args m c x mm p) : (dats m 0 c).arrAt 16 grid0.N = (colv (p.fR x) : S2048x1.Idx → EReal) := by
  refine (dats m 0 c).arrAt_eq_of_covers 16 _ (by decide +kernel) fun t _ j => ?_
  blk_simp
  rw [after0_16, out16 m c A t]
  idx_vars j
  refine Eq.trans (b := colv (p.fR x) (ix2 (at8 t j0) j1)) rfl ?_
  blk_ext [idx_b t]
  rfl

theorem out17 (A : Args m c x mm p) (t : Fin cfg0.N) : (outsAt0 m c t.val t.isLt).2.2.2.2.2.1 = up2 fun r => (p.fP x) (at8 t r) := by
  by_cases h : t.val % 8 = 0
  · rw [out17_A m c (t := t) (blks m c A _) (tile_of p x _) h (zD_A p x _ h) (zE_A p x _ h)]
    simp only [pr_at]
  · rw [out17_B m c (t := t) (blks m c A _) (tile_of p x _) h (zD_B p x _ h) (zE_B p x _ h) (kept m c A t).1 (kept m c A t).2]
    simp only [pr_at]

theorem arr17 (A : Args m c x mm p) : (dats m 0 c).arrAt 17 grid0.N = (up2 (p.fP x) : S2048x512.Idx → EReal) := by
  refine (dats m 0 c).arrAt_eq_of_covers 17 _ (by decide +kernel) fun t _ j => ?_
  blk_simp
  rw [after0_17, out17 m c A t]
  idx_vars j
  refine Eq.trans (b := up2 (p.fP x) (ix2 (at8 t j0) j1)) rfl ?_
  blk_ext [idx_b t]
  rfl

theorem out18 (A : Args m c x mm p) (t : Fin cfg0.N) : (outsAt0 m c t.val t.isLt).2.2.2.2.2.2.1 = up2 fun r => (p.ycat x) (at8 t r) := by
  by_cases h : t.val % 8 = 0
  · rw [out18_A m c (t := t) (blks m c A _) (tile_of p x _) h (zD_A p x _ h) (zE_A p x _ h)]
    simp only [row_at]
  · rw [out18_B m c (t := t) (blks m c A _) (tile_of p x _) h (zD_B p x _ h) (zE_B p x _ h) (kept m c A t).1 (kept m c A t).2]
    simp only [row_at]

theorem arr18 (A : Args m c x mm p) : (dats m 0 c).arrAt 18 grid0.N = (up2 (p.ycat x) : S2048x1024.Idx → EReal) := by
  refine (dats m 0 c).arrAt_eq_of_covers 18 _ (by decide +kernel) fun t _ j => ?_
  blk_simp
  rw [after0_18, out18 m c A t]
  idx_vars j
  refine Eq.trans (b := up2 (p.ycat x) (ix2 (at8 t j0) j1)) rfl ?_
  blk_ext [idx_b t]
  rfl

end Cert.Hand.Fwd
end
-- ==== Proof.Fwd.Ref.lean ====
/- The forward reference at arguments that hold real numbers: each value it saves is the matching function of the
   arguments. Its stages are the steps of the forward pass that the backward reference starts with. -/
module

public import proofs.«01_k».proof.Proof.Mix.HostF
public import proofs.«01_k».proof.Proof.Mix.RefA
public import proofs.«01_k».proof.Proof.Mix.Pay
public import proofs.«01_k».proof.Proof.Gen.Reference3Ideal.Read

@[expose] public section
set_option maxRecDepth 16384
set_option maxHeartbeats 1000000

noncomputable section
namespace Cert.Hand.Fwd
open Idealize.ShloMosaic Cert.Hand Cert.Hand.Mix Cert.Reference3Ideal Cert.Reference3Ideal.Gen Cert.Reference3Ideal.Read

section
variable (x0 : (⟨S1x2048x1024, .f32⟩ : BufTy).Contents (Elt Ideal)) (x1 : (⟨S1x6144, .f32⟩ : BufTy).Contents (Elt Ideal)) (x2 : (⟨S1x1024, .f32⟩ : BufTy).Contents (Elt Ideal)) (x3 : (⟨S1x1024x1536, .f32⟩ : BufTy).Contents (Elt Ideal)) (x4 : (⟨S1x31x512, .f32⟩ : BufTy).Contents (Elt Ideal)) (x5 : (⟨S1x512, .f32⟩ : BufTy).Contents (Elt Ideal)) (x6 : (⟨S1x512, .f32⟩ : BufTy).Contents (Elt Ideal)) (x7 : (⟨S1x512, .f32⟩ : BufTy).Contents (Elt Ideal)) (x8 : (⟨S1x512x512, .f32⟩ : BufTy).Contents (Elt Ideal)) (x9 : (⟨S1x4x128x128, .f32⟩ : BufTy).Contents (Elt Ideal)) (x10 : (⟨S1x512, .f32⟩ : BufTy).Contents (Elt Ideal)) (x11 : (⟨S1x1024x1024, .f32⟩ : BufTy).Contents (Elt Ideal))

theorem gU : (val_main_v30 (F := Ideal) x0 x1 x2 x3) = Host.hU (F := Ideal) x0 x1 x2 x3 := rfl

/-- The bias spread over the tokens, with and without its leading axis. -/
theorem bias : broadcastInDim S1x2048x512 ![0, 1, 2] bcast_S1x1x512_S1x2048x512_0_1_2 (broadcastInDim S1x1x512 ![1, 2] bcast_S1x512_S1x1x512_1_2 x5)
    = broadcastInDim S1x2048x512 ![0, 1, 2] bcast_S1x1x512_S1x2048x512_0_1_2
      (broadcastInDim S1x1x512 ![2] bcast_S512_S1x1x512_2 (shapeCast S512 x5 shapeCasts_S1x512_S512)) := by
  funext i
  idx_vars i
  pointwise

theorem gC : (val_main_v60 (F := Ideal) x0 x1 x2 x3 x4 x5) = Host.hC (F := Ideal) (val_main_v30 (F := Ideal) x0 x1 x2 x3) x4 x5 := by
  unfold val_main_v60 val_main_v59 val_main_v58
  rw [bias]
  rfl

theorem gR : (val_main_v74 (F := Ideal) x0 x1 x2 x3 x4 x5) = Host.hR (F := Ideal) (val_main_v60 (F := Ideal) x0 x1 x2 x3 x4 x5) := rfl
theorem gZ : (val_main_v78 (F := Ideal) x0 x1 x2 x3 x4 x5) = Host.hZ (F := Ideal) (val_main_v60 (F := Ideal) x0 x1 x2 x3 x4 x5) (val_main_v74 (F := Ideal) x0 x1 x2 x3 x4 x5) := rfl
theorem gV : (val_main_v91 (F := Ideal) x0 x1 x2 x3) = Host.hV (F := Ideal) (val_main_v30 (F := Ideal) x0 x1 x2 x3) := rfl
theorem gS : (val_main_v92 (F := Ideal) x0 x1 x2 x3) = Host.hS (F := Ideal) (val_main_v91 (F := Ideal) x0 x1 x2 x3) := rfl
theorem gM0 : (val_main_v107 (F := Ideal) x0 x1 x2 x3) = Host.hM0 (F := Ideal) (val_main_v92 (F := Ideal) x0 x1 x2 x3) := rfl
theorem gM1 : (val_main_v121 (F := Ideal) x0 x1 x2 x3) = Host.hM1 (F := Ideal) (val_main_v92 (F := Ideal) x0 x1 x2 x3) := rfl
theorem gM2 : (val_main_v135 (F := Ideal) x0 x1 x2 x3) = Host.hM2 (F := Ideal) (val_main_v92 (F := Ideal) x0 x1 x2 x3) := rfl
theorem gM3 : (val_main_v149 (F := Ideal) x0 x1 x2 x3) = Host.hM3 (F := Ideal) (val_main_v92 (F := Ideal) x0 x1 x2 x3) := rfl
theorem gP : (val_main_v155 (F := Ideal) x0 x1 x2 x3) = Host.hP (F := Ideal) (val_main_v91 (F := Ideal) x0 x1 x2 x3) (val_main_v107 (F := Ideal) x0 x1 x2 x3) (val_main_v121 (F := Ideal) x0 x1 x2 x3) (val_main_v135 (F := Ideal) x0 x1 x2 x3) (val_main_v149 (F := Ideal) x0 x1 x2 x3) := rfl
theorem gW : (val_main_v87 (F := Ideal) x0 x1 x2 x3 x4 x5 x6 x7) = Host.hW (F := Ideal) (val_main_v78 (F := Ideal) x0 x1 x2 x3 x4 x5) x6 x7 := rfl
theorem gY : (val_main_v166 (F := Ideal) x0 x1 x2 x3 x4 x5 x6 x7 x8 x9 x10 x11) = Host.hY (F := Ideal) (val_main_v87 (F := Ideal) x0 x1 x2 x3 x4 x5 x6 x7) (val_main_v155 (F := Ideal) x0 x1 x2 x3) x8 x9 x10 x11 := rfl
end

variable {x : Fin 2048 → Fin 1024 → ℝ} {mm : Fin 6144 → ℝ} {p : Par} (H : Rows mm p)
include H

theorem q30 : val_main_v30 (F := Ideal) (tok x) (row1 mm) (row1 p.g) (lead p.win) = tok (p.fU x) := by
  rw [gU]
  exact (Host.hU_ref _ _ _ _).symm.trans (r35 _ _ _ H)

theorem q60 : val_main_v60 (F := Ideal) (tok x) (row1 mm) (row1 p.g) (lead p.win) (lead p.dw) (row1 p.db) = tok (p.fC x) := by
  rw [gC, q30 H, ← r36 _ _ _ H]
  exact (Host.hC_ref _ _ _ _ _ _).symm.trans (r73 _ _ _ H)

theorem q74 : val_main_v74 (F := Ideal) (tok x) (row1 mm) (row1 p.g) (lead p.win) (lead p.dw) (row1 p.db) = col (p.fR x) := by
  rw [gR, q60 H, ← r73 _ _ _ H]
  exact (Host.hR_ref _ _ _ _ _ _).symm.trans (r91 _ _ _ H)

theorem q78 : val_main_v78 (F := Ideal) (tok x) (row1 mm) (row1 p.g) (lead p.win) (lead p.dw) (row1 p.db) = tok (p.fZ x) := by
  rw [gZ, q60 H, q74 H, ← r73 _ _ _ H, ← r91 _ _ _ H]
  exact (Host.hZ_ref _ _ _ _ _ _).symm.trans (r96 _ _ _ H)

theorem q91 : val_main_v91 (F := Ideal) (tok x) (row1 mm) (row1 p.g) (lead p.win) = gtok fun t i e => uv (p.fU x t) (grp i e) := by
  rw [gV, q30 H, ← r36 _ _ _ H]
  exact (Host.hV_ref _ _ _ _).symm.trans (r108 _ _ _ H)

theorem q92 : val_main_v92 (F := Ideal) (tok x) (row1 mm) (row1 p.g) (lead p.win) = gtok (run (p.fU x)) := by
  rw [gS, q91 H, ← r108 _ _ _ H]
  exact (Host.hS_ref _ _ _ _).symm.trans (r109 _ _ _ H)

theorem q107 : val_main_v107 (F := Ideal) (tok x) (row1 mm) (row1 p.g) (lead p.win) = tok fun t e => tmean (p.fU x) 0 t e := by
  rw [gM0, q92 H, ← r109 _ _ _ H]
  exact (Host.hM0_ref _ _ _ _).symm.trans (r125 _ _ _ H)

theorem q121 : val_main_v121 (F := Ideal) (tok x) (row1 mm) (row1 p.g) (lead p.win) = tok fun t e => tmean (p.fU x) 1 t e := by
  rw [gM1, q92 H, ← r109 _ _ _ H]
  exact (Host.hM1_ref _ _ _ _).symm.trans (r140 _ _ _ H)

theorem q135 : val_main_v135 (F := Ideal) (tok x) (row1 mm) (row1 p.g) (lead p.win) = tok fun t e => tmean (p.fU x) 2 t e := by
  rw [gM2, q92 H, ← r109 _ _ _ H]
  exact (Host.hM2_ref _ _ _ _).symm.trans (r155 _ _ _ H)

theorem q149 : val_main_v149 (F := Ideal) (tok x) (row1 mm) (row1 p.g) (lead p.win) = tok fun t e => tmean (p.fU x) 3 t e := by
  rw [gM3, q92 H, ← r109 _ _ _ H]
  exact (Host.hM3_ref _ _ _ _).symm.trans (r170 _ _ _ H)

theorem q155 : val_main_v155 (F := Ideal) (tok x) (row1 mm) (row1 p.g) (lead p.win) = gtok (Mix.pool (p.fU x)) := by
  rw [gP, q91 H, q107 H, q121 H, q135 H, q149 H, ← r108 _ _ _ H, ← r125 _ _ _ H, ← r140 _ _ _ H, ← r155 _ _ _ H, ← r170 _ _ _ H]
  exact (Host.hP_ref _ _ _ _).symm.trans (r176 _ _ _ H)

theorem q87 : val_main_v87 (F := Ideal) (tok x) (row1 mm) (row1 p.g) (lead p.win) (lead p.dw) (row1 p.db) (row1 p.lg) (row1 p.lb) = tok fun t => p.sw (p.fZ x t) := by
  rw [gW, q78 H, ← r96 _ _ _ H]
  exact (Host.hW_ref _ _ _ _ _ _ _ _).symm.trans (r103_0 _ _ _ H)

theorem q166 : val_main_v166 (F := Ideal) (tok x) (row1 mm) (row1 p.g) (lead p.win) (lead p.dw) (row1 p.db) (row1 p.lg) (row1 p.lb) (lead p.pw) (lead4 p.wg) (row1 p.ps) (lead p.wo) = tok (p.fY x) := by
  rw [gY, q87 H, q155 H, ← r103_0 _ _ _ H, ← r176 _ _ _ H]
  exact (Host.hY_ref _ _ _ _ _ _ _ _ _ _ _ _).symm.trans (r185 _ _ _ H)

theorem q89 : val_main_v89 (F := Ideal) (tok x) (row1 mm) (row1 p.g) (lead p.win) (lead p.dw) (row1 p.db) (row1 p.lg) (row1 p.lb) (lead p.pw) = tok (p.yc x) := by
  unfold val_main_v89 val_main_v88
  rw [q87 H]
  have h := r104 p x mm H
  unfold Cert.Reference2Ideal.Read.val_main_v104 Cert.Reference2Ideal.Read.val_main_v42 at h
  rw [r103_0 _ _ _ H] at h
  exact h

theorem q163 : val_main_v163 (F := Ideal) (tok x) (row1 mm) (row1 p.g) (lead p.win) (lead4 p.wg) (row1 p.ps) = tok (p.yp x) := by
  unfold val_main_v163 val_main_v162 val_main_v161 val_main_v160 val_main_v159 val_main_v158 val_main_v157 val_main_v156
  rw [q155 H]
  have h := r182 p x mm H
  unfold Cert.Reference2Ideal.Read.val_main_v182 Cert.Reference2Ideal.Read.val_main_v181 Cert.Reference2Ideal.Read.val_main_v180 Cert.Reference2Ideal.Read.val_main_v107
    Cert.Reference2Ideal.Read.val_main_v179 Cert.Reference2Ideal.Read.val_main_v178 Cert.Reference2Ideal.Read.val_main_v177 Cert.Reference2Ideal.Read.val_main_v106 at h
  rw [r176 _ _ _ H] at h
  exact h

theorem q164 : val_main_v164 (F := Ideal) (tok x) (row1 mm) (row1 p.g) (lead p.win) (lead p.dw) (row1 p.db) (row1 p.lg) (row1 p.lb) (lead p.pw) (lead4 p.wg) (row1 p.ps) = tok (p.ycat x) := by
  unfold val_main_v164
  rw [q89 H, q163 H]
  funext i
  idx_vars i
  pointwise
  by_cases h : i2.val < 512
  · rw [dif_pos h, tok_at, tok_at, Par.ycat, dif_pos h]
  · rw [dif_neg h, tok_at, tok_at, Par.ycat, dif_neg h]

theorem q170 : val_main_v170 (F := Ideal) (tok x) (row1 mm) (row1 p.g) (lead p.win) (lead p.dw) (row1 p.db) (row1 p.lg) (row1 p.lb) (lead p.pw) (lead4 p.wg) (row1 p.ps) (lead p.wo) = up2 fun t d => x t d + p.gt d * p.fY x t d := by
  unfold val_main_v170 val_main_v169 val_main_v168 val_main_v167 val_main_v8 val_main_v2
  rw [q166 H]
  funext i
  idx_vars i
  pointwise
  simp only [tok_at, row1_at, mul_up, add_up, H.gt]
  rfl

theorem q171 : val_main_v171 (F := Ideal) (tok x) (row1 mm) (row1 p.g) (lead p.win) (lead p.dw) (row1 p.db) (row1 p.lg) (row1 p.lb) (lead p.pw) (lead4 p.wg) (row1 p.ps) (lead p.wo) = up2 (p.fY x) := by
  unfold val_main_v171
  rw [q166 H]
  funext i
  idx_vars i
  pointwise
  rfl

theorem q172 : val_main_v172 (F := Ideal) (tok x) (row1 mm) (row1 p.g) (lead p.win) = up2 (p.fU x) := by
  unfold val_main_v172
  rw [q30 H]
  funext i
  idx_vars i
  pointwise
  rfl

theorem q173 : val_main_v173 (F := Ideal) (tok x) (row1 mm) (row1 p.g) (lead p.win) (lead p.dw) (row1 p.db) = up2 (p.fZ x) := by
  unfold val_main_v173
  rw [q78 H]
  funext i
  idx_vars i
  pointwise
  rfl

theorem q174 : val_main_v174 (F := Ideal) (tok x) (row1 mm) (row1 p.g) (lead p.win) (lead p.dw) (row1 p.db) = colv (p.fR x) := by
  unfold val_main_v174
  rw [q74 H]
  funext i
  idx_vars i
  pointwise
  rfl

theorem q176 : val_main_v176 (F := Ideal) (tok x) (row1 mm) (row1 p.g) (lead p.win) = up2 (p.fP x) := by
  unfold val_main_v176 val_main_v175
  rw [q155 H]
  funext i
  idx_vars i
  pointwise
  rfl

theorem q178 : val_main_v178 (F := Ideal) (tok x) (row1 mm) (row1 p.g) (lead p.win) (lead p.dw) (row1 p.db) (row1 p.lg) (row1 p.lb) (lead p.pw) (lead4 p.wg) (row1 p.ps) = up2 (p.ycat x) := by
  unfold val_main_v178 val_main_v177
  rw [q164 H]
  funext i
  idx_vars i
  pointwise
  rfl

end Cert.Hand.Fwd
end
-- ==== Proof.Fwd.Final.lean ====
/- From finite arguments to the forward claim's values: every result of the kernel equals the reference's. -/
module

public import proofs.«01_k».proof.Proof.Fwd.Arrays
public import proofs.«01_k».proof.Proof.Fwd.Ref
public import proofs.«01_k».proof.Proof.Mix.Final

@[expose] public section
set_option maxRecDepth 16384
set_option maxHeartbeats 1000000

noncomputable section
namespace Cert.Hand.Fwd
open Idealize.ShloMosaic Idealize.ShloMosaic.Pipeline Cert.Hand Cert.Kernel3Ideal Cert.Kernel3Ideal.Gen Cert.Reference3Ideal.Read
open Cert.Hand.Mix (Par parArgs)

/-- The side conditions of the precondition's operations. -/
theorem preFacts : Cert.Pre_finite3.Facts where
  bcast_S_S1x2048x1024 := by decide
  bcast_S_S1x6144 := by decide
  bcast_S_S1x1024 := by decide
  bcast_S_S1x1024x1536 := by decide
  bcast_S_S1x31x512 := by decide
  bcast_S_S1x512 := by decide
  bcast_S_S1x512x512 := by decide
  bcast_S_S1x4x128x128 := by decide
  bcast_S_S1x1024x1024 := by decide

variable (m : (ℓ : Loc nD τ sig) → Buf (Elt Ideal) ℓ) (c : Dev nD)

theorem args_of_pre (h : Cert.Pre_Kernel3Ideal_finite3 (hPre_finite3 := preFacts) m) : ∃ x mm p, Args m c x mm p := by
  obtain ⟨h0, h1, h2, h3, h4, h5, h6, h7, h8, h9, h10, h11⟩ := h c
  refine ⟨fun t d => (m (c, Proc.tc.devRef main_arg0) (ix3 0 t d) : EReal).toReal,
    fun q => (m (c, Proc.tc.devRef main_arg1) (ix2 0 q) : EReal).toReal,
    parArgs (fun q => (m (c, Proc.tc.devRef main_arg1) (ix2 0 q) : EReal).toReal)
      (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)),
    funext fun i => (real_of_mask _ _ h0 i).trans ?_, funext fun i => (real_of_mask _ _ h1 i).trans ?_, funext fun i => (real_of_mask _ _ h2 i).trans ?_, funext fun i => (real_of_mask _ _ h3 i).trans ?_, funext fun i => (real_of_mask _ _ h4 i).trans ?_, funext fun i => (real_of_mask _ _ h5 i).trans ?_, funext fun i => (real_of_mask _ _ h6 i).trans ?_, funext fun i => (real_of_mask _ _ h7 i).trans ?_, funext fun i => (real_of_mask _ _ h8 i).trans ?_, funext fun i => (real_of_mask _ _ h9 i).trans ?_, funext fun i => (real_of_mask _ _ h10 i).trans ?_, funext fun i => (real_of_mask _ _ h11 i).trans ?_, ⟨rfl, rfl, rfl⟩⟩ <;>
  · idx_vars i
    obtain rfl : i0 = 0 := Subsingleton.elim _ _
    rfl

/-- Arrays that are the arguments of the launch. -/
abbrev Same (a0 : S1x2048x1024.Idx → EReal) (a1 : S1x6144.Idx → EReal) (a2 : S1x1024.Idx → EReal) (a3 : S1x1024x1536.Idx → EReal) (a4 : S1x31x512.Idx → EReal) (a5 : S1x512.Idx → EReal) (a6 : S1x512.Idx → EReal) (a7 : S1x512.Idx → EReal) (a8 : S1x512x512.Idx → EReal) (a9 : S1x4x128x128.Idx → EReal) (a10 : S1x512.Idx → EReal) (a11 : S1x1024x1024.Idx → EReal) : Prop :=
  a0 = m (c, Proc.tc.devRef main_arg0) ∧ a1 = m (c, Proc.tc.devRef main_arg1) ∧ a2 = m (c, Proc.tc.devRef main_arg2) ∧ a3 = m (c, Proc.tc.devRef main_arg3) ∧ a4 = m (c, Proc.tc.devRef main_arg4) ∧ a5 = m (c, Proc.tc.devRef main_arg5) ∧ a6 = m (c, Proc.tc.devRef main_arg6) ∧ a7 = m (c, Proc.tc.devRef main_arg7) ∧ a8 = m (c, Proc.tc.devRef main_arg8) ∧ a9 = m (c, Proc.tc.devRef main_arg9) ∧ a10 = m (c, Proc.tc.devRef main_arg10) ∧ a11 = m (c, Proc.tc.devRef main_arg11)

variable {m c} {x : Fin 2048 → Fin 1024 → ℝ} {mm : Fin 6144 → ℝ} {p : Par} (A : Args m c x mm p)
  {a0 : S1x2048x1024.Idx → EReal} {a1 : S1x6144.Idx → EReal} {a2 : S1x1024.Idx → EReal} {a3 : S1x1024x1536.Idx → EReal} {a4 : S1x31x512.Idx → EReal} {a5 : S1x512.Idx → EReal} {a6 : S1x512.Idx → EReal} {a7 : S1x512.Idx → EReal} {a8 : S1x512x512.Idx → EReal} {a9 : S1x4x128x128.Idx → EReal} {a10 : S1x512.Idx → EReal} {a11 : S1x1024x1024.Idx → EReal} (e : Same m c a0 a1 a2 a3 a4 a5 a6 a7 a8 a9 a10 a11)
include A e

theorem fin0 : val_main_v170 (F := Ideal) a0 a1 a2 a3 a4 a5 a6 a7 a8 a9 a10 a11 = (dats m 0 c).arrAt 12 grid0.N := by
  obtain ⟨rfl, rfl, rfl, rfl, rfl, rfl, rfl, rfl, rfl, rfl, rfl, rfl⟩ := e
  rw [A.a0, A.a1, A.a2, A.a3, A.a4, A.a5, A.a6, A.a7, A.a8, A.a9, A.a10, A.a11, arr12 m c A]
  exact q170 A.rows

theorem fin1 : val_main_v171 (F := Ideal) a0 a1 a2 a3 a4 a5 a6 a7 a8 a9 a10 a11 = (dats m 0 c).arrAt 13 grid0.N := by
  obtain ⟨rfl, rfl, rfl, rfl, rfl, rfl, rfl, rfl, rfl, rfl, rfl, rfl⟩ := e
  rw [A.a0, A.a1, A.a2, A.a3, A.a4, A.a5, A.a6, A.a7, A.a8, A.a9, A.a10, A.a11, arr13 m c A]
  exact q171 A.rows

theorem fin2 : val_main_v172 (F := Ideal) a0 a1 a2 a3 = (dats m 0 c).arrAt 14 grid0.N := by
  obtain ⟨rfl, rfl, rfl, rfl, rfl, rfl, rfl, rfl, rfl, rfl, rfl, rfl⟩ := e
  rw [A.a0, A.a1, A.a2, A.a3, arr14 m c A]
  exact q172 A.rows

theorem fin3 : val_main_v173 (F := Ideal) a0 a1 a2 a3 a4 a5 = (dats m 0 c).arrAt 15 grid0.N := by
  obtain ⟨rfl, rfl, rfl, rfl, rfl, rfl, rfl, rfl, rfl, rfl, rfl, rfl⟩ := e
  rw [A.a0, A.a1, A.a2, A.a3, A.a4, A.a5, arr15 m c A]
  exact q173 A.rows

theorem fin4 : val_main_v174 (F := Ideal) a0 a1 a2 a3 a4 a5 = (dats m 0 c).arrAt 16 grid0.N := by
  obtain ⟨rfl, rfl, rfl, rfl, rfl, rfl, rfl, rfl, rfl, rfl, rfl, rfl⟩ := e
  rw [A.a0, A.a1, A.a2, A.a3, A.a4, A.a5, arr16 m c A]
  exact q174 A.rows

theorem fin5 : val_main_v176 (F := Ideal) a0 a1 a2 a3 = (dats m 0 c).arrAt 17 grid0.N := by
  obtain ⟨rfl, rfl, rfl, rfl, rfl, rfl, rfl, rfl, rfl, rfl, rfl, rfl⟩ := e
  rw [A.a0, A.a1, A.a2, A.a3, arr17 m c A]
  exact q176 A.rows

theorem fin6 : val_main_v178 (F := Ideal) a0 a1 a2 a3 a4 a5 a6 a7 a8 a9 a10 = (dats m 0 c).arrAt 18 grid0.N := by
  obtain ⟨rfl, rfl, rfl, rfl, rfl, rfl, rfl, rfl, rfl, rfl, rfl, rfl⟩ := e
  rw [A.a0, A.a1, A.a2, A.a3, A.a4, A.a5, A.a6, A.a7, A.a8, A.a9, A.a10, arr18 m c A]
  exact q178 A.rows

end Cert.Hand.Fwd
end
-- ==== Proof.Fwd.KRun.lean ====
/- The forward kernel's run: its results at the arrays its write-backs leave, its arguments unchanged. -/
module

public import proofs.«01_k».proof.Proof.Gen.Kernel3Ideal.Value
public import proofs.«01_k».proof.Proof.Gen.Kernel3Ideal.Frame
public import Idealize.ShloMosaic.PureOps.Ideal

@[expose] public section
set_option maxRecDepth 16384
set_option maxHeartbeats 2000000

noncomputable section
namespace Cert.Hand.Fwd.KRun
open Idealize.ShloMosaic Idealize.SL.Sem Cert.Kernel3Ideal Cert.Kernel3Ideal.Gen

variable (m : (ℓ : Loc nD τ sig) → Buf (Elt Ideal) ℓ) (ρ : Dev nD → PrngReg)

theorem values : θ_run (defs (F := Ideal)) (onTc (τ := τ) (main (F := Ideal))) ⟨m, fun _ => 0, ρ⟩ fun r => ∀ c : Dev nD,
      r.2.mem (c.tc.loc main_v14_0) = (dats m 0 c).arrAt 12 grid0.N
      ∧ r.2.mem (c.tc.loc main_v14_1) = (dats m 0 c).arrAt 13 grid0.N
      ∧ r.2.mem (c.tc.loc main_v14_2) = (dats m 0 c).arrAt 14 grid0.N
      ∧ r.2.mem (c.tc.loc main_v14_3) = (dats m 0 c).arrAt 15 grid0.N
      ∧ r.2.mem (c.tc.loc main_v14_4) = (dats m 0 c).arrAt 16 grid0.N
      ∧ r.2.mem (c.tc.loc main_v14_5) = (dats m 0 c).arrAt 17 grid0.N
      ∧ r.2.mem (c.tc.loc main_v14_6) = (dats m 0 c).arrAt 18 grid0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) :=
  (θ_run defs _ _).mono (fun r h c => ⟨(h.1 c).1 12, (h.1 c).1 13, (h.1 c).1 14, (h.1 c).1 15, (h.1 c).1 16, (h.1 c).1 17, (h.1 c).1 18, h.2 c⟩) (θ_run_and (run_main m ρ) (unchanged m ρ))

end Cert.Hand.Fwd.KRun
end
-- ==== Proof.Fwd.RefRun.lean ====
/- The forward reference's run: its results at the stages' values. -/
module

public import proofs.«01_k».proof.Proof.Gen.Reference3Ideal.Run
public import proofs.«01_k».proof.Proof.Gen.Reference3Ideal.Read

@[expose] public section
set_option maxRecDepth 16384
set_option maxHeartbeats 2000000

noncomputable section
namespace Cert.Hand.Fwd.RefRun
open Idealize.ShloMosaic Idealize.SL.Sem Cert.Reference3Ideal Cert.Reference3Ideal.Gen Cert.Reference3Ideal.Read Idealize.ShloMosaic.StableHlo

variable (m : (ℓ : Loc nD τ sig) → Buf (Elt Ideal) ℓ) (ρ : Dev nD → PrngReg)

theorem values : θ_run (defs (F := Ideal)) (onTc (τ := τ) (main (F := Ideal))) ⟨m, fun _ => 0, ρ⟩ fun r => ∀ c : Dev nD,
      r.2.mem (c.tc.loc main_v170) = val_main_v170 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11))
      ∧ r.2.mem (c.tc.loc main_v171) = val_main_v171 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11))
      ∧ r.2.mem (c.tc.loc main_v172) = val_main_v172 (m (c, Proc.tc.devRef main_arg0)) (m (c, Proc.tc.devRef main_arg1)) (m (c, Proc.tc.devRef main_arg2)) (m (c, Proc.tc.devRef main_arg3))
      ∧ r.2.mem (c.tc.loc main_v173) = val_main_v173 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5))
      ∧ r.2.mem (c.tc.loc main_v174) = val_main_v174 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5))
      ∧ r.2.mem (c.tc.loc main_v176) = val_main_v176 (m (c, Proc.tc.devRef main_arg0)) (m (c, Proc.tc.devRef main_arg1)) (m (c, Proc.tc.devRef main_arg2)) (m (c, Proc.tc.devRef main_arg3))
      ∧ r.2.mem (c.tc.loc main_v178) = val_main_v178 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) :=
  (θ_run defs _ _).mono (fun r h c => ⟨(h c).1.trans (val_main_v170_eq _), (h c).2.1.trans (val_main_v171_eq _), (h c).2.2.1.trans (val_main_v172_eq _), (h c).2.2.2.1.trans (val_main_v173_eq _), (h c).2.2.2.2.1.trans (val_main_v174_eq _), (h c).2.2.2.2.2.1.trans (val_main_v176_eq _), (h c).2.2.2.2.2.2.1.trans (val_main_v178_eq _), (h c).2.2.2.2.2.2.2⟩) (Cert.Reference3Ideal.Value.run m ρ)

end Cert.Hand.Fwd.RefRun
end
-- ==== Proof.Ffn.Pay.lean ====
/- Each value the kernel computes at one grid point, read at blocks that hold real numbers: the matching
   function of the token's row. -/
module

public import proofs.«01_k».proof.Proof.Gen.KernelIdeal.Value
public import Idealize.ShloMosaic.Lib.Pipeline.ValueKit
public import proofs.«01_k».proof.Proof.Ffn.Row
public import proofs.«01_k».proof.Proof.Up

@[expose] public section
set_option maxRecDepth 16384

noncomputable section
namespace Cert.Hand.Ffn
open Idealize.ShloMosaic Cert.KernelIdeal Cert.KernelIdeal.Gen

/-- One row shared by all tokens. -/
def rowb (v : Fin 1024 → ℝ) : (⟨2, ![1, 1024]⟩ : Shape).Idx → EReal := up2 fun (_ : Fin 1) d => v d

theorem rowb_at (v : Fin 1024 → ℝ) (z : Fin 1) (d : Fin 1024) : rowb v (ix2 z d) = ((v d : ℝ) : EReal) := rfl

/-- One chip's block of a weight. -/
def wblk (w : Fin 2816 → Fin 1024 → ℝ) (j : Fin 4) : (⟨3, ![1, 704, 1024]⟩ : Shape).Idx → EReal :=
  up3 fun (_ : Fin 1) k d => w (hid j k) d

theorem wblk_at (w : Fin 2816 → Fin 1024 → ℝ) (j : Fin 4) (z : Fin 1) (k : Fin 704) (d : Fin 1024) :
    wblk w j (ix3 z k d) = ((w (hid j k) d : ℝ) : EReal) := rfl

/-- One chip's block of a hidden array, kept with a leading axis of one. -/
def hblk (a : Fin 256 → Fin 2816 → ℝ) (j : Fin 4) : (⟨3, ![1, 256, 704]⟩ : Shape).Idx → EReal :=
  up3 fun (_ : Fin 1) r k => a r (hid j k)

theorem hblk_at (a : Fin 256 → Fin 2816 → ℝ) (j : Fin 4) (z : Fin 1) (r : Fin 256) (k : Fin 704) :
    hblk a j (ix3 z r k) = ((a r (hid j k) : ℝ) : EReal) := rfl

/-- One chip's block of a hidden array as a matrix. -/
def hmat (a : Fin 256 → Fin 2816 → ℝ) (j : Fin 4) : (⟨2, ![256, 704]⟩ : Shape).Idx → EReal :=
  up2 fun r k => a r (hid j k)

theorem hmat_at (a : Fin 256 → Fin 2816 → ℝ) (j : Fin 4) (r : Fin 256) (k : Fin 704) :
    hmat a j (ix2 r k) = ((a r (hid j k) : ℝ) : EReal) := rfl

variable (p : Par) (X Y : Fin 256 → Fin 1024 → ℝ) (j : Fin 4)

theorem pay3_up : k0_pay3 (F := Ideal) (up2 X) = up2 X := by
  funext i
  idx_vars i
  pointwise [k0_pay3]

theorem pay4_up (v : Fin 1024 → ℝ) : k0_pay4 (F := Ideal) (rowb v) = rowb v := by
  funext i
  idx_vars i
  pointwise [k0_pay4]

theorem pay5_up (v : Fin 1024 → ℝ) : k0_pay5 (F := Ideal) (rowb v) = rowb v := by
  funext i
  idx_vars i
  pointwise [k0_pay5]

theorem pay6_up (v : Fin 1024 → ℝ) : k0_pay6 (F := Ideal) (rowb v) = rowb v := by
  funext i
  idx_vars i
  pointwise [k0_pay6]

theorem pay7_up : k0_pay7 (F := Ideal) (up2 X) = up2 fun r (_ : Fin 1) => rs (X r) := by
  funext i
  idx_vars i
  pointwise [k0_pay7, pay3_up]
  simp only [up2_at, mul_up, sum_up, mean_up, rs_up]

theorem pay8_up : k0_pay8 (F := Ideal) (up2 X) = up2 fun r => xh (X r) := by
  funext i
  idx_vars i
  pointwise [k0_pay8, pay3_up, pay7_up]
  simp only [up2_at, mul_up]
  rfl

theorem pay9_up : k0_pay9 (F := Ideal) (up2 X) (rowb p.g) = up2 fun r => p.nrm (X r) := by
  funext i
  idx_vars i
  pointwise [k0_pay9, pay8_up]
  simp only [up2_at, rowb_at, mul_up]
  rfl

theorem pay10_up : k0_pay10 (F := Ideal) (up2 X) (rowb p.sh) (rowb p.sc) (rowb p.g) = up2 fun r => p.h (X r) := by
  funext i
  idx_vars i
  pointwise [k0_pay10, pay9_up, pay4_up]
  simp only [up2_at, rowb_at, one_up, mul_up, add_up]
  rfl

theorem pay11_up : k0_pay11 (F := Ideal) = up2 fun _ _ => 0 := by
  funext i
  idx_vars i
  pointwise [k0_pay11]
  simp only [up2_at, zero_up]

theorem pay12_up : k0_pay12 (F := Ideal) (up2 fun r => p.h (X r)) (wblk p.wg j) = hmat (fun r => p.gate (X r)) j := by
  funext i
  idx_vars i
  pointwise [k0_pay12]
  simp only [up2_at, wblk_at, hmat_at, mul_up, sum_up]
  rfl

theorem pay13_up : k0_pay13 (F := Ideal) (up2 fun r => p.h (X r)) (wblk p.wu j) = hmat (fun r => p.up (X r)) j := by
  funext i
  idx_vars i
  pointwise [k0_pay13]
  simp only [up2_at, wblk_at, hmat_at, mul_up, sum_up]
  rfl

theorem pay20_up : k0_pay20 (F := Ideal) (up2 fun r => p.h (X r)) (k0_pay19 (F := Ideal) (wblk p.wg j)) = hmat (fun r => p.gate (X r)) j :=
  pay12_up p X j

theorem pay27_up : k0_pay27 (F := Ideal) (up2 fun r => p.h (X r)) (wblk p.wg j) = hmat (fun r => p.gate (X r)) j :=
  pay12_up p X j

theorem pay34_up : k0_pay34 (F := Ideal) (up2 fun r => p.h (X r)) (wblk p.wg j) = hmat (fun r => p.gate (X r)) j :=
  pay12_up p X j

theorem pay21_up : k0_pay21 (F := Ideal) (up2 fun r => p.h (X r)) (wblk p.wu j) = hmat (fun r => p.up (X r)) j :=
  pay13_up p X j

theorem pay28_up : k0_pay28 (F := Ideal) (up2 fun r => p.h (X r)) (wblk p.wu j) = hmat (fun r => p.up (X r)) j :=
  pay13_up p X j

theorem pay36_up : k0_pay36 (F := Ideal) (up2 fun r => p.h (X r)) (k0_pay35 (F := Ideal) (wblk p.wu j)) (constant (F := Ideal) S256x704 FTy.f32 0x00000000#32) = hmat (fun r => p.up (X r)) j :=
  pay13_up p X j

theorem pay14_up : k0_pay14 (F := Ideal) (up2 fun r => p.h (X r)) (wblk p.wg j) = hblk (fun r => p.gate (X r)) j := by
  funext i
  idx_vars i
  pointwise [k0_pay14, pay12_up]
  simp only [hblk_at, hmat_at]

theorem pay15_up : k0_pay15 (F := Ideal) (up2 fun r => p.h (X r)) (wblk p.wu j) = hblk (fun r => p.up (X r)) j := by
  funext i
  idx_vars i
  pointwise [k0_pay15, pay13_up]
  simp only [hblk_at, hmat_at]

theorem pay22_up : k0_pay22 (F := Ideal) (up2 fun r => p.h (X r)) (k0_pay19 (F := Ideal) (wblk p.wg j)) = hblk (fun r => p.gate (X r)) j :=
  pay14_up p X j

theorem pay23_up : k0_pay23 (F := Ideal) (up2 fun r => p.h (X r)) (wblk p.wu j) = hblk (fun r => p.up (X r)) j :=
  pay15_up p X j

theorem pay29_up : k0_pay29 (F := Ideal) (hmat (fun r => p.gate (X r)) j) = hblk (fun r => p.gate (X r)) j := by
  funext i
  idx_vars i
  pointwise [k0_pay29]
  simp only [hblk_at, hmat_at]

theorem pay37_up : k0_pay37 (F := Ideal) (hmat (fun r => p.gate (X r)) j) = hblk (fun r => p.gate (X r)) j := by
  funext i
  idx_vars i
  pointwise [k0_pay37]
  simp only [hblk_at, hmat_at]

theorem pay30_up : k0_pay30 (F := Ideal) (up2 fun r => p.h (X r)) (wblk p.wu j) = hblk (fun r => p.up (X r)) j :=
  pay15_up p X j

theorem pay38_up : k0_pay38 (F := Ideal) (up2 fun r => p.h (X r)) (k0_pay35 (F := Ideal) (wblk p.wu j)) (constant (F := Ideal) S256x704 FTy.f32 0x00000000#32) = hblk (fun r => p.up (X r)) j :=
  pay15_up p X j

theorem pay16_up : k0_pay16 (F := Ideal) (up2 fun r => p.h (X r)) (wblk p.wg j) (wblk p.wu j) = hmat (fun r => p.act (X r)) j := by
  funext i
  idx_vars i
  pointwise [k0_pay16, pay12_up, pay13_up]
  simp only [hmat_at, zero_sub, neg_up, exp_up, lgs_up]
  simp only [mul_up]
  rfl

theorem pay17_up : k0_pay17 (F := Ideal) (up2 fun r => p.h (X r)) (wblk p.wg j) (wblk p.wu j) = hblk (fun r => p.act (X r)) j := by
  funext i
  idx_vars i
  pointwise [k0_pay17, pay16_up]
  simp only [hblk_at, hmat_at]

theorem pay18_up (A : Fin 256 → Fin 1024 → ℝ) : k0_pay18 (F := Ideal) (up2 fun r => p.h (X r)) (up2 A) (wblk p.wg j) (wblk p.wu j) (wblk p.wd j) = up2 fun r d => A r d + part p.wd (p.act (X r)) j d := by
  funext i
  idx_vars i
  pointwise [k0_pay18, pay16_up]
  simp only [up2_at, wblk_at, hmat_at, mul_up, add_up, sum_up]
  rfl

theorem pay24_up : k0_pay24 (F := Ideal) (up2 fun r => p.h (X r)) (k0_pay19 (F := Ideal) (wblk p.wg j)) (wblk p.wu j) = hmat (fun r => p.act (X r)) j := by
  funext i
  idx_vars i
  pointwise [k0_pay24, pay20_up, pay21_up]
  simp only [hmat_at, zero_sub, neg_up, exp_up, lgs_up]
  simp only [mul_up]
  rfl

theorem pay25_up : k0_pay25 (F := Ideal) (up2 fun r => p.h (X r)) (k0_pay19 (F := Ideal) (wblk p.wg j)) (wblk p.wu j) = hblk (fun r => p.act (X r)) j := by
  funext i
  idx_vars i
  pointwise [k0_pay25, pay24_up]
  simp only [hblk_at, hmat_at]

theorem pay26_up (A : Fin 256 → Fin 1024 → ℝ) : k0_pay26 (F := Ideal) (up2 fun r => p.h (X r)) (up2 A) (k0_pay19 (F := Ideal) (wblk p.wg j)) (wblk p.wu j) (wblk p.wd j) = up2 fun r d => A r d + part p.wd (p.act (X r)) j d := by
  funext i
  idx_vars i
  pointwise [k0_pay26, pay24_up]
  simp only [up2_at, wblk_at, hmat_at, mul_up, add_up, sum_up]
  rfl

theorem pay31_up : k0_pay31 (F := Ideal) (up2 fun r => p.h (X r)) (hmat (fun r => p.gate (X r)) j) (wblk p.wu j) = hmat (fun r => p.act (X r)) j := by
  funext i
  idx_vars i
  pointwise [k0_pay31, pay28_up]
  simp only [hmat_at, zero_sub, neg_up, exp_up, lgs_up]
  simp only [mul_up]
  rfl

theorem pay32_up : k0_pay32 (F := Ideal) (up2 fun r => p.h (X r)) (hmat (fun r => p.gate (X r)) j) (wblk p.wu j) = hblk (fun r => p.act (X r)) j := by
  funext i
  idx_vars i
  pointwise [k0_pay32, pay31_up]
  simp only [hblk_at, hmat_at]

theorem pay33_up (A : Fin 256 → Fin 1024 → ℝ) : k0_pay33 (F := Ideal) (up2 fun r => p.h (X r)) (up2 A) (hmat (fun r => p.gate (X r)) j) (wblk p.wu j) (wblk p.wd j) = up2 fun r d => A r d + part p.wd (p.act (X r)) j d := by
  funext i
  idx_vars i
  pointwise [k0_pay33, pay31_up]
  simp only [up2_at, wblk_at, hmat_at, mul_up, add_up, sum_up]
  rfl

theorem pay39_up : k0_pay39 (F := Ideal) (up2 fun r => p.h (X r)) (hmat (fun r => p.gate (X r)) j) (k0_pay35 (F := Ideal) (wblk p.wu j)) (constant (F := Ideal) S256x704 FTy.f32 0x00000000#32) = hmat (fun r => p.act (X r)) j := by
  funext i
  idx_vars i
  pointwise [k0_pay39, pay36_up]
  simp only [hmat_at, zero_sub, neg_up, exp_up, lgs_up]
  simp only [mul_up]
  rfl

theorem pay40_up : k0_pay40 (F := Ideal) (up2 fun r => p.h (X r)) (hmat (fun r => p.gate (X r)) j) (k0_pay35 (F := Ideal) (wblk p.wu j)) (constant (F := Ideal) S256x704 FTy.f32 0x00000000#32) = hblk (fun r => p.act (X r)) j := by
  funext i
  idx_vars i
  pointwise [k0_pay40, pay39_up]
  simp only [hblk_at, hmat_at]

theorem pay41_up (A : Fin 256 → Fin 1024 → ℝ) : k0_pay41 (F := Ideal) (up2 fun r => p.h (X r)) (up2 A) (hmat (fun r => p.gate (X r)) j) (k0_pay35 (F := Ideal) (wblk p.wu j)) (constant (F := Ideal) S256x704 FTy.f32 0x00000000#32) (wblk p.wd j) = up2 fun r d => A r d + part p.wd (p.act (X r)) j d := by
  funext i
  idx_vars i
  pointwise [k0_pay41, pay39_up]
  simp only [up2_at, wblk_at, hmat_at, mul_up, add_up, sum_up]
  rfl

/-- The hidden units' products added chip after chip, before the last chip. -/
def f3 (r : Fin 256) (d : Fin 1024) : ℝ :=
  0 + part p.wd (p.act (X r)) 0 d + part p.wd (p.act (X r)) 1 d + part p.wd (p.act (X r)) 2 d

theorem f3_eq (r : Fin 256) (d : Fin 1024) : f3 p X r d + part p.wd (p.act (X r)) 3 d = p.f (X r) d := by
  unfold f3 Par.f
  rw [back_eq, zero_add]

theorem pay42_up : k0_pay42 (F := Ideal) (up2 X) (rowb p.gt) (up2 fun r => p.h (X r)) (up2 (f3 p X)) (hmat (fun r => p.gate (X r)) 3) (k0_pay35 (F := Ideal) (wblk p.wu 3)) (constant (F := Ideal) S256x704 FTy.f32 0x00000000#32) (wblk p.wd 3) = up2 fun r => p.x3 (X r) := by
  funext i
  idx_vars i
  pointwise [k0_pay42, pay41_up]
  simp only [up2_at, rowb_at, mul_up, add_up, f3_eq]
  rfl

theorem pay43_up : k0_pay43 (F := Ideal) (up2 X) (rowb p.gt) (up2 fun r => p.h (X r)) (up2 (f3 p X)) (hmat (fun r => p.gate (X r)) 3) (k0_pay35 (F := Ideal) (wblk p.wu 3)) (constant (F := Ideal) S256x704 FTy.f32 0x00000000#32) (wblk p.wd 3) = up2 fun r (_ : Fin 1) => rs (p.x3 (X r)) := by
  funext i
  idx_vars i
  pointwise [k0_pay43, pay42_up]
  simp only [up2_at, mul_up, sum_up, mean_up, rs_up]

theorem pay44_up : k0_pay44 (F := Ideal) (up2 X) (rowb p.gt) (up2 fun r => p.h (X r)) (up2 (f3 p X)) (hmat (fun r => p.gate (X r)) 3) (k0_pay35 (F := Ideal) (wblk p.wu 3)) (constant (F := Ideal) S256x704 FTy.f32 0x00000000#32) (wblk p.wd 3) = up2 fun r => xh (p.x3 (X r)) := by
  funext i
  idx_vars i
  pointwise [k0_pay44, pay43_up, pay42_up]
  simp only [up2_at, mul_up]
  rfl

theorem pay45_up : k0_pay45 (F := Ideal) (rowb p.gf) = up2 fun (_ : Fin 256) => p.gf := by
  funext i
  idx_vars i
  pointwise [k0_pay45]
  simp only [up2_at, rowb_at]

theorem pay46_up : k0_pay46 (F := Ideal) (up2 fun r => xh (p.x3 (X r))) (up2 fun (_ : Fin 256) => p.gf) (up2 Y) = up2 fun r => p.diff (X r) (Y r) := by
  funext i
  idx_vars i
  pointwise [k0_pay46]
  simp only [up2_at, sub_up, mul_up]
  rfl

theorem pay47_up : k0_pay47 (F := Ideal) (up2 fun r => xh (p.x3 (X r))) (up2 fun (_ : Fin 256) => p.gf) (up2 Y) = up2 fun r => p.dout (X r) (Y r) := by
  funext i
  idx_vars i
  pointwise [k0_pay47, pay46_up]
  simp only [up2_at, mul_up, lit_inv1024]
  rfl

theorem pay48_up : k0_pay48 (F := Ideal) (rowb p.gf) (up2 fun r (_ : Fin 1) => rs (p.x3 (X r))) (up2 fun r => xh (p.x3 (X r))) (up2 fun (_ : Fin 256) => p.gf) (up2 Y) = up2 fun r => p.dx3 (X r) (Y r) := by
  funext i
  idx_vars i
  pointwise [k0_pay48, pay47_up]
  simp only [up2_at, rowb_at, sub_up, mul_up, sum_up, mean_up]
  rfl

theorem pay49_up : k0_pay49 (F := Ideal) (rowb p.gt) (rowb p.gf) (up2 fun r (_ : Fin 1) => rs (p.x3 (X r))) (up2 fun r => xh (p.x3 (X r))) (up2 fun (_ : Fin 256) => p.gf) (up2 Y) = up2 fun r => p.df (X r) (Y r) := by
  funext i
  idx_vars i
  pointwise [k0_pay49, pay48_up]
  simp only [up2_at, rowb_at, mul_up]
  rfl

theorem pay50_up : k0_pay50 (F := Ideal) = up2 fun _ _ => 0 := by
  funext i
  idx_vars i
  pointwise [k0_pay50]
  simp only [up2_at, zero_up]

theorem pay51_up : k0_pay51 (F := Ideal) (rowb p.gt) (rowb p.gf) (up2 fun r (_ : Fin 1) => rs (p.x3 (X r))) (up2 fun r => xh (p.x3 (X r))) (up2 fun (_ : Fin 256) => p.gf) (up2 Y) (wblk p.wd j) = hmat (fun r => p.dact (X r) (Y r)) j := by
  funext i
  idx_vars i
  pointwise [k0_pay51, pay49_up]
  simp only [up2_at, wblk_at, hmat_at, mul_up, sum_up]
  rfl

theorem pay61_up : k0_pay61 (F := Ideal) (up2 fun r => p.df (X r) (Y r)) (wblk p.wd j) = hmat (fun r => p.dact (X r) (Y r)) j := by
  funext i
  idx_vars i
  pointwise [k0_pay61]
  simp only [up2_at, wblk_at, hmat_at, mul_up, sum_up]
  rfl

theorem pay71_up : k0_pay71 (F := Ideal) (up2 fun r => p.df (X r) (Y r)) (k0_pay70 (F := Ideal) (wblk p.wd j)) (constant (F := Ideal) S256x704 FTy.f32 0x00000000#32) = hmat (fun r => p.dact (X r) (Y r)) j :=
  pay61_up p X Y j

theorem pay80_up : k0_pay80 (F := Ideal) (up2 fun r => p.df (X r) (Y r)) (wblk p.wd j) = hmat (fun r => p.dact (X r) (Y r)) j :=
  pay61_up p X Y j

theorem pay52_up (a : Fin 256 → Fin 2816 → ℝ) : k0_pay52 (F := Ideal) (hblk a j) = hmat a j := by
  funext i
  idx_vars i
  pointwise [k0_pay52]
  simp only [hblk_at, hmat_at]

theorem pay53_up (a : Fin 256 → Fin 2816 → ℝ) : k0_pay53 (F := Ideal) (hblk a j) = hmat a j := by
  funext i
  idx_vars i
  pointwise [k0_pay53]
  simp only [hblk_at, hmat_at]

theorem pay62_up (a : Fin 256 → Fin 2816 → ℝ) : k0_pay62 (F := Ideal) (hblk a j) = hmat a j := by
  funext i
  idx_vars i
  pointwise [k0_pay62]
  simp only [hblk_at, hmat_at]

theorem pay63_up (a : Fin 256 → Fin 2816 → ℝ) : k0_pay63 (F := Ideal) (hblk a j) = hmat a j := by
  funext i
  idx_vars i
  pointwise [k0_pay63]
  simp only [hblk_at, hmat_at]

theorem pay72_up (a : Fin 256 → Fin 2816 → ℝ) : k0_pay72 (F := Ideal) (hblk a j) = hmat a j := by
  funext i
  idx_vars i
  pointwise [k0_pay72]
  simp only [hblk_at, hmat_at]

theorem pay81_up (a : Fin 256 → Fin 2816 → ℝ) : k0_pay81 (F := Ideal) (hblk a j) = hmat a j := by
  funext i
  idx_vars i
  pointwise [k0_pay81]
  simp only [hblk_at, hmat_at]

theorem pay54_up (a : Fin 256 → Fin 2816 → ℝ) : k0_pay54 (F := Ideal) (hblk a j) = hmat (fun r k => lgs (a r k)) j := by
  funext i
  idx_vars i
  pointwise [k0_pay54, pay52_up]
  simp only [hmat_at, zero_sub, neg_up, exp_up, lgs_up]

theorem pay64_up (a : Fin 256 → Fin 2816 → ℝ) : k0_pay64 (F := Ideal) (hmat a j) = hmat (fun r k => lgs (a r k)) j := by
  funext i
  idx_vars i
  pointwise [k0_pay64]
  simp only [hmat_at, zero_sub, neg_up, exp_up, lgs_up]

theorem pay73_up (a : Fin 256 → Fin 2816 → ℝ) : k0_pay73 (F := Ideal) (hblk a j) = hmat (fun r k => lgs (a r k)) j := by
  funext i
  idx_vars i
  pointwise [k0_pay73, pay72_up]
  simp only [hmat_at, zero_sub, neg_up, exp_up, lgs_up]

theorem pay82_up (a : Fin 256 → Fin 2816 → ℝ) : k0_pay82 (F := Ideal) (hblk a j) = hmat (fun r k => lgs (a r k)) j := by
  funext i
  idx_vars i
  pointwise [k0_pay82, pay81_up]
  simp only [hmat_at, zero_sub, neg_up, exp_up, lgs_up]

theorem pay55_up (a : Fin 256 → Fin 2816 → ℝ) : k0_pay55 (F := Ideal) (hblk a j) = hmat (fun r k => a r k * lgs (a r k)) j := by
  funext i
  idx_vars i
  pointwise [k0_pay55, pay52_up, pay54_up]
  simp only [hmat_at]
  simp only [mul_up]

theorem pay56_up : k0_pay56 (F := Ideal) (hmat (fun r => p.dact (X r) (Y r)) j) (hmat (fun r k => p.gate (X r) k * lgs (p.gate (X r) k)) j) = hmat (fun r => p.dup (X r) (Y r)) j := by
  funext i
  idx_vars i
  pointwise [k0_pay56]
  simp only [hmat_at]
  simp only [mul_up]
  rfl

theorem pay57_up : k0_pay57 (F := Ideal) (hmat (fun r => p.dact (X r) (Y r)) j) (hmat (fun r => p.gate (X r)) j) (hmat (fun r => p.up (X r)) j) (hmat (fun r k => lgs (p.gate (X r) k)) j) = hmat (fun r => p.dgate (X r) (Y r)) j := by
  funext i
  idx_vars i
  pointwise [k0_pay57]
  simp only [hmat_at]
  simp only [one_up, sub_up, add_up, mul_up]
  rfl

theorem pay58_up : k0_pay58 (F := Ideal) (hmat (fun r => p.dact (X r) (Y r)) j) (hmat (fun r k => p.gate (X r) k * lgs (p.gate (X r) k)) j) = hblk (fun r => p.dup (X r) (Y r)) j := by
  funext i
  idx_vars i
  pointwise [k0_pay58, pay56_up]
  simp only [hblk_at, hmat_at]

theorem pay59_up : k0_pay59 (F := Ideal) (hmat (fun r => p.dact (X r) (Y r)) j) (hmat (fun r => p.gate (X r)) j) (hmat (fun r => p.up (X r)) j) (hmat (fun r k => lgs (p.gate (X r) k)) j) = hblk (fun r => p.dgate (X r) (Y r)) j := by
  funext i
  idx_vars i
  pointwise [k0_pay59, pay57_up]
  simp only [hblk_at, hmat_at]

theorem pay60_up (A : Fin 256 → Fin 1024 → ℝ) : k0_pay60 (F := Ideal) (up2 A) (hmat (fun r => p.dact (X r) (Y r)) j) (hmat (fun r => p.gate (X r)) j) (hmat (fun r => p.up (X r)) j) (hmat (fun r k => lgs (p.gate (X r) k)) j) (hmat (fun r k => p.gate (X r) k * lgs (p.gate (X r) k)) j) (wblk p.wg j) (wblk p.wu j) = up2 fun r d => A r d + part p.wg (p.dgate (X r) (Y r)) j d + part p.wu (p.dup (X r) (Y r)) j d := by
  funext i
  idx_vars i
  pointwise [k0_pay60, pay56_up, pay57_up]
  simp only [up2_at, wblk_at, hmat_at, mul_up, add_up, sum_up]
  rfl

theorem pay65_up : k0_pay65 (F := Ideal) (hmat (fun r => p.dact (X r) (Y r)) j) (hmat (fun r => p.gate (X r)) j) = hmat (fun r => p.dup (X r) (Y r)) j := by
  funext i
  idx_vars i
  pointwise [k0_pay65, pay64_up]
  simp only [hmat_at]
  simp only [mul_up]
  rfl

theorem pay66_up : k0_pay66 (F := Ideal) (hmat (fun r => p.dact (X r) (Y r)) j) (hmat (fun r => p.gate (X r)) j) (hmat (fun r => p.up (X r)) j) = hmat (fun r => p.dgate (X r) (Y r)) j := by
  funext i
  idx_vars i
  pointwise [k0_pay66, pay64_up]
  simp only [hmat_at]
  simp only [one_up, sub_up, add_up, mul_up]
  rfl

theorem pay67_up : k0_pay67 (F := Ideal) (hmat (fun r => p.dact (X r) (Y r)) j) (hmat (fun r => p.gate (X r)) j) = hblk (fun r => p.dup (X r) (Y r)) j := by
  funext i
  idx_vars i
  pointwise [k0_pay67, pay65_up]
  simp only [hblk_at, hmat_at]

theorem pay68_up : k0_pay68 (F := Ideal) (hmat (fun r => p.dact (X r) (Y r)) j) (hmat (fun r => p.gate (X r)) j) (hmat (fun r => p.up (X r)) j) = hblk (fun r => p.dgate (X r) (Y r)) j := by
  funext i
  idx_vars i
  pointwise [k0_pay68, pay66_up]
  simp only [hblk_at, hmat_at]

theorem pay69_up (A : Fin 256 → Fin 1024 → ℝ) : k0_pay69 (F := Ideal) (up2 A) (hmat (fun r => p.dact (X r) (Y r)) j) (hmat (fun r => p.gate (X r)) j) (hmat (fun r => p.up (X r)) j) (wblk p.wg j) (wblk p.wu j) = up2 fun r d => A r d + part p.wg (p.dgate (X r) (Y r)) j d + part p.wu (p.dup (X r) (Y r)) j d := by
  funext i
  idx_vars i
  pointwise [k0_pay69, pay65_up, pay66_up]
  simp only [up2_at, wblk_at, hmat_at, mul_up, add_up, sum_up]
  rfl

theorem pay74_up : k0_pay74 (F := Ideal) (up2 fun r => p.df (X r) (Y r)) (k0_pay70 (F := Ideal) (wblk p.wd j)) (constant (F := Ideal) S256x704 FTy.f32 0x00000000#32) (hblk (fun r => p.gate (X r)) j) = hmat (fun r => p.dup (X r) (Y r)) j := by
  funext i
  idx_vars i
  pointwise [k0_pay74, pay71_up, pay72_up, pay73_up]
  simp only [hmat_at]
  simp only [mul_up]
  rfl

theorem pay75_up : k0_pay75 (F := Ideal) (up2 fun r => p.df (X r) (Y r)) (k0_pay70 (F := Ideal) (wblk p.wd j)) (constant (F := Ideal) S256x704 FTy.f32 0x00000000#32) (hblk (fun r => p.gate (X r)) j) (hblk (fun r => p.up (X r)) j) = hmat (fun r => p.dgate (X r) (Y r)) j := by
  funext i
  idx_vars i
  pointwise [k0_pay75, pay71_up, pay72_up, pay73_up]
  simp only [hmat_at, hblk_at]
  simp only [one_up, sub_up, add_up, mul_up]
  rfl

theorem pay76_up : k0_pay76 (F := Ideal) (up2 fun r => p.df (X r) (Y r)) (k0_pay70 (F := Ideal) (wblk p.wd j)) (constant (F := Ideal) S256x704 FTy.f32 0x00000000#32) (hblk (fun r => p.gate (X r)) j) = hblk (fun r => p.dup (X r) (Y r)) j := by
  funext i
  idx_vars i
  pointwise [k0_pay76, pay74_up]
  simp only [hblk_at, hmat_at]

theorem pay77_up : k0_pay77 (F := Ideal) (up2 fun r => p.df (X r) (Y r)) (k0_pay70 (F := Ideal) (wblk p.wd j)) (constant (F := Ideal) S256x704 FTy.f32 0x00000000#32) (hblk (fun r => p.gate (X r)) j) (hblk (fun r => p.up (X r)) j) = hblk (fun r => p.dgate (X r) (Y r)) j := by
  funext i
  idx_vars i
  pointwise [k0_pay77, pay75_up]
  simp only [hblk_at, hmat_at]

theorem pay78_up (A : Fin 256 → Fin 1024 → ℝ) : k0_pay78 (F := Ideal) (up2 fun r => p.df (X r) (Y r)) (up2 A) (k0_pay70 (F := Ideal) (wblk p.wd j)) (constant (F := Ideal) S256x704 FTy.f32 0x00000000#32) (hblk (fun r => p.gate (X r)) j) (hblk (fun r => p.up (X r)) j) (wblk p.wg j) = up2 fun r d => A r d + part p.wg (p.dgate (X r) (Y r)) j d := by
  funext i
  idx_vars i
  pointwise [k0_pay78, pay75_up]
  simp only [up2_at, wblk_at, hmat_at, mul_up, add_up, sum_up]
  rfl

theorem pay79_up (A : Fin 256 → Fin 1024 → ℝ) : k0_pay79 (F := Ideal) (hmat (fun r => p.dup (X r) (Y r)) j) (up2 A) (wblk p.wu j) = up2 fun r d => A r d + part p.wu (p.dup (X r) (Y r)) j d := by
  funext i
  idx_vars i
  pointwise [k0_pay79]
  simp only [up2_at, wblk_at, hmat_at, mul_up, add_up, sum_up]
  rfl

theorem pay83_up : k0_pay83 (F := Ideal) (up2 fun r => p.df (X r) (Y r)) (wblk p.wd j) (hblk (fun r => p.gate (X r)) j) = hmat (fun r => p.dup (X r) (Y r)) j := by
  funext i
  idx_vars i
  pointwise [k0_pay83, pay80_up, pay81_up, pay82_up]
  simp only [hmat_at]
  simp only [mul_up]
  rfl

theorem pay84_up : k0_pay84 (F := Ideal) (up2 fun r => p.df (X r) (Y r)) (wblk p.wd j) (hblk (fun r => p.gate (X r)) j) (hblk (fun r => p.up (X r)) j) = hmat (fun r => p.dgate (X r) (Y r)) j := by
  funext i
  idx_vars i
  pointwise [k0_pay84, pay80_up, pay81_up, pay82_up]
  simp only [hmat_at, hblk_at]
  simp only [one_up, sub_up, add_up, mul_up]
  rfl

theorem pay85_up : k0_pay85 (F := Ideal) (up2 fun r => p.df (X r) (Y r)) (wblk p.wd j) (hblk (fun r => p.gate (X r)) j) = hblk (fun r => p.dup (X r) (Y r)) j := by
  funext i
  idx_vars i
  pointwise [k0_pay85, pay83_up]
  simp only [hblk_at, hmat_at]

theorem pay86_up : k0_pay86 (F := Ideal) (up2 fun r => p.df (X r) (Y r)) (wblk p.wd j) (hblk (fun r => p.gate (X r)) j) (hblk (fun r => p.up (X r)) j) = hblk (fun r => p.dgate (X r) (Y r)) j := by
  funext i
  idx_vars i
  pointwise [k0_pay86, pay84_up]
  simp only [hblk_at, hmat_at]

/-- The two backward products added chip after chip, before the last chip. -/
def dh3 (r : Fin 256) (d : Fin 1024) : ℝ :=
  0 + part p.wg (p.dgate (X r) (Y r)) 0 d + part p.wu (p.dup (X r) (Y r)) 0 d
    + part p.wg (p.dgate (X r) (Y r)) 1 d + part p.wu (p.dup (X r) (Y r)) 1 d
    + part p.wg (p.dgate (X r) (Y r)) 2 d + part p.wu (p.dup (X r) (Y r)) 2 d

theorem dh3_eq (r : Fin 256) (d : Fin 1024) :
    dh3 p X Y r d + part p.wg (p.dgate (X r) (Y r)) 3 d + part p.wu (p.dup (X r) (Y r)) 3 d = p.dh (X r) (Y r) d := by
  unfold dh3 Par.dh
  rw [back_eq, back_eq]
  ring

theorem pay87_up : k0_pay87 (F := Ideal) (up2 (dh3 p X Y)) (hmat (fun r => p.dup (X r) (Y r)) 3) (hmat (fun r => p.dgate (X r) (Y r)) 3) (wblk p.wg 3) (wblk p.wu 3) = up2 fun r => p.dh (X r) (Y r) := by
  funext i
  idx_vars i
  pointwise [k0_pay87]
  simp only [up2_at, wblk_at, hmat_at, mul_up, add_up, sum_up]
  exact congrArg _ (dh3_eq p X Y _ _)

theorem pay88_up : k0_pay88 (F := Ideal) (rowb p.sc) (up2 (dh3 p X Y)) (hmat (fun r => p.dup (X r) (Y r)) 3) (hmat (fun r => p.dgate (X r) (Y r)) 3) (wblk p.wg 3) (wblk p.wu 3) = up2 fun r => p.dn2 (X r) (Y r) := by
  funext i
  idx_vars i
  pointwise [k0_pay88, pay87_up]
  simp only [up2_at, rowb_at, one_up, mul_up, add_up]
  rfl

theorem pay89_up : k0_pay89 (F := Ideal) (rowb p.sc) (rowb p.g) (up2 fun r (_ : Fin 1) => rs (X r)) (up2 fun r => xh (X r)) (up2 fun r => p.dx3 (X r) (Y r)) (up2 (dh3 p X Y)) (hmat (fun r => p.dup (X r) (Y r)) 3) (hmat (fun r => p.dgate (X r) (Y r)) 3) (wblk p.wg 3) (wblk p.wu 3) = up2 fun r => p.dx (X r) (Y r) := by
  funext i
  idx_vars i
  pointwise [k0_pay89, pay88_up]
  simp only [up2_at, rowb_at, sub_up, mul_up, add_up, sum_up, mean_up]
  rfl

theorem pay90_up (v : Fin 1024 → ℝ) : k0_pay90 (F := Ideal) (up2 fun r => xh (p.x3 (X r))) (up2 fun r => p.dout (X r) (Y r)) (rowb v) = rowb fun d => v d + ∑ r, p.vec (X r) (Y r) 0 d := by
  funext i
  idx_vars i
  pointwise [k0_pay90]
  simp only [up2_at, rowb_at, mul_up, add_up, sum_up]
  rfl

theorem pay91_up (v : Fin 1024 → ℝ) : k0_pay91 (F := Ideal) (rowb v) = rowb v := by
  funext i
  idx_vars i
  pointwise [k0_pay91]

theorem pay93_up (v : Fin 1024 → ℝ) : k0_pay93 (F := Ideal) (rowb v) (k0_pay92 (F := Ideal) (up2 fun r => p.f (X r)) (up2 fun r => p.dx3 (X r) (Y r))) = rowb fun d => v d + ∑ r, p.vec (X r) (Y r) 1 d := by
  funext i
  idx_vars i
  pointwise [k0_pay93, k0_pay92]
  simp only [up2_at, rowb_at, mul_up, add_up, sum_up]
  rfl

theorem pay94_up (v : Fin 1024 → ℝ) : k0_pay94 (F := Ideal) (up2 fun r => p.dh (X r) (Y r)) (rowb v) = rowb fun d => v d + ∑ r, p.vec (X r) (Y r) 2 d := by
  funext i
  idx_vars i
  pointwise [k0_pay94]
  simp only [up2_at, rowb_at, add_up, sum_up]
  rfl

theorem pay95_up (v : Fin 1024 → ℝ) : k0_pay95 (F := Ideal) (up2 fun r => p.nrm (X r)) (up2 fun r => p.dh (X r) (Y r)) (rowb v) = rowb fun d => v d + ∑ r, p.vec (X r) (Y r) 3 d := by
  funext i
  idx_vars i
  pointwise [k0_pay95]
  simp only [up2_at, rowb_at, mul_up, add_up, sum_up]
  rfl

theorem pay96_up (v : Fin 1024 → ℝ) : k0_pay96 (F := Ideal) (up2 fun r => xh (X r)) (up2 fun r => p.dn2 (X r) (Y r)) (rowb v) = rowb fun d => v d + ∑ r, p.vec (X r) (Y r) 4 d := by
  funext i
  idx_vars i
  pointwise [k0_pay96]
  simp only [up2_at, rowb_at, mul_up, add_up, sum_up]
  rfl

theorem pay97_up (v : Fin 1024 → ℝ) : k0_pay97 (F := Ideal) (rowb v) = rowb v := by
  funext i
  idx_vars i
  pointwise [k0_pay97]

theorem pay1_up (v : Fin 1024 → ℝ) : k0_pay1 (F := Ideal) (rowb v) (k0_pay98 (F := Ideal) (up2 fun r => p.diff (X r) (Y r))) = rowb fun d => v d + ∑ r, p.vec (X r) (Y r) 5 d := by
  funext i
  idx_vars i
  pointwise [k0_pay1, k0_pay98]
  simp only [up2_at, rowb_at, mul_up, add_up, sum_up]
  rfl

end Cert.Hand.Ffn
end
-- ==== Proof.Ffn.Loads.lean ====
/- What the kernel loads at one grid point: rows of the modulation, the chips' blocks of the weights, and the
   two scratch arrays written chip after chip and read back. -/
module

public import proofs.«01_k».proof.Proof.Ffn.Pay
public import Idealize.ShloMosaic.Lib.Claim

@[expose] public section
set_option maxRecDepth 16384

noncomputable section
namespace Cert.Hand.Ffn
open Idealize.ShloMosaic Idealize.ShloMosaic.Pipeline Cert.KernelIdeal Cert.KernelIdeal.Gen

/-- A weight as a stack of the chips' blocks. -/
def wstk (w : Fin 2816 → Fin 1024 → ℝ) : (⟨3, ![4, 704, 1024]⟩ : Shape).Idx → EReal :=
  up3 fun j k d => w (hid j k) d

/-- A hidden array of 256 tokens as a stack of the chips' blocks. -/
def hstk (a : Fin 256 → Fin 2816 → ℝ) : (⟨3, ![4, 256, 704]⟩ : Shape).Idx → EReal :=
  up3 fun j r k => a r (hid j k)

theorem ld_mod3 (M : Fin 6 → Fin 1024 → ℝ) :
    View.ld (Val := Elt Ideal) (e' := .f32) (S := S6x1024) (up2 M)
      (Rect.unit ![3, 0] ![1, 1024] inb_S6x1024_S1x1024_3_0) = (rowb (M 3) : S1x1024.Idx → EReal) := by
  funext i
  idx_vars i
  pointwise
  rfl

theorem ld_mod4 (M : Fin 6 → Fin 1024 → ℝ) :
    View.ld (Val := Elt Ideal) (e' := .f32) (S := S6x1024) (up2 M)
      (Rect.unit ![4, 0] ![1, 1024] inb_S6x1024_S1x1024_4_0) = (rowb (M 4) : S1x1024.Idx → EReal) := by
  funext i
  idx_vars i
  pointwise
  rfl

theorem ld_mod5 (M : Fin 6 → Fin 1024 → ℝ) :
    View.ld (Val := Elt Ideal) (e' := .f32) (S := S6x1024) (up2 M)
      (Rect.unit ![5, 0] ![1, 1024] inb_S6x1024_S1x1024_5_0) = (rowb (M 5) : S1x1024.Idx → EReal) := by
  funext i
  idx_vars i
  pointwise
  rfl

theorem ld_w0 (w : Fin 2816 → Fin 1024 → ℝ) :
    View.ld (Val := Elt Ideal) (e' := .bf16) (S := S4x704x1024) (wstk w)
      (Rect.unit ![0, 0, 0] ![1, 704, 1024] inb_S4x704x1024_S1x704x1024_0_0_0)
      = (wblk w 0 : S1x704x1024.Idx → EReal) := by
  funext i
  idx_vars i
  pointwise
  rfl

theorem ld_w1 (w : Fin 2816 → Fin 1024 → ℝ) :
    View.ld (Val := Elt Ideal) (e' := .bf16) (S := S4x704x1024) (wstk w)
      (Rect.unit ![1, 0, 0] ![1, 704, 1024] inb_S4x704x1024_S1x704x1024_1_0_0)
      = (wblk w 1 : S1x704x1024.Idx → EReal) := by
  funext i
  idx_vars i
  pointwise
  rfl

theorem ld_w2 (w : Fin 2816 → Fin 1024 → ℝ) :
    View.ld (Val := Elt Ideal) (e' := .bf16) (S := S4x704x1024) (wstk w)
      (Rect.unit ![2, 0, 0] ![1, 704, 1024] inb_S4x704x1024_S1x704x1024_2_0_0)
      = (wblk w 2 : S1x704x1024.Idx → EReal) := by
  funext i
  idx_vars i
  pointwise
  rfl

theorem ld_w3 (w : Fin 2816 → Fin 1024 → ℝ) :
    View.ld (Val := Elt Ideal) (e' := .bf16) (S := S4x704x1024) (wstk w)
      (Rect.unit ![3, 0, 0] ![1, 704, 1024] inb_S4x704x1024_S1x704x1024_3_0_0)
      = (wblk w 3 : S1x704x1024.Idx → EReal) := by
  funext i
  idx_vars i
  pointwise
  rfl

/-- A chip's block read at an index is the stack read at that index behind the chip's number. -/
theorem hblk_stk (a : Fin 256 → Fin 2816 → ℝ) (j : Fin 4) (x : (⟨3, ![1, 256, 704]⟩ : Shape).Idx)
    (y : (⟨3, ![4, 256, 704]⟩ : Shape).Idx) (h0 : (y 0).val = j.val + (x 0).val)
    (h1 : (y 1).val = (x 1).val) (h2 : (y 2).val = (x 2).val) : hblk a j x = hstk a y := by
  have hx : (x 0).val < 1 := (x 0).isLt
  have e0 : y 0 = j := Fin.ext (by omega)
  have e1 : y 1 = x 1 := Fin.ext h1
  have e2 : y 2 = x 2 := Fin.ext h2
  show ((a (x 1) (hid j (x 2)) : ℝ) : EReal) = ((a (y 1) (hid (y 0) (y 2)) : ℝ) : EReal)
  rw [e0, e1, e2]

/-- The four chips' blocks stored one after the other are the stack. -/
theorem canon_f32 (a : Fin 256 → Fin 2816 → ℝ) :
    View.canon (Val := Elt Ideal) (e := .f32) (s := S4x256x704)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩] = hstk a := by
  funext y
  canon_tiles x h
  · exact hblk_stk a 3 x y h0 h1 h2
  · exact hblk_stk a 2 x y h0 h1 h2
  · exact hblk_stk a 1 x y h0 h1 h2
  · exact hblk_stk a 0 x y (by simpa using h0) h1 h2

theorem canon_bf16 (a : Fin 256 → Fin 2816 → ℝ) :
    View.canon (Val := Elt Ideal) (e := .bf16) (s := S4x256x704)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩] = hstk a := by
  funext y
  canon_tiles x h
  · exact hblk_stk a 3 x y h0 h1 h2
  · exact hblk_stk a 2 x y h0 h1 h2
  · exact hblk_stk a 1 x y h0 h1 h2
  · exact hblk_stk a 0 x y (by simpa using h0) h1 h2

/-- A scratch array written chip after chip and read back at chip `j`. -/
theorem scr_j (v : View sig .tc .vmem S4x256x704 .f32) (a : Fin 256 → Fin 2816 → ℝ) (j : Fin 4)
    (inb : ∀ i, (![j.val, 0, 0] : Fin 3 → ℕ) i + (![1, 256, 704] : Fin 3 → ℕ) i ≤ S4x256x704.size i) :
    v.readCov (Val := Elt Ideal)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩]
      (Rect.unit ![j.val, 0, 0] ![1, 256, 704] inb).toLoadRect = (hblk a j : S1x256x704.Idx → EReal) := by
  rw [View.readCov_eq_canon', canon_f32]
  funext x
  refine (hblk_stk a j x _ ?_ ?_ ?_).symm
  · exact congrArg (j.val + ·) (Nat.one_mul _)
  · exact (Nat.zero_add _).trans (Nat.one_mul _)
  · exact (Nat.zero_add _).trans (Nat.one_mul _)

theorem scr_0 (v : View sig .tc .vmem S4x256x704 .f32) (a : Fin 256 → Fin 2816 → ℝ) :
    v.readCov (Val := Elt Ideal)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩]
      (Rect.unit ![0, 0, 0] ![1, 256, 704] inb_S4x256x704_S1x256x704_0_0_0).toLoadRect
      = (hblk a 0 : S1x256x704.Idx → EReal) := scr_j v a 0 inb_S4x256x704_S1x256x704_0_0_0

theorem scr_1 (v : View sig .tc .vmem S4x256x704 .f32) (a : Fin 256 → Fin 2816 → ℝ) :
    v.readCov (Val := Elt Ideal)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩]
      (Rect.unit ![1, 0, 0] ![1, 256, 704] inb_S4x256x704_S1x256x704_1_0_0).toLoadRect
      = (hblk a 1 : S1x256x704.Idx → EReal) := scr_j v a 1 inb_S4x256x704_S1x256x704_1_0_0

theorem scr_2 (v : View sig .tc .vmem S4x256x704 .f32) (a : Fin 256 → Fin 2816 → ℝ) :
    v.readCov (Val := Elt Ideal)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩]
      (Rect.unit ![2, 0, 0] ![1, 256, 704] inb_S4x256x704_S1x256x704_2_0_0).toLoadRect
      = (hblk a 2 : S1x256x704.Idx → EReal) := scr_j v a 2 inb_S4x256x704_S1x256x704_2_0_0

theorem scr_3 (v : View sig .tc .vmem S4x256x704 .f32) (a : Fin 256 → Fin 2816 → ℝ) :
    v.readCov (Val := Elt Ideal)
      [⟨Rect.unit ![3, 0, 0] ![1, 256, 704] inb_S4x256x704_S1x256x704_3_0_0, hblk a 3⟩,
       ⟨Rect.unit ![2, 0, 0] ![1, 256, 704] inb_S4x256x704_S1x256x704_2_0_0, hblk a 2⟩,
       ⟨Rect.unit ![1, 0, 0] ![1, 256, 704] inb_S4x256x704_S1x256x704_1_0_0, hblk a 1⟩,
       ⟨Rect.unit ![0, 0, 0] ![1, 256, 704] inb_S4x256x704_S1x256x704_0_0_0, hblk a 0⟩]
      (Rect.unit ![3, 0, 0] ![1, 256, 704] inb_S4x256x704_S1x256x704_3_0_0).toLoadRect
      = (hblk a 3 : S1x256x704.Idx → EReal) := scr_j v a 3 inb_S4x256x704_S1x256x704_3_0_0

end Cert.Hand.Ffn
end
-- ==== Proof.Ffn.Point.lean ====
/- What the kernel writes at one grid point, window by window, when the blocks it reads hold real numbers. -/
module

public import proofs.«01_k».proof.Proof.Ffn.Loads
@[expose] public section
set_option maxRecDepth 16384
noncomputable section
namespace Cert.Hand.Ffn
open Idealize.ShloMosaic Idealize.ShloMosaic.Pipeline Cert.KernelIdeal Cert.KernelIdeal.Gen
variable (m : (ℓ : Loc nD τ sig) → Buf (Elt Ideal) ℓ) (c : Dev nD)

/-- The parameters with the modulation's rows given as one array. -/
def parOf (M : Fin 6 → Fin 1024 → ℝ) (g gf : Fin 1024 → ℝ) (wg wu wd : Fin 2816 → Fin 1024 → ℝ) : Par :=
  ⟨M 3, M 4, M 5, g, gf, wg, wu, wd⟩

/-- The blocks of one grid point hold real numbers. -/
structure Blk (M : Fin 6 → Fin 1024 → ℝ) (p : Par) (X Y : Fin 256 → Fin 1024 → ℝ) (t : Fin cfg0.N) : Prop where
  h3 : M 3 = p.sh
  h4 : M 4 = p.sc
  h5 : M 5 = p.gt
  b0 : iblk m c 0 t = up2 X
  b1 : iblk m c 1 t = up2 Y
  b2 : iblk m c 2 t = up2 M
  b3 : iblk m c 3 t = rowb p.g
  b4 : iblk m c 4 t = rowb p.gf
  b5 : iblk m c 5 t = wstk p.wg
  b6 : iblk m c 6 t = wstk p.wu
  b7 : iblk m c 7 t = wstk p.wd

variable {M : Fin 6 → Fin 1024 → ℝ} {p : Par} {X Y : Fin 256 → Fin 1024 → ℝ} {t : Fin cfg0.N}

theorem f3_up : (up2 fun r d => 0 + part p.wd (p.act (X r)) 0 d + part p.wd (p.act (X r)) 1 d + part p.wd (p.act (X r)) 2 d)
    = up2 (f3 p X) := rfl

theorem f_up : (up2 fun r d => f3 p X r d + part p.wd (p.act (X r)) 3 d) = up2 fun r => p.f (X r) := by
  simp only [f3_eq]

theorem dh3_up : (up2 fun r d => 0
      + part p.wg (p.dgate (X r) (Y r)) 0 d + part p.wu (p.dup (X r) (Y r)) 0 d
      + part p.wg (p.dgate (X r) (Y r)) 1 d + part p.wu (p.dup (X r) (Y r)) 1 d
      + part p.wg (p.dgate (X r) (Y r)) 2 d + part p.wu (p.dup (X r) (Y r)) 2 d) = up2 (dh3 p X Y) := rfl

theorem out8_A (B : Blk m c M p X Y t) (h : t.val % 8 = 0) :
    (outsAt0 m c t.val t.isLt).1 = up2 fun r => p.dx (X r) (Y r) := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up]

theorem out9_A (B : Blk m c M p X Y t) (h : t.val % 8 = 0) :
    (outsAt0 m c t.val t.isLt).2.1 = up2 fun r => p.h (X r) := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16]

theorem out10_A (B : Blk m c M p X Y t) (h : t.val % 8 = 0) :
    (outsAt0 m c t.val t.isLt).2.2.1 = up2 fun r => p.df (X r) (Y r) := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up]

theorem out11_A (B : Blk m c M p X Y t) (h : t.val % 8 = 0) :
    (outsAt0 m c t.val t.isLt).2.2.2.1 = hstk fun r => p.act (X r) := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16]

theorem out12_A (B : Blk m c M p X Y t) (h : t.val % 8 = 0) :
    (outsAt0 m c t.val t.isLt).2.2.2.2.1 = hstk fun r => p.dgate (X r) (Y r) := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up]

theorem out13_A (B : Blk m c M p X Y t) (h : t.val % 8 = 0) :
    (outsAt0 m c t.val t.isLt).2.2.2.2.2.1 = hstk fun r => p.dup (X r) (Y r) := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up]

theorem out8_B (B : Blk m c M p X Y t) (h : ¬t.val % 8 = 0) :
    (outsAt0 m c t.val t.isLt).1 = up2 fun r => p.dx (X r) (Y r) := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up]

theorem out9_B (B : Blk m c M p X Y t) (h : ¬t.val % 8 = 0) :
    (outsAt0 m c t.val t.isLt).2.1 = up2 fun r => p.h (X r) := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16]

theorem out10_B (B : Blk m c M p X Y t) (h : ¬t.val % 8 = 0) :
    (outsAt0 m c t.val t.isLt).2.2.1 = up2 fun r => p.df (X r) (Y r) := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up]

theorem out11_B (B : Blk m c M p X Y t) (h : ¬t.val % 8 = 0) :
    (outsAt0 m c t.val t.isLt).2.2.2.1 = hstk fun r => p.act (X r) := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16]

theorem out12_B (B : Blk m c M p X Y t) (h : ¬t.val % 8 = 0) :
    (outsAt0 m c t.val t.isLt).2.2.2.2.1 = hstk fun r => p.dgate (X r) (Y r) := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up]

theorem out13_B (B : Blk m c M p X Y t) (h : ¬t.val % 8 = 0) :
    (outsAt0 m c t.val t.isLt).2.2.2.2.2.1 = hstk fun r => p.dup (X r) (Y r) := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up]

end Cert.Hand.Ffn
-- ==== Proof.Ffn.Vec.lean ====
/- The sums over tokens: eight rows, of which six are added to at every grid point. -/
module

public import proofs.«01_k».proof.Proof.Ffn.Point
@[expose] public section
set_option maxRecDepth 16384
noncomputable section
namespace Cert.Hand.Ffn
open Idealize.ShloMosaic Idealize.ShloMosaic.Pipeline Cert.KernelIdeal Cert.KernelIdeal.Gen

/-- An array of rows with row `k` replaced. -/
def upd (W : Fin 8 → Fin 1024 → ℝ) (k : ℕ) (w : Fin 1024 → ℝ) : Fin 8 → Fin 1024 → ℝ :=
  fun i => if i.val = k then w else W i

/-- What a row of it is, where the row's number is known. -/
theorem upd_at (W : Fin 8 → Fin 1024 → ℝ) (k j : ℕ) (w : Fin 1024 → ℝ) (hj : j < 8) :
    upd W k w ⟨j, hj⟩ = if j = k then w else W ⟨j, hj⟩ := rfl

theorem over_row (W : Fin 8 → Fin 1024 → ℝ) (k : ℕ) (w : Fin 1024 → ℝ)
    (inb : ∀ a, (![k, 0] : Fin 2 → ℕ) a + (![1, 1024] : Fin 2 → ℕ) a ≤ S8x1024.size a) :
    (Rect.unit (s := S8x1024) ![k, 0] ![1, 1024] inb).overlay (up2 W : S8x1024.Idx → EReal) (rowb w)
      = up2 (upd W k w) := by
  funext y
  by_cases hy : y ∈ (Rect.unit (s := S8x1024) ![k, 0] ![1, 1024] inb).set
  · obtain ⟨x, rfl⟩ := (Rect.unit (s := S8x1024) ![k, 0] ![1, 1024] inb).exists_idx_of_mem hy
    have e0 : ((Rect.unit (s := S8x1024) ![k, 0] ![1, 1024] inb).idx x 0).val = k := by
      have := (x 0).isLt
      simp at this
      simp [Rect.idx_unit_val, this]
    have e1 : ((Rect.unit (s := S8x1024) ![k, 0] ![1, 1024] inb).idx x 1).val = (x 1).val := by
      simp [Rect.idx_unit_val]
    refine (Rect.overlay_emb _ _ _ x).trans ?_
    show rowb w x = up2 (upd W k w) _
    unfold rowb up2 upd
    rw [if_pos e0]
    exact congrArg (fun d => ((w d : ℝ) : EReal)) (Fin.ext e1.symm)
  · refine (Rect.overlay_of_not_mem _ _ _ ?_).trans ?_
    · exact hy
    · unfold up2 upd
      rw [if_neg]
      intro e
      apply hy
      refine Rect.mem_set_unit.mpr fun a => ?_
      have h1 : (y 1).val < 1024 := (y 1).isLt
      fin_cases a
      · exact ⟨le_of_eq e.symm, by show (y 0).val < k + 1; omega⟩
      · exact ⟨Nat.zero_le _, by show (y 1).val < 0 + 1024; omega⟩

theorem read_over {κ : Kind} {sp : Space} {s : Shape} {e : EltTy} (v : View sig κ sp s e) (f : v.ty.Contents (Elt Ideal))
    (q : View.Piece (Elt Ideal) s e) (L : List (View.Piece (Elt Ideal) s e)) :
    v.read (Elt Ideal) (v.writes (Elt Ideal) f (q :: L)) = q.1.overlay (v.read (Elt Ideal) (v.writes (Elt Ideal) f L)) q.2 := by
  funext y
  by_cases hy : y ∈ q.1.set
  · obtain ⟨r, w⟩ := q
    obtain ⟨x, rfl⟩ : ∃ x, r.emb x = y := r.exists_idx_of_mem hy
    rw [View.read_writes_cons_emb]; exact (Rect.overlay_emb _ _ _ x).symm
  · have hy' : y ∉ Finset.univ.map q.1.emb := by rwa [Rect.map_emb_univ]
    rw [View.writes_cons, View.read_slice_write_of_not_mem q.1 _ _ _ hy', Rect.overlay_of_not_mem _ _ _ hy]

theorem ld_row (W : Fin 8 → Fin 1024 → ℝ) (k : ℕ)
    (inb : ∀ a, (![k, 0] : Fin 2 → ℕ) a + (![1, 1024] : Fin 2 → ℕ) a ≤ S8x1024.size a) :
    View.ld (Val := Elt Ideal) (e' := .f32) (S := S8x1024) (up2 W) (Rect.unit ![k, 0] ![1, 1024] inb)
      = (rowb (W ⟨k, inb 0⟩) : S1x1024.Idx → EReal) := by
  funext x
  have e0 : ((Rect.unit (s := S8x1024) ![k, 0] ![1, 1024] inb).idx x 0) = ⟨k, inb 0⟩ := by
    have := (x 0).isLt
    simp at this
    apply Fin.ext
    simp [Rect.idx_unit_val, this]
  have e1 : ((Rect.unit (s := S8x1024) ![k, 0] ![1, 1024] inb).idx x 1) = x 1 := by
    apply Fin.ext; simp [Rect.idx_unit_val]
  show up2 W _ = _
  unfold rowb up2
  rw [e0, e1]
  rfl

theorem pay2_up : k0_pay2 (F := Ideal) = up2 fun _ _ => 0 := by
  funext i
  idx_vars i
  pointwise [k0_pay2]
  simp only [up2_at, zero_up]

theorem readCov_ld (v : View sig .tc .vmem S8x1024 .f32) (L : List (View.Piece (Elt Ideal) S8x1024 .f32)) (k : ℕ)
    (inb : ∀ a, (![k, 0] : Fin 2 → ℕ) a + (![1, 1024] : Fin 2 → ℕ) a ≤ S8x1024.size a) :
    v.readCov L (Rect.unit ![k, 0] ![1, 1024] inb).toLoadRect
      = View.ld (View.canon L) (Rect.unit (s := S8x1024) ![k, 0] ![1, 1024] inb) :=
  View.readCov_eq_canon' v L _

theorem canon_over (q : View.Piece (Elt Ideal) S8x1024 .f32) (q' : View.Piece (Elt Ideal) S8x1024 .f32) (L : List (View.Piece (Elt Ideal) S8x1024 .f32)) :
    View.canon (q :: q' :: L) = q.1.overlay (View.canon (q' :: L)) q.2 := View.canon_cons q (q' :: L)

theorem canon_whole (w : S8x1024.Idx → EReal) :
    View.canon (Val := Elt Ideal) (e := .f32) (s := S8x1024) [⟨Rect.unit ![0, 0] ![8, 1024] inb_S8x1024_S8x1024_0_0, w⟩] = w := by
  funext y
  canon_tiles x h
  refine congrArg w (funext fun a => Fin.ext ?_)
  fin_cases a
  · exact h0.symm
  · exact h1.symm

variable (m : (ℓ : Loc nD τ sig) → Buf (Elt Ideal) ℓ) (c : Dev nD)
variable {M : Fin 6 → Fin 1024 → ℝ} {p : Par} {X Y : Fin 256 → Fin 1024 → ℝ} {t : Fin cfg0.N}

theorem out14_A (B : Blk m c M p X Y t) (h : t.val % 8 = 0) :
    (outsAt0 m c t.val t.isLt).2.2.2.2.2.2 = up2 fun i d => ∑ r, p.vec (X r) (Y r) i d := by
  rw [outsAt0_A m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up, pay2_up, readCov_ld, canon_whole, canon_over, ld_row, over_row, upd_at, pay90_up, pay91_up, pay93_up, pay94_up, pay95_up, pay96_up, pay97_up, pay1_up]
  congr 1
  funext i d
  fin_cases i <;> simp [upd, Par.vec]

theorem out14_B (B : Blk m c M p X Y t) (h : ¬t.val % 8 = 0) (W : Fin 8 → Fin 1024 → ℝ)
    (hW : (outsAt0 m c (t.val - 1) (Nat.lt_of_le_of_lt (Nat.sub_le _ _) t.isLt)).2.2.2.2.2.2 = up2 W) :
    (outsAt0 m c t.val t.isLt).2.2.2.2.2.2 = up2 fun i d => W i d + ∑ r, p.vec (X r) (Y r) i d := by
  rw [outsAt0_B m c t h]; frame_out
  simp only [B.b0, B.b1, B.b2, B.b3, B.b4, B.b5, B.b6, B.b7, ld_mod3, ld_mod4, ld_mod5, ld_w0, ld_w1, ld_w2, ld_w3, B.h3, B.h4, B.h5, pay3_up, pay4_up, pay5_up, pay6_up, pay7_up, pay8_up, pay9_up, pay10_up, pay11_up, pay17_up, pay25_up, pay27_up, pay32_up, pay34_up, pay40_up, canon_bf16, pay14_up, pay15_up, pay22_up, pay23_up, pay29_up, pay30_up, pay37_up, pay38_up, scr_0, scr_1, scr_2, scr_3, pay18_up, pay26_up, pay33_up, f3_up, pay41_up, f_up, pay42_up, pay43_up, pay44_up, pay45_up, pay46_up, pay47_up, pay48_up, pay49_up, pay50_up, pay51_up, pay52_up, pay53_up, pay54_up, pay55_up, pay56_up, pay57_up, pay58_up, pay59_up, pay60_up, pay61_up, pay62_up, pay63_up, pay64_up, pay65_up, pay66_up, pay67_up, pay68_up, pay69_up, pay71_up, pay72_up, pay73_up, pay74_up, pay75_up, pay76_up, pay77_up, pay78_up, pay79_up, pay80_up, pay81_up, pay82_up, pay83_up, pay84_up, pay85_up, pay86_up, dh3_up, pay87_up, pay88_up, pay89_up, hW, ld_row, read_over, View.writes_nil, Memref.IsWhole.read_unread, over_row, upd_at, pay90_up, pay91_up, pay93_up, pay94_up, pay95_up, pay96_up, pay97_up, pay1_up]
  congr 1
  funext i d
  fin_cases i <;> simp [upd, Par.vec]
end Cert.Hand.Ffn
-- ==== Proof.Ffn.Args.lean ====
/- The arguments as arrays of real numbers, and the blocks of a grid point read from them. -/
module

public import proofs.«01_k».proof.Proof.Ffn.Vec
@[expose] public section
set_option maxRecDepth 16384
noncomputable section
namespace Cert.Hand.Ffn
open Idealize.ShloMosaic Idealize.ShloMosaic.Pipeline Cert.KernelIdeal Cert.KernelIdeal.Gen

variable (m : (ℓ : Loc nD τ sig) → Buf (Elt Ideal) ℓ) (c : Dev nD)

/-- The modulation as six rows. -/
def modOf (mm : Fin 6144 → ℝ) : Fin 6 → Fin 1024 → ℝ := fun i d => mm ⟨i.val * 1024 + d.val, by omega⟩

/-- The arguments hold real numbers. -/
structure Args (x y : Fin 2048 → Fin 1024 → ℝ) (mm : Fin 6144 → ℝ) (p : Par) : Prop where
  a0 : m (c, Proc.tc.devRef main_arg0) = (tok x : S1x2048x1024.Idx → EReal)
  a1 : m (c, Proc.tc.devRef main_arg1) = (tok y : S1x2048x1024.Idx → EReal)
  a2 : m (c, Proc.tc.devRef main_arg2) = (row1 mm : S1x6144.Idx → EReal)
  a3 : m (c, Proc.tc.devRef main_arg3) = (row1 p.g : S1x1024.Idx → EReal)
  a4 : m (c, Proc.tc.devRef main_arg4) = (wmat p.wg : S1x1024x2816.Idx → EReal)
  a5 : m (c, Proc.tc.devRef main_arg5) = (wmat p.wu : S1x1024x2816.Idx → EReal)
  a6 : m (c, Proc.tc.devRef main_arg6) = (wmat (fun d h => p.wd h d) : S1x2816x1024.Idx → EReal)
  a7 : m (c, Proc.tc.devRef main_arg7) = (up1 p.gf : S1024.Idx → EReal)
  rows : Rows mm p

variable {x y : Fin 2048 → Fin 1024 → ℝ} {mm : Fin 6144 → ℝ} {p : Par}

theorem tile_lt (t : Fin cfg0.N) (r : Fin 256) : t.val * 256 + r.val < 2048 := by
  have h : t.val < 8 := lt_of_lt_of_eq t.isLt N_0
  omega

/-- The tokens of one grid point. -/
def tile (x : Fin 2048 → Fin 1024 → ℝ) (t : Fin cfg0.N) : Fin 256 → Fin 1024 → ℝ :=
  fun r => x ⟨t.val * 256 + r.val, tile_lt t r⟩

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0, 0] ∧ win0_8.index t = ![t.val, 0] ∧ win0_9.index t = ![t.val, 0] ∧ win0_10.index t = ![t.val, 0]
    ∧ win0_11.index t = ![0, t.val, 0] ∧ win0_12.index t = ![0, t.val, 0] ∧ win0_13.index t = ![0, t.val, 0]
    ∧ win0_14.index t = ![0, 0] := (by decide +kernel : ∀ t : Fin grid0.N, _)

theorem v11 (A : Args m c x y mm p) : V m c main_v11 = (up2 x : S2048x1024.Idx → EReal) := by
  funext i
  idx_vars i
  entry_read
  rw [A.a0]
  pointwise
  rfl

theorem v12 (A : Args m c x y mm p) : V m c main_v12 = (up2 y : S2048x1024.Idx → EReal) := by
  funext i
  idx_vars i
  entry_read
  rw [A.a1]
  pointwise
  rfl

theorem v13 (A : Args m c x y mm p) : V m c main_v13 = (up2 (modOf mm) : S6x1024.Idx → EReal) := by
  funext i
  idx_vars i
  entry_read
  rw [A.a2]
  pointwise
  rfl

theorem v14 (A : Args m c x y mm p) : V m c main_v14 = (rowb p.gf : S1x1024.Idx → EReal) := by
  funext i
  idx_vars i
  entry_read
  rw [A.a7]
  pointwise
  rfl

theorem v3 (A : Args m c x y mm p) : V m c main_v3 = (wstk p.wg : S4x704x1024.Idx → EReal) := by
  funext i
  idx_vars i
  entry_read
  rw [A.a4]
  pointwise
  rfl

theorem v7 (A : Args m c x y mm p) : V m c main_v7 = (wstk p.wu : S4x704x1024.Idx → EReal) := by
  funext i
  idx_vars i
  entry_read
  rw [A.a5]
  pointwise
  rfl

theorem v10 (A : Args m c x y mm p) : V m c main_v10 = (wstk p.wd : S4x704x1024.Idx → EReal) := by
  funext i
  idx_vars i
  entry_read
  rw [A.a6]
  pointwise
  rfl

theorem v_g (A : Args m c x y mm p) : V m c main_arg3 = (rowb p.g : S1x1024.Idx → EReal) := A.a3

theorem blk0 (A : Args m c x y mm p) (t : Fin cfg0.N) : iblk m c 0 t = up2 (tile x t) := by
  funext i
  idx_vars i
  refine (congrFun (v11 m c A) _).trans ?_
  refine Eq.trans (b := up2 x (ix2 (⟨t.val * 256 + i0.val, (tile_lt t i0)⟩ : Fin 2048) i1)) ?_ rfl
  blk_ext [idx t]

theorem blk1 (A : Args m c x y mm p) (t : Fin cfg0.N) : iblk m c 1 t = up2 (tile y t) := by
  funext i
  idx_vars i
  refine (congrFun (v12 m c A) _).trans ?_
  refine Eq.trans (b := up2 y (ix2 (⟨t.val * 256 + i0.val, (tile_lt t i0)⟩ : Fin 2048) i1)) ?_ rfl
  blk_ext [idx t]

theorem blk2 (A : Args m c x y mm p) (t : Fin cfg0.N) : iblk m c 2 t = up2 (modOf mm) := by
  funext i
  idx_vars i
  refine (congrFun (v13 m c A) _).trans ?_
  blk_ext [idx t]

theorem blk3 (A : Args m c x y mm p) (t : Fin cfg0.N) : iblk m c 3 t = rowb p.g := by
  funext i
  idx_vars i
  refine (congrFun (v_g m c A) _).trans ?_
  blk_ext [idx t]

theorem blk4 (A : Args m c x y mm p) (t : Fin cfg0.N) : iblk m c 4 t = rowb p.gf := by
  funext i
  idx_vars i
  refine (congrFun (v14 m c A) _).trans ?_
  blk_ext [idx t]

theorem blk5 (A : Args m c x y mm p) (t : Fin cfg0.N) : iblk m c 5 t = wstk p.wg := by
  funext i
  idx_vars i
  refine (congrFun (v3 m c A) _).trans ?_
  blk_ext [idx t]

theorem blk6 (A : Args m c x y mm p) (t : Fin cfg0.N) : iblk m c 6 t = wstk p.wu := by
  funext i
  idx_vars i
  refine (congrFun (v7 m c A) _).trans ?_
  blk_ext [idx t]

theorem blk7 (A : Args m c x y mm p) (t : Fin cfg0.N) : iblk m c 7 t = wstk p.wd := by
  funext i
  idx_vars i
  refine (congrFun (v10 m c A) _).trans ?_
  blk_ext [idx t]

/-- At every grid point the blocks hold the tokens of that point and the parameters. -/
theorem blks (A : Args m c x y mm p) (t : Fin cfg0.N) : Blk m c (modOf mm) p (tile x t) (tile y t) t where
  h3 := A.rows.sh.symm
  h4 := A.rows.sc.symm
  h5 := A.rows.gt.symm
  b0 := blk0 m c A t
  b1 := blk1 m c A t
  b2 := blk2 m c A t
  b3 := blk3 m c A t
  b4 := blk4 m c A t
  b5 := blk5 m c A t
  b6 := blk6 m c A t
  b7 := blk7 m c A t
end Cert.Hand.Ffn
-- ==== Proof.Ffn.Arrays.lean ====
/- What the output arrays hold after the last grid point. -/
module

public import proofs.«01_k».proof.Proof.Ffn.Args
@[expose] public section
set_option maxRecDepth 16384
noncomputable section
namespace Cert.Hand.Ffn
open Idealize.ShloMosaic Idealize.ShloMosaic.Pipeline Cert.KernelIdeal Cert.KernelIdeal.Gen

variable (m : (ℓ : Loc nD τ sig) → Buf (Elt Ideal) ℓ) (c : Dev nD)
variable {x y : Fin 2048 → Fin 1024 → ℝ} {mm : Fin 6144 → ℝ} {p : Par}

theorem out8 (A : Args m c x y mm p) (t : Fin cfg0.N) :
    (outsAt0 m c t.val t.isLt).1 = up2 fun r => p.dx (tile x t r) (tile y t r) := by
  by_cases h : t.val % 8 = 0
  · exact out8_A m c (blks m c A t) h
  · exact out8_B m c (blks m c A t) h

theorem arr8 (A : Args m c x y mm p) :
    (dats m 0 c).arrAt 8 grid0.N = (up2 fun t d => p.dx (x t) (y t) d : S2048x1024.Idx → EReal) := by
  refine (dats m 0 c).arrAt_eq_of_covers 8 _ (by decide +kernel) fun t _ j => ?_
  blk_simp
  rw [after0_8, out8 m c A t]
  idx_vars j
  refine Eq.trans (b := up2 (fun t d => p.dx (x t) (y t) d) (ix2 (⟨t.val * 256 + j0.val, tile_lt t j0⟩ : Fin 2048) j1)) rfl ?_
  blk_ext [idx t]

theorem out9 (A : Args m c x y mm p) (t : Fin cfg0.N) :
    (outsAt0 m c t.val t.isLt).2.1 = up2 fun r => p.h (tile x t r) := by
  by_cases h : t.val % 8 = 0
  · exact out9_A m c (blks m c A t) h
  · exact out9_B m c (blks m c A t) h

theorem arr9 (A : Args m c x y mm p) :
    (dats m 0 c).arrAt 9 grid0.N = (up2 fun t d => p.h (x t) d : S2048x1024.Idx → EReal) := by
  refine (dats m 0 c).arrAt_eq_of_covers 9 _ (by decide +kernel) fun t _ j => ?_
  blk_simp
  rw [after0_9, out9 m c A t]
  idx_vars j
  refine Eq.trans (b := up2 (fun t d => p.h (x t) d) (ix2 (⟨t.val * 256 + j0.val, tile_lt t j0⟩ : Fin 2048) j1)) rfl ?_
  blk_ext [idx t]

theorem out10 (A : Args m c x y mm p) (t : Fin cfg0.N) :
    (outsAt0 m c t.val t.isLt).2.2.1 = up2 fun r => p.df (tile x t r) (tile y t r) := by
  by_cases h : t.val % 8 = 0
  · exact out10_A m c (blks m c A t) h
  · exact out10_B m c (blks m c A t) h

theorem arr10 (A : Args m c x y mm p) :
    (dats m 0 c).arrAt 10 grid0.N = (up2 fun t d => p.df (x t) (y t) d : S2048x1024.Idx → EReal) := by
  refine (dats m 0 c).arrAt_eq_of_covers 10 _ (by decide +kernel) fun t _ j => ?_
  blk_simp
  rw [after0_10, out10 m c A t]
  idx_vars j
  refine Eq.trans (b := up2 (fun t d => p.df (x t) (y t) d) (ix2 (⟨t.val * 256 + j0.val, tile_lt t j0⟩ : Fin 2048) j1)) rfl ?_
  blk_ext [idx t]

theorem out11 (A : Args m c x y mm p) (t : Fin cfg0.N) :
    (outsAt0 m c t.val t.isLt).2.2.2.1 = hstk fun r => p.act (tile x t r) := by
  by_cases h : t.val % 8 = 0
  · exact out11_A m c (blks m c A t) h
  · exact out11_B m c (blks m c A t) h

theorem arr11 (A : Args m c x y mm p) :
    (dats m 0 c).arrAt 11 grid0.N = (up3 fun j t k => p.act (x t) (hid j k) : S4x2048x704.Idx → EReal) := by
  refine (dats m 0 c).arrAt_eq_of_covers 11 _ (by decide +kernel) fun t _ j => ?_
  blk_simp
  rw [after0_11, out11 m c A t]
  idx_vars j
  refine Eq.trans (b := up3 (fun j t k => p.act (x t) (hid j k)) (ix3 j0 (⟨t.val * 256 + j1.val, tile_lt t j1⟩ : Fin 2048) j2)) rfl ?_
  blk_ext [idx t]

theorem out12 (A : Args m c x y mm p) (t : Fin cfg0.N) :
    (outsAt0 m c t.val t.isLt).2.2.2.2.1 = hstk fun r => p.dgate (tile x t r) (tile y t r) := by
  by_cases h : t.val % 8 = 0
  · exact out12_A m c (blks m c A t) h
  · exact out12_B m c (blks m c A t) h

theorem arr12 (A : Args m c x y mm p) :
    (dats m 0 c).arrAt 12 grid0.N = (up3 fun j t k => p.dgate (x t) (y t) (hid j k) : S4x2048x704.Idx → EReal) := by
  refine (dats m 0 c).arrAt_eq_of_covers 12 _ (by decide +kernel) fun t _ j => ?_
  blk_simp
  rw [after0_12, out12 m c A t]
  idx_vars j
  refine Eq.trans (b := up3 (fun j t k => p.dgate (x t) (y t) (hid j k)) (ix3 j0 (⟨t.val * 256 + j1.val, tile_lt t j1⟩ : Fin 2048) j2)) rfl ?_
  blk_ext [idx t]

theorem out13 (A : Args m c x y mm p) (t : Fin cfg0.N) :
    (outsAt0 m c t.val t.isLt).2.2.2.2.2.1 = hstk fun r => p.dup (tile x t r) (tile y t r) := by
  by_cases h : t.val % 8 = 0
  · exact out13_A m c (blks m c A t) h
  · exact out13_B m c (blks m c A t) h

theorem arr13 (A : Args m c x y mm p) :
    (dats m 0 c).arrAt 13 grid0.N = (up3 fun j t k => p.dup (x t) (y t) (hid j k) : S4x2048x704.Idx → EReal) := by
  refine (dats m 0 c).arrAt_eq_of_covers 13 _ (by decide +kernel) fun t _ j => ?_
  blk_simp
  rw [after0_13, out13 m c A t]
  idx_vars j
  refine Eq.trans (b := up3 (fun j t k => p.dup (x t) (y t) (hid j k)) (ix3 j0 (⟨t.val * 256 + j1.val, tile_lt t j1⟩ : Fin 2048) j2)) rfl ?_
  blk_ext [idx t]

/-- What grid point `s` adds to the sums over tokens. -/
def add (p : Par) (x y : Fin 2048 → Fin 1024 → ℝ) (s : ℕ) (i : Fin 8) (d : Fin 1024) : ℝ :=
  if h : s < 8 then ∑ r : Fin 256, p.vec (x ⟨s * 256 + r.val, by omega⟩) (y ⟨s * 256 + r.val, by omega⟩) i d else 0

theorem add_eq (p : Par) (t : Fin cfg0.N) (i : Fin 8) (d : Fin 1024) :
    ∑ r, p.vec (tile x t r) (tile y t r) i d = add p x y t.val i d := by
  rw [add, dif_pos (lt_of_lt_of_eq t.isLt N_0)]
  rfl

theorem out14 (A : Args m c x y mm p) : ∀ (n : ℕ) (h : n < cfg0.N),
    (outsAt0 m c n h).2.2.2.2.2.2 = up2 fun i d => ∑ s ∈ Finset.range (n + 1), add p x y s i d := by
  intro n
  induction n with
  | zero =>
    intro h
    rw [out14_A m c (t := ⟨0, h⟩) (blks m c A _) (Nat.zero_mod _)]
    simp only [add_eq, zero_add, Finset.sum_range_one]
  | succ n ih =>
    intro h
    have h8 : n + 1 < 8 := lt_of_lt_of_eq h N_0
    rw [out14_B m c (t := ⟨n + 1, h⟩) (blks m c A _) (by show ¬ (n + 1) % 8 = 0; omega) _ (ih (by omega))]
    simp only [add_eq, Finset.sum_range_succ _ (n + 1)]

theorem add_all (p : Par) (i : Fin 8) (d : Fin 1024) :
    ∑ s ∈ Finset.range 8, add p x y s i d = ∑ t : Fin 2048, p.vec (x t) (y t) i d := by
  rw [Fin.sum_univ_tiles 8 256 rfl, Finset.sum_range]
  refine Finset.sum_congr rfl fun s _ => ?_
  rw [add, dif_pos s.isLt]

theorem arr14 (A : Args m c x y mm p) :
    (dats m 0 c).arrAt 14 grid0.N = (up2 fun i d => ∑ t, p.vec (x t) (y t) i d : S8x1024.Idx → EReal) := by
  refine (dats m 0 c).arrAt_eq_of_after_last 14 t0_7 (by decide +kernel) _ fun j => ?_
  blk_simp
  rw [after0_14, out14 m c A]
  idx_vars j
  have e : t0_7.val = 7 := rfl
  simp only [e, add_all]
  exact congrArg (fun z : ℝ => (z : EReal)) (add_all p j0 j1)
end Cert.Hand.Ffn
-- ==== Proof.Ffn.Final.lean ====
/- From finite arguments to the claim's values: every result of the kernel equals the reference's. -/
module

public import proofs.«01_k».proof.Proof.Ffn.Arrays
public import proofs.«01_k».proof.Proof.Ffn.Ref
public import proofs.«01_k».proof.Proof.Finite
public import proofs.«01_k».proof.Defs

@[expose] public section
set_option maxRecDepth 16384

noncomputable section
namespace Cert.Hand.Ffn
open Idealize.ShloMosaic Idealize.ShloMosaic.Pipeline Cert.KernelIdeal Cert.KernelIdeal.Gen Cert.ReferenceIdeal.Read

/-- The side conditions of the precondition's operations. -/
theorem preFacts : Cert.Pre_finite.Facts where
  bcast_S_S1x2048x1024 := by decide
  bcast_S_S1x6144 := by decide
  bcast_S_S1x1024 := by decide
  bcast_S_S1x1024x2816 := by decide
  bcast_S_S1x2816x1024 := by decide
  bcast_S_S1024 := by decide

variable (m : (ℓ : Loc nD τ sig) → Buf (Elt Ideal) ℓ) (c : Dev nD)

/-- The parameters an array of extended reals stands for. -/
def parArgs (mm : Fin 6144 → ℝ) (a3 : S1x1024.Idx → EReal) (a4 a5 : S1x1024x2816.Idx → EReal) (a6 : S1x2816x1024.Idx → EReal)
    (a7 : S1024.Idx → EReal) : Par where
  sh d := mm ⟨3072 + d.val, by omega⟩
  sc d := mm ⟨4096 + d.val, by omega⟩
  gt d := mm ⟨5120 + d.val, by omega⟩
  g d := (a3 (ix2 0 d)).toReal
  gf d := (a7 (ix1 d)).toReal
  wg h d := (a4 (ix3 0 d h)).toReal
  wu h d := (a5 (ix3 0 d h)).toReal
  wd h d := (a6 (ix3 0 h d)).toReal

theorem args_of_pre (h : Cert.Pre_KernelIdeal_finite (hPre_finite := preFacts) m) : ∃ x y mm p, Args m c x y mm p := by
  obtain ⟨h0, h1, h2, h3, h4, h5, h6, h7⟩ := h c
  refine ⟨fun t d => (m (c, Proc.tc.devRef main_arg0) (ix3 0 t d) : EReal).toReal,
    fun t d => (m (c, Proc.tc.devRef main_arg1) (ix3 0 t d) : EReal).toReal,
    fun q => (m (c, Proc.tc.devRef main_arg2) (ix2 0 q) : EReal).toReal,
    parArgs (fun q => (m (c, Proc.tc.devRef main_arg2) (ix2 0 q) : EReal).toReal) (m (c, Proc.tc.devRef main_arg3))
      (m (c, Proc.tc.devRef main_arg4)) (m (c, Proc.tc.devRef main_arg5)) (m (c, Proc.tc.devRef main_arg6))
      (m (c, Proc.tc.devRef main_arg7)), ⟨?_, ?_, ?_, ?_, ?_, ?_, ?_, ?_, ⟨rfl, rfl, rfl⟩⟩⟩
  · funext i
    refine (real_of_mask _ _ h0 i).trans ?_
    idx_vars i
    obtain rfl : i0 = 0 := Subsingleton.elim _ _
    rfl
  · funext i
    refine (real_of_mask _ _ h1 i).trans ?_
    idx_vars i
    obtain rfl : i0 = 0 := Subsingleton.elim _ _
    rfl
  · funext i
    refine (real_of_mask _ _ h2 i).trans ?_
    idx_vars i
    obtain rfl : i0 = 0 := Subsingleton.elim _ _
    rfl
  · funext i
    refine (real_of_mask _ _ h3 i).trans ?_
    idx_vars i
    obtain rfl : i0 = 0 := Subsingleton.elim _ _
    rfl
  · funext i
    refine (real_of_mask _ _ h4 i).trans ?_
    idx_vars i
    obtain rfl : i0 = 0 := Subsingleton.elim _ _
    rfl
  · funext i
    refine (real_of_mask _ _ h5 i).trans ?_
    idx_vars i
    obtain rfl : i0 = 0 := Subsingleton.elim _ _
    rfl
  · funext i
    refine (real_of_mask _ _ h6 i).trans ?_
    idx_vars i
    obtain rfl : i0 = 0 := Subsingleton.elim _ _
    rfl
  · funext i
    refine (real_of_mask _ _ h7 i).trans ?_
    idx_vars i
    rfl

/-- Arrays that are the arguments of the launch. -/
abbrev Same (a0 a1 : S1x2048x1024.Idx → EReal) (a2 : S1x6144.Idx → EReal) (a3 : S1x1024.Idx → EReal)
    (a4 a5 : S1x1024x2816.Idx → EReal) (a6 : S1x2816x1024.Idx → EReal) (a7 : S1024.Idx → EReal) : Prop :=
  a0 = m (c, Proc.tc.devRef main_arg0) ∧ a1 = m (c, Proc.tc.devRef main_arg1) ∧ a2 = m (c, Proc.tc.devRef main_arg2)
  ∧ a3 = m (c, Proc.tc.devRef main_arg3) ∧ a4 = m (c, Proc.tc.devRef main_arg4) ∧ a5 = m (c, Proc.tc.devRef main_arg5)
  ∧ a6 = m (c, Proc.tc.devRef main_arg6) ∧ a7 = m (c, Proc.tc.devRef main_arg7)

variable {m c} {x y : Fin 2048 → Fin 1024 → ℝ} {mm : Fin 6144 → ℝ} {p : Par} (A : Args m c x y mm p)
  {a0 a1 : S1x2048x1024.Idx → EReal} {a2 : S1x6144.Idx → EReal} {a3 : S1x1024.Idx → EReal}
  {a4 a5 : S1x1024x2816.Idx → EReal} {a6 : S1x2816x1024.Idx → EReal} {a7 : S1024.Idx → EReal}
include A

theorem fin0 (e : Same m c a0 a1 a2 a3 a4 a5 a6 a7) : val_main_v162 (F := Ideal) a0 a1 a2 a3 a4 a5 a6 a7 = (dats m 0 c).arrAt 8 grid0.N := by
  obtain ⟨rfl, rfl, rfl, rfl, rfl, rfl, rfl, rfl⟩ := e
  rw [A.a0, A.a1, A.a2, A.a3, A.a4, A.a5, A.a6, A.a7]
  rw [arr8 m c A]; exact r162 _ _ _ _ A.rows

theorem fin1 (e : Same m c a0 a1 a2 a3 a4 a5 a6 a7) : val_main_v164 (F := Ideal) a0 a2 a3 = (dats m 0 c).arrAt 9 grid0.N := by
  obtain ⟨rfl, rfl, rfl, rfl, rfl, rfl, rfl, rfl⟩ := e
  rw [A.a0, A.a2, A.a3]
  rw [arr9 m c A]; exact r164 _ _ _ A.rows

theorem fin2 (e : Same m c a0 a1 a2 a3 a4 a5 a6 a7) : val_main_v166 (F := Ideal) a0 a1 a2 a3 a4 a5 a6 a7 = (dats m 0 c).arrAt 10 grid0.N := by
  obtain ⟨rfl, rfl, rfl, rfl, rfl, rfl, rfl, rfl⟩ := e
  rw [A.a0, A.a1, A.a2, A.a3, A.a4, A.a5, A.a6, A.a7]
  rw [arr10 m c A]; exact r166 _ _ _ _ A.rows

theorem fin3 (e : Same m c a0 a1 a2 a3 a4 a5 a6 a7) : val_main_v170 (F := Ideal) a0 a2 a3 a4 a5 = (dats m 0 c).arrAt 11 grid0.N := by
  obtain ⟨rfl, rfl, rfl, rfl, rfl, rfl, rfl, rfl⟩ := e
  rw [A.a0, A.a2, A.a3, A.a4, A.a5]
  rw [arr11 m c A]; exact r170 _ _ _ A.rows

theorem fin4 (e : Same m c a0 a1 a2 a3 a4 a5 a6 a7) : val_main_v174 (F := Ideal) a0 a1 a2 a3 a4 a5 a6 a7 = (dats m 0 c).arrAt 12 grid0.N := by
  obtain ⟨rfl, rfl, rfl, rfl, rfl, rfl, rfl, rfl⟩ := e
  rw [A.a0, A.a1, A.a2, A.a3, A.a4, A.a5, A.a6, A.a7]
  rw [arr12 m c A]; exact r174 _ _ _ _ A.rows

theorem fin5 (e : Same m c a0 a1 a2 a3 a4 a5 a6 a7) : val_main_v178 (F := Ideal) a0 a1 a2 a3 a4 a5 a6 a7 = (dats m 0 c).arrAt 13 grid0.N := by
  obtain ⟨rfl, rfl, rfl, rfl, rfl, rfl, rfl, rfl⟩ := e
  rw [A.a0, A.a1, A.a2, A.a3, A.a4, A.a5, A.a6, A.a7]
  rw [arr13 m c A]; exact r178 _ _ _ _ A.rows

theorem fin6 (e : Same m c a0 a1 a2 a3 a4 a5 a6 a7) : val_main_v161 (F := Ideal) a0 a1 a2 a3 a4 a5 a6 a7 = (dats m 0 c).arrAt 14 grid0.N := by
  obtain ⟨rfl, rfl, rfl, rfl, rfl, rfl, rfl, rfl⟩ := e
  rw [A.a0, A.a1, A.a2, A.a3, A.a4, A.a5, A.a6, A.a7]
  rw [arr14 m c A]; exact r161 _ _ _ _ A.rows

end Cert.Hand.Ffn
end
-- ==== Proof.Ffn.RefRun.lean ====
/- The reference's run: its results at the stages' values. -/
module

public import proofs.«01_k».proof.Proof.Gen.ReferenceIdeal.Run
public import proofs.«01_k».proof.Proof.Gen.ReferenceIdeal.Read

@[expose] public section
set_option maxRecDepth 16384

noncomputable section
namespace Cert.Hand.Ffn.RefRun
open Idealize.ShloMosaic Idealize.SL.Sem Cert.ReferenceIdeal Cert.ReferenceIdeal.Gen Cert.ReferenceIdeal.Read Idealize.ShloMosaic.StableHlo

variable (m : (ℓ : Loc nD τ sig) → Buf (Elt Ideal) ℓ) (ρ : Dev nD → PrngReg)

/-- The arguments end unchanged, and there is no semaphore to leave above zero. -/
theorem values : θ_run (defs (F := Ideal)) (onTc (τ := τ) (main (F := Ideal))) ⟨m, fun _ => 0, ρ⟩ fun r => ∀ c : Dev nD,
      r.2.mem (c.tc.loc main_v162) = val_main_v162 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7))
      ∧ r.2.mem (c.tc.loc main_v164) = val_main_v164 (m (c, Proc.tc.devRef main_arg0)) (m (c, Proc.tc.devRef main_arg2)) (m (c, Proc.tc.devRef main_arg3))
      ∧ r.2.mem (c.tc.loc main_v166) = val_main_v166 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7))
      ∧ r.2.mem (c.tc.loc main_v170) = val_main_v170 (m (c, Proc.tc.devRef main_arg0)) (m (c, Proc.tc.devRef main_arg2)) (m (c, Proc.tc.devRef main_arg3)) (m (c, Proc.tc.devRef main_arg4)) (m (c, Proc.tc.devRef main_arg5))
      ∧ r.2.mem (c.tc.loc main_v174) = val_main_v174 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7))
      ∧ r.2.mem (c.tc.loc main_v178) = val_main_v178 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7))
      ∧ r.2.mem (c.tc.loc main_v161) = val_main_v161 (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans (val_main_v162_eq _),
      (h c).2.1.trans (val_main_v164_eq _),
      (h c).2.2.1.trans (val_main_v166_eq _),
      (h c).2.2.2.1.trans (val_main_v170_eq _),
      (h c).2.2.2.2.1.trans (val_main_v174_eq _),
      (h c).2.2.2.2.2.1.trans (val_main_v178_eq _),
      (h c).2.2.2.2.2.2.1.trans (val_main_v161_eq _),
      (h c).2.2.2.2.2.2.2⟩) (Cert.ReferenceIdeal.Value.run m ρ)

end Cert.Hand.Ffn.RefRun
end
-- ==== Proof.Step.Gate.lean ====
/- The weight gradient of the gate projection: the array the kernel leaves is the reference's product. -/
module

public import proofs.«01_k».proof.Proof.Gen.Kernel4Ideal.Value
public import proofs.«01_k».proof.Proof.Gen.Reference4Ideal.Read
public import Idealize.ShloMosaic.Lib.Pipeline.ValueKit

@[expose] public section
set_option maxRecDepth 16384
set_option maxHeartbeats 2000000

noncomputable section
namespace Cert.Hand.Gate
open Idealize.ShloMosaic Idealize.ShloMosaic.Pipeline Cert.Kernel4Ideal Cert.Kernel4Ideal.Gen Cert.Reference4Ideal.Read

variable (m : (ℓ : Loc nD τ sig) → Buf (Elt Ideal) ℓ) (c : Dev nD)

theorem idx : ∀ t : Fin cfg0.N, win0_0.index t = ![t.val, 0, 0] ∧ win0_1.index t = ![0, 0] ∧ win0_2.index t = ![t.val, 0, 0] :=
  (by decide +kernel : ∀ t : Fin grid0.N, _)

/-- A grid point's block of the hidden gradient: its 704 channels at every token. -/
theorem hid (t : Fin cfg0.N) (z : Fin 1) (k : Fin 2048) (h : Fin 704) : iblk m c 0 t (ix3 z k h)
    = m (c, Proc.tc.devRef main_arg1) (ix3 (0 : Fin 1) k (⟨t.val * 704 + h.val, by have : t.val < 4 := t.isLt; omega⟩ : Fin 2816)) := by
  blk_simp [iblk]
  entry_read
  pointwise
  blk_ext [idx t]

/-- Every grid point reads the whole normalized input. -/
theorem inp (t : Fin cfg0.N) (k : Fin 2048) (d : Fin 1024) : iblk m c 1 t (ix2 k d)
    = m (c, Proc.tc.devRef main_arg0) (ix3 (0 : Fin 1) k d) := by
  blk_simp [iblk]
  entry_read
  pointwise
  blk_ext [idx t]

theorem fin : (dats m 0 c).arrAt 2 grid0.N = val_main_v7 (F := Ideal) (m (c, Proc.tc.devRef main_arg0)) (m (c, Proc.tc.devRef main_arg1)) := by
  refine (dats m 0 c).arrAt_eq_of_covers 2 _ (by decide +kernel) fun t _ j => ?_
  blk_simp
  rw [after0_2]
  idx_vars j
  frame_out
  refine Eq.trans (b := val_main_v7 (F := Ideal) (m (c, Proc.tc.devRef main_arg0)) (m (c, Proc.tc.devRef main_arg1)) (ix3 (⟨t.val, t.isLt⟩ : Fin 4) j1 j2)) ?_ ?_
  · pointwise [k0_pay1, val_main_v7_apply, val_main_v6_apply, val_main_v5_apply, val_main_v4_apply, val_main_v3_apply, val_main_v1_apply, hid, inp]
    refine Finset.sum_congr rfl fun k _ => ?_
    congr 1 <;> blk_ext
  · blk_ext [idx t]

end Cert.Hand.Gate
end
-- ==== Proof.Step.Dmix.lean ====
/- The weight gradients of the mixer's two projections: the arrays the kernel leaves are the reference's products. -/
module

public import proofs.«01_k».proof.Proof.Gen.Kernel5Ideal.Value
public import proofs.«01_k».proof.Proof.Gen.Reference5Ideal.Read
public import Idealize.ShloMosaic.Lib.Pipeline.ValueKit

@[expose] public section
set_option maxRecDepth 16384
set_option maxHeartbeats 2000000

noncomputable section
namespace Cert.Hand.Dmix
open Idealize.ShloMosaic Idealize.ShloMosaic.Pipeline Cert.Kernel5Ideal Cert.Kernel5Ideal.Gen Cert.Reference5Ideal.Read

variable (m : (ℓ : Loc nD τ sig) → Buf (Elt Ideal) ℓ) (c : Dev nD)

theorem idx : ∀ t : Fin cfg0.N, win0_0.index t = ![0, t.val] ∧ win0_1.index t = ![0, 0] ∧ win0_2.index t = ![0, 0] ∧ win0_3.index t = ![0, t.val]
    ∧ win0_4.index t = ![t.val, 0, 0] ∧ win0_5.index t = ![t.val, 0, 0] :=
  (by decide +kernel : ∀ t : Fin grid0.N, _)

/-- A grid point's blocks: its columns of the mixed channels and of the input gradient, and the two factors whole. -/
theorem blk (t : Fin cfg0.N) (k : Fin 2048) (d : Fin 1024) (e : Fin 256) (h : Fin 384) :
    iblk m c 0 t (ix2 k e) = m (c, Proc.tc.devRef main_arg0) (ix3 (0 : Fin 1) k (⟨t.val * 256 + e.val, by have : t.val < 4 := t.isLt; omega⟩ : Fin 1024))
    ∧ iblk m c 1 t (ix2 k d) = m (c, Proc.tc.devRef main_arg1) (ix3 (0 : Fin 1) k d)
    ∧ iblk m c 2 t (ix2 k d) = m (c, Proc.tc.devRef main_arg2) (ix3 (0 : Fin 1) k d)
    ∧ iblk m c 3 t (ix2 k h) = m (c, Proc.tc.devRef main_arg3) (ix3 (0 : Fin 1) k (⟨t.val * 384 + h.val, by have : t.val < 4 := t.isLt; omega⟩ : Fin 1536)) := by
  refine ⟨?_, ?_, ?_, ?_⟩ <;>
  · blk_simp [iblk]
    entry_read
    pointwise
    blk_ext [idx t]

theorem fin0 : (dats m 0 c).arrAt 4 grid0.N = val_main_v12 (F := Ideal) (m (c, Proc.tc.devRef main_arg0)) (m (c, Proc.tc.devRef main_arg1)) := by
  refine (dats m 0 c).arrAt_eq_of_covers 4 _ (by decide +kernel) fun t _ j => ?_
  blk_simp
  rw [after0_4]
  idx_vars j
  frame_out
  refine Eq.trans (b := val_main_v12 (F := Ideal) (m (c, Proc.tc.devRef main_arg0)) (m (c, Proc.tc.devRef main_arg1)) (ix3 (⟨t.val, t.isLt⟩ : Fin 4) j1 j2)) ?_ ?_
  · pointwise [k0_pay1, val_main_v12_apply, val_main_v5_apply, val_main_v4_apply, val_main_v3_apply, val_main_v1_apply]
    refine Finset.sum_congr rfl fun k _ => ?_
    obtain ⟨e0, e1, -⟩ := blk m c t k j2 j1 0
    rw [e0, e1, mul_comm]
    congr 1 <;> blk_ext
  · blk_ext [idx t]

theorem fin1 : (dats m 0 c).arrAt 5 grid0.N = val_main_v14 (F := Ideal) (m (c, Proc.tc.devRef main_arg2)) (m (c, Proc.tc.devRef main_arg3)) := by
  refine (dats m 0 c).arrAt_eq_of_covers 5 _ (by decide +kernel) fun t _ j => ?_
  blk_simp
  rw [after0_5]
  idx_vars j
  frame_out
  refine Eq.trans (b := val_main_v14 (F := Ideal) (m (c, Proc.tc.devRef main_arg2)) (m (c, Proc.tc.devRef main_arg3)) (ix3 (⟨t.val, t.isLt⟩ : Fin 4) j1 j2)) ?_ ?_
  · pointwise [k0_pay2, val_main_v14_apply, val_main_v13_apply, val_main_v11_apply, val_main_v10_apply, val_main_v9_apply, val_main_v7_apply]
    refine Finset.sum_congr rfl fun k _ => ?_
    obtain ⟨-, -, e2, e3⟩ := blk m c t k j1 0 j2
    rw [e2, e3, mul_comm]
    congr 1 <;> blk_ext
  · blk_ext [idx t]

end Cert.Hand.Dmix
end
-- ==== Proof.Step.Adam.lean ====
/- The optimiser step: the arrays the kernel leaves are the reference's. -/
module

public import proofs.«01_k».proof.Proof.Gen.Kernel6Ideal.Value
public import proofs.«01_k».proof.Proof.Gen.Reference6Ideal.Read
public import Idealize.ShloMosaic.Lib.Pipeline.ValueKit

@[expose] public section
set_option maxRecDepth 16384
set_option maxHeartbeats 2000000

noncomputable section
namespace Cert.Hand.Adam
open Idealize.ShloMosaic Idealize.ShloMosaic.Pipeline Cert.Kernel6Ideal Cert.Kernel6Ideal.Gen Cert.Reference6Ideal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- Row `i` of a grid point's block in the whole array. -/
def row (t : Fin cfg0.N) (i : Fin 176) : Fin 704 := ⟨t.val * 176 + i.val, by have : t.val < 4 := t.isLt; omega⟩

/-- A grid point's block of each operand: 176 rows of the weight turned to rows, its gradient and its two moments. -/
theorem blk (t : Fin cfg0.N) (i : Fin 176) (d : Fin 1024) :
    iblk m c 0 t (ix2 i d) = m (c, Proc.tc.devRef main_arg0) (ix3 (0 : Fin 1) d (row t i))
    ∧ iblk m c 1 t (ix2 i d) = m (c, Proc.tc.devRef main_arg1) (ix3 (0 : Fin 1) d (row t i))
    ∧ iblk m c 2 t (ix2 i d) = m (c, Proc.tc.devRef main_arg2) (ix3 (0 : Fin 1) d (row t i))
    ∧ iblk m c 3 t (ix2 i d) = m (c, Proc.tc.devRef main_arg3) (ix3 (0 : Fin 1) d (row t i))
    ∧ iblk m c 4 t (ix2 i d) = m (c, Proc.tc.devRef main_arg4) (ix3 (0 : Fin 1) d (row t i))
    ∧ iblk m c 5 t (ix2 i d) = m (c, Proc.tc.devRef main_arg5) (ix3 (0 : Fin 1) d (row t i))
    ∧ iblk m c 6 t (ix2 i d) = m (c, Proc.tc.devRef main_arg6) (ix3 (0 : Fin 1) d (row t i))
    ∧ iblk m c 7 t (ix2 i d) = m (c, Proc.tc.devRef main_arg7) (ix3 (0 : Fin 1) d (row t i))
    ∧ iblk m c 8 t (ix2 i d) = m (c, Proc.tc.devRef main_arg8) (ix3 (0 : Fin 1) (row t i) d)
    ∧ iblk m c 9 t (ix2 i d) = m (c, Proc.tc.devRef main_arg9) (ix3 (0 : Fin 1) (row t i) d)
    ∧ iblk m c 10 t (ix2 i d) = m (c, Proc.tc.devRef main_arg10) (ix3 (0 : Fin 1) (row t i) d)
    ∧ iblk m c 11 t (ix2 i d) = m (c, Proc.tc.devRef main_arg11) (ix3 (0 : Fin 1) (row t i) d) := by
  refine ⟨?_, ?_, ?_, ?_, ?_, ?_, ?_, ?_, ?_, ?_, ?_, ?_⟩ <;>
  · blk_simp [iblk]
    entry_read
    pointwise
    blk_ext [idx t, row]

theorem fin :
    (dats m 0 c).arrAt 12 grid0.N = val_main_v25 (F := Ideal) (m (c, Proc.tc.devRef main_arg0)) (m (c, Proc.tc.devRef main_arg1)) (m (c, Proc.tc.devRef main_arg2)) (m (c, Proc.tc.devRef main_arg3))
    ∧ (dats m 0 c).arrAt 13 grid0.N = val_main_v27 (F := Ideal) (m (c, Proc.tc.devRef main_arg1)) (m (c, Proc.tc.devRef main_arg2))
    ∧ (dats m 0 c).arrAt 14 grid0.N = val_main_v29 (F := Ideal) (m (c, Proc.tc.devRef main_arg1)) (m (c, Proc.tc.devRef main_arg3))
    ∧ (dats m 0 c).arrAt 15 grid0.N = val_main_v55 (F := Ideal) (m (c, Proc.tc.devRef main_arg4)) (m (c, Proc.tc.devRef main_arg5)) (m (c, Proc.tc.devRef main_arg6)) (m (c, Proc.tc.devRef main_arg7))
    ∧ (dats m 0 c).arrAt 16 grid0.N = val_main_v57 (F := Ideal) (m (c, Proc.tc.devRef main_arg5)) (m (c, Proc.tc.devRef main_arg6))
    ∧ (dats m 0 c).arrAt 17 grid0.N = val_main_v59 (F := Ideal) (m (c, Proc.tc.devRef main_arg5)) (m (c, Proc.tc.devRef main_arg7))
    ∧ (dats m 0 c).arrAt 18 grid0.N = val_main_v84 (F := Ideal) (m (c, Proc.tc.devRef main_arg8)) (m (c, Proc.tc.devRef main_arg9)) (m (c, Proc.tc.devRef main_arg10)) (m (c, Proc.tc.devRef main_arg11))
    ∧ (dats m 0 c).arrAt 19 grid0.N = val_main_v85 (F := Ideal) (m (c, Proc.tc.devRef main_arg9)) (m (c, Proc.tc.devRef main_arg10))
    ∧ (dats m 0 c).arrAt 20 grid0.N = val_main_v86 (F := Ideal) (m (c, Proc.tc.devRef main_arg9)) (m (c, Proc.tc.devRef main_arg11)) := by
  refine ⟨?_, ?_, ?_, ?_, ?_, ?_, ?_, ?_, ?_⟩ <;>
  · refine (dats m 0 c).arrAt_eq_of_covers _ _ (by decide +kernel) fun t _ j => ?_
    blk_simp
    simp only [after0_12, after0_13, after0_14, after0_15, after0_16, after0_17, after0_18, after0_19, after0_20]
    idx_vars j
    frame_out
    refine Eq.trans ?_ (congrArg _ (?_ : ix2 (row t j0) j1 = _))
    · obtain ⟨e0, e1, e2, e3, e4, e5, e6, e7, e8, e9, e10, e11⟩ := blk m c t j0 j1
      simp only [← val_main_v25_eq, ← val_main_v27_eq, ← val_main_v29_eq, ← val_main_v55_eq, ← val_main_v57_eq, ← val_main_v59_eq, ← val_main_v84_eq, ← val_main_v85_eq, ← val_main_v86_eq]
      pointwise [k0_pay1, k0_pay2, k0_pay3, k0_pay4, k0_pay5, k0_pay6, k0_pay7, k0_pay8, k0_pay9, k0_pay10, k0_pay11, k0_pay12, e0, e1, e2, e3, e4, e5, e6, e7, e8, e9, e10, e11]
    · blk_ext [idx t, row]

end Cert.Hand.Adam
end
-- ==== Proof.Step.Ada.lean ====
/- The optimiser step of the modulation's weight: the arrays the kernel leaves are the reference's. -/
module

public import proofs.«01_k».proof.Proof.Gen.Kernel7Ideal.Value
public import proofs.«01_k».proof.Proof.Gen.Reference7Ideal.Read
public import Idealize.ShloMosaic.Lib.Pipeline.ValueKit

@[expose] public section
set_option maxRecDepth 16384
set_option maxHeartbeats 2000000

noncomputable section
namespace Cert.Hand.Ada
open Idealize.ShloMosaic Idealize.ShloMosaic.Pipeline Cert.Kernel7Ideal Cert.Kernel7Ideal.Gen Cert.Reference7Ideal.Read

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- Row `i` of a grid point's block in the whole array. -/
def row (t : Fin cfg0.N) (i : Fin 512) : Fin 1024 := ⟨t.val * 512 + i.val, by have : t.val < 2 := t.isLt; omega⟩

/-- The reference reads the one shard of each of these arrays. -/
theorem shard (x : FVec Ideal Cert.Reference7Ideal.S1x1024x1536 .f32) (i : Fin 1024) (d : Fin 1536) :
    val_main_v6 (F := Ideal) x (ix2 i d) = x (ix3 (0 : Fin 1) i d)
    ∧ val_main_v7 (F := Ideal) x (ix2 i d) = x (ix3 (0 : Fin 1) i d) ∧ val_main_v8 (F := Ideal) x (ix2 i d) = x (ix3 (0 : Fin 1) i d) := by
  refine ⟨?_, ?_, ?_⟩ <;>
  · pointwise [val_main_v6_apply, val_main_v7_apply, val_main_v8_apply]
    blk_ext

/-- A grid point's block of the weight and its two moments: 512 rows. -/
theorem blk (t : Fin cfg0.N) (i : Fin 512) (d : Fin 1536) :
    iblk m c 2 t (ix2 i d) = m (c, Proc.tc.devRef main_arg2) (ix3 (0 : Fin 1) (row t i) d)
    ∧ iblk m c 3 t (ix2 i d) = m (c, Proc.tc.devRef main_arg3) (ix3 (0 : Fin 1) (row t i) d)
    ∧ iblk m c 4 t (ix2 i d) = m (c, Proc.tc.devRef main_arg4) (ix3 (0 : Fin 1) (row t i) d) := by
  have h (x) (y) (e : y = ix2 (row t i) d) : val_main_v6 (F := Ideal) x y = x (ix3 (0 : Fin 1) (row t i) d) := e ▸ (shard x _ _).1
  refine ⟨Eq.trans (b := val_main_v6 (F := Ideal) (m (c, Proc.tc.devRef main_arg2)) ?a) ?_ (h _ _ ?_),
    Eq.trans (b := val_main_v6 (F := Ideal) (m (c, Proc.tc.devRef main_arg3)) ?b) ?_ (h _ _ ?_),
    Eq.trans (b := val_main_v6 (F := Ideal) (m (c, Proc.tc.devRef main_arg4)) ?d) ?_ (h _ _ ?_)⟩
  case a => exact (win0_2.blk t).view.emb (ix2 i d)
  case b => exact (win0_3.blk t).view.emb (ix2 i d)
  case d => exact (win0_4.blk t).view.emb (ix2 i d)
  all_goals first
    | (blk_simp [iblk]; entry_read; rfl)
    | blk_ext [idx t, row]

/-- A grid point's block of the activated conditioning: 512 of its columns. -/
theorem cond (t : Fin cfg0.N) (k : Fin 8) (i : Fin 512) :
    iblk m c 0 t (ix2 k i) = val_main_v1 (F := Ideal) (m (c, Proc.tc.devRef main_arg0)) (ix2 k (row t i)) := by
  refine Eq.trans (b := val_main_v1 (F := Ideal) (m (c, Proc.tc.devRef main_arg0)) ?_) ?_ (congrArg _ (?_ : _ = ix2 k (row t i)))
  rotate_left
  · blk_simp [iblk]
    entry_read
    rfl
  · blk_ext [idx t, row]

/-- Every grid point reads the first 1536 columns of the modulation's gradient. -/
theorem dmod (t : Fin cfg0.N) (k : Fin 8) (d : Fin 1536) : iblk m c 1 t (ix2 k d)
    = m (c, Proc.tc.devRef main_arg1) (ix2 k (⟨d.val, by omega⟩ : Fin 6144)) := by
  blk_simp [iblk]
  entry_read
  pointwise
  blk_ext [idx t]

/-- The block of the gradient that a grid point computes is the reference's. -/
theorem grad (t : Fin cfg0.N) (i : Fin 512) (d : Fin 1536) : k0_pay1 (iblk m c 0 t) (iblk m c 1 t) (ix2 i d)
    = val_main_v5 (F := Ideal) (m (c, Proc.tc.devRef main_arg0)) (m (c, Proc.tc.devRef main_arg1)) (ix2 (row t i) d) := by
  pointwise [k0_pay1, val_main_v5_apply, val_main_v4_apply, val_main_v3_apply, cond m c t, dmod m c t]
  refine Finset.sum_congr rfl fun k _ => ?_
  rw [mul_comm]
  congr 1 <;> blk_ext

theorem fin :
    (dats m 0 c).arrAt 5 grid0.N = val_main_v5 (F := Ideal) (m (c, Proc.tc.devRef main_arg0)) (m (c, Proc.tc.devRef main_arg1))
    ∧ (dats m 0 c).arrAt 6 grid0.N = val_main_v32 (F := Ideal) (m (c, Proc.tc.devRef main_arg0)) (m (c, Proc.tc.devRef main_arg1)) (m (c, Proc.tc.devRef main_arg2)) (m (c, Proc.tc.devRef main_arg3)) (m (c, Proc.tc.devRef main_arg4))
    ∧ (dats m 0 c).arrAt 7 grid0.N = val_main_v13 (F := Ideal) (m (c, Proc.tc.devRef main_arg0)) (m (c, Proc.tc.devRef main_arg1)) (m (c, Proc.tc.devRef main_arg3))
    ∧ (dats m 0 c).arrAt 8 grid0.N = val_main_v19 (F := Ideal) (m (c, Proc.tc.devRef main_arg0)) (m (c, Proc.tc.devRef main_arg1)) (m (c, Proc.tc.devRef main_arg4)) := by
  refine ⟨?_, ?_, ?_, ?_⟩ <;>
  · refine (dats m 0 c).arrAt_eq_of_covers _ _ (by decide +kernel) fun t _ j => ?_
    blk_simp
    simp only [after0_5, after0_6, after0_7, after0_8]
    idx_vars j
    frame_out
    refine Eq.trans ?_ (congrArg _ (?_ : ix2 (row t j0) j1 = _))
    · obtain ⟨e2, e3, e4⟩ := blk m c t j0 j1
      have g := grad m c t j0 j1
      obtain ⟨w, _, _⟩ := shard (m (c, Proc.tc.devRef main_arg2)) (row t j0) j1
      obtain ⟨_, p, _⟩ := shard (m (c, Proc.tc.devRef main_arg3)) (row t j0) j1
      obtain ⟨_, _, q⟩ := shard (m (c, Proc.tc.devRef main_arg4)) (row t j0) j1
      pointwise [k0_pay2, k0_pay3, k0_pay4, g, e2, e3, e4, w, p, q, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply]
      try simp only [val_main_cst, val_main_cst_0, val_main_cst_1, val_main_cst_2, val_main_cst_3, val_main_cst_4, val_main_cst_5, val_main_cst_6, val_main_cst_7]
      try rfl
    · blk_ext [idx t, row]

end Cert.Hand.Ada
end
-- ==== Proof.lean ====
/- The claims of the seven pairs, put together. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import proofs.«01_k».proof.Proof.Gen.Kernel3Ideal.Frame
public import proofs.«01_k».proof.Proof.Gen.Reference2Ideal.Run
public import proofs.«01_k».proof.Proof.Gen.Reference2Ideal.Read
public import proofs.«01_k».proof.Defs
public import proofs.«01_k».proof.Proof.Mix.Final
public import proofs.«01_k».proof.Proof.Mix.KRun
public import proofs.«01_k».proof.Proof.Mix.RefRun
public import proofs.«01_k».proof.Proof.Fwd.Final
public import proofs.«01_k».proof.Proof.Fwd.KRun
public import proofs.«01_k».proof.Proof.Fwd.RefRun
public import proofs.«01_k».proof.Proof.Gen.Kernel.Frame
public import proofs.«01_k».proof.Proof.Gen.KernelIdeal.Frame
public import proofs.«01_k».proof.Proof.Ffn.Final
public import proofs.«01_k».proof.Proof.Ffn.RefRun
public import Idealize.ShloMosaic.Lib.Claim
public import proofs.«01_k».proof.Proof.Gen.Kernel2.Frame
public import proofs.«01_k».proof.Proof.Gen.Kernel2Ideal.Frame
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Step.Gate
public import proofs.«01_k».proof.Proof.Step.Dmix
public import proofs.«01_k».proof.Proof.Step.Adam
public import proofs.«01_k».proof.Proof.Step.Ada
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem eq2 {α β γ : Type} (f : α → β → γ) {a a' : α} {b b' : β} (h : a = a') (k : b = b') : f a b = f a' b' := by rw [h, k]

theorem eq3 {α β γ δ : Type} (f : α → β → γ → δ) {a a' : α} {b b' : β} {d d' : γ} (h : a = a') (k : b = b') (l : d = d') :
    f a b d = f a' b' d' := by rw [h, k, l]

theorem eq4 {α β γ : Type} (f : α → α → α → β → γ) {a a' b b' d d' : α} {e e' : β} (h : a = a') (k : b = b') (l : d = d') (n : e = e') :
    f a b d e = f a' b' d' e' := by rw [h, k, l, n]

theorem eq5 {α β γ δ : Type} (f : α → β → γ → γ → γ → δ) {a a' : α} {b b' : β} {d d' e e' i i' : γ} (h : a = a') (k : b = b') (l : d = d')
    (n : e = e') (q : i = i') : f a b d e i = f a' b' d' e' i' := by rw [h, k, l, n, q]

set_option maxHeartbeats 2000000 in
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Hand.Ffn.preFacts, Cert.Hand.Mix.preFacts, Cert.Hand.Fwd.preFacts, by
  refine ⟨fun m g _ => Cert.Kernel.Gen.frame m g, fun m g _ => Cert.KernelIdeal.Gen.frame m g,
    fun m g _ => Cert.KernelIdeal.Gen.frame m g,
    fun m g _ => (θ_run _ _ _).mono (fun r h => ⟨fun c => (h c).2.2.2.2.2.2.2, sem_eq_zero_of_no_sems rfl _⟩) (Cert.ReferenceIdeal.Value.run m g),
    fun m g _ => (θ_run _ _ _).mono (fun r h => ⟨fun c => (h c).2.2.2.2.2.2.2, sem_eq_zero_of_no_sems rfl _⟩) (Cert.ReferenceIdeal.Value.run m g),
    fun m g _ => Cert.Kernel2.Gen.frame m g, fun m g _ => Cert.Kernel2Ideal.Gen.frame m g,
    fun m g _ => Cert.Kernel2Ideal.Gen.frame m g,
    fun m g _ => (θ_run _ _ _).mono (fun r h => ⟨fun c => (h c).2.2.2.2.2.2.2.2.2, sem_eq_zero_of_no_sems rfl _⟩) (Cert.Reference2Ideal.Value.run m g),
    fun m g _ => (θ_run _ _ _).mono (fun r h => ⟨fun c => (h c).2.2.2.2.2.2.2.2.2, sem_eq_zero_of_no_sems rfl _⟩) (Cert.Reference2Ideal.Value.run m g),
    fun m g _ => Cert.Kernel3.Gen.frame m g, fun m g _ => Cert.Kernel3Ideal.Gen.frame m g,
    fun m g _ => Cert.Kernel3Ideal.Gen.frame m g,
    fun m g _ => (θ_run _ _ _).mono (fun r h => ⟨fun c => (h c).2.2.2.2.2.2.2, sem_eq_zero_of_no_sems rfl _⟩) (Cert.Reference3Ideal.Value.run m g),
    fun m g _ => (θ_run _ _ _).mono (fun r h => ⟨fun c => (h c).2.2.2.2.2.2.2, sem_eq_zero_of_no_sems rfl _⟩) (Cert.Reference3Ideal.Value.run m g),
    fun m g _ => Cert.Kernel4.Gen.frame m g, fun m g _ => Cert.Kernel4Ideal.Gen.frame m g,
    fun m g _ => (θ_run _ _ _).mono (fun r h => ⟨fun c => (h c).2, sem_eq_zero_of_no_sems rfl _⟩) (Cert.Reference4Ideal.Value.run m g),
    fun m g _ => Cert.Kernel5.Gen.frame m g, fun m g _ => Cert.Kernel5Ideal.Gen.frame m g,
    fun m g _ => (θ_run _ _ _).mono (fun r h => ⟨fun c => (h c).2.2, sem_eq_zero_of_no_sems rfl _⟩) (Cert.Reference5Ideal.Value.run m g),
    fun m g _ => Cert.Kernel6.Gen.frame m g, fun m g _ => Cert.Kernel6Ideal.Gen.frame m g,
    fun m g _ => (θ_run _ _ _).mono (fun r h => ⟨fun c => (h c).2.2.2.2.2.2.2.2.2, sem_eq_zero_of_no_sems rfl _⟩) (Cert.Reference6Ideal.Value.run m g),
    fun m g _ => Cert.Kernel7.Gen.frame m g, fun m g _ => Cert.Kernel7Ideal.Gen.frame m g,
    fun m g _ => (θ_run _ _ _).mono (fun r h => ⟨fun c => (h c).2.2.2.2, sem_eq_zero_of_no_sems rfl _⟩) (Cert.Reference7Ideal.Value.run m g),
    trivial, ?_, trivial, ?_, trivial, ?_, trivial, ?_, trivial, ?_, trivial, ?_, trivial, ?_⟩
  · pair_intro
    · run_from Cert.KernelIdeal.Gen.run_main m g
    · refine (θ_run _ _ _).mono (fun r h c => ?_) (Cert.Hand.Ffn.RefRun.values m' g')
      obtain ⟨x, y, mm, p, A⟩ := Cert.Hand.Ffn.args_of_pre m c hpre
      obtain ⟨h0, h1, h2, h3, h4, h5, h6, hf⟩ := h c
      exact ⟨h0.trans (Cert.Hand.Ffn.fin0 A (hagree c)), h1.trans (Cert.Hand.Ffn.fin1 A (hagree c)),
        h2.trans (Cert.Hand.Ffn.fin2 A (hagree c)), h3.trans (Cert.Hand.Ffn.fin3 A (hagree c)),
        h4.trans (Cert.Hand.Ffn.fin4 A (hagree c)), h5.trans (Cert.Hand.Ffn.fin5 A (hagree c)),
        h6.trans (Cert.Hand.Ffn.fin6 A (hagree c)), hf⟩
  · pair_intro
    · exact Cert.Hand.Mix.KRun.values m g
    · refine (θ_run _ _ _).mono (fun r h c => ?_) (Cert.Hand.Mix.RefRun.values m' g')
      obtain ⟨x, ct, mm, p, A⟩ := Cert.Hand.Mix.args_of_pre m c hpre
      obtain ⟨h0, h1, h2, h3, h4, h5, h6, h7, h8, hf⟩ := h c
      exact ⟨h0.trans (Cert.Hand.Mix.fin0 A (hagree c)), h1.trans (Cert.Hand.Mix.fin1 A (hagree c)),
        h2.trans (Cert.Hand.Mix.fin2 A (hagree c)), h3.trans (Cert.Hand.Mix.fin3 A (hagree c)),
        h4.trans (Cert.Hand.Mix.fin4 A (hagree c)), h5.trans (Cert.Hand.Mix.fin5 A (hagree c)),
        h6.trans (Cert.Hand.Mix.fin6 A (hagree c)), h7.trans (Cert.Hand.Mix.fin7 A (hagree c)),
        h8.trans (Cert.Hand.Mix.fin8 A (hagree c)), hf⟩
  · pair_intro
    · exact Cert.Hand.Fwd.KRun.values m g
    · refine (θ_run _ _ _).mono (fun r h c => ?_) (Cert.Hand.Fwd.RefRun.values m' g')
      obtain ⟨x, mm, p, A⟩ := Cert.Hand.Fwd.args_of_pre m c hpre
      obtain ⟨h0, h1, h2, h3, h4, h5, h6, hf⟩ := h c
      exact ⟨h0.trans (Cert.Hand.Fwd.fin0 A (hagree c)), h1.trans (Cert.Hand.Fwd.fin1 A (hagree c)),
        h2.trans (Cert.Hand.Fwd.fin2 A (hagree c)), h3.trans (Cert.Hand.Fwd.fin3 A (hagree c)),
        h4.trans (Cert.Hand.Fwd.fin4 A (hagree c)), h5.trans (Cert.Hand.Fwd.fin5 A (hagree c)),
        h6.trans (Cert.Hand.Fwd.fin6 A (hagree c)), hf⟩
  · pair_intro
    · run_from Cert.Kernel4Ideal.Value.run_blocks m g
    · refine (θ_run _ _ _).mono (fun r h c => ?_) (Cert.Reference4Ideal.Value.run m' g')
      obtain ⟨h0, hf⟩ := h c
      obtain ⟨e0, e1⟩ := hagree c
      exact ⟨h0.trans ((eq2 _ e0 e1).trans (Cert.Hand.Gate.fin m c).symm),
        hf⟩
  · pair_intro
    · run_from Cert.Kernel5Ideal.Value.run_blocks m g
    · refine (θ_run _ _ _).mono (fun r h c => ?_) (Cert.Reference5Ideal.Value.run m' g')
      obtain ⟨h0, h1, hf⟩ := h c
      obtain ⟨e0, e1, e2, e3⟩ := hagree c
      exact ⟨h0.trans ((eq2 _ e0 e1).trans (Cert.Hand.Dmix.fin0 m c).symm),
        h1.trans ((eq2 _ e2 e3).trans (Cert.Hand.Dmix.fin1 m c).symm),
        hf⟩
  · pair_intro
    · run_from Cert.Kernel6Ideal.Value.run_blocks m g
    · refine (θ_run _ _ _).mono (fun r h c => ?_) (Cert.Reference6Ideal.Value.run m' g')
      obtain ⟨h0, h1, h2, h3, h4, h5, h6, h7, h8, hf⟩ := h c
      obtain ⟨e0, e1, e2, e3, e4, e5, e6, e7, e8, e9, e10, e11⟩ := hagree c
      obtain ⟨f0, f1, f2, f3, f4, f5, f6, f7, f8⟩ := Cert.Hand.Adam.fin m c
      exact ⟨h0.trans ((eq4 _ e0 e1 e2 e3).trans (f0).symm),
        h1.trans ((eq2 _ e1 e2).trans (f1).symm),
        h2.trans ((eq2 _ e1 e3).trans (f2).symm),
        h3.trans ((eq4 _ e4 e5 e6 e7).trans (f3).symm),
        h4.trans ((eq2 _ e5 e6).trans (f4).symm),
        h5.trans ((eq2 _ e5 e7).trans (f5).symm),
        h6.trans ((eq4 _ e8 e9 e10 e11).trans (f6).symm),
        h7.trans ((eq2 _ e9 e10).trans (f7).symm),
        h8.trans ((eq2 _ e9 e11).trans (f8).symm),
        hf⟩
  · pair_intro
    · run_from Cert.Kernel7Ideal.Value.run_blocks m g
    · refine (θ_run _ _ _).mono (fun r h c => ?_) (Cert.Reference7Ideal.Value.run m' g')
      obtain ⟨h0, h1, h2, h3, hf⟩ := h c
      obtain ⟨e0, e1, e2, e3, e4⟩ := hagree c
      obtain ⟨f0, f1, f2, f3⟩ := Cert.Hand.Ada.fin m c
      exact ⟨h0.trans ((eq2 _ e0 e1).trans (f0).symm),
        h1.trans ((eq5 _ e0 e1 e2 e3 e4).trans (f1).symm),
        h2.trans ((eq3 _ e0 e1 e3).trans (f2).symm),
        h3.trans ((eq3 _ e0 e1 e4).trans (f3).symm),
        hf⟩⟩

end Cert.Proof

end
